-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)) (v5 : (c : Dev Cert.KernelIdeal.nD) → Buf (Elt Ideal) ((c.tc : Thread Cert.KernelIdeal.nD Cert.KernelIdeal.τ).loc Cert.KernelIdeal.main_v4_5)) (v6 : (c : Dev Cert.KernelIdeal.nD) → Buf (Elt Ideal) ((c.tc : Thread Cert.KernelIdeal.nD Cert.KernelIdeal.τ).loc Cert.KernelIdeal.main_v4_6)) (v7 : (c : Dev Cert.KernelIdeal.nD) → Buf (Elt Ideal) ((c.tc : Thread Cert.KernelIdeal.nD Cert.KernelIdeal.τ).loc Cert.KernelIdeal.main_v4_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_v4_5) = v5 c
          ∧ r.2.mem ((c.tc : Thread Cert.KernelIdeal.nD Cert.KernelIdeal.τ).loc Cert.KernelIdeal.main_v4_6) = v6 c
          ∧ r.2.mem ((c.tc : Thread Cert.KernelIdeal.nD Cert.KernelIdeal.τ).loc Cert.KernelIdeal.main_v4_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v275) = v0 c
          ∧ r.2.mem ((c.tc : Thread Cert.ReferenceIdeal.nD Cert.ReferenceIdeal.τ).loc Cert.ReferenceIdeal.main_v274) = v1 c
          ∧ r.2.mem ((c.tc : Thread Cert.ReferenceIdeal.nD Cert.ReferenceIdeal.τ).loc Cert.ReferenceIdeal.main_v288) = v2 c
          ∧ r.2.mem ((c.tc : Thread Cert.ReferenceIdeal.nD Cert.ReferenceIdeal.τ).loc Cert.ReferenceIdeal.main_v289) = v3 c
          ∧ r.2.mem ((c.tc : Thread Cert.ReferenceIdeal.nD Cert.ReferenceIdeal.τ).loc Cert.ReferenceIdeal.main_v290) = v4 c
          ∧ r.2.mem ((c.tc : Thread Cert.ReferenceIdeal.nD Cert.ReferenceIdeal.τ).loc Cert.ReferenceIdeal.main_v291) = v5 c
          ∧ r.2.mem ((c.tc : Thread Cert.ReferenceIdeal.nD Cert.ReferenceIdeal.τ).loc Cert.ReferenceIdeal.main_v292) = v6 c
          ∧ r.2.mem ((c.tc : Thread Cert.ReferenceIdeal.nD Cert.ReferenceIdeal.τ).loc Cert.ReferenceIdeal.main_v287) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v3_0)) (v1 : (c : Dev Cert.Kernel4Ideal.nD) → Buf (Elt Ideal) ((c.tc : Thread Cert.Kernel4Ideal.nD Cert.Kernel4Ideal.τ).loc Cert.Kernel4Ideal.main_v3_1)) (v2 : (c : Dev Cert.Kernel4Ideal.nD) → Buf (Elt Ideal) ((c.tc : Thread Cert.Kernel4Ideal.nD Cert.Kernel4Ideal.τ).loc Cert.Kernel4Ideal.main_v3_2)) (v3 : (c : Dev Cert.Kernel4Ideal.nD) → Buf (Elt Ideal) ((c.tc : Thread Cert.Kernel4Ideal.nD Cert.Kernel4Ideal.τ).loc Cert.Kernel4Ideal.main_v3_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = v0 c
          ∧ r.2.mem ((c.tc : Thread Cert.Kernel4Ideal.nD Cert.Kernel4Ideal.τ).loc Cert.Kernel4Ideal.main_v3_1) = v1 c
          ∧ r.2.mem ((c.tc : Thread Cert.Kernel4Ideal.nD Cert.Kernel4Ideal.τ).loc Cert.Kernel4Ideal.main_v3_2) = v2 c
          ∧ r.2.mem ((c.tc : Thread Cert.Kernel4Ideal.nD Cert.Kernel4Ideal.τ).loc Cert.Kernel4Ideal.main_v3_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_v29) = v1 c
          ∧ r.2.mem ((c.tc : Thread Cert.Reference4Ideal.nD Cert.Reference4Ideal.τ).loc Cert.Reference4Ideal.main_v10) = v2 c
          ∧ r.2.mem ((c.tc : Thread Cert.Reference4Ideal.nD Cert.Reference4Ideal.τ).loc Cert.Reference4Ideal.main_v16) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)) (v2 : (c : Dev Cert.Kernel5Ideal.nD) → Buf (Elt Ideal) ((c.tc : Thread Cert.Kernel5Ideal.nD Cert.Kernel5Ideal.τ).loc Cert.Kernel5Ideal.main_v3_2)) (v3 : (c : Dev Cert.Kernel5Ideal.nD) → Buf (Elt Ideal) ((c.tc : Thread Cert.Kernel5Ideal.nD Cert.Kernel5Ideal.τ).loc Cert.Kernel5Ideal.main_v3_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_v3_2) = v2 c
          ∧ r.2.mem ((c.tc : Thread Cert.Kernel5Ideal.nD Cert.Kernel5Ideal.τ).loc Cert.Kernel5Ideal.main_v3_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_v29) = v1 c
          ∧ r.2.mem ((c.tc : Thread Cert.Reference5Ideal.nD Cert.Reference5Ideal.τ).loc Cert.Reference5Ideal.main_v10) = v2 c
          ∧ r.2.mem ((c.tc : Thread Cert.Reference5Ideal.nD Cert.Reference5Ideal.τ).loc Cert.Reference5Ideal.main_v16) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v6_0)) (v1 : (c : Dev Cert.Kernel6Ideal.nD) → Buf (Elt Ideal) ((c.tc : Thread Cert.Kernel6Ideal.nD Cert.Kernel6Ideal.τ).loc Cert.Kernel6Ideal.main_v6_1)) (v2 : (c : Dev Cert.Kernel6Ideal.nD) → Buf (Elt Ideal) ((c.tc : Thread Cert.Kernel6Ideal.nD Cert.Kernel6Ideal.τ).loc Cert.Kernel6Ideal.main_v6_2)) (v3 : (c : Dev Cert.Kernel6Ideal.nD) → Buf (Elt Ideal) ((c.tc : Thread Cert.Kernel6Ideal.nD Cert.Kernel6Ideal.τ).loc Cert.Kernel6Ideal.main_v6_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v6_0) = v0 c
          ∧ r.2.mem ((c.tc : Thread Cert.Kernel6Ideal.nD Cert.Kernel6Ideal.τ).loc Cert.Kernel6Ideal.main_v6_1) = v1 c
          ∧ r.2.mem ((c.tc : Thread Cert.Kernel6Ideal.nD Cert.Kernel6Ideal.τ).loc Cert.Kernel6Ideal.main_v6_2) = v2 c
          ∧ r.2.mem ((c.tc : Thread Cert.Kernel6Ideal.nD Cert.Kernel6Ideal.τ).loc Cert.Kernel6Ideal.main_v6_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_v32) = v1 c
          ∧ r.2.mem ((c.tc : Thread Cert.Reference6Ideal.nD Cert.Reference6Ideal.τ).loc Cert.Reference6Ideal.main_v13) = v2 c
          ∧ r.2.mem ((c.tc : Thread Cert.Reference6Ideal.nD Cert.Reference6Ideal.τ).loc Cert.Reference6Ideal.main_v19) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v4_0)) (v1 : (c : Dev Cert.Kernel7Ideal.nD) → Buf (Elt Ideal) ((c.tc : Thread Cert.Kernel7Ideal.nD Cert.Kernel7Ideal.τ).loc Cert.Kernel7Ideal.main_v4_1)) (v2 : (c : Dev Cert.Kernel7Ideal.nD) → Buf (Elt Ideal) ((c.tc : Thread Cert.Kernel7Ideal.nD Cert.Kernel7Ideal.τ).loc Cert.Kernel7Ideal.main_v4_2)) (v3 : (c : Dev Cert.Kernel7Ideal.nD) → Buf (Elt Ideal) ((c.tc : Thread Cert.Kernel7Ideal.nD Cert.Kernel7Ideal.τ).loc Cert.Kernel7Ideal.main_v4_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4_0) = v0 c
          ∧ r.2.mem ((c.tc : Thread Cert.Kernel7Ideal.nD Cert.Kernel7Ideal.τ).loc Cert.Kernel7Ideal.main_v4_1) = v1 c
          ∧ r.2.mem ((c.tc : Thread Cert.Kernel7Ideal.nD Cert.Kernel7Ideal.τ).loc Cert.Kernel7Ideal.main_v4_2) = v2 c
          ∧ r.2.mem ((c.tc : Thread Cert.Kernel7Ideal.nD Cert.Kernel7Ideal.τ).loc Cert.Kernel7Ideal.main_v4_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_v31) = v1 c
          ∧ r.2.mem ((c.tc : Thread Cert.Reference7Ideal.nD Cert.Reference7Ideal.τ).loc Cert.Reference7Ideal.main_v12) = v2 c
          ∧ r.2.mem ((c.tc : Thread Cert.Reference7Ideal.nD Cert.Reference7Ideal.τ).loc Cert.Reference7Ideal.main_v18) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)) (v4 : (c : Dev Cert.Kernel8Ideal.nD) → Buf (Elt Ideal) ((c.tc : Thread Cert.Kernel8Ideal.nD Cert.Kernel8Ideal.τ).loc Cert.Kernel8Ideal.main_v0_4)) (v5 : (c : Dev Cert.Kernel8Ideal.nD) → Buf (Elt Ideal) ((c.tc : Thread Cert.Kernel8Ideal.nD Cert.Kernel8Ideal.τ).loc Cert.Kernel8Ideal.main_v0_5)) (v6 : (c : Dev Cert.Kernel8Ideal.nD) → Buf (Elt Ideal) ((c.tc : Thread Cert.Kernel8Ideal.nD Cert.Kernel8Ideal.τ).loc Cert.Kernel8Ideal.main_v0_6)) (v7 : (c : Dev Cert.Kernel8Ideal.nD) → Buf (Elt Ideal) ((c.tc : Thread Cert.Kernel8Ideal.nD Cert.Kernel8Ideal.τ).loc Cert.Kernel8Ideal.main_v0_7)) (v8 : (c : Dev Cert.Kernel8Ideal.nD) → Buf (Elt Ideal) ((c.tc : Thread Cert.Kernel8Ideal.nD Cert.Kernel8Ideal.τ).loc Cert.Kernel8Ideal.main_v0_8)) (v9 : (c : Dev Cert.Kernel8Ideal.nD) → Buf (Elt Ideal) ((c.tc : Thread Cert.Kernel8Ideal.nD Cert.Kernel8Ideal.τ).loc Cert.Kernel8Ideal.main_v0_9)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_v0_4) = v4 c
          ∧ r.2.mem ((c.tc : Thread Cert.Kernel8Ideal.nD Cert.Kernel8Ideal.τ).loc Cert.Kernel8Ideal.main_v0_5) = v5 c
          ∧ r.2.mem ((c.tc : Thread Cert.Kernel8Ideal.nD Cert.Kernel8Ideal.τ).loc Cert.Kernel8Ideal.main_v0_6) = v6 c
          ∧ r.2.mem ((c.tc : Thread Cert.Kernel8Ideal.nD Cert.Kernel8Ideal.τ).loc Cert.Kernel8Ideal.main_v0_7) = v7 c
          ∧ r.2.mem ((c.tc : Thread Cert.Kernel8Ideal.nD Cert.Kernel8Ideal.τ).loc Cert.Kernel8Ideal.main_v0_8) = v8 c
          ∧ r.2.mem ((c.tc : Thread Cert.Kernel8Ideal.nD Cert.Kernel8Ideal.τ).loc Cert.Kernel8Ideal.main_v0_9) = v9 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_v6) = v1 c
          ∧ r.2.mem ((c.tc : Thread Cert.Reference8Ideal.nD Cert.Reference8Ideal.τ).loc Cert.Reference8Ideal.main_v8) = v2 c
          ∧ r.2.mem ((c.tc : Thread Cert.Reference8Ideal.nD Cert.Reference8Ideal.τ).loc Cert.Reference8Ideal.main_v10) = v3 c
          ∧ r.2.mem ((c.tc : Thread Cert.Reference8Ideal.nD Cert.Reference8Ideal.τ).loc Cert.Reference8Ideal.main_v12) = v4 c
          ∧ r.2.mem ((c.tc : Thread Cert.Reference8Ideal.nD Cert.Reference8Ideal.τ).loc Cert.Reference8Ideal.main_v14) = v5 c
          ∧ r.2.mem ((c.tc : Thread Cert.Reference8Ideal.nD Cert.Reference8Ideal.τ).loc Cert.Reference8Ideal.main_v16) = v6 c
          ∧ r.2.mem ((c.tc : Thread Cert.Reference8Ideal.nD Cert.Reference8Ideal.τ).loc Cert.Reference8Ideal.main_v18) = v7 c
          ∧ r.2.mem ((c.tc : Thread Cert.Reference8Ideal.nD Cert.Reference8Ideal.τ).loc Cert.Reference8Ideal.main_v20) = v8 c
          ∧ r.2.mem ((c.tc : Thread Cert.Reference8Ideal.nD Cert.Reference8Ideal.τ).loc Cert.Reference8Ideal.main_v26) = v9 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v5)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v5) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite.lean ====
abbrev S1x8192x1024 : Shape := ⟨3, ![1, 8192, 1024]⟩
abbrev S8192x1024 : Shape := ⟨2, ![8192, 1024]⟩
abbrev S1x6144 : Shape := ⟨2, ![1, 6144]⟩
abbrev S1x1024 : Shape := ⟨2, ![1, 1024]⟩
abbrev S4x256x1024 : Shape := ⟨3, ![4, 256, 1024]⟩
abbrev S4x1024x1024 : Shape := ⟨3, ![4, 1024, 1024]⟩
abbrev S_ : Shape := ⟨0, ![]⟩

class Facts : Prop where
  bcast_S_S1x8192x1024 : S_.BroadcastsInDim S1x8192x1024 (![] : Fin 0 → Fin S1x8192x1024.rank)
  reducesTo_S1x8192x1024_S_d0_1_2 : S1x8192x1024.ReducesTo [0, 1, 2] S_
  h_S_ : 0 < S_.numel
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  bcast_S_S1x6144 : S_.BroadcastsInDim S1x6144 (![] : Fin 0 → Fin S1x6144.rank)
  reducesTo_S1x6144_S_d0_1 : S1x6144.ReducesTo [0, 1] S_
  bcast_S_S1x1024 : S_.BroadcastsInDim S1x1024 (![] : Fin 0 → Fin S1x1024.rank)
  reducesTo_S1x1024_S_d0_1 : S1x1024.ReducesTo [0, 1] S_
  bcast_S_S4x256x1024 : S_.BroadcastsInDim S4x256x1024 (![] : Fin 0 → Fin S4x256x1024.rank)
  reducesTo_S4x256x1024_S_d0_1_2 : S4x256x1024.ReducesTo [0, 1, 2] S_
  bcast_S_S4x1024x1024 : S_.BroadcastsInDim S4x1024x1024 (![] : Fin 0 → Fin S4x1024x1024.rank)
  reducesTo_S4x1024x1024_S_d0_1_2 : S4x1024x1024.ReducesTo [0, 1, 2] S_

variable [Facts]

def fn_part3 {F : FTy → Type} [FloatOps F] (main_arg10 : FVec F S4x1024x1024 .bf16) (main_v51 : IVec S_ 1) : IVec S_ 1 :=
  let main_v52 : FVec F S4x1024x1024 .f32 := (extf .f32 · bitsLt_bf16_f32) main_arg10
  let main_v53 : FVec F S4x1024x1024 .f32 := Host.absf main_v52
  let main_cst_18 : FVec F S_ .f32 := constant S_ .f32 0x7F800000#32
  let main_v54 : FVec F S4x1024x1024 .f32 := broadcastInDim S4x1024x1024 ![] bcast_S_S4x1024x1024 main_cst_18
  let main_v55 : IVec S4x1024x1024 1 := cmpf .olt main_v53 main_v54
  let main_c_19 : IVec S_ 1 := constantI S_ 1 1#1
  let main_v56 : IVec S_ 1 := (fun x v => Host.reduce IntOp.andi x v reducesTo_S4x1024x1024_S_d0_1_2 h_S_) main_v55 main_c_19
  let main_v57 : IVec S_ 1 := andi main_v51 main_v56
  main_v57

def fn_part2 {F : FTy → Type} [FloatOps F] (main_arg7 : FVec F S1x1024 .f32) (main_arg8 : FVec F S4x256x1024 .bf16) (main_arg9 : FVec F S4x1024x1024 .bf16) (main_arg10 : FVec F S4x1024x1024 .bf16) (main_v29 : IVec S_ 1) (main_v33 : IVec S_ 1) : IVec S_ 1 :=
  let main_v34 : IVec S_ 1 := andi main_v29 main_v33
  let main_v35 : FVec F S1x1024 .f32 := Host.absf main_arg7
  let main_cst_12 : FVec F S_ .f32 := constant S_ .f32 0x7F800000#32
  let main_v36 : FVec F S1x1024 .f32 := broadcastInDim S1x1024 ![] bcast_S_S1x1024 main_cst_12
  let main_v37 : IVec S1x1024 1 := cmpf .olt main_v35 main_v36
  let main_c_13 : IVec S_ 1 := constantI S_ 1 1#1
  let main_v38 : IVec S_ 1 := (fun x v => Host.reduce IntOp.andi x v reducesTo_S1x1024_S_d0_1 h_S_) main_v37 main_c_13
  let main_v39 : IVec S_ 1 := andi main_v34 main_v38
  let main_v40 : FVec F S4x256x1024 .f32 := (extf .f32 · bitsLt_bf16_f32) main_arg8
  let main_v41 : FVec F S4x256x1024 .f32 := Host.absf main_v40
  let main_cst_14 : FVec F S_ .f32 := constant S_ .f32 0x7F800000#32
  let main_v42 : FVec F S4x256x1024 .f32 := broadcastInDim S4x256x1024 ![] bcast_S_S4x256x1024 main_cst_14
  let main_v43 : IVec S4x256x1024 1 := cmpf .olt main_v41 main_v42
  let main_c_15 : IVec S_ 1 := constantI S_ 1 1#1
  let main_v44 : IVec S_ 1 := (fun x v => Host.reduce IntOp.andi x v reducesTo_S4x256x1024_S_d0_1_2 h_S_) main_v43 main_c_15
  let main_v45 : IVec S_ 1 := andi main_v39 main_v44
  let main_v46 : FVec F S4x1024x1024 .f32 := (extf .f32 · bitsLt_bf16_f32) main_arg9
  let main_v47 : FVec F S4x1024x1024 .f32 := Host.absf main_v46
  let main_cst_16 : FVec F S_ .f32 := constant S_ .f32 0x7F800000#32
  let main_v48 : FVec F S4x1024x1024 .f32 := broadcastInDim S4x1024x1024 ![] bcast_S_S4x1024x1024 main_cst_16
  let main_v49 : IVec S4x1024x1024 1 := cmpf .olt main_v47 main_v48
  let main_c_17 : IVec S_ 1 := constantI S_ 1 1#1
  let main_v50 : IVec S_ 1 := (fun x v => Host.reduce IntOp.andi x v reducesTo_S4x1024x1024_S_d0_1_2 h_S_) main_v49 main_c_17
  let main_v51 : IVec S_ 1 := andi main_v45 main_v50
  fn_part3 (F := F) main_arg10 main_v51

def fn_part1 {F : FTy → Type} [FloatOps F] (main_arg4 : FVec F S1x1024 .f32) (main_arg5 : FVec F S1x1024 .f32) (main_arg6 : FVec F S1x1024 .f32) (main_arg7 : FVec F S1x1024 .f32) (main_arg8 : FVec F S4x256x1024 .bf16) (main_arg9 : FVec F S4x1024x1024 .bf16) (main_arg10 : FVec F S4x1024x1024 .bf16) (main_v14 : IVec S_ 1) (main_v15 : FVec F S1x6144 .f32) (main_v16 : FVec F S1x6144 .f32) : IVec S_ 1 :=
  let main_v17 : IVec S1x6144 1 := cmpf .olt main_v15 main_v16
  let main_c_5 : IVec S_ 1 := constantI S_ 1 1#1
  let main_v18 : IVec S_ 1 := (fun x v => Host.reduce IntOp.andi x v reducesTo_S1x6144_S_d0_1 h_S_) main_v17 main_c_5
  let main_v19 : IVec S_ 1 := andi main_v14 main_v18
  let main_v20 : FVec F S1x1024 .f32 := Host.absf main_arg4
  let main_cst_6 : FVec F S_ .f32 := constant S_ .f32 0x7F800000#32
  let main_v21 : FVec F S1x1024 .f32 := broadcastInDim S1x1024 ![] bcast_S_S1x1024 main_cst_6
  let main_v22 : IVec S1x1024 1 := cmpf .olt main_v20 main_v21
  let main_c_7 : IVec S_ 1 := constantI S_ 1 1#1
  let main_v23 : IVec S_ 1 := (fun x v => Host.reduce IntOp.andi x v reducesTo_S1x1024_S_d0_1 h_S_) main_v22 main_c_7
  let main_v24 : IVec S_ 1 := andi main_v19 main_v23
  let main_v25 : FVec F S1x1024 .f32 := Host.absf main_arg5
  let main_cst_8 : FVec F S_ .f32 := constant S_ .f32 0x7F800000#32
  let main_v26 : FVec F S1x1024 .f32 := broadcastInDim S1x1024 ![] bcast_S_S1x1024 main_cst_8
  let main_v27 : IVec S1x1024 1 := cmpf .olt main_v25 main_v26
  let main_c_9 : IVec S_ 1 := constantI S_ 1 1#1
  let main_v28 : IVec S_ 1 := (fun x v => Host.reduce IntOp.andi x v reducesTo_S1x1024_S_d0_1 h_S_) main_v27 main_c_9
  let main_v29 : IVec S_ 1 := andi main_v24 main_v28
  let main_v30 : FVec F S1x1024 .f32 := Host.absf main_arg6
  let main_cst_10 : FVec F S_ .f32 := constant S_ .f32 0x7F800000#32
  let main_v31 : FVec F S1x1024 .f32 := broadcastInDim S1x1024 ![] bcast_S_S1x1024 main_cst_10
  let main_v32 : IVec S1x1024 1 := cmpf .olt main_v30 main_v31
  let main_c_11 : IVec S_ 1 := constantI S_ 1 1#1
  let main_v33 : IVec S_ 1 := (fun x v => Host.reduce IntOp.andi x v reducesTo_S1x1024_S_d0_1 h_S_) main_v32 main_c_11
  fn_part2 (F := F) main_arg7 main_arg8 main_arg9 main_arg10 main_v29 main_v33

def fn {F : FTy → Type} [FloatOps F] (main_arg0 : FVec F S1x8192x1024 .f32) (main_arg1 : FVec F S8192x1024 .bf16) (main_arg2 : FVec F S1x8192x1024 .f32) (main_arg3 : FVec F S1x6144 .f32) (main_arg4 : FVec F S1x1024 .f32) (main_arg5 : FVec F S1x1024 .f32) (main_arg6 : FVec F S1x1024 .f32) (main_arg7 : FVec F S1x1024 .f32) (main_arg8 : FVec F S4x256x1024 .bf16) (main_arg9 : FVec F S4x1024x1024 .bf16) (main_arg10 : FVec F S4x1024x1024 .bf16) : IVec S_ 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_c : IVec S_ 1 := constantI S_ 1 1#1
  let main_v3 : IVec S_ 1 := (fun x v => Host.reduce IntOp.andi x v reducesTo_S1x8192x1024_S_d0_1_2 h_S_) main_v2 main_c
  let main_v4 : FVec F S8192x1024 .f32 := (extf .f32 · bitsLt_bf16_f32) main_arg1
  let main_v5 : FVec F S8192x1024 .f32 := Host.absf main_v4
  let main_cst_0 : FVec F S_ .f32 := constant S_ .f32 0x7F800000#32
  let main_v6 : FVec F S8192x1024 .f32 := broadcastInDim S8192x1024 ![] bcast_S_S8192x1024 main_cst_0
  let main_v7 : IVec S8192x1024 1 := cmpf .olt main_v5 main_v6
  let main_c_1 : IVec S_ 1 := constantI S_ 1 1#1
  let main_v8 : IVec S_ 1 := (fun x v => Host.reduce IntOp.andi x v reducesTo_S8192x1024_S_d0_1 h_S_) main_v7 main_c_1
  let main_v9 : IVec S_ 1 := andi main_v3 main_v8
  let main_v10 : FVec F S1x8192x1024 .f32 := Host.absf main_arg2
  let main_cst_2 : FVec F S_ .f32 := constant S_ .f32 0x7F800000#32
  let main_v11 : FVec F S1x8192x1024 .f32 := broadcastInDim S1x8192x1024 ![] bcast_S_S1x8192x1024 main_cst_2
  let main_v12 : IVec S1x8192x1024 1 := cmpf .olt main_v10 main_v11
  let main_c_3 : IVec S_ 1 := constantI S_ 1 1#1
  let main_v13 : IVec S_ 1 := (fun x v => Host.reduce IntOp.andi x v reducesTo_S1x8192x1024_S_d0_1_2 h_S_) main_v12 main_c_3
  let main_v14 : IVec S_ 1 := andi main_v9 main_v13
  let main_v15 : FVec F S1x6144 .f32 := Host.absf main_arg3
  let main_cst_4 : FVec F S_ .f32 := constant S_ .f32 0x7F800000#32
  let main_v16 : FVec F S1x6144 .f32 := broadcastInDim S1x6144 ![] bcast_S_S1x6144 main_cst_4
  fn_part1 (F := F) main_arg4 main_arg5 main_arg6 main_arg7 main_arg8 main_arg9 main_arg10 main_v14 main_v15 main_v16
-- ==== Kernel.lean ====
abbrev S1x8192x1024 : Shape := ⟨3, ![1, 8192, 1024]⟩
abbrev S8192x1024 : Shape := ⟨2, ![8192, 1024]⟩
abbrev S1x6144 : Shape := ⟨2, ![1, 6144]⟩
abbrev S1x1024 : Shape := ⟨2, ![1, 1024]⟩
abbrev S4x256x1024 : Shape := ⟨3, ![4, 256, 1024]⟩
abbrev S4x1024x1024 : Shape := ⟨3, ![4, 1024, 1024]⟩
abbrev S1024x1024 : Shape := ⟨2, ![1024, 1024]⟩
abbrev S4x1024 : Shape := ⟨2, ![4, 1024]⟩
abbrev S8192x4096 : Shape := ⟨2, ![8192, 4096]⟩
abbrev S16x1024 : Shape := ⟨2, ![16, 1024]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩
abbrev S1x1024x1024 : Shape := ⟨3, ![1, 1024, 1024]⟩
abbrev S1024 : Shape := ⟨1, ![1024]⟩

abbrev nBuf : Space → Nat
  | .hbm => 23
  | .vmem => 27
  | .smem => 0
  | _ => 0

abbrev bufTy : (tb : Table) → Fin (tcTables nBuf tb) → BufTy
  | .hbm, ⟨0, _⟩ => ⟨S1x8192x1024, .f32⟩
  | .hbm, ⟨1, _⟩ => ⟨S8192x1024, .bf16⟩
  | .hbm, ⟨2, _⟩ => ⟨S1x8192x1024, .f32⟩
  | .hbm, ⟨3, _⟩ => ⟨S1x6144, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S4x256x1024, .bf16⟩
  | .hbm, ⟨9, _⟩ => ⟨S4x1024x1024, .bf16⟩
  | .hbm, ⟨10, _⟩ => ⟨S4x1024x1024, .bf16⟩
  | .hbm, ⟨11, _⟩ => ⟨S8192x1024, .f32⟩
  | .hbm, ⟨12, _⟩ => ⟨S8192x1024, .f32⟩
  | .hbm, ⟨13, _⟩ => ⟨S1024x1024, .bf16⟩
  | .hbm, ⟨14, _⟩ => ⟨S4x1024, .f32⟩
  | .hbm, ⟨15, _⟩ => ⟨S8192x1024, .f32⟩
  | .hbm, ⟨16, _⟩ => ⟨S8192x1024, .f32⟩
  | .hbm, ⟨17, _⟩ => ⟨S8192x4096, .bf16⟩
  | .hbm, ⟨18, _⟩ => ⟨S8192x4096, .bf16⟩
  | .hbm, ⟨19, _⟩ => ⟨S8192x1024, .bf16⟩
  | .hbm, ⟨20, _⟩ => ⟨S8192x1024, .bf16⟩
  | .hbm, ⟨21, _⟩ => ⟨S8192x1024, .bf16⟩
  | .hbm, ⟨22, _⟩ => ⟨S16x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S1x6144, .f32⟩
  | .local _ .vmem, ⟨7, _⟩ => ⟨S4x1024, .f32⟩
  | .local _ .vmem, ⟨8, _⟩ => ⟨S1024x1024, .bf16⟩
  | .local _ .vmem, ⟨9, _⟩ => ⟨S4x1024x1024, .bf16⟩
  | .local _ .vmem, ⟨10, _⟩ => ⟨S4x1024x1024, .bf16⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x4096, .bf16⟩
  | .local _ .vmem, ⟨16, _⟩ => ⟨S256x4096, .bf16⟩
  | .local _ .vmem, ⟨17, _⟩ => ⟨S256x4096, .bf16⟩
  | .local _ .vmem, ⟨18, _⟩ => ⟨S256x4096, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S16x1024, .f32⟩
  | .local _ .vmem, ⟨26, _⟩ => ⟨S256x4096, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev main_v4_2 : Ref sig .tc := ⟨.hbm, 17, rfl⟩
abbrev main_v4_3 : Ref sig .tc := ⟨.hbm, 18, rfl⟩
abbrev main_v4_4 : Ref sig .tc := ⟨.hbm, 19, rfl⟩
abbrev main_v4_5 : Ref sig .tc := ⟨.hbm, 20, rfl⟩
abbrev main_v4_6 : Ref sig .tc := ⟨.hbm, 21, rfl⟩
abbrev main_v4_7 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S16x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== ReferenceIdeal.lean ====
abbrev S1x8192x1024 : Shape := ⟨3, ![1, 8192, 1024]⟩
abbrev S8192x1024 : Shape := ⟨2, ![8192, 1024]⟩
abbrev S1x6144 : Shape := ⟨2, ![1, 6144]⟩
abbrev S1x1024 : Shape := ⟨2, ![1, 1024]⟩
abbrev S4x256x1024 : Shape := ⟨3, ![4, 256, 1024]⟩
abbrev S4x1024x1024 : Shape := ⟨3, ![4, 1024, 1024]⟩
abbrev S6144 : Shape := ⟨1, ![6144]⟩
abbrev S1024 : Shape := ⟨1, ![1024]⟩
abbrev S1024x1024 : Shape := ⟨2, ![1024, 1024]⟩
abbrev S1024x4x1024 : Shape := ⟨3, ![1024, 4, 1024]⟩
abbrev S1024x4096 : Shape := ⟨2, ![1024, 4096]⟩
abbrev S4096x1024 : Shape := ⟨2, ![4096, 1024]⟩
abbrev S_ : Shape := ⟨0, ![]⟩
abbrev S8192x4096 : Shape := ⟨2, ![8192, 4096]⟩
abbrev S8192 : Shape := ⟨1, ![8192]⟩
abbrev S8192x1 : Shape := ⟨2, ![8192, 1]⟩
abbrev S9x1024 : Shape := ⟨2, ![9, 1024]⟩
abbrev S7x1024 : Shape := ⟨2, ![7, 1024]⟩
abbrev S16x1024 : Shape := ⟨2, ![16, 1024]⟩

abbrev nBuf : Space → Nat
  | .hbm => 386
  | .vmem => 0
  | .smem => 0
  | _ => 0

abbrev hbmTy0_0 (i : Nat) : BufTy := match i % 128 with
  | 0 => ⟨S1x8192x1024, .f32⟩
  | 1 => ⟨S8192x1024, .bf16⟩
  | 2 => ⟨S1x8192x1024, .f32⟩
  | 3 => ⟨S1x6144, .f32⟩
  | 4 => ⟨S1x1024, .f32⟩
  | 5 => ⟨S1x1024, .f32⟩
  | 6 => ⟨S1x1024, .f32⟩
  | 7 => ⟨S1x1024, .f32⟩
  | 8 => ⟨S4x256x1024, .bf16⟩
  | 9 => ⟨S4x1024x1024, .bf16⟩
  | 10 => ⟨S4x1024x1024, .bf16⟩
  | 11 => ⟨S6144, .f32⟩
  | 12 => ⟨S1024, .f32⟩
  | 13 => ⟨S1024, .f32⟩
  | 14 => ⟨S1024, .f32⟩
  | 15 => ⟨S1024, .f32⟩
  | 16 => ⟨S1024, .f32⟩
  | 17 => ⟨S1024, .f32⟩
  | 18 => ⟨S4x256x1024, .f32⟩
  | 19 => ⟨S1024x1024, .f32⟩
  | 20 => ⟨S4x1024x1024, .f32⟩
  | 21 => ⟨S1024x4x1024, .f32⟩
  | 22 => ⟨S1024x4096, .f32⟩
  | 23 => ⟨S4x1024x1024, .f32⟩
  | 24 => ⟨S4096x1024, .f32⟩
  | 25 => ⟨S8192x1024, .f32⟩
  | 26 => ⟨S8192x1024, .f32⟩
  | 27 => ⟨S1024, .f32⟩
  | 28 => ⟨S1024, .f32⟩
  | 29 => ⟨S1024, .f32⟩
  | 30 => ⟨S1024, .f32⟩
  | 31 => ⟨S_, .f32⟩
  | 32 => ⟨S8192x1024, .f32⟩
  | 33 => ⟨S_, .f32⟩
  | 34 => ⟨S8192x4096, .f32⟩
  | 35 => ⟨S_, .f32⟩
  | 36 => ⟨S8192x1024, .f32⟩
  | 37 => ⟨S8192x1024, .f32⟩
  | 38 => ⟨S8192x1024, .f32⟩
  | 39 => ⟨S8192x1024, .f32⟩
  | 40 => ⟨S_, .f32⟩
  | 41 => ⟨S8192x1024, .f32⟩
  | 42 => ⟨S8192x1024, .f32⟩
  | 43 => ⟨S1x1024, .f32⟩
  | 44 => ⟨S8192x1024, .f32⟩
  | 45 => ⟨S8192x1024, .f32⟩
  | 46 => ⟨S8192x1024, .f32⟩
  | 47 => ⟨S_, .f32⟩
  | 48 => ⟨S8192, .f32⟩
  | 49 => ⟨S8192x1, .f32⟩
  | 50 => ⟨S_, .f32⟩
  | 51 => ⟨S8192x1, .f32⟩
  | 52 => ⟨S8192x1, .f32⟩
  | 53 => ⟨S8192x1024, .f32⟩
  | 54 => ⟨S8192x1024, .f32⟩
  | 55 => ⟨S8192x1024, .f32⟩
  | 56 => ⟨S_, .f32⟩
  | 57 => ⟨S8192x1024, .f32⟩
  | 58 => ⟨S8192x1024, .f32⟩
  | 59 => ⟨S_, .f32⟩
  | 60 => ⟨S8192, .f32⟩
  | 61 => ⟨S8192x1, .f32⟩
  | 62 => ⟨S_, .f32⟩
  | 63 => ⟨S8192x1, .f32⟩
  | 64 => ⟨S8192x1, .f32⟩
  | 65 => ⟨S8192x1024, .f32⟩
  | 66 => ⟨S8192x1024, .f32⟩
  | 67 => ⟨S_, .f32⟩
  | 68 => ⟨S8192x1, .f32⟩
  | 69 => ⟨S8192x1, .f32⟩
  | 70 => ⟨S8192x1, .f32⟩
  | 71 => ⟨S8192x1, .f32⟩
  | 72 => ⟨S_, .f32⟩
  | 73 => ⟨S8192x1, .f32⟩
  | 74 => ⟨S8192x1, .f32⟩
  | 75 => ⟨S8192x1024, .f32⟩
  | 76 => ⟨S8192x1024, .f32⟩
  | 77 => ⟨S1x1024, .f32⟩
  | 78 => ⟨S8192x1024, .f32⟩
  | 79 => ⟨S8192x1024, .f32⟩
  | 80 => ⟨S1x1024, .f32⟩
  | 81 => ⟨S8192x1024, .f32⟩
  | 82 => ⟨S8192x1024, .f32⟩
  | 83 => ⟨S_, .f32⟩
  | 84 => ⟨S8192, .f32⟩
  | 85 => ⟨S8192x1, .f32⟩
  | 86 => ⟨S_, .f32⟩
  | 87 => ⟨S8192x1, .f32⟩
  | 88 => ⟨S8192x1, .f32⟩
  | 89 => ⟨S8192x1024, .f32⟩
  | 90 => ⟨S8192x1024, .f32⟩
  | 91 => ⟨S8192x1024, .f32⟩
  | 92 => ⟨S_, .f32⟩
  | 93 => ⟨S8192x1024, .f32⟩
  | 94 => ⟨S8192x1024, .f32⟩
  | 95 => ⟨S_, .f32⟩
  | 96 => ⟨S8192, .f32⟩
  | 97 => ⟨S8192x1, .f32⟩
  | 98 => ⟨S_, .f32⟩
  | 99 => ⟨S8192x1, .f32⟩
  | 100 => ⟨S8192x1, .f32⟩
  | 101 => ⟨S8192x1024, .f32⟩
  | 102 => ⟨S8192x1024, .f32⟩
  | 103 => ⟨S_, .f32⟩
  | 104 => ⟨S8192x1, .f32⟩
  | 105 => ⟨S8192x1, .f32⟩
  | 106 => ⟨S8192x1, .f32⟩
  | 107 => ⟨S8192x1, .f32⟩
  | 108 => ⟨S_, .f32⟩
  | 109 => ⟨S8192x1, .f32⟩
  | 110 => ⟨S8192x1, .f32⟩
  | 111 => ⟨S8192x1024, .f32⟩
  | 112 => ⟨S8192x1024, .f32⟩
  | 113 => ⟨S1x1024, .f32⟩
  | 114 => ⟨S_, .f32⟩
  | 115 => ⟨S1x1024, .f32⟩
  | 116 => ⟨S1x1024, .f32⟩
  | 117 => ⟨S8192x1024, .f32⟩
  | 118 => ⟨S8192x1024, .f32⟩
  | 119 => ⟨S1x1024, .f32⟩
  | 120 => ⟨S8192x1024, .f32⟩
  | 121 => ⟨S8192x1024, .f32⟩
  | 122 => ⟨S8192x4096, .f32⟩
  | 123 => ⟨S8192x4096, .f32⟩
  | 124 => ⟨S_, .f32⟩
  | 125 => ⟨S8192x4096, .f32⟩
  | 126 => ⟨S8192x4096, .f32⟩
  | 127 => ⟨S_, .f32⟩
  | _ => ⟨S1x8192x1024, .f32⟩

abbrev hbmTy0_1 (i : Nat) : BufTy := match i % 128 with
  | 0 => ⟨S8192x4096, .f32⟩
  | 1 => ⟨S8192x4096, .i1⟩
  | 2 => ⟨S_, .f32⟩
  | 3 => ⟨S8192x4096, .f32⟩
  | 4 => ⟨S8192x4096, .f32⟩
  | 5 => ⟨S_, .f32⟩
  | 6 => ⟨S8192x4096, .f32⟩
  | 7 => ⟨S8192x4096, .f32⟩
  | 8 => ⟨S8192x1024, .f32⟩
  | 9 => ⟨S8192x1024, .f32⟩
  | 10 => ⟨S_, .f32⟩
  | 11 => ⟨S8192x1024, .f32⟩
  | 12 => ⟨S8192x1024, .f32⟩
  | 13 => ⟨S1x1024, .f32⟩
  | 14 => ⟨S8192x1024, .f32⟩
  | 15 => ⟨S8192x1024, .f32⟩
  | 16 => ⟨S8192x1024, .f32⟩
  | 17 => ⟨S_, .f32⟩
  | 18 => ⟨S8192, .f32⟩
  | 19 => ⟨S8192x1, .f32⟩
  | 20 => ⟨S_, .f32⟩
  | 21 => ⟨S8192x1, .f32⟩
  | 22 => ⟨S8192x1, .f32⟩
  | 23 => ⟨S8192x1024, .f32⟩
  | 24 => ⟨S8192x1024, .f32⟩
  | 25 => ⟨S8192x1024, .f32⟩
  | 26 => ⟨S_, .f32⟩
  | 27 => ⟨S8192x1024, .f32⟩
  | 28 => ⟨S8192x1024, .f32⟩
  | 29 => ⟨S_, .f32⟩
  | 30 => ⟨S8192, .f32⟩
  | 31 => ⟨S8192x1, .f32⟩
  | 32 => ⟨S_, .f32⟩
  | 33 => ⟨S8192x1, .f32⟩
  | 34 => ⟨S8192x1, .f32⟩
  | 35 => ⟨S8192x1024, .f32⟩
  | 36 => ⟨S8192x1024, .f32⟩
  | 37 => ⟨S_, .f32⟩
  | 38 => ⟨S8192x1, .f32⟩
  | 39 => ⟨S8192x1, .f32⟩
  | 40 => ⟨S8192x1, .f32⟩
  | 41 => ⟨S8192x1, .f32⟩
  | 42 => ⟨S_, .f32⟩
  | 43 => ⟨S8192x1, .f32⟩
  | 44 => ⟨S8192x1, .f32⟩
  | 45 => ⟨S8192x1024, .f32⟩
  | 46 => ⟨S8192x1024, .f32⟩
  | 47 => ⟨S1x1024, .f32⟩
  | 48 => ⟨S8192x1024, .f32⟩
  | 49 => ⟨S8192x1024, .f32⟩
  | 50 => ⟨S1x1024, .f32⟩
  | 51 => ⟨S8192x1024, .f32⟩
  | 52 => ⟨S8192x1024, .f32⟩
  | 53 => ⟨S8192x1024, .f32⟩
  | 54 => ⟨S8192x1024, .f32⟩
  | 55 => ⟨S_, .f32⟩
  | 56 => ⟨S8192x1024, .f32⟩
  | 57 => ⟨S8192x1024, .f32⟩
  | 58 => ⟨S_, .f32⟩
  | 59 => ⟨S8192, .f32⟩
  | 60 => ⟨S_, .f32⟩
  | 61 => ⟨S8192, .f32⟩
  | 62 => ⟨S8192, .f32⟩
  | 63 => ⟨S_, .f32⟩
  | 64 => ⟨S_, .f32⟩
  | 65 => ⟨S_, .f32⟩
  | 66 => ⟨S_, .f32⟩
  | 67 => ⟨S_, .f32⟩
  | 68 => ⟨S1024, .f32⟩
  | 69 => ⟨S_, .f32⟩
  | 70 => ⟨S_, .f32⟩
  | 71 => ⟨S_, .f32⟩
  | 72 => ⟨S8192, .f32⟩
  | 73 => ⟨S_, .f32⟩
  | 74 => ⟨S8192, .f32⟩
  | 75 => ⟨S8192, .f32⟩
  | 76 => ⟨S8192x1024, .f32⟩
  | 77 => ⟨S8192x1024, .f32⟩
  | 78 => ⟨S_, .f32⟩
  | 79 => ⟨S1024, .f32⟩
  | 80 => ⟨S1x1024, .f32⟩
  | 81 => ⟨S_, .f32⟩
  | 82 => ⟨S1024, .f32⟩
  | 83 => ⟨S8192x1024, .f32⟩
  | 84 => ⟨S_, .f32⟩
  | 85 => ⟨S1024, .f32⟩
  | 86 => ⟨S1x1024, .f32⟩
  | 87 => ⟨S8192x1024, .f32⟩
  | 88 => ⟨S8192x1024, .f32⟩
  | 89 => ⟨S_, .f32⟩
  | 90 => ⟨S1024, .f32⟩
  | 91 => ⟨S8192x1024, .f32⟩
  | 92 => ⟨S_, .f32⟩
  | 93 => ⟨S8192, .f32⟩
  | 94 => ⟨S8192x1, .f32⟩
  | 95 => ⟨S8192x1024, .f32⟩
  | 96 => ⟨S8192x1024, .f32⟩
  | 97 => ⟨S8192x1, .f32⟩
  | 98 => ⟨S8192x1024, .f32⟩
  | 99 => ⟨S_, .f32⟩
  | 100 => ⟨S8192, .f32⟩
  | 101 => ⟨S8192x1, .f32⟩
  | 102 => ⟨S_, .f32⟩
  | 103 => ⟨S8192x1, .f32⟩
  | 104 => ⟨S8192x1, .f32⟩
  | 105 => ⟨S_, .f32⟩
  | 106 => ⟨S8192, .f32⟩
  | 107 => ⟨S8192x1024, .f32⟩
  | 108 => ⟨S8192x1024, .f32⟩
  | 109 => ⟨S8192x1024, .f32⟩
  | 110 => ⟨S_, .f32⟩
  | 111 => ⟨S8192, .f32⟩
  | 112 => ⟨S8192x1, .f32⟩
  | 113 => ⟨S8192x1024, .f32⟩
  | 114 => ⟨S8192x1, .f32⟩
  | 115 => ⟨S_, .f32⟩
  | 116 => ⟨S8192x1, .f32⟩
  | 117 => ⟨S8192x1, .f32⟩
  | 118 => ⟨S_, .f32⟩
  | 119 => ⟨S8192, .f32⟩
  | 120 => ⟨S8192x1024, .f32⟩
  | 121 => ⟨S8192x1024, .f32⟩
  | 122 => ⟨S8192x1024, .f32⟩
  | 123 => ⟨S8192x1024, .f32⟩
  | 124 => ⟨S8192x1024, .f32⟩
  | 125 => ⟨S_, .f32⟩
  | 126 => ⟨S1024, .f32⟩
  | 127 => ⟨S1x1024, .f32⟩
  | _ => ⟨S1x8192x1024, .f32⟩

abbrev hbmTy0_2 (i : Nat) : BufTy := match i % 128 with
  | 0 => ⟨S_, .f32⟩
  | 1 => ⟨S1024, .f32⟩
  | 2 => ⟨S_, .f32⟩
  | 3 => ⟨S8192x1024, .f32⟩
  | 4 => ⟨S8192x1024, .f32⟩
  | 5 => ⟨S8192x4096, .f32⟩
  | 6 => ⟨S8192x4096, .f32⟩
  | 7 => ⟨S_, .f32⟩
  | 8 => ⟨S8192x4096, .f32⟩
  | 9 => ⟨S8192x4096, .f32⟩
  | 10 => ⟨S8192x1024, .f32⟩
  | 11 => ⟨S_, .f32⟩
  | 12 => ⟨S1024, .f32⟩
  | 13 => ⟨S1x1024, .f32⟩
  | 14 => ⟨S_, .f32⟩
  | 15 => ⟨S1024, .f32⟩
  | 16 => ⟨S8192x1024, .f32⟩
  | 17 => ⟨S_, .f32⟩
  | 18 => ⟨S1024, .f32⟩
  | 19 => ⟨S1x1024, .f32⟩
  | 20 => ⟨S8192x1024, .f32⟩
  | 21 => ⟨S8192x1024, .f32⟩
  | 22 => ⟨S_, .f32⟩
  | 23 => ⟨S1024, .f32⟩
  | 24 => ⟨S8192x1024, .f32⟩
  | 25 => ⟨S_, .f32⟩
  | 26 => ⟨S8192, .f32⟩
  | 27 => ⟨S8192x1, .f32⟩
  | 28 => ⟨S8192x1024, .f32⟩
  | 29 => ⟨S8192x1024, .f32⟩
  | 30 => ⟨S8192x1, .f32⟩
  | 31 => ⟨S8192x1024, .f32⟩
  | 32 => ⟨S_, .f32⟩
  | 33 => ⟨S8192, .f32⟩
  | 34 => ⟨S8192x1, .f32⟩
  | 35 => ⟨S8192x1024, .f32⟩
  | 36 => ⟨S_, .f32⟩
  | 37 => ⟨S8192x1, .f32⟩
  | 38 => ⟨S8192x1, .f32⟩
  | 39 => ⟨S_, .f32⟩
  | 40 => ⟨S8192, .f32⟩
  | 41 => ⟨S8192x1024, .f32⟩
  | 42 => ⟨S8192x1024, .f32⟩
  | 43 => ⟨S8192x1024, .f32⟩
  | 44 => ⟨S_, .f32⟩
  | 45 => ⟨S8192, .f32⟩
  | 46 => ⟨S8192x1, .f32⟩
  | 47 => ⟨S8192x1024, .f32⟩
  | 48 => ⟨S8192x1, .f32⟩
  | 49 => ⟨S_, .f32⟩
  | 50 => ⟨S8192x1, .f32⟩
  | 51 => ⟨S8192x1, .f32⟩
  | 52 => ⟨S_, .f32⟩
  | 53 => ⟨S8192, .f32⟩
  | 54 => ⟨S8192x1024, .f32⟩
  | 55 => ⟨S8192x1024, .f32⟩
  | 56 => ⟨S_, .f32⟩
  | 57 => ⟨S1024, .f32⟩
  | 58 => ⟨S1x1024, .f32⟩
  | 59 => ⟨S_, .f32⟩
  | 60 => ⟨S1024, .f32⟩
  | 61 => ⟨S8192x1024, .f32⟩
  | 62 => ⟨S_, .f32⟩
  | 63 => ⟨S1024, .f32⟩
  | 64 => ⟨S1x1024, .f32⟩
  | 65 => ⟨S8192x1024, .f32⟩
  | 66 => ⟨S8192x1024, .f32⟩
  | 67 => ⟨S_, .f32⟩
  | 68 => ⟨S1024, .f32⟩
  | 69 => ⟨S8192x1024, .f32⟩
  | 70 => ⟨S_, .f32⟩
  | 71 => ⟨S8192, .f32⟩
  | 72 => ⟨S8192x1, .f32⟩
  | 73 => ⟨S8192x1024, .f32⟩
  | 74 => ⟨S8192x1024, .f32⟩
  | 75 => ⟨S8192x1, .f32⟩
  | 76 => ⟨S8192x1024, .f32⟩
  | 77 => ⟨S_, .f32⟩
  | 78 => ⟨S8192, .f32⟩
  | 79 => ⟨S8192x1, .f32⟩
  | 80 => ⟨S_, .f32⟩
  | 81 => ⟨S8192x1, .f32⟩
  | 82 => ⟨S8192x1, .f32⟩
  | 83 => ⟨S_, .f32⟩
  | 84 => ⟨S8192, .f32⟩
  | 85 => ⟨S8192x1024, .f32⟩
  | 86 => ⟨S8192x1024, .f32⟩
  | 87 => ⟨S8192x1024, .f32⟩
  | 88 => ⟨S_, .f32⟩
  | 89 => ⟨S8192, .f32⟩
  | 90 => ⟨S8192x1, .f32⟩
  | 91 => ⟨S8192x1024, .f32⟩
  | 92 => ⟨S8192x1, .f32⟩
  | 93 => ⟨S_, .f32⟩
  | 94 => ⟨S8192x1, .f32⟩
  | 95 => ⟨S8192x1, .f32⟩
  | 96 => ⟨S_, .f32⟩
  | 97 => ⟨S8192, .f32⟩
  | 98 => ⟨S8192x1024, .f32⟩
  | 99 => ⟨S8192x1024, .f32⟩
  | 100 => ⟨S8192x1024, .f32⟩
  | 101 => ⟨S8192x1024, .f32⟩
  | 102 => ⟨S8192x1024, .f32⟩
  | 103 => ⟨S_, .f32⟩
  | 104 => ⟨S1024, .f32⟩
  | 105 => ⟨S1x1024, .f32⟩
  | 106 => ⟨S_, .f32⟩
  | 107 => ⟨S1024, .f32⟩
  | 108 => ⟨S_, .f32⟩
  | 109 => ⟨S8192x1024, .f32⟩
  | 110 => ⟨S8192x1024, .f32⟩
  | 111 => ⟨S8192x1024, .f32⟩
  | 112 => ⟨S1x1024, .f32⟩
  | 113 => ⟨S1x1024, .f32⟩
  | 114 => ⟨S1x1024, .f32⟩
  | 115 => ⟨S1x1024, .f32⟩
  | 116 => ⟨S1x1024, .f32⟩
  | 117 => ⟨S1x1024, .f32⟩
  | 118 => ⟨S1x1024, .f32⟩
  | 119 => ⟨S1x1024, .f32⟩
  | 120 => ⟨S1x1024, .f32⟩
  | 121 => ⟨S9x1024, .f32⟩
  | 122 => ⟨S_, .f32⟩
  | 123 => ⟨S7x1024, .f32⟩
  | 124 => ⟨S16x1024, .f32⟩
  | 125 => ⟨S8192x4096, .bf16⟩
  | 126 => ⟨S8192x4096, .bf16⟩
  | 127 => ⟨S8192x1024, .bf16⟩
  | _ => ⟨S1x8192x1024, .f32⟩

abbrev hbmTy0_3 (i : Nat) : BufTy := match i % 128 with
  | 0 => ⟨S8192x1024, .bf16⟩
  | 1 => ⟨S8192x1024, .bf16⟩
  | _ => ⟨S1x8192x1024, .f32⟩

abbrev hbmTy (i : Nat) : BufTy := match i / 128 with
  | 0 => hbmTy0_0 i
  | 1 => hbmTy0_1 i
  | 2 => hbmTy0_2 i
  | 3 => hbmTy0_3 i
  | _ => ⟨S1x8192x1024, .f32⟩

abbrev bufTy : (tb : Table) → Fin (tcTables nBuf tb) → BufTy
  | .hbm, ⟨i, _⟩ => hbmTy i
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst : Ref sig .tc := ⟨.hbm, 31, rfl⟩
abbrev main_v20 : Ref sig .tc := ⟨.hbm, 32, rfl⟩
abbrev main_cst_0 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_2 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_v33 : Ref sig .tc := ⟨.hbm, 49, rfl⟩
abbrev main_cst_4 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_5 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_cst_7 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_8 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_10 : Ref sig .tc := ⟨.hbm, 83, rfl⟩
abbrev main_v61 : Ref sig .tc := ⟨.hbm, 84, rfl⟩
abbrev main_v62 : Ref sig .tc := ⟨.hbm, 85, rfl⟩
abbrev main_cst_11 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_12 : Ref sig .tc := ⟨.hbm, 92, rfl⟩
abbrev main_v68 : Ref sig .tc := ⟨.hbm, 93, rfl⟩
abbrev main_v69 : Ref sig .tc := ⟨.hbm, 94, rfl⟩
abbrev main_cst_13 : Ref sig .tc := ⟨.hbm, 95, rfl⟩
abbrev main_v70 : Ref sig .tc := ⟨.hbm, 96, rfl⟩
abbrev main_v71 : Ref sig .tc := ⟨.hbm, 97, rfl⟩
abbrev main_cst_14 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_15 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_cst_16 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_17 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_call0_cst : Ref sig .tc := ⟨.hbm, 124, rfl⟩
abbrev main_call0_v0 : Ref sig .tc := ⟨.hbm, 125, rfl⟩
abbrev main_v94 : Ref sig .tc := ⟨.hbm, 126, rfl⟩
abbrev main_cst_18 : Ref sig .tc := ⟨.hbm, 127, rfl⟩
abbrev main_v95 : Ref sig .tc := ⟨.hbm, 128, rfl⟩
abbrev main_v96 : Ref sig .tc := ⟨.hbm, 129, rfl⟩
abbrev main_cst_19 : Ref sig .tc := ⟨.hbm, 130, rfl⟩
abbrev main_v97 : Ref sig .tc := ⟨.hbm, 131, rfl⟩
abbrev main_v98 : Ref sig .tc := ⟨.hbm, 132, rfl⟩
abbrev main_cst_20 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_cst_21 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_cst_22 : Ref sig .tc := ⟨.hbm, 145, rfl⟩
abbrev main_v109 : Ref sig .tc := ⟨.hbm, 146, rfl⟩
abbrev main_v110 : Ref sig .tc := ⟨.hbm, 147, rfl⟩
abbrev main_cst_23 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_cst_24 : Ref sig .tc := ⟨.hbm, 154, rfl⟩
abbrev main_v116 : Ref sig .tc := ⟨.hbm, 155, rfl⟩
abbrev main_v117 : Ref sig .tc := ⟨.hbm, 156, rfl⟩
abbrev main_cst_25 : Ref sig .tc := ⟨.hbm, 157, rfl⟩
abbrev main_v118 : Ref sig .tc := ⟨.hbm, 158, rfl⟩
abbrev main_v119 : Ref sig .tc := ⟨.hbm, 159, rfl⟩
abbrev main_cst_26 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_cst_27 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_cst_28 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_cst_29 : Ref sig .tc := ⟨.hbm, 183, rfl⟩
abbrev main_v140 : Ref sig .tc := ⟨.hbm, 184, rfl⟩
abbrev main_v141 : Ref sig .tc := ⟨.hbm, 185, rfl⟩
abbrev main_cst_30 : Ref sig .tc := ⟨.hbm, 186, rfl⟩
abbrev main_v142 : Ref sig .tc := ⟨.hbm, 187, rfl⟩
abbrev main_cst_31 : Ref sig .tc := ⟨.hbm, 188, rfl⟩
abbrev main_v143 : Ref sig .tc := ⟨.hbm, 189, rfl⟩
abbrev main_v144 : Ref sig .tc := ⟨.hbm, 190, rfl⟩
abbrev main_cst_32 : Ref sig .tc := ⟨.hbm, 191, rfl⟩
abbrev main_v145 : Ref sig .tc := ⟨.hbm, 192, rfl⟩
abbrev main_cst_33 : Ref sig .tc := ⟨.hbm, 193, rfl⟩
abbrev main_v146 : Ref sig .tc := ⟨.hbm, 194, rfl⟩
abbrev main_cst_34 : Ref sig .tc := ⟨.hbm, 195, rfl⟩
abbrev main_v147 : Ref sig .tc := ⟨.hbm, 196, rfl⟩
abbrev main_cst_35 : Ref sig .tc := ⟨.hbm, 197, rfl⟩
abbrev main_cst_36 : Ref sig .tc := ⟨.hbm, 198, rfl⟩
abbrev main_v148 : Ref sig .tc := ⟨.hbm, 199, rfl⟩
abbrev main_v149 : Ref sig .tc := ⟨.hbm, 200, rfl⟩
abbrev main_cst_37 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_cst_38 : Ref sig .tc := ⟨.hbm, 206, rfl⟩
abbrev main_v154 : Ref sig .tc := ⟨.hbm, 207, rfl⟩
abbrev main_v155 : Ref sig .tc := ⟨.hbm, 208, rfl⟩
abbrev main_cst_39 : Ref sig .tc := ⟨.hbm, 209, rfl⟩
abbrev main_v156 : Ref sig .tc := ⟨.hbm, 210, rfl⟩
abbrev main_v157 : Ref sig .tc := ⟨.hbm, 211, rfl⟩
abbrev main_cst_40 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_cst_41 : Ref sig .tc := ⟨.hbm, 217, rfl⟩
abbrev main_v162 : Ref sig .tc := ⟨.hbm, 218, rfl⟩
abbrev main_v163 : Ref sig .tc := ⟨.hbm, 219, rfl⟩
abbrev main_cst_42 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_cst_43 : Ref sig .tc := ⟨.hbm, 227, rfl⟩
abbrev main_v170 : Ref sig .tc := ⟨.hbm, 228, rfl⟩
abbrev main_v171 : Ref sig .tc := ⟨.hbm, 229, rfl⟩
abbrev main_cst_44 : Ref sig .tc := ⟨.hbm, 230, rfl⟩
abbrev main_v172 : Ref sig .tc := ⟨.hbm, 231, rfl⟩
abbrev main_v173 : Ref sig .tc := ⟨.hbm, 232, rfl⟩
abbrev main_cst_45 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_cst_46 : Ref sig .tc := ⟨.hbm, 238, rfl⟩
abbrev main_v178 : Ref sig .tc := ⟨.hbm, 239, rfl⟩
abbrev main_v179 : Ref sig .tc := ⟨.hbm, 240, rfl⟩
abbrev main_v180 : Ref sig .tc := ⟨.hbm, 241, rfl⟩
abbrev main_v181 : Ref sig .tc := ⟨.hbm, 242, rfl⟩
abbrev main_cst_47 : Ref sig .tc := ⟨.hbm, 243, rfl⟩
abbrev main_v182 : Ref sig .tc := ⟨.hbm, 244, rfl⟩
abbrev main_v183 : Ref sig .tc := ⟨.hbm, 245, rfl⟩
abbrev main_cst_48 : Ref sig .tc := ⟨.hbm, 246, rfl⟩
abbrev main_v184 : Ref sig .tc := ⟨.hbm, 247, rfl⟩
abbrev main_v185 : Ref sig .tc := ⟨.hbm, 248, rfl⟩
abbrev main_v186 : Ref sig .tc := ⟨.hbm, 249, rfl⟩
abbrev main_v187 : Ref sig .tc := ⟨.hbm, 250, rfl⟩
abbrev main_v188 : Ref sig .tc := ⟨.hbm, 251, rfl⟩
abbrev main_v189 : Ref sig .tc := ⟨.hbm, 252, rfl⟩
abbrev main_cst_49 : Ref sig .tc := ⟨.hbm, 253, rfl⟩
abbrev main_v190 : Ref sig .tc := ⟨.hbm, 254, rfl⟩
abbrev main_v191 : Ref sig .tc := ⟨.hbm, 255, rfl⟩
abbrev main_cst_50 : Ref sig .tc := ⟨.hbm, 256, rfl⟩
abbrev main_v192 : Ref sig .tc := ⟨.hbm, 257, rfl⟩
abbrev main_cst_51 : Ref sig .tc := ⟨.hbm, 258, rfl⟩
abbrev main_v193 : Ref sig .tc := ⟨.hbm, 259, rfl⟩
abbrev main_v194 : Ref sig .tc := ⟨.hbm, 260, rfl⟩
abbrev main_v195 : Ref sig .tc := ⟨.hbm, 261, rfl⟩
abbrev main_v196 : Ref sig .tc := ⟨.hbm, 262, rfl⟩
abbrev main_cst_52 : Ref sig .tc := ⟨.hbm, 263, rfl⟩
abbrev main_v197 : Ref sig .tc := ⟨.hbm, 264, rfl⟩
abbrev main_v198 : Ref sig .tc := ⟨.hbm, 265, rfl⟩
abbrev main_v199 : Ref sig .tc := ⟨.hbm, 266, rfl⟩
abbrev main_cst_53 : Ref sig .tc := ⟨.hbm, 267, rfl⟩
abbrev main_v200 : Ref sig .tc := ⟨.hbm, 268, rfl⟩
abbrev main_v201 : Ref sig .tc := ⟨.hbm, 269, rfl⟩
abbrev main_cst_54 : Ref sig .tc := ⟨.hbm, 270, rfl⟩
abbrev main_v202 : Ref sig .tc := ⟨.hbm, 271, rfl⟩
abbrev main_v203 : Ref sig .tc := ⟨.hbm, 272, rfl⟩
abbrev main_cst_55 : Ref sig .tc := ⟨.hbm, 273, rfl⟩
abbrev main_v204 : Ref sig .tc := ⟨.hbm, 274, rfl⟩
abbrev main_v205 : Ref sig .tc := ⟨.hbm, 275, rfl⟩
abbrev main_v206 : Ref sig .tc := ⟨.hbm, 276, rfl⟩
abbrev main_v207 : Ref sig .tc := ⟨.hbm, 277, rfl⟩
abbrev main_cst_56 : Ref sig .tc := ⟨.hbm, 278, rfl⟩
abbrev main_v208 : Ref sig .tc := ⟨.hbm, 279, rfl⟩
abbrev main_v209 : Ref sig .tc := ⟨.hbm, 280, rfl⟩
abbrev main_cst_57 : Ref sig .tc := ⟨.hbm, 281, rfl⟩
abbrev main_v210 : Ref sig .tc := ⟨.hbm, 282, rfl⟩
abbrev main_v211 : Ref sig .tc := ⟨.hbm, 283, rfl⟩
abbrev main_v212 : Ref sig .tc := ⟨.hbm, 284, rfl⟩
abbrev main_v213 : Ref sig .tc := ⟨.hbm, 285, rfl⟩
abbrev main_v214 : Ref sig .tc := ⟨.hbm, 286, rfl⟩
abbrev main_v215 : Ref sig .tc := ⟨.hbm, 287, rfl⟩
abbrev main_cst_58 : Ref sig .tc := ⟨.hbm, 288, rfl⟩
abbrev main_v216 : Ref sig .tc := ⟨.hbm, 289, rfl⟩
abbrev main_v217 : Ref sig .tc := ⟨.hbm, 290, rfl⟩
abbrev main_v218 : Ref sig .tc := ⟨.hbm, 291, rfl⟩
abbrev main_cst_59 : Ref sig .tc := ⟨.hbm, 292, rfl⟩
abbrev main_v219 : Ref sig .tc := ⟨.hbm, 293, rfl⟩
abbrev main_v220 : Ref sig .tc := ⟨.hbm, 294, rfl⟩
abbrev main_cst_60 : Ref sig .tc := ⟨.hbm, 295, rfl⟩
abbrev main_v221 : Ref sig .tc := ⟨.hbm, 296, rfl⟩
abbrev main_v222 : Ref sig .tc := ⟨.hbm, 297, rfl⟩
abbrev main_v223 : Ref sig .tc := ⟨.hbm, 298, rfl⟩
abbrev main_v224 : Ref sig .tc := ⟨.hbm, 299, rfl⟩
abbrev main_cst_61 : Ref sig .tc := ⟨.hbm, 300, rfl⟩
abbrev main_v225 : Ref sig .tc := ⟨.hbm, 301, rfl⟩
abbrev main_v226 : Ref sig .tc := ⟨.hbm, 302, rfl⟩
abbrev main_v227 : Ref sig .tc := ⟨.hbm, 303, rfl⟩
abbrev main_v228 : Ref sig .tc := ⟨.hbm, 304, rfl⟩
abbrev main_cst_62 : Ref sig .tc := ⟨.hbm, 305, rfl⟩
abbrev main_v229 : Ref sig .tc := ⟨.hbm, 306, rfl⟩
abbrev main_v230 : Ref sig .tc := ⟨.hbm, 307, rfl⟩
abbrev main_cst_63 : Ref sig .tc := ⟨.hbm, 308, rfl⟩
abbrev main_v231 : Ref sig .tc := ⟨.hbm, 309, rfl⟩
abbrev main_v232 : Ref sig .tc := ⟨.hbm, 310, rfl⟩
abbrev main_v233 : Ref sig .tc := ⟨.hbm, 311, rfl⟩
abbrev main_cst_64 : Ref sig .tc := ⟨.hbm, 312, rfl⟩
abbrev main_v234 : Ref sig .tc := ⟨.hbm, 313, rfl⟩
abbrev main_v235 : Ref sig .tc := ⟨.hbm, 314, rfl⟩
abbrev main_cst_65 : Ref sig .tc := ⟨.hbm, 315, rfl⟩
abbrev main_v236 : Ref sig .tc := ⟨.hbm, 316, rfl⟩
abbrev main_v237 : Ref sig .tc := ⟨.hbm, 317, rfl⟩
abbrev main_cst_66 : Ref sig .tc := ⟨.hbm, 318, rfl⟩
abbrev main_v238 : Ref sig .tc := ⟨.hbm, 319, rfl⟩
abbrev main_v239 : Ref sig .tc := ⟨.hbm, 320, rfl⟩
abbrev main_v240 : Ref sig .tc := ⟨.hbm, 321, rfl⟩
abbrev main_v241 : Ref sig .tc := ⟨.hbm, 322, rfl⟩
abbrev main_cst_67 : Ref sig .tc := ⟨.hbm, 323, rfl⟩
abbrev main_v242 : Ref sig .tc := ⟨.hbm, 324, rfl⟩
abbrev main_v243 : Ref sig .tc := ⟨.hbm, 325, rfl⟩
abbrev main_cst_68 : Ref sig .tc := ⟨.hbm, 326, rfl⟩
abbrev main_v244 : Ref sig .tc := ⟨.hbm, 327, rfl⟩
abbrev main_v245 : Ref sig .tc := ⟨.hbm, 328, rfl⟩
abbrev main_v246 : Ref sig .tc := ⟨.hbm, 329, rfl⟩
abbrev main_v247 : Ref sig .tc := ⟨.hbm, 330, rfl⟩
abbrev main_v248 : Ref sig .tc := ⟨.hbm, 331, rfl⟩
abbrev main_v249 : Ref sig .tc := ⟨.hbm, 332, rfl⟩
abbrev main_cst_69 : Ref sig .tc := ⟨.hbm, 333, rfl⟩
abbrev main_v250 : Ref sig .tc := ⟨.hbm, 334, rfl⟩
abbrev main_v251 : Ref sig .tc := ⟨.hbm, 335, rfl⟩
abbrev main_cst_70 : Ref sig .tc := ⟨.hbm, 336, rfl⟩
abbrev main_v252 : Ref sig .tc := ⟨.hbm, 337, rfl⟩
abbrev main_v253 : Ref sig .tc := ⟨.hbm, 338, rfl⟩
abbrev main_cst_71 : Ref sig .tc := ⟨.hbm, 339, rfl⟩
abbrev main_v254 : Ref sig .tc := ⟨.hbm, 340, rfl⟩
abbrev main_v255 : Ref sig .tc := ⟨.hbm, 341, rfl⟩
abbrev main_v256 : Ref sig .tc := ⟨.hbm, 342, rfl⟩
abbrev main_v257 : Ref sig .tc := ⟨.hbm, 343, rfl⟩
abbrev main_cst_72 : Ref sig .tc := ⟨.hbm, 344, rfl⟩
abbrev main_v258 : Ref sig .tc := ⟨.hbm, 345, rfl⟩
abbrev main_v259 : Ref sig .tc := ⟨.hbm, 346, rfl⟩
abbrev main_v260 : Ref sig .tc := ⟨.hbm, 347, rfl⟩
abbrev main_v261 : Ref sig .tc := ⟨.hbm, 348, rfl⟩
abbrev main_cst_73 : Ref sig .tc := ⟨.hbm, 349, rfl⟩
abbrev main_v262 : Ref sig .tc := ⟨.hbm, 350, rfl⟩
abbrev main_v263 : Ref sig .tc := ⟨.hbm, 351, rfl⟩
abbrev main_cst_74 : Ref sig .tc := ⟨.hbm, 352, rfl⟩
abbrev main_v264 : Ref sig .tc := ⟨.hbm, 353, rfl⟩
abbrev main_v265 : Ref sig .tc := ⟨.hbm, 354, rfl⟩
abbrev main_v266 : Ref sig .tc := ⟨.hbm, 355, rfl⟩
abbrev main_v267 : Ref sig .tc := ⟨.hbm, 356, rfl⟩
abbrev main_v268 : Ref sig .tc := ⟨.hbm, 357, rfl⟩
abbrev main_v269 : Ref sig .tc := ⟨.hbm, 358, rfl⟩
abbrev main_cst_75 : Ref sig .tc := ⟨.hbm, 359, rfl⟩
abbrev main_v270 : Ref sig .tc := ⟨.hbm, 360, rfl⟩
abbrev main_v271 : Ref sig .tc := ⟨.hbm, 361, rfl⟩
abbrev main_cst_76 : Ref sig .tc := ⟨.hbm, 362, rfl⟩
abbrev main_v272 : Ref sig .tc := ⟨.hbm, 363, rfl⟩
abbrev main_cst_77 : Ref sig .tc := ⟨.hbm, 364, rfl⟩
abbrev main_v273 : Ref sig .tc := ⟨.hbm, 365, rfl⟩
abbrev main_v274 : Ref sig .tc := ⟨.hbm, 366, rfl⟩
abbrev main_v275 : Ref sig .tc := ⟨.hbm, 367, rfl⟩
abbrev main_v276 : Ref sig .tc := ⟨.hbm, 368, rfl⟩
abbrev main_v277 : Ref sig .tc := ⟨.hbm, 369, rfl⟩
abbrev main_v278 : Ref sig .tc := ⟨.hbm, 370, rfl⟩
abbrev main_v279 : Ref sig .tc := ⟨.hbm, 371, rfl⟩
abbrev main_v280 : Ref sig .tc := ⟨.hbm, 372, rfl⟩
abbrev main_v281 : Ref sig .tc := ⟨.hbm, 373, rfl⟩
abbrev main_v282 : Ref sig .tc := ⟨.hbm, 374, rfl⟩
abbrev main_v283 : Ref sig .tc := ⟨.hbm, 375, rfl⟩
abbrev main_v284 : Ref sig .tc := ⟨.hbm, 376, rfl⟩
abbrev main_v285 : Ref sig .tc := ⟨.hbm, 377, rfl⟩
abbrev main_cst_78 : Ref sig .tc := ⟨.hbm, 378, rfl⟩
abbrev main_v286 : Ref sig .tc := ⟨.hbm, 379, rfl⟩
abbrev main_v287 : Ref sig .tc := ⟨.hbm, 380, rfl⟩
abbrev main_v288 : Ref sig .tc := ⟨.hbm, 381, rfl⟩
abbrev main_v289 : Ref sig .tc := ⟨.hbm, 382, rfl⟩
abbrev main_v290 : Ref sig .tc := ⟨.hbm, 383, rfl⟩
abbrev main_v291 : Ref sig .tc := ⟨.hbm, 384, rfl⟩
abbrev main_v292 : Ref sig .tc := ⟨.hbm, 385, rfl⟩

abbrev nD : Nat := 1
abbrev τ : Topo := Topo.v7x

variable {F : FTy → Type} [FloatOps F]
-- ==== Kernel2.lean ====
abbrev S8192x4096 : Shape := ⟨2, ![8192, 4096]⟩
abbrev S8192x1024 : Shape := ⟨2, ![8192, 1024]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference2Ideal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩
abbrev S4x1024x1024 : Shape := ⟨3, ![4, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S_, .f32⟩
  | .hbm, ⟨3, _⟩ => ⟨S4096x1024, .f32⟩
  | .hbm, ⟨4, _⟩ => ⟨S8192x4096, .f32⟩
  | .hbm, ⟨5, _⟩ => ⟨S8192x1024, .f32⟩
  | .hbm, ⟨6, _⟩ => ⟨S8192x1024, .f32⟩
  | .hbm, ⟨7, _⟩ => ⟨S1024x4096, .f32⟩
  | .hbm, ⟨8, _⟩ => ⟨S4096x1024, .f32⟩
  | .hbm, ⟨9, _⟩ => ⟨S4x1024x1024, .f32⟩
  | .hbm, ⟨10, _⟩ => ⟨S4x1024x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel3.lean ====
abbrev S8192x1024 : Shape := ⟨2, ![8192, 1024]⟩
abbrev S4x256x1024 : Shape := ⟨3, ![4, 256, 1024]⟩
abbrev S2048x1024 : Shape := ⟨2, ![2048, 1024]⟩
abbrev S1024x1024 : Shape := ⟨2, ![1024, 1024]⟩
abbrev S256x1024 : Shape := ⟨2, ![256, 1024]⟩
abbrev S1x256x1024 : Shape := ⟨3, ![1, 256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S4x256x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S4x256x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S4x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]
-- ==== Reference3Ideal.lean ====
abbrev S8192x1024 : Shape := ⟨2, ![8192, 1024]⟩
abbrev S_ : Shape := ⟨0, ![]⟩
abbrev S1024x1024 : Shape := ⟨2, ![1024, 1024]⟩
abbrev S4x256x1024 : Shape := ⟨3, ![4, 256, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S4x256x1024, .f32⟩
  | .hbm, ⟨10, _⟩ => ⟨S4x256x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S1x1024x1024 : Shape := ⟨3, ![1, 1024, 1024]⟩
abbrev S4x1024x1024 : Shape := ⟨3, ![4, 1024, 1024]⟩
abbrev S1024x1024 : Shape := ⟨2, ![1024, 1024]⟩
abbrev S1024x512 : Shape := ⟨2, ![1024, 512]⟩
abbrev S4x1024x512 : Shape := ⟨3, ![4, 1024, 512]⟩
abbrev S1x1024x512 : Shape := ⟨3, ![1, 1024, 512]⟩

abbrev nBuf : Space → Nat
  | .hbm => 12
  | .vmem => 18
  | .smem => 0
  | _ => 0

abbrev bufTy : (tb : Table) → Fin (tcTables nBuf tb) → BufTy
  | .hbm, ⟨0, _⟩ => ⟨S1x1024x1024, .f32⟩
  | .hbm, ⟨1, _⟩ => ⟨S4x1024x1024, .bf16⟩
  | .hbm, ⟨2, _⟩ => ⟨S4x1024x1024, .bf16⟩
  | .hbm, ⟨3, _⟩ => ⟨S1x1024x1024, .f32⟩
  | .hbm, ⟨4, _⟩ => ⟨S1x1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .local _ .vmem, ⟨0, _⟩ => ⟨S1024x512, .f32⟩
  | .local _ .vmem, ⟨1, _⟩ => ⟨S1024x512, .f32⟩
  | .local _ .vmem, ⟨2, _⟩ => ⟨S4x1024x512, .bf16⟩
  | .local _ .vmem, ⟨3, _⟩ => ⟨S4x1024x512, .bf16⟩
  | .local _ .vmem, ⟨4, _⟩ => ⟨S4x1024x512, .bf16⟩
  | .local _ .vmem, ⟨5, _⟩ => ⟨S4x1024x512, .bf16⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | .local _ .vmem, ⟨17, _⟩ => ⟨S1024x512, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S1x1024x1024 : Shape := ⟨3, ![1, 1024, 1024]⟩
abbrev S4x1024x1024 : Shape := ⟨3, ![4, 1024, 1024]⟩
abbrev S8x1024x1024 : Shape := ⟨3, ![8, 1024, 1024]⟩
abbrev S_ : Shape := ⟨0, ![]⟩
abbrev S1024x1024 : Shape := ⟨2, ![1024, 1024]⟩

abbrev nBuf : Space → Nat
  | .hbm => 45
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S4x1024x1024, .bf16⟩
  | .hbm, ⟨2, _⟩ => ⟨S4x1024x1024, .bf16⟩
  | .hbm, ⟨3, _⟩ => ⟨S1x1024x1024, .f32⟩
  | .hbm, ⟨4, _⟩ => ⟨S1x1024x1024, .f32⟩
  | .hbm, ⟨5, _⟩ => ⟨S8x1024x1024, .bf16⟩
  | .hbm, ⟨6, _⟩ => ⟨S8x1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S_, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S1024x1024, .f32⟩
  | .hbm, ⟨23, _⟩ => ⟨S_, .f32⟩
  | .hbm, ⟨24, _⟩ => ⟨S1024x1024, .f32⟩
  | .hbm, ⟨25, _⟩ => ⟨S1024x1024, .f32⟩
  | .hbm, ⟨26, _⟩ => ⟨S1024x1024, .f32⟩
  | .hbm, ⟨27, _⟩ => ⟨S_, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | .hbm, ⟨37, _⟩ => ⟨S1024x1024, .f32⟩
  | .hbm, ⟨38, _⟩ => ⟨S_, .f32⟩
  | .hbm, ⟨39, _⟩ => ⟨S1024x1024, .f32⟩
  | .hbm, ⟨40, _⟩ => ⟨S1024x1024, .f32⟩
  | .hbm, ⟨41, _⟩ => ⟨S1024x1024, .f32⟩
  | .hbm, ⟨42, _⟩ => ⟨S_, .f32⟩
  | .hbm, ⟨43, _⟩ => ⟨S1024x1024, .f32⟩
  | .hbm, ⟨44, _⟩ => ⟨S1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== Kernel5.lean ====
abbrev S1x256x1024 : Shape := ⟨3, ![1, 256, 1024]⟩
abbrev S4x256x1024 : Shape := ⟨3, ![4, 256, 1024]⟩
abbrev S256x1024 : Shape := ⟨2, ![256, 1024]⟩
abbrev S256x512 : Shape := ⟨2, ![256, 512]⟩
abbrev S4x256x512 : Shape := ⟨3, ![4, 256, 512]⟩
abbrev S1x256x512 : Shape := ⟨3, ![1, 256, 512]⟩

abbrev nBuf : Space → Nat
  | .hbm => 12
  | .vmem => 18
  | .smem => 0
  | _ => 0

abbrev bufTy : (tb : Table) → Fin (tcTables nBuf tb) → BufTy
  | .hbm, ⟨0, _⟩ => ⟨S1x256x1024, .f32⟩
  | .hbm, ⟨1, _⟩ => ⟨S4x256x1024, .bf16⟩
  | .hbm, ⟨2, _⟩ => ⟨S4x256x1024, .bf16⟩
  | .hbm, ⟨3, _⟩ => ⟨S1x256x1024, .f32⟩
  | .hbm, ⟨4, _⟩ => ⟨S1x256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S256x1024, .f32⟩
  | .local _ .vmem, ⟨0, _⟩ => ⟨S256x512, .f32⟩
  | .local _ .vmem, ⟨1, _⟩ => ⟨S256x512, .f32⟩
  | .local _ .vmem, ⟨2, _⟩ => ⟨S4x256x512, .bf16⟩
  | .local _ .vmem, ⟨3, _⟩ => ⟨S4x256x512, .bf16⟩
  | .local _ .vmem, ⟨4, _⟩ => ⟨S4x256x512, .bf16⟩
  | .local _ .vmem, ⟨5, _⟩ => ⟨S4x256x512, .bf16⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference5Ideal.lean ====
abbrev S1x256x1024 : Shape := ⟨3, ![1, 256, 1024]⟩
abbrev S4x256x1024 : Shape := ⟨3, ![4, 256, 1024]⟩
abbrev S8x256x1024 : Shape := ⟨3, ![8, 256, 1024]⟩
abbrev S_ : Shape := ⟨0, ![]⟩
abbrev S256x1024 : Shape := ⟨2, ![256, 1024]⟩

abbrev nBuf : Space → Nat
  | .hbm => 45
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S4x256x1024, .bf16⟩
  | .hbm, ⟨2, _⟩ => ⟨S4x256x1024, .bf16⟩
  | .hbm, ⟨3, _⟩ => ⟨S1x256x1024, .f32⟩
  | .hbm, ⟨4, _⟩ => ⟨S1x256x1024, .f32⟩
  | .hbm, ⟨5, _⟩ => ⟨S8x256x1024, .bf16⟩
  | .hbm, ⟨6, _⟩ => ⟨S8x256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S256x1024, .f32⟩
  | .hbm, ⟨12, _⟩ => ⟨S_, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S_, .f32⟩
  | .hbm, ⟨24, _⟩ => ⟨S256x1024, .f32⟩
  | .hbm, ⟨25, _⟩ => ⟨S256x1024, .f32⟩
  | .hbm, ⟨26, _⟩ => ⟨S256x1024, .f32⟩
  | .hbm, ⟨27, _⟩ => ⟨S_, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | .hbm, ⟨37, _⟩ => ⟨S256x1024, .f32⟩
  | .hbm, ⟨38, _⟩ => ⟨S_, .f32⟩
  | .hbm, ⟨39, _⟩ => ⟨S256x1024, .f32⟩
  | .hbm, ⟨40, _⟩ => ⟨S256x1024, .f32⟩
  | .hbm, ⟨41, _⟩ => ⟨S256x1024, .f32⟩
  | .hbm, ⟨42, _⟩ => ⟨S_, .f32⟩
  | .hbm, ⟨43, _⟩ => ⟨S256x1024, .f32⟩
  | .hbm, ⟨44, _⟩ => ⟨S256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== Kernel6.lean ====
abbrev S1x1024x900 : Shape := ⟨3, ![1, 1024, 900]⟩
abbrev S4x900x1024 : Shape := ⟨3, ![4, 900, 1024]⟩
abbrev S900x1x1024 : Shape := ⟨3, ![900, 1, 1024]⟩
abbrev S900x1024 : Shape := ⟨2, ![900, 1024]⟩
abbrev S900x512 : Shape := ⟨2, ![900, 512]⟩
abbrev S4x900x512 : Shape := ⟨3, ![4, 900, 512]⟩
abbrev S1x900x512 : Shape := ⟨3, ![1, 900, 512]⟩

abbrev nBuf : Space → Nat
  | .hbm => 15
  | .vmem => 18
  | .smem => 0
  | _ => 0

abbrev bufTy : (tb : Table) → Fin (tcTables nBuf tb) → BufTy
  | .hbm, ⟨0, _⟩ => ⟨S1x1024x900, .f32⟩
  | .hbm, ⟨1, _⟩ => ⟨S4x900x1024, .bf16⟩
  | .hbm, ⟨2, _⟩ => ⟨S4x900x1024, .bf16⟩
  | .hbm, ⟨3, _⟩ => ⟨S1x1024x900, .f32⟩
  | .hbm, ⟨4, _⟩ => ⟨S1x1024x900, .f32⟩
  | .hbm, ⟨5, _⟩ => ⟨S900x1x1024, .f32⟩
  | .hbm, ⟨6, _⟩ => ⟨S900x1024, .f32⟩
  | .hbm, ⟨7, _⟩ => ⟨S900x1x1024, .f32⟩
  | .hbm, ⟨8, _⟩ => ⟨S900x1024, .f32⟩
  | .hbm, ⟨9, _⟩ => ⟨S900x1x1024, .f32⟩
  | .hbm, ⟨10, _⟩ => ⟨S900x1024, .f32⟩
  | .hbm, ⟨11, _⟩ => ⟨S900x1024, .f32⟩
  | .hbm, ⟨12, _⟩ => ⟨S900x1024, .f32⟩
  | .hbm, ⟨13, _⟩ => ⟨S900x1024, .f32⟩
  | .hbm, ⟨14, _⟩ => ⟨S900x1024, .f32⟩
  | .local _ .vmem, ⟨0, _⟩ => ⟨S900x512, .f32⟩
  | .local _ .vmem, ⟨1, _⟩ => ⟨S900x512, .f32⟩
  | .local _ .vmem, ⟨2, _⟩ => ⟨S4x900x512, .bf16⟩
  | .local _ .vmem, ⟨3, _⟩ => ⟨S4x900x512, .bf16⟩
  | .local _ .vmem, ⟨4, _⟩ => ⟨S4x900x512, .bf16⟩
  | .local _ .vmem, ⟨5, _⟩ => ⟨S4x900x512, .bf16⟩
  | .local _ .vmem, ⟨6, _⟩ => ⟨S900x512, .f32⟩
  | .local _ .vmem, ⟨7, _⟩ => ⟨S900x512, .f32⟩
  | .local _ .vmem, ⟨8, _⟩ => ⟨S900x512, .f32⟩
  | .local _ .vmem, ⟨9, _⟩ => ⟨S900x512, .f32⟩
  | .local _ .vmem, ⟨10, _⟩ => ⟨S900x512, .f32⟩
  | .local _ .vmem, ⟨11, _⟩ => ⟨S900x512, .f32⟩
  | .local _ .vmem, ⟨12, _⟩ => ⟨S900x512, .f32⟩
  | .local _ .vmem, ⟨13, _⟩ => ⟨S900x512, .f32⟩
  | .local _ .vmem, ⟨14, _⟩ => ⟨S900x512, .f32⟩
  | .local _ .vmem, ⟨15, _⟩ => ⟨S900x512, .f32⟩
  | .local _ .vmem, ⟨16, _⟩ => ⟨S900x512, .f32⟩
  | .local _ .vmem, ⟨17, _⟩ => ⟨S900x512, .f32⟩
  | _, _ => ⟨S1x1024x900, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S900x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x900x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x900x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S900x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S900x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S900x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S900x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S900x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S900x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference6Ideal.lean ====
abbrev S1x1024x900 : Shape := ⟨3, ![1, 1024, 900]⟩
abbrev S4x900x1024 : Shape := ⟨3, ![4, 900, 1024]⟩
abbrev S8x900x1024 : Shape := ⟨3, ![8, 900, 1024]⟩
abbrev S_ : Shape := ⟨0, ![]⟩
abbrev S900x1024 : Shape := ⟨2, ![900, 1024]⟩
abbrev S1024x900 : Shape := ⟨2, ![1024, 900]⟩

abbrev nBuf : Space → Nat
  | .hbm => 48
  | .vmem => 0
  | .smem => 0
  | _ => 0

abbrev bufTy : (tb : Table) → Fin (tcTables nBuf tb) → BufTy
  | .hbm, ⟨0, _⟩ => ⟨S1x1024x900, .f32⟩
  | .hbm, ⟨1, _⟩ => ⟨S4x900x1024, .bf16⟩
  | .hbm, ⟨2, _⟩ => ⟨S4x900x1024, .bf16⟩
  | .hbm, ⟨3, _⟩ => ⟨S1x1024x900, .f32⟩
  | .hbm, ⟨4, _⟩ => ⟨S1x1024x900, .f32⟩
  | .hbm, ⟨5, _⟩ => ⟨S8x900x1024, .bf16⟩
  | .hbm, ⟨6, _⟩ => ⟨S8x900x1024, .f32⟩
  | .hbm, ⟨7, _⟩ => ⟨S_, .f32⟩
  | .hbm, ⟨8, _⟩ => ⟨S900x1024, .f32⟩
  | .hbm, ⟨9, _⟩ => ⟨S1024x900, .f32⟩
  | .hbm, ⟨10, _⟩ => ⟨S900x1024, .f32⟩
  | .hbm, ⟨11, _⟩ => ⟨S1024x900, .f32⟩
  | .hbm, ⟨12, _⟩ => ⟨S900x1024, .f32⟩
  | .hbm, ⟨13, _⟩ => ⟨S1024x900, .f32⟩
  | .hbm, ⟨14, _⟩ => ⟨S900x1024, .f32⟩
  | .hbm, ⟨15, _⟩ => ⟨S_, .f32⟩
  | .hbm, ⟨16, _⟩ => ⟨S900x1024, .f32⟩
  | .hbm, ⟨17, _⟩ => ⟨S900x1024, .f32⟩
  | .hbm, ⟨18, _⟩ => ⟨S_, .f32⟩
  | .hbm, ⟨19, _⟩ => ⟨S900x1024, .f32⟩
  | .hbm, ⟨20, _⟩ => ⟨S900x1024, .f32⟩
  | .hbm, ⟨21, _⟩ => ⟨S900x1024, .f32⟩
  | .hbm, ⟨22, _⟩ => ⟨S_, .f32⟩
  | .hbm, ⟨23, _⟩ => ⟨S900x1024, .f32⟩
  | .hbm, ⟨24, _⟩ => ⟨S900x1024, .f32⟩
  | .hbm, ⟨25, _⟩ => ⟨S900x1024, .f32⟩
  | .hbm, ⟨26, _⟩ => ⟨S_, .f32⟩
  | .hbm, ⟨27, _⟩ => ⟨S900x1024, .f32⟩
  | .hbm, ⟨28, _⟩ => ⟨S900x1024, .f32⟩
  | .hbm, ⟨29, _⟩ => ⟨S900x1024, .f32⟩
  | .hbm, ⟨30, _⟩ => ⟨S_, .f32⟩
  | .hbm, ⟨31, _⟩ => ⟨S900x1024, .f32⟩
  | .hbm, ⟨32, _⟩ => ⟨S900x1024, .f32⟩
  | .hbm, ⟨33, _⟩ => ⟨S_, .f32⟩
  | .hbm, ⟨34, _⟩ => ⟨S900x1024, .f32⟩
  | .hbm, ⟨35, _⟩ => ⟨S900x1024, .f32⟩
  | .hbm, ⟨36, _⟩ => ⟨S900x1024, .f32⟩
  | .hbm, ⟨37, _⟩ => ⟨S_, .f32⟩
  | .hbm, ⟨38, _⟩ => ⟨S900x1024, .f32⟩
  | .hbm, ⟨39, _⟩ => ⟨S900x1024, .f32⟩
  | .hbm, ⟨40, _⟩ => ⟨S900x1024, .f32⟩
  | .hbm, ⟨41, _⟩ => ⟨S_, .f32⟩
  | .hbm, ⟨42, _⟩ => ⟨S900x1024, .f32⟩
  | .hbm, ⟨43, _⟩ => ⟨S900x1024, .f32⟩
  | .hbm, ⟨44, _⟩ => ⟨S900x1024, .f32⟩
  | .hbm, ⟨45, _⟩ => ⟨S_, .f32⟩
  | .hbm, ⟨46, _⟩ => ⟨S900x1024, .f32⟩
  | .hbm, ⟨47, _⟩ => ⟨S900x1024, .f32⟩
  | _, _ => ⟨S1x1024x900, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩

abbrev nD : Nat := 1
abbrev τ : Topo := Topo.v7x

variable {F : FTy → Type} [FloatOps F]
-- ==== Kernel7.lean ====
abbrev S8x1024 : Shape := ⟨2, ![8, 1024]⟩
abbrev S8x1536 : Shape := ⟨2, ![8, 1536]⟩
abbrev S1x1024x1536 : Shape := ⟨3, ![1, 1024, 1536]⟩
abbrev S1024x8 : Shape := ⟨2, ![1024, 8]⟩
abbrev S1024x1536 : Shape := ⟨2, ![1024, 1536]⟩
abbrev S8x512 : Shape := ⟨2, ![8, 512]⟩
abbrev S1024x512 : Shape := ⟨2, ![1024, 512]⟩
abbrev S1024x1 : Shape := ⟨2, ![1024, 1]⟩
abbrev S1x512 : Shape := ⟨2, ![1, 512]⟩

abbrev nBuf : Space → Nat
  | .hbm => 13
  | .vmem => 17
  | .smem => 0
  | _ => 0

abbrev bufTy : (tb : Table) → Fin (tcTables nBuf tb) → BufTy
  | .hbm, ⟨0, _⟩ => ⟨S8x1024, .f32⟩
  | .hbm, ⟨1, _⟩ => ⟨S8x1536, .f32⟩
  | .hbm, ⟨2, _⟩ => ⟨S1x1024x1536, .f32⟩
  | .hbm, ⟨3, _⟩ => ⟨S1x1024x1536, .f32⟩
  | .hbm, ⟨4, _⟩ => ⟨S1x1024x1536, .f32⟩
  | .hbm, ⟨5, _⟩ => ⟨S1024x8, .f32⟩
  | .hbm, ⟨6, _⟩ => ⟨S1024x1536, .f32⟩
  | .hbm, ⟨7, _⟩ => ⟨S1024x1536, .f32⟩
  | .hbm, ⟨8, _⟩ => ⟨S1024x1536, .f32⟩
  | .hbm, ⟨9, _⟩ => ⟨S1024x1536, .f32⟩
  | .hbm, ⟨10, _⟩ => ⟨S1024x1536, .f32⟩
  | .hbm, ⟨11, _⟩ => ⟨S1024x1536, .f32⟩
  | .hbm, ⟨12, _⟩ => ⟨S1024x1536, .f32⟩
  | .local _ .vmem, ⟨0, _⟩ => ⟨S1024x8, .f32⟩
  | .local _ .vmem, ⟨1, _⟩ => ⟨S8x512, .f32⟩
  | .local _ .vmem, ⟨2, _⟩ => ⟨S8x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference7Ideal.lean ====
abbrev S8x1024 : Shape := ⟨2, ![8, 1024]⟩
abbrev S8x1536 : Shape := ⟨2, ![8, 1536]⟩
abbrev S1x1024x1536 : Shape := ⟨3, ![1, 1024, 1536]⟩
abbrev S1024x1536 : Shape := ⟨2, ![1024, 1536]⟩
abbrev S_ : Shape := ⟨0, ![]⟩
abbrev S1536x1024 : Shape := ⟨2, ![1536, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x1536, .f32⟩
  | .hbm, ⟨2, _⟩ => ⟨S1x1024x1536, .f32⟩
  | .hbm, ⟨3, _⟩ => ⟨S1x1024x1536, .f32⟩
  | .hbm, ⟨4, _⟩ => ⟨S1x1024x1536, .f32⟩
  | .hbm, ⟨5, _⟩ => ⟨S1024x1536, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S_, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S8x1536, .f32⟩
  | .hbm, ⟨16, _⟩ => ⟨S1536x1024, .f32⟩
  | .hbm, ⟨17, _⟩ => ⟨S1024x1536, .f32⟩
  | .hbm, ⟨18, _⟩ => ⟨S1024x1536, .f32⟩
  | .hbm, ⟨19, _⟩ => ⟨S1024x1536, .f32⟩
  | .hbm, ⟨20, _⟩ => ⟨S1024x1536, .f32⟩
  | .hbm, ⟨21, _⟩ => ⟨S_, .f32⟩
  | .hbm, ⟨22, _⟩ => ⟨S1024x1536, .f32⟩
  | .hbm, ⟨23, _⟩ => ⟨S1024x1536, .f32⟩
  | .hbm, ⟨24, _⟩ => ⟨S_, .f32⟩
  | .hbm, ⟨25, _⟩ => ⟨S1024x1536, .f32⟩
  | .hbm, ⟨26, _⟩ => ⟨S1024x1536, .f32⟩
  | .hbm, ⟨27, _⟩ => ⟨S1024x1536, .f32⟩
  | .hbm, ⟨28, _⟩ => ⟨S_, .f32⟩
  | .hbm, ⟨29, _⟩ => ⟨S1024x1536, .f32⟩
  | .hbm, ⟨30, _⟩ => ⟨S1024x1536, .f32⟩
  | .hbm, ⟨31, _⟩ => ⟨S1024x1536, .f32⟩
  | .hbm, ⟨32, _⟩ => ⟨S_, .f32⟩
  | .hbm, ⟨33, _⟩ => ⟨S1024x1536, .f32⟩
  | .hbm, ⟨34, _⟩ => ⟨S1024x1536, .f32⟩
  | .hbm, ⟨35, _⟩ => ⟨S1024x1536, .f32⟩
  | .hbm, ⟨36, _⟩ => ⟨S_, .f32⟩
  | .hbm, ⟨37, _⟩ => ⟨S1024x1536, .f32⟩
  | .hbm, ⟨38, _⟩ => ⟨S1024x1536, .f32⟩
  | .hbm, ⟨39, _⟩ => ⟨S_, .f32⟩
  | .hbm, ⟨40, _⟩ => ⟨S1024x1536, .f32⟩
  | .hbm, ⟨41, _⟩ => ⟨S1024x1536, .f32⟩
  | .hbm, ⟨42, _⟩ => ⟨S1024x1536, .f32⟩
  | .hbm, ⟨43, _⟩ => ⟨S_, .f32⟩
  | .hbm, ⟨44, _⟩ => ⟨S1024x1536, .f32⟩
  | .hbm, ⟨45, _⟩ => ⟨S1024x1536, .f32⟩
  | .hbm, ⟨46, _⟩ => ⟨S1024x1536, .f32⟩
  | .hbm, ⟨47, _⟩ => ⟨S_, .f32⟩
  | .hbm, ⟨48, _⟩ => ⟨S1024x1536, .f32⟩
  | .hbm, ⟨49, _⟩ => ⟨S1024x1536, .f32⟩
  | .hbm, ⟨50, _⟩ => ⟨S1024x1536, .f32⟩
  | .hbm, ⟨51, _⟩ => ⟨S_, .f32⟩
  | .hbm, ⟨52, _⟩ => ⟨S1024x1536, .f32⟩
  | .hbm, ⟨53, _⟩ => ⟨S1024x1536, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_3 : Ref sig .tc := ⟨.hbm, 36, rfl⟩
abbrev main_v19 : Ref sig .tc := ⟨.hbm, 37, rfl⟩
abbrev main_v20 : Ref sig .tc := ⟨.hbm, 38, rfl⟩
abbrev main_cst_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_7 : Ref sig .tc := ⟨.hbm, 51, rfl⟩
abbrev main_v30 : Ref sig .tc := ⟨.hbm, 52, rfl⟩
abbrev main_v31 : Ref sig .tc := ⟨.hbm, 53, rfl⟩

abbrev nD : Nat := 1
abbrev τ : Topo := Topo.v7x

variable {F : FTy → Type} [FloatOps F]
-- ==== Kernel8.lean ====
abbrev S8x144x128 : Shape := ⟨3, ![8, 144, 128]⟩
abbrev S1x6144 : Shape := ⟨2, ![1, 6144]⟩
abbrev S1x1024 : Shape := ⟨2, ![1, 1024]⟩
abbrev S1x512 : Shape := ⟨2, ![1, 512]⟩
abbrev S1x256 : Shape := ⟨2, ![1, 256]⟩
abbrev S16x256 : Shape := ⟨2, ![16, 256]⟩
abbrev S1x128 : Shape := ⟨2, ![1, 128]⟩
abbrev S1x144x128 : Shape := ⟨3, ![1, 144, 128]⟩
abbrev S144x128 : Shape := ⟨2, ![144, 128]⟩
abbrev S8x128 : Shape := ⟨2, ![8, 128]⟩
abbrev S1x8x128 : Shape := ⟨3, ![1, 8, 128]⟩
abbrev S1 : Shape := ⟨1, ![1]⟩
abbrev S1x1x1 : Shape := ⟨3, ![1, 1, 1]⟩

abbrev nBuf : Space → Nat
  | .hbm => 11
  | .vmem => 11
  | .smem => 0
  | _ => 0

abbrev bufTy : (tb : Table) → Fin (tcTables nBuf tb) → BufTy
  | .hbm, ⟨0, _⟩ => ⟨S8x144x128, .f32⟩
  | .hbm, ⟨1, _⟩ => ⟨S1x6144, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x512, .f32⟩
  | .hbm, ⟨7, _⟩ => ⟨S1x256, .f32⟩
  | .hbm, ⟨8, _⟩ => ⟨S1x512, .f32⟩
  | .hbm, ⟨9, _⟩ => ⟨S16x256, .f32⟩
  | .hbm, ⟨10, _⟩ => ⟨S1x128, .f32⟩
  | .local _ .vmem, ⟨0, _⟩ => ⟨S8x144x128, .f32⟩
  | .local _ .vmem, ⟨1, _⟩ => ⟨S1x6144, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x512, .f32⟩
  | .local _ .vmem, ⟨7, _⟩ => ⟨S1x256, .f32⟩
  | .local _ .vmem, ⟨8, _⟩ => ⟨S1x512, .f32⟩
  | .local _ .vmem, ⟨9, _⟩ => ⟨S16x256, .f32⟩
  | .local _ .vmem, ⟨10, _⟩ => ⟨S1x128, .f32⟩
  | _, _ => ⟨S8x144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v0_3 : Ref sig .tc := ⟨.hbm, 4, rfl⟩
abbrev main_v0_4 : Ref sig .tc := ⟨.hbm, 5, rfl⟩
abbrev main_v0_5 : Ref sig .tc := ⟨.hbm, 6, rfl⟩
abbrev main_v0_6 : Ref sig .tc := ⟨.hbm, 7, rfl⟩
abbrev main_v0_7 : Ref sig .tc := ⟨.hbm, 8, rfl⟩
abbrev main_v0_8 : Ref sig .tc := ⟨.hbm, 9, rfl⟩
abbrev main_v0_9 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S8x144x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Reference8Ideal.lean ====
abbrev S8x144x128 : Shape := ⟨3, ![8, 144, 128]⟩
abbrev S_ : Shape := ⟨0, ![]⟩
abbrev S144x128 : Shape := ⟨2, ![144, 128]⟩
abbrev S8x8x128 : Shape := ⟨3, ![8, 8, 128]⟩
abbrev S8x1024 : Shape := ⟨2, ![8, 1024]⟩
abbrev S48x128 : Shape := ⟨2, ![48, 128]⟩
abbrev S1x6144 : Shape := ⟨2, ![1, 6144]⟩
abbrev S8x128 : Shape := ⟨2, ![8, 128]⟩
abbrev S1x1024 : Shape := ⟨2, ![1, 1024]⟩
abbrev S4x128 : Shape := ⟨2, ![4, 128]⟩
abbrev S1x512 : Shape := ⟨2, ![1, 512]⟩
abbrev S2x128 : Shape := ⟨2, ![2, 128]⟩
abbrev S1x256 : Shape := ⟨2, ![1, 256]⟩
abbrev S32x128 : Shape := ⟨2, ![32, 128]⟩
abbrev S16x256 : Shape := ⟨2, ![16, 256]⟩
abbrev S8 : Shape := ⟨1, ![8]⟩
abbrev S1x128 : Shape := ⟨2, ![1, 128]⟩

abbrev nBuf : Space → Nat
  | .hbm => 33
  | .vmem => 0
  | .smem => 0
  | _ => 0

abbrev bufTy : (tb : Table) → Fin (tcTables nBuf tb) → BufTy
  | .hbm, ⟨0, _⟩ => ⟨S8x144x128, .f32⟩
  | .hbm, ⟨1, _⟩ => ⟨S_, .f32⟩
  | .hbm, ⟨2, _⟩ => ⟨S144x128, .f32⟩
  | .hbm, ⟨3, _⟩ => ⟨S8x8x128, .f32⟩
  | .hbm, ⟨4, _⟩ => ⟨S8x1024, .f32⟩
  | .hbm, ⟨5, _⟩ => ⟨S48x128, .f32⟩
  | .hbm, ⟨6, _⟩ => ⟨S1x6144, .f32⟩
  | .hbm, ⟨7, _⟩ => ⟨S8x128, .f32⟩
  | .hbm, ⟨8, _⟩ => ⟨S1x1024, .f32⟩
  | .hbm, ⟨9, _⟩ => ⟨S8x128, .f32⟩
  | .hbm, ⟨10, _⟩ => ⟨S1x1024, .f32⟩
  | .hbm, ⟨11, _⟩ => ⟨S8x128, .f32⟩
  | .hbm, ⟨12, _⟩ => ⟨S1x1024, .f32⟩
  | .hbm, ⟨13, _⟩ => ⟨S8x128, .f32⟩
  | .hbm, ⟨14, _⟩ => ⟨S1x1024, .f32⟩
  | .hbm, ⟨15, _⟩ => ⟨S4x128, .f32⟩
  | .hbm, ⟨16, _⟩ => ⟨S1x512, .f32⟩
  | .hbm, ⟨17, _⟩ => ⟨S2x128, .f32⟩
  | .hbm, ⟨18, _⟩ => ⟨S1x256, .f32⟩
  | .hbm, ⟨19, _⟩ => ⟨S4x128, .f32⟩
  | .hbm, ⟨20, _⟩ => ⟨S1x512, .f32⟩
  | .hbm, ⟨21, _⟩ => ⟨S32x128, .f32⟩
  | .hbm, ⟨22, _⟩ => ⟨S16x256, .f32⟩
  | .hbm, ⟨23, _⟩ => ⟨S_, .f32⟩
  | .hbm, ⟨24, _⟩ => ⟨S8, .f32⟩
  | .hbm, ⟨25, _⟩ => ⟨S_, .f32⟩
  | .hbm, ⟨26, _⟩ => ⟨S8, .f32⟩
  | .hbm, ⟨27, _⟩ => ⟨S8, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S1x128, .f32⟩
  | _, _ => ⟨S8x144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_cst_0 : Ref sig .tc := ⟨.hbm, 23, rfl⟩
abbrev main_v21 : Ref sig .tc := ⟨.hbm, 24, rfl⟩
abbrev main_cst_1 : Ref sig .tc := ⟨.hbm, 25, rfl⟩
abbrev main_v22 : Ref sig .tc := ⟨.hbm, 26, rfl⟩
abbrev main_v23 : Ref sig .tc := ⟨.hbm, 27, rfl⟩
abbrev main_cst_2 : Ref sig .tc := ⟨.hbm, 28, rfl⟩
abbrev main_v24 : Ref sig .tc := ⟨.hbm, 29, rfl⟩
abbrev main_cst_3 : Ref sig .tc := ⟨.hbm, 30, rfl⟩
abbrev main_v25 : Ref sig .tc := ⟨.hbm, 31, rfl⟩
abbrev main_v26 : Ref sig .tc := ⟨.hbm, 32, rfl⟩

abbrev nD : Nat := 1
abbrev τ : Topo := Topo.v7x

variable {F : FTy → Type} [FloatOps F]
-- ==== Kernel9.lean ====
abbrev S8x144x128 : Shape := ⟨3, ![8, 144, 128]⟩
abbrev S_ : Shape := ⟨0, ![]⟩
abbrev S1x6144 : Shape := ⟨2, ![1, 6144]⟩
abbrev S1x1024 : Shape := ⟨2, ![1, 1024]⟩
abbrev S1x512 : Shape := ⟨2, ![1, 512]⟩
abbrev S1x256 : Shape := ⟨2, ![1, 256]⟩
abbrev S16x256 : Shape := ⟨2, ![16, 256]⟩
abbrev S1x128 : Shape := ⟨2, ![1, 128]⟩
abbrev S1x144x128 : Shape := ⟨3, ![1, 144, 128]⟩
abbrev S144x128 : Shape := ⟨2, ![144, 128]⟩
abbrev S8x128 : Shape := ⟨2, ![8, 128]⟩
abbrev S1x8x128 : Shape := ⟨3, ![1, 8, 128]⟩
abbrev S1 : Shape := ⟨1, ![1]⟩
abbrev S1x1x1 : Shape := ⟨3, ![1, 1, 1]⟩
abbrev S16x64 : Shape := ⟨2, ![16, 64]⟩

abbrev nBuf : Space → Nat
  | .hbm => 21
  | .vmem => 11
  | .smem => 0
  | _ => 0

abbrev bufTy : (tb : Table) → Fin (tcTables nBuf tb) → BufTy
  | .hbm, ⟨0, _⟩ => ⟨S8x144x128, .f32⟩
  | .hbm, ⟨1, _⟩ => ⟨S_, .i32⟩
  | .hbm, ⟨2, _⟩ => ⟨S1x6144, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x512, .f32⟩
  | .hbm, ⟨8, _⟩ => ⟨S1x256, .f32⟩
  | .hbm, ⟨9, _⟩ => ⟨S1x512, .f32⟩
  | .hbm, ⟨10, _⟩ => ⟨S16x256, .f32⟩
  | .hbm, ⟨11, _⟩ => ⟨S1x128, .f32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S16x64, .f32⟩
  | .local _ .vmem, ⟨0, _⟩ => ⟨S8x144x128, .f32⟩
  | .local _ .vmem, ⟨1, _⟩ => ⟨S1x6144, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x512, .f32⟩
  | .local _ .vmem, ⟨7, _⟩ => ⟨S1x256, .f32⟩
  | .local _ .vmem, ⟨8, _⟩ => ⟨S1x512, .f32⟩
  | .local _ .vmem, ⟨9, _⟩ => ⟨S16x256, .f32⟩
  | .local _ .vmem, ⟨10, _⟩ => ⟨S1x128, .f32⟩
  | _, _ => ⟨S8x144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev main_v0_5 : Ref sig .tc := ⟨.hbm, 7, rfl⟩
abbrev main_v0_6 : Ref sig .tc := ⟨.hbm, 8, rfl⟩
abbrev main_v0_7 : Ref sig .tc := ⟨.hbm, 9, rfl⟩
abbrev main_v0_8 : Ref sig .tc := ⟨.hbm, 10, rfl⟩
abbrev main_v0_9 : Ref sig .tc := ⟨.hbm, 11, rfl⟩
abbrev main_c : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_c_1 : Ref sig .tc := ⟨.hbm, 16, rfl⟩
abbrev main_v3 : Ref sig .tc := ⟨.hbm, 17, rfl⟩
abbrev main_v4 : Ref sig .tc := ⟨.hbm, 18, rfl⟩
abbrev main_c_2 : Ref sig .tc := ⟨.hbm, 19, rfl⟩
abbrev main_v5 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S8x144x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Reference9Ideal.lean ====
abbrev S8x144x128 : Shape := ⟨3, ![8, 144, 128]⟩
abbrev S_ : Shape := ⟨0, ![]⟩
abbrev S144x128 : Shape := ⟨2, ![144, 128]⟩
abbrev S32x128 : Shape := ⟨2, ![32, 128]⟩
abbrev S16x256 : Shape := ⟨2, ![16, 256]⟩
abbrev S16x64 : Shape := ⟨2, ![16, 64]⟩

abbrev nBuf : Space → Nat
  | .hbm => 15
  | .vmem => 0
  | .smem => 0
  | _ => 0

abbrev bufTy : (tb : Table) → Fin (tcTables nBuf tb) → BufTy
  | .hbm, ⟨0, _⟩ => ⟨S8x144x128, .f32⟩
  | .hbm, ⟨1, _⟩ => ⟨S_, .i32⟩
  | .hbm, ⟨2, _⟩ => ⟨S_, .f32⟩
  | .hbm, ⟨3, _⟩ => ⟨S144x128, .f32⟩
  | .hbm, ⟨4, _⟩ => ⟨S32x128, .f32⟩
  | .hbm, ⟨5, _⟩ => ⟨S16x256, .f32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S16x64, .f32⟩
  | _, _ => ⟨S8x144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_v6 : Ref sig .tc := ⟨.hbm, 12, rfl⟩
abbrev main_c_2 : Ref sig .tc := ⟨.hbm, 13, rfl⟩
abbrev main_v7 : Ref sig .tc := ⟨.hbm, 14, rfl⟩

abbrev nD : Nat := 1
abbrev τ : Topo := Topo.v7x

variable {F : FTy → Type} [FloatOps F]
-- ==== Proof.RefFrame.lean ====
/- The reference is a line of host operations: it ends, its arguments keep their contents, and it declares no semaphore. -/
module

public import proofs.«01_k».proof.Defs
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

theorem frame_reference : Cert.quiescent_ReferenceIdeal := fun m ρ _ =>
  (θ_run Cert.ReferenceIdeal.defs _ _).mono
    (fun r h => ⟨fun c => (h c).2.2.2.2.2.2.2.2,
      Idealize.ShloMosaic.sem_eq_zero_of_no_sems (by decide) r.2⟩)
    (Cert.ReferenceIdeal.Value.run (F := Ideal) m ρ)

end Cert.Proof

end
-- ==== Proof.Coe.lean ====
/- Extended reals that are real numbers: each operation of the two programs on real entries gives a real entry, the
   constants of the two programs are real numbers, and a finite sum of reals is a real. -/
module

public import Idealize.ShloMosaic.PureOps.Ideal
public import Idealize.ShloMosaic.PureOps.Ideal.Laws
public import Mathlib.Tactic.NormNum
public import Mathlib.Tactic.Positivity
public import Mathlib.Tactic.FieldSimp

@[expose] public section

noncomputable section

namespace Cert.Coe

open Idealize.ShloMosaic

/-- The residual scale, the float nearest to `2 ^ (1/4)`. -/
def al : ℝ := 9975792 / 8388608

/-- The layer norms' variance offset, the float nearest to `1e-5`. -/
def ep : ℝ := 10995116 / 1099511627776

theorem ep_pos : 0 < ep := by unfold ep; norm_num

variable (a b : ℝ)

theorem add_c : ((a : EReal) + (b : EReal)) = ((a + b : ℝ) : EReal) := (EReal.coe_add a b).symm
theorem sub_c : ((a : EReal) - (b : EReal)) = ((a - b : ℝ) : EReal) := (EReal.coe_sub a b).symm
theorem mul_c : ((a : EReal) * (b : EReal)) = ((a * b : ℝ) : EReal) := (EReal.coe_mul a b).symm
theorem neg_c : (-(a : EReal)) = ((-a : ℝ) : EReal) := (EReal.coe_neg a).symm

theorem max_c : max (a : EReal) (b : EReal) = ((max a b : ℝ) : EReal) :=
  (Monotone.map_max (f := fun r : ℝ => (r : EReal)) (fun _ _ h => EReal.coe_le_coe_iff.mpr h)).symm

theorem div_c (h : b ≠ 0) : Ideal.div (a : EReal) (b : EReal) = ((a / b : ℝ) : EReal) := by
  rw [Ideal.div_coe h, mul_c, mul_one_div]

theorem rsqrt_c (h : 0 < a) : Ideal.rsqrt (a : EReal) = (((Real.sqrt a)⁻¹ : ℝ) : EReal) := by
  rw [Ideal.rsqrt_coe, if_neg (not_lt.mpr h.le), if_neg h.ne']

/-- A choice by a comparison of two reals is the choice by the reals' order. -/
theorem select_gt_c (x y : ℝ) :
    Scalar.select (Ideal.cmp .ogt (a : EReal) (b : EReal)) (x : EReal) (y : EReal) =
      (((if b < a then x else y : ℝ)) : EReal) := by
  by_cases h : b < a
  · simp [Ideal.cmp, Scalar.select, h]
  · simp [Ideal.cmp, Scalar.select, h]

theorem sum_c {ι : Type} [Fintype ι] (f : ι → ℝ) : (∑ k, ((f k : ℝ) : EReal)) = ((∑ k, f k : ℝ) : EReal) :=
  (map_sum (⟨⟨Real.toEReal, EReal.coe_zero⟩, EReal.coe_add⟩ : ℝ →+ EReal) f Finset.univ).symm

theorem zero_add_c (r : ℝ) : (((0 : ℝ) : EReal) + (r : EReal)) = (r : EReal) := by rw [EReal.coe_zero, zero_add]

theorem c_zero : Ideal.ofBits .f32 0x00000000#32 = ((0 : ℝ) : EReal) := by
  simp [Ideal.ofBits, Ideal.ieee, -EReal.coe_mul]
theorem c_one : Ideal.ofBits .f32 0x3F800000#32 = ((1 : ℝ) : EReal) := by
  simp [Ideal.ofBits, Ideal.ieee, -EReal.coe_mul]; norm_num
theorem c_two : Ideal.ofBits .f32 0x40000000#32 = ((2 : ℝ) : EReal) := by
  simp [Ideal.ofBits, Ideal.ieee, -EReal.coe_mul]; norm_num
theorem c_half : Ideal.ofBits .f32 0x3F000000#32 = ((1 / 2 : ℝ) : EReal) := by
  simp [Ideal.ofBits, Ideal.ieee, -EReal.coe_mul]; norm_num
theorem c_mhalf : Ideal.ofBits .f32 0xBF000000#32 = ((-(1 / 2) : ℝ) : EReal) := by
  simp [Ideal.ofBits, Ideal.ieee, -EReal.coe_mul]; norm_num
theorem c_1024 : Ideal.ofBits .f32 0x44800000#32 = ((1024 : ℝ) : EReal) := by
  simp [Ideal.ofBits, Ideal.ieee, -EReal.coe_mul]; norm_num
theorem c_inv1024 : Ideal.ofBits .f32 0x3A800000#32 = ((1 / 1024 : ℝ) : EReal) := by
  simp [Ideal.ofBits, Ideal.ieee, -EReal.coe_mul]; norm_num
theorem c_al : Ideal.ofBits .f32 0x3F9837F0#32 = ((al : ℝ) : EReal) := by
  simp [Ideal.ofBits, Ideal.ieee, -EReal.coe_mul, al]; norm_num
theorem c_ep : Ideal.ofBits .f32 0x3727C5AC#32 = ((ep : ℝ) : EReal) := by
  simp [Ideal.ofBits, Ideal.ieee, -EReal.coe_mul, ep]; norm_num

end Cert.Coe
-- ==== Proof.Args.lean ====
/- The arguments of the two programs as arrays of real numbers. -/
module

public import proofs.«01_k».proof.Proof.Coe

@[expose] public section

namespace Cert.Step

/-- Real arrays for the eleven arguments: the layer's input, the mixer's output, the target, the modulation vector, the
    weights and offsets of the two layer norms, and the three weight matrices as they are stored by blocks. -/
structure Args where
  x : Fin 8192 → Fin 1024 → ℝ
  mx : Fin 8192 → Fin 1024 → ℝ
  tg : Fin 8192 → Fin 1024 → ℝ
  md : Fin 6144 → ℝ
  l1w : Fin 1024 → ℝ
  l1b : Fin 1024 → ℝ
  l2w : Fin 1024 → ℝ
  l2b : Fin 1024 → ℝ
  wo : Fin 4 → Fin 256 → Fin 1024 → ℝ
  w1 : Fin 4 → Fin 1024 → Fin 1024 → ℝ
  w2 : Fin 4 → Fin 1024 → Fin 1024 → ℝ

end Cert.Step
-- ==== Proof.RefReal.lean ====
/- The reference, one operation at a time, over the reals: `r<n>` is the real array the `n`-th value of the reference
   holds when the arguments are real arrays. -/
module

public import proofs.«01_k».proof.Proof.Args

@[expose] public section

set_option maxRecDepth 16384

noncomputable section

namespace Cert.Ref

open Idealize.ShloMosaic Cert.Coe Cert.Step

def r0 (A : Args) (a : Fin 6144) : ℝ := (A.md a)
def r3 (A : Args) (a : Fin 1024) : ℝ := (r0 A ⟨2048 + a.val, by have h0 : a.val < 1024 := a.isLt; show 2048 + a.val < 6144; omega⟩)
def r4 (A : Args) (a : Fin 1024) : ℝ := (r0 A ⟨3072 + a.val, by have h0 : a.val < 1024 := a.isLt; show 3072 + a.val < 6144; omega⟩)
def r5 (A : Args) (a : Fin 1024) : ℝ := (r0 A ⟨4096 + a.val, by have h0 : a.val < 1024 := a.isLt; show 4096 + a.val < 6144; omega⟩)
def r6 (A : Args) (a : Fin 1024) : ℝ := (r0 A ⟨5120 + a.val, by have h0 : a.val < 1024 := a.isLt; show 5120 + a.val < 6144; omega⟩)
def r7 (A : Args) (a : Fin 4) (b : Fin 256) (c : Fin 1024) : ℝ := (A.wo a b c)
def r8 (A : Args) (a : Fin 1024) (b : Fin 1024) : ℝ := (r7 A ⟨(a.val * 1024 + b.val) / 262144, by have h0 : a.val < 1024 := a.isLt; have h1 : b.val < 1024 := b.isLt; show (a.val * 1024 + b.val) / 262144 < 4; omega⟩ ⟨(a.val * 1024 + b.val) / 1024 % 256, by have h0 : a.val < 1024 := a.isLt; have h1 : b.val < 1024 := b.isLt; show (a.val * 1024 + b.val) / 1024 % 256 < 256; omega⟩ ⟨(a.val * 1024 + b.val) % 1024, by have h0 : a.val < 1024 := a.isLt; have h1 : b.val < 1024 := b.isLt; show (a.val * 1024 + b.val) % 1024 < 1024; omega⟩)
def r9 (A : Args) (a : Fin 4) (b : Fin 1024) (c : Fin 1024) : ℝ := (A.w1 a b c)
def r10 (A : Args) (a : Fin 1024) (b : Fin 4) (c : Fin 1024) : ℝ := (r9 A b a c)
def r11 (A : Args) (a : Fin 1024) (b : Fin 4096) : ℝ := (r10 A ⟨(a.val * 4096 + b.val) / 4096, by have h0 : a.val < 1024 := a.isLt; have h1 : b.val < 4096 := b.isLt; show (a.val * 4096 + b.val) / 4096 < 1024; omega⟩ ⟨(a.val * 4096 + b.val) / 1024 % 4, by have h0 : a.val < 1024 := a.isLt; have h1 : b.val < 4096 := b.isLt; show (a.val * 4096 + b.val) / 1024 % 4 < 4; omega⟩ ⟨(a.val * 4096 + b.val) % 1024, by have h0 : a.val < 1024 := a.isLt; have h1 : b.val < 4096 := b.isLt; show (a.val * 4096 + b.val) % 1024 < 1024; omega⟩)
def r12 (A : Args) (a : Fin 4) (b : Fin 1024) (c : Fin 1024) : ℝ := (A.w2 a b c)
def r13 (A : Args) (a : Fin 4096) (b : Fin 1024) : ℝ := (r12 A ⟨(a.val * 1024 + b.val) / 1048576, by have h0 : a.val < 4096 := a.isLt; have h1 : b.val < 1024 := b.isLt; show (a.val * 1024 + b.val) / 1048576 < 4; omega⟩ ⟨(a.val * 1024 + b.val) / 1024 % 1024, by have h0 : a.val < 4096 := a.isLt; have h1 : b.val < 1024 := b.isLt; show (a.val * 1024 + b.val) / 1024 % 1024 < 1024; omega⟩ ⟨(a.val * 1024 + b.val) % 1024, by have h0 : a.val < 4096 := a.isLt; have h1 : b.val < 1024 := b.isLt; show (a.val * 1024 + b.val) % 1024 < 1024; omega⟩)
def r14 (A : Args) (a : Fin 8192) (b : Fin 1024) : ℝ := (A.x a b)
def r15 (A : Args) (a : Fin 8192) (b : Fin 1024) : ℝ := (A.mx a b)
def r16 (A : Args) (a : Fin 1024) : ℝ := (A.l1w a)
def r17 (A : Args) (a : Fin 1024) : ℝ := (A.l1b a)
def r18 (A : Args) (a : Fin 1024) : ℝ := (A.l2w a)
def r19 (A : Args) (a : Fin 1024) : ℝ := (A.l2b a)
def r20 (A : Args) (a : Fin 8192) (b : Fin 1024) : ℝ := 0
def r21 (A : Args) (a : Fin 8192) (b : Fin 4096) : ℝ := 0
def r22 (A : Args) (a : Fin 8192) (b : Fin 1024) : ℝ := 0
def r23 (A : Args) (a : Fin 8192) (b : Fin 1024) : ℝ := (A.tg a b)
def r24 (A : Args) (a : Fin 8192) (b : Fin 1024) : ℝ := ∑ k : Fin 1024, (r15 A a k) * (r8 A k b)
def r25 (A : Args) (a : Fin 8192) (b : Fin 1024) : ℝ := (r24 A a b) + (r20 A a b)
def r26 (A : Args) (a : Fin 8192) (b : Fin 1024) : ℝ := al
def r27 (A : Args) (a : Fin 8192) (b : Fin 1024) : ℝ := (r26 A a b) * (r14 A a b)
def r28 (A : Args) (a : Fin 1) (b : Fin 1024) : ℝ := (r3 A b)
def r29 (A : Args) (a : Fin 8192) (b : Fin 1024) : ℝ := (r28 A 0 b)
def r30 (A : Args) (a : Fin 8192) (b : Fin 1024) : ℝ := (r29 A a b) * (r25 A a b)
def r31 (A : Args) (a : Fin 8192) (b : Fin 1024) : ℝ := (r27 A a b) + (r30 A a b)
def r32 (A : Args) (a : Fin 8192) : ℝ := ∑ k : Fin 1024, (r31 A a k)
def r33 (A : Args) (a : Fin 8192) (b : Fin 1) : ℝ := (r32 A a)
def r34 (A : Args) (a : Fin 8192) (b : Fin 1) : ℝ := 1024
def r35 (A : Args) (a : Fin 8192) (b : Fin 1) : ℝ := (r33 A a b) / (r34 A a b)
def r36 (A : Args) (a : Fin 8192) (b : Fin 1024) : ℝ := (r35 A a 0)
def r37 (A : Args) (a : Fin 8192) (b : Fin 1024) : ℝ := (r31 A a b) - (r36 A a b)
def r38 (A : Args) (a : Fin 8192) (b : Fin 1024) : ℝ := (r37 A a b) * (r37 A a b)
def r39 (A : Args) (a : Fin 8192) (b : Fin 1024) : ℝ := 2
def r40 (A : Args) (a : Fin 8192) (b : Fin 1024) : ℝ := (r39 A a b) * (r37 A a b)
def r41 (A : Args) (a : Fin 8192) : ℝ := ∑ k : Fin 1024, (r38 A a k)
def r42 (A : Args) (a : Fin 8192) (b : Fin 1) : ℝ := (r41 A a)
def r43 (A : Args) (a : Fin 8192) (b : Fin 1) : ℝ := 1024
def r44 (A : Args) (a : Fin 8192) (b : Fin 1) : ℝ := (r42 A a b) / (r43 A a b)
def r45 (A : Args) (a : Fin 8192) (b : Fin 1024) : ℝ := (r35 A a 0)
def r46 (A : Args) (a : Fin 8192) (b : Fin 1024) : ℝ := (r31 A a b) - (r45 A a b)
def r47 (A : Args) (a : Fin 8192) (b : Fin 1) : ℝ := ep
def r48 (A : Args) (a : Fin 8192) (b : Fin 1) : ℝ := (r44 A a b) + (r47 A a b)
def r49 (A : Args) (a : Fin 8192) (b : Fin 1) : ℝ := (Real.sqrt (r48 A a b))⁻¹
theorem pos48 (A : Args) (a : Fin 8192) (b : Fin 1) : 0 < (r48 A a b) :=
  add_pos_of_nonneg_of_pos (div_nonneg (show (0 : ℝ) ≤ ∑ k : Fin 1024, _ * _ from Finset.sum_nonneg fun k _ => mul_self_nonneg _) (by show (0 : ℝ) ≤ 1024; norm_num)) ep_pos
def r50 (A : Args) (a : Fin 8192) (b : Fin 1) : ℝ := (r49 A a b) / (r48 A a b)
def r51 (A : Args) (a : Fin 8192) (b : Fin 1) : ℝ := -(1 / 2)
def r52 (A : Args) (a : Fin 8192) (b : Fin 1) : ℝ := (r51 A a b) * (r50 A a b)
def r53 (A : Args) (a : Fin 8192) (b : Fin 1024) : ℝ := (r49 A a 0)
def r54 (A : Args) (a : Fin 8192) (b : Fin 1024) : ℝ := (r46 A a b) * (r53 A a b)
def r55 (A : Args) (a : Fin 1) (b : Fin 1024) : ℝ := (r16 A b)
def r56 (A : Args) (a : Fin 8192) (b : Fin 1024) : ℝ := (r55 A 0 b)
def r57 (A : Args) (a : Fin 8192) (b : Fin 1024) : ℝ := (r54 A a b) * (r56 A a b)
def r58 (A : Args) (a : Fin 1) (b : Fin 1024) : ℝ := (r17 A b)
def r59 (A : Args) (a : Fin 8192) (b : Fin 1024) : ℝ := (r58 A 0 b)
def r60 (A : Args) (a : Fin 8192) (b : Fin 1024) : ℝ := (r57 A a b) + (r59 A a b)
def r61 (A : Args) (a : Fin 8192) : ℝ := ∑ k : Fin 1024, (r60 A a k)
def r62 (A : Args) (a : Fin 8192) (b : Fin 1) : ℝ := (r61 A a)
def r63 (A : Args) (a : Fin 8192) (b : Fin 1) : ℝ := 1024
def r64 (A : Args) (a : Fin 8192) (b : Fin 1) : ℝ := (r62 A a b) / (r63 A a b)
def r65 (A : Args) (a : Fin 8192) (b : Fin 1024) : ℝ := (r64 A a 0)
def r66 (A : Args) (a : Fin 8192) (b : Fin 1024) : ℝ := (r60 A a b) - (r65 A a b)
def r67 (A : Args) (a : Fin 8192) (b : Fin 1024) : ℝ := (r66 A a b) * (r66 A a b)
def r68 (A : Args) (a : Fin 8192) (b : Fin 1024) : ℝ := 2
def r69 (A : Args) (a : Fin 8192) (b : Fin 1024) : ℝ := (r68 A a b) * (r66 A a b)
def r70 (A : Args) (a : Fin 8192) : ℝ := ∑ k : Fin 1024, (r67 A a k)
def r71 (A : Args) (a : Fin 8192) (b : Fin 1) : ℝ := (r70 A a)
def r72 (A : Args) (a : Fin 8192) (b : Fin 1) : ℝ := 1024
def r73 (A : Args) (a : Fin 8192) (b : Fin 1) : ℝ := (r71 A a b) / (r72 A a b)
def r74 (A : Args) (a : Fin 8192) (b : Fin 1024) : ℝ := (r64 A a 0)
def r75 (A : Args) (a : Fin 8192) (b : Fin 1024) : ℝ := (r60 A a b) - (r74 A a b)
def r76 (A : Args) (a : Fin 8192) (b : Fin 1) : ℝ := ep
def r77 (A : Args) (a : Fin 8192) (b : Fin 1) : ℝ := (r73 A a b) + (r76 A a b)
def r78 (A : Args) (a : Fin 8192) (b : Fin 1) : ℝ := (Real.sqrt (r77 A a b))⁻¹
theorem pos77 (A : Args) (a : Fin 8192) (b : Fin 1) : 0 < (r77 A a b) :=
  add_pos_of_nonneg_of_pos (div_nonneg (show (0 : ℝ) ≤ ∑ k : Fin 1024, _ * _ from Finset.sum_nonneg fun k _ => mul_self_nonneg _) (by show (0 : ℝ) ≤ 1024; norm_num)) ep_pos
def r79 (A : Args) (a : Fin 8192) (b : Fin 1) : ℝ := (r78 A a b) / (r77 A a b)
def r80 (A : Args) (a : Fin 8192) (b : Fin 1) : ℝ := -(1 / 2)
def r81 (A : Args) (a : Fin 8192) (b : Fin 1) : ℝ := (r80 A a b) * (r79 A a b)
def r82 (A : Args) (a : Fin 8192) (b : Fin 1024) : ℝ := (r78 A a 0)
def r83 (A : Args) (a : Fin 8192) (b : Fin 1024) : ℝ := (r75 A a b) * (r82 A a b)
def r84 (A : Args) (a : Fin 1) (b : Fin 1024) : ℝ := (r5 A b)
def r85 (A : Args) (a : Fin 1) (b : Fin 1024) : ℝ := 1
def r86 (A : Args) (a : Fin 1) (b : Fin 1024) : ℝ := (r85 A a b) + (r84 A a b)
def r87 (A : Args) (a : Fin 8192) (b : Fin 1024) : ℝ := (r86 A 0 b)
def r88 (A : Args) (a : Fin 8192) (b : Fin 1024) : ℝ := (r83 A a b) * (r87 A a b)
def r89 (A : Args) (a : Fin 1) (b : Fin 1024) : ℝ := (r4 A b)
def r90 (A : Args) (a : Fin 8192) (b : Fin 1024) : ℝ := (r89 A 0 b)
def r91 (A : Args) (a : Fin 8192) (b : Fin 1024) : ℝ := (r88 A a b) + (r90 A a b)
def r92 (A : Args) (a : Fin 8192) (b : Fin 4096) : ℝ := ∑ k : Fin 1024, (r91 A a k) * (r11 A k b)
def r93 (A : Args) (a : Fin 8192) (b : Fin 4096) : ℝ := (r92 A a b) + (r21 A a b)
def r_call0_v0 (A : Args) (a : Fin 8192) (b : Fin 4096) : ℝ := 0
def r94 (A : Args) (a : Fin 8192) (b : Fin 4096) : ℝ := max (r93 A a b) (r_call0_v0 A a b)
def r95 (A : Args) (a : Fin 8192) (b : Fin 4096) : ℝ := 0
def r98 (A : Args) (a : Fin 8192) (b : Fin 4096) : ℝ := (r94 A a b) * (r94 A a b)
def r99 (A : Args) (a : Fin 8192) (b : Fin 4096) : ℝ := 2
def r100 (A : Args) (a : Fin 8192) (b : Fin 4096) : ℝ := (r99 A a b) * (r94 A a b)
def r101 (A : Args) (a : Fin 8192) (b : Fin 1024) : ℝ := ∑ k : Fin 4096, (r98 A a k) * (r13 A k b)
def r102 (A : Args) (a : Fin 8192) (b : Fin 1024) : ℝ := (r101 A a b) + (r22 A a b)
def r103 (A : Args) (a : Fin 8192) (b : Fin 1024) : ℝ := al
def r104 (A : Args) (a : Fin 8192) (b : Fin 1024) : ℝ := (r103 A a b) * (r60 A a b)
def r105 (A : Args) (a : Fin 1) (b : Fin 1024) : ℝ := (r6 A b)
def r106 (A : Args) (a : Fin 8192) (b : Fin 1024) : ℝ := (r105 A 0 b)
def r107 (A : Args) (a : Fin 8192) (b : Fin 1024) : ℝ := (r106 A a b) * (r102 A a b)
def r108 (A : Args) (a : Fin 8192) (b : Fin 1024) : ℝ := (r104 A a b) + (r107 A a b)
def r109 (A : Args) (a : Fin 8192) : ℝ := ∑ k : Fin 1024, (r108 A a k)
def r110 (A : Args) (a : Fin 8192) (b : Fin 1) : ℝ := (r109 A a)
def r111 (A : Args) (a : Fin 8192) (b : Fin 1) : ℝ := 1024
def r112 (A : Args) (a : Fin 8192) (b : Fin 1) : ℝ := (r110 A a b) / (r111 A a b)
def r113 (A : Args) (a : Fin 8192) (b : Fin 1024) : ℝ := (r112 A a 0)
def r114 (A : Args) (a : Fin 8192) (b : Fin 1024) : ℝ := (r108 A a b) - (r113 A a b)
def r115 (A : Args) (a : Fin 8192) (b : Fin 1024) : ℝ := (r114 A a b) * (r114 A a b)
def r116 (A : Args) (a : Fin 8192) (b : Fin 1024) : ℝ := 2
def r117 (A : Args) (a : Fin 8192) (b : Fin 1024) : ℝ := (r116 A a b) * (r114 A a b)
def r118 (A : Args) (a : Fin 8192) : ℝ := ∑ k : Fin 1024, (r115 A a k)
def r119 (A : Args) (a : Fin 8192) (b : Fin 1) : ℝ := (r118 A a)
def r120 (A : Args) (a : Fin 8192) (b : Fin 1) : ℝ := 1024
def r121 (A : Args) (a : Fin 8192) (b : Fin 1) : ℝ := (r119 A a b) / (r120 A a b)
def r122 (A : Args) (a : Fin 8192) (b : Fin 1024) : ℝ := (r112 A a 0)
def r123 (A : Args) (a : Fin 8192) (b : Fin 1024) : ℝ := (r108 A a b) - (r122 A a b)
def r124 (A : Args) (a : Fin 8192) (b : Fin 1) : ℝ := ep
def r125 (A : Args) (a : Fin 8192) (b : Fin 1) : ℝ := (r121 A a b) + (r124 A a b)
def r126 (A : Args) (a : Fin 8192) (b : Fin 1) : ℝ := (Real.sqrt (r125 A a b))⁻¹
theorem pos125 (A : Args) (a : Fin 8192) (b : Fin 1) : 0 < (r125 A a b) :=
  add_pos_of_nonneg_of_pos (div_nonneg (show (0 : ℝ) ≤ ∑ k : Fin 1024, _ * _ from Finset.sum_nonneg fun k _ => mul_self_nonneg _) (by show (0 : ℝ) ≤ 1024; norm_num)) ep_pos
def r127 (A : Args) (a : Fin 8192) (b : Fin 1) : ℝ := (r126 A a b) / (r125 A a b)
def r128 (A : Args) (a : Fin 8192) (b : Fin 1) : ℝ := -(1 / 2)
def r129 (A : Args) (a : Fin 8192) (b : Fin 1) : ℝ := (r128 A a b) * (r127 A a b)
def r130 (A : Args) (a : Fin 8192) (b : Fin 1024) : ℝ := (r126 A a 0)
def r131 (A : Args) (a : Fin 8192) (b : Fin 1024) : ℝ := (r123 A a b) * (r130 A a b)
def r132 (A : Args) (a : Fin 1) (b : Fin 1024) : ℝ := (r18 A b)
def r133 (A : Args) (a : Fin 8192) (b : Fin 1024) : ℝ := (r132 A 0 b)
def r134 (A : Args) (a : Fin 8192) (b : Fin 1024) : ℝ := (r131 A a b) * (r133 A a b)
def r135 (A : Args) (a : Fin 1) (b : Fin 1024) : ℝ := (r19 A b)
def r136 (A : Args) (a : Fin 8192) (b : Fin 1024) : ℝ := (r135 A 0 b)
def r137 (A : Args) (a : Fin 8192) (b : Fin 1024) : ℝ := (r134 A a b) + (r136 A a b)
def r138 (A : Args) (a : Fin 8192) (b : Fin 1024) : ℝ := (r137 A a b) - (r23 A a b)
def r139 (A : Args) (a : Fin 8192) (b : Fin 1024) : ℝ := (r138 A a b) * (r138 A a b)
def r140 (A : Args) (a : Fin 8192) (b : Fin 1024) : ℝ := 2
def r141 (A : Args) (a : Fin 8192) (b : Fin 1024) : ℝ := (r140 A a b) * (r138 A a b)
def r147 (A : Args) (a : Fin 1024) : ℝ := ∑ k : Fin 8192, (r139 A k a)
def r148 (A : Args) : ℝ := 1 / 2 * 1
def r149 (A : Args) (a : Fin 8192) : ℝ := (r148 A)
def r150 (A : Args) (a : Fin 8192) : ℝ := 1024
def r151 (A : Args) (a : Fin 8192) : ℝ := (r149 A a) / (r150 A a)
def r152 (A : Args) (a : Fin 8192) (b : Fin 1024) : ℝ := (r151 A a)
def r153 (A : Args) (a : Fin 8192) (b : Fin 1024) : ℝ := (r152 A a b) * (r141 A a b)
def r154 (A : Args) (a : Fin 1024) : ℝ := ∑ k : Fin 8192, (r153 A k a)
def r155 (A : Args) (a : Fin 1) (b : Fin 1024) : ℝ := (r154 A b)
def r156 (A : Args) (a : Fin 1024) : ℝ := ∑ k : Fin 1, (r155 A k a)
def r157 (A : Args) (a : Fin 8192) (b : Fin 1024) : ℝ := (r131 A a b) * (r153 A a b)
def r158 (A : Args) (a : Fin 1024) : ℝ := ∑ k : Fin 8192, (r157 A k a)
def r159 (A : Args) (a : Fin 1) (b : Fin 1024) : ℝ := (r158 A b)
def r160 (A : Args) (a : Fin 8192) (b : Fin 1024) : ℝ := (r132 A 0 b)
def r161 (A : Args) (a : Fin 8192) (b : Fin 1024) : ℝ := (r153 A a b) * (r160 A a b)
def r162 (A : Args) (a : Fin 1024) : ℝ := ∑ k : Fin 1, (r159 A k a)
def r163 (A : Args) (a : Fin 8192) (b : Fin 1024) : ℝ := (r123 A a b) * (r161 A a b)
def r164 (A : Args) (a : Fin 8192) : ℝ := ∑ k : Fin 1024, (r163 A a k)
def r165 (A : Args) (a : Fin 8192) (b : Fin 1) : ℝ := (r164 A a)
def r166 (A : Args) (a : Fin 8192) (b : Fin 1024) : ℝ := (r126 A a 0)
def r167 (A : Args) (a : Fin 8192) (b : Fin 1024) : ℝ := (r161 A a b) * (r166 A a b)
def r168 (A : Args) (a : Fin 8192) (b : Fin 1) : ℝ := (r165 A a b) * (r129 A a b)
def r169 (A : Args) (a : Fin 8192) (b : Fin 1024) : ℝ := -(r167 A a b)
def r170 (A : Args) (a : Fin 8192) : ℝ := ∑ k : Fin 1024, (r169 A a k)
def r171 (A : Args) (a : Fin 8192) (b : Fin 1) : ℝ := (r170 A a)
def r172 (A : Args) (a : Fin 8192) (b : Fin 1) : ℝ := 1024
def r173 (A : Args) (a : Fin 8192) (b : Fin 1) : ℝ := (r168 A a b) / (r172 A a b)
def r174 (A : Args) (a : Fin 8192) : ℝ := ∑ k : Fin 1, (r173 A a k)
def r175 (A : Args) (a : Fin 8192) (b : Fin 1024) : ℝ := (r174 A a)
def r176 (A : Args) (a : Fin 8192) (b : Fin 1024) : ℝ := (r175 A a b) * (r117 A a b)
def r177 (A : Args) (a : Fin 8192) (b : Fin 1024) : ℝ := -(r176 A a b)
def r178 (A : Args) (a : Fin 8192) : ℝ := ∑ k : Fin 1024, (r177 A a k)
def r179 (A : Args) (a : Fin 8192) (b : Fin 1) : ℝ := (r178 A a)
def r180 (A : Args) (a : Fin 8192) (b : Fin 1024) : ℝ := (r167 A a b) + (r176 A a b)
def r181 (A : Args) (a : Fin 8192) (b : Fin 1) : ℝ := (r171 A a b) + (r179 A a b)
def r182 (A : Args) (a : Fin 8192) (b : Fin 1) : ℝ := 1024
def r183 (A : Args) (a : Fin 8192) (b : Fin 1) : ℝ := (r181 A a b) / (r182 A a b)
def r184 (A : Args) (a : Fin 8192) : ℝ := ∑ k : Fin 1, (r183 A a k)
def r185 (A : Args) (a : Fin 8192) (b : Fin 1024) : ℝ := (r184 A a)
def r186 (A : Args) (a : Fin 8192) (b : Fin 1024) : ℝ := (r180 A a b) + (r185 A a b)
def r187 (A : Args) (a : Fin 8192) (b : Fin 1024) : ℝ := (r105 A 0 b)
def r188 (A : Args) (a : Fin 8192) (b : Fin 1024) : ℝ := (r187 A a b) * (r186 A a b)
def r189 (A : Args) (a : Fin 8192) (b : Fin 1024) : ℝ := (r186 A a b) * (r102 A a b)
def r190 (A : Args) (a : Fin 1024) : ℝ := ∑ k : Fin 8192, (r189 A k a)
def r191 (A : Args) (a : Fin 1) (b : Fin 1024) : ℝ := (r190 A b)
def r192 (A : Args) (a : Fin 1024) : ℝ := ∑ k : Fin 1, (r191 A k a)
def r193 (A : Args) (a : Fin 8192) (b : Fin 1024) : ℝ := al
def r194 (A : Args) (a : Fin 8192) (b : Fin 1024) : ℝ := (r193 A a b) * (r186 A a b)
def r195 (A : Args) (a : Fin 8192) (b : Fin 4096) : ℝ := ∑ k : Fin 1024, (r188 A a k) * (r13 A b k)
def r196 (A : Args) (a : Fin 8192) (b : Fin 4096) : ℝ := (r195 A a b) * (r100 A a b)
def r197 (A : Args) (a : Fin 8192) (b : Fin 4096) : ℝ := 0
def r198 (A : Args) (a : Fin 8192) (b : Fin 4096) : ℝ := if (r95 A a b) < (r93 A a b) then (r196 A a b) else (r197 A a b)
def r199 (A : Args) (a : Fin 8192) (b : Fin 1024) : ℝ := ∑ k : Fin 4096, (r198 A a k) * (r11 A b k)
def r200 (A : Args) (a : Fin 1024) : ℝ := ∑ k : Fin 8192, (r199 A k a)
def r201 (A : Args) (a : Fin 1) (b : Fin 1024) : ℝ := (r200 A b)
def r202 (A : Args) (a : Fin 1024) : ℝ := ∑ k : Fin 1, (r201 A k a)
def r203 (A : Args) (a : Fin 8192) (b : Fin 1024) : ℝ := (r83 A a b) * (r199 A a b)
def r204 (A : Args) (a : Fin 1024) : ℝ := ∑ k : Fin 8192, (r203 A k a)
def r205 (A : Args) (a : Fin 1) (b : Fin 1024) : ℝ := (r204 A b)
def r206 (A : Args) (a : Fin 8192) (b : Fin 1024) : ℝ := (r86 A 0 b)
def r207 (A : Args) (a : Fin 8192) (b : Fin 1024) : ℝ := (r199 A a b) * (r206 A a b)
def r208 (A : Args) (a : Fin 1024) : ℝ := ∑ k : Fin 1, (r205 A k a)
def r209 (A : Args) (a : Fin 8192) (b : Fin 1024) : ℝ := (r75 A a b) * (r207 A a b)
def r210 (A : Args) (a : Fin 8192) : ℝ := ∑ k : Fin 1024, (r209 A a k)
def r211 (A : Args) (a : Fin 8192) (b : Fin 1) : ℝ := (r210 A a)
def r212 (A : Args) (a : Fin 8192) (b : Fin 1024) : ℝ := (r78 A a 0)
def r213 (A : Args) (a : Fin 8192) (b : Fin 1024) : ℝ := (r207 A a b) * (r212 A a b)
def r214 (A : Args) (a : Fin 8192) (b : Fin 1) : ℝ := (r211 A a b) * (r81 A a b)
def r215 (A : Args) (a : Fin 8192) (b : Fin 1024) : ℝ := -(r213 A a b)
def r216 (A : Args) (a : Fin 8192) : ℝ := ∑ k : Fin 1024, (r215 A a k)
def r217 (A : Args) (a : Fin 8192) (b : Fin 1) : ℝ := (r216 A a)
def r218 (A : Args) (a : Fin 8192) (b : Fin 1024) : ℝ := (r194 A a b) + (r213 A a b)
def r219 (A : Args) (a : Fin 8192) (b : Fin 1) : ℝ := 1024
def r220 (A : Args) (a : Fin 8192) (b : Fin 1) : ℝ := (r214 A a b) / (r219 A a b)
def r221 (A : Args) (a : Fin 8192) : ℝ := ∑ k : Fin 1, (r220 A a k)
def r222 (A : Args) (a : Fin 8192) (b : Fin 1024) : ℝ := (r221 A a)
def r223 (A : Args) (a : Fin 8192) (b : Fin 1024) : ℝ := (r222 A a b) * (r69 A a b)
def r224 (A : Args) (a : Fin 8192) (b : Fin 1024) : ℝ := -(r223 A a b)
def r225 (A : Args) (a : Fin 8192) : ℝ := ∑ k : Fin 1024, (r224 A a k)
def r226 (A : Args) (a : Fin 8192) (b : Fin 1) : ℝ := (r225 A a)
def r227 (A : Args) (a : Fin 8192) (b : Fin 1024) : ℝ := (r218 A a b) + (r223 A a b)
def r228 (A : Args) (a : Fin 8192) (b : Fin 1) : ℝ := (r217 A a b) + (r226 A a b)
def r229 (A : Args) (a : Fin 8192) (b : Fin 1) : ℝ := 1024
def r230 (A : Args) (a : Fin 8192) (b : Fin 1) : ℝ := (r228 A a b) / (r229 A a b)
def r231 (A : Args) (a : Fin 8192) : ℝ := ∑ k : Fin 1, (r230 A a k)
def r232 (A : Args) (a : Fin 8192) (b : Fin 1024) : ℝ := (r231 A a)
def r233 (A : Args) (a : Fin 8192) (b : Fin 1024) : ℝ := (r227 A a b) + (r232 A a b)
def r234 (A : Args) (a : Fin 1024) : ℝ := ∑ k : Fin 8192, (r233 A k a)
def r235 (A : Args) (a : Fin 1) (b : Fin 1024) : ℝ := (r234 A b)
def r236 (A : Args) (a : Fin 1024) : ℝ := ∑ k : Fin 1, (r235 A k a)
def r237 (A : Args) (a : Fin 8192) (b : Fin 1024) : ℝ := (r54 A a b) * (r233 A a b)
def r238 (A : Args) (a : Fin 1024) : ℝ := ∑ k : Fin 8192, (r237 A k a)
def r239 (A : Args) (a : Fin 1) (b : Fin 1024) : ℝ := (r238 A b)
def r240 (A : Args) (a : Fin 8192) (b : Fin 1024) : ℝ := (r55 A 0 b)
def r241 (A : Args) (a : Fin 8192) (b : Fin 1024) : ℝ := (r233 A a b) * (r240 A a b)
def r242 (A : Args) (a : Fin 1024) : ℝ := ∑ k : Fin 1, (r239 A k a)
def r243 (A : Args) (a : Fin 8192) (b : Fin 1024) : ℝ := (r46 A a b) * (r241 A a b)
def r244 (A : Args) (a : Fin 8192) : ℝ := ∑ k : Fin 1024, (r243 A a k)
def r245 (A : Args) (a : Fin 8192) (b : Fin 1) : ℝ := (r244 A a)
def r246 (A : Args) (a : Fin 8192) (b : Fin 1024) : ℝ := (r49 A a 0)
def r247 (A : Args) (a : Fin 8192) (b : Fin 1024) : ℝ := (r241 A a b) * (r246 A a b)
def r248 (A : Args) (a : Fin 8192) (b : Fin 1) : ℝ := (r245 A a b) * (r52 A a b)
def r249 (A : Args) (a : Fin 8192) (b : Fin 1024) : ℝ := -(r247 A a b)
def r250 (A : Args) (a : Fin 8192) : ℝ := ∑ k : Fin 1024, (r249 A a k)
def r251 (A : Args) (a : Fin 8192) (b : Fin 1) : ℝ := (r250 A a)
def r252 (A : Args) (a : Fin 8192) (b : Fin 1) : ℝ := 1024
def r253 (A : Args) (a : Fin 8192) (b : Fin 1) : ℝ := (r248 A a b) / (r252 A a b)
def r254 (A : Args) (a : Fin 8192) : ℝ := ∑ k : Fin 1, (r253 A a k)
def r255 (A : Args) (a : Fin 8192) (b : Fin 1024) : ℝ := (r254 A a)
def r256 (A : Args) (a : Fin 8192) (b : Fin 1024) : ℝ := (r255 A a b) * (r40 A a b)
def r257 (A : Args) (a : Fin 8192) (b : Fin 1024) : ℝ := -(r256 A a b)
def r258 (A : Args) (a : Fin 8192) : ℝ := ∑ k : Fin 1024, (r257 A a k)
def r259 (A : Args) (a : Fin 8192) (b : Fin 1) : ℝ := (r258 A a)
def r260 (A : Args) (a : Fin 8192) (b : Fin 1024) : ℝ := (r247 A a b) + (r256 A a b)
def r261 (A : Args) (a : Fin 8192) (b : Fin 1) : ℝ := (r251 A a b) + (r259 A a b)
def r262 (A : Args) (a : Fin 8192) (b : Fin 1) : ℝ := 1024
def r263 (A : Args) (a : Fin 8192) (b : Fin 1) : ℝ := (r261 A a b) / (r262 A a b)
def r264 (A : Args) (a : Fin 8192) : ℝ := ∑ k : Fin 1, (r263 A a k)
def r265 (A : Args) (a : Fin 8192) (b : Fin 1024) : ℝ := (r264 A a)
def r266 (A : Args) (a : Fin 8192) (b : Fin 1024) : ℝ := (r260 A a b) + (r265 A a b)
def r267 (A : Args) (a : Fin 8192) (b : Fin 1024) : ℝ := (r28 A 0 b)
def r268 (A : Args) (a : Fin 8192) (b : Fin 1024) : ℝ := (r267 A a b) * (r266 A a b)
def r269 (A : Args) (a : Fin 8192) (b : Fin 1024) : ℝ := (r266 A a b) * (r25 A a b)
def r270 (A : Args) (a : Fin 1024) : ℝ := ∑ k : Fin 8192, (r269 A k a)
def r271 (A : Args) (a : Fin 1) (b : Fin 1024) : ℝ := (r270 A b)
def r272 (A : Args) (a : Fin 1024) : ℝ := ∑ k : Fin 1, (r271 A k a)
def r273 (A : Args) (a : Fin 8192) (b : Fin 1024) : ℝ := al
def r274 (A : Args) (a : Fin 8192) (b : Fin 1024) : ℝ := (r273 A a b) * (r266 A a b)
def r275 (A : Args) (a : Fin 8192) (b : Fin 1024) : ℝ := ∑ k : Fin 1024, (r268 A a k) * (r8 A b k)
def r276 (A : Args) (a : Fin 1) (b : Fin 1024) : ℝ := (r272 A b)
def r277 (A : Args) (a : Fin 1) (b : Fin 1024) : ℝ := (r208 A b)
def r278 (A : Args) (a : Fin 1) (b : Fin 1024) : ℝ := (r202 A b)
def r279 (A : Args) (a : Fin 1) (b : Fin 1024) : ℝ := (r192 A b)
def r280 (A : Args) (a : Fin 1) (b : Fin 1024) : ℝ := (r242 A b)
def r281 (A : Args) (a : Fin 1) (b : Fin 1024) : ℝ := (r236 A b)
def r282 (A : Args) (a : Fin 1) (b : Fin 1024) : ℝ := (r162 A b)
def r283 (A : Args) (a : Fin 1) (b : Fin 1024) : ℝ := (r156 A b)
def r284 (A : Args) (a : Fin 1) (b : Fin 1024) : ℝ := (r147 A b)
def r288 (A : Args) (a : Fin 8192) (b : Fin 4096) : ℝ := (r98 A a b)
def r289 (A : Args) (a : Fin 8192) (b : Fin 4096) : ℝ := (r198 A a b)
def r290 (A : Args) (a : Fin 8192) (b : Fin 1024) : ℝ := (r91 A a b)
def r291 (A : Args) (a : Fin 8192) (b : Fin 1024) : ℝ := (r188 A a b)
def r292 (A : Args) (a : Fin 8192) (b : Fin 1024) : ℝ := (r268 A a b)

end Cert.Ref
-- ==== Proof.ArgArrays.lean ====
/- The argument arrays of the two programs whose entries are the real numbers of `Args`. -/
module

public import proofs.«01_k».proof.ReferenceIdeal
public import proofs.«01_k».proof.Proof.Args
public import Idealize.ShloMosaic.PureOps.Ideal

@[expose] public section

noncomputable section

namespace Cert.Step

open Idealize.ShloMosaic Cert.ReferenceIdeal

def a0 (A : Args) : (⟨S1x8192x1024, .f32⟩ : BufTy).Contents (Elt Ideal) := fun i => ((A.x (i 1) (i 2) : ℝ) : EReal)
def a1 (A : Args) : (⟨S8192x1024, .bf16⟩ : BufTy).Contents (Elt Ideal) := fun i => ((A.mx (i 0) (i 1) : ℝ) : EReal)
def a2 (A : Args) : (⟨S1x8192x1024, .f32⟩ : BufTy).Contents (Elt Ideal) := fun i => ((A.tg (i 1) (i 2) : ℝ) : EReal)
def a3 (A : Args) : (⟨S1x6144, .f32⟩ : BufTy).Contents (Elt Ideal) := fun i => ((A.md (i 1) : ℝ) : EReal)
def a4 (A : Args) : (⟨S1x1024, .f32⟩ : BufTy).Contents (Elt Ideal) := fun i => ((A.l1w (i 1) : ℝ) : EReal)
def a5 (A : Args) : (⟨S1x1024, .f32⟩ : BufTy).Contents (Elt Ideal) := fun i => ((A.l1b (i 1) : ℝ) : EReal)
def a6 (A : Args) : (⟨S1x1024, .f32⟩ : BufTy).Contents (Elt Ideal) := fun i => ((A.l2w (i 1) : ℝ) : EReal)
def a7 (A : Args) : (⟨S1x1024, .f32⟩ : BufTy).Contents (Elt Ideal) := fun i => ((A.l2b (i 1) : ℝ) : EReal)
def a8 (A : Args) : (⟨S4x256x1024, .bf16⟩ : BufTy).Contents (Elt Ideal) :=
  fun i => ((A.wo (i 0) (i 1) (i 2) : ℝ) : EReal)
def a9 (A : Args) : (⟨S4x1024x1024, .bf16⟩ : BufTy).Contents (Elt Ideal) :=
  fun i => ((A.w1 (i 0) (i 1) (i 2) : ℝ) : EReal)
def a10 (A : Args) : (⟨S4x1024x1024, .bf16⟩ : BufTy).Contents (Elt Ideal) :=
  fun i => ((A.w2 (i 0) (i 1) (i 2) : ℝ) : EReal)

end Cert.Step
-- ==== Proof.RefVal.lean ====
/- The reference at real arguments: `e<n>` says that the `n`-th value of the reference is the real array `r<n>`. -/
module

public import proofs.«01_k».proof.Proof.Gen.ReferenceIdeal.Read
public import proofs.«01_k».proof.Proof.RefReal
public import proofs.«01_k».proof.Proof.ArgArrays

@[expose] public section

set_option maxRecDepth 16384

noncomputable section

namespace Cert.Ref

open Cert.ReferenceIdeal Cert.ReferenceIdeal.Read Cert.ReferenceIdeal.Gen Idealize.ShloMosaic Cert.Coe Cert.Step

theorem e0 (A : Args) (i : S6144.Idx) : val_main_v0 (F := Ideal) (a3 A) i = (((r0 A (i 0)) : ℝ) : EReal) := (val_main_v0_apply (a3 A) i).trans (congrArg (fun (q1 : Fin 6144) => (((A.md q1) : ℝ) : EReal)) (Fin.ext (by have h0 : (i 0).val < 6144 := (i 0).isLt; show ((i 0).val) % 6144 = (i 0).val; omega)))
theorem e3 (A : Args) (i : S1024.Idx) : val_main_v3 (F := Ideal) (a3 A) i = (((r3 A (i 0)) : ℝ) : EReal) := (val_main_v3_apply (a3 A) i).trans (e0 A _)
theorem e4 (A : Args) (i : S1024.Idx) : val_main_v4 (F := Ideal) (a3 A) i = (((r4 A (i 0)) : ℝ) : EReal) := (val_main_v4_apply (a3 A) i).trans (e0 A _)
theorem e5 (A : Args) (i : S1024.Idx) : val_main_v5 (F := Ideal) (a3 A) i = (((r5 A (i 0)) : ℝ) : EReal) := (val_main_v5_apply (a3 A) i).trans (e0 A _)
theorem e6 (A : Args) (i : S1024.Idx) : val_main_v6 (F := Ideal) (a3 A) i = (((r6 A (i 0)) : ℝ) : EReal) := (val_main_v6_apply (a3 A) i).trans (e0 A _)
theorem e7 (A : Args) (i : S4x256x1024.Idx) : val_main_v7 (F := Ideal) (a8 A) i = (((r7 A (i 0) (i 1) (i 2)) : ℝ) : EReal) := (val_main_v7_apply (a8 A) i).trans rfl
theorem e8 (A : Args) (i : S1024x1024.Idx) : val_main_v8 (F := Ideal) (a8 A) i = (((r8 A (i 0) (i 1)) : ℝ) : EReal) := (val_main_v8_apply (a8 A) i).trans (e7 A _)
theorem e9 (A : Args) (i : S4x1024x1024.Idx) : val_main_v9 (F := Ideal) (a9 A) i = (((r9 A (i 0) (i 1) (i 2)) : ℝ) : EReal) := (val_main_v9_apply (a9 A) i).trans rfl
theorem e10 (A : Args) (i : S1024x4x1024.Idx) : val_main_v10 (F := Ideal) (a9 A) i = (((r10 A (i 0) (i 1) (i 2)) : ℝ) : EReal) := (val_main_v10_apply (a9 A) i).trans (e9 A _)
theorem e11 (A : Args) (i : S1024x4096.Idx) : val_main_v11 (F := Ideal) (a9 A) i = (((r11 A (i 0) (i 1)) : ℝ) : EReal) := (val_main_v11_apply (a9 A) i).trans (e10 A _)
theorem e12 (A : Args) (i : S4x1024x1024.Idx) : val_main_v12 (F := Ideal) (a10 A) i = (((r12 A (i 0) (i 1) (i 2)) : ℝ) : EReal) := (val_main_v12_apply (a10 A) i).trans rfl
theorem e13 (A : Args) (i : S4096x1024.Idx) : val_main_v13 (F := Ideal) (a10 A) i = (((r13 A (i 0) (i 1)) : ℝ) : EReal) := (val_main_v13_apply (a10 A) i).trans (e12 A _)
theorem e14 (A : Args) (i : S8192x1024.Idx) : val_main_v14 (F := Ideal) (a0 A) i = (((r14 A (i 0) (i 1)) : ℝ) : EReal) := (val_main_v14_apply (a0 A) i).trans (congrArg₂ (fun (q1 : Fin 8192) (q2 : Fin 1024) => (((A.x q1 q2) : ℝ) : EReal)) (Fin.ext (by have h0 : (i 0).val < 8192 := (i 0).isLt; have h1 : (i 1).val < 1024 := (i 1).isLt; show ((i 0).val * 1024 + (i 1).val) / 1024 % 8192 = (i 0).val; omega)) (Fin.ext (by have h0 : (i 0).val < 8192 := (i 0).isLt; have h1 : (i 1).val < 1024 := (i 1).isLt; show ((i 0).val * 1024 + (i 1).val) % 1024 = (i 1).val; omega)))
theorem e15 (A : Args) (i : S8192x1024.Idx) : val_main_v15 (F := Ideal) (a1 A) i = (((r15 A (i 0) (i 1)) : ℝ) : EReal) := (val_main_v15_apply (a1 A) i).trans rfl
theorem e16 (A : Args) (i : S1024.Idx) : val_main_v16 (F := Ideal) (a4 A) i = (((r16 A (i 0)) : ℝ) : EReal) := (val_main_v16_apply (a4 A) i).trans (congrArg (fun (q1 : Fin 1024) => (((A.l1w q1) : ℝ) : EReal)) (Fin.ext (by have h0 : (i 0).val < 1024 := (i 0).isLt; show ((i 0).val) % 1024 = (i 0).val; omega)))
theorem e17 (A : Args) (i : S1024.Idx) : val_main_v17 (F := Ideal) (a5 A) i = (((r17 A (i 0)) : ℝ) : EReal) := (val_main_v17_apply (a5 A) i).trans (congrArg (fun (q1 : Fin 1024) => (((A.l1b q1) : ℝ) : EReal)) (Fin.ext (by have h0 : (i 0).val < 1024 := (i 0).isLt; show ((i 0).val) % 1024 = (i 0).val; omega)))
theorem e18 (A : Args) (i : S1024.Idx) : val_main_v18 (F := Ideal) (a6 A) i = (((r18 A (i 0)) : ℝ) : EReal) := (val_main_v18_apply (a6 A) i).trans (congrArg (fun (q1 : Fin 1024) => (((A.l2w q1) : ℝ) : EReal)) (Fin.ext (by have h0 : (i 0).val < 1024 := (i 0).isLt; show ((i 0).val) % 1024 = (i 0).val; omega)))
theorem e19 (A : Args) (i : S1024.Idx) : val_main_v19 (F := Ideal) (a7 A) i = (((r19 A (i 0)) : ℝ) : EReal) := (val_main_v19_apply (a7 A) i).trans (congrArg (fun (q1 : Fin 1024) => (((A.l2b q1) : ℝ) : EReal)) (Fin.ext (by have h0 : (i 0).val < 1024 := (i 0).isLt; show ((i 0).val) % 1024 = (i 0).val; omega)))
theorem e_cst (i : S_.Idx) : val_main_cst (F := Ideal) i = ((0 : ℝ) : EReal) := (val_main_cst_apply i).trans c_zero
theorem e20 (A : Args) (i : S8192x1024.Idx) : val_main_v20 (F := Ideal) i = (((r20 A (i 0) (i 1)) : ℝ) : EReal) := (val_main_v20_apply i).trans (e_cst _)
theorem e_cst_0 (i : S_.Idx) : val_main_cst_0 (F := Ideal) i = ((0 : ℝ) : EReal) := (val_main_cst_0_apply i).trans c_zero
theorem e21 (A : Args) (i : S8192x4096.Idx) : val_main_v21 (F := Ideal) i = (((r21 A (i 0) (i 1)) : ℝ) : EReal) := (val_main_v21_apply i).trans (e_cst_0 _)
theorem e_cst_1 (i : S_.Idx) : val_main_cst_1 (F := Ideal) i = ((0 : ℝ) : EReal) := (val_main_cst_1_apply i).trans c_zero
theorem e22 (A : Args) (i : S8192x1024.Idx) : val_main_v22 (F := Ideal) i = (((r22 A (i 0) (i 1)) : ℝ) : EReal) := (val_main_v22_apply i).trans (e_cst_1 _)
theorem e23 (A : Args) (i : S8192x1024.Idx) : val_main_v23 (F := Ideal) (a2 A) i = (((r23 A (i 0) (i 1)) : ℝ) : EReal) := (val_main_v23_apply (a2 A) i).trans (congrArg₂ (fun (q1 : Fin 8192) (q2 : Fin 1024) => (((A.tg q1 q2) : ℝ) : EReal)) (Fin.ext (by have h0 : (i 0).val < 8192 := (i 0).isLt; have h1 : (i 1).val < 1024 := (i 1).isLt; show ((i 0).val * 1024 + (i 1).val) / 1024 % 8192 = (i 0).val; omega)) (Fin.ext (by have h0 : (i 0).val < 8192 := (i 0).isLt; have h1 : (i 1).val < 1024 := (i 1).isLt; show ((i 0).val * 1024 + (i 1).val) % 1024 = (i 1).val; omega)))
theorem e24 (A : Args) (i : S8192x1024.Idx) : val_main_v24 (F := Ideal) (a1 A) (a8 A) i = (((r24 A (i 0) (i 1)) : ℝ) : EReal) :=
  (val_main_v24_apply (a1 A) (a8 A) i).trans ((Finset.sum_congr rfl fun k _ =>
    (congrArg₂ (fun p q : EReal => p * q) (e15 A _) (e8 A _)).trans (mul_c _ _)).trans (sum_c _))
theorem e25 (A : Args) (i : S8192x1024.Idx) : val_main_v25 (F := Ideal) (a1 A) (a8 A) i = (((r25 A (i 0) (i 1)) : ℝ) : EReal) := (val_main_v25_apply (a1 A) (a8 A) i).trans ((congrArg₂ (fun p q : EReal => p + q) (e24 A i) (e20 A i)).trans (add_c _ _))
theorem e_cst_2 (i : S_.Idx) : val_main_cst_2 (F := Ideal) i = ((al : ℝ) : EReal) := (val_main_cst_2_apply i).trans c_al
theorem e26 (A : Args) (i : S8192x1024.Idx) : val_main_v26 (F := Ideal) i = (((r26 A (i 0) (i 1)) : ℝ) : EReal) := (val_main_v26_apply i).trans (e_cst_2 _)
theorem e27 (A : Args) (i : S8192x1024.Idx) : val_main_v27 (F := Ideal) (a0 A) i = (((r27 A (i 0) (i 1)) : ℝ) : EReal) := (val_main_v27_apply (a0 A) i).trans ((congrArg₂ (fun p q : EReal => p * q) (e26 A i) (e14 A i)).trans (mul_c _ _))
theorem e28 (A : Args) (i : S1x1024.Idx) : val_main_v28 (F := Ideal) (a3 A) i = (((r28 A (i 0) (i 1)) : ℝ) : EReal) := (val_main_v28_apply (a3 A) i).trans (e3 A _)
theorem e29 (A : Args) (i : S8192x1024.Idx) : val_main_v29 (F := Ideal) (a3 A) i = (((r29 A (i 0) (i 1)) : ℝ) : EReal) := (val_main_v29_apply (a3 A) i).trans (e28 A _)
theorem e30 (A : Args) (i : S8192x1024.Idx) : val_main_v30 (F := Ideal) (a1 A) (a3 A) (a8 A) i = (((r30 A (i 0) (i 1)) : ℝ) : EReal) := (val_main_v30_apply (a1 A) (a3 A) (a8 A) i).trans ((congrArg₂ (fun p q : EReal => p * q) (e29 A i) (e25 A i)).trans (mul_c _ _))
theorem e31 (A : Args) (i : S8192x1024.Idx) : val_main_v31 (F := Ideal) (a0 A) (a1 A) (a3 A) (a8 A) i = (((r31 A (i 0) (i 1)) : ℝ) : EReal) := (val_main_v31_apply (a0 A) (a1 A) (a3 A) (a8 A) i).trans ((congrArg₂ (fun p q : EReal => p + q) (e27 A i) (e30 A i)).trans (add_c _ _))
theorem e_cst_3 (i : S_.Idx) : val_main_cst_3 (F := Ideal) i = ((0 : ℝ) : EReal) := (val_main_cst_3_apply i).trans c_zero
theorem e32 (A : Args) (i : S8192.Idx) : val_main_v32 (F := Ideal) (a0 A) (a1 A) (a3 A) (a8 A) i = (((r32 A (i 0)) : ℝ) : EReal) :=
  (val_main_v32_apply (a0 A) (a1 A) (a3 A) (a8 A) i).trans ((congrArg₂ (fun p q : EReal => p + q) (e_cst_3 _) ((Finset.sum_congr rfl fun k _ => e31 A _).trans (sum_c _))).trans
    (zero_add_c _))
theorem e33 (A : Args) (i : S8192x1.Idx) : val_main_v33 (F := Ideal) (a0 A) (a1 A) (a3 A) (a8 A) i = (((r33 A (i 0) (i 1)) : ℝ) : EReal) := (val_main_v33_apply (a0 A) (a1 A) (a3 A) (a8 A) i).trans (e32 A _)
theorem e_cst_4 (i : S_.Idx) : val_main_cst_4 (F := Ideal) i = ((1024 : ℝ) : EReal) := (val_main_cst_4_apply i).trans c_1024
theorem e34 (A : Args) (i : S8192x1.Idx) : val_main_v34 (F := Ideal) i = (((r34 A (i 0) (i 1)) : ℝ) : EReal) := (val_main_v34_apply i).trans (e_cst_4 _)
theorem e35 (A : Args) (i : S8192x1.Idx) : val_main_v35 (F := Ideal) (a0 A) (a1 A) (a3 A) (a8 A) i = (((r35 A (i 0) (i 1)) : ℝ) : EReal) := (val_main_v35_apply (a0 A) (a1 A) (a3 A) (a8 A) i).trans ((congrArg₂ Ideal.div (e33 A i) (e34 A i)).trans (div_c _ _ (by show (1024 : ℝ) ≠ 0; norm_num)))
theorem e36 (A : Args) (i : S8192x1024.Idx) : val_main_v36 (F := Ideal) (a0 A) (a1 A) (a3 A) (a8 A) i = (((r36 A (i 0) (i 1)) : ℝ) : EReal) := (val_main_v36_apply (a0 A) (a1 A) (a3 A) (a8 A) i).trans (e35 A _)
theorem e37 (A : Args) (i : S8192x1024.Idx) : val_main_v37 (F := Ideal) (a0 A) (a1 A) (a3 A) (a8 A) i = (((r37 A (i 0) (i 1)) : ℝ) : EReal) := (val_main_v37_apply (a0 A) (a1 A) (a3 A) (a8 A) i).trans ((congrArg₂ (fun p q : EReal => p - q) (e31 A i) (e36 A i)).trans (sub_c _ _))
theorem e38 (A : Args) (i : S8192x1024.Idx) : val_main_v38 (F := Ideal) (a0 A) (a1 A) (a3 A) (a8 A) i = (((r38 A (i 0) (i 1)) : ℝ) : EReal) := (val_main_v38_apply (a0 A) (a1 A) (a3 A) (a8 A) i).trans ((congrArg₂ (fun p q : EReal => p * q) (e37 A i) (e37 A i)).trans (mul_c _ _))
theorem e_cst_5 (i : S_.Idx) : val_main_cst_5 (F := Ideal) i = ((2 : ℝ) : EReal) := (val_main_cst_5_apply i).trans c_two
theorem e39 (A : Args) (i : S8192x1024.Idx) : val_main_v39 (F := Ideal) i = (((r39 A (i 0) (i 1)) : ℝ) : EReal) := (val_main_v39_apply i).trans (e_cst_5 _)
theorem e40 (A : Args) (i : S8192x1024.Idx) : val_main_v40 (F := Ideal) (a0 A) (a1 A) (a3 A) (a8 A) i = (((r40 A (i 0) (i 1)) : ℝ) : EReal) := (val_main_v40_apply (a0 A) (a1 A) (a3 A) (a8 A) i).trans ((congrArg₂ (fun p q : EReal => p * q) (e39 A i) (e37 A i)).trans (mul_c _ _))
theorem e_cst_6 (i : S_.Idx) : val_main_cst_6 (F := Ideal) i = ((0 : ℝ) : EReal) := (val_main_cst_6_apply i).trans c_zero
theorem e41 (A : Args) (i : S8192.Idx) : val_main_v41 (F := Ideal) (a0 A) (a1 A) (a3 A) (a8 A) i = (((r41 A (i 0)) : ℝ) : EReal) :=
  (val_main_v41_apply (a0 A) (a1 A) (a3 A) (a8 A) i).trans ((congrArg₂ (fun p q : EReal => p + q) (e_cst_6 _) ((Finset.sum_congr rfl fun k _ => e38 A _).trans (sum_c _))).trans
    (zero_add_c _))
theorem e42 (A : Args) (i : S8192x1.Idx) : val_main_v42 (F := Ideal) (a0 A) (a1 A) (a3 A) (a8 A) i = (((r42 A (i 0) (i 1)) : ℝ) : EReal) := (val_main_v42_apply (a0 A) (a1 A) (a3 A) (a8 A) i).trans (e41 A _)
theorem e_cst_7 (i : S_.Idx) : val_main_cst_7 (F := Ideal) i = ((1024 : ℝ) : EReal) := (val_main_cst_7_apply i).trans c_1024
theorem e43 (A : Args) (i : S8192x1.Idx) : val_main_v43 (F := Ideal) i = (((r43 A (i 0) (i 1)) : ℝ) : EReal) := (val_main_v43_apply i).trans (e_cst_7 _)
theorem e44 (A : Args) (i : S8192x1.Idx) : val_main_v44 (F := Ideal) (a0 A) (a1 A) (a3 A) (a8 A) i = (((r44 A (i 0) (i 1)) : ℝ) : EReal) := (val_main_v44_apply (a0 A) (a1 A) (a3 A) (a8 A) i).trans ((congrArg₂ Ideal.div (e42 A i) (e43 A i)).trans (div_c _ _ (by show (1024 : ℝ) ≠ 0; norm_num)))
theorem e45 (A : Args) (i : S8192x1024.Idx) : val_main_v45 (F := Ideal) (a0 A) (a1 A) (a3 A) (a8 A) i = (((r45 A (i 0) (i 1)) : ℝ) : EReal) := (val_main_v45_apply (a0 A) (a1 A) (a3 A) (a8 A) i).trans (e35 A _)
theorem e46 (A : Args) (i : S8192x1024.Idx) : val_main_v46 (F := Ideal) (a0 A) (a1 A) (a3 A) (a8 A) i = (((r46 A (i 0) (i 1)) : ℝ) : EReal) := (val_main_v46_apply (a0 A) (a1 A) (a3 A) (a8 A) i).trans ((congrArg₂ (fun p q : EReal => p - q) (e31 A i) (e45 A i)).trans (sub_c _ _))
theorem e_cst_8 (i : S_.Idx) : val_main_cst_8 (F := Ideal) i = ((ep : ℝ) : EReal) := (val_main_cst_8_apply i).trans c_ep
theorem e47 (A : Args) (i : S8192x1.Idx) : val_main_v47 (F := Ideal) i = (((r47 A (i 0) (i 1)) : ℝ) : EReal) := (val_main_v47_apply i).trans (e_cst_8 _)
theorem e48 (A : Args) (i : S8192x1.Idx) : val_main_v48 (F := Ideal) (a0 A) (a1 A) (a3 A) (a8 A) i = (((r48 A (i 0) (i 1)) : ℝ) : EReal) := (val_main_v48_apply (a0 A) (a1 A) (a3 A) (a8 A) i).trans ((congrArg₂ (fun p q : EReal => p + q) (e44 A i) (e47 A i)).trans (add_c _ _))
theorem e49 (A : Args) (i : S8192x1.Idx) : val_main_v49 (F := Ideal) (a0 A) (a1 A) (a3 A) (a8 A) i = (((r49 A (i 0) (i 1)) : ℝ) : EReal) := (val_main_v49_apply (a0 A) (a1 A) (a3 A) (a8 A) i).trans ((congrArg Ideal.rsqrt (e48 A i)).trans (rsqrt_c _ (pos48 A _ _)))
theorem e50 (A : Args) (i : S8192x1.Idx) : val_main_v50 (F := Ideal) (a0 A) (a1 A) (a3 A) (a8 A) i = (((r50 A (i 0) (i 1)) : ℝ) : EReal) := (val_main_v50_apply (a0 A) (a1 A) (a3 A) (a8 A) i).trans ((congrArg₂ Ideal.div (e49 A i) (e48 A i)).trans (div_c _ _ (pos48 A _ _).ne'))
theorem e_cst_9 (i : S_.Idx) : val_main_cst_9 (F := Ideal) i = ((-(1 / 2) : ℝ) : EReal) := (val_main_cst_9_apply i).trans c_mhalf
theorem e51 (A : Args) (i : S8192x1.Idx) : val_main_v51 (F := Ideal) i = (((r51 A (i 0) (i 1)) : ℝ) : EReal) := (val_main_v51_apply i).trans (e_cst_9 _)
theorem e52 (A : Args) (i : S8192x1.Idx) : val_main_v52 (F := Ideal) (a0 A) (a1 A) (a3 A) (a8 A) i = (((r52 A (i 0) (i 1)) : ℝ) : EReal) := (val_main_v52_apply (a0 A) (a1 A) (a3 A) (a8 A) i).trans ((congrArg₂ (fun p q : EReal => p * q) (e51 A i) (e50 A i)).trans (mul_c _ _))
theorem e53 (A : Args) (i : S8192x1024.Idx) : val_main_v53 (F := Ideal) (a0 A) (a1 A) (a3 A) (a8 A) i = (((r53 A (i 0) (i 1)) : ℝ) : EReal) := (val_main_v53_apply (a0 A) (a1 A) (a3 A) (a8 A) i).trans (e49 A _)
theorem e54 (A : Args) (i : S8192x1024.Idx) : val_main_v54 (F := Ideal) (a0 A) (a1 A) (a3 A) (a8 A) i = (((r54 A (i 0) (i 1)) : ℝ) : EReal) := (val_main_v54_apply (a0 A) (a1 A) (a3 A) (a8 A) i).trans ((congrArg₂ (fun p q : EReal => p * q) (e46 A i) (e53 A i)).trans (mul_c _ _))
theorem e55 (A : Args) (i : S1x1024.Idx) : val_main_v55 (F := Ideal) (a4 A) i = (((r55 A (i 0) (i 1)) : ℝ) : EReal) := (val_main_v55_apply (a4 A) i).trans (e16 A _)
theorem e56 (A : Args) (i : S8192x1024.Idx) : val_main_v56 (F := Ideal) (a4 A) i = (((r56 A (i 0) (i 1)) : ℝ) : EReal) := (val_main_v56_apply (a4 A) i).trans (e55 A _)
theorem e57 (A : Args) (i : S8192x1024.Idx) : val_main_v57 (F := Ideal) (a0 A) (a1 A) (a3 A) (a4 A) (a8 A) i = (((r57 A (i 0) (i 1)) : ℝ) : EReal) := (val_main_v57_apply (a0 A) (a1 A) (a3 A) (a4 A) (a8 A) i).trans ((congrArg₂ (fun p q : EReal => p * q) (e54 A i) (e56 A i)).trans (mul_c _ _))
theorem e58 (A : Args) (i : S1x1024.Idx) : val_main_v58 (F := Ideal) (a5 A) i = (((r58 A (i 0) (i 1)) : ℝ) : EReal) := (val_main_v58_apply (a5 A) i).trans (e17 A _)
theorem e59 (A : Args) (i : S8192x1024.Idx) : val_main_v59 (F := Ideal) (a5 A) i = (((r59 A (i 0) (i 1)) : ℝ) : EReal) := (val_main_v59_apply (a5 A) i).trans (e58 A _)
theorem e60 (A : Args) (i : S8192x1024.Idx) : val_main_v60 (F := Ideal) (a0 A) (a1 A) (a3 A) (a4 A) (a5 A) (a8 A) i = (((r60 A (i 0) (i 1)) : ℝ) : EReal) := (val_main_v60_apply (a0 A) (a1 A) (a3 A) (a4 A) (a5 A) (a8 A) i).trans ((congrArg₂ (fun p q : EReal => p + q) (e57 A i) (e59 A i)).trans (add_c _ _))
theorem e_cst_10 (i : S_.Idx) : val_main_cst_10 (F := Ideal) i = ((0 : ℝ) : EReal) := (val_main_cst_10_apply i).trans c_zero
theorem e61 (A : Args) (i : S8192.Idx) : val_main_v61 (F := Ideal) (a0 A) (a1 A) (a3 A) (a4 A) (a5 A) (a8 A) i = (((r61 A (i 0)) : ℝ) : EReal) :=
  (val_main_v61_apply (a0 A) (a1 A) (a3 A) (a4 A) (a5 A) (a8 A) i).trans ((congrArg₂ (fun p q : EReal => p + q) (e_cst_10 _) ((Finset.sum_congr rfl fun k _ => e60 A _).trans (sum_c _))).trans
    (zero_add_c _))
theorem e62 (A : Args) (i : S8192x1.Idx) : val_main_v62 (F := Ideal) (a0 A) (a1 A) (a3 A) (a4 A) (a5 A) (a8 A) i = (((r62 A (i 0) (i 1)) : ℝ) : EReal) := (val_main_v62_apply (a0 A) (a1 A) (a3 A) (a4 A) (a5 A) (a8 A) i).trans (e61 A _)
theorem e_cst_11 (i : S_.Idx) : val_main_cst_11 (F := Ideal) i = ((1024 : ℝ) : EReal) := (val_main_cst_11_apply i).trans c_1024
theorem e63 (A : Args) (i : S8192x1.Idx) : val_main_v63 (F := Ideal) i = (((r63 A (i 0) (i 1)) : ℝ) : EReal) := (val_main_v63_apply i).trans (e_cst_11 _)
theorem e64 (A : Args) (i : S8192x1.Idx) : val_main_v64 (F := Ideal) (a0 A) (a1 A) (a3 A) (a4 A) (a5 A) (a8 A) i = (((r64 A (i 0) (i 1)) : ℝ) : EReal) := (val_main_v64_apply (a0 A) (a1 A) (a3 A) (a4 A) (a5 A) (a8 A) i).trans ((congrArg₂ Ideal.div (e62 A i) (e63 A i)).trans (div_c _ _ (by show (1024 : ℝ) ≠ 0; norm_num)))
theorem e65 (A : Args) (i : S8192x1024.Idx) : val_main_v65 (F := Ideal) (a0 A) (a1 A) (a3 A) (a4 A) (a5 A) (a8 A) i = (((r65 A (i 0) (i 1)) : ℝ) : EReal) := (val_main_v65_apply (a0 A) (a1 A) (a3 A) (a4 A) (a5 A) (a8 A) i).trans (e64 A _)
theorem e66 (A : Args) (i : S8192x1024.Idx) : val_main_v66 (F := Ideal) (a0 A) (a1 A) (a3 A) (a4 A) (a5 A) (a8 A) i = (((r66 A (i 0) (i 1)) : ℝ) : EReal) := (val_main_v66_apply (a0 A) (a1 A) (a3 A) (a4 A) (a5 A) (a8 A) i).trans ((congrArg₂ (fun p q : EReal => p - q) (e60 A i) (e65 A i)).trans (sub_c _ _))
theorem e67 (A : Args) (i : S8192x1024.Idx) : val_main_v67 (F := Ideal) (a0 A) (a1 A) (a3 A) (a4 A) (a5 A) (a8 A) i = (((r67 A (i 0) (i 1)) : ℝ) : EReal) := (val_main_v67_apply (a0 A) (a1 A) (a3 A) (a4 A) (a5 A) (a8 A) i).trans ((congrArg₂ (fun p q : EReal => p * q) (e66 A i) (e66 A i)).trans (mul_c _ _))
theorem e_cst_12 (i : S_.Idx) : val_main_cst_12 (F := Ideal) i = ((2 : ℝ) : EReal) := (val_main_cst_12_apply i).trans c_two
theorem e68 (A : Args) (i : S8192x1024.Idx) : val_main_v68 (F := Ideal) i = (((r68 A (i 0) (i 1)) : ℝ) : EReal) := (val_main_v68_apply i).trans (e_cst_12 _)
theorem e69 (A : Args) (i : S8192x1024.Idx) : val_main_v69 (F := Ideal) (a0 A) (a1 A) (a3 A) (a4 A) (a5 A) (a8 A) i = (((r69 A (i 0) (i 1)) : ℝ) : EReal) := (val_main_v69_apply (a0 A) (a1 A) (a3 A) (a4 A) (a5 A) (a8 A) i).trans ((congrArg₂ (fun p q : EReal => p * q) (e68 A i) (e66 A i)).trans (mul_c _ _))
theorem e_cst_13 (i : S_.Idx) : val_main_cst_13 (F := Ideal) i = ((0 : ℝ) : EReal) := (val_main_cst_13_apply i).trans c_zero
theorem e70 (A : Args) (i : S8192.Idx) : val_main_v70 (F := Ideal) (a0 A) (a1 A) (a3 A) (a4 A) (a5 A) (a8 A) i = (((r70 A (i 0)) : ℝ) : EReal) :=
  (val_main_v70_apply (a0 A) (a1 A) (a3 A) (a4 A) (a5 A) (a8 A) i).trans ((congrArg₂ (fun p q : EReal => p + q) (e_cst_13 _) ((Finset.sum_congr rfl fun k _ => e67 A _).trans (sum_c _))).trans
    (zero_add_c _))
theorem e71 (A : Args) (i : S8192x1.Idx) : val_main_v71 (F := Ideal) (a0 A) (a1 A) (a3 A) (a4 A) (a5 A) (a8 A) i = (((r71 A (i 0) (i 1)) : ℝ) : EReal) := (val_main_v71_apply (a0 A) (a1 A) (a3 A) (a4 A) (a5 A) (a8 A) i).trans (e70 A _)
theorem e_cst_14 (i : S_.Idx) : val_main_cst_14 (F := Ideal) i = ((1024 : ℝ) : EReal) := (val_main_cst_14_apply i).trans c_1024
theorem e72 (A : Args) (i : S8192x1.Idx) : val_main_v72 (F := Ideal) i = (((r72 A (i 0) (i 1)) : ℝ) : EReal) := (val_main_v72_apply i).trans (e_cst_14 _)
theorem e73 (A : Args) (i : S8192x1.Idx) : val_main_v73 (F := Ideal) (a0 A) (a1 A) (a3 A) (a4 A) (a5 A) (a8 A) i = (((r73 A (i 0) (i 1)) : ℝ) : EReal) := (val_main_v73_apply (a0 A) (a1 A) (a3 A) (a4 A) (a5 A) (a8 A) i).trans ((congrArg₂ Ideal.div (e71 A i) (e72 A i)).trans (div_c _ _ (by show (1024 : ℝ) ≠ 0; norm_num)))
theorem e74 (A : Args) (i : S8192x1024.Idx) : val_main_v74 (F := Ideal) (a0 A) (a1 A) (a3 A) (a4 A) (a5 A) (a8 A) i = (((r74 A (i 0) (i 1)) : ℝ) : EReal) := (val_main_v74_apply (a0 A) (a1 A) (a3 A) (a4 A) (a5 A) (a8 A) i).trans (e64 A _)
theorem e75 (A : Args) (i : S8192x1024.Idx) : val_main_v75 (F := Ideal) (a0 A) (a1 A) (a3 A) (a4 A) (a5 A) (a8 A) i = (((r75 A (i 0) (i 1)) : ℝ) : EReal) := (val_main_v75_apply (a0 A) (a1 A) (a3 A) (a4 A) (a5 A) (a8 A) i).trans ((congrArg₂ (fun p q : EReal => p - q) (e60 A i) (e74 A i)).trans (sub_c _ _))
theorem e_cst_15 (i : S_.Idx) : val_main_cst_15 (F := Ideal) i = ((ep : ℝ) : EReal) := (val_main_cst_15_apply i).trans c_ep
theorem e76 (A : Args) (i : S8192x1.Idx) : val_main_v76 (F := Ideal) i = (((r76 A (i 0) (i 1)) : ℝ) : EReal) := (val_main_v76_apply i).trans (e_cst_15 _)
theorem e77 (A : Args) (i : S8192x1.Idx) : val_main_v77 (F := Ideal) (a0 A) (a1 A) (a3 A) (a4 A) (a5 A) (a8 A) i = (((r77 A (i 0) (i 1)) : ℝ) : EReal) := (val_main_v77_apply (a0 A) (a1 A) (a3 A) (a4 A) (a5 A) (a8 A) i).trans ((congrArg₂ (fun p q : EReal => p + q) (e73 A i) (e76 A i)).trans (add_c _ _))
theorem e78 (A : Args) (i : S8192x1.Idx) : val_main_v78 (F := Ideal) (a0 A) (a1 A) (a3 A) (a4 A) (a5 A) (a8 A) i = (((r78 A (i 0) (i 1)) : ℝ) : EReal) := (val_main_v78_apply (a0 A) (a1 A) (a3 A) (a4 A) (a5 A) (a8 A) i).trans ((congrArg Ideal.rsqrt (e77 A i)).trans (rsqrt_c _ (pos77 A _ _)))
theorem e79 (A : Args) (i : S8192x1.Idx) : val_main_v79 (F := Ideal) (a0 A) (a1 A) (a3 A) (a4 A) (a5 A) (a8 A) i = (((r79 A (i 0) (i 1)) : ℝ) : EReal) := (val_main_v79_apply (a0 A) (a1 A) (a3 A) (a4 A) (a5 A) (a8 A) i).trans ((congrArg₂ Ideal.div (e78 A i) (e77 A i)).trans (div_c _ _ (pos77 A _ _).ne'))
theorem e_cst_16 (i : S_.Idx) : val_main_cst_16 (F := Ideal) i = ((-(1 / 2) : ℝ) : EReal) := (val_main_cst_16_apply i).trans c_mhalf
theorem e80 (A : Args) (i : S8192x1.Idx) : val_main_v80 (F := Ideal) i = (((r80 A (i 0) (i 1)) : ℝ) : EReal) := (val_main_v80_apply i).trans (e_cst_16 _)
theorem e81 (A : Args) (i : S8192x1.Idx) : val_main_v81 (F := Ideal) (a0 A) (a1 A) (a3 A) (a4 A) (a5 A) (a8 A) i = (((r81 A (i 0) (i 1)) : ℝ) : EReal) := (val_main_v81_apply (a0 A) (a1 A) (a3 A) (a4 A) (a5 A) (a8 A) i).trans ((congrArg₂ (fun p q : EReal => p * q) (e80 A i) (e79 A i)).trans (mul_c _ _))
theorem e82 (A : Args) (i : S8192x1024.Idx) : val_main_v82 (F := Ideal) (a0 A) (a1 A) (a3 A) (a4 A) (a5 A) (a8 A) i = (((r82 A (i 0) (i 1)) : ℝ) : EReal) := (val_main_v82_apply (a0 A) (a1 A) (a3 A) (a4 A) (a5 A) (a8 A) i).trans (e78 A _)
theorem e83 (A : Args) (i : S8192x1024.Idx) : val_main_v83 (F := Ideal) (a0 A) (a1 A) (a3 A) (a4 A) (a5 A) (a8 A) i = (((r83 A (i 0) (i 1)) : ℝ) : EReal) := (val_main_v83_apply (a0 A) (a1 A) (a3 A) (a4 A) (a5 A) (a8 A) i).trans ((congrArg₂ (fun p q : EReal => p * q) (e75 A i) (e82 A i)).trans (mul_c _ _))
theorem e84 (A : Args) (i : S1x1024.Idx) : val_main_v84 (F := Ideal) (a3 A) i = (((r84 A (i 0) (i 1)) : ℝ) : EReal) := (val_main_v84_apply (a3 A) i).trans (e5 A _)
theorem e_cst_17 (i : S_.Idx) : val_main_cst_17 (F := Ideal) i = ((1 : ℝ) : EReal) := (val_main_cst_17_apply i).trans c_one
theorem e85 (A : Args) (i : S1x1024.Idx) : val_main_v85 (F := Ideal) i = (((r85 A (i 0) (i 1)) : ℝ) : EReal) := (val_main_v85_apply i).trans (e_cst_17 _)
theorem e86 (A : Args) (i : S1x1024.Idx) : val_main_v86 (F := Ideal) (a3 A) i = (((r86 A (i 0) (i 1)) : ℝ) : EReal) := (val_main_v86_apply (a3 A) i).trans ((congrArg₂ (fun p q : EReal => p + q) (e85 A i) (e84 A i)).trans (add_c _ _))
theorem e87 (A : Args) (i : S8192x1024.Idx) : val_main_v87 (F := Ideal) (a3 A) i = (((r87 A (i 0) (i 1)) : ℝ) : EReal) := (val_main_v87_apply (a3 A) i).trans (e86 A _)
theorem e88 (A : Args) (i : S8192x1024.Idx) : val_main_v88 (F := Ideal) (a0 A) (a1 A) (a3 A) (a4 A) (a5 A) (a8 A) i = (((r88 A (i 0) (i 1)) : ℝ) : EReal) := (val_main_v88_apply (a0 A) (a1 A) (a3 A) (a4 A) (a5 A) (a8 A) i).trans ((congrArg₂ (fun p q : EReal => p * q) (e83 A i) (e87 A i)).trans (mul_c _ _))
theorem e89 (A : Args) (i : S1x1024.Idx) : val_main_v89 (F := Ideal) (a3 A) i = (((r89 A (i 0) (i 1)) : ℝ) : EReal) := (val_main_v89_apply (a3 A) i).trans (e4 A _)
theorem e90 (A : Args) (i : S8192x1024.Idx) : val_main_v90 (F := Ideal) (a3 A) i = (((r90 A (i 0) (i 1)) : ℝ) : EReal) := (val_main_v90_apply (a3 A) i).trans (e89 A _)
theorem e91 (A : Args) (i : S8192x1024.Idx) : val_main_v91 (F := Ideal) (a0 A) (a1 A) (a3 A) (a4 A) (a5 A) (a8 A) i = (((r91 A (i 0) (i 1)) : ℝ) : EReal) := (val_main_v91_apply (a0 A) (a1 A) (a3 A) (a4 A) (a5 A) (a8 A) i).trans ((congrArg₂ (fun p q : EReal => p + q) (e88 A i) (e90 A i)).trans (add_c _ _))
theorem e92 (A : Args) (i : S8192x4096.Idx) : val_main_v92 (F := Ideal) (a0 A) (a1 A) (a3 A) (a4 A) (a5 A) (a8 A) (a9 A) i = (((r92 A (i 0) (i 1)) : ℝ) : EReal) :=
  (val_main_v92_apply (a0 A) (a1 A) (a3 A) (a4 A) (a5 A) (a8 A) (a9 A) i).trans ((Finset.sum_congr rfl fun k _ =>
    (congrArg₂ (fun p q : EReal => p * q) (e91 A _) (e11 A _)).trans (mul_c _ _)).trans (sum_c _))
theorem e93 (A : Args) (i : S8192x4096.Idx) : val_main_v93 (F := Ideal) (a0 A) (a1 A) (a3 A) (a4 A) (a5 A) (a8 A) (a9 A) i = (((r93 A (i 0) (i 1)) : ℝ) : EReal) := (val_main_v93_apply (a0 A) (a1 A) (a3 A) (a4 A) (a5 A) (a8 A) (a9 A) i).trans ((congrArg₂ (fun p q : EReal => p + q) (e92 A i) (e21 A i)).trans (add_c _ _))
theorem e_call0_cst (i : S_.Idx) : val_main_call0_cst (F := Ideal) i = ((0 : ℝ) : EReal) := (val_main_call0_cst_apply i).trans c_zero
theorem e_call0_v0 (A : Args) (i : S8192x4096.Idx) : val_main_call0_v0 (F := Ideal) i = (((r_call0_v0 A (i 0) (i 1)) : ℝ) : EReal) := (val_main_call0_v0_apply i).trans (e_call0_cst _)
theorem e94 (A : Args) (i : S8192x4096.Idx) : val_main_v94 (F := Ideal) (a0 A) (a1 A) (a3 A) (a4 A) (a5 A) (a8 A) (a9 A) i = (((r94 A (i 0) (i 1)) : ℝ) : EReal) := (val_main_v94_apply (a0 A) (a1 A) (a3 A) (a4 A) (a5 A) (a8 A) (a9 A) i).trans ((congrArg₂ (fun p q : EReal => max p q) (e93 A i) (e_call0_v0 A i)).trans (max_c _ _))
theorem e_cst_18 (i : S_.Idx) : val_main_cst_18 (F := Ideal) i = ((0 : ℝ) : EReal) := (val_main_cst_18_apply i).trans c_zero
theorem e95 (A : Args) (i : S8192x4096.Idx) : val_main_v95 (F := Ideal) i = (((r95 A (i 0) (i 1)) : ℝ) : EReal) := (val_main_v95_apply i).trans (e_cst_18 _)
theorem e98 (A : Args) (i : S8192x4096.Idx) : val_main_v98 (F := Ideal) (a0 A) (a1 A) (a3 A) (a4 A) (a5 A) (a8 A) (a9 A) i = (((r98 A (i 0) (i 1)) : ℝ) : EReal) := (val_main_v98_apply (a0 A) (a1 A) (a3 A) (a4 A) (a5 A) (a8 A) (a9 A) i).trans ((congrArg₂ (fun p q : EReal => p * q) (e94 A i) (e94 A i)).trans (mul_c _ _))
theorem e_cst_20 (i : S_.Idx) : val_main_cst_20 (F := Ideal) i = ((2 : ℝ) : EReal) := (val_main_cst_20_apply i).trans c_two
theorem e99 (A : Args) (i : S8192x4096.Idx) : val_main_v99 (F := Ideal) i = (((r99 A (i 0) (i 1)) : ℝ) : EReal) := (val_main_v99_apply i).trans (e_cst_20 _)
theorem e100 (A : Args) (i : S8192x4096.Idx) : val_main_v100 (F := Ideal) (a0 A) (a1 A) (a3 A) (a4 A) (a5 A) (a8 A) (a9 A) i = (((r100 A (i 0) (i 1)) : ℝ) : EReal) := (val_main_v100_apply (a0 A) (a1 A) (a3 A) (a4 A) (a5 A) (a8 A) (a9 A) i).trans ((congrArg₂ (fun p q : EReal => p * q) (e99 A i) (e94 A i)).trans (mul_c _ _))
theorem e101 (A : Args) (i : S8192x1024.Idx) : val_main_v101 (F := Ideal) (a0 A) (a1 A) (a3 A) (a4 A) (a5 A) (a8 A) (a9 A) (a10 A) i = (((r101 A (i 0) (i 1)) : ℝ) : EReal) :=
  (val_main_v101_apply (a0 A) (a1 A) (a3 A) (a4 A) (a5 A) (a8 A) (a9 A) (a10 A) i).trans ((Finset.sum_congr rfl fun k _ =>
    (congrArg₂ (fun p q : EReal => p * q) (e98 A _) (e13 A _)).trans (mul_c _ _)).trans (sum_c _))
theorem e102 (A : Args) (i : S8192x1024.Idx) : val_main_v102 (F := Ideal) (a0 A) (a1 A) (a3 A) (a4 A) (a5 A) (a8 A) (a9 A) (a10 A) i = (((r102 A (i 0) (i 1)) : ℝ) : EReal) := (val_main_v102_apply (a0 A) (a1 A) (a3 A) (a4 A) (a5 A) (a8 A) (a9 A) (a10 A) i).trans ((congrArg₂ (fun p q : EReal => p + q) (e101 A i) (e22 A i)).trans (add_c _ _))
theorem e_cst_21 (i : S_.Idx) : val_main_cst_21 (F := Ideal) i = ((al : ℝ) : EReal) := (val_main_cst_21_apply i).trans c_al
theorem e103 (A : Args) (i : S8192x1024.Idx) : val_main_v103 (F := Ideal) i = (((r103 A (i 0) (i 1)) : ℝ) : EReal) := (val_main_v103_apply i).trans (e_cst_21 _)
theorem e104 (A : Args) (i : S8192x1024.Idx) : val_main_v104 (F := Ideal) (a0 A) (a1 A) (a3 A) (a4 A) (a5 A) (a8 A) i = (((r104 A (i 0) (i 1)) : ℝ) : EReal) := (val_main_v104_apply (a0 A) (a1 A) (a3 A) (a4 A) (a5 A) (a8 A) i).trans ((congrArg₂ (fun p q : EReal => p * q) (e103 A i) (e60 A i)).trans (mul_c _ _))
theorem e105 (A : Args) (i : S1x1024.Idx) : val_main_v105 (F := Ideal) (a3 A) i = (((r105 A (i 0) (i 1)) : ℝ) : EReal) := (val_main_v105_apply (a3 A) i).trans (e6 A _)
theorem e106 (A : Args) (i : S8192x1024.Idx) : val_main_v106 (F := Ideal) (a3 A) i = (((r106 A (i 0) (i 1)) : ℝ) : EReal) := (val_main_v106_apply (a3 A) i).trans (e105 A _)
theorem e107 (A : Args) (i : S8192x1024.Idx) : val_main_v107 (F := Ideal) (a0 A) (a1 A) (a3 A) (a4 A) (a5 A) (a8 A) (a9 A) (a10 A) i = (((r107 A (i 0) (i 1)) : ℝ) : EReal) := (val_main_v107_apply (a0 A) (a1 A) (a3 A) (a4 A) (a5 A) (a8 A) (a9 A) (a10 A) i).trans ((congrArg₂ (fun p q : EReal => p * q) (e106 A i) (e102 A i)).trans (mul_c _ _))
theorem e108 (A : Args) (i : S8192x1024.Idx) : val_main_v108 (F := Ideal) (a0 A) (a1 A) (a3 A) (a4 A) (a5 A) (a8 A) (a9 A) (a10 A) i = (((r108 A (i 0) (i 1)) : ℝ) : EReal) := (val_main_v108_apply (a0 A) (a1 A) (a3 A) (a4 A) (a5 A) (a8 A) (a9 A) (a10 A) i).trans ((congrArg₂ (fun p q : EReal => p + q) (e104 A i) (e107 A i)).trans (add_c _ _))
theorem e_cst_22 (i : S_.Idx) : val_main_cst_22 (F := Ideal) i = ((0 : ℝ) : EReal) := (val_main_cst_22_apply i).trans c_zero
theorem e109 (A : Args) (i : S8192.Idx) : val_main_v109 (F := Ideal) (a0 A) (a1 A) (a3 A) (a4 A) (a5 A) (a8 A) (a9 A) (a10 A) i = (((r109 A (i 0)) : ℝ) : EReal) :=
  (val_main_v109_apply (a0 A) (a1 A) (a3 A) (a4 A) (a5 A) (a8 A) (a9 A) (a10 A) i).trans ((congrArg₂ (fun p q : EReal => p + q) (e_cst_22 _) ((Finset.sum_congr rfl fun k _ => e108 A _).trans (sum_c _))).trans
    (zero_add_c _))
theorem e110 (A : Args) (i : S8192x1.Idx) : val_main_v110 (F := Ideal) (a0 A) (a1 A) (a3 A) (a4 A) (a5 A) (a8 A) (a9 A) (a10 A) i = (((r110 A (i 0) (i 1)) : ℝ) : EReal) := (val_main_v110_apply (a0 A) (a1 A) (a3 A) (a4 A) (a5 A) (a8 A) (a9 A) (a10 A) i).trans (e109 A _)
theorem e_cst_23 (i : S_.Idx) : val_main_cst_23 (F := Ideal) i = ((1024 : ℝ) : EReal) := (val_main_cst_23_apply i).trans c_1024
theorem e111 (A : Args) (i : S8192x1.Idx) : val_main_v111 (F := Ideal) i = (((r111 A (i 0) (i 1)) : ℝ) : EReal) := (val_main_v111_apply i).trans (e_cst_23 _)
theorem e112 (A : Args) (i : S8192x1.Idx) : val_main_v112 (F := Ideal) (a0 A) (a1 A) (a3 A) (a4 A) (a5 A) (a8 A) (a9 A) (a10 A) i = (((r112 A (i 0) (i 1)) : ℝ) : EReal) := (val_main_v112_apply (a0 A) (a1 A) (a3 A) (a4 A) (a5 A) (a8 A) (a9 A) (a10 A) i).trans ((congrArg₂ Ideal.div (e110 A i) (e111 A i)).trans (div_c _ _ (by show (1024 : ℝ) ≠ 0; norm_num)))
theorem e113 (A : Args) (i : S8192x1024.Idx) : val_main_v113 (F := Ideal) (a0 A) (a1 A) (a3 A) (a4 A) (a5 A) (a8 A) (a9 A) (a10 A) i = (((r113 A (i 0) (i 1)) : ℝ) : EReal) := (val_main_v113_apply (a0 A) (a1 A) (a3 A) (a4 A) (a5 A) (a8 A) (a9 A) (a10 A) i).trans (e112 A _)
theorem e114 (A : Args) (i : S8192x1024.Idx) : val_main_v114 (F := Ideal) (a0 A) (a1 A) (a3 A) (a4 A) (a5 A) (a8 A) (a9 A) (a10 A) i = (((r114 A (i 0) (i 1)) : ℝ) : EReal) := (val_main_v114_apply (a0 A) (a1 A) (a3 A) (a4 A) (a5 A) (a8 A) (a9 A) (a10 A) i).trans ((congrArg₂ (fun p q : EReal => p - q) (e108 A i) (e113 A i)).trans (sub_c _ _))
theorem e115 (A : Args) (i : S8192x1024.Idx) : val_main_v115 (F := Ideal) (a0 A) (a1 A) (a3 A) (a4 A) (a5 A) (a8 A) (a9 A) (a10 A) i = (((r115 A (i 0) (i 1)) : ℝ) : EReal) := (val_main_v115_apply (a0 A) (a1 A) (a3 A) (a4 A) (a5 A) (a8 A) (a9 A) (a10 A) i).trans ((congrArg₂ (fun p q : EReal => p * q) (e114 A i) (e114 A i)).trans (mul_c _ _))
theorem e_cst_24 (i : S_.Idx) : val_main_cst_24 (F := Ideal) i = ((2 : ℝ) : EReal) := (val_main_cst_24_apply i).trans c_two
theorem e116 (A : Args) (i : S8192x1024.Idx) : val_main_v116 (F := Ideal) i = (((r116 A (i 0) (i 1)) : ℝ) : EReal) := (val_main_v116_apply i).trans (e_cst_24 _)
theorem e117 (A : Args) (i : S8192x1024.Idx) : val_main_v117 (F := Ideal) (a0 A) (a1 A) (a3 A) (a4 A) (a5 A) (a8 A) (a9 A) (a10 A) i = (((r117 A (i 0) (i 1)) : ℝ) : EReal) := (val_main_v117_apply (a0 A) (a1 A) (a3 A) (a4 A) (a5 A) (a8 A) (a9 A) (a10 A) i).trans ((congrArg₂ (fun p q : EReal => p * q) (e116 A i) (e114 A i)).trans (mul_c _ _))
theorem e_cst_25 (i : S_.Idx) : val_main_cst_25 (F := Ideal) i = ((0 : ℝ) : EReal) := (val_main_cst_25_apply i).trans c_zero
theorem e118 (A : Args) (i : S8192.Idx) : val_main_v118 (F := Ideal) (a0 A) (a1 A) (a3 A) (a4 A) (a5 A) (a8 A) (a9 A) (a10 A) i = (((r118 A (i 0)) : ℝ) : EReal) :=
  (val_main_v118_apply (a0 A) (a1 A) (a3 A) (a4 A) (a5 A) (a8 A) (a9 A) (a10 A) i).trans ((congrArg₂ (fun p q : EReal => p + q) (e_cst_25 _) ((Finset.sum_congr rfl fun k _ => e115 A _).trans (sum_c _))).trans
    (zero_add_c _))
theorem e119 (A : Args) (i : S8192x1.Idx) : val_main_v119 (F := Ideal) (a0 A) (a1 A) (a3 A) (a4 A) (a5 A) (a8 A) (a9 A) (a10 A) i = (((r119 A (i 0) (i 1)) : ℝ) : EReal) := (val_main_v119_apply (a0 A) (a1 A) (a3 A) (a4 A) (a5 A) (a8 A) (a9 A) (a10 A) i).trans (e118 A _)
theorem e_cst_26 (i : S_.Idx) : val_main_cst_26 (F := Ideal) i = ((1024 : ℝ) : EReal) := (val_main_cst_26_apply i).trans c_1024
theorem e120 (A : Args) (i : S8192x1.Idx) : val_main_v120 (F := Ideal) i = (((r120 A (i 0) (i 1)) : ℝ) : EReal) := (val_main_v120_apply i).trans (e_cst_26 _)
theorem e121 (A : Args) (i : S8192x1.Idx) : val_main_v121 (F := Ideal) (a0 A) (a1 A) (a3 A) (a4 A) (a5 A) (a8 A) (a9 A) (a10 A) i = (((r121 A (i 0) (i 1)) : ℝ) : EReal) := (val_main_v121_apply (a0 A) (a1 A) (a3 A) (a4 A) (a5 A) (a8 A) (a9 A) (a10 A) i).trans ((congrArg₂ Ideal.div (e119 A i) (e120 A i)).trans (div_c _ _ (by show (1024 : ℝ) ≠ 0; norm_num)))
theorem e122 (A : Args) (i : S8192x1024.Idx) : val_main_v122 (F := Ideal) (a0 A) (a1 A) (a3 A) (a4 A) (a5 A) (a8 A) (a9 A) (a10 A) i = (((r122 A (i 0) (i 1)) : ℝ) : EReal) := (val_main_v122_apply (a0 A) (a1 A) (a3 A) (a4 A) (a5 A) (a8 A) (a9 A) (a10 A) i).trans (e112 A _)
theorem e123 (A : Args) (i : S8192x1024.Idx) : val_main_v123 (F := Ideal) (a0 A) (a1 A) (a3 A) (a4 A) (a5 A) (a8 A) (a9 A) (a10 A) i = (((r123 A (i 0) (i 1)) : ℝ) : EReal) := (val_main_v123_apply (a0 A) (a1 A) (a3 A) (a4 A) (a5 A) (a8 A) (a9 A) (a10 A) i).trans ((congrArg₂ (fun p q : EReal => p - q) (e108 A i) (e122 A i)).trans (sub_c _ _))
theorem e_cst_27 (i : S_.Idx) : val_main_cst_27 (F := Ideal) i = ((ep : ℝ) : EReal) := (val_main_cst_27_apply i).trans c_ep
theorem e124 (A : Args) (i : S8192x1.Idx) : val_main_v124 (F := Ideal) i = (((r124 A (i 0) (i 1)) : ℝ) : EReal) := (val_main_v124_apply i).trans (e_cst_27 _)
theorem e125 (A : Args) (i : S8192x1.Idx) : val_main_v125 (F := Ideal) (a0 A) (a1 A) (a3 A) (a4 A) (a5 A) (a8 A) (a9 A) (a10 A) i = (((r125 A (i 0) (i 1)) : ℝ) : EReal) := (val_main_v125_apply (a0 A) (a1 A) (a3 A) (a4 A) (a5 A) (a8 A) (a9 A) (a10 A) i).trans ((congrArg₂ (fun p q : EReal => p + q) (e121 A i) (e124 A i)).trans (add_c _ _))
theorem e126 (A : Args) (i : S8192x1.Idx) : val_main_v126 (F := Ideal) (a0 A) (a1 A) (a3 A) (a4 A) (a5 A) (a8 A) (a9 A) (a10 A) i = (((r126 A (i 0) (i 1)) : ℝ) : EReal) := (val_main_v126_apply (a0 A) (a1 A) (a3 A) (a4 A) (a5 A) (a8 A) (a9 A) (a10 A) i).trans ((congrArg Ideal.rsqrt (e125 A i)).trans (rsqrt_c _ (pos125 A _ _)))
theorem e127 (A : Args) (i : S8192x1.Idx) : val_main_v127 (F := Ideal) (a0 A) (a1 A) (a3 A) (a4 A) (a5 A) (a8 A) (a9 A) (a10 A) i = (((r127 A (i 0) (i 1)) : ℝ) : EReal) := (val_main_v127_apply (a0 A) (a1 A) (a3 A) (a4 A) (a5 A) (a8 A) (a9 A) (a10 A) i).trans ((congrArg₂ Ideal.div (e126 A i) (e125 A i)).trans (div_c _ _ (pos125 A _ _).ne'))
theorem e_cst_28 (i : S_.Idx) : val_main_cst_28 (F := Ideal) i = ((-(1 / 2) : ℝ) : EReal) := (val_main_cst_28_apply i).trans c_mhalf
theorem e128 (A : Args) (i : S8192x1.Idx) : val_main_v128 (F := Ideal) i = (((r128 A (i 0) (i 1)) : ℝ) : EReal) := (val_main_v128_apply i).trans (e_cst_28 _)
theorem e129 (A : Args) (i : S8192x1.Idx) : val_main_v129 (F := Ideal) (a0 A) (a1 A) (a3 A) (a4 A) (a5 A) (a8 A) (a9 A) (a10 A) i = (((r129 A (i 0) (i 1)) : ℝ) : EReal) := (val_main_v129_apply (a0 A) (a1 A) (a3 A) (a4 A) (a5 A) (a8 A) (a9 A) (a10 A) i).trans ((congrArg₂ (fun p q : EReal => p * q) (e128 A i) (e127 A i)).trans (mul_c _ _))
theorem e130 (A : Args) (i : S8192x1024.Idx) : val_main_v130 (F := Ideal) (a0 A) (a1 A) (a3 A) (a4 A) (a5 A) (a8 A) (a9 A) (a10 A) i = (((r130 A (i 0) (i 1)) : ℝ) : EReal) := (val_main_v130_apply (a0 A) (a1 A) (a3 A) (a4 A) (a5 A) (a8 A) (a9 A) (a10 A) i).trans (e126 A _)
theorem e131 (A : Args) (i : S8192x1024.Idx) : val_main_v131 (F := Ideal) (a0 A) (a1 A) (a3 A) (a4 A) (a5 A) (a8 A) (a9 A) (a10 A) i = (((r131 A (i 0) (i 1)) : ℝ) : EReal) := (val_main_v131_apply (a0 A) (a1 A) (a3 A) (a4 A) (a5 A) (a8 A) (a9 A) (a10 A) i).trans ((congrArg₂ (fun p q : EReal => p * q) (e123 A i) (e130 A i)).trans (mul_c _ _))
theorem e132 (A : Args) (i : S1x1024.Idx) : val_main_v132 (F := Ideal) (a6 A) i = (((r132 A (i 0) (i 1)) : ℝ) : EReal) := (val_main_v132_apply (a6 A) i).trans (e18 A _)
theorem e133 (A : Args) (i : S8192x1024.Idx) : val_main_v133 (F := Ideal) (a6 A) i = (((r133 A (i 0) (i 1)) : ℝ) : EReal) := (val_main_v133_apply (a6 A) i).trans (e132 A _)
theorem e134 (A : Args) (i : S8192x1024.Idx) : val_main_v134 (F := Ideal) (a0 A) (a1 A) (a3 A) (a4 A) (a5 A) (a6 A) (a8 A) (a9 A) (a10 A) i = (((r134 A (i 0) (i 1)) : ℝ) : EReal) := (val_main_v134_apply (a0 A) (a1 A) (a3 A) (a4 A) (a5 A) (a6 A) (a8 A) (a9 A) (a10 A) i).trans ((congrArg₂ (fun p q : EReal => p * q) (e131 A i) (e133 A i)).trans (mul_c _ _))
theorem e135 (A : Args) (i : S1x1024.Idx) : val_main_v135 (F := Ideal) (a7 A) i = (((r135 A (i 0) (i 1)) : ℝ) : EReal) := (val_main_v135_apply (a7 A) i).trans (e19 A _)
theorem e136 (A : Args) (i : S8192x1024.Idx) : val_main_v136 (F := Ideal) (a7 A) i = (((r136 A (i 0) (i 1)) : ℝ) : EReal) := (val_main_v136_apply (a7 A) i).trans (e135 A _)
theorem e137 (A : Args) (i : S8192x1024.Idx) : val_main_v137 (F := Ideal) (a0 A) (a1 A) (a3 A) (a4 A) (a5 A) (a6 A) (a7 A) (a8 A) (a9 A) (a10 A) i = (((r137 A (i 0) (i 1)) : ℝ) : EReal) := (val_main_v137_apply (a0 A) (a1 A) (a3 A) (a4 A) (a5 A) (a6 A) (a7 A) (a8 A) (a9 A) (a10 A) i).trans ((congrArg₂ (fun p q : EReal => p + q) (e134 A i) (e136 A i)).trans (add_c _ _))
theorem e138 (A : Args) (i : S8192x1024.Idx) : val_main_v138 (F := Ideal) (a0 A) (a1 A) (a2 A) (a3 A) (a4 A) (a5 A) (a6 A) (a7 A) (a8 A) (a9 A) (a10 A) i = (((r138 A (i 0) (i 1)) : ℝ) : EReal) := (val_main_v138_apply (a0 A) (a1 A) (a2 A) (a3 A) (a4 A) (a5 A) (a6 A) (a7 A) (a8 A) (a9 A) (a10 A) i).trans ((congrArg₂ (fun p q : EReal => p - q) (e137 A i) (e23 A i)).trans (sub_c _ _))
theorem e139 (A : Args) (i : S8192x1024.Idx) : val_main_v139 (F := Ideal) (a0 A) (a1 A) (a2 A) (a3 A) (a4 A) (a5 A) (a6 A) (a7 A) (a8 A) (a9 A) (a10 A) i = (((r139 A (i 0) (i 1)) : ℝ) : EReal) := (val_main_v139_apply (a0 A) (a1 A) (a2 A) (a3 A) (a4 A) (a5 A) (a6 A) (a7 A) (a8 A) (a9 A) (a10 A) i).trans ((congrArg₂ (fun p q : EReal => p * q) (e138 A i) (e138 A i)).trans (mul_c _ _))
theorem e_cst_29 (i : S_.Idx) : val_main_cst_29 (F := Ideal) i = ((2 : ℝ) : EReal) := (val_main_cst_29_apply i).trans c_two
theorem e140 (A : Args) (i : S8192x1024.Idx) : val_main_v140 (F := Ideal) i = (((r140 A (i 0) (i 1)) : ℝ) : EReal) := (val_main_v140_apply i).trans (e_cst_29 _)
theorem e141 (A : Args) (i : S8192x1024.Idx) : val_main_v141 (F := Ideal) (a0 A) (a1 A) (a2 A) (a3 A) (a4 A) (a5 A) (a6 A) (a7 A) (a8 A) (a9 A) (a10 A) i = (((r141 A (i 0) (i 1)) : ℝ) : EReal) := (val_main_v141_apply (a0 A) (a1 A) (a2 A) (a3 A) (a4 A) (a5 A) (a6 A) (a7 A) (a8 A) (a9 A) (a10 A) i).trans ((congrArg₂ (fun p q : EReal => p * q) (e140 A i) (e138 A i)).trans (mul_c _ _))
theorem e_cst_34 (i : S_.Idx) : val_main_cst_34 (F := Ideal) i = ((0 : ℝ) : EReal) := (val_main_cst_34_apply i).trans c_zero
theorem e147 (A : Args) (i : S1024.Idx) : val_main_v147 (F := Ideal) (a0 A) (a1 A) (a2 A) (a3 A) (a4 A) (a5 A) (a6 A) (a7 A) (a8 A) (a9 A) (a10 A) i = (((r147 A (i 0)) : ℝ) : EReal) :=
  (val_main_v147_apply (a0 A) (a1 A) (a2 A) (a3 A) (a4 A) (a5 A) (a6 A) (a7 A) (a8 A) (a9 A) (a10 A) i).trans ((congrArg₂ (fun p q : EReal => p + q) (e_cst_34 _) ((Finset.sum_congr rfl fun k _ => e139 A _).trans (sum_c _))).trans
    (zero_add_c _))
theorem e_cst_35 (i : S_.Idx) : val_main_cst_35 (F := Ideal) i = ((1 / 2 : ℝ) : EReal) := (val_main_cst_35_apply i).trans c_half
theorem e_cst_36 (i : S_.Idx) : val_main_cst_36 (F := Ideal) i = ((1 : ℝ) : EReal) := (val_main_cst_36_apply i).trans c_one
theorem e148 (A : Args) (i : S_.Idx) : val_main_v148 (F := Ideal) i = (((r148 A) : ℝ) : EReal) := (val_main_v148_apply i).trans ((congrArg₂ (fun p q : EReal => p * q) (e_cst_35 _) (e_cst_36 _)).trans (mul_c _ _))
theorem e149 (A : Args) (i : S8192.Idx) : val_main_v149 (F := Ideal) i = (((r149 A (i 0)) : ℝ) : EReal) := (val_main_v149_apply i).trans (e148 A _)
theorem e_cst_37 (i : S_.Idx) : val_main_cst_37 (F := Ideal) i = ((1024 : ℝ) : EReal) := (val_main_cst_37_apply i).trans c_1024
theorem e150 (A : Args) (i : S8192.Idx) : val_main_v150 (F := Ideal) i = (((r150 A (i 0)) : ℝ) : EReal) := (val_main_v150_apply i).trans (e_cst_37 _)
theorem e151 (A : Args) (i : S8192.Idx) : val_main_v151 (F := Ideal) i = (((r151 A (i 0)) : ℝ) : EReal) := (val_main_v151_apply i).trans ((congrArg₂ Ideal.div (e149 A i) (e150 A i)).trans (div_c _ _ (by show (1024 : ℝ) ≠ 0; norm_num)))
theorem e152 (A : Args) (i : S8192x1024.Idx) : val_main_v152 (F := Ideal) i = (((r152 A (i 0) (i 1)) : ℝ) : EReal) := (val_main_v152_apply i).trans (e151 A _)
theorem e153 (A : Args) (i : S8192x1024.Idx) : val_main_v153 (F := Ideal) (a0 A) (a1 A) (a2 A) (a3 A) (a4 A) (a5 A) (a6 A) (a7 A) (a8 A) (a9 A) (a10 A) i = (((r153 A (i 0) (i 1)) : ℝ) : EReal) := (val_main_v153_apply (a0 A) (a1 A) (a2 A) (a3 A) (a4 A) (a5 A) (a6 A) (a7 A) (a8 A) (a9 A) (a10 A) i).trans ((congrArg₂ (fun p q : EReal => p * q) (e152 A i) (e141 A i)).trans (mul_c _ _))
theorem e_cst_38 (i : S_.Idx) : val_main_cst_38 (F := Ideal) i = ((0 : ℝ) : EReal) := (val_main_cst_38_apply i).trans c_zero
theorem e154 (A : Args) (i : S1024.Idx) : val_main_v154 (F := Ideal) (a0 A) (a1 A) (a2 A) (a3 A) (a4 A) (a5 A) (a6 A) (a7 A) (a8 A) (a9 A) (a10 A) i = (((r154 A (i 0)) : ℝ) : EReal) :=
  (val_main_v154_apply (a0 A) (a1 A) (a2 A) (a3 A) (a4 A) (a5 A) (a6 A) (a7 A) (a8 A) (a9 A) (a10 A) i).trans ((congrArg₂ (fun p q : EReal => p + q) (e_cst_38 _) ((Finset.sum_congr rfl fun k _ => e153 A _).trans (sum_c _))).trans
    (zero_add_c _))
theorem e155 (A : Args) (i : S1x1024.Idx) : val_main_v155 (F := Ideal) (a0 A) (a1 A) (a2 A) (a3 A) (a4 A) (a5 A) (a6 A) (a7 A) (a8 A) (a9 A) (a10 A) i = (((r155 A (i 0) (i 1)) : ℝ) : EReal) := (val_main_v155_apply (a0 A) (a1 A) (a2 A) (a3 A) (a4 A) (a5 A) (a6 A) (a7 A) (a8 A) (a9 A) (a10 A) i).trans ((e154 A _).trans (congrArg (fun (q0 : Fin 1024) => (((r154 A q0) : ℝ) : EReal)) (Fin.ext (by have h0 : (i 0).val < 1 := (i 0).isLt; have h1 : (i 1).val < 1024 := (i 1).isLt; show (i 0).val * 1024 + (i 1).val = (i 1).val; omega))))
theorem e_cst_39 (i : S_.Idx) : val_main_cst_39 (F := Ideal) i = ((0 : ℝ) : EReal) := (val_main_cst_39_apply i).trans c_zero
theorem e156 (A : Args) (i : S1024.Idx) : val_main_v156 (F := Ideal) (a0 A) (a1 A) (a2 A) (a3 A) (a4 A) (a5 A) (a6 A) (a7 A) (a8 A) (a9 A) (a10 A) i = (((r156 A (i 0)) : ℝ) : EReal) :=
  (val_main_v156_apply (a0 A) (a1 A) (a2 A) (a3 A) (a4 A) (a5 A) (a6 A) (a7 A) (a8 A) (a9 A) (a10 A) i).trans ((congrArg₂ (fun p q : EReal => p + q) (e_cst_39 _) ((Finset.sum_congr rfl fun k _ => e155 A _).trans (sum_c _))).trans
    (zero_add_c _))
theorem e157 (A : Args) (i : S8192x1024.Idx) : val_main_v157 (F := Ideal) (a0 A) (a1 A) (a2 A) (a3 A) (a4 A) (a5 A) (a6 A) (a7 A) (a8 A) (a9 A) (a10 A) i = (((r157 A (i 0) (i 1)) : ℝ) : EReal) := (val_main_v157_apply (a0 A) (a1 A) (a2 A) (a3 A) (a4 A) (a5 A) (a6 A) (a7 A) (a8 A) (a9 A) (a10 A) i).trans ((congrArg₂ (fun p q : EReal => p * q) (e131 A i) (e153 A i)).trans (mul_c _ _))
theorem e_cst_40 (i : S_.Idx) : val_main_cst_40 (F := Ideal) i = ((0 : ℝ) : EReal) := (val_main_cst_40_apply i).trans c_zero
theorem e158 (A : Args) (i : S1024.Idx) : val_main_v158 (F := Ideal) (a0 A) (a1 A) (a2 A) (a3 A) (a4 A) (a5 A) (a6 A) (a7 A) (a8 A) (a9 A) (a10 A) i = (((r158 A (i 0)) : ℝ) : EReal) :=
  (val_main_v158_apply (a0 A) (a1 A) (a2 A) (a3 A) (a4 A) (a5 A) (a6 A) (a7 A) (a8 A) (a9 A) (a10 A) i).trans ((congrArg₂ (fun p q : EReal => p + q) (e_cst_40 _) ((Finset.sum_congr rfl fun k _ => e157 A _).trans (sum_c _))).trans
    (zero_add_c _))
theorem e159 (A : Args) (i : S1x1024.Idx) : val_main_v159 (F := Ideal) (a0 A) (a1 A) (a2 A) (a3 A) (a4 A) (a5 A) (a6 A) (a7 A) (a8 A) (a9 A) (a10 A) i = (((r159 A (i 0) (i 1)) : ℝ) : EReal) := (val_main_v159_apply (a0 A) (a1 A) (a2 A) (a3 A) (a4 A) (a5 A) (a6 A) (a7 A) (a8 A) (a9 A) (a10 A) i).trans ((e158 A _).trans (congrArg (fun (q0 : Fin 1024) => (((r158 A q0) : ℝ) : EReal)) (Fin.ext (by have h0 : (i 0).val < 1 := (i 0).isLt; have h1 : (i 1).val < 1024 := (i 1).isLt; show (i 0).val * 1024 + (i 1).val = (i 1).val; omega))))
theorem e160 (A : Args) (i : S8192x1024.Idx) : val_main_v160 (F := Ideal) (a6 A) i = (((r160 A (i 0) (i 1)) : ℝ) : EReal) := (val_main_v160_apply (a6 A) i).trans (e132 A _)
theorem e161 (A : Args) (i : S8192x1024.Idx) : val_main_v161 (F := Ideal) (a0 A) (a1 A) (a2 A) (a3 A) (a4 A) (a5 A) (a6 A) (a7 A) (a8 A) (a9 A) (a10 A) i = (((r161 A (i 0) (i 1)) : ℝ) : EReal) := (val_main_v161_apply (a0 A) (a1 A) (a2 A) (a3 A) (a4 A) (a5 A) (a6 A) (a7 A) (a8 A) (a9 A) (a10 A) i).trans ((congrArg₂ (fun p q : EReal => p * q) (e153 A i) (e160 A i)).trans (mul_c _ _))
theorem e_cst_41 (i : S_.Idx) : val_main_cst_41 (F := Ideal) i = ((0 : ℝ) : EReal) := (val_main_cst_41_apply i).trans c_zero
theorem e162 (A : Args) (i : S1024.Idx) : val_main_v162 (F := Ideal) (a0 A) (a1 A) (a2 A) (a3 A) (a4 A) (a5 A) (a6 A) (a7 A) (a8 A) (a9 A) (a10 A) i = (((r162 A (i 0)) : ℝ) : EReal) :=
  (val_main_v162_apply (a0 A) (a1 A) (a2 A) (a3 A) (a4 A) (a5 A) (a6 A) (a7 A) (a8 A) (a9 A) (a10 A) i).trans ((congrArg₂ (fun p q : EReal => p + q) (e_cst_41 _) ((Finset.sum_congr rfl fun k _ => e159 A _).trans (sum_c _))).trans
    (zero_add_c _))
theorem e163 (A : Args) (i : S8192x1024.Idx) : val_main_v163 (F := Ideal) (a0 A) (a1 A) (a2 A) (a3 A) (a4 A) (a5 A) (a6 A) (a7 A) (a8 A) (a9 A) (a10 A) i = (((r163 A (i 0) (i 1)) : ℝ) : EReal) := (val_main_v163_apply (a0 A) (a1 A) (a2 A) (a3 A) (a4 A) (a5 A) (a6 A) (a7 A) (a8 A) (a9 A) (a10 A) i).trans ((congrArg₂ (fun p q : EReal => p * q) (e123 A i) (e161 A i)).trans (mul_c _ _))
theorem e_cst_42 (i : S_.Idx) : val_main_cst_42 (F := Ideal) i = ((0 : ℝ) : EReal) := (val_main_cst_42_apply i).trans c_zero
theorem e164 (A : Args) (i : S8192.Idx) : val_main_v164 (F := Ideal) (a0 A) (a1 A) (a2 A) (a3 A) (a4 A) (a5 A) (a6 A) (a7 A) (a8 A) (a9 A) (a10 A) i = (((r164 A (i 0)) : ℝ) : EReal) :=
  (val_main_v164_apply (a0 A) (a1 A) (a2 A) (a3 A) (a4 A) (a5 A) (a6 A) (a7 A) (a8 A) (a9 A) (a10 A) i).trans ((congrArg₂ (fun p q : EReal => p + q) (e_cst_42 _) ((Finset.sum_congr rfl fun k _ => e163 A _).trans (sum_c _))).trans
    (zero_add_c _))
theorem e165 (A : Args) (i : S8192x1.Idx) : val_main_v165 (F := Ideal) (a0 A) (a1 A) (a2 A) (a3 A) (a4 A) (a5 A) (a6 A) (a7 A) (a8 A) (a9 A) (a10 A) i = (((r165 A (i 0) (i 1)) : ℝ) : EReal) := (val_main_v165_apply (a0 A) (a1 A) (a2 A) (a3 A) (a4 A) (a5 A) (a6 A) (a7 A) (a8 A) (a9 A) (a10 A) i).trans ((e164 A _).trans (congrArg (fun (q0 : Fin 8192) => (((r164 A q0) : ℝ) : EReal)) (Fin.ext (by have h0 : (i 0).val < 8192 := (i 0).isLt; have h1 : (i 1).val < 1 := (i 1).isLt; show (i 0).val * 1 + (i 1).val = (i 0).val; omega))))
theorem e166 (A : Args) (i : S8192x1024.Idx) : val_main_v166 (F := Ideal) (a0 A) (a1 A) (a3 A) (a4 A) (a5 A) (a8 A) (a9 A) (a10 A) i = (((r166 A (i 0) (i 1)) : ℝ) : EReal) := (val_main_v166_apply (a0 A) (a1 A) (a3 A) (a4 A) (a5 A) (a8 A) (a9 A) (a10 A) i).trans (e126 A _)
theorem e167 (A : Args) (i : S8192x1024.Idx) : val_main_v167 (F := Ideal) (a0 A) (a1 A) (a2 A) (a3 A) (a4 A) (a5 A) (a6 A) (a7 A) (a8 A) (a9 A) (a10 A) i = (((r167 A (i 0) (i 1)) : ℝ) : EReal) := (val_main_v167_apply (a0 A) (a1 A) (a2 A) (a3 A) (a4 A) (a5 A) (a6 A) (a7 A) (a8 A) (a9 A) (a10 A) i).trans ((congrArg₂ (fun p q : EReal => p * q) (e161 A i) (e166 A i)).trans (mul_c _ _))
theorem e168 (A : Args) (i : S8192x1.Idx) : val_main_v168 (F := Ideal) (a0 A) (a1 A) (a2 A) (a3 A) (a4 A) (a5 A) (a6 A) (a7 A) (a8 A) (a9 A) (a10 A) i = (((r168 A (i 0) (i 1)) : ℝ) : EReal) := (val_main_v168_apply (a0 A) (a1 A) (a2 A) (a3 A) (a4 A) (a5 A) (a6 A) (a7 A) (a8 A) (a9 A) (a10 A) i).trans ((congrArg₂ (fun p q : EReal => p * q) (e165 A i) (e129 A i)).trans (mul_c _ _))
theorem e169 (A : Args) (i : S8192x1024.Idx) : val_main_v169 (F := Ideal) (a0 A) (a1 A) (a2 A) (a3 A) (a4 A) (a5 A) (a6 A) (a7 A) (a8 A) (a9 A) (a10 A) i = (((r169 A (i 0) (i 1)) : ℝ) : EReal) := (val_main_v169_apply (a0 A) (a1 A) (a2 A) (a3 A) (a4 A) (a5 A) (a6 A) (a7 A) (a8 A) (a9 A) (a10 A) i).trans ((congrArg (fun p : EReal => -p) (e167 A i)).trans (neg_c _))
theorem e_cst_43 (i : S_.Idx) : val_main_cst_43 (F := Ideal) i = ((0 : ℝ) : EReal) := (val_main_cst_43_apply i).trans c_zero
theorem e170 (A : Args) (i : S8192.Idx) : val_main_v170 (F := Ideal) (a0 A) (a1 A) (a2 A) (a3 A) (a4 A) (a5 A) (a6 A) (a7 A) (a8 A) (a9 A) (a10 A) i = (((r170 A (i 0)) : ℝ) : EReal) :=
  (val_main_v170_apply (a0 A) (a1 A) (a2 A) (a3 A) (a4 A) (a5 A) (a6 A) (a7 A) (a8 A) (a9 A) (a10 A) i).trans ((congrArg₂ (fun p q : EReal => p + q) (e_cst_43 _) ((Finset.sum_congr rfl fun k _ => e169 A _).trans (sum_c _))).trans
    (zero_add_c _))
theorem e171 (A : Args) (i : S8192x1.Idx) : val_main_v171 (F := Ideal) (a0 A) (a1 A) (a2 A) (a3 A) (a4 A) (a5 A) (a6 A) (a7 A) (a8 A) (a9 A) (a10 A) i = (((r171 A (i 0) (i 1)) : ℝ) : EReal) := (val_main_v171_apply (a0 A) (a1 A) (a2 A) (a3 A) (a4 A) (a5 A) (a6 A) (a7 A) (a8 A) (a9 A) (a10 A) i).trans ((e170 A _).trans (congrArg (fun (q0 : Fin 8192) => (((r170 A q0) : ℝ) : EReal)) (Fin.ext (by have h0 : (i 0).val < 8192 := (i 0).isLt; have h1 : (i 1).val < 1 := (i 1).isLt; show (i 0).val * 1 + (i 1).val = (i 0).val; omega))))
theorem e_cst_44 (i : S_.Idx) : val_main_cst_44 (F := Ideal) i = ((1024 : ℝ) : EReal) := (val_main_cst_44_apply i).trans c_1024
theorem e172 (A : Args) (i : S8192x1.Idx) : val_main_v172 (F := Ideal) i = (((r172 A (i 0) (i 1)) : ℝ) : EReal) := (val_main_v172_apply i).trans (e_cst_44 _)
theorem e173 (A : Args) (i : S8192x1.Idx) : val_main_v173 (F := Ideal) (a0 A) (a1 A) (a2 A) (a3 A) (a4 A) (a5 A) (a6 A) (a7 A) (a8 A) (a9 A) (a10 A) i = (((r173 A (i 0) (i 1)) : ℝ) : EReal) := (val_main_v173_apply (a0 A) (a1 A) (a2 A) (a3 A) (a4 A) (a5 A) (a6 A) (a7 A) (a8 A) (a9 A) (a10 A) i).trans ((congrArg₂ Ideal.div (e168 A i) (e172 A i)).trans (div_c _ _ (by show (1024 : ℝ) ≠ 0; norm_num)))
theorem e_cst_45 (i : S_.Idx) : val_main_cst_45 (F := Ideal) i = ((0 : ℝ) : EReal) := (val_main_cst_45_apply i).trans c_zero
theorem e174 (A : Args) (i : S8192.Idx) : val_main_v174 (F := Ideal) (a0 A) (a1 A) (a2 A) (a3 A) (a4 A) (a5 A) (a6 A) (a7 A) (a8 A) (a9 A) (a10 A) i = (((r174 A (i 0)) : ℝ) : EReal) :=
  (val_main_v174_apply (a0 A) (a1 A) (a2 A) (a3 A) (a4 A) (a5 A) (a6 A) (a7 A) (a8 A) (a9 A) (a10 A) i).trans ((congrArg₂ (fun p q : EReal => p + q) (e_cst_45 _) ((Finset.sum_congr rfl fun k _ => e173 A _).trans (sum_c _))).trans
    (zero_add_c _))
theorem e175 (A : Args) (i : S8192x1024.Idx) : val_main_v175 (F := Ideal) (a0 A) (a1 A) (a2 A) (a3 A) (a4 A) (a5 A) (a6 A) (a7 A) (a8 A) (a9 A) (a10 A) i = (((r175 A (i 0) (i 1)) : ℝ) : EReal) := (val_main_v175_apply (a0 A) (a1 A) (a2 A) (a3 A) (a4 A) (a5 A) (a6 A) (a7 A) (a8 A) (a9 A) (a10 A) i).trans (e174 A _)
theorem e176 (A : Args) (i : S8192x1024.Idx) : val_main_v176 (F := Ideal) (a0 A) (a1 A) (a2 A) (a3 A) (a4 A) (a5 A) (a6 A) (a7 A) (a8 A) (a9 A) (a10 A) i = (((r176 A (i 0) (i 1)) : ℝ) : EReal) := (val_main_v176_apply (a0 A) (a1 A) (a2 A) (a3 A) (a4 A) (a5 A) (a6 A) (a7 A) (a8 A) (a9 A) (a10 A) i).trans ((congrArg₂ (fun p q : EReal => p * q) (e175 A i) (e117 A i)).trans (mul_c _ _))
theorem e177 (A : Args) (i : S8192x1024.Idx) : val_main_v177 (F := Ideal) (a0 A) (a1 A) (a2 A) (a3 A) (a4 A) (a5 A) (a6 A) (a7 A) (a8 A) (a9 A) (a10 A) i = (((r177 A (i 0) (i 1)) : ℝ) : EReal) := (val_main_v177_apply (a0 A) (a1 A) (a2 A) (a3 A) (a4 A) (a5 A) (a6 A) (a7 A) (a8 A) (a9 A) (a10 A) i).trans ((congrArg (fun p : EReal => -p) (e176 A i)).trans (neg_c _))
theorem e_cst_46 (i : S_.Idx) : val_main_cst_46 (F := Ideal) i = ((0 : ℝ) : EReal) := (val_main_cst_46_apply i).trans c_zero
theorem e178 (A : Args) (i : S8192.Idx) : val_main_v178 (F := Ideal) (a0 A) (a1 A) (a2 A) (a3 A) (a4 A) (a5 A) (a6 A) (a7 A) (a8 A) (a9 A) (a10 A) i = (((r178 A (i 0)) : ℝ) : EReal) :=
  (val_main_v178_apply (a0 A) (a1 A) (a2 A) (a3 A) (a4 A) (a5 A) (a6 A) (a7 A) (a8 A) (a9 A) (a10 A) i).trans ((congrArg₂ (fun p q : EReal => p + q) (e_cst_46 _) ((Finset.sum_congr rfl fun k _ => e177 A _).trans (sum_c _))).trans
    (zero_add_c _))
theorem e179 (A : Args) (i : S8192x1.Idx) : val_main_v179 (F := Ideal) (a0 A) (a1 A) (a2 A) (a3 A) (a4 A) (a5 A) (a6 A) (a7 A) (a8 A) (a9 A) (a10 A) i = (((r179 A (i 0) (i 1)) : ℝ) : EReal) := (val_main_v179_apply (a0 A) (a1 A) (a2 A) (a3 A) (a4 A) (a5 A) (a6 A) (a7 A) (a8 A) (a9 A) (a10 A) i).trans ((e178 A _).trans (congrArg (fun (q0 : Fin 8192) => (((r178 A q0) : ℝ) : EReal)) (Fin.ext (by have h0 : (i 0).val < 8192 := (i 0).isLt; have h1 : (i 1).val < 1 := (i 1).isLt; show (i 0).val * 1 + (i 1).val = (i 0).val; omega))))
theorem e180 (A : Args) (i : S8192x1024.Idx) : val_main_v180 (F := Ideal) (a0 A) (a1 A) (a2 A) (a3 A) (a4 A) (a5 A) (a6 A) (a7 A) (a8 A) (a9 A) (a10 A) i = (((r180 A (i 0) (i 1)) : ℝ) : EReal) := (val_main_v180_apply (a0 A) (a1 A) (a2 A) (a3 A) (a4 A) (a5 A) (a6 A) (a7 A) (a8 A) (a9 A) (a10 A) i).trans ((congrArg₂ (fun p q : EReal => p + q) (e167 A i) (e176 A i)).trans (add_c _ _))
theorem e181 (A : Args) (i : S8192x1.Idx) : val_main_v181 (F := Ideal) (a0 A) (a1 A) (a2 A) (a3 A) (a4 A) (a5 A) (a6 A) (a7 A) (a8 A) (a9 A) (a10 A) i = (((r181 A (i 0) (i 1)) : ℝ) : EReal) := (val_main_v181_apply (a0 A) (a1 A) (a2 A) (a3 A) (a4 A) (a5 A) (a6 A) (a7 A) (a8 A) (a9 A) (a10 A) i).trans ((congrArg₂ (fun p q : EReal => p + q) (e171 A i) (e179 A i)).trans (add_c _ _))
theorem e_cst_47 (i : S_.Idx) : val_main_cst_47 (F := Ideal) i = ((1024 : ℝ) : EReal) := (val_main_cst_47_apply i).trans c_1024
theorem e182 (A : Args) (i : S8192x1.Idx) : val_main_v182 (F := Ideal) i = (((r182 A (i 0) (i 1)) : ℝ) : EReal) := (val_main_v182_apply i).trans (e_cst_47 _)
theorem e183 (A : Args) (i : S8192x1.Idx) : val_main_v183 (F := Ideal) (a0 A) (a1 A) (a2 A) (a3 A) (a4 A) (a5 A) (a6 A) (a7 A) (a8 A) (a9 A) (a10 A) i = (((r183 A (i 0) (i 1)) : ℝ) : EReal) := (val_main_v183_apply (a0 A) (a1 A) (a2 A) (a3 A) (a4 A) (a5 A) (a6 A) (a7 A) (a8 A) (a9 A) (a10 A) i).trans ((congrArg₂ Ideal.div (e181 A i) (e182 A i)).trans (div_c _ _ (by show (1024 : ℝ) ≠ 0; norm_num)))
theorem e_cst_48 (i : S_.Idx) : val_main_cst_48 (F := Ideal) i = ((0 : ℝ) : EReal) := (val_main_cst_48_apply i).trans c_zero
theorem e184 (A : Args) (i : S8192.Idx) : val_main_v184 (F := Ideal) (a0 A) (a1 A) (a2 A) (a3 A) (a4 A) (a5 A) (a6 A) (a7 A) (a8 A) (a9 A) (a10 A) i = (((r184 A (i 0)) : ℝ) : EReal) :=
  (val_main_v184_apply (a0 A) (a1 A) (a2 A) (a3 A) (a4 A) (a5 A) (a6 A) (a7 A) (a8 A) (a9 A) (a10 A) i).trans ((congrArg₂ (fun p q : EReal => p + q) (e_cst_48 _) ((Finset.sum_congr rfl fun k _ => e183 A _).trans (sum_c _))).trans
    (zero_add_c _))
theorem e185 (A : Args) (i : S8192x1024.Idx) : val_main_v185 (F := Ideal) (a0 A) (a1 A) (a2 A) (a3 A) (a4 A) (a5 A) (a6 A) (a7 A) (a8 A) (a9 A) (a10 A) i = (((r185 A (i 0) (i 1)) : ℝ) : EReal) := (val_main_v185_apply (a0 A) (a1 A) (a2 A) (a3 A) (a4 A) (a5 A) (a6 A) (a7 A) (a8 A) (a9 A) (a10 A) i).trans (e184 A _)
theorem e186 (A : Args) (i : S8192x1024.Idx) : val_main_v186 (F := Ideal) (a0 A) (a1 A) (a2 A) (a3 A) (a4 A) (a5 A) (a6 A) (a7 A) (a8 A) (a9 A) (a10 A) i = (((r186 A (i 0) (i 1)) : ℝ) : EReal) := (val_main_v186_apply (a0 A) (a1 A) (a2 A) (a3 A) (a4 A) (a5 A) (a6 A) (a7 A) (a8 A) (a9 A) (a10 A) i).trans ((congrArg₂ (fun p q : EReal => p + q) (e180 A i) (e185 A i)).trans (add_c _ _))
theorem e187 (A : Args) (i : S8192x1024.Idx) : val_main_v187 (F := Ideal) (a3 A) i = (((r187 A (i 0) (i 1)) : ℝ) : EReal) := (val_main_v187_apply (a3 A) i).trans (e105 A _)
theorem e188 (A : Args) (i : S8192x1024.Idx) : val_main_v188 (F := Ideal) (a0 A) (a1 A) (a2 A) (a3 A) (a4 A) (a5 A) (a6 A) (a7 A) (a8 A) (a9 A) (a10 A) i = (((r188 A (i 0) (i 1)) : ℝ) : EReal) := (val_main_v188_apply (a0 A) (a1 A) (a2 A) (a3 A) (a4 A) (a5 A) (a6 A) (a7 A) (a8 A) (a9 A) (a10 A) i).trans ((congrArg₂ (fun p q : EReal => p * q) (e187 A i) (e186 A i)).trans (mul_c _ _))
theorem e189 (A : Args) (i : S8192x1024.Idx) : val_main_v189 (F := Ideal) (a0 A) (a1 A) (a2 A) (a3 A) (a4 A) (a5 A) (a6 A) (a7 A) (a8 A) (a9 A) (a10 A) i = (((r189 A (i 0) (i 1)) : ℝ) : EReal) := (val_main_v189_apply (a0 A) (a1 A) (a2 A) (a3 A) (a4 A) (a5 A) (a6 A) (a7 A) (a8 A) (a9 A) (a10 A) i).trans ((congrArg₂ (fun p q : EReal => p * q) (e186 A i) (e102 A i)).trans (mul_c _ _))
theorem e_cst_49 (i : S_.Idx) : val_main_cst_49 (F := Ideal) i = ((0 : ℝ) : EReal) := (val_main_cst_49_apply i).trans c_zero
theorem e190 (A : Args) (i : S1024.Idx) : val_main_v190 (F := Ideal) (a0 A) (a1 A) (a2 A) (a3 A) (a4 A) (a5 A) (a6 A) (a7 A) (a8 A) (a9 A) (a10 A) i = (((r190 A (i 0)) : ℝ) : EReal) :=
  (val_main_v190_apply (a0 A) (a1 A) (a2 A) (a3 A) (a4 A) (a5 A) (a6 A) (a7 A) (a8 A) (a9 A) (a10 A) i).trans ((congrArg₂ (fun p q : EReal => p + q) (e_cst_49 _) ((Finset.sum_congr rfl fun k _ => e189 A _).trans (sum_c _))).trans
    (zero_add_c _))
theorem e191 (A : Args) (i : S1x1024.Idx) : val_main_v191 (F := Ideal) (a0 A) (a1 A) (a2 A) (a3 A) (a4 A) (a5 A) (a6 A) (a7 A) (a8 A) (a9 A) (a10 A) i = (((r191 A (i 0) (i 1)) : ℝ) : EReal) := (val_main_v191_apply (a0 A) (a1 A) (a2 A) (a3 A) (a4 A) (a5 A) (a6 A) (a7 A) (a8 A) (a9 A) (a10 A) i).trans ((e190 A _).trans (congrArg (fun (q0 : Fin 1024) => (((r190 A q0) : ℝ) : EReal)) (Fin.ext (by have h0 : (i 0).val < 1 := (i 0).isLt; have h1 : (i 1).val < 1024 := (i 1).isLt; show (i 0).val * 1024 + (i 1).val = (i 1).val; omega))))
theorem e_cst_50 (i : S_.Idx) : val_main_cst_50 (F := Ideal) i = ((0 : ℝ) : EReal) := (val_main_cst_50_apply i).trans c_zero
theorem e192 (A : Args) (i : S1024.Idx) : val_main_v192 (F := Ideal) (a0 A) (a1 A) (a2 A) (a3 A) (a4 A) (a5 A) (a6 A) (a7 A) (a8 A) (a9 A) (a10 A) i = (((r192 A (i 0)) : ℝ) : EReal) :=
  (val_main_v192_apply (a0 A) (a1 A) (a2 A) (a3 A) (a4 A) (a5 A) (a6 A) (a7 A) (a8 A) (a9 A) (a10 A) i).trans ((congrArg₂ (fun p q : EReal => p + q) (e_cst_50 _) ((Finset.sum_congr rfl fun k _ => e191 A _).trans (sum_c _))).trans
    (zero_add_c _))
theorem e_cst_51 (i : S_.Idx) : val_main_cst_51 (F := Ideal) i = ((al : ℝ) : EReal) := (val_main_cst_51_apply i).trans c_al
theorem e193 (A : Args) (i : S8192x1024.Idx) : val_main_v193 (F := Ideal) i = (((r193 A (i 0) (i 1)) : ℝ) : EReal) := (val_main_v193_apply i).trans (e_cst_51 _)
theorem e194 (A : Args) (i : S8192x1024.Idx) : val_main_v194 (F := Ideal) (a0 A) (a1 A) (a2 A) (a3 A) (a4 A) (a5 A) (a6 A) (a7 A) (a8 A) (a9 A) (a10 A) i = (((r194 A (i 0) (i 1)) : ℝ) : EReal) := (val_main_v194_apply (a0 A) (a1 A) (a2 A) (a3 A) (a4 A) (a5 A) (a6 A) (a7 A) (a8 A) (a9 A) (a10 A) i).trans ((congrArg₂ (fun p q : EReal => p * q) (e193 A i) (e186 A i)).trans (mul_c _ _))
theorem e195 (A : Args) (i : S8192x4096.Idx) : val_main_v195 (F := Ideal) (a0 A) (a1 A) (a2 A) (a3 A) (a4 A) (a5 A) (a6 A) (a7 A) (a8 A) (a9 A) (a10 A) i = (((r195 A (i 0) (i 1)) : ℝ) : EReal) :=
  (val_main_v195_apply (a0 A) (a1 A) (a2 A) (a3 A) (a4 A) (a5 A) (a6 A) (a7 A) (a8 A) (a9 A) (a10 A) i).trans ((Finset.sum_congr rfl fun k _ =>
    (congrArg₂ (fun p q : EReal => p * q) (e188 A _) (e13 A _)).trans (mul_c _ _)).trans (sum_c _))
theorem e196 (A : Args) (i : S8192x4096.Idx) : val_main_v196 (F := Ideal) (a0 A) (a1 A) (a2 A) (a3 A) (a4 A) (a5 A) (a6 A) (a7 A) (a8 A) (a9 A) (a10 A) i = (((r196 A (i 0) (i 1)) : ℝ) : EReal) := (val_main_v196_apply (a0 A) (a1 A) (a2 A) (a3 A) (a4 A) (a5 A) (a6 A) (a7 A) (a8 A) (a9 A) (a10 A) i).trans ((congrArg₂ (fun p q : EReal => p * q) (e195 A i) (e100 A i)).trans (mul_c _ _))
theorem e_cst_52 (i : S_.Idx) : val_main_cst_52 (F := Ideal) i = ((0 : ℝ) : EReal) := (val_main_cst_52_apply i).trans c_zero
theorem e197 (A : Args) (i : S8192x4096.Idx) : val_main_v197 (F := Ideal) i = (((r197 A (i 0) (i 1)) : ℝ) : EReal) := (val_main_v197_apply i).trans (e_cst_52 _)
theorem e198 (A : Args) (i : S8192x4096.Idx) : val_main_v198 (F := Ideal) (a0 A) (a1 A) (a2 A) (a3 A) (a4 A) (a5 A) (a6 A) (a7 A) (a8 A) (a9 A) (a10 A) i = (((r198 A (i 0) (i 1)) : ℝ) : EReal) := by
  rw [val_main_v198_apply, val_main_v96_apply, e93 A i, e95 A i, e196 A i, e197 A i]
  exact select_gt_c _ _ _ _
theorem e199 (A : Args) (i : S8192x1024.Idx) : val_main_v199 (F := Ideal) (a0 A) (a1 A) (a2 A) (a3 A) (a4 A) (a5 A) (a6 A) (a7 A) (a8 A) (a9 A) (a10 A) i = (((r199 A (i 0) (i 1)) : ℝ) : EReal) :=
  (val_main_v199_apply (a0 A) (a1 A) (a2 A) (a3 A) (a4 A) (a5 A) (a6 A) (a7 A) (a8 A) (a9 A) (a10 A) i).trans ((Finset.sum_congr rfl fun k _ =>
    (congrArg₂ (fun p q : EReal => p * q) (e198 A _) (e11 A _)).trans (mul_c _ _)).trans (sum_c _))
theorem e_cst_53 (i : S_.Idx) : val_main_cst_53 (F := Ideal) i = ((0 : ℝ) : EReal) := (val_main_cst_53_apply i).trans c_zero
theorem e200 (A : Args) (i : S1024.Idx) : val_main_v200 (F := Ideal) (a0 A) (a1 A) (a2 A) (a3 A) (a4 A) (a5 A) (a6 A) (a7 A) (a8 A) (a9 A) (a10 A) i = (((r200 A (i 0)) : ℝ) : EReal) :=
  (val_main_v200_apply (a0 A) (a1 A) (a2 A) (a3 A) (a4 A) (a5 A) (a6 A) (a7 A) (a8 A) (a9 A) (a10 A) i).trans ((congrArg₂ (fun p q : EReal => p + q) (e_cst_53 _) ((Finset.sum_congr rfl fun k _ => e199 A _).trans (sum_c _))).trans
    (zero_add_c _))
theorem e201 (A : Args) (i : S1x1024.Idx) : val_main_v201 (F := Ideal) (a0 A) (a1 A) (a2 A) (a3 A) (a4 A) (a5 A) (a6 A) (a7 A) (a8 A) (a9 A) (a10 A) i = (((r201 A (i 0) (i 1)) : ℝ) : EReal) := (val_main_v201_apply (a0 A) (a1 A) (a2 A) (a3 A) (a4 A) (a5 A) (a6 A) (a7 A) (a8 A) (a9 A) (a10 A) i).trans ((e200 A _).trans (congrArg (fun (q0 : Fin 1024) => (((r200 A q0) : ℝ) : EReal)) (Fin.ext (by have h0 : (i 0).val < 1 := (i 0).isLt; have h1 : (i 1).val < 1024 := (i 1).isLt; show (i 0).val * 1024 + (i 1).val = (i 1).val; omega))))
theorem e_cst_54 (i : S_.Idx) : val_main_cst_54 (F := Ideal) i = ((0 : ℝ) : EReal) := (val_main_cst_54_apply i).trans c_zero
theorem e202 (A : Args) (i : S1024.Idx) : val_main_v202 (F := Ideal) (a0 A) (a1 A) (a2 A) (a3 A) (a4 A) (a5 A) (a6 A) (a7 A) (a8 A) (a9 A) (a10 A) i = (((r202 A (i 0)) : ℝ) : EReal) :=
  (val_main_v202_apply (a0 A) (a1 A) (a2 A) (a3 A) (a4 A) (a5 A) (a6 A) (a7 A) (a8 A) (a9 A) (a10 A) i).trans ((congrArg₂ (fun p q : EReal => p + q) (e_cst_54 _) ((Finset.sum_congr rfl fun k _ => e201 A _).trans (sum_c _))).trans
    (zero_add_c _))
theorem e203 (A : Args) (i : S8192x1024.Idx) : val_main_v203 (F := Ideal) (a0 A) (a1 A) (a2 A) (a3 A) (a4 A) (a5 A) (a6 A) (a7 A) (a8 A) (a9 A) (a10 A) i = (((r203 A (i 0) (i 1)) : ℝ) : EReal) := (val_main_v203_apply (a0 A) (a1 A) (a2 A) (a3 A) (a4 A) (a5 A) (a6 A) (a7 A) (a8 A) (a9 A) (a10 A) i).trans ((congrArg₂ (fun p q : EReal => p * q) (e83 A i) (e199 A i)).trans (mul_c _ _))
theorem e_cst_55 (i : S_.Idx) : val_main_cst_55 (F := Ideal) i = ((0 : ℝ) : EReal) := (val_main_cst_55_apply i).trans c_zero
theorem e204 (A : Args) (i : S1024.Idx) : val_main_v204 (F := Ideal) (a0 A) (a1 A) (a2 A) (a3 A) (a4 A) (a5 A) (a6 A) (a7 A) (a8 A) (a9 A) (a10 A) i = (((r204 A (i 0)) : ℝ) : EReal) :=
  (val_main_v204_apply (a0 A) (a1 A) (a2 A) (a3 A) (a4 A) (a5 A) (a6 A) (a7 A) (a8 A) (a9 A) (a10 A) i).trans ((congrArg₂ (fun p q : EReal => p + q) (e_cst_55 _) ((Finset.sum_congr rfl fun k _ => e203 A _).trans (sum_c _))).trans
    (zero_add_c _))
theorem e205 (A : Args) (i : S1x1024.Idx) : val_main_v205 (F := Ideal) (a0 A) (a1 A) (a2 A) (a3 A) (a4 A) (a5 A) (a6 A) (a7 A) (a8 A) (a9 A) (a10 A) i = (((r205 A (i 0) (i 1)) : ℝ) : EReal) := (val_main_v205_apply (a0 A) (a1 A) (a2 A) (a3 A) (a4 A) (a5 A) (a6 A) (a7 A) (a8 A) (a9 A) (a10 A) i).trans ((e204 A _).trans (congrArg (fun (q0 : Fin 1024) => (((r204 A q0) : ℝ) : EReal)) (Fin.ext (by have h0 : (i 0).val < 1 := (i 0).isLt; have h1 : (i 1).val < 1024 := (i 1).isLt; show (i 0).val * 1024 + (i 1).val = (i 1).val; omega))))
theorem e206 (A : Args) (i : S8192x1024.Idx) : val_main_v206 (F := Ideal) (a3 A) i = (((r206 A (i 0) (i 1)) : ℝ) : EReal) := (val_main_v206_apply (a3 A) i).trans (e86 A _)
theorem e207 (A : Args) (i : S8192x1024.Idx) : val_main_v207 (F := Ideal) (a0 A) (a1 A) (a2 A) (a3 A) (a4 A) (a5 A) (a6 A) (a7 A) (a8 A) (a9 A) (a10 A) i = (((r207 A (i 0) (i 1)) : ℝ) : EReal) := (val_main_v207_apply (a0 A) (a1 A) (a2 A) (a3 A) (a4 A) (a5 A) (a6 A) (a7 A) (a8 A) (a9 A) (a10 A) i).trans ((congrArg₂ (fun p q : EReal => p * q) (e199 A i) (e206 A i)).trans (mul_c _ _))
theorem e_cst_56 (i : S_.Idx) : val_main_cst_56 (F := Ideal) i = ((0 : ℝ) : EReal) := (val_main_cst_56_apply i).trans c_zero
theorem e208 (A : Args) (i : S1024.Idx) : val_main_v208 (F := Ideal) (a0 A) (a1 A) (a2 A) (a3 A) (a4 A) (a5 A) (a6 A) (a7 A) (a8 A) (a9 A) (a10 A) i = (((r208 A (i 0)) : ℝ) : EReal) :=
  (val_main_v208_apply (a0 A) (a1 A) (a2 A) (a3 A) (a4 A) (a5 A) (a6 A) (a7 A) (a8 A) (a9 A) (a10 A) i).trans ((congrArg₂ (fun p q : EReal => p + q) (e_cst_56 _) ((Finset.sum_congr rfl fun k _ => e205 A _).trans (sum_c _))).trans
    (zero_add_c _))
theorem e209 (A : Args) (i : S8192x1024.Idx) : val_main_v209 (F := Ideal) (a0 A) (a1 A) (a2 A) (a3 A) (a4 A) (a5 A) (a6 A) (a7 A) (a8 A) (a9 A) (a10 A) i = (((r209 A (i 0) (i 1)) : ℝ) : EReal) := (val_main_v209_apply (a0 A) (a1 A) (a2 A) (a3 A) (a4 A) (a5 A) (a6 A) (a7 A) (a8 A) (a9 A) (a10 A) i).trans ((congrArg₂ (fun p q : EReal => p * q) (e75 A i) (e207 A i)).trans (mul_c _ _))
theorem e_cst_57 (i : S_.Idx) : val_main_cst_57 (F := Ideal) i = ((0 : ℝ) : EReal) := (val_main_cst_57_apply i).trans c_zero
theorem e210 (A : Args) (i : S8192.Idx) : val_main_v210 (F := Ideal) (a0 A) (a1 A) (a2 A) (a3 A) (a4 A) (a5 A) (a6 A) (a7 A) (a8 A) (a9 A) (a10 A) i = (((r210 A (i 0)) : ℝ) : EReal) :=
  (val_main_v210_apply (a0 A) (a1 A) (a2 A) (a3 A) (a4 A) (a5 A) (a6 A) (a7 A) (a8 A) (a9 A) (a10 A) i).trans ((congrArg₂ (fun p q : EReal => p + q) (e_cst_57 _) ((Finset.sum_congr rfl fun k _ => e209 A _).trans (sum_c _))).trans
    (zero_add_c _))
theorem e211 (A : Args) (i : S8192x1.Idx) : val_main_v211 (F := Ideal) (a0 A) (a1 A) (a2 A) (a3 A) (a4 A) (a5 A) (a6 A) (a7 A) (a8 A) (a9 A) (a10 A) i = (((r211 A (i 0) (i 1)) : ℝ) : EReal) := (val_main_v211_apply (a0 A) (a1 A) (a2 A) (a3 A) (a4 A) (a5 A) (a6 A) (a7 A) (a8 A) (a9 A) (a10 A) i).trans ((e210 A _).trans (congrArg (fun (q0 : Fin 8192) => (((r210 A q0) : ℝ) : EReal)) (Fin.ext (by have h0 : (i 0).val < 8192 := (i 0).isLt; have h1 : (i 1).val < 1 := (i 1).isLt; show (i 0).val * 1 + (i 1).val = (i 0).val; omega))))
theorem e212 (A : Args) (i : S8192x1024.Idx) : val_main_v212 (F := Ideal) (a0 A) (a1 A) (a3 A) (a4 A) (a5 A) (a8 A) i = (((r212 A (i 0) (i 1)) : ℝ) : EReal) := (val_main_v212_apply (a0 A) (a1 A) (a3 A) (a4 A) (a5 A) (a8 A) i).trans (e78 A _)
theorem e213 (A : Args) (i : S8192x1024.Idx) : val_main_v213 (F := Ideal) (a0 A) (a1 A) (a2 A) (a3 A) (a4 A) (a5 A) (a6 A) (a7 A) (a8 A) (a9 A) (a10 A) i = (((r213 A (i 0) (i 1)) : ℝ) : EReal) := (val_main_v213_apply (a0 A) (a1 A) (a2 A) (a3 A) (a4 A) (a5 A) (a6 A) (a7 A) (a8 A) (a9 A) (a10 A) i).trans ((congrArg₂ (fun p q : EReal => p * q) (e207 A i) (e212 A i)).trans (mul_c _ _))
theorem e214 (A : Args) (i : S8192x1.Idx) : val_main_v214 (F := Ideal) (a0 A) (a1 A) (a2 A) (a3 A) (a4 A) (a5 A) (a6 A) (a7 A) (a8 A) (a9 A) (a10 A) i = (((r214 A (i 0) (i 1)) : ℝ) : EReal) := (val_main_v214_apply (a0 A) (a1 A) (a2 A) (a3 A) (a4 A) (a5 A) (a6 A) (a7 A) (a8 A) (a9 A) (a10 A) i).trans ((congrArg₂ (fun p q : EReal => p * q) (e211 A i) (e81 A i)).trans (mul_c _ _))
theorem e215 (A : Args) (i : S8192x1024.Idx) : val_main_v215 (F := Ideal) (a0 A) (a1 A) (a2 A) (a3 A) (a4 A) (a5 A) (a6 A) (a7 A) (a8 A) (a9 A) (a10 A) i = (((r215 A (i 0) (i 1)) : ℝ) : EReal) := (val_main_v215_apply (a0 A) (a1 A) (a2 A) (a3 A) (a4 A) (a5 A) (a6 A) (a7 A) (a8 A) (a9 A) (a10 A) i).trans ((congrArg (fun p : EReal => -p) (e213 A i)).trans (neg_c _))
theorem e_cst_58 (i : S_.Idx) : val_main_cst_58 (F := Ideal) i = ((0 : ℝ) : EReal) := (val_main_cst_58_apply i).trans c_zero
theorem e216 (A : Args) (i : S8192.Idx) : val_main_v216 (F := Ideal) (a0 A) (a1 A) (a2 A) (a3 A) (a4 A) (a5 A) (a6 A) (a7 A) (a8 A) (a9 A) (a10 A) i = (((r216 A (i 0)) : ℝ) : EReal) :=
  (val_main_v216_apply (a0 A) (a1 A) (a2 A) (a3 A) (a4 A) (a5 A) (a6 A) (a7 A) (a8 A) (a9 A) (a10 A) i).trans ((congrArg₂ (fun p q : EReal => p + q) (e_cst_58 _) ((Finset.sum_congr rfl fun k _ => e215 A _).trans (sum_c _))).trans
    (zero_add_c _))
theorem e217 (A : Args) (i : S8192x1.Idx) : val_main_v217 (F := Ideal) (a0 A) (a1 A) (a2 A) (a3 A) (a4 A) (a5 A) (a6 A) (a7 A) (a8 A) (a9 A) (a10 A) i = (((r217 A (i 0) (i 1)) : ℝ) : EReal) := (val_main_v217_apply (a0 A) (a1 A) (a2 A) (a3 A) (a4 A) (a5 A) (a6 A) (a7 A) (a8 A) (a9 A) (a10 A) i).trans ((e216 A _).trans (congrArg (fun (q0 : Fin 8192) => (((r216 A q0) : ℝ) : EReal)) (Fin.ext (by have h0 : (i 0).val < 8192 := (i 0).isLt; have h1 : (i 1).val < 1 := (i 1).isLt; show (i 0).val * 1 + (i 1).val = (i 0).val; omega))))
theorem e218 (A : Args) (i : S8192x1024.Idx) : val_main_v218 (F := Ideal) (a0 A) (a1 A) (a2 A) (a3 A) (a4 A) (a5 A) (a6 A) (a7 A) (a8 A) (a9 A) (a10 A) i = (((r218 A (i 0) (i 1)) : ℝ) : EReal) := (val_main_v218_apply (a0 A) (a1 A) (a2 A) (a3 A) (a4 A) (a5 A) (a6 A) (a7 A) (a8 A) (a9 A) (a10 A) i).trans ((congrArg₂ (fun p q : EReal => p + q) (e194 A i) (e213 A i)).trans (add_c _ _))
theorem e_cst_59 (i : S_.Idx) : val_main_cst_59 (F := Ideal) i = ((1024 : ℝ) : EReal) := (val_main_cst_59_apply i).trans c_1024
theorem e219 (A : Args) (i : S8192x1.Idx) : val_main_v219 (F := Ideal) i = (((r219 A (i 0) (i 1)) : ℝ) : EReal) := (val_main_v219_apply i).trans (e_cst_59 _)
theorem e220 (A : Args) (i : S8192x1.Idx) : val_main_v220 (F := Ideal) (a0 A) (a1 A) (a2 A) (a3 A) (a4 A) (a5 A) (a6 A) (a7 A) (a8 A) (a9 A) (a10 A) i = (((r220 A (i 0) (i 1)) : ℝ) : EReal) := (val_main_v220_apply (a0 A) (a1 A) (a2 A) (a3 A) (a4 A) (a5 A) (a6 A) (a7 A) (a8 A) (a9 A) (a10 A) i).trans ((congrArg₂ Ideal.div (e214 A i) (e219 A i)).trans (div_c _ _ (by show (1024 : ℝ) ≠ 0; norm_num)))
theorem e_cst_60 (i : S_.Idx) : val_main_cst_60 (F := Ideal) i = ((0 : ℝ) : EReal) := (val_main_cst_60_apply i).trans c_zero
theorem e221 (A : Args) (i : S8192.Idx) : val_main_v221 (F := Ideal) (a0 A) (a1 A) (a2 A) (a3 A) (a4 A) (a5 A) (a6 A) (a7 A) (a8 A) (a9 A) (a10 A) i = (((r221 A (i 0)) : ℝ) : EReal) :=
  (val_main_v221_apply (a0 A) (a1 A) (a2 A) (a3 A) (a4 A) (a5 A) (a6 A) (a7 A) (a8 A) (a9 A) (a10 A) i).trans ((congrArg₂ (fun p q : EReal => p + q) (e_cst_60 _) ((Finset.sum_congr rfl fun k _ => e220 A _).trans (sum_c _))).trans
    (zero_add_c _))
theorem e222 (A : Args) (i : S8192x1024.Idx) : val_main_v222 (F := Ideal) (a0 A) (a1 A) (a2 A) (a3 A) (a4 A) (a5 A) (a6 A) (a7 A) (a8 A) (a9 A) (a10 A) i = (((r222 A (i 0) (i 1)) : ℝ) : EReal) := (val_main_v222_apply (a0 A) (a1 A) (a2 A) (a3 A) (a4 A) (a5 A) (a6 A) (a7 A) (a8 A) (a9 A) (a10 A) i).trans (e221 A _)
theorem e223 (A : Args) (i : S8192x1024.Idx) : val_main_v223 (F := Ideal) (a0 A) (a1 A) (a2 A) (a3 A) (a4 A) (a5 A) (a6 A) (a7 A) (a8 A) (a9 A) (a10 A) i = (((r223 A (i 0) (i 1)) : ℝ) : EReal) := (val_main_v223_apply (a0 A) (a1 A) (a2 A) (a3 A) (a4 A) (a5 A) (a6 A) (a7 A) (a8 A) (a9 A) (a10 A) i).trans ((congrArg₂ (fun p q : EReal => p * q) (e222 A i) (e69 A i)).trans (mul_c _ _))
theorem e224 (A : Args) (i : S8192x1024.Idx) : val_main_v224 (F := Ideal) (a0 A) (a1 A) (a2 A) (a3 A) (a4 A) (a5 A) (a6 A) (a7 A) (a8 A) (a9 A) (a10 A) i = (((r224 A (i 0) (i 1)) : ℝ) : EReal) := (val_main_v224_apply (a0 A) (a1 A) (a2 A) (a3 A) (a4 A) (a5 A) (a6 A) (a7 A) (a8 A) (a9 A) (a10 A) i).trans ((congrArg (fun p : EReal => -p) (e223 A i)).trans (neg_c _))
theorem e_cst_61 (i : S_.Idx) : val_main_cst_61 (F := Ideal) i = ((0 : ℝ) : EReal) := (val_main_cst_61_apply i).trans c_zero
theorem e225 (A : Args) (i : S8192.Idx) : val_main_v225 (F := Ideal) (a0 A) (a1 A) (a2 A) (a3 A) (a4 A) (a5 A) (a6 A) (a7 A) (a8 A) (a9 A) (a10 A) i = (((r225 A (i 0)) : ℝ) : EReal) :=
  (val_main_v225_apply (a0 A) (a1 A) (a2 A) (a3 A) (a4 A) (a5 A) (a6 A) (a7 A) (a8 A) (a9 A) (a10 A) i).trans ((congrArg₂ (fun p q : EReal => p + q) (e_cst_61 _) ((Finset.sum_congr rfl fun k _ => e224 A _).trans (sum_c _))).trans
    (zero_add_c _))
theorem e226 (A : Args) (i : S8192x1.Idx) : val_main_v226 (F := Ideal) (a0 A) (a1 A) (a2 A) (a3 A) (a4 A) (a5 A) (a6 A) (a7 A) (a8 A) (a9 A) (a10 A) i = (((r226 A (i 0) (i 1)) : ℝ) : EReal) := (val_main_v226_apply (a0 A) (a1 A) (a2 A) (a3 A) (a4 A) (a5 A) (a6 A) (a7 A) (a8 A) (a9 A) (a10 A) i).trans ((e225 A _).trans (congrArg (fun (q0 : Fin 8192) => (((r225 A q0) : ℝ) : EReal)) (Fin.ext (by have h0 : (i 0).val < 8192 := (i 0).isLt; have h1 : (i 1).val < 1 := (i 1).isLt; show (i 0).val * 1 + (i 1).val = (i 0).val; omega))))
theorem e227 (A : Args) (i : S8192x1024.Idx) : val_main_v227 (F := Ideal) (a0 A) (a1 A) (a2 A) (a3 A) (a4 A) (a5 A) (a6 A) (a7 A) (a8 A) (a9 A) (a10 A) i = (((r227 A (i 0) (i 1)) : ℝ) : EReal) := (val_main_v227_apply (a0 A) (a1 A) (a2 A) (a3 A) (a4 A) (a5 A) (a6 A) (a7 A) (a8 A) (a9 A) (a10 A) i).trans ((congrArg₂ (fun p q : EReal => p + q) (e218 A i) (e223 A i)).trans (add_c _ _))
theorem e228 (A : Args) (i : S8192x1.Idx) : val_main_v228 (F := Ideal) (a0 A) (a1 A) (a2 A) (a3 A) (a4 A) (a5 A) (a6 A) (a7 A) (a8 A) (a9 A) (a10 A) i = (((r228 A (i 0) (i 1)) : ℝ) : EReal) := (val_main_v228_apply (a0 A) (a1 A) (a2 A) (a3 A) (a4 A) (a5 A) (a6 A) (a7 A) (a8 A) (a9 A) (a10 A) i).trans ((congrArg₂ (fun p q : EReal => p + q) (e217 A i) (e226 A i)).trans (add_c _ _))
theorem e_cst_62 (i : S_.Idx) : val_main_cst_62 (F := Ideal) i = ((1024 : ℝ) : EReal) := (val_main_cst_62_apply i).trans c_1024
theorem e229 (A : Args) (i : S8192x1.Idx) : val_main_v229 (F := Ideal) i = (((r229 A (i 0) (i 1)) : ℝ) : EReal) := (val_main_v229_apply i).trans (e_cst_62 _)
theorem e230 (A : Args) (i : S8192x1.Idx) : val_main_v230 (F := Ideal) (a0 A) (a1 A) (a2 A) (a3 A) (a4 A) (a5 A) (a6 A) (a7 A) (a8 A) (a9 A) (a10 A) i = (((r230 A (i 0) (i 1)) : ℝ) : EReal) := (val_main_v230_apply (a0 A) (a1 A) (a2 A) (a3 A) (a4 A) (a5 A) (a6 A) (a7 A) (a8 A) (a9 A) (a10 A) i).trans ((congrArg₂ Ideal.div (e228 A i) (e229 A i)).trans (div_c _ _ (by show (1024 : ℝ) ≠ 0; norm_num)))
theorem e_cst_63 (i : S_.Idx) : val_main_cst_63 (F := Ideal) i = ((0 : ℝ) : EReal) := (val_main_cst_63_apply i).trans c_zero
theorem e231 (A : Args) (i : S8192.Idx) : val_main_v231 (F := Ideal) (a0 A) (a1 A) (a2 A) (a3 A) (a4 A) (a5 A) (a6 A) (a7 A) (a8 A) (a9 A) (a10 A) i = (((r231 A (i 0)) : ℝ) : EReal) :=
  (val_main_v231_apply (a0 A) (a1 A) (a2 A) (a3 A) (a4 A) (a5 A) (a6 A) (a7 A) (a8 A) (a9 A) (a10 A) i).trans ((congrArg₂ (fun p q : EReal => p + q) (e_cst_63 _) ((Finset.sum_congr rfl fun k _ => e230 A _).trans (sum_c _))).trans
    (zero_add_c _))
theorem e232 (A : Args) (i : S8192x1024.Idx) : val_main_v232 (F := Ideal) (a0 A) (a1 A) (a2 A) (a3 A) (a4 A) (a5 A) (a6 A) (a7 A) (a8 A) (a9 A) (a10 A) i = (((r232 A (i 0) (i 1)) : ℝ) : EReal) := (val_main_v232_apply (a0 A) (a1 A) (a2 A) (a3 A) (a4 A) (a5 A) (a6 A) (a7 A) (a8 A) (a9 A) (a10 A) i).trans (e231 A _)
theorem e233 (A : Args) (i : S8192x1024.Idx) : val_main_v233 (F := Ideal) (a0 A) (a1 A) (a2 A) (a3 A) (a4 A) (a5 A) (a6 A) (a7 A) (a8 A) (a9 A) (a10 A) i = (((r233 A (i 0) (i 1)) : ℝ) : EReal) := (val_main_v233_apply (a0 A) (a1 A) (a2 A) (a3 A) (a4 A) (a5 A) (a6 A) (a7 A) (a8 A) (a9 A) (a10 A) i).trans ((congrArg₂ (fun p q : EReal => p + q) (e227 A i) (e232 A i)).trans (add_c _ _))
theorem e_cst_64 (i : S_.Idx) : val_main_cst_64 (F := Ideal) i = ((0 : ℝ) : EReal) := (val_main_cst_64_apply i).trans c_zero
theorem e234 (A : Args) (i : S1024.Idx) : val_main_v234 (F := Ideal) (a0 A) (a1 A) (a2 A) (a3 A) (a4 A) (a5 A) (a6 A) (a7 A) (a8 A) (a9 A) (a10 A) i = (((r234 A (i 0)) : ℝ) : EReal) :=
  (val_main_v234_apply (a0 A) (a1 A) (a2 A) (a3 A) (a4 A) (a5 A) (a6 A) (a7 A) (a8 A) (a9 A) (a10 A) i).trans ((congrArg₂ (fun p q : EReal => p + q) (e_cst_64 _) ((Finset.sum_congr rfl fun k _ => e233 A _).trans (sum_c _))).trans
    (zero_add_c _))
theorem e235 (A : Args) (i : S1x1024.Idx) : val_main_v235 (F := Ideal) (a0 A) (a1 A) (a2 A) (a3 A) (a4 A) (a5 A) (a6 A) (a7 A) (a8 A) (a9 A) (a10 A) i = (((r235 A (i 0) (i 1)) : ℝ) : EReal) := (val_main_v235_apply (a0 A) (a1 A) (a2 A) (a3 A) (a4 A) (a5 A) (a6 A) (a7 A) (a8 A) (a9 A) (a10 A) i).trans ((e234 A _).trans (congrArg (fun (q0 : Fin 1024) => (((r234 A q0) : ℝ) : EReal)) (Fin.ext (by have h0 : (i 0).val < 1 := (i 0).isLt; have h1 : (i 1).val < 1024 := (i 1).isLt; show (i 0).val * 1024 + (i 1).val = (i 1).val; omega))))
theorem e_cst_65 (i : S_.Idx) : val_main_cst_65 (F := Ideal) i = ((0 : ℝ) : EReal) := (val_main_cst_65_apply i).trans c_zero
theorem e236 (A : Args) (i : S1024.Idx) : val_main_v236 (F := Ideal) (a0 A) (a1 A) (a2 A) (a3 A) (a4 A) (a5 A) (a6 A) (a7 A) (a8 A) (a9 A) (a10 A) i = (((r236 A (i 0)) : ℝ) : EReal) :=
  (val_main_v236_apply (a0 A) (a1 A) (a2 A) (a3 A) (a4 A) (a5 A) (a6 A) (a7 A) (a8 A) (a9 A) (a10 A) i).trans ((congrArg₂ (fun p q : EReal => p + q) (e_cst_65 _) ((Finset.sum_congr rfl fun k _ => e235 A _).trans (sum_c _))).trans
    (zero_add_c _))
theorem e237 (A : Args) (i : S8192x1024.Idx) : val_main_v237 (F := Ideal) (a0 A) (a1 A) (a2 A) (a3 A) (a4 A) (a5 A) (a6 A) (a7 A) (a8 A) (a9 A) (a10 A) i = (((r237 A (i 0) (i 1)) : ℝ) : EReal) := (val_main_v237_apply (a0 A) (a1 A) (a2 A) (a3 A) (a4 A) (a5 A) (a6 A) (a7 A) (a8 A) (a9 A) (a10 A) i).trans ((congrArg₂ (fun p q : EReal => p * q) (e54 A i) (e233 A i)).trans (mul_c _ _))
theorem e_cst_66 (i : S_.Idx) : val_main_cst_66 (F := Ideal) i = ((0 : ℝ) : EReal) := (val_main_cst_66_apply i).trans c_zero
theorem e238 (A : Args) (i : S1024.Idx) : val_main_v238 (F := Ideal) (a0 A) (a1 A) (a2 A) (a3 A) (a4 A) (a5 A) (a6 A) (a7 A) (a8 A) (a9 A) (a10 A) i = (((r238 A (i 0)) : ℝ) : EReal) :=
  (val_main_v238_apply (a0 A) (a1 A) (a2 A) (a3 A) (a4 A) (a5 A) (a6 A) (a7 A) (a8 A) (a9 A) (a10 A) i).trans ((congrArg₂ (fun p q : EReal => p + q) (e_cst_66 _) ((Finset.sum_congr rfl fun k _ => e237 A _).trans (sum_c _))).trans
    (zero_add_c _))
theorem e239 (A : Args) (i : S1x1024.Idx) : val_main_v239 (F := Ideal) (a0 A) (a1 A) (a2 A) (a3 A) (a4 A) (a5 A) (a6 A) (a7 A) (a8 A) (a9 A) (a10 A) i = (((r239 A (i 0) (i 1)) : ℝ) : EReal) := (val_main_v239_apply (a0 A) (a1 A) (a2 A) (a3 A) (a4 A) (a5 A) (a6 A) (a7 A) (a8 A) (a9 A) (a10 A) i).trans ((e238 A _).trans (congrArg (fun (q0 : Fin 1024) => (((r238 A q0) : ℝ) : EReal)) (Fin.ext (by have h0 : (i 0).val < 1 := (i 0).isLt; have h1 : (i 1).val < 1024 := (i 1).isLt; show (i 0).val * 1024 + (i 1).val = (i 1).val; omega))))
theorem e240 (A : Args) (i : S8192x1024.Idx) : val_main_v240 (F := Ideal) (a4 A) i = (((r240 A (i 0) (i 1)) : ℝ) : EReal) := (val_main_v240_apply (a4 A) i).trans (e55 A _)
theorem e241 (A : Args) (i : S8192x1024.Idx) : val_main_v241 (F := Ideal) (a0 A) (a1 A) (a2 A) (a3 A) (a4 A) (a5 A) (a6 A) (a7 A) (a8 A) (a9 A) (a10 A) i = (((r241 A (i 0) (i 1)) : ℝ) : EReal) := (val_main_v241_apply (a0 A) (a1 A) (a2 A) (a3 A) (a4 A) (a5 A) (a6 A) (a7 A) (a8 A) (a9 A) (a10 A) i).trans ((congrArg₂ (fun p q : EReal => p * q) (e233 A i) (e240 A i)).trans (mul_c _ _))
theorem e_cst_67 (i : S_.Idx) : val_main_cst_67 (F := Ideal) i = ((0 : ℝ) : EReal) := (val_main_cst_67_apply i).trans c_zero
theorem e242 (A : Args) (i : S1024.Idx) : val_main_v242 (F := Ideal) (a0 A) (a1 A) (a2 A) (a3 A) (a4 A) (a5 A) (a6 A) (a7 A) (a8 A) (a9 A) (a10 A) i = (((r242 A (i 0)) : ℝ) : EReal) :=
  (val_main_v242_apply (a0 A) (a1 A) (a2 A) (a3 A) (a4 A) (a5 A) (a6 A) (a7 A) (a8 A) (a9 A) (a10 A) i).trans ((congrArg₂ (fun p q : EReal => p + q) (e_cst_67 _) ((Finset.sum_congr rfl fun k _ => e239 A _).trans (sum_c _))).trans
    (zero_add_c _))
theorem e243 (A : Args) (i : S8192x1024.Idx) : val_main_v243 (F := Ideal) (a0 A) (a1 A) (a2 A) (a3 A) (a4 A) (a5 A) (a6 A) (a7 A) (a8 A) (a9 A) (a10 A) i = (((r243 A (i 0) (i 1)) : ℝ) : EReal) := (val_main_v243_apply (a0 A) (a1 A) (a2 A) (a3 A) (a4 A) (a5 A) (a6 A) (a7 A) (a8 A) (a9 A) (a10 A) i).trans ((congrArg₂ (fun p q : EReal => p * q) (e46 A i) (e241 A i)).trans (mul_c _ _))
theorem e_cst_68 (i : S_.Idx) : val_main_cst_68 (F := Ideal) i = ((0 : ℝ) : EReal) := (val_main_cst_68_apply i).trans c_zero
theorem e244 (A : Args) (i : S8192.Idx) : val_main_v244 (F := Ideal) (a0 A) (a1 A) (a2 A) (a3 A) (a4 A) (a5 A) (a6 A) (a7 A) (a8 A) (a9 A) (a10 A) i = (((r244 A (i 0)) : ℝ) : EReal) :=
  (val_main_v244_apply (a0 A) (a1 A) (a2 A) (a3 A) (a4 A) (a5 A) (a6 A) (a7 A) (a8 A) (a9 A) (a10 A) i).trans ((congrArg₂ (fun p q : EReal => p + q) (e_cst_68 _) ((Finset.sum_congr rfl fun k _ => e243 A _).trans (sum_c _))).trans
    (zero_add_c _))
theorem e245 (A : Args) (i : S8192x1.Idx) : val_main_v245 (F := Ideal) (a0 A) (a1 A) (a2 A) (a3 A) (a4 A) (a5 A) (a6 A) (a7 A) (a8 A) (a9 A) (a10 A) i = (((r245 A (i 0) (i 1)) : ℝ) : EReal) := (val_main_v245_apply (a0 A) (a1 A) (a2 A) (a3 A) (a4 A) (a5 A) (a6 A) (a7 A) (a8 A) (a9 A) (a10 A) i).trans ((e244 A _).trans (congrArg (fun (q0 : Fin 8192) => (((r244 A q0) : ℝ) : EReal)) (Fin.ext (by have h0 : (i 0).val < 8192 := (i 0).isLt; have h1 : (i 1).val < 1 := (i 1).isLt; show (i 0).val * 1 + (i 1).val = (i 0).val; omega))))
theorem e246 (A : Args) (i : S8192x1024.Idx) : val_main_v246 (F := Ideal) (a0 A) (a1 A) (a3 A) (a8 A) i = (((r246 A (i 0) (i 1)) : ℝ) : EReal) := (val_main_v246_apply (a0 A) (a1 A) (a3 A) (a8 A) i).trans (e49 A _)
theorem e247 (A : Args) (i : S8192x1024.Idx) : val_main_v247 (F := Ideal) (a0 A) (a1 A) (a2 A) (a3 A) (a4 A) (a5 A) (a6 A) (a7 A) (a8 A) (a9 A) (a10 A) i = (((r247 A (i 0) (i 1)) : ℝ) : EReal) := (val_main_v247_apply (a0 A) (a1 A) (a2 A) (a3 A) (a4 A) (a5 A) (a6 A) (a7 A) (a8 A) (a9 A) (a10 A) i).trans ((congrArg₂ (fun p q : EReal => p * q) (e241 A i) (e246 A i)).trans (mul_c _ _))
theorem e248 (A : Args) (i : S8192x1.Idx) : val_main_v248 (F := Ideal) (a0 A) (a1 A) (a2 A) (a3 A) (a4 A) (a5 A) (a6 A) (a7 A) (a8 A) (a9 A) (a10 A) i = (((r248 A (i 0) (i 1)) : ℝ) : EReal) := (val_main_v248_apply (a0 A) (a1 A) (a2 A) (a3 A) (a4 A) (a5 A) (a6 A) (a7 A) (a8 A) (a9 A) (a10 A) i).trans ((congrArg₂ (fun p q : EReal => p * q) (e245 A i) (e52 A i)).trans (mul_c _ _))
theorem e249 (A : Args) (i : S8192x1024.Idx) : val_main_v249 (F := Ideal) (a0 A) (a1 A) (a2 A) (a3 A) (a4 A) (a5 A) (a6 A) (a7 A) (a8 A) (a9 A) (a10 A) i = (((r249 A (i 0) (i 1)) : ℝ) : EReal) := (val_main_v249_apply (a0 A) (a1 A) (a2 A) (a3 A) (a4 A) (a5 A) (a6 A) (a7 A) (a8 A) (a9 A) (a10 A) i).trans ((congrArg (fun p : EReal => -p) (e247 A i)).trans (neg_c _))
theorem e_cst_69 (i : S_.Idx) : val_main_cst_69 (F := Ideal) i = ((0 : ℝ) : EReal) := (val_main_cst_69_apply i).trans c_zero
theorem e250 (A : Args) (i : S8192.Idx) : val_main_v250 (F := Ideal) (a0 A) (a1 A) (a2 A) (a3 A) (a4 A) (a5 A) (a6 A) (a7 A) (a8 A) (a9 A) (a10 A) i = (((r250 A (i 0)) : ℝ) : EReal) :=
  (val_main_v250_apply (a0 A) (a1 A) (a2 A) (a3 A) (a4 A) (a5 A) (a6 A) (a7 A) (a8 A) (a9 A) (a10 A) i).trans ((congrArg₂ (fun p q : EReal => p + q) (e_cst_69 _) ((Finset.sum_congr rfl fun k _ => e249 A _).trans (sum_c _))).trans
    (zero_add_c _))
theorem e251 (A : Args) (i : S8192x1.Idx) : val_main_v251 (F := Ideal) (a0 A) (a1 A) (a2 A) (a3 A) (a4 A) (a5 A) (a6 A) (a7 A) (a8 A) (a9 A) (a10 A) i = (((r251 A (i 0) (i 1)) : ℝ) : EReal) := (val_main_v251_apply (a0 A) (a1 A) (a2 A) (a3 A) (a4 A) (a5 A) (a6 A) (a7 A) (a8 A) (a9 A) (a10 A) i).trans ((e250 A _).trans (congrArg (fun (q0 : Fin 8192) => (((r250 A q0) : ℝ) : EReal)) (Fin.ext (by have h0 : (i 0).val < 8192 := (i 0).isLt; have h1 : (i 1).val < 1 := (i 1).isLt; show (i 0).val * 1 + (i 1).val = (i 0).val; omega))))
theorem e_cst_70 (i : S_.Idx) : val_main_cst_70 (F := Ideal) i = ((1024 : ℝ) : EReal) := (val_main_cst_70_apply i).trans c_1024
theorem e252 (A : Args) (i : S8192x1.Idx) : val_main_v252 (F := Ideal) i = (((r252 A (i 0) (i 1)) : ℝ) : EReal) := (val_main_v252_apply i).trans (e_cst_70 _)
theorem e253 (A : Args) (i : S8192x1.Idx) : val_main_v253 (F := Ideal) (a0 A) (a1 A) (a2 A) (a3 A) (a4 A) (a5 A) (a6 A) (a7 A) (a8 A) (a9 A) (a10 A) i = (((r253 A (i 0) (i 1)) : ℝ) : EReal) := (val_main_v253_apply (a0 A) (a1 A) (a2 A) (a3 A) (a4 A) (a5 A) (a6 A) (a7 A) (a8 A) (a9 A) (a10 A) i).trans ((congrArg₂ Ideal.div (e248 A i) (e252 A i)).trans (div_c _ _ (by show (1024 : ℝ) ≠ 0; norm_num)))
theorem e_cst_71 (i : S_.Idx) : val_main_cst_71 (F := Ideal) i = ((0 : ℝ) : EReal) := (val_main_cst_71_apply i).trans c_zero
theorem e254 (A : Args) (i : S8192.Idx) : val_main_v254 (F := Ideal) (a0 A) (a1 A) (a2 A) (a3 A) (a4 A) (a5 A) (a6 A) (a7 A) (a8 A) (a9 A) (a10 A) i = (((r254 A (i 0)) : ℝ) : EReal) :=
  (val_main_v254_apply (a0 A) (a1 A) (a2 A) (a3 A) (a4 A) (a5 A) (a6 A) (a7 A) (a8 A) (a9 A) (a10 A) i).trans ((congrArg₂ (fun p q : EReal => p + q) (e_cst_71 _) ((Finset.sum_congr rfl fun k _ => e253 A _).trans (sum_c _))).trans
    (zero_add_c _))
theorem e255 (A : Args) (i : S8192x1024.Idx) : val_main_v255 (F := Ideal) (a0 A) (a1 A) (a2 A) (a3 A) (a4 A) (a5 A) (a6 A) (a7 A) (a8 A) (a9 A) (a10 A) i = (((r255 A (i 0) (i 1)) : ℝ) : EReal) := (val_main_v255_apply (a0 A) (a1 A) (a2 A) (a3 A) (a4 A) (a5 A) (a6 A) (a7 A) (a8 A) (a9 A) (a10 A) i).trans (e254 A _)
theorem e256 (A : Args) (i : S8192x1024.Idx) : val_main_v256 (F := Ideal) (a0 A) (a1 A) (a2 A) (a3 A) (a4 A) (a5 A) (a6 A) (a7 A) (a8 A) (a9 A) (a10 A) i = (((r256 A (i 0) (i 1)) : ℝ) : EReal) := (val_main_v256_apply (a0 A) (a1 A) (a2 A) (a3 A) (a4 A) (a5 A) (a6 A) (a7 A) (a8 A) (a9 A) (a10 A) i).trans ((congrArg₂ (fun p q : EReal => p * q) (e255 A i) (e40 A i)).trans (mul_c _ _))
theorem e257 (A : Args) (i : S8192x1024.Idx) : val_main_v257 (F := Ideal) (a0 A) (a1 A) (a2 A) (a3 A) (a4 A) (a5 A) (a6 A) (a7 A) (a8 A) (a9 A) (a10 A) i = (((r257 A (i 0) (i 1)) : ℝ) : EReal) := (val_main_v257_apply (a0 A) (a1 A) (a2 A) (a3 A) (a4 A) (a5 A) (a6 A) (a7 A) (a8 A) (a9 A) (a10 A) i).trans ((congrArg (fun p : EReal => -p) (e256 A i)).trans (neg_c _))
theorem e_cst_72 (i : S_.Idx) : val_main_cst_72 (F := Ideal) i = ((0 : ℝ) : EReal) := (val_main_cst_72_apply i).trans c_zero
theorem e258 (A : Args) (i : S8192.Idx) : val_main_v258 (F := Ideal) (a0 A) (a1 A) (a2 A) (a3 A) (a4 A) (a5 A) (a6 A) (a7 A) (a8 A) (a9 A) (a10 A) i = (((r258 A (i 0)) : ℝ) : EReal) :=
  (val_main_v258_apply (a0 A) (a1 A) (a2 A) (a3 A) (a4 A) (a5 A) (a6 A) (a7 A) (a8 A) (a9 A) (a10 A) i).trans ((congrArg₂ (fun p q : EReal => p + q) (e_cst_72 _) ((Finset.sum_congr rfl fun k _ => e257 A _).trans (sum_c _))).trans
    (zero_add_c _))
theorem e259 (A : Args) (i : S8192x1.Idx) : val_main_v259 (F := Ideal) (a0 A) (a1 A) (a2 A) (a3 A) (a4 A) (a5 A) (a6 A) (a7 A) (a8 A) (a9 A) (a10 A) i = (((r259 A (i 0) (i 1)) : ℝ) : EReal) := (val_main_v259_apply (a0 A) (a1 A) (a2 A) (a3 A) (a4 A) (a5 A) (a6 A) (a7 A) (a8 A) (a9 A) (a10 A) i).trans ((e258 A _).trans (congrArg (fun (q0 : Fin 8192) => (((r258 A q0) : ℝ) : EReal)) (Fin.ext (by have h0 : (i 0).val < 8192 := (i 0).isLt; have h1 : (i 1).val < 1 := (i 1).isLt; show (i 0).val * 1 + (i 1).val = (i 0).val; omega))))
theorem e260 (A : Args) (i : S8192x1024.Idx) : val_main_v260 (F := Ideal) (a0 A) (a1 A) (a2 A) (a3 A) (a4 A) (a5 A) (a6 A) (a7 A) (a8 A) (a9 A) (a10 A) i = (((r260 A (i 0) (i 1)) : ℝ) : EReal) := (val_main_v260_apply (a0 A) (a1 A) (a2 A) (a3 A) (a4 A) (a5 A) (a6 A) (a7 A) (a8 A) (a9 A) (a10 A) i).trans ((congrArg₂ (fun p q : EReal => p + q) (e247 A i) (e256 A i)).trans (add_c _ _))
theorem e261 (A : Args) (i : S8192x1.Idx) : val_main_v261 (F := Ideal) (a0 A) (a1 A) (a2 A) (a3 A) (a4 A) (a5 A) (a6 A) (a7 A) (a8 A) (a9 A) (a10 A) i = (((r261 A (i 0) (i 1)) : ℝ) : EReal) := (val_main_v261_apply (a0 A) (a1 A) (a2 A) (a3 A) (a4 A) (a5 A) (a6 A) (a7 A) (a8 A) (a9 A) (a10 A) i).trans ((congrArg₂ (fun p q : EReal => p + q) (e251 A i) (e259 A i)).trans (add_c _ _))
theorem e_cst_73 (i : S_.Idx) : val_main_cst_73 (F := Ideal) i = ((1024 : ℝ) : EReal) := (val_main_cst_73_apply i).trans c_1024
theorem e262 (A : Args) (i : S8192x1.Idx) : val_main_v262 (F := Ideal) i = (((r262 A (i 0) (i 1)) : ℝ) : EReal) := (val_main_v262_apply i).trans (e_cst_73 _)
theorem e263 (A : Args) (i : S8192x1.Idx) : val_main_v263 (F := Ideal) (a0 A) (a1 A) (a2 A) (a3 A) (a4 A) (a5 A) (a6 A) (a7 A) (a8 A) (a9 A) (a10 A) i = (((r263 A (i 0) (i 1)) : ℝ) : EReal) := (val_main_v263_apply (a0 A) (a1 A) (a2 A) (a3 A) (a4 A) (a5 A) (a6 A) (a7 A) (a8 A) (a9 A) (a10 A) i).trans ((congrArg₂ Ideal.div (e261 A i) (e262 A i)).trans (div_c _ _ (by show (1024 : ℝ) ≠ 0; norm_num)))
theorem e_cst_74 (i : S_.Idx) : val_main_cst_74 (F := Ideal) i = ((0 : ℝ) : EReal) := (val_main_cst_74_apply i).trans c_zero
theorem e264 (A : Args) (i : S8192.Idx) : val_main_v264 (F := Ideal) (a0 A) (a1 A) (a2 A) (a3 A) (a4 A) (a5 A) (a6 A) (a7 A) (a8 A) (a9 A) (a10 A) i = (((r264 A (i 0)) : ℝ) : EReal) :=
  (val_main_v264_apply (a0 A) (a1 A) (a2 A) (a3 A) (a4 A) (a5 A) (a6 A) (a7 A) (a8 A) (a9 A) (a10 A) i).trans ((congrArg₂ (fun p q : EReal => p + q) (e_cst_74 _) ((Finset.sum_congr rfl fun k _ => e263 A _).trans (sum_c _))).trans
    (zero_add_c _))
theorem e265 (A : Args) (i : S8192x1024.Idx) : val_main_v265 (F := Ideal) (a0 A) (a1 A) (a2 A) (a3 A) (a4 A) (a5 A) (a6 A) (a7 A) (a8 A) (a9 A) (a10 A) i = (((r265 A (i 0) (i 1)) : ℝ) : EReal) := (val_main_v265_apply (a0 A) (a1 A) (a2 A) (a3 A) (a4 A) (a5 A) (a6 A) (a7 A) (a8 A) (a9 A) (a10 A) i).trans (e264 A _)
theorem e266 (A : Args) (i : S8192x1024.Idx) : val_main_v266 (F := Ideal) (a0 A) (a1 A) (a2 A) (a3 A) (a4 A) (a5 A) (a6 A) (a7 A) (a8 A) (a9 A) (a10 A) i = (((r266 A (i 0) (i 1)) : ℝ) : EReal) := (val_main_v266_apply (a0 A) (a1 A) (a2 A) (a3 A) (a4 A) (a5 A) (a6 A) (a7 A) (a8 A) (a9 A) (a10 A) i).trans ((congrArg₂ (fun p q : EReal => p + q) (e260 A i) (e265 A i)).trans (add_c _ _))
theorem e267 (A : Args) (i : S8192x1024.Idx) : val_main_v267 (F := Ideal) (a3 A) i = (((r267 A (i 0) (i 1)) : ℝ) : EReal) := (val_main_v267_apply (a3 A) i).trans (e28 A _)
theorem e268 (A : Args) (i : S8192x1024.Idx) : val_main_v268 (F := Ideal) (a0 A) (a1 A) (a2 A) (a3 A) (a4 A) (a5 A) (a6 A) (a7 A) (a8 A) (a9 A) (a10 A) i = (((r268 A (i 0) (i 1)) : ℝ) : EReal) := (val_main_v268_apply (a0 A) (a1 A) (a2 A) (a3 A) (a4 A) (a5 A) (a6 A) (a7 A) (a8 A) (a9 A) (a10 A) i).trans ((congrArg₂ (fun p q : EReal => p * q) (e267 A i) (e266 A i)).trans (mul_c _ _))
theorem e269 (A : Args) (i : S8192x1024.Idx) : val_main_v269 (F := Ideal) (a0 A) (a1 A) (a2 A) (a3 A) (a4 A) (a5 A) (a6 A) (a7 A) (a8 A) (a9 A) (a10 A) i = (((r269 A (i 0) (i 1)) : ℝ) : EReal) := (val_main_v269_apply (a0 A) (a1 A) (a2 A) (a3 A) (a4 A) (a5 A) (a6 A) (a7 A) (a8 A) (a9 A) (a10 A) i).trans ((congrArg₂ (fun p q : EReal => p * q) (e266 A i) (e25 A i)).trans (mul_c _ _))
theorem e_cst_75 (i : S_.Idx) : val_main_cst_75 (F := Ideal) i = ((0 : ℝ) : EReal) := (val_main_cst_75_apply i).trans c_zero
theorem e270 (A : Args) (i : S1024.Idx) : val_main_v270 (F := Ideal) (a0 A) (a1 A) (a2 A) (a3 A) (a4 A) (a5 A) (a6 A) (a7 A) (a8 A) (a9 A) (a10 A) i = (((r270 A (i 0)) : ℝ) : EReal) :=
  (val_main_v270_apply (a0 A) (a1 A) (a2 A) (a3 A) (a4 A) (a5 A) (a6 A) (a7 A) (a8 A) (a9 A) (a10 A) i).trans ((congrArg₂ (fun p q : EReal => p + q) (e_cst_75 _) ((Finset.sum_congr rfl fun k _ => e269 A _).trans (sum_c _))).trans
    (zero_add_c _))
theorem e271 (A : Args) (i : S1x1024.Idx) : val_main_v271 (F := Ideal) (a0 A) (a1 A) (a2 A) (a3 A) (a4 A) (a5 A) (a6 A) (a7 A) (a8 A) (a9 A) (a10 A) i = (((r271 A (i 0) (i 1)) : ℝ) : EReal) := (val_main_v271_apply (a0 A) (a1 A) (a2 A) (a3 A) (a4 A) (a5 A) (a6 A) (a7 A) (a8 A) (a9 A) (a10 A) i).trans ((e270 A _).trans (congrArg (fun (q0 : Fin 1024) => (((r270 A q0) : ℝ) : EReal)) (Fin.ext (by have h0 : (i 0).val < 1 := (i 0).isLt; have h1 : (i 1).val < 1024 := (i 1).isLt; show (i 0).val * 1024 + (i 1).val = (i 1).val; omega))))
theorem e_cst_76 (i : S_.Idx) : val_main_cst_76 (F := Ideal) i = ((0 : ℝ) : EReal) := (val_main_cst_76_apply i).trans c_zero
theorem e272 (A : Args) (i : S1024.Idx) : val_main_v272 (F := Ideal) (a0 A) (a1 A) (a2 A) (a3 A) (a4 A) (a5 A) (a6 A) (a7 A) (a8 A) (a9 A) (a10 A) i = (((r272 A (i 0)) : ℝ) : EReal) :=
  (val_main_v272_apply (a0 A) (a1 A) (a2 A) (a3 A) (a4 A) (a5 A) (a6 A) (a7 A) (a8 A) (a9 A) (a10 A) i).trans ((congrArg₂ (fun p q : EReal => p + q) (e_cst_76 _) ((Finset.sum_congr rfl fun k _ => e271 A _).trans (sum_c _))).trans
    (zero_add_c _))
theorem e_cst_77 (i : S_.Idx) : val_main_cst_77 (F := Ideal) i = ((al : ℝ) : EReal) := (val_main_cst_77_apply i).trans c_al
theorem e273 (A : Args) (i : S8192x1024.Idx) : val_main_v273 (F := Ideal) i = (((r273 A (i 0) (i 1)) : ℝ) : EReal) := (val_main_v273_apply i).trans (e_cst_77 _)
theorem e274 (A : Args) (i : S8192x1024.Idx) : val_main_v274 (F := Ideal) (a0 A) (a1 A) (a2 A) (a3 A) (a4 A) (a5 A) (a6 A) (a7 A) (a8 A) (a9 A) (a10 A) i = (((r274 A (i 0) (i 1)) : ℝ) : EReal) := (val_main_v274_apply (a0 A) (a1 A) (a2 A) (a3 A) (a4 A) (a5 A) (a6 A) (a7 A) (a8 A) (a9 A) (a10 A) i).trans ((congrArg₂ (fun p q : EReal => p * q) (e273 A i) (e266 A i)).trans (mul_c _ _))
theorem e275 (A : Args) (i : S8192x1024.Idx) : val_main_v275 (F := Ideal) (a0 A) (a1 A) (a2 A) (a3 A) (a4 A) (a5 A) (a6 A) (a7 A) (a8 A) (a9 A) (a10 A) i = (((r275 A (i 0) (i 1)) : ℝ) : EReal) :=
  (val_main_v275_apply (a0 A) (a1 A) (a2 A) (a3 A) (a4 A) (a5 A) (a6 A) (a7 A) (a8 A) (a9 A) (a10 A) i).trans ((Finset.sum_congr rfl fun k _ =>
    (congrArg₂ (fun p q : EReal => p * q) (e268 A _) (e8 A _)).trans (mul_c _ _)).trans (sum_c _))
theorem e276 (A : Args) (i : S1x1024.Idx) : val_main_v276 (F := Ideal) (a0 A) (a1 A) (a2 A) (a3 A) (a4 A) (a5 A) (a6 A) (a7 A) (a8 A) (a9 A) (a10 A) i = (((r276 A (i 0) (i 1)) : ℝ) : EReal) := (val_main_v276_apply (a0 A) (a1 A) (a2 A) (a3 A) (a4 A) (a5 A) (a6 A) (a7 A) (a8 A) (a9 A) (a10 A) i).trans (e272 A _)
theorem e277 (A : Args) (i : S1x1024.Idx) : val_main_v277 (F := Ideal) (a0 A) (a1 A) (a2 A) (a3 A) (a4 A) (a5 A) (a6 A) (a7 A) (a8 A) (a9 A) (a10 A) i = (((r277 A (i 0) (i 1)) : ℝ) : EReal) := (val_main_v277_apply (a0 A) (a1 A) (a2 A) (a3 A) (a4 A) (a5 A) (a6 A) (a7 A) (a8 A) (a9 A) (a10 A) i).trans (e208 A _)
theorem e278 (A : Args) (i : S1x1024.Idx) : val_main_v278 (F := Ideal) (a0 A) (a1 A) (a2 A) (a3 A) (a4 A) (a5 A) (a6 A) (a7 A) (a8 A) (a9 A) (a10 A) i = (((r278 A (i 0) (i 1)) : ℝ) : EReal) := (val_main_v278_apply (a0 A) (a1 A) (a2 A) (a3 A) (a4 A) (a5 A) (a6 A) (a7 A) (a8 A) (a9 A) (a10 A) i).trans (e202 A _)
theorem e279 (A : Args) (i : S1x1024.Idx) : val_main_v279 (F := Ideal) (a0 A) (a1 A) (a2 A) (a3 A) (a4 A) (a5 A) (a6 A) (a7 A) (a8 A) (a9 A) (a10 A) i = (((r279 A (i 0) (i 1)) : ℝ) : EReal) := (val_main_v279_apply (a0 A) (a1 A) (a2 A) (a3 A) (a4 A) (a5 A) (a6 A) (a7 A) (a8 A) (a9 A) (a10 A) i).trans (e192 A _)
theorem e280 (A : Args) (i : S1x1024.Idx) : val_main_v280 (F := Ideal) (a0 A) (a1 A) (a2 A) (a3 A) (a4 A) (a5 A) (a6 A) (a7 A) (a8 A) (a9 A) (a10 A) i = (((r280 A (i 0) (i 1)) : ℝ) : EReal) := (val_main_v280_apply (a0 A) (a1 A) (a2 A) (a3 A) (a4 A) (a5 A) (a6 A) (a7 A) (a8 A) (a9 A) (a10 A) i).trans (e242 A _)
theorem e281 (A : Args) (i : S1x1024.Idx) : val_main_v281 (F := Ideal) (a0 A) (a1 A) (a2 A) (a3 A) (a4 A) (a5 A) (a6 A) (a7 A) (a8 A) (a9 A) (a10 A) i = (((r281 A (i 0) (i 1)) : ℝ) : EReal) := (val_main_v281_apply (a0 A) (a1 A) (a2 A) (a3 A) (a4 A) (a5 A) (a6 A) (a7 A) (a8 A) (a9 A) (a10 A) i).trans (e236 A _)
theorem e282 (A : Args) (i : S1x1024.Idx) : val_main_v282 (F := Ideal) (a0 A) (a1 A) (a2 A) (a3 A) (a4 A) (a5 A) (a6 A) (a7 A) (a8 A) (a9 A) (a10 A) i = (((r282 A (i 0) (i 1)) : ℝ) : EReal) := (val_main_v282_apply (a0 A) (a1 A) (a2 A) (a3 A) (a4 A) (a5 A) (a6 A) (a7 A) (a8 A) (a9 A) (a10 A) i).trans (e162 A _)
theorem e283 (A : Args) (i : S1x1024.Idx) : val_main_v283 (F := Ideal) (a0 A) (a1 A) (a2 A) (a3 A) (a4 A) (a5 A) (a6 A) (a7 A) (a8 A) (a9 A) (a10 A) i = (((r283 A (i 0) (i 1)) : ℝ) : EReal) := (val_main_v283_apply (a0 A) (a1 A) (a2 A) (a3 A) (a4 A) (a5 A) (a6 A) (a7 A) (a8 A) (a9 A) (a10 A) i).trans (e156 A _)
theorem e284 (A : Args) (i : S1x1024.Idx) : val_main_v284 (F := Ideal) (a0 A) (a1 A) (a2 A) (a3 A) (a4 A) (a5 A) (a6 A) (a7 A) (a8 A) (a9 A) (a10 A) i = (((r284 A (i 0) (i 1)) : ℝ) : EReal) := (val_main_v284_apply (a0 A) (a1 A) (a2 A) (a3 A) (a4 A) (a5 A) (a6 A) (a7 A) (a8 A) (a9 A) (a10 A) i).trans (e147 A _)
theorem e288 (A : Args) (i : S8192x4096.Idx) : val_main_v288 (F := Ideal) (a0 A) (a1 A) (a3 A) (a4 A) (a5 A) (a8 A) (a9 A) i = (((r288 A (i 0) (i 1)) : ℝ) : EReal) := (val_main_v288_apply (a0 A) (a1 A) (a3 A) (a4 A) (a5 A) (a8 A) (a9 A) i).trans (e98 A i)
theorem e289 (A : Args) (i : S8192x4096.Idx) : val_main_v289 (F := Ideal) (a0 A) (a1 A) (a2 A) (a3 A) (a4 A) (a5 A) (a6 A) (a7 A) (a8 A) (a9 A) (a10 A) i = (((r289 A (i 0) (i 1)) : ℝ) : EReal) := (val_main_v289_apply (a0 A) (a1 A) (a2 A) (a3 A) (a4 A) (a5 A) (a6 A) (a7 A) (a8 A) (a9 A) (a10 A) i).trans (e198 A i)
theorem e290 (A : Args) (i : S8192x1024.Idx) : val_main_v290 (F := Ideal) (a0 A) (a1 A) (a3 A) (a4 A) (a5 A) (a8 A) i = (((r290 A (i 0) (i 1)) : ℝ) : EReal) := (val_main_v290_apply (a0 A) (a1 A) (a3 A) (a4 A) (a5 A) (a8 A) i).trans (e91 A i)
theorem e291 (A : Args) (i : S8192x1024.Idx) : val_main_v291 (F := Ideal) (a0 A) (a1 A) (a2 A) (a3 A) (a4 A) (a5 A) (a6 A) (a7 A) (a8 A) (a9 A) (a10 A) i = (((r291 A (i 0) (i 1)) : ℝ) : EReal) := (val_main_v291_apply (a0 A) (a1 A) (a2 A) (a3 A) (a4 A) (a5 A) (a6 A) (a7 A) (a8 A) (a9 A) (a10 A) i).trans (e188 A i)
theorem e292 (A : Args) (i : S8192x1024.Idx) : val_main_v292 (F := Ideal) (a0 A) (a1 A) (a2 A) (a3 A) (a4 A) (a5 A) (a6 A) (a7 A) (a8 A) (a9 A) (a10 A) i = (((r292 A (i 0) (i 1)) : ℝ) : EReal) := (val_main_v292_apply (a0 A) (a1 A) (a2 A) (a3 A) (a4 A) (a5 A) (a6 A) (a7 A) (a8 A) (a9 A) (a10 A) i).trans (e268 A i)

end Cert.Ref
-- ==== Proof.Spec.lean ====
/- What the fused call computes, row by row, over the reals: the forward pass from the mixer's output to the layer's
   output and its error, and the backward pass from the error to the gradients of the mixer's output and of the layer's
   input. A row is one token; `c` counts the four blocks of 1024 hidden features. -/
module

public import proofs.«01_k».proof.Proof.Args

@[expose] public section

noncomputable section

namespace Cert.Step

open Cert.Coe

/-! ## Layer norms of one row -/

def mean (v : Fin 1024 → ℝ) : ℝ := (∑ k, v k) / 1024

/-- The row with its mean taken away. -/
def cen (v : Fin 1024 → ℝ) (j : Fin 1024) : ℝ := v j - mean v

/-- One over the row's standard deviation. -/
def rs (v : Fin 1024 → ℝ) : ℝ := (Real.sqrt ((∑ k, cen v k * cen v k) / 1024 + ep))⁻¹

/-- The normalised row. -/
def nrm (v : Fin 1024 → ℝ) (j : Fin 1024) : ℝ := cen v j * rs v

/-- The gradient through a normalised row `h` with inverse deviation `ρ`, of the gradient `g`. -/
def lnb (ρ : ℝ) (h g : Fin 1024 → ℝ) (j : Fin 1024) : ℝ := ρ * ((g j - mean g) - h j * ((∑ k, g k * h k) / 1024))

/-! ## The arguments as vectors and matrices -/

variable (A : Args)

def g1 (j : Fin 1024) : ℝ := A.md ⟨2048 + j.val, by omega⟩
def sh2 (j : Fin 1024) : ℝ := A.md ⟨3072 + j.val, by omega⟩
def sc2 (j : Fin 1024) : ℝ := A.md ⟨4096 + j.val, by omega⟩
def g2 (j : Fin 1024) : ℝ := A.md ⟨5120 + j.val, by omega⟩

/-- The mixer's output matrix, its four blocks of rows one below the other. -/
def wom (k j : Fin 1024) : ℝ := A.wo ⟨k.val / 256, by omega⟩ ⟨k.val % 256, by omega⟩ j

variable (r : Fin 8192)

/-! ## Forward -/

def mm (j : Fin 1024) : ℝ := ∑ k, A.mx r k * wom A k j
def z1 (j : Fin 1024) : ℝ := al * A.x r j + g1 A j * mm A r j
def x1 (j : Fin 1024) : ℝ := nrm (z1 A r) j * A.l1w j + A.l1b j
def u2 (j : Fin 1024) : ℝ := nrm (x1 A r) j * (1 + sc2 A j) + sh2 A j
def rl (c : Fin 4) (j : Fin 1024) : ℝ := max (∑ k, u2 A r k * A.w1 c k j) 0
def act (c : Fin 4) (j : Fin 1024) : ℝ := rl A r c j * rl A r c j
def ff (j : Fin 1024) : ℝ := ∑ c, ∑ k, act A r c k * A.w2 c k j
def z2 (j : Fin 1024) : ℝ := al * x1 A r j + g2 A j * ff A r j
def err (j : Fin 1024) : ℝ := nrm (z2 A r) j * A.l2w j + A.l2b j - A.tg r j

/-! ## Backward -/

def dy (j : Fin 1024) : ℝ := err A r j * (1 / 1024)
def dz2 (j : Fin 1024) : ℝ := lnb (rs (z2 A r)) (nrm (z2 A r)) (fun k => dy A r k * A.l2w k) j
def df (j : Fin 1024) : ℝ := g2 A j * dz2 A r j
def dh (c : Fin 4) (j : Fin 1024) : ℝ := (∑ k, df A r k * A.w2 c j k) * (2 * rl A r c j)
def du2 (j : Fin 1024) : ℝ := ∑ c, ∑ k, dh A r c k * A.w1 c j k
def dx1 (j : Fin 1024) : ℝ :=
  al * dz2 A r j + lnb (rs (x1 A r)) (nrm (x1 A r)) (fun k => du2 A r k * (1 + sc2 A k)) j
def dz1 (j : Fin 1024) : ℝ := lnb (rs (z1 A r)) (nrm (z1 A r)) (fun k => dx1 A r k * A.l1w k) j
def dm (j : Fin 1024) : ℝ := g1 A j * dz1 A r j
def dmx (j : Fin 1024) : ℝ := ∑ k, dm A r k * wom A j k
def dxa (j : Fin 1024) : ℝ := al * dz1 A r j

/-! ## The rows of sums -/

/-- What one token adds to row `p` of the array of sums. -/
def term (p : Fin 16) (j : Fin 1024) : ℝ :=
  match p with
  | 0 => dz1 A r j * mm A r j
  | 1 => du2 A r j * nrm (x1 A r) j
  | 2 => du2 A r j
  | 3 => dz2 A r j * ff A r j
  | 4 => dx1 A r j * nrm (z1 A r) j
  | 5 => dx1 A r j
  | 6 => dy A r j * nrm (z2 A r) j
  | 7 => dy A r j
  | 8 => err A r j * err A r j
  | _ => 0

end Cert.Step
-- ==== Proof.RefSpec.lean ====
/- The reference's formulas, written out by its run, are those of the row by row description: the same layer norms, the
   same matrix products with the hidden features counted in four blocks, the same derivative of each layer norm. -/
module

public import proofs.«01_k».proof.Proof.RefReal
public import proofs.«01_k».proof.Proof.Spec
public import Mathlib.Tactic.FieldSimp
public import Mathlib.Tactic.Ring

@[expose] public section

set_option maxRecDepth 16384

noncomputable section

namespace Cert.Ref

open Cert.Coe Cert.Step

/-! ## Layer norms -/

theorem sum_cen (v : Fin 1024 → ℝ) : ∑ k, cen v k = 0 := by
  unfold cen mean
  rw [Finset.sum_sub_distrib, Finset.sum_const, Finset.card_univ, Fintype.card_fin, nsmul_eq_mul]
  push_cast
  ring

/-- The variance of a row, with the small number that keeps it positive. -/
def vr (v : Fin 1024 → ℝ) : ℝ := (∑ k, cen v k * cen v k) / 1024 + ep

theorem vr_pos (v : Fin 1024 → ℝ) : 0 < vr v :=
  add_pos_of_nonneg_of_pos (div_nonneg (Finset.sum_nonneg fun k _ => mul_self_nonneg _) (by norm_num)) ep_pos

theorem rs_div (v : Fin 1024 → ℝ) : rs v / vr v = rs v * (rs v * rs v) := by
  have h : rs v * rs v = (vr v)⁻¹ := by
    show (Real.sqrt (vr v))⁻¹ * (Real.sqrt (vr v))⁻¹ = _
    rw [← mul_inv, Real.mul_self_sqrt (vr_pos v).le]
  rw [h, div_eq_mul_inv]

/-- The derivative of a layer norm as it is written out (through the mean and the variance) is the short form. -/
theorem lnb_eq (v g : Fin 1024 → ℝ) (ρ s q : ℝ) (hρ : ρ = rs v) (hs : s = ∑ k, cen v k * g k)
    (hq : q = s * (-(1 / 2) * (ρ / vr v)) / 1024) (j : Fin 1024) :
    g j * ρ + q * (2 * cen v j) + ((∑ k, -(g k * ρ)) + ∑ k, -(q * (2 * cen v k))) / 1024 = lnb ρ (nrm v) g j := by
  have h1 : ∑ k, -(g k * ρ) = -((∑ k, g k) * ρ) := by rw [Finset.sum_neg_distrib, Finset.sum_mul]
  have h2 : ∑ k, -(q * (2 * cen v k)) = 0 := by
    rw [Finset.sum_neg_distrib, ← Finset.mul_sum, ← Finset.mul_sum, sum_cen]; ring
  have h3 : ∑ k, g k * nrm v k = s * ρ := by
    rw [hs, hρ, Finset.sum_mul]
    refine Finset.sum_congr rfl fun k _ => ?_
    unfold nrm; ring
  unfold lnb mean
  rw [h1, h2, h3, hq, hρ, rs_div]
  unfold nrm
  ring

/-! ## The hidden features by blocks -/

theorem sum_hidden (f : Fin 4 → Fin 1024 → ℝ) :
    ∑ k : Fin 4096, f ⟨k.val / 1024, by omega⟩ ⟨k.val % 1024, by omega⟩ = ∑ c, ∑ j, f c j := by
  rw [← Fintype.sum_prod_type' (f := f)]
  exact Fintype.sum_equiv (finProdFinEquiv (m := 4) (n := 1024)).symm _ _ fun k => rfl

variable (A : Args)

theorem r8_eq (k b : Fin 1024) : r8 A k b = wom A k b := by
  unfold r8 r7 wom
  refine congr (congr (congrArg A.wo (Fin.ext ?_)) (Fin.ext ?_)) (Fin.ext ?_)
  · show (k.val * 1024 + b.val) / 262144 = k.val / 256; omega
  · show (k.val * 1024 + b.val) / 1024 % 256 = k.val % 256; omega
  · show (k.val * 1024 + b.val) % 1024 = b.val; omega

theorem r11_eq (k : Fin 1024) (b : Fin 4096) : r11 A k b = A.w1 ⟨b.val / 1024, by omega⟩ k ⟨b.val % 1024, by omega⟩ := by
  refine congr (congr (congrArg A.w1 (Fin.ext ?_)) (Fin.ext ?_)) (Fin.ext ?_)
  · show (k.val * 4096 + b.val) / 1024 % 4 = b.val / 1024; omega
  · show (k.val * 4096 + b.val) / 4096 = k.val; omega
  · show (k.val * 4096 + b.val) % 1024 = b.val % 1024; omega

theorem r13_eq (k : Fin 4096) (b : Fin 1024) : r13 A k b = A.w2 ⟨k.val / 1024, by omega⟩ ⟨k.val % 1024, by omega⟩ b := by
  unfold r13 r12
  refine congr (congr (congrArg A.w2 (Fin.ext ?_)) (Fin.ext ?_)) (Fin.ext ?_)
  · show (k.val * 1024 + b.val) / 1048576 = k.val / 1024; omega
  · show (k.val * 1024 + b.val) / 1024 % 1024 = k.val % 1024; omega
  · show (k.val * 1024 + b.val) % 1024 = b.val; omega

variable (a : Fin 8192)

/-! ## Forward -/

theorem r25_eq (b : Fin 1024) : r25 A a b = mm A a b := by
  show (∑ k : Fin 1024, A.mx a k * r8 A k b) + 0 = _
  simp only [r8_eq, add_zero]; rfl

theorem r31_eq : r31 A a = z1 A a := funext fun b => by
  show al * A.x a b + r29 A a b * r25 A a b = _
  rw [r25_eq]; rfl

theorem r37_eq (b : Fin 1024) : r37 A a b = cen (z1 A a) b := by
  show r31 A a b - (∑ k, r31 A a k) / 1024 = _
  rw [r31_eq]; rfl

theorem r46_eq (b : Fin 1024) : r46 A a b = cen (z1 A a) b := r37_eq A a b

theorem r48_eq (b : Fin 1) : r48 A a b = vr (z1 A a) := by
  show (∑ k, r37 A a k * r37 A a k) / 1024 + ep = _
  simp only [r37_eq]; rfl

theorem r49_eq (b : Fin 1) : r49 A a b = rs (z1 A a) := by
  show (Real.sqrt (r48 A a b))⁻¹ = _
  rw [r48_eq]; rfl

theorem r54_eq (b : Fin 1024) : r54 A a b = nrm (z1 A a) b := by
  show r46 A a b * r49 A a 0 = _
  rw [r46_eq, r49_eq]; rfl

theorem r60_eq : r60 A a = x1 A a := funext fun b => by
  show r54 A a b * A.l1w b + A.l1b b = _
  rw [r54_eq]; rfl

theorem r66_eq (b : Fin 1024) : r66 A a b = cen (x1 A a) b := by
  show r60 A a b - (∑ k, r60 A a k) / 1024 = _
  rw [r60_eq]; rfl

theorem r75_eq (b : Fin 1024) : r75 A a b = cen (x1 A a) b := r66_eq A a b

theorem r77_eq (b : Fin 1) : r77 A a b = vr (x1 A a) := by
  show (∑ k, r66 A a k * r66 A a k) / 1024 + ep = _
  simp only [r66_eq]; rfl

theorem r78_eq (b : Fin 1) : r78 A a b = rs (x1 A a) := by
  show (Real.sqrt (r77 A a b))⁻¹ = _
  rw [r77_eq]; rfl

theorem r83_eq (b : Fin 1024) : r83 A a b = nrm (x1 A a) b := by
  show r75 A a b * r78 A a 0 = _
  rw [r75_eq, r78_eq]; rfl

theorem r91_eq (b : Fin 1024) : r91 A a b = u2 A a b := by
  show r83 A a b * (1 + r84 A 0 b) + r90 A a b = _
  rw [r83_eq]; rfl

theorem r93_eq (b : Fin 4096) : r93 A a b = ∑ k, u2 A a k * A.w1 ⟨b.val / 1024, by omega⟩ k ⟨b.val % 1024, by omega⟩ := by
  show (∑ k : Fin 1024, r91 A a k * r11 A k b) + 0 = _
  simp only [r91_eq, r11_eq, add_zero]

theorem r94_eq (b : Fin 4096) : r94 A a b = rl A a ⟨b.val / 1024, by omega⟩ ⟨b.val % 1024, by omega⟩ := by
  show max (r93 A a b) 0 = _
  rw [r93_eq]; rfl

theorem r98_eq (b : Fin 4096) : r98 A a b = act A a ⟨b.val / 1024, by omega⟩ ⟨b.val % 1024, by omega⟩ := by
  show r94 A a b * r94 A a b = _
  rw [r94_eq]; rfl

theorem r102_eq (b : Fin 1024) : r102 A a b = ff A a b := by
  show (∑ k : Fin 4096, r98 A a k * r13 A k b) + 0 = _
  simp only [r98_eq, r13_eq, add_zero]
  exact sum_hidden fun c k => act A a c k * A.w2 c k b

theorem r108_eq : r108 A a = z2 A a := funext fun b => by
  show al * r60 A a b + r106 A a b * r102 A a b = _
  rw [r102_eq, r60_eq]; rfl

theorem r114_eq (b : Fin 1024) : r114 A a b = cen (z2 A a) b := by
  show r108 A a b - (∑ k, r108 A a k) / 1024 = _
  rw [r108_eq]; rfl

theorem r123_eq (b : Fin 1024) : r123 A a b = cen (z2 A a) b := r114_eq A a b

theorem r125_eq (b : Fin 1) : r125 A a b = vr (z2 A a) := by
  show (∑ k, r114 A a k * r114 A a k) / 1024 + ep = _
  simp only [r114_eq]; rfl

theorem r126_eq (b : Fin 1) : r126 A a b = rs (z2 A a) := by
  show (Real.sqrt (r125 A a b))⁻¹ = _
  rw [r125_eq]; rfl

theorem r131_eq (b : Fin 1024) : r131 A a b = nrm (z2 A a) b := by
  show r123 A a b * r126 A a 0 = _
  rw [r123_eq, r126_eq]; rfl

theorem r138_eq (b : Fin 1024) : r138 A a b = err A a b := by
  show r131 A a b * A.l2w b + A.l2b b - A.tg a b = _
  rw [r131_eq]; rfl

/-! ## Backward -/

theorem r153_eq (b : Fin 1024) : r153 A a b = dy A a b := by
  show 1 / 2 * 1 / 1024 * (2 * r138 A a b) = _
  rw [r138_eq]; unfold dy; ring

theorem r161_eq (b : Fin 1024) : r161 A a b = dy A a b * A.l2w b := by
  show r153 A a b * A.l2w b = _
  rw [r153_eq]

theorem r173_eq (b : Fin 1) : r173 A a b = (∑ k, cen (z2 A a) k * (dy A a k * A.l2w k)) * (-(1 / 2) * (rs (z2 A a) / vr (z2 A a))) / 1024 := by
  show (∑ k, r123 A a k * r161 A a k) * (-(1 / 2) * (r126 A a b / r125 A a b)) / 1024 = _
  simp only [r123_eq, r161_eq, r126_eq, r125_eq]

theorem r186_eq (b : Fin 1024) : r186 A a b = dz2 A a b := by
  have e : r186 A a b = r161 A a b * r126 A a 0 + r174 A a * (2 * r114 A a b) + r184 A a := rfl
  have e2 : r184 A a = ((∑ k, -(r161 A a k * r126 A a 0)) + ∑ k, -(r174 A a * (2 * r114 A a k))) / 1024 := Fin.sum_univ_one _
  have e3 : r174 A a = r173 A a 0 := Fin.sum_univ_one _
  rw [e, e2, e3]
  simp only [r161_eq, r126_eq, r114_eq]
  exact lnb_eq (z2 A a) (fun k => dy A a k * A.l2w k) _ _ _ rfl rfl (r173_eq A a 0) b

theorem r188_eq (b : Fin 1024) : r188 A a b = df A a b := by
  show r187 A a b * r186 A a b = _
  rw [r186_eq]; rfl

theorem r198_eq (b : Fin 4096) : r198 A a b = dh A a ⟨b.val / 1024, by omega⟩ ⟨b.val % 1024, by omega⟩ := by
  have e : r196 A a b = dh A a ⟨b.val / 1024, by omega⟩ ⟨b.val % 1024, by omega⟩ := by
    show (∑ k : Fin 1024, r188 A a k * r13 A b k) * (2 * r94 A a b) = _
    simp only [r188_eq, r13_eq, r94_eq]; rfl
  unfold r198
  split_ifs with h
  · exact e
  · have h0 : r94 A a b = 0 := max_eq_right (not_lt.mp h)
    rw [r94_eq] at h0
    show 0 = _
    unfold dh
    rw [h0]; ring

theorem r199_eq (b : Fin 1024) : r199 A a b = du2 A a b := by
  show ∑ k : Fin 4096, r198 A a k * r11 A b k = _
  simp only [r198_eq, r11_eq]
  exact sum_hidden fun c k => dh A a c k * A.w1 c b k

theorem r207_eq (b : Fin 1024) : r207 A a b = du2 A a b * (1 + sc2 A b) := by
  show r199 A a b * (1 + r84 A 0 b) = _
  rw [r199_eq]; rfl

theorem r220_eq (b : Fin 1) : r220 A a b = (∑ k, cen (x1 A a) k * (du2 A a k * (1 + sc2 A k))) * (-(1 / 2) * (rs (x1 A a) / vr (x1 A a))) / 1024 := by
  show (∑ k, r75 A a k * r207 A a k) * (-(1 / 2) * (r78 A a b / r77 A a b)) / 1024 = _
  simp only [r75_eq, r207_eq, r78_eq, r77_eq]

theorem r233_eq (b : Fin 1024) : r233 A a b = dx1 A a b := by
  have e : r233 A a b = al * r186 A a b + r207 A a b * r78 A a 0 + r221 A a * (2 * r66 A a b) + r231 A a := rfl
  have e2 : r231 A a = ((∑ k, -(r207 A a k * r78 A a 0)) + ∑ k, -(r221 A a * (2 * r66 A a k))) / 1024 := Fin.sum_univ_one _
  have e3 : r221 A a = r220 A a 0 := Fin.sum_univ_one _
  rw [e, e2, e3]
  simp only [r207_eq, r78_eq, r66_eq, r186_eq]
  have h := lnb_eq (x1 A a) (fun k => du2 A a k * (1 + sc2 A k)) _ _ _ rfl rfl (r220_eq A a 0) b
  unfold dx1
  rw [← h]; ring

theorem r241_eq (b : Fin 1024) : r241 A a b = dx1 A a b * A.l1w b := by
  show r233 A a b * A.l1w b = _
  rw [r233_eq]

theorem r253_eq (b : Fin 1) : r253 A a b = (∑ k, cen (z1 A a) k * (dx1 A a k * A.l1w k)) * (-(1 / 2) * (rs (z1 A a) / vr (z1 A a))) / 1024 := by
  show (∑ k, r46 A a k * r241 A a k) * (-(1 / 2) * (r49 A a b / r48 A a b)) / 1024 = _
  simp only [r46_eq, r241_eq, r49_eq, r48_eq]

theorem r266_eq (b : Fin 1024) : r266 A a b = dz1 A a b := by
  have e : r266 A a b = r241 A a b * r49 A a 0 + r254 A a * (2 * r37 A a b) + r264 A a := rfl
  have e2 : r264 A a = ((∑ k, -(r241 A a k * r49 A a 0)) + ∑ k, -(r254 A a * (2 * r37 A a k))) / 1024 := Fin.sum_univ_one _
  have e3 : r254 A a = r253 A a 0 := Fin.sum_univ_one _
  rw [e, e2, e3]
  simp only [r241_eq, r49_eq, r37_eq]
  exact lnb_eq (z1 A a) (fun k => dx1 A a k * A.l1w k) _ _ _ rfl rfl (r253_eq A a 0) b

theorem r268_eq (b : Fin 1024) : r268 A a b = dm A a b := by
  show r267 A a b * r266 A a b = _
  rw [r266_eq]; rfl

theorem r274_eq (b : Fin 1024) : r274 A a b = dxa A a b := by
  show al * r266 A a b = _
  rw [r266_eq]; rfl

theorem r275_eq (b : Fin 1024) : r275 A a b = dmx A a b := by
  show ∑ k : Fin 1024, r268 A a k * r8 A b k = _
  simp only [r268_eq, r8_eq]; rfl

/-! ## The rows of sums -/

theorem r276_eq (i : Fin 1) (b : Fin 1024) : r276 A i b = ∑ r, term A r 0 b := by
  have e : r272 A b = ∑ r, r266 A r b * r25 A r b := by unfold r272; rw [Fin.sum_univ_one]; rfl
  rw [show r276 A i b = r272 A b from rfl, e]
  refine Finset.sum_congr rfl fun r _ => ?_
  rw [r266_eq, r25_eq]; rfl

theorem r277_eq (i : Fin 1) (b : Fin 1024) : r277 A i b = ∑ r, term A r 1 b := by
  have e : r208 A b = ∑ r, r83 A r b * r199 A r b := by unfold r208; rw [Fin.sum_univ_one]; rfl
  rw [show r277 A i b = r208 A b from rfl, e]
  refine Finset.sum_congr rfl fun r _ => ?_
  rw [r83_eq, r199_eq]; exact mul_comm _ _

theorem r278_eq (i : Fin 1) (b : Fin 1024) : r278 A i b = ∑ r, term A r 2 b := by
  have e : r202 A b = ∑ r, r199 A r b := by unfold r202; rw [Fin.sum_univ_one]; rfl
  rw [show r278 A i b = r202 A b from rfl, e]
  refine Finset.sum_congr rfl fun r _ => ?_
  rw [r199_eq]; rfl

theorem r279_eq (i : Fin 1) (b : Fin 1024) : r279 A i b = ∑ r, term A r 3 b := by
  have e : r192 A b = ∑ r, r186 A r b * r102 A r b := by unfold r192; rw [Fin.sum_univ_one]; rfl
  rw [show r279 A i b = r192 A b from rfl, e]
  refine Finset.sum_congr rfl fun r _ => ?_
  rw [r186_eq, r102_eq]; rfl

theorem r280_eq (i : Fin 1) (b : Fin 1024) : r280 A i b = ∑ r, term A r 4 b := by
  have e : r242 A b = ∑ r, r54 A r b * r233 A r b := by unfold r242; rw [Fin.sum_univ_one]; rfl
  rw [show r280 A i b = r242 A b from rfl, e]
  refine Finset.sum_congr rfl fun r _ => ?_
  rw [r54_eq, r233_eq]; exact mul_comm _ _

theorem r281_eq (i : Fin 1) (b : Fin 1024) : r281 A i b = ∑ r, term A r 5 b := by
  have e : r236 A b = ∑ r, r233 A r b := by unfold r236; rw [Fin.sum_univ_one]; rfl
  rw [show r281 A i b = r236 A b from rfl, e]
  refine Finset.sum_congr rfl fun r _ => ?_
  rw [r233_eq]; rfl

theorem r282_eq (i : Fin 1) (b : Fin 1024) : r282 A i b = ∑ r, term A r 6 b := by
  have e : r162 A b = ∑ r, r131 A r b * r153 A r b := by unfold r162; rw [Fin.sum_univ_one]; rfl
  rw [show r282 A i b = r162 A b from rfl, e]
  refine Finset.sum_congr rfl fun r _ => ?_
  rw [r131_eq, r153_eq]; exact mul_comm _ _

theorem r283_eq (i : Fin 1) (b : Fin 1024) : r283 A i b = ∑ r, term A r 7 b := by
  have e : r156 A b = ∑ r, r153 A r b := by unfold r156; rw [Fin.sum_univ_one]; rfl
  rw [show r283 A i b = r156 A b from rfl, e]
  refine Finset.sum_congr rfl fun r _ => ?_
  rw [r153_eq]; rfl

theorem r284_eq (i : Fin 1) (b : Fin 1024) : r284 A i b = ∑ r, term A r 8 b := by
  show ∑ r, r138 A r b * r138 A r b = _
  simp only [r138_eq]; rfl

end Cert.Ref
-- ==== Proof.RefArr.lean ====
/- The results of the reference as arrays of the real numbers of the row by row description. -/
module

public import proofs.«01_k».proof.Proof.RefVal
public import proofs.«01_k».proof.Proof.RefSpec

@[expose] public section

set_option maxRecDepth 16384

noncomputable section

namespace Cert.Ref

open Cert.ReferenceIdeal Cert.ReferenceIdeal.Read Cert.ReferenceIdeal.Gen Idealize.ShloMosaic Cert.Coe Cert.Step
open Idealize.ShloMosaic.ValueIdx

variable (A : Args)

theorem arr275 : val_main_v275 (F := Ideal) (a0 A) (a1 A) (a2 A) (a3 A) (a4 A) (a5 A) (a6 A) (a7 A) (a8 A) (a9 A) (a10 A) = (fun i : S8192x1024.Idx => (((fun (r : Fin 8192) (b : Fin 1024) => dmx A r b) (i 0) (i 1) : ℝ) : EReal)) :=
  funext fun i => (e275 A i).trans (congrArg (fun t : ℝ => (t : EReal)) (r275_eq A (i 0) (i 1)))

theorem arr274 : val_main_v274 (F := Ideal) (a0 A) (a1 A) (a2 A) (a3 A) (a4 A) (a5 A) (a6 A) (a7 A) (a8 A) (a9 A) (a10 A) = (fun i : S8192x1024.Idx => (((fun (r : Fin 8192) (b : Fin 1024) => dxa A r b) (i 0) (i 1) : ℝ) : EReal)) :=
  funext fun i => (e274 A i).trans (congrArg (fun t : ℝ => (t : EReal)) (r274_eq A (i 0) (i 1)))

theorem arr288 : val_main_v288 (F := Ideal) (a0 A) (a1 A) (a3 A) (a4 A) (a5 A) (a8 A) (a9 A) = (fun i : S8192x4096.Idx => (((fun (r : Fin 8192) (b : Fin 4096) => act A r ⟨b.val / 1024, by omega⟩ ⟨b.val % 1024, by omega⟩) (i 0) (i 1) : ℝ) : EReal)) :=
  funext fun i => (e288 A i).trans (congrArg (fun t : ℝ => (t : EReal)) (r98_eq A (i 0) (i 1)))

theorem arr289 : val_main_v289 (F := Ideal) (a0 A) (a1 A) (a2 A) (a3 A) (a4 A) (a5 A) (a6 A) (a7 A) (a8 A) (a9 A) (a10 A) = (fun i : S8192x4096.Idx => (((fun (r : Fin 8192) (b : Fin 4096) => dh A r ⟨b.val / 1024, by omega⟩ ⟨b.val % 1024, by omega⟩) (i 0) (i 1) : ℝ) : EReal)) :=
  funext fun i => (e289 A i).trans (congrArg (fun t : ℝ => (t : EReal)) (r198_eq A (i 0) (i 1)))

theorem arr290 : val_main_v290 (F := Ideal) (a0 A) (a1 A) (a3 A) (a4 A) (a5 A) (a8 A) = (fun i : S8192x1024.Idx => (((fun (r : Fin 8192) (b : Fin 1024) => u2 A r b) (i 0) (i 1) : ℝ) : EReal)) :=
  funext fun i => (e290 A i).trans (congrArg (fun t : ℝ => (t : EReal)) (r91_eq A (i 0) (i 1)))

theorem arr291 : val_main_v291 (F := Ideal) (a0 A) (a1 A) (a2 A) (a3 A) (a4 A) (a5 A) (a6 A) (a7 A) (a8 A) (a9 A) (a10 A) = (fun i : S8192x1024.Idx => (((fun (r : Fin 8192) (b : Fin 1024) => df A r b) (i 0) (i 1) : ℝ) : EReal)) :=
  funext fun i => (e291 A i).trans (congrArg (fun t : ℝ => (t : EReal)) (r188_eq A (i 0) (i 1)))

theorem arr292 : val_main_v292 (F := Ideal) (a0 A) (a1 A) (a2 A) (a3 A) (a4 A) (a5 A) (a6 A) (a7 A) (a8 A) (a9 A) (a10 A) = (fun i : S8192x1024.Idx => (((fun (r : Fin 8192) (b : Fin 1024) => dm A r b) (i 0) (i 1) : ℝ) : EReal)) :=
  funext fun i => (e292 A i).trans (congrArg (fun t : ℝ => (t : EReal)) (r268_eq A (i 0) (i 1)))

/-! ## The rows of sums -/

theorem row0 (b : Fin 1024) : val_main_v285 (F := Ideal) (a0 A) (a1 A) (a2 A) (a3 A) (a4 A) (a5 A) (a6 A) (a7 A) (a8 A) (a9 A) (a10 A) (ix2 (⟨0, by decide⟩ : Fin 9) b) = ((∑ r, term A r 0 b : ℝ) : EReal) := by
  unfold val_main_v285
  refine (concatenate_apply_piece (t := S9x1024) (0 : Fin 2) _ _ (ix2 (⟨0, by decide⟩ : Fin 9) b) 0 (by show 0 < 9; decide) S1x1024
    (val_main_v276 (F := Ideal) (a0 A) (a1 A) (a2 A) (a3 A) (a4 A) (a5 A) (a6 A) (a7 A) (a8 A) (a9 A) (a10 A)) rfl rfl 0 rfl (ix2 (0 : Fin 1) b)
    (fun d hd => by match d with | ⟨0, _⟩ => exact absurd rfl hd | ⟨1, _⟩ => rfl) rfl).trans ?_
  exact (e276 A _).trans (congrArg (fun t : ℝ => (t : EReal)) (r276_eq A 0 b))

theorem row1 (b : Fin 1024) : val_main_v285 (F := Ideal) (a0 A) (a1 A) (a2 A) (a3 A) (a4 A) (a5 A) (a6 A) (a7 A) (a8 A) (a9 A) (a10 A) (ix2 (⟨1, by decide⟩ : Fin 9) b) = ((∑ r, term A r 1 b : ℝ) : EReal) := by
  unfold val_main_v285
  refine (concatenate_apply_piece (t := S9x1024) (0 : Fin 2) _ _ (ix2 (⟨1, by decide⟩ : Fin 9) b) 1 (by show 1 < 9; decide) S1x1024
    (val_main_v277 (F := Ideal) (a0 A) (a1 A) (a2 A) (a3 A) (a4 A) (a5 A) (a6 A) (a7 A) (a8 A) (a9 A) (a10 A)) rfl rfl 1 rfl (ix2 (0 : Fin 1) b)
    (fun d hd => by match d with | ⟨0, _⟩ => exact absurd rfl hd | ⟨1, _⟩ => rfl) rfl).trans ?_
  exact (e277 A _).trans (congrArg (fun t : ℝ => (t : EReal)) (r277_eq A 0 b))

theorem row2 (b : Fin 1024) : val_main_v285 (F := Ideal) (a0 A) (a1 A) (a2 A) (a3 A) (a4 A) (a5 A) (a6 A) (a7 A) (a8 A) (a9 A) (a10 A) (ix2 (⟨2, by decide⟩ : Fin 9) b) = ((∑ r, term A r 2 b : ℝ) : EReal) := by
  unfold val_main_v285
  refine (concatenate_apply_piece (t := S9x1024) (0 : Fin 2) _ _ (ix2 (⟨2, by decide⟩ : Fin 9) b) 2 (by show 2 < 9; decide) S1x1024
    (val_main_v278 (F := Ideal) (a0 A) (a1 A) (a2 A) (a3 A) (a4 A) (a5 A) (a6 A) (a7 A) (a8 A) (a9 A) (a10 A)) rfl rfl 2 rfl (ix2 (0 : Fin 1) b)
    (fun d hd => by match d with | ⟨0, _⟩ => exact absurd rfl hd | ⟨1, _⟩ => rfl) rfl).trans ?_
  exact (e278 A _).trans (congrArg (fun t : ℝ => (t : EReal)) (r278_eq A 0 b))

theorem row3 (b : Fin 1024) : val_main_v285 (F := Ideal) (a0 A) (a1 A) (a2 A) (a3 A) (a4 A) (a5 A) (a6 A) (a7 A) (a8 A) (a9 A) (a10 A) (ix2 (⟨3, by decide⟩ : Fin 9) b) = ((∑ r, term A r 3 b : ℝ) : EReal) := by
  unfold val_main_v285
  refine (concatenate_apply_piece (t := S9x1024) (0 : Fin 2) _ _ (ix2 (⟨3, by decide⟩ : Fin 9) b) 3 (by show 3 < 9; decide) S1x1024
    (val_main_v279 (F := Ideal) (a0 A) (a1 A) (a2 A) (a3 A) (a4 A) (a5 A) (a6 A) (a7 A) (a8 A) (a9 A) (a10 A)) rfl rfl 3 rfl (ix2 (0 : Fin 1) b)
    (fun d hd => by match d with | ⟨0, _⟩ => exact absurd rfl hd | ⟨1, _⟩ => rfl) rfl).trans ?_
  exact (e279 A _).trans (congrArg (fun t : ℝ => (t : EReal)) (r279_eq A 0 b))

theorem row4 (b : Fin 1024) : val_main_v285 (F := Ideal) (a0 A) (a1 A) (a2 A) (a3 A) (a4 A) (a5 A) (a6 A) (a7 A) (a8 A) (a9 A) (a10 A) (ix2 (⟨4, by decide⟩ : Fin 9) b) = ((∑ r, term A r 4 b : ℝ) : EReal) := by
  unfold val_main_v285
  refine (concatenate_apply_piece (t := S9x1024) (0 : Fin 2) _ _ (ix2 (⟨4, by decide⟩ : Fin 9) b) 4 (by show 4 < 9; decide) S1x1024
    (val_main_v280 (F := Ideal) (a0 A) (a1 A) (a2 A) (a3 A) (a4 A) (a5 A) (a6 A) (a7 A) (a8 A) (a9 A) (a10 A)) rfl rfl 4 rfl (ix2 (0 : Fin 1) b)
    (fun d hd => by match d with | ⟨0, _⟩ => exact absurd rfl hd | ⟨1, _⟩ => rfl) rfl).trans ?_
  exact (e280 A _).trans (congrArg (fun t : ℝ => (t : EReal)) (r280_eq A 0 b))

theorem row5 (b : Fin 1024) : val_main_v285 (F := Ideal) (a0 A) (a1 A) (a2 A) (a3 A) (a4 A) (a5 A) (a6 A) (a7 A) (a8 A) (a9 A) (a10 A) (ix2 (⟨5, by decide⟩ : Fin 9) b) = ((∑ r, term A r 5 b : ℝ) : EReal) := by
  unfold val_main_v285
  refine (concatenate_apply_piece (t := S9x1024) (0 : Fin 2) _ _ (ix2 (⟨5, by decide⟩ : Fin 9) b) 5 (by show 5 < 9; decide) S1x1024
    (val_main_v281 (F := Ideal) (a0 A) (a1 A) (a2 A) (a3 A) (a4 A) (a5 A) (a6 A) (a7 A) (a8 A) (a9 A) (a10 A)) rfl rfl 5 rfl (ix2 (0 : Fin 1) b)
    (fun d hd => by match d with | ⟨0, _⟩ => exact absurd rfl hd | ⟨1, _⟩ => rfl) rfl).trans ?_
  exact (e281 A _).trans (congrArg (fun t : ℝ => (t : EReal)) (r281_eq A 0 b))

theorem row6 (b : Fin 1024) : val_main_v285 (F := Ideal) (a0 A) (a1 A) (a2 A) (a3 A) (a4 A) (a5 A) (a6 A) (a7 A) (a8 A) (a9 A) (a10 A) (ix2 (⟨6, by decide⟩ : Fin 9) b) = ((∑ r, term A r 6 b : ℝ) : EReal) := by
  unfold val_main_v285
  refine (concatenate_apply_piece (t := S9x1024) (0 : Fin 2) _ _ (ix2 (⟨6, by decide⟩ : Fin 9) b) 6 (by show 6 < 9; decide) S1x1024
    (val_main_v282 (F := Ideal) (a0 A) (a1 A) (a2 A) (a3 A) (a4 A) (a5 A) (a6 A) (a7 A) (a8 A) (a9 A) (a10 A)) rfl rfl 6 rfl (ix2 (0 : Fin 1) b)
    (fun d hd => by match d with | ⟨0, _⟩ => exact absurd rfl hd | ⟨1, _⟩ => rfl) rfl).trans ?_
  exact (e282 A _).trans (congrArg (fun t : ℝ => (t : EReal)) (r282_eq A 0 b))

theorem row7 (b : Fin 1024) : val_main_v285 (F := Ideal) (a0 A) (a1 A) (a2 A) (a3 A) (a4 A) (a5 A) (a6 A) (a7 A) (a8 A) (a9 A) (a10 A) (ix2 (⟨7, by decide⟩ : Fin 9) b) = ((∑ r, term A r 7 b : ℝ) : EReal) := by
  unfold val_main_v285
  refine (concatenate_apply_piece (t := S9x1024) (0 : Fin 2) _ _ (ix2 (⟨7, by decide⟩ : Fin 9) b) 7 (by show 7 < 9; decide) S1x1024
    (val_main_v283 (F := Ideal) (a0 A) (a1 A) (a2 A) (a3 A) (a4 A) (a5 A) (a6 A) (a7 A) (a8 A) (a9 A) (a10 A)) rfl rfl 7 rfl (ix2 (0 : Fin 1) b)
    (fun d hd => by match d with | ⟨0, _⟩ => exact absurd rfl hd | ⟨1, _⟩ => rfl) rfl).trans ?_
  exact (e283 A _).trans (congrArg (fun t : ℝ => (t : EReal)) (r283_eq A 0 b))

theorem row8 (b : Fin 1024) : val_main_v285 (F := Ideal) (a0 A) (a1 A) (a2 A) (a3 A) (a4 A) (a5 A) (a6 A) (a7 A) (a8 A) (a9 A) (a10 A) (ix2 (⟨8, by decide⟩ : Fin 9) b) = ((∑ r, term A r 8 b : ℝ) : EReal) := by
  unfold val_main_v285
  refine (concatenate_apply_piece (t := S9x1024) (0 : Fin 2) _ _ (ix2 (⟨8, by decide⟩ : Fin 9) b) 8 (by show 8 < 9; decide) S1x1024
    (val_main_v284 (F := Ideal) (a0 A) (a1 A) (a2 A) (a3 A) (a4 A) (a5 A) (a6 A) (a7 A) (a8 A) (a9 A) (a10 A)) rfl rfl 8 rfl (ix2 (0 : Fin 1) b)
    (fun d hd => by match d with | ⟨0, _⟩ => exact absurd rfl hd | ⟨1, _⟩ => rfl) rfl).trans ?_
  exact (e284 A _).trans (congrArg (fun t : ℝ => (t : EReal)) (r284_eq A 0 b))

theorem rows (p : Fin 9) (b : Fin 1024) : val_main_v285 (F := Ideal) (a0 A) (a1 A) (a2 A) (a3 A) (a4 A) (a5 A) (a6 A) (a7 A) (a8 A) (a9 A) (a10 A) (ix2 p b) = ((∑ r, term A r ⟨p.val, by omega⟩ b : ℝ) : EReal) :=
  match p with
  | ⟨0, _⟩ => row0 A b
  | ⟨1, _⟩ => row1 A b
  | ⟨2, _⟩ => row2 A b
  | ⟨3, _⟩ => row3 A b
  | ⟨4, _⟩ => row4 A b
  | ⟨5, _⟩ => row5 A b
  | ⟨6, _⟩ => row6 A b
  | ⟨7, _⟩ => row7 A b
  | ⟨8, _⟩ => row8 A b
  | ⟨n + 9, hn⟩ => absurd hn (by omega)

theorem term_zero (r : Fin 8192) (q : Fin 7) (b : Fin 1024) : term A r ⟨q.val + 9, by omega⟩ b = 0 := by
  match q with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨n + 7, hn⟩ => exact absurd hn (by omega)

theorem arr287_at (p : Fin 16) (b : Fin 1024) : val_main_v287 (F := Ideal) (a0 A) (a1 A) (a2 A) (a3 A) (a4 A) (a5 A) (a6 A) (a7 A) (a8 A) (a9 A) (a10 A) (ix2 p b) = ((∑ r, term A r p b : ℝ) : EReal) := by
  unfold val_main_v287
  by_cases h : p.val < 9
  · refine (concatenate_pair_apply_left (t := S16x1024) (s₁ := S9x1024) (s₂ := S7x1024) (0 : Fin 2) _ _ _ (ix2 p b) rfl (ix2 (⟨p.val, h⟩ : Fin 9) b) (fun d => ?_)).trans ?_
    · match d with
      | ⟨0, _⟩ => rfl
      | ⟨1, _⟩ => rfl
    · exact rows A ⟨p.val, h⟩ b
  · refine (concatenate_pair_apply_right (t := S16x1024) (s₁ := S9x1024) (s₂ := S7x1024) (0 : Fin 2) _ _ _ (ix2 p b) rfl rfl (ix2 (⟨p.val - 9, by omega⟩ : Fin 7) b) (fun d hd => ?_) ?_).trans ?_
    · match d with
      | ⟨0, _⟩ => exact absurd rfl hd
      | ⟨1, _⟩ => rfl
    · show p.val - 9 + 9 = p.val
      omega
    · refine (val_main_v286_apply (F := Ideal) _).trans ((val_main_cst_78_apply (F := Ideal) _).trans (c_zero.trans ?_))
      have e : ∀ r, term A r p b = 0 := fun r =>
        (congrArg (fun q => term A r q b) (Fin.ext (by show p.val = p.val - 9 + 9; omega) : p = ⟨(⟨p.val - 9, by omega⟩ : Fin 7).val + 9, by show p.val - 9 + 9 < 16; omega⟩)).trans
          (term_zero A r ⟨p.val - 9, by omega⟩ b)
      rw [Finset.sum_eq_zero fun r _ => e r]

theorem arr287 : val_main_v287 (F := Ideal) (a0 A) (a1 A) (a2 A) (a3 A) (a4 A) (a5 A) (a6 A) (a7 A) (a8 A) (a9 A) (a10 A) = (fun i : S16x1024.Idx => ((∑ r, term A r (i 0) (i 1) : ℝ) : EReal)) := by
  funext i
  obtain ⟨p, b, rfl⟩ : ∃ (p : Fin 16) (b : Fin 1024), i = ix2 p b := ⟨i 0, i 1, eq_ix2 i⟩
  exact arr287_at A p b

end Cert.Ref
-- ==== Proof.KerOps.lean ====
/- The vector operations of the kernel on arrays of real numbers: if the operands hold real arrays, the result holds the
   real array that the operation makes of them. -/
module

public import proofs.«01_k».proof.Proof.Gen.KernelIdeal.Skeleton
public import proofs.«01_k».proof.Proof.Coe
public import Idealize.ShloMosaic.Lib.ValueIdx
public import Idealize.ShloMosaic.Lib.Pipeline.Value
public import Idealize.ShloMosaic.PureOps.Ideal.Laws

@[expose] public section

set_option maxRecDepth 16384

noncomputable section

namespace Cert.Ker

open Cert.KernelIdeal Cert.KernelIdeal.Gen Cert.Coe Idealize.ShloMosaic Idealize.ShloMosaic.ValueIdx

/-- The two-axis array `X` holds the real numbers `f`. -/
def IsR {n m : Nat} (X : (⟨2, ![n, m]⟩ : Shape).Idx → EReal) (f : Fin n → Fin m → ℝ) : Prop :=
  ∀ (a : Fin n) (b : Fin m), X (ix2 a b) = ((f a b : ℝ) : EReal)

/-- The three-axis array `X` with one slab holds the real numbers `f`. -/
def IsR3 {n m : Nat} (X : (⟨3, ![1, n, m]⟩ : Shape).Idx → EReal) (f : Fin n → Fin m → ℝ) : Prop :=
  ∀ (a : Fin n) (b : Fin m), X (ix3 (0 : Fin 1) a b) = ((f a b : ℝ) : EReal)

variable {n m : Nat} {φ ψ : FTy}

section Pointwise

variable {X Y : FVec Ideal (⟨2, ![n, m]⟩ : Shape) φ} {f g : Fin n → Fin m → ℝ}

theorem IsR.mul (hx : IsR X f) (hy : IsR Y g) : IsR (mulf X Y) fun a b => f a b * g a b := fun a b => by
  rw [mulf_apply, hx a b, hy a b, mul_c]

theorem IsR.add (hx : IsR X f) (hy : IsR Y g) : IsR (addf X Y) fun a b => f a b + g a b := fun a b => by
  rw [addf_apply, hx a b, hy a b, add_c]

theorem IsR.sub (hx : IsR X f) (hy : IsR Y g) : IsR (subf X Y) fun a b => f a b - g a b := fun a b => by
  rw [subf_apply, hx a b, hy a b, sub_c]

theorem IsR.div (hx : IsR X f) (hy : IsR Y g) (h : ∀ a b, g a b ≠ 0) : IsR (divf X Y) fun a b => f a b / g a b :=
  fun a b => by rw [divf_apply, hx a b, hy a b, div_c _ _ (h a b)]

theorem IsR.max (hx : IsR X f) (hy : IsR Y g) : IsR (maximumf X Y) fun a b => Max.max (f a b) (g a b) := fun a b => by
  rw [maximumf_apply, hx a b, hy a b, max_c]

theorem IsR.rsqrt (hx : IsR X f) (h : ∀ a b, 0 < f a b) : IsR (Idealize.ShloMosaic.rsqrt X) fun a b => (Real.sqrt (f a b))⁻¹ :=
  fun a b => by
    show Ideal.rsqrt (X (ix2 a b)) = _
    rw [hx a b, rsqrt_c _ (h a b)]

theorem IsR.trunc (hx : IsR X f) (h : ψ.bits < φ.bits) : IsR (truncf ψ X h : FVec Ideal _ ψ) f := fun a b => hx a b

/-- A constant of the program, spread over an array. -/
theorem isR_const {w : BitVec 32} {q : ℝ} (h : Ideal.ofBits .f32 w = ((q : ℝ) : EReal)) :
    IsR (n := n) (m := m) (broadcast (⟨2, ![n, m]⟩ : Shape) (Scalar.ofBits (F := Ideal) .f32 w)) fun _ _ => q := fun _ _ => h

theorem IsR.congr (hx : IsR X f) (h : ∀ a b, f a b = g a b) : IsR X g := fun a b => by rw [hx a b, h a b]

end Pointwise

/-! ## Layout -/

theorem IsR.cast_self {X : (⟨2, ![n, m]⟩ : Shape).Idx → EReal} {f : Fin n → Fin m → ℝ} (hx : IsR X f)
    (h : (⟨2, ![n, m]⟩ : Shape).ShapeCasts ⟨2, ![n, m]⟩) : IsR (shapeCast (⟨2, ![n, m]⟩ : Shape) X h) f := by
  rw [shapeCast_self]; exact hx

theorem IsR3.slab {X : S1x1024x1024.Idx → EReal} {f : Fin 1024 → Fin 1024 → ℝ} (hx : IsR3 X f)
    (h : S1x1024x1024.ShapeCasts S1024x1024) : IsR (shapeCast S1024x1024 X h) f := fun a b =>
  (shapeCast_apply X h (ix2 a b) (ix3 (0 : Fin 1) a b) (by
    rw [Shape.rowMajor_val_two, Shape.rowMajor_val_three]; simp)).trans (hx a b)

theorem IsR.row {X : S1x1024.Idx → EReal} {f : Fin 1 → Fin 1024 → ℝ} (hx : IsR X f) (h : S1x1024.Broadcasts S256x1024) :
    IsR (broadcastTo S256x1024 X h) fun _ b => f 0 b := fun a b =>
  (broadcastTo_apply X h (ix2 a b) (ix2 (0 : Fin 1) b) (fun d => match d with
    | ⟨0, _⟩ => by show 0 = if (1 : Nat) = 1 then 0 else _; rw [if_pos rfl]
    | ⟨1, _⟩ => by show b.val = if (1024 : Nat) = 1 then 0 else b.val; rw [if_neg (by decide)])).trans (hx 0 b)

theorem IsR.col {X : S256x1.Idx → EReal} {f : Fin 256 → Fin 1 → ℝ} (hx : IsR X f) (h : S256x1.Broadcasts S256x1024) :
    IsR (broadcastTo S256x1024 X h) fun a _ => f a 0 := fun a b =>
  (broadcastTo_apply X h (ix2 a b) (ix2 a (0 : Fin 1)) (fun d => match d with
    | ⟨0, _⟩ => by show a.val = if (256 : Nat) = 1 then 0 else a.val; rw [if_neg (by decide)]
    | ⟨1, _⟩ => by show 0 = if (1 : Nat) = 1 then 0 else _; rw [if_pos rfl])).trans (hx a 0)

/-! ## Sums -/

theorem IsR.rowSum {X : FVec Ideal S256x1024 .f32} {f : Fin 256 → Fin 1024 → ℝ} (hx : IsR X f)
    (hφ : FKind.Formats .f32) (hacc : (0x00000000#32 : BitVec FTy.f32.bits) = FKind.add.neutral .f32 hφ) :
    IsR (shapeCast S256x1 (multiReduction .add [1] S256 X 0x00000000#32 reduces_S256x1024_S256 hφ hacc)
      shapeCasts_S256_S256x1) fun a _ => ∑ k, f a k := fun a b => by
  rw [shapeCast_apply _ _ (ix2 a b) (ix1 a) (by rw [Shape.rowMajor_val_two, Shape.rowMajor_val_one]; simp),
    Ideal.multiReduction_add_single, ← sum_c]
  refine Finset.sum_congr rfl fun k _ => ?_
  refine Eq.trans (congrArg X ?_) (hx a k)
  funext d; match d with | ⟨0, _⟩ => rfl | ⟨1, _⟩ => rfl

theorem IsR.colSum {X : FVec Ideal S256x1024 .f32} {f : Fin 256 → Fin 1024 → ℝ} (hx : IsR X f)
    (hφ : FKind.Formats .f32) (hacc : (0x00000000#32 : BitVec FTy.f32.bits) = FKind.add.neutral .f32 hφ) :
    IsR (shapeCast S1x1024 (multiReduction .add [0] S1024 X 0x00000000#32 reduces_S256x1024_S1024 hφ hacc)
      shapeCasts_S1024_S1x1024) fun _ b => ∑ k, f k b := fun a b => by
  rw [shapeCast_apply _ _ (ix2 a b) (ix1 b) (by rw [Shape.rowMajor_val_two, Shape.rowMajor_val_one]; simp),
    Ideal.multiReduction_add_single, ← sum_c]
  refine Finset.sum_congr rfl fun k _ => ?_
  refine Eq.trans (congrArg X ?_) (hx k b)
  funext d; match d with | ⟨0, _⟩ => rfl | ⟨1, _⟩ => rfl

/-! ## Products -/

abbrev D0 := dot_S256x1024_S1024x1024_S256x1024_1_0_0_1_n_n
abbrev D1 := dot_S256x1024_S1024x1024_S256x1024_1_1_0_0_n_n

theorem lhs0_nc (a : Fin 256) (b : Fin 1024) (q : D0.contr.Idx) : (D0.lhsIdx (ix2 a b) q 0).val = a.val := by
  unfold DotDims.lhsIdx
  rw [dif_neg (show ¬(0 : Fin S256x1024.rank) ∈ D0.lhsBatch by decide), dif_pos (show (0 : Fin S256x1024.rank) ∈ D0.lhsNonContracting by decide)]
  rfl

theorem lhs0 (a : Fin 256) (b k : Fin 1024) :
    D0.lhsIdx (ix2 a b) ((contrEquiv1 D0 1024 rfl rfl).symm k) = ix2 a k := by
  have hk := contrEquiv1_symm_val D0 1024 rfl rfl k
  funext d; apply Fin.ext
  match d with
  | ⟨0, _⟩ => exact lhs0_nc a b _
  | ⟨1, _⟩ => exact (D0.lhsIdx_val_of_single rfl _ _).trans hk

theorem rhs0_nc (a : Fin 256) (b : Fin 1024) (q : D0.contr.Idx) : (D0.rhsIdx (ix2 a b) q 1).val = b.val := by
  unfold DotDims.rhsIdx
  rw [dif_neg (show ¬(1 : Fin S1024x1024.rank) ∈ D0.rhsBatch by decide), dif_pos (show (1 : Fin S1024x1024.rank) ∈ D0.rhsNonContracting by decide)]
  rfl

theorem rhs0 (a : Fin 256) (b k : Fin 1024) :
    D0.rhsIdx (ix2 a b) ((contrEquiv1 D0 1024 rfl rfl).symm k) = ix2 k b := by
  have hk := contrEquiv1_symm_val D0 1024 rfl rfl k
  funext d; apply Fin.ext
  match d with
  | ⟨0, _⟩ => exact (D0.rhsIdx_val_of_single rfl _ _).trans hk
  | ⟨1, _⟩ => exact rhs0_nc a b _

theorem lhs1_nc (a : Fin 256) (b : Fin 1024) (q : D1.contr.Idx) : (D1.lhsIdx (ix2 a b) q 0).val = a.val := by
  unfold DotDims.lhsIdx
  rw [dif_neg (show ¬(0 : Fin S256x1024.rank) ∈ D1.lhsBatch by decide), dif_pos (show (0 : Fin S256x1024.rank) ∈ D1.lhsNonContracting by decide)]
  rfl

theorem lhs1 (a : Fin 256) (b k : Fin 1024) :
    D1.lhsIdx (ix2 a b) ((contrEquiv1 D1 1024 rfl rfl).symm k) = ix2 a k := by
  have hk := contrEquiv1_symm_val D1 1024 rfl rfl k
  funext d; apply Fin.ext
  match d with
  | ⟨0, _⟩ => exact lhs1_nc a b _
  | ⟨1, _⟩ => exact (D1.lhsIdx_val_of_single rfl _ _).trans hk

theorem rhs1_nc (a : Fin 256) (b : Fin 1024) (q : D1.contr.Idx) : (D1.rhsIdx (ix2 a b) q 0).val = b.val := by
  unfold DotDims.rhsIdx
  rw [dif_neg (show ¬(0 : Fin S1024x1024.rank) ∈ D1.rhsBatch by decide), dif_pos (show (0 : Fin S1024x1024.rank) ∈ D1.rhsNonContracting by decide)]
  rfl

theorem rhs1 (a : Fin 256) (b k : Fin 1024) :
    D1.rhsIdx (ix2 a b) ((contrEquiv1 D1 1024 rfl rfl).symm k) = ix2 b k := by
  have hk := contrEquiv1_symm_val D1 1024 rfl rfl k
  funext d; apply Fin.ext
  match d with
  | ⟨0, _⟩ => exact rhs1_nc a b _
  | ⟨1, _⟩ => exact (D1.rhsIdx_val_of_single rfl _ _).trans hk

section Product

variable {X : FVec Ideal S256x1024 φ} {Y : FVec Ideal S1024x1024 ψ} {f : Fin 256 → Fin 1024 → ℝ} {g : Fin 1024 → Fin 1024 → ℝ}

/-- Rows times a matrix. -/
theorem IsR.dot (hx : IsR X f) (hy : IsR Y g) :
    IsR (FloatOps.matmul D0 none X Y (constant S256x1024 .f32 0x00000000#32) : FVec Ideal S256x1024 .f32)
      fun a b => ∑ k, f a k * g k b := fun a b => by
  rw [Ideal.matmul_constant_zero_apply, ← Equiv.sum_comp (contrEquiv1 D0 1024 rfl rfl).symm, ← sum_c]
  refine Finset.sum_congr rfl fun k _ => ?_
  rw [lhs0, rhs0, hx a k, hy k b, mul_c]

/-- Rows times a matrix turned over its diagonal. -/
theorem IsR.dotT (hx : IsR X f) (hy : IsR Y g) :
    IsR (FloatOps.matmul D1 none X Y (constant S256x1024 .f32 0x00000000#32) : FVec Ideal S256x1024 .f32)
      fun a b => ∑ k, f a k * g b k := fun a b => by
  rw [Ideal.matmul_constant_zero_apply, ← Equiv.sum_comp (contrEquiv1 D1 1024 rfl rfl).symm, ← sum_c]
  refine Finset.sum_congr rfl fun k _ => ?_
  rw [lhs1, rhs1, hx a k, hy b k, mul_c]

end Product

end Cert.Ker
-- ==== Proof.KerPay.lean ====
/- Each value the kernel computes on a block of 256 tokens, as the row-by-row formulas of `Spec`: `R a` is the token in row
   `a` of the block. -/
module

public import proofs.«01_k».proof.Proof.KerOps
public import proofs.«01_k».proof.Proof.Spec

@[expose] public section

set_option maxRecDepth 16384

noncomputable section

namespace Cert.Ker

open Cert.KernelIdeal Cert.KernelIdeal.Gen Cert.Coe Cert.Step Idealize.ShloMosaic Idealize.ShloMosaic.ValueIdx

/-- The 256-row, 1024-column arrays of a block. -/
local notation "T" => FVec Ideal S256x1024 FTy.f32
local notation "Tb" => FVec Ideal S256x1024 FTy.bf16
local notation "C" => FVec Ideal S256x1 FTy.f32
local notation "Ro" => FVec Ideal S1x1024 FTy.f32
local notation "Sl" => FVec Ideal S1x1024x1024 FTy.bf16

/-! ## Layer norms of a block -/

section Norm

variable {X Z H G : T} {ρ : C} {f h g : Fin 256 → Fin 1024 → ℝ} {s : Fin 256 → ℝ}

theorem IsR.mean (hx : IsR X f) (hφ : FKind.Formats .f32) (hacc : (0x00000000#32 : BitVec FTy.f32.bits) = FKind.add.neutral .f32 hφ) :
    IsR (divf (shapeCast S256x1 (multiReduction .add [1] S256 X 0x00000000#32 reduces_S256x1024_S256 hφ hacc)
      shapeCasts_S256_S256x1) (broadcast S256x1 (Scalar.ofBits (F := Ideal) .f32 0x44800000#32))) fun a _ => Step.mean (f a) :=
  (hx.rowSum hφ hacc).div (isR_const c_1024) fun _ _ => by norm_num

theorem IsR.cen (hx : IsR X f) (hφ : FKind.Formats .f32) (hacc : (0x00000000#32 : BitVec FTy.f32.bits) = FKind.add.neutral .f32 hφ)
    (hb : S256x1.Broadcasts S256x1024) :
    IsR (subf X (broadcastTo S256x1024 (divf (shapeCast S256x1 (multiReduction .add [1] S256 X 0x00000000#32 reduces_S256x1024_S256 hφ hacc)
      shapeCasts_S256_S256x1) (broadcast S256x1 (Scalar.ofBits (F := Ideal) .f32 0x44800000#32))) hb)) fun a => Step.cen (f a) :=
  hx.sub ((hx.mean hφ hacc).col hb)

theorem IsR.rs (hz : IsR Z fun a => Step.cen (f a)) (hφ : FKind.Formats .f32)
    (hacc : (0x00000000#32 : BitVec FTy.f32.bits) = FKind.add.neutral .f32 hφ) :
    IsR (Idealize.ShloMosaic.rsqrt (addf (divf (shapeCast S256x1 (multiReduction .add [1] S256 (mulf Z Z) 0x00000000#32 reduces_S256x1024_S256 hφ hacc)
      shapeCasts_S256_S256x1) (broadcast S256x1 (Scalar.ofBits (F := Ideal) .f32 0x44800000#32)))
      (broadcast S256x1 (Scalar.ofBits (F := Ideal) .f32 0x3727C5AC#32)))) fun a _ => Step.rs (f a) :=
  (((hz.mul hz).mean hφ hacc).add (isR_const c_ep)).rsqrt fun a _ =>
    add_pos_of_nonneg_of_pos (div_nonneg (Finset.sum_nonneg fun k _ => mul_self_nonneg _) (by norm_num)) ep_pos

theorem IsR.nrm (hz : IsR Z fun a => Step.cen (f a)) (hr : IsR ρ fun a _ => Step.rs (f a)) (hb : S256x1.Broadcasts S256x1024) :
    IsR (mulf Z (broadcastTo S256x1024 ρ hb)) fun a => Step.nrm (f a) := hz.mul (hr.col hb)

theorem IsR.lnb (hr : IsR ρ fun a _ => s a) (hh : IsR H h) (hg : IsR G g) (hφ : FKind.Formats .f32)
    (hacc : (0x00000000#32 : BitVec FTy.f32.bits) = FKind.add.neutral .f32 hφ) (hb : S256x1.Broadcasts S256x1024) :
    IsR (mulf (broadcastTo S256x1024 ρ hb) (subf (subf G (broadcastTo S256x1024 (divf (shapeCast S256x1 (multiReduction .add [1] S256 G 0x00000000#32 reduces_S256x1024_S256 hφ hacc)
      shapeCasts_S256_S256x1) (broadcast S256x1 (Scalar.ofBits (F := Ideal) .f32 0x44800000#32))) hb))
      (mulf H (broadcastTo S256x1024 (divf (shapeCast S256x1 (multiReduction .add [1] S256 (mulf G H) 0x00000000#32 reduces_S256x1024_S256 hφ hacc)
      shapeCasts_S256_S256x1) (broadcast S256x1 (Scalar.ofBits (F := Ideal) .f32 0x44800000#32))) hb)))) fun a => Step.lnb (s a) (h a) (g a) :=
  (hr.col hb).mul ((hg.cen hφ hacc hb).sub (hh.mul ((((hg.mul hh).mean hφ hacc)).col hb)))

/-- A row of sums with the column sums of a block added. -/
theorem IsR.acc {X : T} {f : Fin 256 → Fin 1024 → ℝ} {Y : Ro} {s : Fin 1024 → ℝ} (hy : IsR Y fun _ => s) (hx : IsR X f) (hφ : FKind.Formats .f32)
    (hacc : (0x00000000#32 : BitVec FTy.f32.bits) = FKind.add.neutral .f32 hφ) (hs : S1x1024.ShapeCasts S1x1024) :
    IsR (addf (shapeCast S1x1024 Y hs) (shapeCast S1x1024 (multiReduction .add [0] S1024 X 0x00000000#32 reduces_S256x1024_S1024 hφ hacc)
      shapeCasts_S1024_S1x1024)) fun _ b => s b + ∑ a, f a b := (hy.cast_self hs).add (hx.colSum hφ hacc)

end Norm

/-! ## The values of a block -/

variable (A : Args) (R : Fin 256 → Fin 8192) {s : Fin 1024 → ℝ}

/-- The four blocks of hidden features summed one after the other from zero. -/
theorem sum4 (f : Fin 4 → ℝ) : ∑ c, f c = 0 + f 0 + f 1 + f 2 + f 3 := by
  rw [Fin.sum_univ_four, zero_add]

theorem pay4 {v0 : Tb} {v1 : FVec Ideal S1024x1024 FTy.bf16} (h0 : IsR v0 (fun a => A.mx (R a))) (h1 : IsR v1 (wom A)) :
    IsR (k0_pay4 (F := Ideal) v0 v1) (fun a => mm A (R a)) := by
  unfold k0_pay4
  exact h0.dot (h1.cast_self _)

theorem pay5 {v0 : T} {v1 : Tb} {v2 : FVec Ideal S1024x1024 FTy.bf16} {v3 : Ro} (h0 : IsR v0 (fun a => A.x (R a))) (h1 : IsR v1 (fun a => A.mx (R a))) (h2 : IsR v2 (wom A)) (h3 : IsR v3 (fun _ => g1 A)) :
    IsR (k0_pay5 (F := Ideal) v0 v1 v2 v3) (fun a => cen (z1 A (R a))) := by
  unfold k0_pay5
  exact (((isR_const c_al).mul (h0.cast_self _)).add ((h3.row _).mul (pay4 A R h1 h2))).cen (.inl rfl) rfl _

theorem pay6 {v0 : T} {v1 : Tb} {v2 : FVec Ideal S1024x1024 FTy.bf16} {v3 : Ro} (h0 : IsR v0 (fun a => A.x (R a))) (h1 : IsR v1 (fun a => A.mx (R a))) (h2 : IsR v2 (wom A)) (h3 : IsR v3 (fun _ => g1 A)) :
    IsR (k0_pay6 (F := Ideal) v0 v1 v2 v3) (fun a _ => rs (z1 A (R a))) := by
  unfold k0_pay6
  exact (pay5 A R h0 h1 h2 h3).rs (.inl rfl) rfl

theorem pay7 {v0 : T} {v1 : Tb} {v2 : FVec Ideal S1024x1024 FTy.bf16} {v3 : Ro} (h0 : IsR v0 (fun a => A.x (R a))) (h1 : IsR v1 (fun a => A.mx (R a))) (h2 : IsR v2 (wom A)) (h3 : IsR v3 (fun _ => g1 A)) :
    IsR (k0_pay7 (F := Ideal) v0 v1 v2 v3) (fun a => nrm (z1 A (R a))) := by
  unfold k0_pay7
  exact (pay5 A R h0 h1 h2 h3).nrm (pay6 A R h0 h1 h2 h3) _

theorem pay8 {v0 : T} {v1 : Tb} {v2 : FVec Ideal S1024x1024 FTy.bf16} {v3 : Ro} {v4 : Ro} (h0 : IsR v0 (fun a => A.x (R a))) (h1 : IsR v1 (fun a => A.mx (R a))) (h2 : IsR v2 (wom A)) (h3 : IsR v3 (fun _ => g1 A)) (h4 : IsR v4 (fun _ => A.l1w)) :
    IsR (k0_pay8 (F := Ideal) v0 v1 v2 v3 v4) (fun a j => nrm (z1 A (R a)) j * A.l1w j) := by
  unfold k0_pay8
  exact (pay7 A R h0 h1 h2 h3).mul ((h4.cast_self _).row _)

theorem pay9 {v0 : Ro} (h0 : IsR v0 (fun _ => A.l1b)) :
    IsR (k0_pay9 (F := Ideal) v0) (fun _ => A.l1b) := by
  unfold k0_pay9
  exact h0.cast_self _

theorem pay10 {v0 : T} {v1 : Ro} (h0 : IsR v0 (fun a j => nrm (z1 A (R a)) j * A.l1w j)) (h1 : IsR v1 (fun _ => A.l1b)) :
    IsR (k0_pay10 (F := Ideal) v0 v1) (fun a => x1 A (R a)) := by
  unfold k0_pay10
  exact h0.add (h1.row _)

theorem pay11 {v0 : T} {v1 : Ro} (h0 : IsR v0 (fun a j => nrm (z1 A (R a)) j * A.l1w j)) (h1 : IsR v1 (fun _ => A.l1b)) :
    IsR (k0_pay11 (F := Ideal) v0 v1) (fun a => cen (x1 A (R a))) := by
  unfold k0_pay11
  exact (pay10 A R h0 h1).cen (.inl rfl) rfl _

theorem pay12 {v0 : T} {v1 : Ro} (h0 : IsR v0 (fun a j => nrm (z1 A (R a)) j * A.l1w j)) (h1 : IsR v1 (fun _ => A.l1b)) :
    IsR (k0_pay12 (F := Ideal) v0 v1) (fun a _ => rs (x1 A (R a))) := by
  unfold k0_pay12
  exact (pay11 A R h0 h1).rs (.inl rfl) rfl

theorem pay13 {v0 : T} {v1 : Ro} (h0 : IsR v0 (fun a j => nrm (z1 A (R a)) j * A.l1w j)) (h1 : IsR v1 (fun _ => A.l1b)) :
    IsR (k0_pay13 (F := Ideal) v0 v1) (fun a => nrm (x1 A (R a))) := by
  unfold k0_pay13
  exact (pay11 A R h0 h1).nrm (pay12 A R h0 h1) _

theorem pay14 {v0 : T} {v1 : Ro} {v2 : Ro} {v3 : Ro} (h0 : IsR v0 (fun a j => nrm (z1 A (R a)) j * A.l1w j)) (h1 : IsR v1 (fun _ => A.l1b)) (h2 : IsR v2 (fun _ => sc2 A)) (h3 : IsR v3 (fun _ => sh2 A)) :
    IsR (k0_pay14 (F := Ideal) v0 v1 v2 v3) (fun a => u2 A (R a)) := by
  unfold k0_pay14
  exact (((pay13 A R h0 h1).mul (((isR_const c_one).add h2).row _)).add (h3.row _)).trunc _

theorem pay15   :
    IsR (k0_pay15 (F := Ideal) ) (fun _ _ => 0) := by
  unfold k0_pay15
  exact isR_const c_zero

theorem pay16 {v0 : T} {v1 : Ro} {v2 : Ro} {v3 : Ro} {v4 : Sl} (h0 : IsR v0 (fun a j => nrm (z1 A (R a)) j * A.l1w j)) (h1 : IsR v1 (fun _ => A.l1b)) (h2 : IsR v2 (fun _ => sc2 A)) (h3 : IsR v3 (fun _ => sh2 A)) (h4 : IsR3 v4 (A.w1 0)) :
    IsR (k0_pay16 (F := Ideal) v0 v1 v2 v3 v4) (fun a => rl A (R a) 0) := by
  unfold k0_pay16
  exact ((pay14 A R h0 h1 h2 h3).dot (h4.slab _)).max (isR_const c_zero)

theorem pay17 {v0 : T} {v1 : Ro} {v2 : Ro} {v3 : Ro} {v4 : Sl} (h0 : IsR v0 (fun a j => nrm (z1 A (R a)) j * A.l1w j)) (h1 : IsR v1 (fun _ => A.l1b)) (h2 : IsR v2 (fun _ => sc2 A)) (h3 : IsR v3 (fun _ => sh2 A)) (h4 : IsR3 v4 (A.w1 0)) :
    IsR (k0_pay17 (F := Ideal) v0 v1 v2 v3 v4) (fun a => rl A (R a) 0) := by
  unfold k0_pay17
  exact (pay16 A R h0 h1 h2 h3 h4).cast_self _

theorem pay18 {v0 : T} {v1 : Ro} {v2 : Ro} {v3 : Ro} {v4 : Sl} (h0 : IsR v0 (fun a j => nrm (z1 A (R a)) j * A.l1w j)) (h1 : IsR v1 (fun _ => A.l1b)) (h2 : IsR v2 (fun _ => sc2 A)) (h3 : IsR v3 (fun _ => sh2 A)) (h4 : IsR3 v4 (A.w1 0)) :
    IsR (k0_pay18 (F := Ideal) v0 v1 v2 v3 v4) (fun a => act A (R a) 0) := by
  unfold k0_pay18
  exact (pay16 A R h0 h1 h2 h3 h4).mul (pay16 A R h0 h1 h2 h3 h4)

theorem pay19 {v0 : T} (h0 : IsR v0 (fun a => act A (R a) 0)) :
    IsR (k0_pay19 (F := Ideal) v0) (fun a => act A (R a) 0) := by
  unfold k0_pay19
  exact h0.trunc _

theorem pay20 {v0 : Tb} {v1 : Sl} (h0 : IsR v0 (fun a => u2 A (R a))) (h1 : IsR3 v1 (A.w1 1)) :
    IsR (k0_pay20 (F := Ideal) v0 v1) (fun a => rl A (R a) 1) := by
  unfold k0_pay20
  exact (h0.dot (h1.slab _)).max (isR_const c_zero)

theorem pay21 {v0 : Tb} {v1 : Sl} (h0 : IsR v0 (fun a => u2 A (R a))) (h1 : IsR3 v1 (A.w1 1)) :
    IsR (k0_pay21 (F := Ideal) v0 v1) (fun a => rl A (R a) 1) := by
  unfold k0_pay21
  exact (pay20 A R h0 h1).cast_self _

theorem pay24 {v0 : Tb} {v1 : Sl} (h0 : IsR v0 (fun a => u2 A (R a))) (h1 : IsR3 v1 (A.w1 2)) :
    IsR (k0_pay24 (F := Ideal) v0 v1) (fun a => rl A (R a) 2) := by
  unfold k0_pay24
  exact (h0.dot (h1.slab _)).max (isR_const c_zero)

theorem pay25 {v0 : Tb} {v1 : Sl} (h0 : IsR v0 (fun a => u2 A (R a))) (h1 : IsR3 v1 (A.w1 2)) :
    IsR (k0_pay25 (F := Ideal) v0 v1) (fun a => rl A (R a) 2) := by
  unfold k0_pay25
  exact (pay24 A R h0 h1).cast_self _

theorem pay28 {v0 : Tb} {v1 : Sl} (h0 : IsR v0 (fun a => u2 A (R a))) (h1 : IsR3 v1 (A.w1 3)) :
    IsR (k0_pay28 (F := Ideal) v0 v1) (fun a => rl A (R a) 3) := by
  unfold k0_pay28
  exact (h0.dot (h1.slab _)).max (isR_const c_zero)

theorem pay29 {v0 : Tb} {v1 : Sl} (h0 : IsR v0 (fun a => u2 A (R a))) (h1 : IsR3 v1 (A.w1 3)) :
    IsR (k0_pay29 (F := Ideal) v0 v1) (fun a => rl A (R a) 3) := by
  unfold k0_pay29
  exact (pay28 A R h0 h1).cast_self _

theorem pay22 {v0 : Tb} {v1 : Sl} (h0 : IsR v0 (fun a => u2 A (R a))) (h1 : IsR3 v1 (A.w1 1)) :
    IsR (k0_pay22 (F := Ideal) v0 v1) (fun a => act A (R a) 1) := by
  unfold k0_pay22
  exact ((pay20 A R h0 h1).mul (pay20 A R h0 h1)).trunc _

theorem pay26 {v0 : Tb} {v1 : Sl} (h0 : IsR v0 (fun a => u2 A (R a))) (h1 : IsR3 v1 (A.w1 2)) :
    IsR (k0_pay26 (F := Ideal) v0 v1) (fun a => act A (R a) 2) := by
  unfold k0_pay26
  exact (pay24 A R h0 h1).mul (pay24 A R h0 h1)

theorem pay27 {v0 : T} (h0 : IsR v0 (fun a => act A (R a) 2)) :
    IsR (k0_pay27 (F := Ideal) v0) (fun a => act A (R a) 2) := by
  unfold k0_pay27
  exact h0.trunc _

theorem pay30 {v0 : Tb} {v1 : Sl} (h0 : IsR v0 (fun a => u2 A (R a))) (h1 : IsR3 v1 (A.w1 3)) :
    IsR (k0_pay30 (F := Ideal) v0 v1) (fun a => act A (R a) 3) := by
  unfold k0_pay30
  exact ((pay28 A R h0 h1).mul (pay28 A R h0 h1)).trunc _

theorem pay23 {v0 : Tb} {v1 : T} {v2 : T} {v3 : Sl} {v4 : Sl} {v5 : Sl} (h0 : IsR v0 (fun a => u2 A (R a))) (h1 : IsR v1 (fun _ _ => 0)) (h2 : IsR v2 (fun a => act A (R a) 0)) (h3 : IsR3 v3 (A.w2 0)) (h4 : IsR3 v4 (A.w1 1)) (h5 : IsR3 v5 (A.w2 1)) :
    IsR (k0_pay23 (F := Ideal) v0 v1 v2 v3 v4 v5) (fun a j => 0 + (∑ k, act A (R a) 0 k * A.w2 0 k j) + ∑ k, act A (R a) 1 k * A.w2 1 k j) := by
  unfold k0_pay23
  exact (h1.add ((pay19 A R h2).dot (h3.slab _))).add ((pay22 A R h0 h4).dot (h5.slab _))

theorem pay31 {v0 : Tb} {v1 : T} {v2 : T} {v3 : Sl} {v4 : Sl} {v5 : Sl} (h0 : IsR v0 (fun a => u2 A (R a))) (h1 : IsR v1 (fun a j => 0 + (∑ k, act A (R a) 0 k * A.w2 0 k j) + ∑ k, act A (R a) 1 k * A.w2 1 k j)) (h2 : IsR v2 (fun a => act A (R a) 2)) (h3 : IsR3 v3 (A.w2 2)) (h4 : IsR3 v4 (A.w1 3)) (h5 : IsR3 v5 (A.w2 3)) :
    IsR (k0_pay31 (F := Ideal) v0 v1 v2 v3 v4 v5) (fun a => ff A (R a)) := by
  have e : (fun a => ff A (R a)) = fun a j => 0 + (∑ k, act A (R a) 0 k * A.w2 0 k j) + (∑ k, act A (R a) 1 k * A.w2 1 k j) + (∑ k, act A (R a) 2 k * A.w2 2 k j) + ∑ k, act A (R a) 3 k * A.w2 3 k j := by
    funext a j; exact sum4 _
  rw [e]; unfold k0_pay31
  exact (h1.add ((pay27 A R h2).dot (h3.slab _))).add ((pay30 A R h0 h4).dot (h5.slab _))

theorem pay32 {v0 : T} {v1 : Tb} {v2 : T} {v3 : T} {v4 : Sl} {v5 : Sl} {v6 : Sl} {v7 : Ro} (h0 : IsR v0 (fun a => x1 A (R a))) (h1 : IsR v1 (fun a => u2 A (R a))) (h2 : IsR v2 (fun a j => 0 + (∑ k, act A (R a) 0 k * A.w2 0 k j) + ∑ k, act A (R a) 1 k * A.w2 1 k j)) (h3 : IsR v3 (fun a => act A (R a) 2)) (h4 : IsR3 v4 (A.w2 2)) (h5 : IsR3 v5 (A.w1 3)) (h6 : IsR3 v6 (A.w2 3)) (h7 : IsR v7 (fun _ => g2 A)) :
    IsR (k0_pay32 (F := Ideal) v0 v1 v2 v3 v4 v5 v6 v7) (fun a => cen (z2 A (R a))) := by
  unfold k0_pay32
  exact (((isR_const c_al).mul h0).add ((h7.row _).mul (pay31 A R h1 h2 h3 h4 h5 h6))).cen (.inl rfl) rfl _

theorem pay33 {v0 : T} (h0 : IsR v0 (fun a => cen (z2 A (R a)))) :
    IsR (k0_pay33 (F := Ideal) v0) (fun a _ => rs (z2 A (R a))) := by
  unfold k0_pay33
  exact h0.rs (.inl rfl) rfl

theorem pay34 {v0 : T} (h0 : IsR v0 (fun a => cen (z2 A (R a)))) :
    IsR (k0_pay34 (F := Ideal) v0) (fun a => nrm (z2 A (R a))) := by
  unfold k0_pay34
  exact h0.nrm (pay33 A R h0) _

theorem pay35 {v0 : T} {v1 : Ro} {v2 : Ro} {v3 : T} (h0 : IsR v0 (fun a => cen (z2 A (R a)))) (h1 : IsR v1 (fun _ => A.l2w)) (h2 : IsR v2 (fun _ => A.l2b)) (h3 : IsR v3 (fun a => A.tg (R a))) :
    IsR (k0_pay35 (F := Ideal) v0 v1 v2 v3) (fun a => err A (R a)) := by
  unfold k0_pay35
  exact (((pay34 A R h0).mul ((h1.cast_self _).row _)).add ((h2.cast_self _).row _)).sub (h3.cast_self _)

theorem pay36 {v0 : T} {v1 : Ro} {v2 : Ro} {v3 : T} {v4 : Ro} (h0 : IsR v0 (fun a => cen (z2 A (R a)))) (h1 : IsR v1 (fun _ => A.l2w)) (h2 : IsR v2 (fun _ => A.l2b)) (h3 : IsR v3 (fun a => A.tg (R a))) (h4 : IsR v4 (fun _ => s)) :
    IsR (k0_pay36 (F := Ideal) v0 v1 v2 v3 v4) (fun _ b => s b + ∑ a, term A (R a) 8 b) := by
  unfold k0_pay36
  exact h4.acc ((pay35 A R h0 h1 h2 h3).mul (pay35 A R h0 h1 h2 h3)) (.inl rfl) rfl _

theorem pay37 {v0 : T} {v1 : Ro} {v2 : Ro} {v3 : T} (h0 : IsR v0 (fun a => cen (z2 A (R a)))) (h1 : IsR v1 (fun _ => A.l2w)) (h2 : IsR v2 (fun _ => A.l2b)) (h3 : IsR v3 (fun a => A.tg (R a))) :
    IsR (k0_pay37 (F := Ideal) v0 v1 v2 v3) (fun a => dy A (R a)) := by
  unfold k0_pay37
  exact (pay35 A R h0 h1 h2 h3).mul (isR_const c_inv1024)

theorem pay38 {v0 : T} {v1 : Ro} {v2 : Ro} {v3 : T} {v4 : Ro} (h0 : IsR v0 (fun a => cen (z2 A (R a)))) (h1 : IsR v1 (fun _ => A.l2w)) (h2 : IsR v2 (fun _ => A.l2b)) (h3 : IsR v3 (fun a => A.tg (R a))) (h4 : IsR v4 (fun _ => s)) :
    IsR (k0_pay38 (F := Ideal) v0 v1 v2 v3 v4) (fun _ b => s b + ∑ a, term A (R a) 6 b) := by
  unfold k0_pay38
  exact h4.acc ((pay37 A R h0 h1 h2 h3).mul (pay34 A R h0)) (.inl rfl) rfl _

theorem pay39 {v0 : T} {v1 : Ro} (h0 : IsR v0 (fun a => dy A (R a))) (h1 : IsR v1 (fun _ => s)) :
    IsR (k0_pay39 (F := Ideal) v0 v1) (fun _ b => s b + ∑ a, term A (R a) 7 b) := by
  unfold k0_pay39
  exact h1.acc h0 (.inl rfl) rfl _

theorem pay40 {v0 : C} {v1 : T} {v2 : T} {v3 : Ro} (h0 : IsR v0 (fun a _ => rs (z2 A (R a)))) (h1 : IsR v1 (fun a => nrm (z2 A (R a)))) (h2 : IsR v2 (fun a => dy A (R a))) (h3 : IsR v3 (fun _ => A.l2w)) :
    IsR (k0_pay40 (F := Ideal) v0 v1 v2 v3) (fun a => dz2 A (R a)) := by
  unfold k0_pay40
  exact h0.lnb h1 (h2.mul ((h3.cast_self _).row _)) (.inl rfl) rfl _

theorem pay41 {v0 : T} {v1 : C} {v2 : T} {v3 : T} {v4 : Ro} {v5 : Ro} (h0 : IsR v0 (fun a => ff A (R a))) (h1 : IsR v1 (fun a _ => rs (z2 A (R a)))) (h2 : IsR v2 (fun a => nrm (z2 A (R a)))) (h3 : IsR v3 (fun a => dy A (R a))) (h4 : IsR v4 (fun _ => A.l2w)) (h5 : IsR v5 (fun _ => s)) :
    IsR (k0_pay41 (F := Ideal) v0 v1 v2 v3 v4 v5) (fun _ b => s b + ∑ a, term A (R a) 3 b) := by
  unfold k0_pay41
  exact h5.acc ((pay40 A R h1 h2 h3 h4).mul h0) (.inl rfl) rfl _

theorem pay42 {v0 : C} {v1 : T} {v2 : T} {v3 : Ro} {v4 : Ro} (h0 : IsR v0 (fun a _ => rs (z2 A (R a)))) (h1 : IsR v1 (fun a => nrm (z2 A (R a)))) (h2 : IsR v2 (fun a => dy A (R a))) (h3 : IsR v3 (fun _ => A.l2w)) (h4 : IsR v4 (fun _ => g2 A)) :
    IsR (k0_pay42 (F := Ideal) v0 v1 v2 v3 v4) (fun a => df A (R a)) := by
  unfold k0_pay42
  exact ((h4.row _).mul (pay40 A R h0 h1 h2 h3)).trunc _

theorem pay43 {v0 : Tb} {v1 : Sl} {v2 : T} (h0 : IsR v0 (fun a => df A (R a))) (h1 : IsR3 v1 (A.w2 0)) (h2 : IsR v2 (fun a => rl A (R a) 0)) :
    IsR (k0_pay43 (F := Ideal) v0 v1 v2) (fun a => dh A (R a) 0) := by
  unfold k0_pay43
  exact ((h0.dotT (h1.slab _)).mul ((isR_const c_two).mul h2)).trunc _

theorem pay44 {v0 : Tb} {v1 : Sl} {v2 : T} (h0 : IsR v0 (fun a => df A (R a))) (h1 : IsR3 v1 (A.w2 1)) (h2 : IsR v2 (fun a => rl A (R a) 1)) :
    IsR (k0_pay44 (F := Ideal) v0 v1 v2) (fun a => dh A (R a) 1) := by
  unfold k0_pay44
  exact ((h0.dotT (h1.slab _)).mul ((isR_const c_two).mul h2)).trunc _

theorem pay46 {v0 : Tb} {v1 : Sl} {v2 : T} (h0 : IsR v0 (fun a => df A (R a))) (h1 : IsR3 v1 (A.w2 2)) (h2 : IsR v2 (fun a => rl A (R a) 2)) :
    IsR (k0_pay46 (F := Ideal) v0 v1 v2) (fun a => dh A (R a) 2) := by
  unfold k0_pay46
  exact ((h0.dotT (h1.slab _)).mul ((isR_const c_two).mul h2)).trunc _

theorem pay47 {v0 : Tb} {v1 : Sl} {v2 : T} (h0 : IsR v0 (fun a => df A (R a))) (h1 : IsR3 v1 (A.w2 3)) (h2 : IsR v2 (fun a => rl A (R a) 3)) :
    IsR (k0_pay47 (F := Ideal) v0 v1 v2) (fun a => dh A (R a) 3) := by
  unfold k0_pay47
  exact ((h0.dotT (h1.slab _)).mul ((isR_const c_two).mul h2)).trunc _

theorem pay45 {v0 : Tb} {v1 : Sl} {v2 : T} {v3 : Sl} {v4 : Sl} {v5 : T} {v6 : Sl} (h0 : IsR v0 (fun a => df A (R a))) (h1 : IsR3 v1 (A.w2 0)) (h2 : IsR v2 (fun a => rl A (R a) 0)) (h3 : IsR3 v3 (A.w1 0)) (h4 : IsR3 v4 (A.w2 1)) (h5 : IsR v5 (fun a => rl A (R a) 1)) (h6 : IsR3 v6 (A.w1 1)) :
    IsR (k0_pay45 (F := Ideal) v0 v1 v2 v3 v4 v5 v6) (fun a j => 0 + (∑ k, dh A (R a) 0 k * A.w1 0 j k) + ∑ k, dh A (R a) 1 k * A.w1 1 j k) := by
  unfold k0_pay45
  exact ((isR_const c_zero).add ((pay43 A R h0 h1 h2).dotT (h3.slab _))).add ((pay44 A R h0 h4 h5).dotT (h6.slab _))

theorem pay48 {v0 : Tb} {v1 : T} {v2 : Sl} {v3 : T} {v4 : Sl} {v5 : Sl} {v6 : T} {v7 : Sl} (h0 : IsR v0 (fun a => df A (R a))) (h1 : IsR v1 (fun a j => 0 + (∑ k, dh A (R a) 0 k * A.w1 0 j k) + ∑ k, dh A (R a) 1 k * A.w1 1 j k)) (h2 : IsR3 v2 (A.w2 2)) (h3 : IsR v3 (fun a => rl A (R a) 2)) (h4 : IsR3 v4 (A.w1 2)) (h5 : IsR3 v5 (A.w2 3)) (h6 : IsR v6 (fun a => rl A (R a) 3)) (h7 : IsR3 v7 (A.w1 3)) :
    IsR (k0_pay48 (F := Ideal) v0 v1 v2 v3 v4 v5 v6 v7) (fun a => du2 A (R a)) := by
  have e : (fun a => du2 A (R a)) = fun a j => 0 + (∑ k, dh A (R a) 0 k * A.w1 0 j k) + (∑ k, dh A (R a) 1 k * A.w1 1 j k) + (∑ k, dh A (R a) 2 k * A.w1 2 j k) + ∑ k, dh A (R a) 3 k * A.w1 3 j k := by
    funext a j; exact sum4 _
  rw [e]; unfold k0_pay48
  exact (h1.add ((pay46 A R h0 h2 h3).dotT (h4.slab _))).add ((pay47 A R h0 h5 h6).dotT (h7.slab _))

theorem pay49 {v0 : T} {v1 : Tb} {v2 : T} {v3 : Sl} {v4 : T} {v5 : Sl} {v6 : Sl} {v7 : T} {v8 : Sl} {v9 : Ro} (h0 : IsR v0 (fun a => nrm (x1 A (R a)))) (h1 : IsR v1 (fun a => df A (R a))) (h2 : IsR v2 (fun a j => 0 + (∑ k, dh A (R a) 0 k * A.w1 0 j k) + ∑ k, dh A (R a) 1 k * A.w1 1 j k)) (h3 : IsR3 v3 (A.w2 2)) (h4 : IsR v4 (fun a => rl A (R a) 2)) (h5 : IsR3 v5 (A.w1 2)) (h6 : IsR3 v6 (A.w2 3)) (h7 : IsR v7 (fun a => rl A (R a) 3)) (h8 : IsR3 v8 (A.w1 3)) (h9 : IsR v9 (fun _ => s)) :
    IsR (k0_pay49 (F := Ideal) v0 v1 v2 v3 v4 v5 v6 v7 v8 v9) (fun _ b => s b + ∑ a, term A (R a) 1 b) := by
  unfold k0_pay49
  exact h9.acc ((pay48 A R h1 h2 h3 h4 h5 h6 h7 h8).mul h0) (.inl rfl) rfl _

theorem pay50 {v0 : T} {v1 : Ro} (h0 : IsR v0 (fun a => du2 A (R a))) (h1 : IsR v1 (fun _ => s)) :
    IsR (k0_pay50 (F := Ideal) v0 v1) (fun _ b => s b + ∑ a, term A (R a) 2 b) := by
  unfold k0_pay50
  exact h1.acc h0 (.inl rfl) rfl _

theorem pay51 {v0 : C} {v1 : T} {v2 : T} {v3 : T} {v4 : Ro} (h0 : IsR v0 (fun a _ => rs (x1 A (R a)))) (h1 : IsR v1 (fun a => nrm (x1 A (R a)))) (h2 : IsR v2 (fun a => dz2 A (R a))) (h3 : IsR v3 (fun a => du2 A (R a))) (h4 : IsR v4 (fun _ => sc2 A)) :
    IsR (k0_pay51 (F := Ideal) v0 v1 v2 v3 v4) (fun a => dx1 A (R a)) := by
  unfold k0_pay51
  exact ((isR_const c_al).mul h2).add (h0.lnb h1 (h3.mul (((isR_const c_one).add h4).row _)) (.inl rfl) rfl _)

theorem pay52 {v0 : T} {v1 : C} {v2 : T} {v3 : T} {v4 : T} {v5 : Ro} {v6 : Ro} (h0 : IsR v0 (fun a => nrm (z1 A (R a)))) (h1 : IsR v1 (fun a _ => rs (x1 A (R a)))) (h2 : IsR v2 (fun a => nrm (x1 A (R a)))) (h3 : IsR v3 (fun a => dz2 A (R a))) (h4 : IsR v4 (fun a => du2 A (R a))) (h5 : IsR v5 (fun _ => sc2 A)) (h6 : IsR v6 (fun _ => s)) :
    IsR (k0_pay52 (F := Ideal) v0 v1 v2 v3 v4 v5 v6) (fun _ b => s b + ∑ a, term A (R a) 4 b) := by
  unfold k0_pay52
  exact h6.acc ((pay51 A R h1 h2 h3 h4 h5).mul h0) (.inl rfl) rfl _

theorem pay53 {v0 : T} {v1 : Ro} (h0 : IsR v0 (fun a => dx1 A (R a))) (h1 : IsR v1 (fun _ => s)) :
    IsR (k0_pay53 (F := Ideal) v0 v1) (fun _ b => s b + ∑ a, term A (R a) 5 b) := by
  unfold k0_pay53
  exact h1.acc h0 (.inl rfl) rfl _

theorem pay54 {v0 : C} {v1 : T} {v2 : T} {v3 : Ro} (h0 : IsR v0 (fun a _ => rs (z1 A (R a)))) (h1 : IsR v1 (fun a => nrm (z1 A (R a)))) (h2 : IsR v2 (fun a => dx1 A (R a))) (h3 : IsR v3 (fun _ => A.l1w)) :
    IsR (k0_pay54 (F := Ideal) v0 v1 v2 v3) (fun a => dz1 A (R a)) := by
  unfold k0_pay54
  exact h0.lnb h1 (h2.mul ((h3.cast_self _).row _)) (.inl rfl) rfl _

theorem pay55 {v0 : T} {v1 : C} {v2 : T} {v3 : T} {v4 : Ro} {v5 : Ro} (h0 : IsR v0 (fun a => mm A (R a))) (h1 : IsR v1 (fun a _ => rs (z1 A (R a)))) (h2 : IsR v2 (fun a => nrm (z1 A (R a)))) (h3 : IsR v3 (fun a => dx1 A (R a))) (h4 : IsR v4 (fun _ => A.l1w)) (h5 : IsR v5 (fun _ => s)) :
    IsR (k0_pay55 (F := Ideal) v0 v1 v2 v3 v4 v5) (fun _ b => s b + ∑ a, term A (R a) 0 b) := by
  unfold k0_pay55
  exact h5.acc ((pay54 A R h1 h2 h3 h4).mul h0) (.inl rfl) rfl _

theorem pay56 {v0 : C} {v1 : T} {v2 : T} {v3 : Ro} (h0 : IsR v0 (fun a _ => rs (z1 A (R a)))) (h1 : IsR v1 (fun a => nrm (z1 A (R a)))) (h2 : IsR v2 (fun a => dx1 A (R a))) (h3 : IsR v3 (fun _ => A.l1w)) :
    IsR (k0_pay56 (F := Ideal) v0 v1 v2 v3) (fun a => dxa A (R a)) := by
  unfold k0_pay56
  exact (isR_const c_al).mul (pay54 A R h0 h1 h2 h3)

theorem pay1 {v0 : T} {v1 : Ro} (h0 : IsR v0 (fun a => dz1 A (R a))) (h1 : IsR v1 (fun _ => g1 A)) :
    IsR (k0_pay1 (F := Ideal) v0 v1) (fun a => dm A (R a)) := by
  unfold k0_pay1
  exact ((h1.row _).mul h0).trunc _

theorem pay2 {v0 : T} {v1 : Ro} {v2 : FVec Ideal S1024x1024 FTy.bf16} (h0 : IsR v0 (fun a => dz1 A (R a))) (h1 : IsR v1 (fun _ => g1 A)) (h2 : IsR v2 (wom A)) :
    IsR (k0_pay2 (F := Ideal) v0 v1 v2) (fun a => dmx A (R a)) := by
  unfold k0_pay2
  exact (pay1 A R h0 h1).dotT (h2.cast_self _)

theorem pay3 : IsR (k0_pay3 (F := Ideal)) fun _ _ => 0 := by
  unfold k0_pay3
  exact isR_const c_zero

end Cert.Ker
-- ==== Proof.KerLd.lean ====
/- What the loads of a block read: the tiles and parameter rows that the windows hold, and what earlier stores of the
   same block left. -/
module

public import proofs.«01_k».proof.Proof.KerPay
public import Idealize.ShloMosaic.Lib.Pipeline.ValueKit.Tiles

@[expose] public section

set_option maxRecDepth 16384

noncomputable section

namespace Cert.Ker

open Cert.KernelIdeal Cert.KernelIdeal.Gen Cert.Coe Cert.Step Idealize.ShloMosaic Idealize.ShloMosaic.ValueIdx

/-- The eight input blocks of a point: the tiles of the tokens `R`, and the whole parameter arrays. -/
structure In (A : Args) (R : Fin 256 → Fin 8192) (x0 : Vec Ideal S256x1024 .f32) (x1 : Vec Ideal S256x1024 .bf16)
    (x2 : Vec Ideal S256x1024 .f32) (x3 : Vec Ideal S1x6144 .f32) (x4 : Vec Ideal S4x1024 .f32) (x5 : Vec Ideal S1024x1024 .bf16)
    (x6 x7 : Vec Ideal S4x1024x1024 .bf16) : Prop where
  h0 : IsR x0 fun a => A.x (R a)
  h1 : IsR x1 fun a => A.mx (R a)
  h2 : IsR x2 fun a => A.tg (R a)
  h3 : ∀ b : Fin 6144, x3 (ix2 (0 : Fin 1) b) = ((A.md b : ℝ) : EReal)
  h40 : ∀ b : Fin 1024, x4 (ix2 (0 : Fin 4) b) = ((A.l1w b : ℝ) : EReal)
  h41 : ∀ b : Fin 1024, x4 (ix2 (1 : Fin 4) b) = ((A.l1b b : ℝ) : EReal)
  h42 : ∀ b : Fin 1024, x4 (ix2 (2 : Fin 4) b) = ((A.l2w b : ℝ) : EReal)
  h43 : ∀ b : Fin 1024, x4 (ix2 (3 : Fin 4) b) = ((A.l2b b : ℝ) : EReal)
  h5 : IsR x5 (wom A)
  h6 : ∀ (c : Fin 4) (a b : Fin 1024), x6 (ix3 c a b) = ((A.w1 c a b : ℝ) : EReal)
  h7 : ∀ (c : Fin 4) (a b : Fin 1024), x7 (ix3 c a b) = ((A.w2 c a b : ℝ) : EReal)

section Leaves

variable {A : Args} {R : Fin 256 → Fin 8192} {x0 : Vec Ideal S256x1024 .f32} {x1 : Vec Ideal S256x1024 .bf16}
    {x2 : Vec Ideal S256x1024 .f32} {x3 : Vec Ideal S1x6144 .f32} {x4 : Vec Ideal S4x1024 .f32} {x5 : Vec Ideal S1024x1024 .bf16}
    {x6 x7 : Vec Ideal S4x1024x1024 .bf16} (H : In A R x0 x1 x2 x3 x4 x5 x6 x7)
include H

theorem In.l0 (inb) : IsR (View.ld x0 (Rect.unit ![0, 0] ![256, 1024] inb)) fun a => A.x (R a) := fun a b =>
  (View.ld_unit_apply_of x0 _ _ inb (ix2 a b) (ix2 a b) (fun d => match d with | ⟨0, _⟩ => (Nat.zero_add _).symm | ⟨1, _⟩ => (Nat.zero_add _).symm)).trans (H.h0 a b)

theorem In.l1 (inb) : IsR (View.ld x1 (Rect.unit ![0, 0] ![256, 1024] inb)) fun a => A.mx (R a) := fun a b =>
  (View.ld_unit_apply_of x1 _ _ inb (ix2 a b) (ix2 a b) (fun d => match d with | ⟨0, _⟩ => (Nat.zero_add _).symm | ⟨1, _⟩ => (Nat.zero_add _).symm)).trans (H.h1 a b)

theorem In.l2 (inb) : IsR (View.ld x2 (Rect.unit ![0, 0] ![256, 1024] inb)) fun a => A.tg (R a) := fun a b =>
  (View.ld_unit_apply_of x2 _ _ inb (ix2 a b) (ix2 a b) (fun d => match d with | ⟨0, _⟩ => (Nat.zero_add _).symm | ⟨1, _⟩ => (Nat.zero_add _).symm)).trans (H.h2 a b)

theorem In.l5 (inb) : IsR (View.ld x5 (Rect.unit ![0, 0] ![1024, 1024] inb)) (wom A) := fun a b =>
  (View.ld_unit_apply_of x5 _ _ inb (ix2 a b) (ix2 a b) (fun d => match d with | ⟨0, _⟩ => (Nat.zero_add _).symm | ⟨1, _⟩ => (Nat.zero_add _).symm)).trans (H.h5 a b)

theorem In.l_g1 (inb) : IsR (View.ld x3 (Rect.unit ![0, 2048] ![1, 1024] inb)) fun _ => g1 A := fun a b =>
  (View.ld_unit_apply_of x3 _ _ inb (ix2 a b) (ix2 (0 : Fin 1) (⟨2048 + b.val, by omega⟩ : Fin 6144))
    (fun d => match d with | ⟨0, _⟩ => (by show 0 = 0 + a.val; omega) | ⟨1, _⟩ => rfl)).trans (H.h3 _)

theorem In.l_sh2 (inb) : IsR (View.ld x3 (Rect.unit ![0, 3072] ![1, 1024] inb)) fun _ => sh2 A := fun a b =>
  (View.ld_unit_apply_of x3 _ _ inb (ix2 a b) (ix2 (0 : Fin 1) (⟨3072 + b.val, by omega⟩ : Fin 6144))
    (fun d => match d with | ⟨0, _⟩ => (by show 0 = 0 + a.val; omega) | ⟨1, _⟩ => rfl)).trans (H.h3 _)

theorem In.l_sc2 (inb) : IsR (View.ld x3 (Rect.unit ![0, 4096] ![1, 1024] inb)) fun _ => sc2 A := fun a b =>
  (View.ld_unit_apply_of x3 _ _ inb (ix2 a b) (ix2 (0 : Fin 1) (⟨4096 + b.val, by omega⟩ : Fin 6144))
    (fun d => match d with | ⟨0, _⟩ => (by show 0 = 0 + a.val; omega) | ⟨1, _⟩ => rfl)).trans (H.h3 _)

theorem In.l_g2 (inb) : IsR (View.ld x3 (Rect.unit ![0, 5120] ![1, 1024] inb)) fun _ => g2 A := fun a b =>
  (View.ld_unit_apply_of x3 _ _ inb (ix2 a b) (ix2 (0 : Fin 1) (⟨5120 + b.val, by omega⟩ : Fin 6144))
    (fun d => match d with | ⟨0, _⟩ => (by show 0 = 0 + a.val; omega) | ⟨1, _⟩ => rfl)).trans (H.h3 _)

theorem In.l_l1w (inb) : IsR (View.ld x4 (Rect.unit ![0, 0] ![1, 1024] inb)) fun _ => A.l1w := fun a b =>
  (View.ld_unit_apply_of x4 _ _ inb (ix2 a b) (ix2 (0 : Fin 4) b)
    (fun d => match d with | ⟨0, _⟩ => (by show 0 = 0 + a.val; omega) | ⟨1, _⟩ => (Nat.zero_add _).symm)).trans (H.h40 b)

theorem In.l_l1b (inb) : IsR (View.ld x4 (Rect.unit ![1, 0] ![1, 1024] inb)) fun _ => A.l1b := fun a b =>
  (View.ld_unit_apply_of x4 _ _ inb (ix2 a b) (ix2 (1 : Fin 4) b)
    (fun d => match d with | ⟨0, _⟩ => (by show 1 = 1 + a.val; omega) | ⟨1, _⟩ => (Nat.zero_add _).symm)).trans (H.h41 b)

theorem In.l_l2w (inb) : IsR (View.ld x4 (Rect.unit ![2, 0] ![1, 1024] inb)) fun _ => A.l2w := fun a b =>
  (View.ld_unit_apply_of x4 _ _ inb (ix2 a b) (ix2 (2 : Fin 4) b)
    (fun d => match d with | ⟨0, _⟩ => (by show 2 = 2 + a.val; omega) | ⟨1, _⟩ => (Nat.zero_add _).symm)).trans (H.h42 b)

theorem In.l_l2b (inb) : IsR (View.ld x4 (Rect.unit ![3, 0] ![1, 1024] inb)) fun _ => A.l2b := fun a b =>
  (View.ld_unit_apply_of x4 _ _ inb (ix2 a b) (ix2 (3 : Fin 4) b)
    (fun d => match d with | ⟨0, _⟩ => (by show 3 = 3 + a.val; omega) | ⟨1, _⟩ => (Nat.zero_add _).symm)).trans (H.h43 b)

theorem In.l_w10 (inb) : IsR3 (View.ld x6 (Rect.unit ![0, 0, 0] ![1, 1024, 1024] inb)) (A.w1 0) := fun a b =>
  (View.ld_unit_apply_of x6 _ _ inb (ix3 (0 : Fin 1) a b) (ix3 (0 : Fin 4) a b)
    (fun d => match d with | ⟨0, _⟩ => rfl | ⟨1, _⟩ => (Nat.zero_add _).symm | ⟨2, _⟩ => (Nat.zero_add _).symm)).trans (H.h6 0 a b)

theorem In.l_w11 (inb) : IsR3 (View.ld x6 (Rect.unit ![1, 0, 0] ![1, 1024, 1024] inb)) (A.w1 1) := fun a b =>
  (View.ld_unit_apply_of x6 _ _ inb (ix3 (0 : Fin 1) a b) (ix3 (1 : Fin 4) a b)
    (fun d => match d with | ⟨0, _⟩ => rfl | ⟨1, _⟩ => (Nat.zero_add _).symm | ⟨2, _⟩ => (Nat.zero_add _).symm)).trans (H.h6 1 a b)

theorem In.l_w12 (inb) : IsR3 (View.ld x6 (Rect.unit ![2, 0, 0] ![1, 1024, 1024] inb)) (A.w1 2) := fun a b =>
  (View.ld_unit_apply_of x6 _ _ inb (ix3 (0 : Fin 1) a b) (ix3 (2 : Fin 4) a b)
    (fun d => match d with | ⟨0, _⟩ => rfl | ⟨1, _⟩ => (Nat.zero_add _).symm | ⟨2, _⟩ => (Nat.zero_add _).symm)).trans (H.h6 2 a b)

theorem In.l_w13 (inb) : IsR3 (View.ld x6 (Rect.unit ![3, 0, 0] ![1, 1024, 1024] inb)) (A.w1 3) := fun a b =>
  (View.ld_unit_apply_of x6 _ _ inb (ix3 (0 : Fin 1) a b) (ix3 (3 : Fin 4) a b)
    (fun d => match d with | ⟨0, _⟩ => rfl | ⟨1, _⟩ => (Nat.zero_add _).symm | ⟨2, _⟩ => (Nat.zero_add _).symm)).trans (H.h6 3 a b)

theorem In.l_w20 (inb) : IsR3 (View.ld x7 (Rect.unit ![0, 0, 0] ![1, 1024, 1024] inb)) (A.w2 0) := fun a b =>
  (View.ld_unit_apply_of x7 _ _ inb (ix3 (0 : Fin 1) a b) (ix3 (0 : Fin 4) a b)
    (fun d => match d with | ⟨0, _⟩ => rfl | ⟨1, _⟩ => (Nat.zero_add _).symm | ⟨2, _⟩ => (Nat.zero_add _).symm)).trans (H.h7 0 a b)

theorem In.l_w21 (inb) : IsR3 (View.ld x7 (Rect.unit ![1, 0, 0] ![1, 1024, 1024] inb)) (A.w2 1) := fun a b =>
  (View.ld_unit_apply_of x7 _ _ inb (ix3 (0 : Fin 1) a b) (ix3 (1 : Fin 4) a b)
    (fun d => match d with | ⟨0, _⟩ => rfl | ⟨1, _⟩ => (Nat.zero_add _).symm | ⟨2, _⟩ => (Nat.zero_add _).symm)).trans (H.h7 1 a b)

theorem In.l_w22 (inb) : IsR3 (View.ld x7 (Rect.unit ![2, 0, 0] ![1, 1024, 1024] inb)) (A.w2 2) := fun a b =>
  (View.ld_unit_apply_of x7 _ _ inb (ix3 (0 : Fin 1) a b) (ix3 (2 : Fin 4) a b)
    (fun d => match d with | ⟨0, _⟩ => rfl | ⟨1, _⟩ => (Nat.zero_add _).symm | ⟨2, _⟩ => (Nat.zero_add _).symm)).trans (H.h7 2 a b)

theorem In.l_w23 (inb) : IsR3 (View.ld x7 (Rect.unit ![3, 0, 0] ![1, 1024, 1024] inb)) (A.w2 3) := fun a b =>
  (View.ld_unit_apply_of x7 _ _ inb (ix3 (0 : Fin 1) a b) (ix3 (3 : Fin 4) a b)
    (fun d => match d with | ⟨0, _⟩ => rfl | ⟨1, _⟩ => (Nat.zero_add _).symm | ⟨2, _⟩ => (Nat.zero_add _).symm)).trans (H.h7 3 a b)

end Leaves

/-! ## What earlier stores left -/

section Stores

variable {Val : EltTy → Type} [∀ e, Nonempty (Val e)] {e : EltTy} {N M n m : Nat}

/-- After the stores `L`, last first, the `n × m` block at row `p` and column `q` holds `g`. -/
def At (L : List (View.Piece Val (⟨2, ![N, M]⟩ : Shape) e)) (p q : Nat) (g : Fin n → Fin m → Val e) : Prop :=
  ∀ (i : (⟨2, ![N, M]⟩ : Shape).Idx) (a : Fin n) (b : Fin m), (i 0).val = p + a.val → (i 1).val = q + b.val → View.canon L i = g a b

variable {L : List (View.Piece Val (⟨2, ![N, M]⟩ : Shape) e)} {p q : Nat} {g : Fin n → Fin m → Val e}

/-- The last store filled the block. -/
theorem At.hit {inb} {w : (Rect.unit (s := (⟨2, ![N, M]⟩ : Shape)) ![p, q] ![n, m] inb).shape.Idx → Val e}
    (h : ∀ (a : Fin n) (b : Fin m), w (ix2 a b) = g a b) :
    At (⟨Rect.unit (s := (⟨2, ![N, M]⟩ : Shape)) ![p, q] ![n, m] inb, w⟩ :: L) p q g := fun i a b h0 h1 => by
  have e : i = (Rect.unit (s := (⟨2, ![N, M]⟩ : Shape)) ![p, q] ![n, m] inb).emb (ix2 a b) := by
    funext d; apply Fin.ext
    match d with
    | ⟨0, _⟩ => exact h0.trans (by show p + a.val = p + 1 * a.val; omega)
    | ⟨1, _⟩ => exact h1.trans (by show q + b.val = q + 1 * b.val; omega)
  rw [e, View.canon_cons_emb]; exact h a b

/-- The last store filled another block. -/
theorem At.miss {p' q' n' m' : Nat} {inb} {w : (Rect.unit (s := (⟨2, ![N, M]⟩ : Shape)) ![p', q'] ![n', m'] inb).shape.Idx → Val e}
    (h : At L p q g) (hd : p + n ≤ p' ∨ p' + n' ≤ p ∨ q + m ≤ q' ∨ q' + m' ≤ q) :
    At (⟨Rect.unit (s := (⟨2, ![N, M]⟩ : Shape)) ![p', q'] ![n', m'] inb, w⟩ :: L) p q g := fun i a b h0 h1 => by
  rw [View.canon_cons_of_not_mem]
  · exact h i a b h0 h1
  · intro hm
    have hm := (Rect.mem_set_unit (inb := inb)).mp hm
    have a0 : p' ≤ (i 0).val ∧ (i 0).val < p' + n' := hm 0
    have a1 : q' ≤ (i 1).val ∧ (i 1).val < q' + m' := hm 1
    have := a.isLt; have := b.isLt; omega

/-- The last store filled the whole array with one value. -/
theorem At.all {inb} {w : (Rect.unit (s := (⟨2, ![N, M]⟩ : Shape)) ![0, 0] ![N, M] inb).shape.Idx → Val e} {z : Val e}
    (h : ∀ (a : Fin N) (b : Fin M), w (ix2 a b) = z) :
    At (⟨Rect.unit (s := (⟨2, ![N, M]⟩ : Shape)) ![0, 0] ![N, M] inb, w⟩ :: L) p q (fun (_ : Fin n) (_ : Fin m) => z) := fun i a b h0 h1 =>
  At.hit (p := 0) (q := 0) (inb := inb) (L := L) (g := fun _ _ => z) h i (i 0) (i 1) (Nat.zero_add _).symm (Nat.zero_add _).symm

/-- A load of the block. -/
theorem At.load {sig : RefSig} {κ : Kind} {sp : Space} {v : View sig κ sp (⟨2, ![N, M]⟩ : Shape) e} {inb} (h : At L p q g)
    (a : Fin n) (b : Fin m) :
    v.readCov L (Rect.unit (s := (⟨2, ![N, M]⟩ : Shape)) ![p, q] ![n, m] inb).toLoadRect (ix2 a b) = g a b := by
  rw [View.readCov_eq_canon']
  exact h _ a b (by show p + 1 * a.val = _; omega) (by show q + 1 * b.val = _; omega)

end Stores

section RealF

variable {N M n m : Nat} {L : List (View.Piece (Elt Ideal) (⟨2, ![N, M]⟩ : Shape) .f32)} {p q : Nat} {f : Fin n → Fin m → ℝ}

/-- `At` for real values, `f32` arrays. -/
def AtF (L : List (View.Piece (Elt Ideal) (⟨2, ![N, M]⟩ : Shape) .f32)) (p q : Nat) (f : Fin n → Fin m → ℝ) : Prop :=
  At L p q fun a b => ((f a b : ℝ) : EReal)

theorem AtF.hit {inb} {w : (Rect.unit (s := (⟨2, ![N, M]⟩ : Shape)) ![p, q] ![n, m] inb).shape.Idx → Elt Ideal .f32}
    (h : IsR w f) : AtF (⟨Rect.unit (s := (⟨2, ![N, M]⟩ : Shape)) ![p, q] ![n, m] inb, w⟩ :: L) p q f := At.hit h

theorem AtF.miss {p' q' n' m' : Nat} {inb} {w : (Rect.unit (s := (⟨2, ![N, M]⟩ : Shape)) ![p', q'] ![n', m'] inb).shape.Idx → Elt Ideal .f32}
    (hd : p + n ≤ p' ∨ p' + n' ≤ p ∨ q + m ≤ q' ∨ q' + m' ≤ q) (h : AtF L p q f) :
    AtF (⟨Rect.unit (s := (⟨2, ![N, M]⟩ : Shape)) ![p', q'] ![n', m'] inb, w⟩ :: L) p q f := At.miss h hd

theorem AtF.load {sig : RefSig} {κ : Kind} {sp : Space} {v : View sig κ sp (⟨2, ![N, M]⟩ : Shape) .f32} {inb} (h : AtF L p q f) :
    IsR (v.readCov L (Rect.unit (s := (⟨2, ![N, M]⟩ : Shape)) ![p, q] ![n, m] inb).toLoadRect) f := fun a b => At.load h a b

theorem AtF.whole {f : Fin N → Fin M → ℝ} (h : AtF L 0 0 f) : IsR (View.canon L) f := fun a b =>
  h (ix2 a b) a b (Nat.zero_add _).symm (Nat.zero_add _).symm

theorem AtF.const {inb} {w : (Rect.unit (s := (⟨2, ![N, M]⟩ : Shape)) ![0, 0] ![N, M] inb).shape.Idx → Elt Ideal .f32} {z : ℝ}
    (h : IsR w fun _ _ => z) : AtF (⟨Rect.unit (s := (⟨2, ![N, M]⟩ : Shape)) ![0, 0] ![N, M] inb, w⟩ :: L) p q (fun (_ : Fin n) (_ : Fin m) => z) :=
  At.all h

end RealF

section RealB

variable {N M n m : Nat} {L : List (View.Piece (Elt Ideal) (⟨2, ![N, M]⟩ : Shape) .bf16)} {p q : Nat} {f : Fin n → Fin m → ℝ}

/-- `At` for real values, `bf16` arrays. -/
def AtB (L : List (View.Piece (Elt Ideal) (⟨2, ![N, M]⟩ : Shape) .bf16)) (p q : Nat) (f : Fin n → Fin m → ℝ) : Prop :=
  At L p q fun a b => ((f a b : ℝ) : EReal)

theorem AtB.hit {inb} {w : (Rect.unit (s := (⟨2, ![N, M]⟩ : Shape)) ![p, q] ![n, m] inb).shape.Idx → Elt Ideal .bf16}
    (h : IsR w f) : AtB (⟨Rect.unit (s := (⟨2, ![N, M]⟩ : Shape)) ![p, q] ![n, m] inb, w⟩ :: L) p q f := At.hit h

theorem AtB.miss {p' q' n' m' : Nat} {inb} {w : (Rect.unit (s := (⟨2, ![N, M]⟩ : Shape)) ![p', q'] ![n', m'] inb).shape.Idx → Elt Ideal .bf16}
    (hd : p + n ≤ p' ∨ p' + n' ≤ p ∨ q + m ≤ q' ∨ q' + m' ≤ q) (h : AtB L p q f) :
    AtB (⟨Rect.unit (s := (⟨2, ![N, M]⟩ : Shape)) ![p', q'] ![n', m'] inb, w⟩ :: L) p q f := At.miss h hd

theorem AtB.load {sig : RefSig} {κ : Kind} {sp : Space} {v : View sig κ sp (⟨2, ![N, M]⟩ : Shape) .bf16} {inb} (h : AtB L p q f) :
    IsR (v.readCov L (Rect.unit (s := (⟨2, ![N, M]⟩ : Shape)) ![p, q] ![n, m] inb).toLoadRect) f := fun a b => At.load h a b

theorem AtB.whole {f : Fin N → Fin M → ℝ} (h : AtB L 0 0 f) : IsR (View.canon L) f := fun a b =>
  h (ix2 a b) a b (Nat.zero_add _).symm (Nat.zero_add _).symm

theorem AtB.const {inb} {w : (Rect.unit (s := (⟨2, ![N, M]⟩ : Shape)) ![0, 0] ![N, M] inb).shape.Idx → Elt Ideal .bf16} {z : ℝ}
    (h : IsR w fun _ _ => z) : AtB (⟨Rect.unit (s := (⟨2, ![N, M]⟩ : Shape)) ![0, 0] ![N, M] inb, w⟩ :: L) p q (fun (_ : Fin n) (_ : Fin m) => z) :=
  At.all h

end RealB

section Blocks

/-- Four blocks of 1024 columns, side by side. -/
theorem AtB.four {L : List (View.Piece (Elt Ideal) S256x4096 .bf16)} {f : Fin 4 → Fin 256 → Fin 1024 → ℝ}
    (h0 : AtB L 0 0 (f 0)) (h1 : AtB L 0 1024 (f 1)) (h2 : AtB L 0 2048 (f 2)) (h3 : AtB L 0 3072 (f 3)) :
    IsR (n := 256) (m := 4096) (View.canon L) fun a b => f ⟨b.val / 1024, by omega⟩ a ⟨b.val % 1024, by omega⟩ := fun a b => by
  have hb := b.isLt
  obtain ⟨c, hc⟩ : ∃ c : Fin 4, c = ⟨b.val / 1024, by omega⟩ := ⟨_, rfl⟩
  have hv : b.val / 1024 = c.val := (congrArg Fin.val hc).symm
  show View.canon L (ix2 a b) = ((f ⟨b.val / 1024, _⟩ a ⟨b.val % 1024, _⟩ : ℝ) : EReal)
  rw [← hc]
  match c, hv with
  | 0, hv => exact h0 (ix2 a b) a ⟨b.val % 1024, by omega⟩ (Nat.zero_add _).symm (by show b.val = 0 + b.val % 1024; have : b.val / 1024 = 0 := hv; omega)
  | 1, hv => exact h1 (ix2 a b) a ⟨b.val % 1024, by omega⟩ (Nat.zero_add _).symm (by show b.val = 1024 + b.val % 1024; have : b.val / 1024 = 1 := hv; omega)
  | 2, hv => exact h2 (ix2 a b) a ⟨b.val % 1024, by omega⟩ (Nat.zero_add _).symm (by show b.val = 2048 + b.val % 1024; have : b.val / 1024 = 2 := hv; omega)
  | 3, hv => exact h3 (ix2 a b) a ⟨b.val % 1024, by omega⟩ (Nat.zero_add _).symm (by show b.val = 3072 + b.val % 1024; have : b.val / 1024 = 3 := hv; omega)

/-- The sixteen rows of sums. -/
theorem AtF.rows {L : List (View.Piece (Elt Ideal) S16x1024 .f32)} {A : Args} {R : Fin 256 → Fin 8192} {s : Fin 16 → Fin 1024 → ℝ}
    (h0 : AtF L 0 0 fun (_ : Fin 1) (b : Fin 1024) => s 0 b + ∑ a, term A (R a) 0 b)
    (h1 : AtF L 1 0 fun (_ : Fin 1) (b : Fin 1024) => s 1 b + ∑ a, term A (R a) 1 b)
    (h2 : AtF L 2 0 fun (_ : Fin 1) (b : Fin 1024) => s 2 b + ∑ a, term A (R a) 2 b)
    (h3 : AtF L 3 0 fun (_ : Fin 1) (b : Fin 1024) => s 3 b + ∑ a, term A (R a) 3 b)
    (h4 : AtF L 4 0 fun (_ : Fin 1) (b : Fin 1024) => s 4 b + ∑ a, term A (R a) 4 b)
    (h5 : AtF L 5 0 fun (_ : Fin 1) (b : Fin 1024) => s 5 b + ∑ a, term A (R a) 5 b)
    (h6 : AtF L 6 0 fun (_ : Fin 1) (b : Fin 1024) => s 6 b + ∑ a, term A (R a) 6 b)
    (h7 : AtF L 7 0 fun (_ : Fin 1) (b : Fin 1024) => s 7 b + ∑ a, term A (R a) 7 b)
    (h8 : AtF L 8 0 fun (_ : Fin 1) (b : Fin 1024) => s 8 b + ∑ a, term A (R a) 8 b)
    (h9 : AtF L 9 0 fun (_ : Fin 1) (b : Fin 1024) => s 9 b)
    (h10 : AtF L 10 0 fun (_ : Fin 1) (b : Fin 1024) => s 10 b)
    (h11 : AtF L 11 0 fun (_ : Fin 1) (b : Fin 1024) => s 11 b)
    (h12 : AtF L 12 0 fun (_ : Fin 1) (b : Fin 1024) => s 12 b)
    (h13 : AtF L 13 0 fun (_ : Fin 1) (b : Fin 1024) => s 13 b)
    (h14 : AtF L 14 0 fun (_ : Fin 1) (b : Fin 1024) => s 14 b)
    (h15 : AtF L 15 0 fun (_ : Fin 1) (b : Fin 1024) => s 15 b) :
    IsR (n := 16) (m := 1024) (View.canon L) fun p b => s p b + ∑ a, term A (R a) p b := fun p b => by
  match p with
  | ⟨0, _⟩ => exact h0 (ix2 (0 : Fin 16) b) 0 b rfl (Nat.zero_add _).symm
  | ⟨1, _⟩ => exact h1 (ix2 (1 : Fin 16) b) 0 b rfl (Nat.zero_add _).symm
  | ⟨2, _⟩ => exact h2 (ix2 (2 : Fin 16) b) 0 b rfl (Nat.zero_add _).symm
  | ⟨3, _⟩ => exact h3 (ix2 (3 : Fin 16) b) 0 b rfl (Nat.zero_add _).symm
  | ⟨4, _⟩ => exact h4 (ix2 (4 : Fin 16) b) 0 b rfl (Nat.zero_add _).symm
  | ⟨5, _⟩ => exact h5 (ix2 (5 : Fin 16) b) 0 b rfl (Nat.zero_add _).symm
  | ⟨6, _⟩ => exact h6 (ix2 (6 : Fin 16) b) 0 b rfl (Nat.zero_add _).symm
  | ⟨7, _⟩ => exact h7 (ix2 (7 : Fin 16) b) 0 b rfl (Nat.zero_add _).symm
  | ⟨8, _⟩ => exact h8 (ix2 (8 : Fin 16) b) 0 b rfl (Nat.zero_add _).symm
  | ⟨9, _⟩ => exact (h9 (ix2 (9 : Fin 16) b) 0 b rfl (Nat.zero_add _).symm).trans (congrArg (fun x : ℝ => (x : EReal)) (by simp [term]))
  | ⟨10, _⟩ => exact (h10 (ix2 (10 : Fin 16) b) 0 b rfl (Nat.zero_add _).symm).trans (congrArg (fun x : ℝ => (x : EReal)) (by simp [term]))
  | ⟨11, _⟩ => exact (h11 (ix2 (11 : Fin 16) b) 0 b rfl (Nat.zero_add _).symm).trans (congrArg (fun x : ℝ => (x : EReal)) (by simp [term]))
  | ⟨12, _⟩ => exact (h12 (ix2 (12 : Fin 16) b) 0 b rfl (Nat.zero_add _).symm).trans (congrArg (fun x : ℝ => (x : EReal)) (by simp [term]))
  | ⟨13, _⟩ => exact (h13 (ix2 (13 : Fin 16) b) 0 b rfl (Nat.zero_add _).symm).trans (congrArg (fun x : ℝ => (x : EReal)) (by simp [term]))
  | ⟨14, _⟩ => exact (h14 (ix2 (14 : Fin 16) b) 0 b rfl (Nat.zero_add _).symm).trans (congrArg (fun x : ℝ => (x : EReal)) (by simp [term]))
  | ⟨15, _⟩ => exact (h15 (ix2 (15 : Fin 16) b) 0 b rfl (Nat.zero_add _).symm).trans (congrArg (fun x : ℝ => (x : EReal)) (by simp [term]))
  | ⟨n + 16, hn⟩ => exact absurd hn (by omega)

/-! Rows of sums that go on from what the array held. -/

variable {sig : RefSig} {κ : Kind} {sp : Space} {v : View sig κ sp S16x1024 .f32} {f : v.ty.Contents (Elt Ideal)}
  {L : List (View.Piece (Elt Ideal) S16x1024 .f32)} {p : Nat} {g : Fin 1 → Fin 1024 → ℝ}

/-- After the stores `L` into an array that held `f`, row `p` holds `g`. -/
def AtW (v : View sig κ sp S16x1024 .f32) (f : v.ty.Contents (Elt Ideal)) (L : List (View.Piece (Elt Ideal) S16x1024 .f32)) (p : Nat)
    (g : Fin 1 → Fin 1024 → ℝ) : Prop :=
  ∀ (i : S16x1024.Idx) (b : Fin 1024), (i 0).val = p → (i 1).val = b.val →
    v.read (Elt Ideal) (v.writes (Elt Ideal) f L) i = ((g 0 b : ℝ) : EReal)

theorem AtW.hit {inb} {w : (Rect.unit (s := S16x1024) ![p, 0] ![1, 1024] inb).shape.Idx → Elt Ideal .f32} (h : IsR w g) :
    AtW v f (⟨Rect.unit (s := S16x1024) ![p, 0] ![1, 1024] inb, w⟩ :: L) p g := fun i b h0 h1 => by
  have e : i = (Rect.unit (s := S16x1024) ![p, 0] ![1, 1024] inb).emb (ix2 (0 : Fin 1) b) := by
    funext d; apply Fin.ext
    match d with
    | ⟨0, _⟩ => exact h0.trans (by show p = p + 1 * 0; omega)
    | ⟨1, _⟩ => exact h1.trans (by show b.val = 0 + 1 * b.val; omega)
  rw [e, View.read_writes_cons_emb]; exact h 0 b

theorem AtW.miss {p' : Nat} {inb} {w : (Rect.unit (s := S16x1024) ![p', 0] ![1, 1024] inb).shape.Idx → Elt Ideal .f32}
    (hd : p ≠ p') (h : AtW v f L p g) : AtW v f (⟨Rect.unit (s := S16x1024) ![p', 0] ![1, 1024] inb, w⟩ :: L) p g := fun i b h0 h1 => by
  have hn : i ∉ (Rect.unit (s := S16x1024) ![p', 0] ![1, 1024] inb).set := fun hm => by
    have a0 : p' ≤ (i 0).val ∧ (i 0).val < p' + 1 := (Rect.mem_set_unit (inb := inb)).mp hm 0
    omega
  rw [View.writes_cons, View.read_slice_write_of_not_mem _ _ _ _ (by rwa [Rect.map_emb_univ])]
  exact h i b h0 h1

theorem AtW.nil {x : Vec Ideal S16x1024 .f32} {s : Fin 16 → Fin 1024 → ℝ} (hf : v.read (Elt Ideal) f = x) (hx : IsR x s) (p : Fin 16) :
    AtW v f [] p.val fun _ => s p := fun i b h0 h1 => by
  have e : i = ix2 p b := by
    funext d; apply Fin.ext
    match d with
    | ⟨0, _⟩ => exact h0
    | ⟨1, _⟩ => exact h1
  show v.read (Elt Ideal) f i = _
  rw [hf, e]; exact hx p b

theorem AtW.load {inb} (h : AtW v f L p g) :
    IsR (View.ld (v.read (Elt Ideal) (v.writes (Elt Ideal) f L)) (Rect.unit (s := S16x1024) ![p, 0] ![1, 1024] inb)) g := fun a b => by
  have e : a = 0 := Subsingleton.elim _ _
  subst e
  exact h _ b (by show p + 1 * 0 = p; omega) (by show 0 + 1 * b.val = b.val; omega)

theorem ldRow {x : Vec Ideal S16x1024 .f32} {s : Fin 16 → Fin 1024 → ℝ} (hx : IsR x s) (p : Fin 16) (inb) :
    IsR (View.ld x (Rect.unit (s := S16x1024) ![p.val, 0] ![1, 1024] inb)) fun _ => s p := fun a b =>
  (View.ld_unit_apply_of x _ _ inb (ix2 a b) (ix2 p b)
    (fun d => match d with | ⟨0, _⟩ => (by show p.val = p.val + a.val; omega) | ⟨1, _⟩ => (Nat.zero_add _).symm)).trans (hx p b)

theorem AtW.rows {A : Args} {R : Fin 256 → Fin 8192} {s : Fin 16 → Fin 1024 → ℝ}
    (h0 : AtW v f L 0 fun (_ : Fin 1) (b : Fin 1024) => s 0 b + ∑ a, term A (R a) 0 b)
    (h1 : AtW v f L 1 fun (_ : Fin 1) (b : Fin 1024) => s 1 b + ∑ a, term A (R a) 1 b)
    (h2 : AtW v f L 2 fun (_ : Fin 1) (b : Fin 1024) => s 2 b + ∑ a, term A (R a) 2 b)
    (h3 : AtW v f L 3 fun (_ : Fin 1) (b : Fin 1024) => s 3 b + ∑ a, term A (R a) 3 b)
    (h4 : AtW v f L 4 fun (_ : Fin 1) (b : Fin 1024) => s 4 b + ∑ a, term A (R a) 4 b)
    (h5 : AtW v f L 5 fun (_ : Fin 1) (b : Fin 1024) => s 5 b + ∑ a, term A (R a) 5 b)
    (h6 : AtW v f L 6 fun (_ : Fin 1) (b : Fin 1024) => s 6 b + ∑ a, term A (R a) 6 b)
    (h7 : AtW v f L 7 fun (_ : Fin 1) (b : Fin 1024) => s 7 b + ∑ a, term A (R a) 7 b)
    (h8 : AtW v f L 8 fun (_ : Fin 1) (b : Fin 1024) => s 8 b + ∑ a, term A (R a) 8 b)
    (h9 : AtW v f L 9 fun (_ : Fin 1) (b : Fin 1024) => s 9 b)
    (h10 : AtW v f L 10 fun (_ : Fin 1) (b : Fin 1024) => s 10 b)
    (h11 : AtW v f L 11 fun (_ : Fin 1) (b : Fin 1024) => s 11 b)
    (h12 : AtW v f L 12 fun (_ : Fin 1) (b : Fin 1024) => s 12 b)
    (h13 : AtW v f L 13 fun (_ : Fin 1) (b : Fin 1024) => s 13 b)
    (h14 : AtW v f L 14 fun (_ : Fin 1) (b : Fin 1024) => s 14 b)
    (h15 : AtW v f L 15 fun (_ : Fin 1) (b : Fin 1024) => s 15 b) :
    IsR (n := 16) (m := 1024) (v.read (Elt Ideal) (v.writes (Elt Ideal) f L)) fun p b => s p b + ∑ a, term A (R a) p b := fun p b => by
  match p with
  | ⟨0, _⟩ => exact h0 (ix2 (0 : Fin 16) b) b rfl rfl
  | ⟨1, _⟩ => exact h1 (ix2 (1 : Fin 16) b) b rfl rfl
  | ⟨2, _⟩ => exact h2 (ix2 (2 : Fin 16) b) b rfl rfl
  | ⟨3, _⟩ => exact h3 (ix2 (3 : Fin 16) b) b rfl rfl
  | ⟨4, _⟩ => exact h4 (ix2 (4 : Fin 16) b) b rfl rfl
  | ⟨5, _⟩ => exact h5 (ix2 (5 : Fin 16) b) b rfl rfl
  | ⟨6, _⟩ => exact h6 (ix2 (6 : Fin 16) b) b rfl rfl
  | ⟨7, _⟩ => exact h7 (ix2 (7 : Fin 16) b) b rfl rfl
  | ⟨8, _⟩ => exact h8 (ix2 (8 : Fin 16) b) b rfl rfl
  | ⟨9, _⟩ => exact (h9 (ix2 (9 : Fin 16) b) b rfl rfl).trans (congrArg (fun x : ℝ => (x : EReal)) (by simp [term]))
  | ⟨10, _⟩ => exact (h10 (ix2 (10 : Fin 16) b) b rfl rfl).trans (congrArg (fun x : ℝ => (x : EReal)) (by simp [term]))
  | ⟨11, _⟩ => exact (h11 (ix2 (11 : Fin 16) b) b rfl rfl).trans (congrArg (fun x : ℝ => (x : EReal)) (by simp [term]))
  | ⟨12, _⟩ => exact (h12 (ix2 (12 : Fin 16) b) b rfl rfl).trans (congrArg (fun x : ℝ => (x : EReal)) (by simp [term]))
  | ⟨13, _⟩ => exact (h13 (ix2 (13 : Fin 16) b) b rfl rfl).trans (congrArg (fun x : ℝ => (x : EReal)) (by simp [term]))
  | ⟨14, _⟩ => exact (h14 (ix2 (14 : Fin 16) b) b rfl rfl).trans (congrArg (fun x : ℝ => (x : EReal)) (by simp [term]))
  | ⟨15, _⟩ => exact (h15 (ix2 (15 : Fin 16) b) b rfl rfl).trans (congrArg (fun x : ℝ => (x : EReal)) (by simp [term]))
  | ⟨n + 16, hn⟩ => exact absurd hn (by omega)

end Blocks

end Cert.Ker
-- ==== Proof.KerIn.lean ====
/- What the windows of the grid hold: the host arrays before the grid, and each point's tiles of them. -/
module

public import proofs.«01_k».proof.Proof.Gen.KernelIdeal.Value
public import proofs.«01_k».proof.Proof.KerLd
public import proofs.«01_k».proof.Proof.ArgArrays

@[expose] public section

set_option maxRecDepth 16384

noncomputable section

namespace Cert.Ker

open Cert.KernelIdeal Cert.KernelIdeal.Gen Cert.Coe Cert.Step Idealize.ShloMosaic Idealize.ShloMosaic.TcCoe Idealize.ShloMosaic.Tactic Idealize.SL.Sem
open Idealize.ShloMosaic.ValueIdx

/-- Row `a` of tile `n`. -/
def rowOf (n : ℕ) (a : Fin 256) : Fin 8192 := ⟨(256 * n + a.val) % 8192, Nat.mod_lt _ (by decide)⟩

theorem rowOf_val {n : ℕ} (hn : n < 32) (a : Fin 256) : (rowOf n a).val = 256 * n + a.val :=
  Nat.mod_eq_of_lt (by omega)

theorem pt_lt (t : Fin cfg0.N) : t.val < 32 := t.isLt

variable (m : (ℓ : Loc nD τ sig) → Buf (Elt Ideal) ℓ) (c : Dev nD) (A : Args)

/-- The argument arrays in the memory are the real numbers of `A`. -/
structure Holds : Prop where
  g0 : m ((c : Thread nD τ).loc main_arg0) = a0 A
  g1 : m ((c : Thread nD τ).loc main_arg1) = a1 A
  g2 : m ((c : Thread nD τ).loc main_arg2) = a2 A
  g3 : m ((c : Thread nD τ).loc main_arg3) = a3 A
  g4 : m ((c : Thread nD τ).loc main_arg4) = a4 A
  g5 : m ((c : Thread nD τ).loc main_arg5) = a5 A
  g6 : m ((c : Thread nD τ).loc main_arg6) = a6 A
  g7 : m ((c : Thread nD τ).loc main_arg7) = a7 A
  g8 : m ((c : Thread nD τ).loc main_arg8) = a8 A
  g9 : m ((c : Thread nD τ).loc main_arg9) = a9 A
  g10 : m ((c : Thread nD τ).loc main_arg10) = a10 A

variable {m c A}

theorem V_v0 (G : Holds m c A) (r : Fin 8192) (b : Fin 1024) : V m c main_v0 (ix2 r b) = ((A.x r b : ℝ) : EReal) := by
  have e : V m c main_v0 = shapeCast S8192x1024 (m ((c : Thread nD τ).loc main_arg0)) shapeCasts_S1x8192x1024_S8192x1024 := by
    show StableHlo.after hostOps0 (fun b => m (c, b)) (Proc.devRef .tc main_v0) = _
    after_results
    rfl
  rw [e, G.g0]
  refine (shapeCast_apply _ _ _ (ix3 (0 : Fin 1) r b) ?_).trans rfl
  rw [Shape.rowMajor_val_three, Shape.rowMajor_val_two]
  show (0 * 8192 + r.val) * 1024 + b.val = r.val * 1024 + b.val
  omega

theorem V_v1 (G : Holds m c A) (r : Fin 8192) (b : Fin 1024) : V m c main_v1 (ix2 r b) = ((A.tg r b : ℝ) : EReal) := by
  have e : V m c main_v1 = shapeCast S8192x1024 (m ((c : Thread nD τ).loc main_arg2)) shapeCasts_S1x8192x1024_S8192x1024 := by
    show StableHlo.after hostOps0 (fun b => m (c, b)) (Proc.devRef .tc main_v1) = _
    after_results
    rfl
  rw [e, G.g2]
  refine (shapeCast_apply _ _ _ (ix3 (0 : Fin 1) r b) ?_).trans rfl
  rw [Shape.rowMajor_val_three, Shape.rowMajor_val_two]
  show (0 * 8192 + r.val) * 1024 + b.val = r.val * 1024 + b.val
  omega

theorem V_v2 (G : Holds m c A) (k b : Fin 1024) : V m c main_v2 (ix2 k b) = ((wom A k b : ℝ) : EReal) := by
  have e : V m c main_v2 = shapeCast S1024x1024 (m ((c : Thread nD τ).loc main_arg8)) shapeCasts_S4x256x1024_S1024x1024 := by
    show StableHlo.after hostOps0 (fun b => m (c, b)) (Proc.devRef .tc main_v2) = _
    after_results
    rfl
  rw [e, G.g8]
  refine (shapeCast_apply _ _ _ (ix3 (⟨k.val / 256, by omega⟩ : Fin 4) (⟨k.val % 256, by omega⟩ : Fin 256) b) ?_).trans rfl
  rw [Shape.rowMajor_val_three, Shape.rowMajor_val_two]
  show (k.val / 256 * 256 + k.val % 256) * 1024 + b.val = k.val * 1024 + b.val
  omega

theorem V_v3_eq : V m c main_v3 = concatenate S4x1024 0 [⟨S1x1024, m ((c : Thread nD τ).loc main_arg4)⟩,
    ⟨S1x1024, m ((c : Thread nD τ).loc main_arg5)⟩, ⟨S1x1024, m ((c : Thread nD τ).loc main_arg6)⟩,
    ⟨S1x1024, m ((c : Thread nD τ).loc main_arg7)⟩] concatenates_S1x1024_S1x1024_S1x1024_S1x1024_S4x1024_d0 := by
  show StableHlo.after hostOps0 (fun b => m (c, b)) (Proc.devRef .tc main_v3) = _
  after_results
  rfl

theorem V_v3_0 (G : Holds m c A) (b : Fin 1024) : V m c main_v3 (ix2 (0 : Fin 4) b) = ((A.l1w b : ℝ) : EReal) := by
  rw [V_v3_eq, G.g4, G.g5, G.g6, G.g7]
  exact concatenate_apply_piece (t := S4x1024) (0 : Fin 2) _ _ (ix2 (0 : Fin 4) b) 0 (by show 0 < 4; decide) S1x1024 (a4 A) rfl rfl 0 rfl (ix2 (0 : Fin 1) b)
    (fun d hd => by match d with | ⟨0, _⟩ => exact absurd rfl hd | ⟨1, _⟩ => rfl) rfl

theorem V_v3_1 (G : Holds m c A) (b : Fin 1024) : V m c main_v3 (ix2 (1 : Fin 4) b) = ((A.l1b b : ℝ) : EReal) := by
  rw [V_v3_eq, G.g4, G.g5, G.g6, G.g7]
  exact concatenate_apply_piece (t := S4x1024) (0 : Fin 2) _ _ (ix2 (1 : Fin 4) b) 1 (by show 1 < 4; decide) S1x1024 (a5 A) rfl rfl 1 rfl (ix2 (0 : Fin 1) b)
    (fun d hd => by match d with | ⟨0, _⟩ => exact absurd rfl hd | ⟨1, _⟩ => rfl) rfl

theorem V_v3_2 (G : Holds m c A) (b : Fin 1024) : V m c main_v3 (ix2 (2 : Fin 4) b) = ((A.l2w b : ℝ) : EReal) := by
  rw [V_v3_eq, G.g4, G.g5, G.g6, G.g7]
  exact concatenate_apply_piece (t := S4x1024) (0 : Fin 2) _ _ (ix2 (2 : Fin 4) b) 2 (by show 2 < 4; decide) S1x1024 (a6 A) rfl rfl 2 rfl (ix2 (0 : Fin 1) b)
    (fun d hd => by match d with | ⟨0, _⟩ => exact absurd rfl hd | ⟨1, _⟩ => rfl) rfl

theorem V_v3_3 (G : Holds m c A) (b : Fin 1024) : V m c main_v3 (ix2 (3 : Fin 4) b) = ((A.l2b b : ℝ) : EReal) := by
  rw [V_v3_eq, G.g4, G.g5, G.g6, G.g7]
  exact concatenate_apply_piece (t := S4x1024) (0 : Fin 2) _ _ (ix2 (3 : Fin 4) b) 3 (by show 3 < 4; decide) S1x1024 (a7 A) rfl rfl 3 rfl (ix2 (0 : Fin 1) b)
    (fun d hd => by match d with | ⟨0, _⟩ => exact absurd rfl hd | ⟨1, _⟩ => rfl) rfl

/-! ## The index of an array that a window's tile names -/

theorem idx0 : ∀ t : Fin cfg0.N, win0_0.index t (0 : Fin 2) = t.val ∧ win0_0.index t (1 : Fin 2) = 0 :=
  (by decide +kernel : ∀ t : Fin grid0.N, _)

theorem emb0 (t : Fin cfg0.N) (a : Fin 256) (b : Fin 1024) : ((cfg0.win 0).blk t).view.emb (ix2 a b) = (ix2 (rowOf t.val a) b : S8192x1024.Idx) := by
  obtain ⟨e0, e1⟩ := idx0 t
  have h := pt_lt t
  funext d; apply Fin.ext
  match d with
  | ⟨0, _⟩ =>
    show win0_0.index t (0 : Fin 2) * 256 + 1 * a.val = (rowOf t.val a).val
    rw [rowOf_val h]; omega
  | ⟨1, _⟩ => show win0_0.index t (1 : Fin 2) * 1024 + 1 * b.val = b.val; omega

theorem idx1 : ∀ t : Fin cfg0.N, win0_1.index t (0 : Fin 2) = t.val ∧ win0_1.index t (1 : Fin 2) = 0 :=
  (by decide +kernel : ∀ t : Fin grid0.N, _)

theorem emb1 (t : Fin cfg0.N) (a : Fin 256) (b : Fin 1024) : ((cfg0.win 1).blk t).view.emb (ix2 a b) = (ix2 (rowOf t.val a) b : S8192x1024.Idx) := by
  obtain ⟨e0, e1⟩ := idx1 t
  have h := pt_lt t
  funext d; apply Fin.ext
  match d with
  | ⟨0, _⟩ =>
    show win0_1.index t (0 : Fin 2) * 256 + 1 * a.val = (rowOf t.val a).val
    rw [rowOf_val h]; omega
  | ⟨1, _⟩ => show win0_1.index t (1 : Fin 2) * 1024 + 1 * b.val = b.val; omega

theorem idx2 : ∀ t : Fin cfg0.N, win0_2.index t (0 : Fin 2) = t.val ∧ win0_2.index t (1 : Fin 2) = 0 :=
  (by decide +kernel : ∀ t : Fin grid0.N, _)

theorem emb2 (t : Fin cfg0.N) (a : Fin 256) (b : Fin 1024) : ((cfg0.win 2).blk t).view.emb (ix2 a b) = (ix2 (rowOf t.val a) b : S8192x1024.Idx) := by
  obtain ⟨e0, e1⟩ := idx2 t
  have h := pt_lt t
  funext d; apply Fin.ext
  match d with
  | ⟨0, _⟩ =>
    show win0_2.index t (0 : Fin 2) * 256 + 1 * a.val = (rowOf t.val a).val
    rw [rowOf_val h]; omega
  | ⟨1, _⟩ => show win0_2.index t (1 : Fin 2) * 1024 + 1 * b.val = b.val; omega

theorem idx3 : ∀ t : Fin cfg0.N, win0_3.index t (0 : Fin 2) = 0 ∧ win0_3.index t (1 : Fin 2) = 0 :=
  (by decide +kernel : ∀ t : Fin grid0.N, _)

theorem emb3 (t : Fin cfg0.N) (j : S1x6144.Idx) : ((cfg0.win 3).blk t).view.emb j = j := by
  obtain ⟨e0, e1⟩ := idx3 t
  funext d; apply Fin.ext
  match d with
  | ⟨0, _⟩ => show win0_3.index t (0 : Fin 2) * 1 + 1 * (j 0).val = (j 0).val; omega
  | ⟨1, _⟩ => show win0_3.index t (1 : Fin 2) * 6144 + 1 * (j 1).val = (j 1).val; omega

theorem idx4 : ∀ t : Fin cfg0.N, win0_4.index t (0 : Fin 2) = 0 ∧ win0_4.index t (1 : Fin 2) = 0 :=
  (by decide +kernel : ∀ t : Fin grid0.N, _)

theorem emb4 (t : Fin cfg0.N) (j : S4x1024.Idx) : ((cfg0.win 4).blk t).view.emb j = j := by
  obtain ⟨e0, e1⟩ := idx4 t
  funext d; apply Fin.ext
  match d with
  | ⟨0, _⟩ => show win0_4.index t (0 : Fin 2) * 4 + 1 * (j 0).val = (j 0).val; omega
  | ⟨1, _⟩ => show win0_4.index t (1 : Fin 2) * 1024 + 1 * (j 1).val = (j 1).val; omega

theorem idx5 : ∀ t : Fin cfg0.N, win0_5.index t (0 : Fin 2) = 0 ∧ win0_5.index t (1 : Fin 2) = 0 :=
  (by decide +kernel : ∀ t : Fin grid0.N, _)

theorem emb5 (t : Fin cfg0.N) (j : S1024x1024.Idx) : ((cfg0.win 5).blk t).view.emb j = j := by
  obtain ⟨e0, e1⟩ := idx5 t
  funext d; apply Fin.ext
  match d with
  | ⟨0, _⟩ => show win0_5.index t (0 : Fin 2) * 1024 + 1 * (j 0).val = (j 0).val; omega
  | ⟨1, _⟩ => show win0_5.index t (1 : Fin 2) * 1024 + 1 * (j 1).val = (j 1).val; omega

theorem idx8 : ∀ t : Fin cfg0.N, win0_8.index t (0 : Fin 2) = t.val ∧ win0_8.index t (1 : Fin 2) = 0 :=
  (by decide +kernel : ∀ t : Fin grid0.N, _)

theorem emb8 (t : Fin cfg0.N) (a : Fin 256) (b : Fin 1024) : ((cfg0.win 8).blk t).view.emb (ix2 a b) = (ix2 (rowOf t.val a) b : S8192x1024.Idx) := by
  obtain ⟨e0, e1⟩ := idx8 t
  have h := pt_lt t
  funext d; apply Fin.ext
  match d with
  | ⟨0, _⟩ =>
    show win0_8.index t (0 : Fin 2) * 256 + 1 * a.val = (rowOf t.val a).val
    rw [rowOf_val h]; omega
  | ⟨1, _⟩ => show win0_8.index t (1 : Fin 2) * 1024 + 1 * b.val = b.val; omega

theorem idx9 : ∀ t : Fin cfg0.N, win0_9.index t (0 : Fin 2) = t.val ∧ win0_9.index t (1 : Fin 2) = 0 :=
  (by decide +kernel : ∀ t : Fin grid0.N, _)

theorem emb9 (t : Fin cfg0.N) (a : Fin 256) (b : Fin 1024) : ((cfg0.win 9).blk t).view.emb (ix2 a b) = (ix2 (rowOf t.val a) b : S8192x1024.Idx) := by
  obtain ⟨e0, e1⟩ := idx9 t
  have h := pt_lt t
  funext d; apply Fin.ext
  match d with
  | ⟨0, _⟩ =>
    show win0_9.index t (0 : Fin 2) * 256 + 1 * a.val = (rowOf t.val a).val
    rw [rowOf_val h]; omega
  | ⟨1, _⟩ => show win0_9.index t (1 : Fin 2) * 1024 + 1 * b.val = b.val; omega

theorem idx10 : ∀ t : Fin cfg0.N, win0_10.index t (0 : Fin 2) = t.val ∧ win0_10.index t (1 : Fin 2) = 0 :=
  (by decide +kernel : ∀ t : Fin grid0.N, _)

theorem emb10 (t : Fin cfg0.N) (a : Fin 256) (b : Fin 4096) : ((cfg0.win 10).blk t).view.emb (ix2 a b) = (ix2 (rowOf t.val a) b : S8192x4096.Idx) := by
  obtain ⟨e0, e1⟩ := idx10 t
  have h := pt_lt t
  funext d; apply Fin.ext
  match d with
  | ⟨0, _⟩ =>
    show win0_10.index t (0 : Fin 2) * 256 + 1 * a.val = (rowOf t.val a).val
    rw [rowOf_val h]; omega
  | ⟨1, _⟩ => show win0_10.index t (1 : Fin 2) * 4096 + 1 * b.val = b.val; omega

theorem idx11 : ∀ t : Fin cfg0.N, win0_11.index t (0 : Fin 2) = t.val ∧ win0_11.index t (1 : Fin 2) = 0 :=
  (by decide +kernel : ∀ t : Fin grid0.N, _)

theorem emb11 (t : Fin cfg0.N) (a : Fin 256) (b : Fin 4096) : ((cfg0.win 11).blk t).view.emb (ix2 a b) = (ix2 (rowOf t.val a) b : S8192x4096.Idx) := by
  obtain ⟨e0, e1⟩ := idx11 t
  have h := pt_lt t
  funext d; apply Fin.ext
  match d with
  | ⟨0, _⟩ =>
    show win0_11.index t (0 : Fin 2) * 256 + 1 * a.val = (rowOf t.val a).val
    rw [rowOf_val h]; omega
  | ⟨1, _⟩ => show win0_11.index t (1 : Fin 2) * 4096 + 1 * b.val = b.val; omega

theorem idx12 : ∀ t : Fin cfg0.N, win0_12.index t (0 : Fin 2) = t.val ∧ win0_12.index t (1 : Fin 2) = 0 :=
  (by decide +kernel : ∀ t : Fin grid0.N, _)

theorem emb12 (t : Fin cfg0.N) (a : Fin 256) (b : Fin 1024) : ((cfg0.win 12).blk t).view.emb (ix2 a b) = (ix2 (rowOf t.val a) b : S8192x1024.Idx) := by
  obtain ⟨e0, e1⟩ := idx12 t
  have h := pt_lt t
  funext d; apply Fin.ext
  match d with
  | ⟨0, _⟩ =>
    show win0_12.index t (0 : Fin 2) * 256 + 1 * a.val = (rowOf t.val a).val
    rw [rowOf_val h]; omega
  | ⟨1, _⟩ => show win0_12.index t (1 : Fin 2) * 1024 + 1 * b.val = b.val; omega

theorem idx13 : ∀ t : Fin cfg0.N, win0_13.index t (0 : Fin 2) = t.val ∧ win0_13.index t (1 : Fin 2) = 0 :=
  (by decide +kernel : ∀ t : Fin grid0.N, _)

theorem emb13 (t : Fin cfg0.N) (a : Fin 256) (b : Fin 1024) : ((cfg0.win 13).blk t).view.emb (ix2 a b) = (ix2 (rowOf t.val a) b : S8192x1024.Idx) := by
  obtain ⟨e0, e1⟩ := idx13 t
  have h := pt_lt t
  funext d; apply Fin.ext
  match d with
  | ⟨0, _⟩ =>
    show win0_13.index t (0 : Fin 2) * 256 + 1 * a.val = (rowOf t.val a).val
    rw [rowOf_val h]; omega
  | ⟨1, _⟩ => show win0_13.index t (1 : Fin 2) * 1024 + 1 * b.val = b.val; omega

theorem idx14 : ∀ t : Fin cfg0.N, win0_14.index t (0 : Fin 2) = t.val ∧ win0_14.index t (1 : Fin 2) = 0 :=
  (by decide +kernel : ∀ t : Fin grid0.N, _)

theorem emb14 (t : Fin cfg0.N) (a : Fin 256) (b : Fin 1024) : ((cfg0.win 14).blk t).view.emb (ix2 a b) = (ix2 (rowOf t.val a) b : S8192x1024.Idx) := by
  obtain ⟨e0, e1⟩ := idx14 t
  have h := pt_lt t
  funext d; apply Fin.ext
  match d with
  | ⟨0, _⟩ =>
    show win0_14.index t (0 : Fin 2) * 256 + 1 * a.val = (rowOf t.val a).val
    rw [rowOf_val h]; omega
  | ⟨1, _⟩ => show win0_14.index t (1 : Fin 2) * 1024 + 1 * b.val = b.val; omega

theorem idx15 : ∀ t : Fin cfg0.N, win0_15.index t (0 : Fin 2) = 0 ∧ win0_15.index t (1 : Fin 2) = 0 :=
  (by decide +kernel : ∀ t : Fin grid0.N, _)

theorem emb15 (t : Fin cfg0.N) (j : S16x1024.Idx) : ((cfg0.win 15).blk t).view.emb j = j := by
  obtain ⟨e0, e1⟩ := idx15 t
  funext d; apply Fin.ext
  match d with
  | ⟨0, _⟩ => show win0_15.index t (0 : Fin 2) * 16 + 1 * (j 0).val = (j 0).val; omega
  | ⟨1, _⟩ => show win0_15.index t (1 : Fin 2) * 1024 + 1 * (j 1).val = (j 1).val; omega

theorem idx6 : ∀ t : Fin cfg0.N, win0_6.index t (0 : Fin 3) = 0 ∧ win0_6.index t (1 : Fin 3) = 0 ∧ win0_6.index t (2 : Fin 3) = 0 :=
  (by decide +kernel : ∀ t : Fin grid0.N, _)

theorem emb6 (t : Fin cfg0.N) (j : S4x1024x1024.Idx) : ((cfg0.win 6).blk t).view.emb j = j := by
  obtain ⟨e0, e1, e2⟩ := idx6 t
  funext d; apply Fin.ext
  match d with
  | ⟨0, _⟩ => show win0_6.index t (0 : Fin 3) * 4 + 1 * (j 0).val = (j 0).val; omega
  | ⟨1, _⟩ => show win0_6.index t (1 : Fin 3) * 1024 + 1 * (j 1).val = (j 1).val; omega
  | ⟨2, _⟩ => show win0_6.index t (2 : Fin 3) * 1024 + 1 * (j 2).val = (j 2).val; omega

theorem idx7 : ∀ t : Fin cfg0.N, win0_7.index t (0 : Fin 3) = 0 ∧ win0_7.index t (1 : Fin 3) = 0 ∧ win0_7.index t (2 : Fin 3) = 0 :=
  (by decide +kernel : ∀ t : Fin grid0.N, _)

theorem emb7 (t : Fin cfg0.N) (j : S4x1024x1024.Idx) : ((cfg0.win 7).blk t).view.emb j = j := by
  obtain ⟨e0, e1, e2⟩ := idx7 t
  funext d; apply Fin.ext
  match d with
  | ⟨0, _⟩ => show win0_7.index t (0 : Fin 3) * 4 + 1 * (j 0).val = (j 0).val; omega
  | ⟨1, _⟩ => show win0_7.index t (1 : Fin 3) * 1024 + 1 * (j 1).val = (j 1).val; omega
  | ⟨2, _⟩ => show win0_7.index t (2 : Fin 3) * 1024 + 1 * (j 2).val = (j 2).val; omega

/-- The tiles of a point are the rows of the arguments from `256 * t` on. -/
theorem holds_in (G : Holds m c A) (t : Fin cfg0.N) :
    In A (rowOf t.val) (iblk m c 0 t) (iblk m c 1 t) (iblk m c 2 t) (iblk m c 3 t) (iblk m c 4 t) (iblk m c 5 t) (iblk m c 6 t) (iblk m c 7 t) where
  h0 := fun a b => by
    show V m c main_v0 (((cfg0.win 0).blk t).view.emb (ix2 a b)) = _
    rw [emb0]; exact V_v0 G _ _
  h1 := fun a b => by
    show V m c main_arg1 (((cfg0.win 1).blk t).view.emb (ix2 a b)) = _
    rw [emb1, V_main_arg1, G.g1]; rfl
  h2 := fun a b => by
    show V m c main_v1 (((cfg0.win 2).blk t).view.emb (ix2 a b)) = _
    rw [emb2]; exact V_v1 G _ _
  h3 := fun b => by
    show V m c main_arg3 (((cfg0.win 3).blk t).view.emb (ix2 (0 : Fin 1) b)) = _
    rw [emb3, V_main_arg3, G.g3]; rfl
  h40 := fun b => by
    show V m c main_v3 (((cfg0.win 4).blk t).view.emb (ix2 (0 : Fin 4) b)) = _
    rw [emb4]; exact V_v3_0 G b
  h41 := fun b => by
    show V m c main_v3 (((cfg0.win 4).blk t).view.emb (ix2 (1 : Fin 4) b)) = _
    rw [emb4]; exact V_v3_1 G b
  h42 := fun b => by
    show V m c main_v3 (((cfg0.win 4).blk t).view.emb (ix2 (2 : Fin 4) b)) = _
    rw [emb4]; exact V_v3_2 G b
  h43 := fun b => by
    show V m c main_v3 (((cfg0.win 4).blk t).view.emb (ix2 (3 : Fin 4) b)) = _
    rw [emb4]; exact V_v3_3 G b
  h5 := fun a b => by
    show V m c main_v2 (((cfg0.win 5).blk t).view.emb (ix2 a b)) = _
    rw [emb5]; exact V_v2 G _ _
  h6 := fun d a b => by
    show V m c main_arg9 (((cfg0.win 6).blk t).view.emb (ix3 d a b)) = _
    rw [emb6, V_main_arg9, G.g9]; rfl
  h7 := fun d a b => by
    show V m c main_arg10 (((cfg0.win 7).blk t).view.emb (ix3 d a b)) = _
    rw [emb7, V_main_arg10, G.g10]; rfl

end Cert.Ker
-- ==== Proof.KerTileA.lean ====
/- What the first point of the grid stores in its seven tiles of results. -/
module

public import proofs.«01_k».proof.Proof.Gen.KernelIdeal.Value
public import proofs.«01_k».proof.Proof.KerLd

@[expose] public section

set_option maxRecDepth 16384

set_option maxHeartbeats 4000000

noncomputable section

namespace Cert.Ker

open Cert.KernelIdeal Cert.KernelIdeal.Gen Cert.Coe Cert.Step Idealize.ShloMosaic Idealize.ShloMosaic.TcCoe Idealize.ShloMosaic.Tactic Idealize.SL.Sem
open Idealize.ShloMosaic.ValueIdx

theorem tileA_8 (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S256x1024 .f32) (harg3 : arg3.IsWhole) (arg4 : Memref sig .tc .vmem S1x6144 .f32) (harg4 : arg4.IsWhole) (arg5 : Memref sig .tc .vmem S4x1024 .f32) (harg5 : arg5.IsWhole) (arg6 : Memref sig .tc .vmem S1024x1024 .bf16) (harg6 : arg6.IsWhole) (arg7 : Memref sig .tc .vmem S4x1024x1024 .bf16) (harg7 : arg7.IsWhole) (arg8 : Memref sig .tc .vmem S4x1024x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x4096 .bf16) (harg11 : arg11.IsWhole) (arg12 : Memref sig .tc .vmem S256x4096 .bf16) (harg12 : arg12.IsWhole) (arg13 : Memref sig .tc .vmem S256x1024 .bf16) (harg13 : arg13.IsWhole) (arg14 : Memref sig .tc .vmem S256x1024 .bf16) (harg14 : arg14.IsWhole) (arg15 : Memref sig .tc .vmem S256x1024 .bf16) (harg15 : arg15.IsWhole) (arg16 : Memref sig .tc .vmem S16x1024 .f32) (harg16 : arg16.IsWhole) (arg17 : Memref sig .tc .vmem S256x4096 .f32) (harg17 : arg17.IsWhole) (hc0 : cond0_0 i)
    (x0 : Vec Ideal S256x1024 .f32) (x1 : Vec Ideal S256x1024 .bf16) (x2 : Vec Ideal S256x1024 .f32) (x3 : Vec Ideal S1x6144 .f32) (x4 : Vec Ideal S4x1024 .f32) (x5 : Vec Ideal S1024x1024 .bf16) (x6 : Vec Ideal S4x1024x1024 .bf16) (x7 : Vec Ideal S4x1024x1024 .bf16)
    {A : Args} {R : Fin 256 → Fin 8192} (H : In A R x0 x1 x2 x3 x4 x5 x6 x7) :
    IsR (out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7) (fun a => dmx A (R a)) := by
  unfold out0_A_8; rw [View.read_writes_junk_eq_canon]
  unfold kernelRun0_A; dsimp only
  sl_unfold_words
  simp only [View.readAt_eq_ld, harg1.read_unread, harg2.read_unread, harg3.read_unread, harg4.read_unread, harg5.read_unread, harg6.read_unread, harg7.read_unread, harg8.read_unread]
  apply AtF.whole
  repeat' with_reducible (first
    | exact H.l0 _
    | exact H.l1 _
    | exact H.l2 _
    | exact H.l5 _
    | exact H.l_g1 _
    | exact H.l_sh2 _
    | exact H.l_sc2 _
    | exact H.l_g2 _
    | exact H.l_l1w _
    | exact H.l_l1b _
    | exact H.l_l2w _
    | exact H.l_l2b _
    | exact H.l_w10 _
    | exact H.l_w11 _
    | exact H.l_w12 _
    | exact H.l_w13 _
    | exact H.l_w20 _
    | exact H.l_w21 _
    | exact H.l_w22 _
    | exact H.l_w23 _
    | apply pay4 A R
    | apply pay5 A R
    | apply pay6 A R
    | apply pay7 A R
    | apply pay8 A R
    | apply pay9 A
    | apply pay10 A R
    | apply pay11 A R
    | apply pay12 A R
    | apply pay13 A R
    | apply pay14 A R
    | apply pay15
    | apply pay16 A R
    | apply pay17 A R
    | apply pay18 A R
    | apply pay19 A R
    | apply pay20 A R
    | apply pay21 A R
    | apply pay24 A R
    | apply pay25 A R
    | apply pay28 A R
    | apply pay29 A R
    | apply pay22 A R
    | apply pay26 A R
    | apply pay27 A R
    | apply pay30 A R
    | apply pay23 A R
    | apply pay31 A R
    | apply pay32 A R
    | apply pay33 A R
    | apply pay34 A R
    | apply pay35 A R
    | apply pay36 A R
    | apply pay37 A R
    | apply pay38 A R
    | apply pay39 A R
    | apply pay40 A R
    | apply pay41 A R
    | apply pay42 A R
    | apply pay43 A R
    | apply pay44 A R
    | apply pay46 A R
    | apply pay47 A R
    | apply pay45 A R
    | apply pay48 A R
    | apply pay49 A R
    | apply pay50 A R
    | apply pay51 A R
    | apply pay52 A R
    | apply pay53 A R
    | apply pay54 A R
    | apply pay55 A R
    | apply pay56 A R
    | apply pay1 A R
    | apply pay2 A R
    | apply pay3
    | apply AtF.load
    | apply AtF.hit
    | apply AtB.hit
    | apply AtF.miss (by decide)
    | apply AtB.miss (by decide)
    | apply AtF.const)

theorem tileA_9 (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S256x1024 .f32) (harg3 : arg3.IsWhole) (arg4 : Memref sig .tc .vmem S1x6144 .f32) (harg4 : arg4.IsWhole) (arg5 : Memref sig .tc .vmem S4x1024 .f32) (harg5 : arg5.IsWhole) (arg6 : Memref sig .tc .vmem S1024x1024 .bf16) (harg6 : arg6.IsWhole) (arg7 : Memref sig .tc .vmem S4x1024x1024 .bf16) (harg7 : arg7.IsWhole) (arg8 : Memref sig .tc .vmem S4x1024x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x4096 .bf16) (harg11 : arg11.IsWhole) (arg12 : Memref sig .tc .vmem S256x4096 .bf16) (harg12 : arg12.IsWhole) (arg13 : Memref sig .tc .vmem S256x1024 .bf16) (harg13 : arg13.IsWhole) (arg14 : Memref sig .tc .vmem S256x1024 .bf16) (harg14 : arg14.IsWhole) (arg15 : Memref sig .tc .vmem S256x1024 .bf16) (harg15 : arg15.IsWhole) (arg16 : Memref sig .tc .vmem S16x1024 .f32) (harg16 : arg16.IsWhole) (arg17 : Memref sig .tc .vmem S256x4096 .f32) (harg17 : arg17.IsWhole) (hc0 : cond0_0 i)
    (x0 : Vec Ideal S256x1024 .f32) (x1 : Vec Ideal S256x1024 .bf16) (x2 : Vec Ideal S256x1024 .f32) (x3 : Vec Ideal S1x6144 .f32) (x4 : Vec Ideal S4x1024 .f32) (x5 : Vec Ideal S1024x1024 .bf16) (x6 : Vec Ideal S4x1024x1024 .bf16) (x7 : Vec Ideal S4x1024x1024 .bf16)
    {A : Args} {R : Fin 256 → Fin 8192} (H : In A R x0 x1 x2 x3 x4 x5 x6 x7) :
    IsR (out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7) (fun a => dxa A (R a)) := by
  unfold out0_A_9; rw [View.read_writes_junk_eq_canon]
  unfold kernelRun0_A; dsimp only
  sl_unfold_words
  simp only [View.readAt_eq_ld, harg1.read_unread, harg2.read_unread, harg3.read_unread, harg4.read_unread, harg5.read_unread, harg6.read_unread, harg7.read_unread, harg8.read_unread]
  apply AtF.whole
  repeat' with_reducible (first
    | exact H.l0 _
    | exact H.l1 _
    | exact H.l2 _
    | exact H.l5 _
    | exact H.l_g1 _
    | exact H.l_sh2 _
    | exact H.l_sc2 _
    | exact H.l_g2 _
    | exact H.l_l1w _
    | exact H.l_l1b _
    | exact H.l_l2w _
    | exact H.l_l2b _
    | exact H.l_w10 _
    | exact H.l_w11 _
    | exact H.l_w12 _
    | exact H.l_w13 _
    | exact H.l_w20 _
    | exact H.l_w21 _
    | exact H.l_w22 _
    | exact H.l_w23 _
    | apply pay4 A R
    | apply pay5 A R
    | apply pay6 A R
    | apply pay7 A R
    | apply pay8 A R
    | apply pay9 A
    | apply pay10 A R
    | apply pay11 A R
    | apply pay12 A R
    | apply pay13 A R
    | apply pay14 A R
    | apply pay15
    | apply pay16 A R
    | apply pay17 A R
    | apply pay18 A R
    | apply pay19 A R
    | apply pay20 A R
    | apply pay21 A R
    | apply pay24 A R
    | apply pay25 A R
    | apply pay28 A R
    | apply pay29 A R
    | apply pay22 A R
    | apply pay26 A R
    | apply pay27 A R
    | apply pay30 A R
    | apply pay23 A R
    | apply pay31 A R
    | apply pay32 A R
    | apply pay33 A R
    | apply pay34 A R
    | apply pay35 A R
    | apply pay36 A R
    | apply pay37 A R
    | apply pay38 A R
    | apply pay39 A R
    | apply pay40 A R
    | apply pay41 A R
    | apply pay42 A R
    | apply pay43 A R
    | apply pay44 A R
    | apply pay46 A R
    | apply pay47 A R
    | apply pay45 A R
    | apply pay48 A R
    | apply pay49 A R
    | apply pay50 A R
    | apply pay51 A R
    | apply pay52 A R
    | apply pay53 A R
    | apply pay54 A R
    | apply pay55 A R
    | apply pay56 A R
    | apply pay1 A R
    | apply pay2 A R
    | apply pay3
    | apply AtF.load
    | apply AtF.hit
    | apply AtB.hit
    | apply AtF.miss (by decide)
    | apply AtB.miss (by decide)
    | apply AtF.const)

theorem tileA_10 (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S256x1024 .f32) (harg3 : arg3.IsWhole) (arg4 : Memref sig .tc .vmem S1x6144 .f32) (harg4 : arg4.IsWhole) (arg5 : Memref sig .tc .vmem S4x1024 .f32) (harg5 : arg5.IsWhole) (arg6 : Memref sig .tc .vmem S1024x1024 .bf16) (harg6 : arg6.IsWhole) (arg7 : Memref sig .tc .vmem S4x1024x1024 .bf16) (harg7 : arg7.IsWhole) (arg8 : Memref sig .tc .vmem S4x1024x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x4096 .bf16) (harg11 : arg11.IsWhole) (arg12 : Memref sig .tc .vmem S256x4096 .bf16) (harg12 : arg12.IsWhole) (arg13 : Memref sig .tc .vmem S256x1024 .bf16) (harg13 : arg13.IsWhole) (arg14 : Memref sig .tc .vmem S256x1024 .bf16) (harg14 : arg14.IsWhole) (arg15 : Memref sig .tc .vmem S256x1024 .bf16) (harg15 : arg15.IsWhole) (arg16 : Memref sig .tc .vmem S16x1024 .f32) (harg16 : arg16.IsWhole) (arg17 : Memref sig .tc .vmem S256x4096 .f32) (harg17 : arg17.IsWhole) (hc0 : cond0_0 i)
    (x0 : Vec Ideal S256x1024 .f32) (x1 : Vec Ideal S256x1024 .bf16) (x2 : Vec Ideal S256x1024 .f32) (x3 : Vec Ideal S1x6144 .f32) (x4 : Vec Ideal S4x1024 .f32) (x5 : Vec Ideal S1024x1024 .bf16) (x6 : Vec Ideal S4x1024x1024 .bf16) (x7 : Vec Ideal S4x1024x1024 .bf16)
    {A : Args} {R : Fin 256 → Fin 8192} (H : In A R x0 x1 x2 x3 x4 x5 x6 x7) :
    IsR (n := 256) (m := 4096) (out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7) (fun a b => act A (R a) ⟨b.val / 1024, by omega⟩ ⟨b.val % 1024, by omega⟩) := by
  unfold out0_A_10; rw [View.read_writes_junk_eq_canon]
  unfold kernelRun0_A; dsimp only
  sl_unfold_words
  simp only [View.readAt_eq_ld, harg1.read_unread, harg2.read_unread, harg3.read_unread, harg4.read_unread, harg5.read_unread, harg6.read_unread, harg7.read_unread, harg8.read_unread]
  refine AtB.four (f := fun c a => act A (R a) c) ?_ ?_ ?_ ?_
  all_goals repeat' with_reducible (first
    | exact H.l0 _
    | exact H.l1 _
    | exact H.l2 _
    | exact H.l5 _
    | exact H.l_g1 _
    | exact H.l_sh2 _
    | exact H.l_sc2 _
    | exact H.l_g2 _
    | exact H.l_l1w _
    | exact H.l_l1b _
    | exact H.l_l2w _
    | exact H.l_l2b _
    | exact H.l_w10 _
    | exact H.l_w11 _
    | exact H.l_w12 _
    | exact H.l_w13 _
    | exact H.l_w20 _
    | exact H.l_w21 _
    | exact H.l_w22 _
    | exact H.l_w23 _
    | apply pay4 A R
    | apply pay5 A R
    | apply pay6 A R
    | apply pay7 A R
    | apply pay8 A R
    | apply pay9 A
    | apply pay10 A R
    | apply pay11 A R
    | apply pay12 A R
    | apply pay13 A R
    | apply pay14 A R
    | apply pay15
    | apply pay16 A R
    | apply pay17 A R
    | apply pay18 A R
    | apply pay19 A R
    | apply pay20 A R
    | apply pay21 A R
    | apply pay24 A R
    | apply pay25 A R
    | apply pay28 A R
    | apply pay29 A R
    | apply pay22 A R
    | apply pay26 A R
    | apply pay27 A R
    | apply pay30 A R
    | apply pay23 A R
    | apply pay31 A R
    | apply pay32 A R
    | apply pay33 A R
    | apply pay34 A R
    | apply pay35 A R
    | apply pay36 A R
    | apply pay37 A R
    | apply pay38 A R
    | apply pay39 A R
    | apply pay40 A R
    | apply pay41 A R
    | apply pay42 A R
    | apply pay43 A R
    | apply pay44 A R
    | apply pay46 A R
    | apply pay47 A R
    | apply pay45 A R
    | apply pay48 A R
    | apply pay49 A R
    | apply pay50 A R
    | apply pay51 A R
    | apply pay52 A R
    | apply pay53 A R
    | apply pay54 A R
    | apply pay55 A R
    | apply pay56 A R
    | apply pay1 A R
    | apply pay2 A R
    | apply pay3
    | apply AtF.load
    | apply AtF.hit
    | apply AtB.hit
    | apply AtF.miss (by decide)
    | apply AtB.miss (by decide)
    | apply AtF.const)

theorem tileA_11 (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S256x1024 .f32) (harg3 : arg3.IsWhole) (arg4 : Memref sig .tc .vmem S1x6144 .f32) (harg4 : arg4.IsWhole) (arg5 : Memref sig .tc .vmem S4x1024 .f32) (harg5 : arg5.IsWhole) (arg6 : Memref sig .tc .vmem S1024x1024 .bf16) (harg6 : arg6.IsWhole) (arg7 : Memref sig .tc .vmem S4x1024x1024 .bf16) (harg7 : arg7.IsWhole) (arg8 : Memref sig .tc .vmem S4x1024x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x4096 .bf16) (harg11 : arg11.IsWhole) (arg12 : Memref sig .tc .vmem S256x4096 .bf16) (harg12 : arg12.IsWhole) (arg13 : Memref sig .tc .vmem S256x1024 .bf16) (harg13 : arg13.IsWhole) (arg14 : Memref sig .tc .vmem S256x1024 .bf16) (harg14 : arg14.IsWhole) (arg15 : Memref sig .tc .vmem S256x1024 .bf16) (harg15 : arg15.IsWhole) (arg16 : Memref sig .tc .vmem S16x1024 .f32) (harg16 : arg16.IsWhole) (arg17 : Memref sig .tc .vmem S256x4096 .f32) (harg17 : arg17.IsWhole) (hc0 : cond0_0 i)
    (x0 : Vec Ideal S256x1024 .f32) (x1 : Vec Ideal S256x1024 .bf16) (x2 : Vec Ideal S256x1024 .f32) (x3 : Vec Ideal S1x6144 .f32) (x4 : Vec Ideal S4x1024 .f32) (x5 : Vec Ideal S1024x1024 .bf16) (x6 : Vec Ideal S4x1024x1024 .bf16) (x7 : Vec Ideal S4x1024x1024 .bf16)
    {A : Args} {R : Fin 256 → Fin 8192} (H : In A R x0 x1 x2 x3 x4 x5 x6 x7) :
    IsR (n := 256) (m := 4096) (out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7) (fun a b => dh A (R a) ⟨b.val / 1024, by omega⟩ ⟨b.val % 1024, by omega⟩) := by
  unfold out0_A_11; rw [View.read_writes_junk_eq_canon]
  unfold kernelRun0_A; dsimp only
  sl_unfold_words
  simp only [View.readAt_eq_ld, harg1.read_unread, harg2.read_unread, harg3.read_unread, harg4.read_unread, harg5.read_unread, harg6.read_unread, harg7.read_unread, harg8.read_unread]
  refine AtB.four (f := fun c a => dh A (R a) c) ?_ ?_ ?_ ?_
  all_goals repeat' with_reducible (first
    | exact H.l0 _
    | exact H.l1 _
    | exact H.l2 _
    | exact H.l5 _
    | exact H.l_g1 _
    | exact H.l_sh2 _
    | exact H.l_sc2 _
    | exact H.l_g2 _
    | exact H.l_l1w _
    | exact H.l_l1b _
    | exact H.l_l2w _
    | exact H.l_l2b _
    | exact H.l_w10 _
    | exact H.l_w11 _
    | exact H.l_w12 _
    | exact H.l_w13 _
    | exact H.l_w20 _
    | exact H.l_w21 _
    | exact H.l_w22 _
    | exact H.l_w23 _
    | apply pay4 A R
    | apply pay5 A R
    | apply pay6 A R
    | apply pay7 A R
    | apply pay8 A R
    | apply pay9 A
    | apply pay10 A R
    | apply pay11 A R
    | apply pay12 A R
    | apply pay13 A R
    | apply pay14 A R
    | apply pay15
    | apply pay16 A R
    | apply pay17 A R
    | apply pay18 A R
    | apply pay19 A R
    | apply pay20 A R
    | apply pay21 A R
    | apply pay24 A R
    | apply pay25 A R
    | apply pay28 A R
    | apply pay29 A R
    | apply pay22 A R
    | apply pay26 A R
    | apply pay27 A R
    | apply pay30 A R
    | apply pay23 A R
    | apply pay31 A R
    | apply pay32 A R
    | apply pay33 A R
    | apply pay34 A R
    | apply pay35 A R
    | apply pay36 A R
    | apply pay37 A R
    | apply pay38 A R
    | apply pay39 A R
    | apply pay40 A R
    | apply pay41 A R
    | apply pay42 A R
    | apply pay43 A R
    | apply pay44 A R
    | apply pay46 A R
    | apply pay47 A R
    | apply pay45 A R
    | apply pay48 A R
    | apply pay49 A R
    | apply pay50 A R
    | apply pay51 A R
    | apply pay52 A R
    | apply pay53 A R
    | apply pay54 A R
    | apply pay55 A R
    | apply pay56 A R
    | apply pay1 A R
    | apply pay2 A R
    | apply pay3
    | apply AtF.load
    | apply AtF.hit
    | apply AtB.hit
    | apply AtF.miss (by decide)
    | apply AtB.miss (by decide)
    | apply AtF.const)

theorem tileA_12 (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S256x1024 .f32) (harg3 : arg3.IsWhole) (arg4 : Memref sig .tc .vmem S1x6144 .f32) (harg4 : arg4.IsWhole) (arg5 : Memref sig .tc .vmem S4x1024 .f32) (harg5 : arg5.IsWhole) (arg6 : Memref sig .tc .vmem S1024x1024 .bf16) (harg6 : arg6.IsWhole) (arg7 : Memref sig .tc .vmem S4x1024x1024 .bf16) (harg7 : arg7.IsWhole) (arg8 : Memref sig .tc .vmem S4x1024x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x4096 .bf16) (harg11 : arg11.IsWhole) (arg12 : Memref sig .tc .vmem S256x4096 .bf16) (harg12 : arg12.IsWhole) (arg13 : Memref sig .tc .vmem S256x1024 .bf16) (harg13 : arg13.IsWhole) (arg14 : Memref sig .tc .vmem S256x1024 .bf16) (harg14 : arg14.IsWhole) (arg15 : Memref sig .tc .vmem S256x1024 .bf16) (harg15 : arg15.IsWhole) (arg16 : Memref sig .tc .vmem S16x1024 .f32) (harg16 : arg16.IsWhole) (arg17 : Memref sig .tc .vmem S256x4096 .f32) (harg17 : arg17.IsWhole) (hc0 : cond0_0 i)
    (x0 : Vec Ideal S256x1024 .f32) (x1 : Vec Ideal S256x1024 .bf16) (x2 : Vec Ideal S256x1024 .f32) (x3 : Vec Ideal S1x6144 .f32) (x4 : Vec Ideal S4x1024 .f32) (x5 : Vec Ideal S1024x1024 .bf16) (x6 : Vec Ideal S4x1024x1024 .bf16) (x7 : Vec Ideal S4x1024x1024 .bf16)
    {A : Args} {R : Fin 256 → Fin 8192} (H : In A R x0 x1 x2 x3 x4 x5 x6 x7) :
    IsR (out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7) (fun a => u2 A (R a)) := by
  unfold out0_A_12; rw [View.read_writes_junk_eq_canon]
  unfold kernelRun0_A; dsimp only
  sl_unfold_words
  simp only [View.readAt_eq_ld, harg1.read_unread, harg2.read_unread, harg3.read_unread, harg4.read_unread, harg5.read_unread, harg6.read_unread, harg7.read_unread, harg8.read_unread]
  apply AtB.whole
  repeat' with_reducible (first
    | exact H.l0 _
    | exact H.l1 _
    | exact H.l2 _
    | exact H.l5 _
    | exact H.l_g1 _
    | exact H.l_sh2 _
    | exact H.l_sc2 _
    | exact H.l_g2 _
    | exact H.l_l1w _
    | exact H.l_l1b _
    | exact H.l_l2w _
    | exact H.l_l2b _
    | exact H.l_w10 _
    | exact H.l_w11 _
    | exact H.l_w12 _
    | exact H.l_w13 _
    | exact H.l_w20 _
    | exact H.l_w21 _
    | exact H.l_w22 _
    | exact H.l_w23 _
    | apply pay4 A R
    | apply pay5 A R
    | apply pay6 A R
    | apply pay7 A R
    | apply pay8 A R
    | apply pay9 A
    | apply pay10 A R
    | apply pay11 A R
    | apply pay12 A R
    | apply pay13 A R
    | apply pay14 A R
    | apply pay15
    | apply pay16 A R
    | apply pay17 A R
    | apply pay18 A R
    | apply pay19 A R
    | apply pay20 A R
    | apply pay21 A R
    | apply pay24 A R
    | apply pay25 A R
    | apply pay28 A R
    | apply pay29 A R
    | apply pay22 A R
    | apply pay26 A R
    | apply pay27 A R
    | apply pay30 A R
    | apply pay23 A R
    | apply pay31 A R
    | apply pay32 A R
    | apply pay33 A R
    | apply pay34 A R
    | apply pay35 A R
    | apply pay36 A R
    | apply pay37 A R
    | apply pay38 A R
    | apply pay39 A R
    | apply pay40 A R
    | apply pay41 A R
    | apply pay42 A R
    | apply pay43 A R
    | apply pay44 A R
    | apply pay46 A R
    | apply pay47 A R
    | apply pay45 A R
    | apply pay48 A R
    | apply pay49 A R
    | apply pay50 A R
    | apply pay51 A R
    | apply pay52 A R
    | apply pay53 A R
    | apply pay54 A R
    | apply pay55 A R
    | apply pay56 A R
    | apply pay1 A R
    | apply pay2 A R
    | apply pay3
    | apply AtF.load
    | apply AtF.hit
    | apply AtB.hit
    | apply AtF.miss (by decide)
    | apply AtB.miss (by decide)
    | apply AtF.const)

theorem tileA_13 (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S256x1024 .f32) (harg3 : arg3.IsWhole) (arg4 : Memref sig .tc .vmem S1x6144 .f32) (harg4 : arg4.IsWhole) (arg5 : Memref sig .tc .vmem S4x1024 .f32) (harg5 : arg5.IsWhole) (arg6 : Memref sig .tc .vmem S1024x1024 .bf16) (harg6 : arg6.IsWhole) (arg7 : Memref sig .tc .vmem S4x1024x1024 .bf16) (harg7 : arg7.IsWhole) (arg8 : Memref sig .tc .vmem S4x1024x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x4096 .bf16) (harg11 : arg11.IsWhole) (arg12 : Memref sig .tc .vmem S256x4096 .bf16) (harg12 : arg12.IsWhole) (arg13 : Memref sig .tc .vmem S256x1024 .bf16) (harg13 : arg13.IsWhole) (arg14 : Memref sig .tc .vmem S256x1024 .bf16) (harg14 : arg14.IsWhole) (arg15 : Memref sig .tc .vmem S256x1024 .bf16) (harg15 : arg15.IsWhole) (arg16 : Memref sig .tc .vmem S16x1024 .f32) (harg16 : arg16.IsWhole) (arg17 : Memref sig .tc .vmem S256x4096 .f32) (harg17 : arg17.IsWhole) (hc0 : cond0_0 i)
    (x0 : Vec Ideal S256x1024 .f32) (x1 : Vec Ideal S256x1024 .bf16) (x2 : Vec Ideal S256x1024 .f32) (x3 : Vec Ideal S1x6144 .f32) (x4 : Vec Ideal S4x1024 .f32) (x5 : Vec Ideal S1024x1024 .bf16) (x6 : Vec Ideal S4x1024x1024 .bf16) (x7 : Vec Ideal S4x1024x1024 .bf16)
    {A : Args} {R : Fin 256 → Fin 8192} (H : In A R x0 x1 x2 x3 x4 x5 x6 x7) :
    IsR (out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7) (fun a => df A (R a)) := by
  unfold out0_A_13; rw [View.read_writes_junk_eq_canon]
  unfold kernelRun0_A; dsimp only
  sl_unfold_words
  simp only [View.readAt_eq_ld, harg1.read_unread, harg2.read_unread, harg3.read_unread, harg4.read_unread, harg5.read_unread, harg6.read_unread, harg7.read_unread, harg8.read_unread]
  apply AtB.whole
  repeat' with_reducible (first
    | exact H.l0 _
    | exact H.l1 _
    | exact H.l2 _
    | exact H.l5 _
    | exact H.l_g1 _
    | exact H.l_sh2 _
    | exact H.l_sc2 _
    | exact H.l_g2 _
    | exact H.l_l1w _
    | exact H.l_l1b _
    | exact H.l_l2w _
    | exact H.l_l2b _
    | exact H.l_w10 _
    | exact H.l_w11 _
    | exact H.l_w12 _
    | exact H.l_w13 _
    | exact H.l_w20 _
    | exact H.l_w21 _
    | exact H.l_w22 _
    | exact H.l_w23 _
    | apply pay4 A R
    | apply pay5 A R
    | apply pay6 A R
    | apply pay7 A R
    | apply pay8 A R
    | apply pay9 A
    | apply pay10 A R
    | apply pay11 A R
    | apply pay12 A R
    | apply pay13 A R
    | apply pay14 A R
    | apply pay15
    | apply pay16 A R
    | apply pay17 A R
    | apply pay18 A R
    | apply pay19 A R
    | apply pay20 A R
    | apply pay21 A R
    | apply pay24 A R
    | apply pay25 A R
    | apply pay28 A R
    | apply pay29 A R
    | apply pay22 A R
    | apply pay26 A R
    | apply pay27 A R
    | apply pay30 A R
    | apply pay23 A R
    | apply pay31 A R
    | apply pay32 A R
    | apply pay33 A R
    | apply pay34 A R
    | apply pay35 A R
    | apply pay36 A R
    | apply pay37 A R
    | apply pay38 A R
    | apply pay39 A R
    | apply pay40 A R
    | apply pay41 A R
    | apply pay42 A R
    | apply pay43 A R
    | apply pay44 A R
    | apply pay46 A R
    | apply pay47 A R
    | apply pay45 A R
    | apply pay48 A R
    | apply pay49 A R
    | apply pay50 A R
    | apply pay51 A R
    | apply pay52 A R
    | apply pay53 A R
    | apply pay54 A R
    | apply pay55 A R
    | apply pay56 A R
    | apply pay1 A R
    | apply pay2 A R
    | apply pay3
    | apply AtF.load
    | apply AtF.hit
    | apply AtB.hit
    | apply AtF.miss (by decide)
    | apply AtB.miss (by decide)
    | apply AtF.const)

theorem tileA_14 (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S256x1024 .f32) (harg3 : arg3.IsWhole) (arg4 : Memref sig .tc .vmem S1x6144 .f32) (harg4 : arg4.IsWhole) (arg5 : Memref sig .tc .vmem S4x1024 .f32) (harg5 : arg5.IsWhole) (arg6 : Memref sig .tc .vmem S1024x1024 .bf16) (harg6 : arg6.IsWhole) (arg7 : Memref sig .tc .vmem S4x1024x1024 .bf16) (harg7 : arg7.IsWhole) (arg8 : Memref sig .tc .vmem S4x1024x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x4096 .bf16) (harg11 : arg11.IsWhole) (arg12 : Memref sig .tc .vmem S256x4096 .bf16) (harg12 : arg12.IsWhole) (arg13 : Memref sig .tc .vmem S256x1024 .bf16) (harg13 : arg13.IsWhole) (arg14 : Memref sig .tc .vmem S256x1024 .bf16) (harg14 : arg14.IsWhole) (arg15 : Memref sig .tc .vmem S256x1024 .bf16) (harg15 : arg15.IsWhole) (arg16 : Memref sig .tc .vmem S16x1024 .f32) (harg16 : arg16.IsWhole) (arg17 : Memref sig .tc .vmem S256x4096 .f32) (harg17 : arg17.IsWhole) (hc0 : cond0_0 i)
    (x0 : Vec Ideal S256x1024 .f32) (x1 : Vec Ideal S256x1024 .bf16) (x2 : Vec Ideal S256x1024 .f32) (x3 : Vec Ideal S1x6144 .f32) (x4 : Vec Ideal S4x1024 .f32) (x5 : Vec Ideal S1024x1024 .bf16) (x6 : Vec Ideal S4x1024x1024 .bf16) (x7 : Vec Ideal S4x1024x1024 .bf16)
    {A : Args} {R : Fin 256 → Fin 8192} (H : In A R x0 x1 x2 x3 x4 x5 x6 x7) :
    IsR (out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7) (fun a => dm A (R a)) := by
  unfold out0_A_14; rw [View.read_writes_junk_eq_canon]
  unfold kernelRun0_A; dsimp only
  sl_unfold_words
  simp only [View.readAt_eq_ld, harg1.read_unread, harg2.read_unread, harg3.read_unread, harg4.read_unread, harg5.read_unread, harg6.read_unread, harg7.read_unread, harg8.read_unread]
  apply AtB.whole
  repeat' with_reducible (first
    | exact H.l0 _
    | exact H.l1 _
    | exact H.l2 _
    | exact H.l5 _
    | exact H.l_g1 _
    | exact H.l_sh2 _
    | exact H.l_sc2 _
    | exact H.l_g2 _
    | exact H.l_l1w _
    | exact H.l_l1b _
    | exact H.l_l2w _
    | exact H.l_l2b _
    | exact H.l_w10 _
    | exact H.l_w11 _
    | exact H.l_w12 _
    | exact H.l_w13 _
    | exact H.l_w20 _
    | exact H.l_w21 _
    | exact H.l_w22 _
    | exact H.l_w23 _
    | apply pay4 A R
    | apply pay5 A R
    | apply pay6 A R
    | apply pay7 A R
    | apply pay8 A R
    | apply pay9 A
    | apply pay10 A R
    | apply pay11 A R
    | apply pay12 A R
    | apply pay13 A R
    | apply pay14 A R
    | apply pay15
    | apply pay16 A R
    | apply pay17 A R
    | apply pay18 A R
    | apply pay19 A R
    | apply pay20 A R
    | apply pay21 A R
    | apply pay24 A R
    | apply pay25 A R
    | apply pay28 A R
    | apply pay29 A R
    | apply pay22 A R
    | apply pay26 A R
    | apply pay27 A R
    | apply pay30 A R
    | apply pay23 A R
    | apply pay31 A R
    | apply pay32 A R
    | apply pay33 A R
    | apply pay34 A R
    | apply pay35 A R
    | apply pay36 A R
    | apply pay37 A R
    | apply pay38 A R
    | apply pay39 A R
    | apply pay40 A R
    | apply pay41 A R
    | apply pay42 A R
    | apply pay43 A R
    | apply pay44 A R
    | apply pay46 A R
    | apply pay47 A R
    | apply pay45 A R
    | apply pay48 A R
    | apply pay49 A R
    | apply pay50 A R
    | apply pay51 A R
    | apply pay52 A R
    | apply pay53 A R
    | apply pay54 A R
    | apply pay55 A R
    | apply pay56 A R
    | apply pay1 A R
    | apply pay2 A R
    | apply pay3
    | apply AtF.load
    | apply AtF.hit
    | apply AtB.hit
    | apply AtF.miss (by decide)
    | apply AtB.miss (by decide)
    | apply AtF.const)

end Cert.Ker
-- ==== Proof.KerTileB.lean ====
/- What a later point of the grid stores in its seven tiles of results. -/
module

public import proofs.«01_k».proof.Proof.Gen.KernelIdeal.Value
public import proofs.«01_k».proof.Proof.KerLd

@[expose] public section

set_option maxRecDepth 16384

set_option maxHeartbeats 4000000

noncomputable section

namespace Cert.Ker

open Cert.KernelIdeal Cert.KernelIdeal.Gen Cert.Coe Cert.Step Idealize.ShloMosaic Idealize.ShloMosaic.TcCoe Idealize.ShloMosaic.Tactic Idealize.SL.Sem
open Idealize.ShloMosaic.ValueIdx

theorem tileB_8 (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S256x1024 .f32) (harg3 : arg3.IsWhole) (arg4 : Memref sig .tc .vmem S1x6144 .f32) (harg4 : arg4.IsWhole) (arg5 : Memref sig .tc .vmem S4x1024 .f32) (harg5 : arg5.IsWhole) (arg6 : Memref sig .tc .vmem S1024x1024 .bf16) (harg6 : arg6.IsWhole) (arg7 : Memref sig .tc .vmem S4x1024x1024 .bf16) (harg7 : arg7.IsWhole) (arg8 : Memref sig .tc .vmem S4x1024x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x4096 .bf16) (harg11 : arg11.IsWhole) (arg12 : Memref sig .tc .vmem S256x4096 .bf16) (harg12 : arg12.IsWhole) (arg13 : Memref sig .tc .vmem S256x1024 .bf16) (harg13 : arg13.IsWhole) (arg14 : Memref sig .tc .vmem S256x1024 .bf16) (harg14 : arg14.IsWhole) (arg15 : Memref sig .tc .vmem S256x1024 .bf16) (harg15 : arg15.IsWhole) (arg16 : Memref sig .tc .vmem S16x1024 .f32) (harg16 : arg16.IsWhole) (arg17 : Memref sig .tc .vmem S256x4096 .f32) (harg17 : arg17.IsWhole) (hc0 : ¬cond0_0 i)
    (x0 : Vec Ideal S256x1024 .f32) (x1 : Vec Ideal S256x1024 .bf16) (x2 : Vec Ideal S256x1024 .f32) (x3 : Vec Ideal S1x6144 .f32) (x4 : Vec Ideal S4x1024 .f32) (x5 : Vec Ideal S1024x1024 .bf16) (x6 : Vec Ideal S4x1024x1024 .bf16) (x7 : Vec Ideal S4x1024x1024 .bf16) (xo15 : Vec Ideal S16x1024 .f32)
    {A : Args} {R : Fin 256 → Fin 8192} (H : In A R x0 x1 x2 x3 x4 x5 x6 x7) :
    IsR (out0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo15) (fun a => dmx A (R a)) := by
  unfold out0_B_8; rw [View.read_writes_junk_eq_canon]
  unfold kernelRun0_B; dsimp only
  sl_unfold_words
  simp only [View.readAt_eq_ld, harg1.read_unread, harg2.read_unread, harg3.read_unread, harg4.read_unread, harg5.read_unread, harg6.read_unread, harg7.read_unread, harg8.read_unread]
  apply AtF.whole
  repeat' with_reducible (first
    | exact H.l0 _
    | exact H.l1 _
    | exact H.l2 _
    | exact H.l5 _
    | exact H.l_g1 _
    | exact H.l_sh2 _
    | exact H.l_sc2 _
    | exact H.l_g2 _
    | exact H.l_l1w _
    | exact H.l_l1b _
    | exact H.l_l2w _
    | exact H.l_l2b _
    | exact H.l_w10 _
    | exact H.l_w11 _
    | exact H.l_w12 _
    | exact H.l_w13 _
    | exact H.l_w20 _
    | exact H.l_w21 _
    | exact H.l_w22 _
    | exact H.l_w23 _
    | apply pay4 A R
    | apply pay5 A R
    | apply pay6 A R
    | apply pay7 A R
    | apply pay8 A R
    | apply pay9 A
    | apply pay10 A R
    | apply pay11 A R
    | apply pay12 A R
    | apply pay13 A R
    | apply pay14 A R
    | apply pay15
    | apply pay16 A R
    | apply pay17 A R
    | apply pay18 A R
    | apply pay19 A R
    | apply pay20 A R
    | apply pay21 A R
    | apply pay24 A R
    | apply pay25 A R
    | apply pay28 A R
    | apply pay29 A R
    | apply pay22 A R
    | apply pay26 A R
    | apply pay27 A R
    | apply pay30 A R
    | apply pay23 A R
    | apply pay31 A R
    | apply pay32 A R
    | apply pay33 A R
    | apply pay34 A R
    | apply pay35 A R
    | apply pay36 A R
    | apply pay37 A R
    | apply pay38 A R
    | apply pay39 A R
    | apply pay40 A R
    | apply pay41 A R
    | apply pay42 A R
    | apply pay43 A R
    | apply pay44 A R
    | apply pay46 A R
    | apply pay47 A R
    | apply pay45 A R
    | apply pay48 A R
    | apply pay49 A R
    | apply pay50 A R
    | apply pay51 A R
    | apply pay52 A R
    | apply pay53 A R
    | apply pay54 A R
    | apply pay55 A R
    | apply pay56 A R
    | apply pay1 A R
    | apply pay2 A R
    | apply pay3
    | apply AtF.load
    | apply AtF.hit
    | apply AtB.hit
    | apply AtF.miss (by decide)
    | apply AtB.miss (by decide)
    | apply AtF.const)

theorem tileB_9 (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S256x1024 .f32) (harg3 : arg3.IsWhole) (arg4 : Memref sig .tc .vmem S1x6144 .f32) (harg4 : arg4.IsWhole) (arg5 : Memref sig .tc .vmem S4x1024 .f32) (harg5 : arg5.IsWhole) (arg6 : Memref sig .tc .vmem S1024x1024 .bf16) (harg6 : arg6.IsWhole) (arg7 : Memref sig .tc .vmem S4x1024x1024 .bf16) (harg7 : arg7.IsWhole) (arg8 : Memref sig .tc .vmem S4x1024x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x4096 .bf16) (harg11 : arg11.IsWhole) (arg12 : Memref sig .tc .vmem S256x4096 .bf16) (harg12 : arg12.IsWhole) (arg13 : Memref sig .tc .vmem S256x1024 .bf16) (harg13 : arg13.IsWhole) (arg14 : Memref sig .tc .vmem S256x1024 .bf16) (harg14 : arg14.IsWhole) (arg15 : Memref sig .tc .vmem S256x1024 .bf16) (harg15 : arg15.IsWhole) (arg16 : Memref sig .tc .vmem S16x1024 .f32) (harg16 : arg16.IsWhole) (arg17 : Memref sig .tc .vmem S256x4096 .f32) (harg17 : arg17.IsWhole) (hc0 : ¬cond0_0 i)
    (x0 : Vec Ideal S256x1024 .f32) (x1 : Vec Ideal S256x1024 .bf16) (x2 : Vec Ideal S256x1024 .f32) (x3 : Vec Ideal S1x6144 .f32) (x4 : Vec Ideal S4x1024 .f32) (x5 : Vec Ideal S1024x1024 .bf16) (x6 : Vec Ideal S4x1024x1024 .bf16) (x7 : Vec Ideal S4x1024x1024 .bf16) (xo15 : Vec Ideal S16x1024 .f32)
    {A : Args} {R : Fin 256 → Fin 8192} (H : In A R x0 x1 x2 x3 x4 x5 x6 x7) :
    IsR (out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo15) (fun a => dxa A (R a)) := by
  unfold out0_B_9; rw [View.read_writes_junk_eq_canon]
  unfold kernelRun0_B; dsimp only
  sl_unfold_words
  simp only [View.readAt_eq_ld, harg1.read_unread, harg2.read_unread, harg3.read_unread, harg4.read_unread, harg5.read_unread, harg6.read_unread, harg7.read_unread, harg8.read_unread]
  apply AtF.whole
  repeat' with_reducible (first
    | exact H.l0 _
    | exact H.l1 _
    | exact H.l2 _
    | exact H.l5 _
    | exact H.l_g1 _
    | exact H.l_sh2 _
    | exact H.l_sc2 _
    | exact H.l_g2 _
    | exact H.l_l1w _
    | exact H.l_l1b _
    | exact H.l_l2w _
    | exact H.l_l2b _
    | exact H.l_w10 _
    | exact H.l_w11 _
    | exact H.l_w12 _
    | exact H.l_w13 _
    | exact H.l_w20 _
    | exact H.l_w21 _
    | exact H.l_w22 _
    | exact H.l_w23 _
    | apply pay4 A R
    | apply pay5 A R
    | apply pay6 A R
    | apply pay7 A R
    | apply pay8 A R
    | apply pay9 A
    | apply pay10 A R
    | apply pay11 A R
    | apply pay12 A R
    | apply pay13 A R
    | apply pay14 A R
    | apply pay15
    | apply pay16 A R
    | apply pay17 A R
    | apply pay18 A R
    | apply pay19 A R
    | apply pay20 A R
    | apply pay21 A R
    | apply pay24 A R
    | apply pay25 A R
    | apply pay28 A R
    | apply pay29 A R
    | apply pay22 A R
    | apply pay26 A R
    | apply pay27 A R
    | apply pay30 A R
    | apply pay23 A R
    | apply pay31 A R
    | apply pay32 A R
    | apply pay33 A R
    | apply pay34 A R
    | apply pay35 A R
    | apply pay36 A R
    | apply pay37 A R
    | apply pay38 A R
    | apply pay39 A R
    | apply pay40 A R
    | apply pay41 A R
    | apply pay42 A R
    | apply pay43 A R
    | apply pay44 A R
    | apply pay46 A R
    | apply pay47 A R
    | apply pay45 A R
    | apply pay48 A R
    | apply pay49 A R
    | apply pay50 A R
    | apply pay51 A R
    | apply pay52 A R
    | apply pay53 A R
    | apply pay54 A R
    | apply pay55 A R
    | apply pay56 A R
    | apply pay1 A R
    | apply pay2 A R
    | apply pay3
    | apply AtF.load
    | apply AtF.hit
    | apply AtB.hit
    | apply AtF.miss (by decide)
    | apply AtB.miss (by decide)
    | apply AtF.const)

theorem tileB_10 (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S256x1024 .f32) (harg3 : arg3.IsWhole) (arg4 : Memref sig .tc .vmem S1x6144 .f32) (harg4 : arg4.IsWhole) (arg5 : Memref sig .tc .vmem S4x1024 .f32) (harg5 : arg5.IsWhole) (arg6 : Memref sig .tc .vmem S1024x1024 .bf16) (harg6 : arg6.IsWhole) (arg7 : Memref sig .tc .vmem S4x1024x1024 .bf16) (harg7 : arg7.IsWhole) (arg8 : Memref sig .tc .vmem S4x1024x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x4096 .bf16) (harg11 : arg11.IsWhole) (arg12 : Memref sig .tc .vmem S256x4096 .bf16) (harg12 : arg12.IsWhole) (arg13 : Memref sig .tc .vmem S256x1024 .bf16) (harg13 : arg13.IsWhole) (arg14 : Memref sig .tc .vmem S256x1024 .bf16) (harg14 : arg14.IsWhole) (arg15 : Memref sig .tc .vmem S256x1024 .bf16) (harg15 : arg15.IsWhole) (arg16 : Memref sig .tc .vmem S16x1024 .f32) (harg16 : arg16.IsWhole) (arg17 : Memref sig .tc .vmem S256x4096 .f32) (harg17 : arg17.IsWhole) (hc0 : ¬cond0_0 i)
    (x0 : Vec Ideal S256x1024 .f32) (x1 : Vec Ideal S256x1024 .bf16) (x2 : Vec Ideal S256x1024 .f32) (x3 : Vec Ideal S1x6144 .f32) (x4 : Vec Ideal S4x1024 .f32) (x5 : Vec Ideal S1024x1024 .bf16) (x6 : Vec Ideal S4x1024x1024 .bf16) (x7 : Vec Ideal S4x1024x1024 .bf16) (xo15 : Vec Ideal S16x1024 .f32)
    {A : Args} {R : Fin 256 → Fin 8192} (H : In A R x0 x1 x2 x3 x4 x5 x6 x7) :
    IsR (n := 256) (m := 4096) (out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo15) (fun a b => act A (R a) ⟨b.val / 1024, by omega⟩ ⟨b.val % 1024, by omega⟩) := by
  unfold out0_B_10; rw [View.read_writes_junk_eq_canon]
  unfold kernelRun0_B; dsimp only
  sl_unfold_words
  simp only [View.readAt_eq_ld, harg1.read_unread, harg2.read_unread, harg3.read_unread, harg4.read_unread, harg5.read_unread, harg6.read_unread, harg7.read_unread, harg8.read_unread]
  refine AtB.four (f := fun c a => act A (R a) c) ?_ ?_ ?_ ?_
  all_goals repeat' with_reducible (first
    | exact H.l0 _
    | exact H.l1 _
    | exact H.l2 _
    | exact H.l5 _
    | exact H.l_g1 _
    | exact H.l_sh2 _
    | exact H.l_sc2 _
    | exact H.l_g2 _
    | exact H.l_l1w _
    | exact H.l_l1b _
    | exact H.l_l2w _
    | exact H.l_l2b _
    | exact H.l_w10 _
    | exact H.l_w11 _
    | exact H.l_w12 _
    | exact H.l_w13 _
    | exact H.l_w20 _
    | exact H.l_w21 _
    | exact H.l_w22 _
    | exact H.l_w23 _
    | apply pay4 A R
    | apply pay5 A R
    | apply pay6 A R
    | apply pay7 A R
    | apply pay8 A R
    | apply pay9 A
    | apply pay10 A R
    | apply pay11 A R
    | apply pay12 A R
    | apply pay13 A R
    | apply pay14 A R
    | apply pay15
    | apply pay16 A R
    | apply pay17 A R
    | apply pay18 A R
    | apply pay19 A R
    | apply pay20 A R
    | apply pay21 A R
    | apply pay24 A R
    | apply pay25 A R
    | apply pay28 A R
    | apply pay29 A R
    | apply pay22 A R
    | apply pay26 A R
    | apply pay27 A R
    | apply pay30 A R
    | apply pay23 A R
    | apply pay31 A R
    | apply pay32 A R
    | apply pay33 A R
    | apply pay34 A R
    | apply pay35 A R
    | apply pay36 A R
    | apply pay37 A R
    | apply pay38 A R
    | apply pay39 A R
    | apply pay40 A R
    | apply pay41 A R
    | apply pay42 A R
    | apply pay43 A R
    | apply pay44 A R
    | apply pay46 A R
    | apply pay47 A R
    | apply pay45 A R
    | apply pay48 A R
    | apply pay49 A R
    | apply pay50 A R
    | apply pay51 A R
    | apply pay52 A R
    | apply pay53 A R
    | apply pay54 A R
    | apply pay55 A R
    | apply pay56 A R
    | apply pay1 A R
    | apply pay2 A R
    | apply pay3
    | apply AtF.load
    | apply AtF.hit
    | apply AtB.hit
    | apply AtF.miss (by decide)
    | apply AtB.miss (by decide)
    | apply AtF.const)

theorem tileB_11 (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S256x1024 .f32) (harg3 : arg3.IsWhole) (arg4 : Memref sig .tc .vmem S1x6144 .f32) (harg4 : arg4.IsWhole) (arg5 : Memref sig .tc .vmem S4x1024 .f32) (harg5 : arg5.IsWhole) (arg6 : Memref sig .tc .vmem S1024x1024 .bf16) (harg6 : arg6.IsWhole) (arg7 : Memref sig .tc .vmem S4x1024x1024 .bf16) (harg7 : arg7.IsWhole) (arg8 : Memref sig .tc .vmem S4x1024x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x4096 .bf16) (harg11 : arg11.IsWhole) (arg12 : Memref sig .tc .vmem S256x4096 .bf16) (harg12 : arg12.IsWhole) (arg13 : Memref sig .tc .vmem S256x1024 .bf16) (harg13 : arg13.IsWhole) (arg14 : Memref sig .tc .vmem S256x1024 .bf16) (harg14 : arg14.IsWhole) (arg15 : Memref sig .tc .vmem S256x1024 .bf16) (harg15 : arg15.IsWhole) (arg16 : Memref sig .tc .vmem S16x1024 .f32) (harg16 : arg16.IsWhole) (arg17 : Memref sig .tc .vmem S256x4096 .f32) (harg17 : arg17.IsWhole) (hc0 : ¬cond0_0 i)
    (x0 : Vec Ideal S256x1024 .f32) (x1 : Vec Ideal S256x1024 .bf16) (x2 : Vec Ideal S256x1024 .f32) (x3 : Vec Ideal S1x6144 .f32) (x4 : Vec Ideal S4x1024 .f32) (x5 : Vec Ideal S1024x1024 .bf16) (x6 : Vec Ideal S4x1024x1024 .bf16) (x7 : Vec Ideal S4x1024x1024 .bf16) (xo15 : Vec Ideal S16x1024 .f32)
    {A : Args} {R : Fin 256 → Fin 8192} (H : In A R x0 x1 x2 x3 x4 x5 x6 x7) :
    IsR (n := 256) (m := 4096) (out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo15) (fun a b => dh A (R a) ⟨b.val / 1024, by omega⟩ ⟨b.val % 1024, by omega⟩) := by
  unfold out0_B_11; rw [View.read_writes_junk_eq_canon]
  unfold kernelRun0_B; dsimp only
  sl_unfold_words
  simp only [View.readAt_eq_ld, harg1.read_unread, harg2.read_unread, harg3.read_unread, harg4.read_unread, harg5.read_unread, harg6.read_unread, harg7.read_unread, harg8.read_unread]
  refine AtB.four (f := fun c a => dh A (R a) c) ?_ ?_ ?_ ?_
  all_goals repeat' with_reducible (first
    | exact H.l0 _
    | exact H.l1 _
    | exact H.l2 _
    | exact H.l5 _
    | exact H.l_g1 _
    | exact H.l_sh2 _
    | exact H.l_sc2 _
    | exact H.l_g2 _
    | exact H.l_l1w _
    | exact H.l_l1b _
    | exact H.l_l2w _
    | exact H.l_l2b _
    | exact H.l_w10 _
    | exact H.l_w11 _
    | exact H.l_w12 _
    | exact H.l_w13 _
    | exact H.l_w20 _
    | exact H.l_w21 _
    | exact H.l_w22 _
    | exact H.l_w23 _
    | apply pay4 A R
    | apply pay5 A R
    | apply pay6 A R
    | apply pay7 A R
    | apply pay8 A R
    | apply pay9 A
    | apply pay10 A R
    | apply pay11 A R
    | apply pay12 A R
    | apply pay13 A R
    | apply pay14 A R
    | apply pay15
    | apply pay16 A R
    | apply pay17 A R
    | apply pay18 A R
    | apply pay19 A R
    | apply pay20 A R
    | apply pay21 A R
    | apply pay24 A R
    | apply pay25 A R
    | apply pay28 A R
    | apply pay29 A R
    | apply pay22 A R
    | apply pay26 A R
    | apply pay27 A R
    | apply pay30 A R
    | apply pay23 A R
    | apply pay31 A R
    | apply pay32 A R
    | apply pay33 A R
    | apply pay34 A R
    | apply pay35 A R
    | apply pay36 A R
    | apply pay37 A R
    | apply pay38 A R
    | apply pay39 A R
    | apply pay40 A R
    | apply pay41 A R
    | apply pay42 A R
    | apply pay43 A R
    | apply pay44 A R
    | apply pay46 A R
    | apply pay47 A R
    | apply pay45 A R
    | apply pay48 A R
    | apply pay49 A R
    | apply pay50 A R
    | apply pay51 A R
    | apply pay52 A R
    | apply pay53 A R
    | apply pay54 A R
    | apply pay55 A R
    | apply pay56 A R
    | apply pay1 A R
    | apply pay2 A R
    | apply pay3
    | apply AtF.load
    | apply AtF.hit
    | apply AtB.hit
    | apply AtF.miss (by decide)
    | apply AtB.miss (by decide)
    | apply AtF.const)

theorem tileB_12 (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S256x1024 .f32) (harg3 : arg3.IsWhole) (arg4 : Memref sig .tc .vmem S1x6144 .f32) (harg4 : arg4.IsWhole) (arg5 : Memref sig .tc .vmem S4x1024 .f32) (harg5 : arg5.IsWhole) (arg6 : Memref sig .tc .vmem S1024x1024 .bf16) (harg6 : arg6.IsWhole) (arg7 : Memref sig .tc .vmem S4x1024x1024 .bf16) (harg7 : arg7.IsWhole) (arg8 : Memref sig .tc .vmem S4x1024x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x4096 .bf16) (harg11 : arg11.IsWhole) (arg12 : Memref sig .tc .vmem S256x4096 .bf16) (harg12 : arg12.IsWhole) (arg13 : Memref sig .tc .vmem S256x1024 .bf16) (harg13 : arg13.IsWhole) (arg14 : Memref sig .tc .vmem S256x1024 .bf16) (harg14 : arg14.IsWhole) (arg15 : Memref sig .tc .vmem S256x1024 .bf16) (harg15 : arg15.IsWhole) (arg16 : Memref sig .tc .vmem S16x1024 .f32) (harg16 : arg16.IsWhole) (arg17 : Memref sig .tc .vmem S256x4096 .f32) (harg17 : arg17.IsWhole) (hc0 : ¬cond0_0 i)
    (x0 : Vec Ideal S256x1024 .f32) (x1 : Vec Ideal S256x1024 .bf16) (x2 : Vec Ideal S256x1024 .f32) (x3 : Vec Ideal S1x6144 .f32) (x4 : Vec Ideal S4x1024 .f32) (x5 : Vec Ideal S1024x1024 .bf16) (x6 : Vec Ideal S4x1024x1024 .bf16) (x7 : Vec Ideal S4x1024x1024 .bf16) (xo15 : Vec Ideal S16x1024 .f32)
    {A : Args} {R : Fin 256 → Fin 8192} (H : In A R x0 x1 x2 x3 x4 x5 x6 x7) :
    IsR (out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo15) (fun a => u2 A (R a)) := by
  unfold out0_B_12; rw [View.read_writes_junk_eq_canon]
  unfold kernelRun0_B; dsimp only
  sl_unfold_words
  simp only [View.readAt_eq_ld, harg1.read_unread, harg2.read_unread, harg3.read_unread, harg4.read_unread, harg5.read_unread, harg6.read_unread, harg7.read_unread, harg8.read_unread]
  apply AtB.whole
  repeat' with_reducible (first
    | exact H.l0 _
    | exact H.l1 _
    | exact H.l2 _
    | exact H.l5 _
    | exact H.l_g1 _
    | exact H.l_sh2 _
    | exact H.l_sc2 _
    | exact H.l_g2 _
    | exact H.l_l1w _
    | exact H.l_l1b _
    | exact H.l_l2w _
    | exact H.l_l2b _
    | exact H.l_w10 _
    | exact H.l_w11 _
    | exact H.l_w12 _
    | exact H.l_w13 _
    | exact H.l_w20 _
    | exact H.l_w21 _
    | exact H.l_w22 _
    | exact H.l_w23 _
    | apply pay4 A R
    | apply pay5 A R
    | apply pay6 A R
    | apply pay7 A R
    | apply pay8 A R
    | apply pay9 A
    | apply pay10 A R
    | apply pay11 A R
    | apply pay12 A R
    | apply pay13 A R
    | apply pay14 A R
    | apply pay15
    | apply pay16 A R
    | apply pay17 A R
    | apply pay18 A R
    | apply pay19 A R
    | apply pay20 A R
    | apply pay21 A R
    | apply pay24 A R
    | apply pay25 A R
    | apply pay28 A R
    | apply pay29 A R
    | apply pay22 A R
    | apply pay26 A R
    | apply pay27 A R
    | apply pay30 A R
    | apply pay23 A R
    | apply pay31 A R
    | apply pay32 A R
    | apply pay33 A R
    | apply pay34 A R
    | apply pay35 A R
    | apply pay36 A R
    | apply pay37 A R
    | apply pay38 A R
    | apply pay39 A R
    | apply pay40 A R
    | apply pay41 A R
    | apply pay42 A R
    | apply pay43 A R
    | apply pay44 A R
    | apply pay46 A R
    | apply pay47 A R
    | apply pay45 A R
    | apply pay48 A R
    | apply pay49 A R
    | apply pay50 A R
    | apply pay51 A R
    | apply pay52 A R
    | apply pay53 A R
    | apply pay54 A R
    | apply pay55 A R
    | apply pay56 A R
    | apply pay1 A R
    | apply pay2 A R
    | apply pay3
    | apply AtF.load
    | apply AtF.hit
    | apply AtB.hit
    | apply AtF.miss (by decide)
    | apply AtB.miss (by decide)
    | apply AtF.const)

theorem tileB_13 (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S256x1024 .f32) (harg3 : arg3.IsWhole) (arg4 : Memref sig .tc .vmem S1x6144 .f32) (harg4 : arg4.IsWhole) (arg5 : Memref sig .tc .vmem S4x1024 .f32) (harg5 : arg5.IsWhole) (arg6 : Memref sig .tc .vmem S1024x1024 .bf16) (harg6 : arg6.IsWhole) (arg7 : Memref sig .tc .vmem S4x1024x1024 .bf16) (harg7 : arg7.IsWhole) (arg8 : Memref sig .tc .vmem S4x1024x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x4096 .bf16) (harg11 : arg11.IsWhole) (arg12 : Memref sig .tc .vmem S256x4096 .bf16) (harg12 : arg12.IsWhole) (arg13 : Memref sig .tc .vmem S256x1024 .bf16) (harg13 : arg13.IsWhole) (arg14 : Memref sig .tc .vmem S256x1024 .bf16) (harg14 : arg14.IsWhole) (arg15 : Memref sig .tc .vmem S256x1024 .bf16) (harg15 : arg15.IsWhole) (arg16 : Memref sig .tc .vmem S16x1024 .f32) (harg16 : arg16.IsWhole) (arg17 : Memref sig .tc .vmem S256x4096 .f32) (harg17 : arg17.IsWhole) (hc0 : ¬cond0_0 i)
    (x0 : Vec Ideal S256x1024 .f32) (x1 : Vec Ideal S256x1024 .bf16) (x2 : Vec Ideal S256x1024 .f32) (x3 : Vec Ideal S1x6144 .f32) (x4 : Vec Ideal S4x1024 .f32) (x5 : Vec Ideal S1024x1024 .bf16) (x6 : Vec Ideal S4x1024x1024 .bf16) (x7 : Vec Ideal S4x1024x1024 .bf16) (xo15 : Vec Ideal S16x1024 .f32)
    {A : Args} {R : Fin 256 → Fin 8192} (H : In A R x0 x1 x2 x3 x4 x5 x6 x7) :
    IsR (out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo15) (fun a => df A (R a)) := by
  unfold out0_B_13; rw [View.read_writes_junk_eq_canon]
  unfold kernelRun0_B; dsimp only
  sl_unfold_words
  simp only [View.readAt_eq_ld, harg1.read_unread, harg2.read_unread, harg3.read_unread, harg4.read_unread, harg5.read_unread, harg6.read_unread, harg7.read_unread, harg8.read_unread]
  apply AtB.whole
  repeat' with_reducible (first
    | exact H.l0 _
    | exact H.l1 _
    | exact H.l2 _
    | exact H.l5 _
    | exact H.l_g1 _
    | exact H.l_sh2 _
    | exact H.l_sc2 _
    | exact H.l_g2 _
    | exact H.l_l1w _
    | exact H.l_l1b _
    | exact H.l_l2w _
    | exact H.l_l2b _
    | exact H.l_w10 _
    | exact H.l_w11 _
    | exact H.l_w12 _
    | exact H.l_w13 _
    | exact H.l_w20 _
    | exact H.l_w21 _
    | exact H.l_w22 _
    | exact H.l_w23 _
    | apply pay4 A R
    | apply pay5 A R
    | apply pay6 A R
    | apply pay7 A R
    | apply pay8 A R
    | apply pay9 A
    | apply pay10 A R
    | apply pay11 A R
    | apply pay12 A R
    | apply pay13 A R
    | apply pay14 A R
    | apply pay15
    | apply pay16 A R
    | apply pay17 A R
    | apply pay18 A R
    | apply pay19 A R
    | apply pay20 A R
    | apply pay21 A R
    | apply pay24 A R
    | apply pay25 A R
    | apply pay28 A R
    | apply pay29 A R
    | apply pay22 A R
    | apply pay26 A R
    | apply pay27 A R
    | apply pay30 A R
    | apply pay23 A R
    | apply pay31 A R
    | apply pay32 A R
    | apply pay33 A R
    | apply pay34 A R
    | apply pay35 A R
    | apply pay36 A R
    | apply pay37 A R
    | apply pay38 A R
    | apply pay39 A R
    | apply pay40 A R
    | apply pay41 A R
    | apply pay42 A R
    | apply pay43 A R
    | apply pay44 A R
    | apply pay46 A R
    | apply pay47 A R
    | apply pay45 A R
    | apply pay48 A R
    | apply pay49 A R
    | apply pay50 A R
    | apply pay51 A R
    | apply pay52 A R
    | apply pay53 A R
    | apply pay54 A R
    | apply pay55 A R
    | apply pay56 A R
    | apply pay1 A R
    | apply pay2 A R
    | apply pay3
    | apply AtF.load
    | apply AtF.hit
    | apply AtB.hit
    | apply AtF.miss (by decide)
    | apply AtB.miss (by decide)
    | apply AtF.const)

theorem tileB_14 (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S256x1024 .f32) (harg3 : arg3.IsWhole) (arg4 : Memref sig .tc .vmem S1x6144 .f32) (harg4 : arg4.IsWhole) (arg5 : Memref sig .tc .vmem S4x1024 .f32) (harg5 : arg5.IsWhole) (arg6 : Memref sig .tc .vmem S1024x1024 .bf16) (harg6 : arg6.IsWhole) (arg7 : Memref sig .tc .vmem S4x1024x1024 .bf16) (harg7 : arg7.IsWhole) (arg8 : Memref sig .tc .vmem S4x1024x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x4096 .bf16) (harg11 : arg11.IsWhole) (arg12 : Memref sig .tc .vmem S256x4096 .bf16) (harg12 : arg12.IsWhole) (arg13 : Memref sig .tc .vmem S256x1024 .bf16) (harg13 : arg13.IsWhole) (arg14 : Memref sig .tc .vmem S256x1024 .bf16) (harg14 : arg14.IsWhole) (arg15 : Memref sig .tc .vmem S256x1024 .bf16) (harg15 : arg15.IsWhole) (arg16 : Memref sig .tc .vmem S16x1024 .f32) (harg16 : arg16.IsWhole) (arg17 : Memref sig .tc .vmem S256x4096 .f32) (harg17 : arg17.IsWhole) (hc0 : ¬cond0_0 i)
    (x0 : Vec Ideal S256x1024 .f32) (x1 : Vec Ideal S256x1024 .bf16) (x2 : Vec Ideal S256x1024 .f32) (x3 : Vec Ideal S1x6144 .f32) (x4 : Vec Ideal S4x1024 .f32) (x5 : Vec Ideal S1024x1024 .bf16) (x6 : Vec Ideal S4x1024x1024 .bf16) (x7 : Vec Ideal S4x1024x1024 .bf16) (xo15 : Vec Ideal S16x1024 .f32)
    {A : Args} {R : Fin 256 → Fin 8192} (H : In A R x0 x1 x2 x3 x4 x5 x6 x7) :
    IsR (out0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo15) (fun a => dm A (R a)) := by
  unfold out0_B_14; rw [View.read_writes_junk_eq_canon]
  unfold kernelRun0_B; dsimp only
  sl_unfold_words
  simp only [View.readAt_eq_ld, harg1.read_unread, harg2.read_unread, harg3.read_unread, harg4.read_unread, harg5.read_unread, harg6.read_unread, harg7.read_unread, harg8.read_unread]
  apply AtB.whole
  repeat' with_reducible (first
    | exact H.l0 _
    | exact H.l1 _
    | exact H.l2 _
    | exact H.l5 _
    | exact H.l_g1 _
    | exact H.l_sh2 _
    | exact H.l_sc2 _
    | exact H.l_g2 _
    | exact H.l_l1w _
    | exact H.l_l1b _
    | exact H.l_l2w _
    | exact H.l_l2b _
    | exact H.l_w10 _
    | exact H.l_w11 _
    | exact H.l_w12 _
    | exact H.l_w13 _
    | exact H.l_w20 _
    | exact H.l_w21 _
    | exact H.l_w22 _
    | exact H.l_w23 _
    | apply pay4 A R
    | apply pay5 A R
    | apply pay6 A R
    | apply pay7 A R
    | apply pay8 A R
    | apply pay9 A
    | apply pay10 A R
    | apply pay11 A R
    | apply pay12 A R
    | apply pay13 A R
    | apply pay14 A R
    | apply pay15
    | apply pay16 A R
    | apply pay17 A R
    | apply pay18 A R
    | apply pay19 A R
    | apply pay20 A R
    | apply pay21 A R
    | apply pay24 A R
    | apply pay25 A R
    | apply pay28 A R
    | apply pay29 A R
    | apply pay22 A R
    | apply pay26 A R
    | apply pay27 A R
    | apply pay30 A R
    | apply pay23 A R
    | apply pay31 A R
    | apply pay32 A R
    | apply pay33 A R
    | apply pay34 A R
    | apply pay35 A R
    | apply pay36 A R
    | apply pay37 A R
    | apply pay38 A R
    | apply pay39 A R
    | apply pay40 A R
    | apply pay41 A R
    | apply pay42 A R
    | apply pay43 A R
    | apply pay44 A R
    | apply pay46 A R
    | apply pay47 A R
    | apply pay45 A R
    | apply pay48 A R
    | apply pay49 A R
    | apply pay50 A R
    | apply pay51 A R
    | apply pay52 A R
    | apply pay53 A R
    | apply pay54 A R
    | apply pay55 A R
    | apply pay56 A R
    | apply pay1 A R
    | apply pay2 A R
    | apply pay3
    | apply AtF.load
    | apply AtF.hit
    | apply AtB.hit
    | apply AtF.miss (by decide)
    | apply AtB.miss (by decide)
    | apply AtF.const)

end Cert.Ker
-- ==== Proof.KerSumA.lean ====
/- What the first point of the grid stores in the rows of sums. -/
module

public import proofs.«01_k».proof.Proof.Gen.KernelIdeal.Value
public import proofs.«01_k».proof.Proof.KerLd

@[expose] public section

set_option maxRecDepth 16384

set_option maxHeartbeats 4000000

noncomputable section

namespace Cert.Ker

open Cert.KernelIdeal Cert.KernelIdeal.Gen Cert.Coe Cert.Step Idealize.ShloMosaic Idealize.ShloMosaic.TcCoe Idealize.ShloMosaic.Tactic Idealize.SL.Sem
open Idealize.ShloMosaic.ValueIdx

theorem tileA_15 (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S256x1024 .f32) (harg3 : arg3.IsWhole) (arg4 : Memref sig .tc .vmem S1x6144 .f32) (harg4 : arg4.IsWhole) (arg5 : Memref sig .tc .vmem S4x1024 .f32) (harg5 : arg5.IsWhole) (arg6 : Memref sig .tc .vmem S1024x1024 .bf16) (harg6 : arg6.IsWhole) (arg7 : Memref sig .tc .vmem S4x1024x1024 .bf16) (harg7 : arg7.IsWhole) (arg8 : Memref sig .tc .vmem S4x1024x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x4096 .bf16) (harg11 : arg11.IsWhole) (arg12 : Memref sig .tc .vmem S256x4096 .bf16) (harg12 : arg12.IsWhole) (arg13 : Memref sig .tc .vmem S256x1024 .bf16) (harg13 : arg13.IsWhole) (arg14 : Memref sig .tc .vmem S256x1024 .bf16) (harg14 : arg14.IsWhole) (arg15 : Memref sig .tc .vmem S256x1024 .bf16) (harg15 : arg15.IsWhole) (arg16 : Memref sig .tc .vmem S16x1024 .f32) (harg16 : arg16.IsWhole) (arg17 : Memref sig .tc .vmem S256x4096 .f32) (harg17 : arg17.IsWhole) (hc0 : cond0_0 i)
    (x0 : Vec Ideal S256x1024 .f32) (x1 : Vec Ideal S256x1024 .bf16) (x2 : Vec Ideal S256x1024 .f32) (x3 : Vec Ideal S1x6144 .f32) (x4 : Vec Ideal S4x1024 .f32) (x5 : Vec Ideal S1024x1024 .bf16) (x6 : Vec Ideal S4x1024x1024 .bf16) (x7 : Vec Ideal S4x1024x1024 .bf16)
    {A : Args} {R : Fin 256 → Fin 8192} (H : In A R x0 x1 x2 x3 x4 x5 x6 x7) :
    IsR (out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7) (fun p b => 0 + ∑ a, term A (R a) p b) := by
  unfold out0_A_15
  rw [View.read_writes_junk_eq_canon]
  unfold kernelRun0_A; dsimp only
  sl_unfold_words
  simp only [View.readAt_eq_ld, harg1.read_unread, harg2.read_unread, harg3.read_unread, harg4.read_unread, harg5.read_unread, harg6.read_unread, harg7.read_unread, harg8.read_unread]
  refine AtF.rows (A := A) (R := R) (s := fun _ _ => 0) ?_ ?_ ?_ ?_ ?_ ?_ ?_ ?_ ?_ ?_ ?_ ?_ ?_ ?_ ?_ ?_
  all_goals repeat' with_reducible (first
    | exact H.l0 _
    | exact H.l1 _
    | exact H.l2 _
    | exact H.l5 _
    | exact H.l_g1 _
    | exact H.l_sh2 _
    | exact H.l_sc2 _
    | exact H.l_g2 _
    | exact H.l_l1w _
    | exact H.l_l1b _
    | exact H.l_l2w _
    | exact H.l_l2b _
    | exact H.l_w10 _
    | exact H.l_w11 _
    | exact H.l_w12 _
    | exact H.l_w13 _
    | exact H.l_w20 _
    | exact H.l_w21 _
    | exact H.l_w22 _
    | exact H.l_w23 _
    | apply pay4 A R
    | apply pay5 A R
    | apply pay6 A R
    | apply pay7 A R
    | apply pay8 A R
    | apply pay9 A
    | apply pay10 A R
    | apply pay11 A R
    | apply pay12 A R
    | apply pay13 A R
    | apply pay14 A R
    | apply pay15
    | apply pay16 A R
    | apply pay17 A R
    | apply pay18 A R
    | apply pay19 A R
    | apply pay20 A R
    | apply pay21 A R
    | apply pay24 A R
    | apply pay25 A R
    | apply pay28 A R
    | apply pay29 A R
    | apply pay22 A R
    | apply pay26 A R
    | apply pay27 A R
    | apply pay30 A R
    | apply pay23 A R
    | apply pay31 A R
    | apply pay32 A R
    | apply pay33 A R
    | apply pay34 A R
    | apply pay35 A R
    | apply pay36 A R
    | apply pay37 A R
    | apply pay38 A R
    | apply pay39 A R
    | apply pay40 A R
    | apply pay41 A R
    | apply pay42 A R
    | apply pay43 A R
    | apply pay44 A R
    | apply pay46 A R
    | apply pay47 A R
    | apply pay45 A R
    | apply pay48 A R
    | apply pay49 A R
    | apply pay50 A R
    | apply pay51 A R
    | apply pay52 A R
    | apply pay53 A R
    | apply pay54 A R
    | apply pay55 A R
    | apply pay56 A R
    | apply pay1 A R
    | apply pay2 A R
    | apply pay3
    | apply AtF.load
    | apply AtF.hit
    | apply AtB.hit
    | apply AtF.miss (by decide)
    | apply AtB.miss (by decide)
    | apply AtF.const
    | apply pay3)

end Cert.Ker
-- ==== Proof.KerSumB.lean ====
/- What a later point of the grid stores in the rows of sums. -/
module

public import proofs.«01_k».proof.Proof.Gen.KernelIdeal.Value
public import proofs.«01_k».proof.Proof.KerLd

@[expose] public section

set_option maxRecDepth 16384

set_option maxHeartbeats 4000000

noncomputable section

namespace Cert.Ker

open Cert.KernelIdeal Cert.KernelIdeal.Gen Cert.Coe Cert.Step Idealize.ShloMosaic Idealize.ShloMosaic.TcCoe Idealize.ShloMosaic.Tactic Idealize.SL.Sem
open Idealize.ShloMosaic.ValueIdx

theorem tileB_15 (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S256x1024 .f32) (harg3 : arg3.IsWhole) (arg4 : Memref sig .tc .vmem S1x6144 .f32) (harg4 : arg4.IsWhole) (arg5 : Memref sig .tc .vmem S4x1024 .f32) (harg5 : arg5.IsWhole) (arg6 : Memref sig .tc .vmem S1024x1024 .bf16) (harg6 : arg6.IsWhole) (arg7 : Memref sig .tc .vmem S4x1024x1024 .bf16) (harg7 : arg7.IsWhole) (arg8 : Memref sig .tc .vmem S4x1024x1024 .bf16) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x4096 .bf16) (harg11 : arg11.IsWhole) (arg12 : Memref sig .tc .vmem S256x4096 .bf16) (harg12 : arg12.IsWhole) (arg13 : Memref sig .tc .vmem S256x1024 .bf16) (harg13 : arg13.IsWhole) (arg14 : Memref sig .tc .vmem S256x1024 .bf16) (harg14 : arg14.IsWhole) (arg15 : Memref sig .tc .vmem S256x1024 .bf16) (harg15 : arg15.IsWhole) (arg16 : Memref sig .tc .vmem S16x1024 .f32) (harg16 : arg16.IsWhole) (arg17 : Memref sig .tc .vmem S256x4096 .f32) (harg17 : arg17.IsWhole) (hc0 : ¬cond0_0 i)
    (x0 : Vec Ideal S256x1024 .f32) (x1 : Vec Ideal S256x1024 .bf16) (x2 : Vec Ideal S256x1024 .f32) (x3 : Vec Ideal S1x6144 .f32) (x4 : Vec Ideal S4x1024 .f32) (x5 : Vec Ideal S1024x1024 .bf16) (x6 : Vec Ideal S4x1024x1024 .bf16) (x7 : Vec Ideal S4x1024x1024 .bf16) (xo15 : Vec Ideal S16x1024 .f32)
    {A : Args} {R : Fin 256 → Fin 8192} {s : Fin 16 → Fin 1024 → ℝ} (hs : IsR (n := 16) (m := 1024) xo15 s) (H : In A R x0 x1 x2 x3 x4 x5 x6 x7) :
    IsR (out0_B_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 xo15) (fun p b => s p b + ∑ a, term A (R a) p b) := by
  unfold out0_B_15
  unfold kernelRun0_B; dsimp only
  sl_unfold_words
  simp only [View.readAt_eq_ld, harg1.read_unread, harg2.read_unread, harg3.read_unread, harg4.read_unread, harg5.read_unread, harg6.read_unread, harg7.read_unread, harg8.read_unread, harg16.read_unread]
  refine AtW.rows (A := A) (R := R) (s := s) ?_ ?_ ?_ ?_ ?_ ?_ ?_ ?_ ?_ ?_ ?_ ?_ ?_ ?_ ?_ ?_
  all_goals repeat' with_reducible (first
    | exact H.l0 _
    | exact H.l1 _
    | exact H.l2 _
    | exact H.l5 _
    | exact H.l_g1 _
    | exact H.l_sh2 _
    | exact H.l_sc2 _
    | exact H.l_g2 _
    | exact H.l_l1w _
    | exact H.l_l1b _
    | exact H.l_l2w _
    | exact H.l_l2b _
    | exact H.l_w10 _
    | exact H.l_w11 _
    | exact H.l_w12 _
    | exact H.l_w13 _
    | exact H.l_w20 _
    | exact H.l_w21 _
    | exact H.l_w22 _
    | exact H.l_w23 _
    | apply pay4 A R
    | apply pay5 A R
    | apply pay6 A R
    | apply pay7 A R
    | apply pay8 A R
    | apply pay9 A
    | apply pay10 A R
    | apply pay11 A R
    | apply pay12 A R
    | apply pay13 A R
    | apply pay14 A R
    | apply pay15
    | apply pay16 A R
    | apply pay17 A R
    | apply pay18 A R
    | apply pay19 A R
    | apply pay20 A R
    | apply pay21 A R
    | apply pay24 A R
    | apply pay25 A R
    | apply pay28 A R
    | apply pay29 A R
    | apply pay22 A R
    | apply pay26 A R
    | apply pay27 A R
    | apply pay30 A R
    | apply pay23 A R
    | apply pay31 A R
    | apply pay32 A R
    | apply pay33 A R
    | apply pay34 A R
    | apply pay35 A R
    | apply pay36 A R
    | apply pay37 A R
    | apply pay38 A R
    | apply pay39 A R
    | apply pay40 A R
    | apply pay41 A R
    | apply pay42 A R
    | apply pay43 A R
    | apply pay44 A R
    | apply pay46 A R
    | apply pay47 A R
    | apply pay45 A R
    | apply pay48 A R
    | apply pay49 A R
    | apply pay50 A R
    | apply pay51 A R
    | apply pay52 A R
    | apply pay53 A R
    | apply pay54 A R
    | apply pay55 A R
    | apply pay56 A R
    | apply pay1 A R
    | apply pay2 A R
    | apply pay3
    | apply AtF.load
    | apply AtF.hit
    | apply AtB.hit
    | apply AtF.miss (by decide)
    | apply AtB.miss (by decide)
    | apply AtF.const
    | apply AtW.hit
    | apply AtW.miss (by decide))
  all_goals first
    | exact ldRow hs 0 _
    | exact ldRow hs 1 _
    | exact ldRow hs 2 _
    | exact ldRow hs 3 _
    | exact ldRow hs 4 _
    | exact ldRow hs 5 _
    | exact ldRow hs 6 _
    | exact ldRow hs 7 _
    | exact ldRow hs 8 _
    | exact ldRow hs 9 _
    | exact ldRow hs 10 _
    | exact ldRow hs 11 _
    | exact ldRow hs 12 _
    | exact ldRow hs 13 _
    | exact ldRow hs 14 _
    | exact ldRow hs 15 _
    | exact AtW.nil (harg16.read_unread xo15) hs 9
    | exact AtW.nil (harg16.read_unread xo15) hs 10
    | exact AtW.nil (harg16.read_unread xo15) hs 11
    | exact AtW.nil (harg16.read_unread xo15) hs 12
    | exact AtW.nil (harg16.read_unread xo15) hs 13
    | exact AtW.nil (harg16.read_unread xo15) hs 14
    | exact AtW.nil (harg16.read_unread xo15) hs 15

end Cert.Ker
-- ==== Proof.KerArr.lean ====
/- The arrays that the kernel leaves, as formulas in the arguments: each tile of a result is its point's (`fin8` to `fin14`),
   and the rows of sums, added to from point to point, are sums over all rows (`fin15`). -/
module

public import proofs.«01_k».proof.Proof.KerIn
public import proofs.«01_k».proof.Proof.KerTileA
public import proofs.«01_k».proof.Proof.KerTileB
public import proofs.«01_k».proof.Proof.KerSumA
public import proofs.«01_k».proof.Proof.KerSumB

@[expose] public section

set_option maxRecDepth 16384

set_option maxHeartbeats 400000

noncomputable section

namespace Cert.Ker

open Cert.KernelIdeal Cert.KernelIdeal.Gen Cert.KernelIdeal.Value Cert.Coe Cert.Step Idealize.ShloMosaic Idealize.ShloMosaic.TcCoe Idealize.ShloMosaic.Tactic Idealize.SL.Sem
open Idealize.ShloMosaic.ValueIdx

variable {m : (ℓ : Loc nD τ sig) → Buf (Elt Ideal) ℓ} {c : Dev nD} {A : Args}

theorem IsR.of_eq {n k : ℕ} {X : (⟨2, ![n, k]⟩ : Shape).Idx → EReal} {f g : Fin n → Fin k → ℝ} (h : IsR X f) (e : ∀ a b, f a b = g a b) : IsR X g :=
  fun a b => (h a b).trans (congrArg _ (e a b))

theorem rowOf_split (r : Fin 8192) : ∃ (t : Fin cfg0.N) (a : Fin 256), r = rowOf t.val a :=
  ⟨⟨r.val / 256, show r.val / 256 < 32 by omega⟩, ⟨r.val % 256, Nat.mod_lt _ (by decide)⟩,
    Fin.ext ((rowOf_val (show r.val / 256 < 32 by omega) _).trans (Nat.div_add_mod _ _)).symm⟩

theorem eA8 (t : Fin cfg0.N) (h0 : t.val % 32 = 0) : (outsAt0 m c t.val t.isLt).1 = out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) := by
  simp only [outsAt0_A m c t h0]

theorem eB8 (t : Fin cfg0.N) (h0 : ¬t.val % 32 = 0) : (outsAt0 m c t.val t.isLt).1 = out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.2.2 := by
  simp only [outsAt0_B m c t h0]

theorem ptA8 (G : Holds m c A) (t : Fin cfg0.N) (h0 : t.val % 32 = 0) :
    IsR (n := 256) (m := 1024) (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t)) (fun a b => (fun (r : Fin 8192) (b : Fin 1024) => dmx A r b) (rowOf t.val a) b) :=
  tileA_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (holds_in G t)

theorem ptB8 (G : Holds m c A) (t : Fin cfg0.N) (h0 : ¬t.val % 32 = 0) :
    IsR (n := 256) (m := 1024) (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.2.2) (fun a b => (fun (r : Fin 8192) (b : Fin 1024) => dmx A r b) (rowOf t.val a) b) :=
  tileB_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.2.2 (holds_in G t)

theorem pt8 (G : Holds m c A) (t : Fin cfg0.N) :
    IsR (n := 256) (m := 1024) (outsAt0 m c t.val t.isLt).1 (fun a b => (fun (r : Fin 8192) (b : Fin 1024) => dmx A r b) (rowOf t.val a) b) := fun a b =>
  if h0 : t.val % 32 = 0 then (congrFun (eA8 t h0) (ix2 a b)).trans (ptA8 G t h0 a b)
  else (congrFun (eB8 t h0) (ix2 a b)).trans (ptB8 G t h0 a b)

theorem cut8 (t : Fin cfg0.N) (X : S256x1024.Idx → EReal) (f : Fin 8192 → Fin 1024 → ℝ) (h : IsR (n := 256) (m := 1024) X fun a b => f (rowOf t.val a) b) :
    (cfg0.win 8).cut (grid0.coords t) X = ((cfg0.win 8).blk t).view.read (Elt Ideal) (fun i : S8192x1024.Idx => ((f (i 0) (i 1) : ℝ) : EReal)) := by
  funext j
  obtain ⟨a, b, rfl⟩ : ∃ (a : Fin 256) (b : Fin 1024), j = ix2 a b := ⟨j 0, j 1, eq_ix2 j⟩
  refine (h a b).trans ?_
  show _ = (fun i : S8192x1024.Idx => ((f (i 0) (i 1) : ℝ) : EReal)) (((cfg0.win 8).blk t).view.emb (ix2 a b))
  rw [emb8]

theorem mem8 (t : Fin cfg0.N) (a : Fin 256) (b : Fin 1024) : (ix2 (rowOf t.val a) b : S8192x1024.Idx) ∈ ((cfg0.win 8).blk t).view.set := by
  have h := ((cfg0.win 8).blk t).view.emb_mem_set (ix2 a b)
  rw [emb8 t a b] at h
  exact h

theorem cov8 (i : S8192x1024.Idx) : ∃ t : Fin cfg0.N, (cfg0.win 8).flush t = true ∧ i ∈ ((cfg0.win 8).blk t).view.set := by
  obtain ⟨r, b, rfl⟩ : ∃ (r : Fin 8192) (b : Fin 1024), i = ix2 r b := ⟨i 0, i 1, eq_ix2 i⟩
  obtain ⟨t, a, rfl⟩ : ∃ (t : Fin cfg0.N) (a : Fin 256), r = rowOf t.val a := rowOf_split r
  exact ⟨t, flush0_8 t, mem8 t a b⟩

theorem fin8 (G : Holds m c A) : (dats m 0 c).arrAt 8 cfg0.N = (fun i : S8192x1024.Idx => (((fun (r : Fin 8192) (b : Fin 1024) => dmx A r b) (i 0) (i 1) : ℝ) : EReal)) :=
  (dats m 0 c).arrAt_eq_of_cover 8 _ (fun t _ => (flushed8 m c t).trans (cut8 t _ (fun (r : Fin 8192) (b : Fin 1024) => dmx A r b) (pt8 G t))) cov8

theorem eA9 (t : Fin cfg0.N) (h0 : t.val % 32 = 0) : (outsAt0 m c t.val t.isLt).2.1 = out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) := by
  simp only [outsAt0_A m c t h0]

theorem eB9 (t : Fin cfg0.N) (h0 : ¬t.val % 32 = 0) : (outsAt0 m c t.val t.isLt).2.1 = out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.2.2 := by
  simp only [outsAt0_B m c t h0]

theorem ptA9 (G : Holds m c A) (t : Fin cfg0.N) (h0 : t.val % 32 = 0) :
    IsR (n := 256) (m := 1024) (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t)) (fun a b => (fun (r : Fin 8192) (b : Fin 1024) => dxa A r b) (rowOf t.val a) b) :=
  tileA_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (holds_in G t)

theorem ptB9 (G : Holds m c A) (t : Fin cfg0.N) (h0 : ¬t.val % 32 = 0) :
    IsR (n := 256) (m := 1024) (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.2.2) (fun a b => (fun (r : Fin 8192) (b : Fin 1024) => dxa A r b) (rowOf t.val a) b) :=
  tileB_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.2.2 (holds_in G t)

theorem pt9 (G : Holds m c A) (t : Fin cfg0.N) :
    IsR (n := 256) (m := 1024) (outsAt0 m c t.val t.isLt).2.1 (fun a b => (fun (r : Fin 8192) (b : Fin 1024) => dxa A r b) (rowOf t.val a) b) := fun a b =>
  if h0 : t.val % 32 = 0 then (congrFun (eA9 t h0) (ix2 a b)).trans (ptA9 G t h0 a b)
  else (congrFun (eB9 t h0) (ix2 a b)).trans (ptB9 G t h0 a b)

theorem cut9 (t : Fin cfg0.N) (X : S256x1024.Idx → EReal) (f : Fin 8192 → Fin 1024 → ℝ) (h : IsR (n := 256) (m := 1024) X fun a b => f (rowOf t.val a) b) :
    (cfg0.win 9).cut (grid0.coords t) X = ((cfg0.win 9).blk t).view.read (Elt Ideal) (fun i : S8192x1024.Idx => ((f (i 0) (i 1) : ℝ) : EReal)) := by
  funext j
  obtain ⟨a, b, rfl⟩ : ∃ (a : Fin 256) (b : Fin 1024), j = ix2 a b := ⟨j 0, j 1, eq_ix2 j⟩
  refine (h a b).trans ?_
  show _ = (fun i : S8192x1024.Idx => ((f (i 0) (i 1) : ℝ) : EReal)) (((cfg0.win 9).blk t).view.emb (ix2 a b))
  rw [emb9]

theorem mem9 (t : Fin cfg0.N) (a : Fin 256) (b : Fin 1024) : (ix2 (rowOf t.val a) b : S8192x1024.Idx) ∈ ((cfg0.win 9).blk t).view.set := by
  have h := ((cfg0.win 9).blk t).view.emb_mem_set (ix2 a b)
  rw [emb9 t a b] at h
  exact h

theorem cov9 (i : S8192x1024.Idx) : ∃ t : Fin cfg0.N, (cfg0.win 9).flush t = true ∧ i ∈ ((cfg0.win 9).blk t).view.set := by
  obtain ⟨r, b, rfl⟩ : ∃ (r : Fin 8192) (b : Fin 1024), i = ix2 r b := ⟨i 0, i 1, eq_ix2 i⟩
  obtain ⟨t, a, rfl⟩ : ∃ (t : Fin cfg0.N) (a : Fin 256), r = rowOf t.val a := rowOf_split r
  exact ⟨t, flush0_9 t, mem9 t a b⟩

theorem fin9 (G : Holds m c A) : (dats m 0 c).arrAt 9 cfg0.N = (fun i : S8192x1024.Idx => (((fun (r : Fin 8192) (b : Fin 1024) => dxa A r b) (i 0) (i 1) : ℝ) : EReal)) :=
  (dats m 0 c).arrAt_eq_of_cover 9 _ (fun t _ => (flushed9 m c t).trans (cut9 t _ (fun (r : Fin 8192) (b : Fin 1024) => dxa A r b) (pt9 G t))) cov9

theorem eA10 (t : Fin cfg0.N) (h0 : t.val % 32 = 0) : (outsAt0 m c t.val t.isLt).2.2.1 = out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) := by
  simp only [outsAt0_A m c t h0]

theorem eB10 (t : Fin cfg0.N) (h0 : ¬t.val % 32 = 0) : (outsAt0 m c t.val t.isLt).2.2.1 = out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.2.2 := by
  simp only [outsAt0_B m c t h0]

theorem ptA10 (G : Holds m c A) (t : Fin cfg0.N) (h0 : t.val % 32 = 0) :
    IsR (n := 256) (m := 4096) (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t)) (fun a b => (fun (r : Fin 8192) (b : Fin 4096) => act A r ⟨b.val / 1024, by omega⟩ ⟨b.val % 1024, by omega⟩) (rowOf t.val a) b) :=
  tileA_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (holds_in G t)

theorem ptB10 (G : Holds m c A) (t : Fin cfg0.N) (h0 : ¬t.val % 32 = 0) :
    IsR (n := 256) (m := 4096) (out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.2.2) (fun a b => (fun (r : Fin 8192) (b : Fin 4096) => act A r ⟨b.val / 1024, by omega⟩ ⟨b.val % 1024, by omega⟩) (rowOf t.val a) b) :=
  tileB_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.2.2 (holds_in G t)

theorem pt10 (G : Holds m c A) (t : Fin cfg0.N) :
    IsR (n := 256) (m := 4096) (outsAt0 m c t.val t.isLt).2.2.1 (fun a b => (fun (r : Fin 8192) (b : Fin 4096) => act A r ⟨b.val / 1024, by omega⟩ ⟨b.val % 1024, by omega⟩) (rowOf t.val a) b) := fun a b =>
  if h0 : t.val % 32 = 0 then (congrFun (eA10 t h0) (ix2 a b)).trans (ptA10 G t h0 a b)
  else (congrFun (eB10 t h0) (ix2 a b)).trans (ptB10 G t h0 a b)

theorem cut10 (t : Fin cfg0.N) (X : S256x4096.Idx → EReal) (f : Fin 8192 → Fin 4096 → ℝ) (h : IsR (n := 256) (m := 4096) X fun a b => f (rowOf t.val a) b) :
    (cfg0.win 10).cut (grid0.coords t) X = ((cfg0.win 10).blk t).view.read (Elt Ideal) (fun i : S8192x4096.Idx => ((f (i 0) (i 1) : ℝ) : EReal)) := by
  funext j
  obtain ⟨a, b, rfl⟩ : ∃ (a : Fin 256) (b : Fin 4096), j = ix2 a b := ⟨j 0, j 1, eq_ix2 j⟩
  refine (h a b).trans ?_
  show _ = (fun i : S8192x4096.Idx => ((f (i 0) (i 1) : ℝ) : EReal)) (((cfg0.win 10).blk t).view.emb (ix2 a b))
  rw [emb10]

theorem mem10 (t : Fin cfg0.N) (a : Fin 256) (b : Fin 4096) : (ix2 (rowOf t.val a) b : S8192x4096.Idx) ∈ ((cfg0.win 10).blk t).view.set := by
  have h := ((cfg0.win 10).blk t).view.emb_mem_set (ix2 a b)
  rw [emb10 t a b] at h
  exact h

theorem cov10 (i : S8192x4096.Idx) : ∃ t : Fin cfg0.N, (cfg0.win 10).flush t = true ∧ i ∈ ((cfg0.win 10).blk t).view.set := by
  obtain ⟨r, b, rfl⟩ : ∃ (r : Fin 8192) (b : Fin 4096), i = ix2 r b := ⟨i 0, i 1, eq_ix2 i⟩
  obtain ⟨t, a, rfl⟩ : ∃ (t : Fin cfg0.N) (a : Fin 256), r = rowOf t.val a := rowOf_split r
  exact ⟨t, flush0_10 t, mem10 t a b⟩

theorem fin10 (G : Holds m c A) : (dats m 0 c).arrAt 10 cfg0.N = (fun i : S8192x4096.Idx => (((fun (r : Fin 8192) (b : Fin 4096) => act A r ⟨b.val / 1024, by omega⟩ ⟨b.val % 1024, by omega⟩) (i 0) (i 1) : ℝ) : EReal)) :=
  (dats m 0 c).arrAt_eq_of_cover 10 _ (fun t _ => (flushed10 m c t).trans (cut10 t _ (fun (r : Fin 8192) (b : Fin 4096) => act A r ⟨b.val / 1024, by omega⟩ ⟨b.val % 1024, by omega⟩) (pt10 G t))) cov10

theorem eA11 (t : Fin cfg0.N) (h0 : t.val % 32 = 0) : (outsAt0 m c t.val t.isLt).2.2.2.1 = out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) := by
  simp only [outsAt0_A m c t h0]

theorem eB11 (t : Fin cfg0.N) (h0 : ¬t.val % 32 = 0) : (outsAt0 m c t.val t.isLt).2.2.2.1 = out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.2.2 := by
  simp only [outsAt0_B m c t h0]

theorem ptA11 (G : Holds m c A) (t : Fin cfg0.N) (h0 : t.val % 32 = 0) :
    IsR (n := 256) (m := 4096) (out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t)) (fun a b => (fun (r : Fin 8192) (b : Fin 4096) => dh A r ⟨b.val / 1024, by omega⟩ ⟨b.val % 1024, by omega⟩) (rowOf t.val a) b) :=
  tileA_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (holds_in G t)

theorem ptB11 (G : Holds m c A) (t : Fin cfg0.N) (h0 : ¬t.val % 32 = 0) :
    IsR (n := 256) (m := 4096) (out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.2.2) (fun a b => (fun (r : Fin 8192) (b : Fin 4096) => dh A r ⟨b.val / 1024, by omega⟩ ⟨b.val % 1024, by omega⟩) (rowOf t.val a) b) :=
  tileB_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.2.2 (holds_in G t)

theorem pt11 (G : Holds m c A) (t : Fin cfg0.N) :
    IsR (n := 256) (m := 4096) (outsAt0 m c t.val t.isLt).2.2.2.1 (fun a b => (fun (r : Fin 8192) (b : Fin 4096) => dh A r ⟨b.val / 1024, by omega⟩ ⟨b.val % 1024, by omega⟩) (rowOf t.val a) b) := fun a b =>
  if h0 : t.val % 32 = 0 then (congrFun (eA11 t h0) (ix2 a b)).trans (ptA11 G t h0 a b)
  else (congrFun (eB11 t h0) (ix2 a b)).trans (ptB11 G t h0 a b)

theorem cut11 (t : Fin cfg0.N) (X : S256x4096.Idx → EReal) (f : Fin 8192 → Fin 4096 → ℝ) (h : IsR (n := 256) (m := 4096) X fun a b => f (rowOf t.val a) b) :
    (cfg0.win 11).cut (grid0.coords t) X = ((cfg0.win 11).blk t).view.read (Elt Ideal) (fun i : S8192x4096.Idx => ((f (i 0) (i 1) : ℝ) : EReal)) := by
  funext j
  obtain ⟨a, b, rfl⟩ : ∃ (a : Fin 256) (b : Fin 4096), j = ix2 a b := ⟨j 0, j 1, eq_ix2 j⟩
  refine (h a b).trans ?_
  show _ = (fun i : S8192x4096.Idx => ((f (i 0) (i 1) : ℝ) : EReal)) (((cfg0.win 11).blk t).view.emb (ix2 a b))
  rw [emb11]

theorem mem11 (t : Fin cfg0.N) (a : Fin 256) (b : Fin 4096) : (ix2 (rowOf t.val a) b : S8192x4096.Idx) ∈ ((cfg0.win 11).blk t).view.set := by
  have h := ((cfg0.win 11).blk t).view.emb_mem_set (ix2 a b)
  rw [emb11 t a b] at h
  exact h

theorem cov11 (i : S8192x4096.Idx) : ∃ t : Fin cfg0.N, (cfg0.win 11).flush t = true ∧ i ∈ ((cfg0.win 11).blk t).view.set := by
  obtain ⟨r, b, rfl⟩ : ∃ (r : Fin 8192) (b : Fin 4096), i = ix2 r b := ⟨i 0, i 1, eq_ix2 i⟩
  obtain ⟨t, a, rfl⟩ : ∃ (t : Fin cfg0.N) (a : Fin 256), r = rowOf t.val a := rowOf_split r
  exact ⟨t, flush0_11 t, mem11 t a b⟩

theorem fin11 (G : Holds m c A) : (dats m 0 c).arrAt 11 cfg0.N = (fun i : S8192x4096.Idx => (((fun (r : Fin 8192) (b : Fin 4096) => dh A r ⟨b.val / 1024, by omega⟩ ⟨b.val % 1024, by omega⟩) (i 0) (i 1) : ℝ) : EReal)) :=
  (dats m 0 c).arrAt_eq_of_cover 11 _ (fun t _ => (flushed11 m c t).trans (cut11 t _ (fun (r : Fin 8192) (b : Fin 4096) => dh A r ⟨b.val / 1024, by omega⟩ ⟨b.val % 1024, by omega⟩) (pt11 G t))) cov11

theorem eA12 (t : Fin cfg0.N) (h0 : t.val % 32 = 0) : (outsAt0 m c t.val t.isLt).2.2.2.2.1 = out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) := by
  simp only [outsAt0_A m c t h0]

theorem eB12 (t : Fin cfg0.N) (h0 : ¬t.val % 32 = 0) : (outsAt0 m c t.val t.isLt).2.2.2.2.1 = out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.2.2 := by
  simp only [outsAt0_B m c t h0]

theorem ptA12 (G : Holds m c A) (t : Fin cfg0.N) (h0 : t.val % 32 = 0) :
    IsR (n := 256) (m := 1024) (out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t)) (fun a b => (fun (r : Fin 8192) (b : Fin 1024) => u2 A r b) (rowOf t.val a) b) :=
  tileA_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (holds_in G t)

theorem ptB12 (G : Holds m c A) (t : Fin cfg0.N) (h0 : ¬t.val % 32 = 0) :
    IsR (n := 256) (m := 1024) (out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.2.2) (fun a b => (fun (r : Fin 8192) (b : Fin 1024) => u2 A r b) (rowOf t.val a) b) :=
  tileB_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.2.2 (holds_in G t)

theorem pt12 (G : Holds m c A) (t : Fin cfg0.N) :
    IsR (n := 256) (m := 1024) (outsAt0 m c t.val t.isLt).2.2.2.2.1 (fun a b => (fun (r : Fin 8192) (b : Fin 1024) => u2 A r b) (rowOf t.val a) b) := fun a b =>
  if h0 : t.val % 32 = 0 then (congrFun (eA12 t h0) (ix2 a b)).trans (ptA12 G t h0 a b)
  else (congrFun (eB12 t h0) (ix2 a b)).trans (ptB12 G t h0 a b)

theorem cut12 (t : Fin cfg0.N) (X : S256x1024.Idx → EReal) (f : Fin 8192 → Fin 1024 → ℝ) (h : IsR (n := 256) (m := 1024) X fun a b => f (rowOf t.val a) b) :
    (cfg0.win 12).cut (grid0.coords t) X = ((cfg0.win 12).blk t).view.read (Elt Ideal) (fun i : S8192x1024.Idx => ((f (i 0) (i 1) : ℝ) : EReal)) := by
  funext j
  obtain ⟨a, b, rfl⟩ : ∃ (a : Fin 256) (b : Fin 1024), j = ix2 a b := ⟨j 0, j 1, eq_ix2 j⟩
  refine (h a b).trans ?_
  show _ = (fun i : S8192x1024.Idx => ((f (i 0) (i 1) : ℝ) : EReal)) (((cfg0.win 12).blk t).view.emb (ix2 a b))
  rw [emb12]

theorem mem12 (t : Fin cfg0.N) (a : Fin 256) (b : Fin 1024) : (ix2 (rowOf t.val a) b : S8192x1024.Idx) ∈ ((cfg0.win 12).blk t).view.set := by
  have h := ((cfg0.win 12).blk t).view.emb_mem_set (ix2 a b)
  rw [emb12 t a b] at h
  exact h

theorem cov12 (i : S8192x1024.Idx) : ∃ t : Fin cfg0.N, (cfg0.win 12).flush t = true ∧ i ∈ ((cfg0.win 12).blk t).view.set := by
  obtain ⟨r, b, rfl⟩ : ∃ (r : Fin 8192) (b : Fin 1024), i = ix2 r b := ⟨i 0, i 1, eq_ix2 i⟩
  obtain ⟨t, a, rfl⟩ : ∃ (t : Fin cfg0.N) (a : Fin 256), r = rowOf t.val a := rowOf_split r
  exact ⟨t, flush0_12 t, mem12 t a b⟩

theorem fin12 (G : Holds m c A) : (dats m 0 c).arrAt 12 cfg0.N = (fun i : S8192x1024.Idx => (((fun (r : Fin 8192) (b : Fin 1024) => u2 A r b) (i 0) (i 1) : ℝ) : EReal)) :=
  (dats m 0 c).arrAt_eq_of_cover 12 _ (fun t _ => (flushed12 m c t).trans (cut12 t _ (fun (r : Fin 8192) (b : Fin 1024) => u2 A r b) (pt12 G t))) cov12

theorem eA13 (t : Fin cfg0.N) (h0 : t.val % 32 = 0) : (outsAt0 m c t.val t.isLt).2.2.2.2.2.1 = out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) := by
  simp only [outsAt0_A m c t h0]

theorem eB13 (t : Fin cfg0.N) (h0 : ¬t.val % 32 = 0) : (outsAt0 m c t.val t.isLt).2.2.2.2.2.1 = out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.2.2 := by
  simp only [outsAt0_B m c t h0]

theorem ptA13 (G : Holds m c A) (t : Fin cfg0.N) (h0 : t.val % 32 = 0) :
    IsR (n := 256) (m := 1024) (out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t)) (fun a b => (fun (r : Fin 8192) (b : Fin 1024) => df A r b) (rowOf t.val a) b) :=
  tileA_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (holds_in G t)

theorem ptB13 (G : Holds m c A) (t : Fin cfg0.N) (h0 : ¬t.val % 32 = 0) :
    IsR (n := 256) (m := 1024) (out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.2.2) (fun a b => (fun (r : Fin 8192) (b : Fin 1024) => df A r b) (rowOf t.val a) b) :=
  tileB_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.2.2 (holds_in G t)

theorem pt13 (G : Holds m c A) (t : Fin cfg0.N) :
    IsR (n := 256) (m := 1024) (outsAt0 m c t.val t.isLt).2.2.2.2.2.1 (fun a b => (fun (r : Fin 8192) (b : Fin 1024) => df A r b) (rowOf t.val a) b) := fun a b =>
  if h0 : t.val % 32 = 0 then (congrFun (eA13 t h0) (ix2 a b)).trans (ptA13 G t h0 a b)
  else (congrFun (eB13 t h0) (ix2 a b)).trans (ptB13 G t h0 a b)

theorem cut13 (t : Fin cfg0.N) (X : S256x1024.Idx → EReal) (f : Fin 8192 → Fin 1024 → ℝ) (h : IsR (n := 256) (m := 1024) X fun a b => f (rowOf t.val a) b) :
    (cfg0.win 13).cut (grid0.coords t) X = ((cfg0.win 13).blk t).view.read (Elt Ideal) (fun i : S8192x1024.Idx => ((f (i 0) (i 1) : ℝ) : EReal)) := by
  funext j
  obtain ⟨a, b, rfl⟩ : ∃ (a : Fin 256) (b : Fin 1024), j = ix2 a b := ⟨j 0, j 1, eq_ix2 j⟩
  refine (h a b).trans ?_
  show _ = (fun i : S8192x1024.Idx => ((f (i 0) (i 1) : ℝ) : EReal)) (((cfg0.win 13).blk t).view.emb (ix2 a b))
  rw [emb13]

theorem mem13 (t : Fin cfg0.N) (a : Fin 256) (b : Fin 1024) : (ix2 (rowOf t.val a) b : S8192x1024.Idx) ∈ ((cfg0.win 13).blk t).view.set := by
  have h := ((cfg0.win 13).blk t).view.emb_mem_set (ix2 a b)
  rw [emb13 t a b] at h
  exact h

theorem cov13 (i : S8192x1024.Idx) : ∃ t : Fin cfg0.N, (cfg0.win 13).flush t = true ∧ i ∈ ((cfg0.win 13).blk t).view.set := by
  obtain ⟨r, b, rfl⟩ : ∃ (r : Fin 8192) (b : Fin 1024), i = ix2 r b := ⟨i 0, i 1, eq_ix2 i⟩
  obtain ⟨t, a, rfl⟩ : ∃ (t : Fin cfg0.N) (a : Fin 256), r = rowOf t.val a := rowOf_split r
  exact ⟨t, flush0_13 t, mem13 t a b⟩

theorem fin13 (G : Holds m c A) : (dats m 0 c).arrAt 13 cfg0.N = (fun i : S8192x1024.Idx => (((fun (r : Fin 8192) (b : Fin 1024) => df A r b) (i 0) (i 1) : ℝ) : EReal)) :=
  (dats m 0 c).arrAt_eq_of_cover 13 _ (fun t _ => (flushed13 m c t).trans (cut13 t _ (fun (r : Fin 8192) (b : Fin 1024) => df A r b) (pt13 G t))) cov13

theorem eA14 (t : Fin cfg0.N) (h0 : t.val % 32 = 0) : (outsAt0 m c t.val t.isLt).2.2.2.2.2.2.1 = out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) := by
  simp only [outsAt0_A m c t h0]

theorem eB14 (t : Fin cfg0.N) (h0 : ¬t.val % 32 = 0) : (outsAt0 m c t.val t.isLt).2.2.2.2.2.2.1 = out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.2.2 := by
  simp only [outsAt0_B m c t h0]

theorem ptA14 (G : Holds m c A) (t : Fin cfg0.N) (h0 : t.val % 32 = 0) :
    IsR (n := 256) (m := 1024) (out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t)) (fun a b => (fun (r : Fin 8192) (b : Fin 1024) => dm A r b) (rowOf t.val a) b) :=
  tileA_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (holds_in G t)

theorem ptB14 (G : Holds m c A) (t : Fin cfg0.N) (h0 : ¬t.val % 32 = 0) :
    IsR (n := 256) (m := 1024) (out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.2.2) (fun a b => (fun (r : Fin 8192) (b : Fin 1024) => dm A r b) (rowOf t.val a) b) :=
  tileB_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.2.2 (holds_in G t)

theorem pt14 (G : Holds m c A) (t : Fin cfg0.N) :
    IsR (n := 256) (m := 1024) (outsAt0 m c t.val t.isLt).2.2.2.2.2.2.1 (fun a b => (fun (r : Fin 8192) (b : Fin 1024) => dm A r b) (rowOf t.val a) b) := fun a b =>
  if h0 : t.val % 32 = 0 then (congrFun (eA14 t h0) (ix2 a b)).trans (ptA14 G t h0 a b)
  else (congrFun (eB14 t h0) (ix2 a b)).trans (ptB14 G t h0 a b)

theorem cut14 (t : Fin cfg0.N) (X : S256x1024.Idx → EReal) (f : Fin 8192 → Fin 1024 → ℝ) (h : IsR (n := 256) (m := 1024) X fun a b => f (rowOf t.val a) b) :
    (cfg0.win 14).cut (grid0.coords t) X = ((cfg0.win 14).blk t).view.read (Elt Ideal) (fun i : S8192x1024.Idx => ((f (i 0) (i 1) : ℝ) : EReal)) := by
  funext j
  obtain ⟨a, b, rfl⟩ : ∃ (a : Fin 256) (b : Fin 1024), j = ix2 a b := ⟨j 0, j 1, eq_ix2 j⟩
  refine (h a b).trans ?_
  show _ = (fun i : S8192x1024.Idx => ((f (i 0) (i 1) : ℝ) : EReal)) (((cfg0.win 14).blk t).view.emb (ix2 a b))
  rw [emb14]

theorem mem14 (t : Fin cfg0.N) (a : Fin 256) (b : Fin 1024) : (ix2 (rowOf t.val a) b : S8192x1024.Idx) ∈ ((cfg0.win 14).blk t).view.set := by
  have h := ((cfg0.win 14).blk t).view.emb_mem_set (ix2 a b)
  rw [emb14 t a b] at h
  exact h

theorem cov14 (i : S8192x1024.Idx) : ∃ t : Fin cfg0.N, (cfg0.win 14).flush t = true ∧ i ∈ ((cfg0.win 14).blk t).view.set := by
  obtain ⟨r, b, rfl⟩ : ∃ (r : Fin 8192) (b : Fin 1024), i = ix2 r b := ⟨i 0, i 1, eq_ix2 i⟩
  obtain ⟨t, a, rfl⟩ : ∃ (t : Fin cfg0.N) (a : Fin 256), r = rowOf t.val a := rowOf_split r
  exact ⟨t, flush0_14 t, mem14 t a b⟩

theorem fin14 (G : Holds m c A) : (dats m 0 c).arrAt 14 cfg0.N = (fun i : S8192x1024.Idx => (((fun (r : Fin 8192) (b : Fin 1024) => dm A r b) (i 0) (i 1) : ℝ) : EReal)) :=
  (dats m 0 c).arrAt_eq_of_cover 14 _ (fun t _ => (flushed14 m c t).trans (cut14 t _ (fun (r : Fin 8192) (b : Fin 1024) => dm A r b) (pt14 G t))) cov14

/-! ## The rows of sums -/

theorem eA15 (t : Fin cfg0.N) (h0 : t.val % 32 = 0) : (outsAt0 m c t.val t.isLt).2.2.2.2.2.2.2 = out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) := by
  simp only [outsAt0_A m c t h0]

theorem eB15 (t : Fin cfg0.N) (h0 : ¬t.val % 32 = 0) : (outsAt0 m c t.val t.isLt).2.2.2.2.2.2.2 = out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.2.2 := by
  simp only [outsAt0_B m c t h0]

theorem ptA15 (G : Holds m c A) (t : Fin cfg0.N) (h0 : t.val % 32 = 0) :
    IsR (n := 16) (m := 1024) (out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t)) (fun p b => 0 + ∑ a, term A (rowOf t.val a) p b) :=
  tileA_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (holds_in G t)

theorem ptB15 (G : Holds m c A) (t : Fin cfg0.N) (h0 : ¬t.val % 32 = 0) (s : Fin 16 → Fin 1024 → ℝ)
    (hs : IsR (n := 16) (m := 1024) (outsAt0 m c (t.val - 1) (Nat.lt_of_le_of_lt (Nat.sub_le _ _) t.isLt)).2.2.2.2.2.2.2 s) :
    IsR (n := 16) (m := 1024) (out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.2.2) (fun p b => s p b + ∑ a, term A (rowOf t.val a) p b) :=
  tileB_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.2.2 hs (holds_in G t)

theorem start15 (G : Holds m c A) (t : Fin cfg0.N) (h0 : t.val % 32 = 0) :
    IsR (n := 16) (m := 1024) (outsAt0 m c t.val t.isLt).2.2.2.2.2.2.2 (fun p b => 0 + ∑ a, term A (rowOf t.val a) p b) := fun p b =>
  (congrFun (eA15 t h0) (ix2 p b)).trans (ptA15 G t h0 p b)

theorem step15 (G : Holds m c A) (t : Fin cfg0.N) (h0 : ¬t.val % 32 = 0) (s : Fin 16 → Fin 1024 → ℝ)
    (hs : IsR (n := 16) (m := 1024) (outsAt0 m c (t.val - 1) (Nat.lt_of_le_of_lt (Nat.sub_le _ _) t.isLt)).2.2.2.2.2.2.2 s) :
    IsR (n := 16) (m := 1024) (outsAt0 m c t.val t.isLt).2.2.2.2.2.2.2 (fun p b => s p b + ∑ a, term A (rowOf t.val a) p b) := fun p b =>
  (congrFun (eB15 t h0) (ix2 p b)).trans (ptB15 G t h0 s hs p b)

/-- After point `n` the rows hold the sums over the rows of the tiles up to it. -/
theorem pt15 (G : Holds m c A) : ∀ (n : ℕ) (hn : n < cfg0.N),
    IsR (n := 16) (m := 1024) (outsAt0 m c n hn).2.2.2.2.2.2.2 (fun p b => ∑ k ∈ Finset.range (n + 1), ∑ a, term A (rowOf k a) p b) := by
  intro n
  induction n with
  | zero =>
    intro hn
    exact IsR.of_eq (start15 G ⟨0, hn⟩ rfl) fun p b => by rw [zero_add, zero_add, Finset.sum_range_one]
  | succ n ih =>
    intro hn
    have h32 : n + 1 < 32 := hn
    have h0 : ¬ (n + 1) % 32 = 0 := by omega
    have ih' : IsR (n := 16) (m := 1024) (outsAt0 m c ((⟨n + 1, hn⟩ : Fin cfg0.N).val - 1) (Nat.lt_of_le_of_lt (Nat.sub_le _ _) (⟨n + 1, hn⟩ : Fin cfg0.N).isLt)).2.2.2.2.2.2.2
        (fun p b => ∑ k ∈ Finset.range (n + 1), ∑ a, term A (rowOf k a) p b) := ih (Nat.lt_of_succ_lt hn)
    have h : IsR (n := 16) (m := 1024) (outsAt0 m c (n + 1) hn).2.2.2.2.2.2.2
        (fun p b => (∑ k ∈ Finset.range (n + 1), ∑ a, term A (rowOf k a) p b) + ∑ a, term A (rowOf (n + 1) a) p b) := step15 G ⟨n + 1, hn⟩ h0 _ ih'
    exact IsR.of_eq h fun p b => (Finset.sum_range_succ _ (n + 1)).symm

theorem sum_rows (f : Fin 8192 → ℝ) : ∑ k ∈ Finset.range 32, ∑ a, f (rowOf k a) = ∑ r, f r := by
  rw [Finset.sum_range, ← Fintype.sum_prod_type' (f := fun (k : Fin 32) (a : Fin 256) => f (rowOf k.val a))]
  refine Fintype.sum_equiv (finProdFinEquiv : Fin 32 × Fin 256 ≃ Fin 8192) _ _ fun ka => congrArg f (Fin.ext ?_)
  refine (rowOf_val ka.1.isLt _).trans ?_
  exact Nat.add_comm _ _

theorem cut15 (t : Fin cfg0.N) (X : S16x1024.Idx → EReal) (f : Fin 16 → Fin 1024 → ℝ) (h : IsR (n := 16) (m := 1024) X f) :
    (cfg0.win 15).cut (grid0.coords t) X = ((cfg0.win 15).blk t).view.read (Elt Ideal) (fun i : S16x1024.Idx => ((f (i 0) (i 1) : ℝ) : EReal)) := by
  funext j
  show X j = (fun i : S16x1024.Idx => ((f (i 0) (i 1) : ℝ) : EReal)) (((cfg0.win 15).blk t).view.emb j)
  rw [emb15]
  obtain ⟨a, b, rfl⟩ : ∃ (a : Fin 16) (b : Fin 1024), j = ix2 a b := ⟨j 0, j 1, eq_ix2 j⟩
  exact h a b

theorem cov15 (i : S16x1024.Idx) : ∃ t : Fin cfg0.N, (cfg0.win 15).flush t = true ∧ i ∈ ((cfg0.win 15).blk t).view.set := by
  refine ⟨⟨31, show 31 < 32 by decide⟩, (flush0_15 _).mpr rfl, ?_⟩
  have h := ((cfg0.win 15).blk (⟨31, show 31 < 32 by decide⟩ : Fin cfg0.N)).view.emb_mem_set i
  rwa [emb15] at h

theorem fin15 (G : Holds m c A) : (dats m 0 c).arrAt 15 cfg0.N = (fun i : S16x1024.Idx => ((∑ r, term A r (i 0) (i 1) : ℝ) : EReal)) := by
  refine (dats m 0 c).arrAt_eq_of_cover 15 _ (fun t ht => (flushed15 m c t).trans (cut15 t _ (fun p b => ∑ r, term A r p b) fun p b => ?_)) cov15
  have h31 : t.val % 32 = 31 := (flush0_15 t).mp ht
  have h := pt15 G t.val t.isLt p b
  have ht' : t.val = 31 := by have := pt_lt t; omega
  refine h.trans (congrArg _ ?_)
  rw [ht']
  exact sum_rows fun r => term A r p b

end Cert.Ker
-- ==== Proof.Finite.lean ====
/- Under the precondition every entry of every argument is a real number, so that the argument arrays are those of some
   real arrays `Args`. -/
module

public import proofs.«01_k».proof.Defs
public import proofs.«01_k».proof.Proof.KerIn
public import Idealize.ShloMosaic.Lib.ReduceAll

@[expose] public section

set_option maxRecDepth 16384

noncomputable section

namespace Cert.Fin

open Idealize.ShloMosaic Idealize.ShloMosaic.ValueIdx Cert.Step Cert.Pre_finite

instance preFacts : Cert.Pre_finite.Facts where
  bcast_S_S1x8192x1024 := by decide
  reducesTo_S1x8192x1024_S_d0_1_2 := by decide
  h_S_ := by decide
  bitsLt_bf16_f32 := by decide
  bcast_S_S8192x1024 := by decide
  reducesTo_S8192x1024_S_d0_1 := by decide
  bcast_S_S1x6144 := by decide
  reducesTo_S1x6144_S_d0_1 := by decide
  bcast_S_S1x1024 := by decide
  reducesTo_S1x1024_S_d0_1 := by decide
  bcast_S_S4x256x1024 := by decide
  reducesTo_S4x256x1024_S_d0_1_2 := by decide
  bcast_S_S4x1024x1024 := by decide
  reducesTo_S4x1024x1024_S_d0_1_2 := by decide

theorem and_one : ∀ {a b : BitVec 1}, IntOp.andi a b = 1#1 → a = 1#1 ∧ b = 1#1 := by
  intro a b
  revert a b
  decide

theorem and_at (x y : IVec S_ 1) (j : S_.Idx) (h : andi x y j = 1#1) : x j = 1#1 ∧ y j = 1#1 := and_one h

theorem real_of_lt (x : Ideal .f32) (h : FloatOps.cmpf .olt (FloatOps.hostAbsf x) (FloatOps.ofBits (F := Ideal) .f32 0x7F800000#32) = 1#1) :
    ∃ r : ℝ, x = ((r : ℝ) : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  have hlt : max (x : EReal) (-(x : EReal)) < ⊤ := by
    by_contra hn
    simp [Ideal.cmp, hn] at h'
  refine ⟨EReal.toReal x, (EReal.coe_toReal (fun e => ?_) (fun e => ?_)).symm⟩
  · rw [e] at hlt; simp at hlt
  · rw [e] at hlt; simp at hlt

theorem all_real {s : Shape} {axes : List (Fin s.rank)} (x : FVec Ideal s .f32) (hb : S_.BroadcastsInDim s (![] : Fin 0 → Fin s.rank))
    (hr : s.ReducesTo axes S_) (hu : 0 < S_.numel) (j : S_.Idx)
    (e : Host.reduce IntOp.andi (cmpf .olt (Host.absf x) (broadcastInDim s ![] hb (constant S_ .f32 0x7F800000#32))) (constantI S_ 1 1#1) hr hu j = 1#1)
    (i : s.Idx) : ∃ r : ℝ, x i = ((r : ℝ) : EReal) := by
  have hs : Subsingleton S_.Idx := ⟨fun p q => funext fun d => d.elim0⟩
  exact real_of_lt (x i) (Host.reduce_andi_all _ _ hr hu j e i)

theorem coe_real {x : EReal} (h : ∃ r : ℝ, x = ((r : ℝ) : EReal)) : x = ((x.toReal : ℝ) : EReal) := by
  obtain ⟨r, rfl⟩ := h
  rw [EReal.toReal_coe]

theorem fn_real (x0 : FVec Ideal S1x8192x1024 .f32) (x1 : FVec Ideal S8192x1024 .bf16) (x2 : FVec Ideal S1x8192x1024 .f32) (x3 : FVec Ideal S1x6144 .f32)
    (x4 x5 x6 x7 : FVec Ideal S1x1024 .f32) (x8 : FVec Ideal S4x256x1024 .bf16) (x9 x10 : FVec Ideal S4x1024x1024 .bf16)
    (h : fn (F := Ideal) x0 x1 x2 x3 x4 x5 x6 x7 x8 x9 x10 = fun _ => 1#1) :
    (∀ i, ∃ r : ℝ, x0 i = ((r : ℝ) : EReal)) ∧ (∀ i, ∃ r : ℝ, x1 i = ((r : ℝ) : EReal)) ∧ (∀ i, ∃ r : ℝ, x2 i = ((r : ℝ) : EReal))
    ∧ (∀ i, ∃ r : ℝ, x3 i = ((r : ℝ) : EReal)) ∧ (∀ i, ∃ r : ℝ, x4 i = ((r : ℝ) : EReal)) ∧ (∀ i, ∃ r : ℝ, x5 i = ((r : ℝ) : EReal))
    ∧ (∀ i, ∃ r : ℝ, x6 i = ((r : ℝ) : EReal)) ∧ (∀ i, ∃ r : ℝ, x7 i = ((r : ℝ) : EReal)) ∧ (∀ i, ∃ r : ℝ, x8 i = ((r : ℝ) : EReal))
    ∧ (∀ i, ∃ r : ℝ, x9 i = ((r : ℝ) : EReal)) ∧ (∀ i, ∃ r : ℝ, x10 i = ((r : ℝ) : EReal)) := by
  have j : S_.Idx := fun d => d.elim0
  have h0 := congrFun h j
  obtain ⟨h9, k10⟩ := and_at _ _ j h0
  obtain ⟨h8, k9⟩ := and_at _ _ j h9
  obtain ⟨h7, k8⟩ := and_at _ _ j h8
  obtain ⟨h6, k7⟩ := and_at _ _ j h7
  obtain ⟨h5, k6⟩ := and_at _ _ j h6
  obtain ⟨h4, k5⟩ := and_at _ _ j h5
  obtain ⟨h3, k4⟩ := and_at _ _ j h4
  obtain ⟨h2, k3⟩ := and_at _ _ j h3
  obtain ⟨h1, k2⟩ := and_at _ _ j h2
  obtain ⟨k0, k1⟩ := and_at _ _ j h1
  exact ⟨all_real x0 _ _ _ j k0, all_real (extf .f32 x1 Facts.bitsLt_bf16_f32) _ _ _ j k1, all_real x2 _ _ _ j k2, all_real x3 _ _ _ j k3,
    all_real x4 _ _ _ j k4, all_real x5 _ _ _ j k5, all_real x6 _ _ _ j k6, all_real x7 _ _ _ j k7,
    all_real (extf .f32 x8 Facts.bitsLt_bf16_f32) _ _ _ j k8, all_real (extf .f32 x9 Facts.bitsLt_bf16_f32) _ _ _ j k9,
    all_real (extf .f32 x10 Facts.bitsLt_bf16_f32) _ _ _ j k10⟩

theorem row_eq {n : ℕ} (x : (⟨2, ![1, n]⟩ : Shape).Idx → EReal) (h : ∀ i, ∃ r : ℝ, x i = ((r : ℝ) : EReal)) :
    x = fun i => ((EReal.toReal (x (ix2 (0 : Fin 1) (i 1))) : ℝ) : EReal) := by
  funext i
  obtain ⟨p, b, rfl⟩ : ∃ (p : Fin 1) (b : Fin n), i = ix2 p b := ⟨i 0, i 1, eq_ix2 i⟩
  obtain rfl : p = 0 := Subsingleton.elim _ _
  exact coe_real (h _)

theorem mat_eq {m n : ℕ} (x : (⟨2, ![m, n]⟩ : Shape).Idx → EReal) (h : ∀ i, ∃ r : ℝ, x i = ((r : ℝ) : EReal)) :
    x = fun i => ((EReal.toReal (x (ix2 (i 0) (i 1))) : ℝ) : EReal) := by
  funext i
  obtain ⟨p, b, rfl⟩ : ∃ (p : Fin m) (b : Fin n), i = ix2 p b := ⟨i 0, i 1, eq_ix2 i⟩
  exact coe_real (h _)

theorem sheet_eq {m n : ℕ} (x : (⟨3, ![1, m, n]⟩ : Shape).Idx → EReal) (h : ∀ i, ∃ r : ℝ, x i = ((r : ℝ) : EReal)) :
    x = fun i => ((EReal.toReal (x (ix3 (0 : Fin 1) (i 1) (i 2))) : ℝ) : EReal) := by
  funext i
  obtain ⟨z, p, b, rfl⟩ : ∃ (z : Fin 1) (p : Fin m) (b : Fin n), i = ix3 z p b := ⟨i 0, i 1, i 2, eq_ix3 i⟩
  obtain rfl : z = 0 := Subsingleton.elim _ _
  exact coe_real (h _)

theorem block_eq {l m n : ℕ} (x : (⟨3, ![l, m, n]⟩ : Shape).Idx → EReal) (h : ∀ i, ∃ r : ℝ, x i = ((r : ℝ) : EReal)) :
    x = fun i => ((EReal.toReal (x (ix3 (i 0) (i 1) (i 2))) : ℝ) : EReal) := by
  funext i
  obtain ⟨z, p, b, rfl⟩ : ∃ (z : Fin l) (p : Fin m) (b : Fin n), i = ix3 z p b := ⟨i 0, i 1, i 2, eq_ix3 i⟩
  exact coe_real (h _)

/-- The real arrays of the arguments in a memory. -/
def args (x0 : FVec Ideal S1x8192x1024 .f32) (x1 : FVec Ideal S8192x1024 .bf16) (x2 : FVec Ideal S1x8192x1024 .f32) (x3 : FVec Ideal S1x6144 .f32)
    (x4 x5 x6 x7 : FVec Ideal S1x1024 .f32) (x8 : FVec Ideal S4x256x1024 .bf16) (x9 x10 : FVec Ideal S4x1024x1024 .bf16) : Args where
  x r b := EReal.toReal (x0 (ix3 (0 : Fin 1) r b))
  mx r b := EReal.toReal (x1 (ix2 r b))
  tg r b := EReal.toReal (x2 (ix3 (0 : Fin 1) r b))
  md b := EReal.toReal (x3 (ix2 (0 : Fin 1) b))
  l1w b := EReal.toReal (x4 (ix2 (0 : Fin 1) b))
  l1b b := EReal.toReal (x5 (ix2 (0 : Fin 1) b))
  l2w b := EReal.toReal (x6 (ix2 (0 : Fin 1) b))
  l2b b := EReal.toReal (x7 (ix2 (0 : Fin 1) b))
  wo s r b := EReal.toReal (x8 (ix3 s r b))
  w1 s r b := EReal.toReal (x9 (ix3 s r b))
  w2 s r b := EReal.toReal (x10 (ix3 s r b))

open Cert.KernelIdeal Idealize.ShloMosaic.TcCoe in
theorem holds (m : (ℓ : Loc nD τ sig) → Buf (Elt Ideal) ℓ) (h : Cert.Pre_KernelIdeal_finite m) (c : Dev nD) : ∃ A : Args, Cert.Ker.Holds m c A := by
  have hc := fn_real _ _ _ _ _ _ _ _ _ _ _ (h c)
  exact ⟨args (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10)),
    ⟨sheet_eq _ hc.1, mat_eq _ hc.2.1, sheet_eq _ hc.2.2.1, row_eq _ hc.2.2.2.1, row_eq _ hc.2.2.2.2.1, row_eq _ hc.2.2.2.2.2.1, row_eq _ hc.2.2.2.2.2.2.1,
      row_eq _ hc.2.2.2.2.2.2.2.1, block_eq _ hc.2.2.2.2.2.2.2.2.1, block_eq _ hc.2.2.2.2.2.2.2.2.2.1, block_eq _ hc.2.2.2.2.2.2.2.2.2.2⟩⟩

end Cert.Fin
-- ==== Proof.Algebraic.lean ====
/- The two programs run at real arguments: each ends with the same arrays, and with its arguments kept. -/
module

public import proofs.«01_k».proof.Proof.RefArr
public import proofs.«01_k».proof.Proof.KerArr
public import proofs.«01_k».proof.Proof.Finite
public import proofs.«01_k».proof.Proof.Gen.ReferenceIdeal.Run
public import proofs.«01_k».proof.Proof.Gen.KernelIdeal.Value
public import proofs.«01_k».proof.Proof.Gen.ReferenceIdeal.Read

@[expose] public section

set_option maxRecDepth 16384

noncomputable section

namespace Cert.Proof

open Idealize.ShloMosaic Idealize.SL.Sem Cert.Step

/-- The eleven arguments in a memory of the reference are the real numbers of `A`. -/
structure RefHolds (m : (ℓ : Loc Cert.ReferenceIdeal.nD Cert.ReferenceIdeal.τ Cert.ReferenceIdeal.sig) → Buf (Elt Ideal) ℓ)
    (c : Dev Cert.ReferenceIdeal.nD) (A : Args) : Prop where
  g0 : m ((c.tc : Thread Cert.ReferenceIdeal.nD Cert.ReferenceIdeal.τ).loc Cert.ReferenceIdeal.main_arg0) = a0 A
  g1 : m ((c.tc : Thread Cert.ReferenceIdeal.nD Cert.ReferenceIdeal.τ).loc Cert.ReferenceIdeal.main_arg1) = a1 A
  g2 : m ((c.tc : Thread Cert.ReferenceIdeal.nD Cert.ReferenceIdeal.τ).loc Cert.ReferenceIdeal.main_arg2) = a2 A
  g3 : m ((c.tc : Thread Cert.ReferenceIdeal.nD Cert.ReferenceIdeal.τ).loc Cert.ReferenceIdeal.main_arg3) = a3 A
  g4 : m ((c.tc : Thread Cert.ReferenceIdeal.nD Cert.ReferenceIdeal.τ).loc Cert.ReferenceIdeal.main_arg4) = a4 A
  g5 : m ((c.tc : Thread Cert.ReferenceIdeal.nD Cert.ReferenceIdeal.τ).loc Cert.ReferenceIdeal.main_arg5) = a5 A
  g6 : m ((c.tc : Thread Cert.ReferenceIdeal.nD Cert.ReferenceIdeal.τ).loc Cert.ReferenceIdeal.main_arg6) = a6 A
  g7 : m ((c.tc : Thread Cert.ReferenceIdeal.nD Cert.ReferenceIdeal.τ).loc Cert.ReferenceIdeal.main_arg7) = a7 A
  g8 : m ((c.tc : Thread Cert.ReferenceIdeal.nD Cert.ReferenceIdeal.τ).loc Cert.ReferenceIdeal.main_arg8) = a8 A
  g9 : m ((c.tc : Thread Cert.ReferenceIdeal.nD Cert.ReferenceIdeal.τ).loc Cert.ReferenceIdeal.main_arg9) = a9 A
  g10 : m ((c.tc : Thread Cert.ReferenceIdeal.nD Cert.ReferenceIdeal.τ).loc Cert.ReferenceIdeal.main_arg10) = a10 A

/-! ## The eight result arrays -/

def outDMX (A : Args) : Cert.ReferenceIdeal.S8192x1024.Idx → EReal := fun i => (((fun (r : Fin 8192) (b : Fin 1024) => dmx A r b) (i 0) (i 1) : ℝ) : EReal)
def outDXA (A : Args) : Cert.ReferenceIdeal.S8192x1024.Idx → EReal := fun i => (((fun (r : Fin 8192) (b : Fin 1024) => dxa A r b) (i 0) (i 1) : ℝ) : EReal)
def outACT (A : Args) : Cert.ReferenceIdeal.S8192x4096.Idx → EReal := fun i => (((fun (r : Fin 8192) (b : Fin 4096) => act A r ⟨b.val / 1024, by omega⟩ ⟨b.val % 1024, by omega⟩) (i 0) (i 1) : ℝ) : EReal)
def outDH (A : Args) : Cert.ReferenceIdeal.S8192x4096.Idx → EReal := fun i => (((fun (r : Fin 8192) (b : Fin 4096) => dh A r ⟨b.val / 1024, by omega⟩ ⟨b.val % 1024, by omega⟩) (i 0) (i 1) : ℝ) : EReal)
def outU2 (A : Args) : Cert.ReferenceIdeal.S8192x1024.Idx → EReal := fun i => (((fun (r : Fin 8192) (b : Fin 1024) => u2 A r b) (i 0) (i 1) : ℝ) : EReal)
def outDF (A : Args) : Cert.ReferenceIdeal.S8192x1024.Idx → EReal := fun i => (((fun (r : Fin 8192) (b : Fin 1024) => df A r b) (i 0) (i 1) : ℝ) : EReal)
def outDM (A : Args) : Cert.ReferenceIdeal.S8192x1024.Idx → EReal := fun i => (((fun (r : Fin 8192) (b : Fin 1024) => dm A r b) (i 0) (i 1) : ℝ) : EReal)
def outSUM (A : Args) : Cert.ReferenceIdeal.S16x1024.Idx → EReal := fun i => ((∑ r, term A r (i 0) (i 1) : ℝ) : EReal)

section Reference

open Cert.ReferenceIdeal Cert.ReferenceIdeal.Read Cert.Ref Idealize.ShloMosaic.StableHlo

variable (m : (ℓ : Loc nD τ sig) → Buf (Elt Ideal) ℓ) (ρ : Dev nD → PrngReg) (A : Dev nD → Args)

theorem run_reference (G : ∀ c, RefHolds m c (A c)) : θ_run (defs (F := Ideal)) (onTc (τ := τ) (main (F := Ideal))) ⟨m, fun _ => 0, ρ⟩ fun r => ∀ c : Dev nD,
      r.2.mem ((c.tc : Thread nD τ).loc main_v275) = outDMX (A c)
      ∧ r.2.mem ((c.tc : Thread nD τ).loc main_v274) = outDXA (A c)
      ∧ r.2.mem ((c.tc : Thread nD τ).loc main_v288) = outACT (A c)
      ∧ r.2.mem ((c.tc : Thread nD τ).loc main_v289) = outDH (A c)
      ∧ r.2.mem ((c.tc : Thread nD τ).loc main_v290) = outU2 (A c)
      ∧ r.2.mem ((c.tc : Thread nD τ).loc main_v291) = outDF (A c)
      ∧ r.2.mem ((c.tc : Thread nD τ).loc main_v292) = outDM (A c)
      ∧ r.2.mem ((c.tc : Thread nD τ).loc main_v287) = outSUM (A c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  refine (θ_run (defs (F := Ideal)) _ _).mono (fun r h c => ?_) (Cert.ReferenceIdeal.Value.run (F := Ideal) m ρ)
  have hc := h c
  have s275 : val_main_v275 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) = outDMX (A c) := by
    rw [(G c).g0, (G c).g1, (G c).g2, (G c).g3, (G c).g4, (G c).g5, (G c).g6, (G c).g7, (G c).g8, (G c).g9, (G c).g10]
    exact arr275 (A c)
  have s274 : val_main_v274 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) = outDXA (A c) := by
    rw [(G c).g0, (G c).g1, (G c).g2, (G c).g3, (G c).g4, (G c).g5, (G c).g6, (G c).g7, (G c).g8, (G c).g9, (G c).g10]
    exact arr274 (A c)
  have s288 : val_main_v288 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)) = outACT (A c) := by
    rw [(G c).g0, (G c).g1, (G c).g3, (G c).g4, (G c).g5, (G c).g8, (G c).g9]
    exact arr288 (A c)
  have s289 : val_main_v289 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) = outDH (A c) := by
    rw [(G c).g0, (G c).g1, (G c).g2, (G c).g3, (G c).g4, (G c).g5, (G c).g6, (G c).g7, (G c).g8, (G c).g9, (G c).g10]
    exact arr289 (A c)
  have s290 : val_main_v290 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg8)) = outU2 (A c) := by
    rw [(G c).g0, (G c).g1, (G c).g3, (G c).g4, (G c).g5, (G c).g8]
    exact arr290 (A c)
  have s291 : val_main_v291 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) = outDF (A c) := by
    rw [(G c).g0, (G c).g1, (G c).g2, (G c).g3, (G c).g4, (G c).g5, (G c).g6, (G c).g7, (G c).g8, (G c).g9, (G c).g10]
    exact arr291 (A c)
  have s292 : val_main_v292 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) = outDM (A c) := by
    rw [(G c).g0, (G c).g1, (G c).g2, (G c).g3, (G c).g4, (G c).g5, (G c).g6, (G c).g7, (G c).g8, (G c).g9, (G c).g10]
    exact arr292 (A c)
  have s287 : val_main_v287 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) = outSUM (A c) := by
    rw [(G c).g0, (G c).g1, (G c).g2, (G c).g3, (G c).g4, (G c).g5, (G c).g6, (G c).g7, (G c).g8, (G c).g9, (G c).g10]
    exact arr287 (A c)
  exact ⟨(hc.1.trans (val_main_v275_eq (launchContents m c))).trans s275,
    (hc.2.1.trans (val_main_v274_eq (launchContents m c))).trans s274,
    (hc.2.2.1.trans (val_main_v288_eq (launchContents m c))).trans s288,
    (hc.2.2.2.1.trans (val_main_v289_eq (launchContents m c))).trans s289,
    (hc.2.2.2.2.1.trans (val_main_v290_eq (launchContents m c))).trans s290,
    (hc.2.2.2.2.2.1.trans (val_main_v291_eq (launchContents m c))).trans s291,
    (hc.2.2.2.2.2.2.1.trans (val_main_v292_eq (launchContents m c))).trans s292,
    (hc.2.2.2.2.2.2.2.1.trans (val_main_v287_eq (launchContents m c))).trans s287,
    hc.2.2.2.2.2.2.2.2⟩

end Reference

section Kernel

open Cert.KernelIdeal Cert.Ker

variable (m : (ℓ : Loc nD τ sig) → Buf (Elt Ideal) ℓ) (ρ : Dev nD → PrngReg) (A : Dev nD → Args)

theorem run_kernel (G : ∀ c, Holds m c (A c)) : θ_run (defs (F := Ideal)) (onTc (τ := τ) (main (F := Ideal))) ⟨m, fun _ => 0, ρ⟩ fun r => ∀ c : Dev nD,
      r.2.mem ((c.tc : Thread nD τ).loc main_v4_0) = outDMX (A c)
      ∧ r.2.mem ((c.tc : Thread nD τ).loc main_v4_1) = outDXA (A c)
      ∧ r.2.mem ((c.tc : Thread nD τ).loc main_v4_2) = outACT (A c)
      ∧ r.2.mem ((c.tc : Thread nD τ).loc main_v4_3) = outDH (A c)
      ∧ r.2.mem ((c.tc : Thread nD τ).loc main_v4_4) = outU2 (A c)
      ∧ r.2.mem ((c.tc : Thread nD τ).loc main_v4_5) = outDF (A c)
      ∧ r.2.mem ((c.tc : Thread nD τ).loc main_v4_6) = outDM (A c)
      ∧ r.2.mem ((c.tc : Thread nD τ).loc main_v4_7) = outSUM (A c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  refine (θ_run (defs (F := Ideal)) _ _).mono (fun r h c => ?_) (Cert.KernelIdeal.Value.run_blocks (F := Ideal) m ρ)
  have hc := h c
  exact ⟨hc.1.trans (fin8 (G c)),
    hc.2.1.trans (fin9 (G c)),
    hc.2.2.1.trans (fin10 (G c)),
    hc.2.2.2.1.trans (fin11 (G c)),
    hc.2.2.2.2.1.trans (fin12 (G c)),
    hc.2.2.2.2.2.1.trans (fin13 (G c)),
    hc.2.2.2.2.2.2.1.trans (fin14 (G c)),
    hc.2.2.2.2.2.2.2.1.trans (fin15 (G c)),
    hc.2.2.2.2.2.2.2.2⟩

end Kernel

/-- From memories that agree on finite arguments, kernel and reference end with the same eight arrays. -/
theorem algebraic_mlp : Cert.algebraic_KernelIdeal_ReferenceIdeal_pre_finite := by
  intro m g m' g' hp hagree
  have hA : ∀ c, ∃ A : Args, Cert.Ker.Holds m c A := fun c => Cert.Fin.holds m hp c
  choose A hH using hA
  have hR : ∀ c, RefHolds m' c (A c) := fun c => by
    have e := hagree c
    have G := hH c
    exact ⟨e.1.trans G.g0, e.2.1.trans G.g1, e.2.2.1.trans G.g2, e.2.2.2.1.trans G.g3, e.2.2.2.2.1.trans G.g4, e.2.2.2.2.2.1.trans G.g5, e.2.2.2.2.2.2.1.trans G.g6, e.2.2.2.2.2.2.2.1.trans G.g7, e.2.2.2.2.2.2.2.2.1.trans G.g8, e.2.2.2.2.2.2.2.2.2.1.trans G.g9, e.2.2.2.2.2.2.2.2.2.2.trans G.g10⟩
  exact ⟨fun c => outDMX (A c), fun c => outDXA (A c), fun c => outACT (A c), fun c => outDH (A c), fun c => outU2 (A c), fun c => outDF (A c), fun c => outDM (A c), fun c => outSUM (A c), run_kernel m g A hH, run_reference m' g' A hR⟩

end Cert.Proof
-- ==== Proof.FfTwo.lean ====
/- The gradient of the second feed-forward weights as the kernel leaves it: each entry of the four slices is the sum, over all
   tokens, of the activation of its row times the incoming gradient of its column. -/
module

public import proofs.«01_k».proof.Proof.Gen.Kernel2Ideal.Value
public import Idealize.ShloMosaic.Lib.Pipeline.ValueKit
public import Idealize.ShloMosaic.Lib.Pipeline.ReadBack

@[expose] public section

set_option maxRecDepth 16384

noncomputable section

namespace Cert.FfTwo

open Cert.Kernel2Ideal Cert.Kernel2Ideal.Gen Cert.Kernel2Ideal.Value Idealize.ShloMosaic Idealize.ShloMosaic.TcCoe Idealize.ShloMosaic.Tactic Idealize.SL.Sem

/-! ## The product of two tiles -/

abbrev D := dot_S2048x1024_S2048x1024_S1024x1024_0_0_1_1_n_n

theorem lhs_nc (a b : Fin 1024) (q : D.contr.Idx) : (D.lhsIdx (ix2 a b) q 1).val = a.val := by
  unfold DotDims.lhsIdx
  rw [dif_neg (show ¬(1 : Fin S2048x1024.rank) ∈ D.lhsBatch by decide), dif_pos (show (1 : Fin S2048x1024.rank) ∈ D.lhsNonContracting by decide)]
  rfl

theorem rhs_nc (a b : Fin 1024) (q : D.contr.Idx) : (D.rhsIdx (ix2 a b) q 1).val = b.val := by
  unfold DotDims.rhsIdx
  rw [dif_neg (show ¬(1 : Fin S2048x1024.rank) ∈ D.rhsBatch by decide), dif_pos (show (1 : Fin S2048x1024.rank) ∈ D.rhsNonContracting by decide)]
  rfl

theorem lhs (a b : Fin 1024) (k : Fin 2048) : D.lhsIdx (ix2 a b) ((ValueIdx.contrEquiv1 D 2048 rfl rfl).symm k) = ix2 k a := by
  have hk := ValueIdx.contrEquiv1_symm_val D 2048 rfl rfl k
  funext d; apply Fin.ext
  match d with
  | ⟨0, _⟩ => exact (D.lhsIdx_val_of_single rfl _ _).trans hk
  | ⟨1, _⟩ => exact lhs_nc a b _

theorem rhs (a b : Fin 1024) (k : Fin 2048) : D.rhsIdx (ix2 a b) ((ValueIdx.contrEquiv1 D 2048 rfl rfl).symm k) = ix2 k b := by
  have hk := ValueIdx.contrEquiv1_symm_val D 2048 rfl rfl k
  funext d; apply Fin.ext
  match d with
  | ⟨0, _⟩ => exact (D.rhsIdx_val_of_single rfl _ _).trans hk
  | ⟨1, _⟩ => exact rhs_nc a b _

/-- A step's sum: what was there, plus the product of the two tiles over their tokens. -/
theorem step (s : Vec Ideal S1024x1024 .f32) (x0 x1 : Vec Ideal S2048x1024 .bf16) (a b : Fin 1024) :
    k0_pay2 (F := Ideal) s x0 x1 (ix2 a b) = s (ix2 a b) + ∑ k : Fin 2048, x0 (ix2 k a) * x1 (ix2 k b) := by
  unfold k0_pay2
  refine (shapeCast_apply _ _ (ix2 a b) (ix2 a b) rfl).trans ?_
  refine congrArg (s (ix2 a b) + ·) ?_
  refine (Ideal.matmul_constant_zero_apply (φ₁ := .bf16) (φ₂ := .bf16) D none x0 x1 (ix2 a b)).trans ?_
  rw [← Equiv.sum_comp (ValueIdx.contrEquiv1 D 2048 rfl rfl).symm]
  exact Finset.sum_congr rfl fun k _ => by rw [lhs, rhs]

theorem zero (i : S1024x1024.Idx) : k0_pay1 (F := Ideal) i = 0 := by
  unfold k0_pay1
  exact (shapeCast_apply _ _ i i rfl).trans (Ideal.ofBits_zero .f32)

/-- Writing a slice back changes no entry. -/
theorem slice (s : Vec Ideal S1024x1024 .f32) (a b : Fin 1024) : k0_pay3 (F := Ideal) s (ix3 (0 : Fin 1) a b) = s (ix2 a b) := by
  unfold k0_pay3
  refine (shapeCast_apply _ _ (ix3 (0 : Fin 1) a b) (ix2 a b) ?_).trans rfl
  rw [Shape.rowMajor_val_three, Shape.rowMajor_val_two]
  show a.val * 1024 + b.val = (0 * 1024 + a.val) * 1024 + b.val
  omega

/-! ## The windows -/

/-- Token `j` of token tile `k`. -/
def tok (k : ℕ) (j : Fin 2048) : Fin 8192 := ⟨(2048 * k + j.val) % 8192, Nat.mod_lt _ (by decide)⟩
/-- Row `a` of feature block `q`. -/
def row (q : ℕ) (a : Fin 1024) : Fin 4096 := ⟨(1024 * q + a.val) % 4096, Nat.mod_lt _ (by decide)⟩

variable (m : (ℓ : Loc nD τ sig) → Buf (Elt Ideal) ℓ) (c : Dev nD)

abbrev X : S8192x4096.Idx → EReal := m ((c : Thread nD τ).loc main_arg0)
abbrev Y : S8192x1024.Idx → EReal := m ((c : Thread nD τ).loc main_arg1)

theorem idx0 : ∀ t : Fin cfg0.N, win0_0.index t (0 : Fin 2) = t.val % 4 ∧ win0_0.index t (1 : Fin 2) = t.val / 4 :=
  (by decide +kernel : ∀ t : Fin grid0.N, _)
theorem idx1 : ∀ t : Fin cfg0.N, win0_1.index t (0 : Fin 2) = t.val % 4 ∧ win0_1.index t (1 : Fin 2) = 0 :=
  (by decide +kernel : ∀ t : Fin grid0.N, _)
theorem pt_lt (t : Fin cfg0.N) : t.val < 16 := t.isLt

theorem blk0 (t : Fin cfg0.N) (j : Fin 2048) (a : Fin 1024) : (iblk m c 0 t : S2048x1024.Idx → EReal) (ix2 j a) = X m c (ix2 (tok (t.val % 4) j) (row (t.val / 4) a)) := by
  obtain ⟨e0, e1⟩ := idx0 t
  have h := pt_lt t
  show V m c main_arg0 (((cfg0.win 0).blk t).view.emb (ix2 j a)) = _
  rw [V_main_arg0]
  refine congrArg _ (funext fun d => Fin.ext ?_)
  match d with
  | ⟨0, _⟩ => show win0_0.index t (0 : Fin 2) * 2048 + 1 * j.val = (2048 * (t.val % 4) + j.val) % 8192; omega
  | ⟨1, _⟩ => show win0_0.index t (1 : Fin 2) * 1024 + 1 * a.val = (1024 * (t.val / 4) + a.val) % 4096; omega

theorem blk1 (t : Fin cfg0.N) (j : Fin 2048) (b : Fin 1024) : (iblk m c 1 t : S2048x1024.Idx → EReal) (ix2 j b) = Y m c (ix2 (tok (t.val % 4) j) b) := by
  obtain ⟨e0, e1⟩ := idx1 t
  have h := pt_lt t
  show V m c main_arg1 (((cfg0.win 1).blk t).view.emb (ix2 j b)) = _
  rw [V_main_arg1]
  refine congrArg _ (funext fun d => Fin.ext ?_)
  match d with
  | ⟨0, _⟩ => show win0_1.index t (0 : Fin 2) * 2048 + 1 * j.val = (2048 * (t.val % 4) + j.val) % 8192; omega
  | ⟨1, _⟩ => show win0_1.index t (1 : Fin 2) * 1024 + 1 * b.val = b.val; omega

/-! ## The sums from point to point -/

/-- What point `n` adds at an entry of its slice. -/
def term (n : ℕ) (i : S1024x1024.Idx) : EReal := ∑ j : Fin 2048, X m c (ix2 (tok (n % 4) j) (row (n / 4) (i 0))) * Y m c (ix2 (tok (n % 4) j) (i 1))

theorem step_at (t : Fin cfg0.N) (s : Vec Ideal S1024x1024 .f32) (i : S1024x1024.Idx) :
    k0_pay2 (F := Ideal) s (iblk m c 0 t) (iblk m c 1 t) i = s i + term m c t.val i := by
  obtain ⟨a, b, rfl⟩ : ∃ (a b : Fin 1024), i = ix2 a b := ⟨i 0, i 1, eq_ix2 i⟩
  refine (step s _ _ a b).trans (congrArg (s (ix2 a b) + ·) (Finset.sum_congr rfl fun j _ => ?_))
  exact congrArg₂ (· * ·) (blk0 m c t j a) (blk1 m c t j b)

theorem first (t : Fin cfg0.N) (h0 : t.val % 4 = 0) (i : S1024x1024.Idx) : (outsAt0 m c t.val t.isLt).2 i = 0 + term m c t.val i := by
  have h1 : ¬t.val % 4 = 3 := by omega
  rw [outsAt0_A m c t h0 h1]
  frame_out
  exact (step_at m c t _ i).trans (congrArg (· + _) (zero i))

theorem next (t : Fin cfg0.N) (h0 : ¬t.val % 4 = 0) (i : S1024x1024.Idx) :
    (outsAt0 m c t.val t.isLt).2 i = (outsAt0 m c (t.val - 1) (Nat.lt_of_le_of_lt (Nat.sub_le _ _) t.isLt)).2 i + term m c t.val i := by
  by_cases h1 : t.val % 4 = 3
  · rw [outsAt0_C m c t h0 h1]
    frame_out
    simp only [read_unread_whole]
    exact step_at m c t _ i
  · rw [outsAt0_B m c t h0 h1]
    frame_out
    simp only [read_unread_whole]
    exact step_at m c t _ i

/-- The slice written at the last token tile is what the sums hold then. -/
theorem last (t : Fin cfg0.N) (h1 : t.val % 4 = 3) (a b : Fin 1024) :
    (outsAt0 m c t.val t.isLt).1 (ix3 (0 : Fin 1) a b) = (outsAt0 m c t.val t.isLt).2 (ix2 a b) := by
  have h0 : ¬t.val % 4 = 0 := by omega
  rw [outsAt0_C m c t h0 h1]
  frame_out
  exact slice _ a b

/-- The sum over all tokens, tile by tile. -/
theorem sum_tok (f : Fin 8192 → EReal) : ∑ k ∈ Finset.range 4, ∑ j, f (tok k j) = ∑ r, f r := by
  rw [Finset.sum_range, ← Fintype.sum_prod_type' (f := fun (k : Fin 4) (j : Fin 2048) => f (tok k.val j))]
  refine Fintype.sum_equiv (finProdFinEquiv : Fin 4 × Fin 2048 ≃ Fin 8192) _ _ fun kj => congrArg f (Fin.ext ?_)
  show (2048 * kj.1.val + kj.2.val) % 8192 = kj.2.val + 2048 * kj.1.val
  have := kj.1.isLt; have := kj.2.isLt
  omega

theorem total (t : Fin cfg0.N) (h1 : t.val % 4 = 3) (a b : Fin 1024) :
    (outsAt0 m c t.val t.isLt).1 (ix3 (0 : Fin 1) a b) = ∑ r : Fin 8192, X m c (ix2 r (row (t.val / 4) a)) * Y m c (ix2 r b) := by
  refine (last m c t h1 a b).trans ?_
  have h := Pipeline.eq_sum_of_reset_step_apply_of_mod (fun n h => (outsAt0 m c n h).2) 4 (fun _ => 0) (term m c)
    (first m c) (next m c) t h1 (ix2 a b)
  refine h.trans ((zero_add _).trans ?_)
  refine Eq.trans ?_ (sum_tok fun r => X m c (ix2 r (row (t.val / 4) a)) * Y m c (ix2 r b))
  refine Finset.sum_congr rfl fun k hk => ?_
  have hk' := Finset.mem_range.1 hk
  have ek : (4 * (t.val / 4) + k) % 4 = k := by omega
  have eq : (4 * (t.val / 4) + k) / 4 = t.val / 4 := by omega
  unfold term
  rw [ek, eq]
  rfl

/-- The four slices of the gradient. -/
def out (X : S8192x4096.Idx → EReal) (Y : S8192x1024.Idx → EReal) : S4x1024x1024.Idx → EReal := fun i => ∑ r : Fin 8192, X (ix2 r (row (i 0).val (i 1))) * Y (ix2 r (i 2))

theorem final (c : Dev nD) : G2 m c = out (X m c) (Y m c) := by
  funext i
  have hi0 : (i 0).val < 4 := (i 0).isLt
  have hi1 : (i 1).val < 1024 := (i 1).isLt
  have hi2 : (i 2).val < 1024 := (i 2).isLt
  have hr : run2Of i = (i 0).val := by
    show 1 * ((i 0).val / 1 - 0) + 1 * ((i 1).val / 1024 - 0) + 1 * ((i 2).val / 1024 - 0) = _
    omega
  have hp : pt2Of i < cfg0.N := by
    show 4 * run2Of i + 3 < 16
    omega
  unfold G2
  rw [dif_pos hp]
  refine (congrFun (congrArg Prod.fst (outsAt0_sweep m c (pt2Of i) hp).symm) (loc2Of i)).trans ?_
  have hl : loc2Of i = ix3 (0 : Fin 1) (i 1) (i 2) := by
    funext a; apply Fin.ext
    match a with
    | ⟨0, _⟩ => show (i 0).val % 1 = 0; omega
    | ⟨1, _⟩ => show (i 1).val % 1024 = (i 1).val; omega
    | ⟨2, _⟩ => show (i 2).val % 1024 = (i 2).val; omega
  rw [hl]
  have h3 : pt2Of i % 4 = 3 := by show (4 * run2Of i + 3) % 4 = 3; omega
  have hq : pt2Of i / 4 = (i 0).val := by show (4 * run2Of i + 3) / 4 = _; omega
  refine (total m c ⟨pt2Of i, hp⟩ h3 (i 1) (i 2)).trans ?_
  show ∑ r : Fin 8192, X m c (ix2 r (row (pt2Of i / 4) (i 1))) * Y m c (ix2 r (i 2)) = _
  rw [hq]
  rfl

end Cert.FfTwo
-- ==== Proof.FfTwoAlg.lean ====
/- The reference of the gradient of the second feed-forward matrix computes the sums the kernel computes, so the two end with the same slices. -/
module

public import proofs.«01_k».proof.Defs
public import proofs.«01_k».proof.Proof.Gen.Reference2Ideal
public import proofs.«01_k».proof.Proof.Gen.Reference2Ideal.Run
public import proofs.«01_k».proof.Proof.Gen.Reference2Ideal.Read
public import proofs.«01_k».proof.Proof.FfTwo
public import Idealize.ShloMosaic.Adequacy
public import Idealize.ShloMosaic.Init

@[expose] public section

noncomputable section

namespace Cert.FfTwo

open Idealize.ShloMosaic Idealize.SL.Sem
open Cert.Reference2Ideal Cert.Reference2Ideal.Read

/-- The reference transposes the product it takes, so its entries are the kernel's sums with the factors exchanged. -/
theorem reference_out (x : S8192x4096.Idx → EReal) (y : S8192x1024.Idx → EReal) :
    val_main_v7 (F := Ideal) x y = Cert.FfTwo.out x y := by
  funext i
  rw [val_main_v7_apply]
  refine (val_main_v6_apply (F := Ideal) x y i).trans ?_
  rw [val_main_v5_apply, val_main_v4_apply]
  refine Finset.sum_congr rfl fun k _ => ?_
  refine (mul_comm _ _).trans ?_
  have h0 : (i 0).val < 4 := (i 0).isLt
  have h1 : (i 1).val < 1024 := (i 1).isLt
  have h2 : (i 2).val < 1024 := (i 2).isLt
  refine congrArg₂ (· * ·) (congrArg x (funext fun a => Fin.ext ?_)) (congrArg y (funext fun a => Fin.ext ?_))
  · match a with
    | ⟨0, _⟩ => rfl
    | ⟨1, _⟩ => show (((i 0).val * 1024 + (i 1).val) * 1024 + (i 2).val) / 1024 = (1024 * (i 0).val + (i 1).val) % 4096; omega
  · match a with
    | ⟨0, _⟩ => rfl
    | ⟨1, _⟩ => show (((i 0).val * 1024 + (i 1).val) * 1024 + (i 2).val) % 1024 = (i 2).val; omega

theorem frame_reference : Cert.quiescent_Reference2Ideal := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

theorem algebraic : Cert.algebraic_Kernel2Ideal_Reference2Ideal := by
  intro m g m' g' hp hagree
  refine ⟨fun c => Cert.FfTwo.out (Cert.FfTwo.X m c) (Cert.FfTwo.Y m c), ?_, ?_⟩
  · exact (θ_run Cert.Kernel2Ideal.defs _ _).mono
      (fun r h c => ⟨(h c).1.trans (Cert.FfTwo.final m c), (h c).2⟩)
      (Cert.Kernel2Ideal.Value.run (F := Ideal) m g)
  · refine (θ_run Cert.Reference2Ideal.defs _ _).mono
      (fun r h c => ⟨(h c).1.trans ?_, (h c).2⟩)
      (Cert.Reference2Ideal.Value.run (F := Ideal) m' g')
    refine (val_main_v7_eq (F := Ideal) _ _).trans ((reference_out _ _).trans ?_)
    exact congrArg₂ Cert.FfTwo.out (hagree c).1 (hagree c).2

end Cert.FfTwo

end
-- ==== Proof.OutGrad.lean ====
/- The gradient of the output projection's weights as the kernel leaves it: each entry of the four slices is the sum, over all
   tokens, of the mixed value of its row times the incoming gradient of its column. -/
module

public import proofs.«01_k».proof.Proof.Gen.Kernel3Ideal.Value
public import Idealize.ShloMosaic.Lib.Pipeline.ValueKit
public import Idealize.ShloMosaic.Lib.Pipeline.ReadBack

@[expose] public section

set_option maxRecDepth 16384

noncomputable section

namespace Cert.OutGrad

open Cert.Kernel3Ideal Cert.Kernel3Ideal.Gen Cert.Kernel3Ideal.Value Idealize.ShloMosaic Idealize.ShloMosaic.TcCoe Idealize.ShloMosaic.Tactic Idealize.SL.Sem

/-! ## The product of two tiles -/

abbrev D := dot_S2048x1024_S2048x1024_S1024x1024_0_0_1_1_n_n

theorem lhs_nc (a b : Fin 1024) (q : D.contr.Idx) : (D.lhsIdx (ix2 a b) q 1).val = a.val := by
  unfold DotDims.lhsIdx
  rw [dif_neg (show ¬(1 : Fin S2048x1024.rank) ∈ D.lhsBatch by decide), dif_pos (show (1 : Fin S2048x1024.rank) ∈ D.lhsNonContracting by decide)]
  rfl

theorem rhs_nc (a b : Fin 1024) (q : D.contr.Idx) : (D.rhsIdx (ix2 a b) q 1).val = b.val := by
  unfold DotDims.rhsIdx
  rw [dif_neg (show ¬(1 : Fin S2048x1024.rank) ∈ D.rhsBatch by decide), dif_pos (show (1 : Fin S2048x1024.rank) ∈ D.rhsNonContracting by decide)]
  rfl

theorem lhs (a b : Fin 1024) (k : Fin 2048) : D.lhsIdx (ix2 a b) ((ValueIdx.contrEquiv1 D 2048 rfl rfl).symm k) = ix2 k a := by
  have hk := ValueIdx.contrEquiv1_symm_val D 2048 rfl rfl k
  funext d; apply Fin.ext
  match d with
  | ⟨0, _⟩ => exact (D.lhsIdx_val_of_single rfl _ _).trans hk
  | ⟨1, _⟩ => exact lhs_nc a b _

theorem rhs (a b : Fin 1024) (k : Fin 2048) : D.rhsIdx (ix2 a b) ((ValueIdx.contrEquiv1 D 2048 rfl rfl).symm k) = ix2 k b := by
  have hk := ValueIdx.contrEquiv1_symm_val D 2048 rfl rfl k
  funext d; apply Fin.ext
  match d with
  | ⟨0, _⟩ => exact (D.rhsIdx_val_of_single rfl _ _).trans hk
  | ⟨1, _⟩ => exact rhs_nc a b _

/-- A step's sum: what was there, plus the product of the two tiles over their tokens. -/
theorem step (s : Vec Ideal S1024x1024 .f32) (x0 x1 : Vec Ideal S2048x1024 .bf16) (a b : Fin 1024) :
    k0_pay2 (F := Ideal) s x0 x1 (ix2 a b) = s (ix2 a b) + ∑ k : Fin 2048, x0 (ix2 k a) * x1 (ix2 k b) := by
  unfold k0_pay2
  refine (shapeCast_apply _ _ (ix2 a b) (ix2 a b) rfl).trans ?_
  refine congrArg (s (ix2 a b) + ·) ?_
  refine (Ideal.matmul_constant_zero_apply (φ₁ := .bf16) (φ₂ := .bf16) D none x0 x1 (ix2 a b)).trans ?_
  rw [← Equiv.sum_comp (ValueIdx.contrEquiv1 D 2048 rfl rfl).symm]
  exact Finset.sum_congr rfl fun k _ => by rw [lhs, rhs]

theorem zero (i : S1024x1024.Idx) : k0_pay1 (F := Ideal) i = 0 := by
  unfold k0_pay1
  exact (shapeCast_apply _ _ i i rfl).trans (Ideal.ofBits_zero .f32)

/-! Writing a slice back changes no entry. -/

theorem slice3 (s : Vec Ideal S256x1024 .f32) (a : Fin 256) (b : Fin 1024) : k0_pay3 (F := Ideal) s (ix3 (0 : Fin 1) a b) = s (ix2 a b) := by
  unfold k0_pay3
  refine (shapeCast_apply _ _ (ix3 (0 : Fin 1) a b) (ix2 a b) ?_).trans rfl
  rw [Shape.rowMajor_val_three, Shape.rowMajor_val_two]
  show a.val * 1024 + b.val = (0 * 256 + a.val) * 1024 + b.val
  omega

theorem slice4 (s : Vec Ideal S256x1024 .f32) (a : Fin 256) (b : Fin 1024) : k0_pay4 (F := Ideal) s (ix3 (0 : Fin 1) a b) = s (ix2 a b) := by
  unfold k0_pay4
  refine (shapeCast_apply _ _ (ix3 (0 : Fin 1) a b) (ix2 a b) ?_).trans rfl
  rw [Shape.rowMajor_val_three, Shape.rowMajor_val_two]
  show a.val * 1024 + b.val = (0 * 256 + a.val) * 1024 + b.val
  omega

theorem slice5 (s : Vec Ideal S256x1024 .f32) (a : Fin 256) (b : Fin 1024) : k0_pay5 (F := Ideal) s (ix3 (0 : Fin 1) a b) = s (ix2 a b) := by
  unfold k0_pay5
  refine (shapeCast_apply _ _ (ix3 (0 : Fin 1) a b) (ix2 a b) ?_).trans rfl
  rw [Shape.rowMajor_val_three, Shape.rowMajor_val_two]
  show a.val * 1024 + b.val = (0 * 256 + a.val) * 1024 + b.val
  omega

theorem slice6 (s : Vec Ideal S256x1024 .f32) (a : Fin 256) (b : Fin 1024) : k0_pay6 (F := Ideal) s (ix3 (0 : Fin 1) a b) = s (ix2 a b) := by
  unfold k0_pay6
  refine (shapeCast_apply _ _ (ix3 (0 : Fin 1) a b) (ix2 a b) ?_).trans rfl
  rw [Shape.rowMajor_val_three, Shape.rowMajor_val_two]
  show a.val * 1024 + b.val = (0 * 256 + a.val) * 1024 + b.val
  omega

/-! ## The windows -/

/-- Token `j` of token tile `k`. -/
def tok (k : ℕ) (j : Fin 2048) : Fin 8192 := ⟨(2048 * k + j.val) % 8192, Nat.mod_lt _ (by decide)⟩
/-- Row `a` of slice `q`. -/
def row (q : Fin 4) (a : Fin 256) : Fin 1024 := ⟨256 * q.val + a.val, by have := q.isLt; have := a.isLt; omega⟩

variable (m : (ℓ : Loc nD τ sig) → Buf (Elt Ideal) ℓ) (c : Dev nD)

abbrev X : S8192x1024.Idx → EReal := m ((c : Thread nD τ).loc main_arg0)
abbrev Y : S8192x1024.Idx → EReal := m ((c : Thread nD τ).loc main_arg1)

theorem idx0 : ∀ t : Fin cfg0.N, win0_0.index t (0 : Fin 2) = t.val % 4 ∧ win0_0.index t (1 : Fin 2) = 0 :=
  (by decide +kernel : ∀ t : Fin grid0.N, _)
theorem idx1 : ∀ t : Fin cfg0.N, win0_1.index t (0 : Fin 2) = t.val % 4 ∧ win0_1.index t (1 : Fin 2) = 0 :=
  (by decide +kernel : ∀ t : Fin grid0.N, _)
theorem pt_lt (t : Fin cfg0.N) : t.val < 4 := t.isLt

theorem blk0 (t : Fin cfg0.N) (j : Fin 2048) (a : Fin 1024) : (iblk m c 0 t : S2048x1024.Idx → EReal) (ix2 j a) = X m c (ix2 (tok (t.val % 4) j) a) := by
  obtain ⟨e0, e1⟩ := idx0 t
  have h := pt_lt t
  show V m c main_arg0 (((cfg0.win 0).blk t).view.emb (ix2 j a)) = _
  rw [V_main_arg0]
  refine congrArg _ (funext fun d => Fin.ext ?_)
  match d with
  | ⟨0, _⟩ => show win0_0.index t (0 : Fin 2) * 2048 + 1 * j.val = (2048 * (t.val % 4) + j.val) % 8192; omega
  | ⟨1, _⟩ => show win0_0.index t (1 : Fin 2) * 1024 + 1 * a.val = a.val; omega

theorem blk1 (t : Fin cfg0.N) (j : Fin 2048) (b : Fin 1024) : (iblk m c 1 t : S2048x1024.Idx → EReal) (ix2 j b) = Y m c (ix2 (tok (t.val % 4) j) b) := by
  obtain ⟨e0, e1⟩ := idx1 t
  have h := pt_lt t
  show V m c main_arg1 (((cfg0.win 1).blk t).view.emb (ix2 j b)) = _
  rw [V_main_arg1]
  refine congrArg _ (funext fun d => Fin.ext ?_)
  match d with
  | ⟨0, _⟩ => show win0_1.index t (0 : Fin 2) * 2048 + 1 * j.val = (2048 * (t.val % 4) + j.val) % 8192; omega
  | ⟨1, _⟩ => show win0_1.index t (1 : Fin 2) * 1024 + 1 * b.val = b.val; omega

/-! ## The sums from point to point -/

/-- What point `n` adds at an entry of its slice. -/
def term (n : ℕ) (i : S1024x1024.Idx) : EReal := ∑ j : Fin 2048, X m c (ix2 (tok (n % 4) j) (i 0)) * Y m c (ix2 (tok (n % 4) j) (i 1))

theorem step_at (t : Fin cfg0.N) (s : Vec Ideal S1024x1024 .f32) (i : S1024x1024.Idx) :
    k0_pay2 (F := Ideal) s (iblk m c 0 t) (iblk m c 1 t) i = s i + term m c t.val i := by
  obtain ⟨a, b, rfl⟩ : ∃ (a b : Fin 1024), i = ix2 a b := ⟨i 0, i 1, eq_ix2 i⟩
  refine (step s _ _ a b).trans (congrArg (s (ix2 a b) + ·) (Finset.sum_congr rfl fun j _ => ?_))
  exact congrArg₂ (· * ·) (blk0 m c t j a) (blk1 m c t j b)

theorem first (t : Fin cfg0.N) (h0 : t.val % 4 = 0) (i : S1024x1024.Idx) : (outsAt0 m c t.val t.isLt).2 i = 0 + term m c t.val i := by
  have h1 : ¬t.val % 4 = 3 := by omega
  rw [outsAt0_A m c t h0 h1]
  frame_out
  exact (step_at m c t _ i).trans (congrArg (· + _) (zero i))

theorem next (t : Fin cfg0.N) (h0 : ¬t.val % 4 = 0) (i : S1024x1024.Idx) :
    (outsAt0 m c t.val t.isLt).2 i = (outsAt0 m c (t.val - 1) (Nat.lt_of_le_of_lt (Nat.sub_le _ _) t.isLt)).2 i + term m c t.val i := by
  by_cases h1 : t.val % 4 = 3
  · rw [outsAt0_C m c t h0 h1]
    frame_out
    simp only [read_unread_whole]
    exact step_at m c t _ i
  · rw [outsAt0_B m c t h0 h1]
    frame_out
    simp only [read_unread_whole]
    exact step_at m c t _ i

/-- The slices written at the last token tile are what the sums hold then. -/
theorem last (t : Fin cfg0.N) (h1 : t.val % 4 = 3) (q : Fin 4) (a : Fin 256) (b : Fin 1024) :
    (outsAt0 m c t.val t.isLt).1 (ix3 q a b) = (outsAt0 m c t.val t.isLt).2 (ix2 (row q a) b) := by
  have h0 : ¬t.val % 4 = 0 := by omega
  rw [outsAt0_C m c t h0 h1]
  frame_out
  generalize k0_pay2 (F := Ideal) _ _ _ = s
  canon_tiles x h
  all_goals
    simp (disch := decide) only [View.readCov_eq_canon', View.canon_cons_unit_lit]
    obtain ⟨z, a', b', rfl⟩ : ∃ (z : Fin 1) (a' : Fin 256) (b' : Fin 1024), x = ix3 z a' b' := ⟨x 0, x 1, x 2, eq_ix3 x⟩
  · obtain rfl : z = 0 := Subsingleton.elim _ _
    refine (slice6 _ a' b').trans (congrArg s ?_)
    have e1 : (q : ℕ) = 3 := by simpa using h0
    have e2 : (a : ℕ) = a' := h1
    have e3 : (b : ℕ) = b' := h2
    funext w
    match w with
    | 0 => exact Fin.ext (by show 768 + 1 * (a' : ℕ) = 256 * (q : ℕ) + (a : ℕ); omega)
    | 1 => exact Fin.ext (by show 0 + 1 * (b' : ℕ) = (b : ℕ); omega)
  · obtain rfl : z = 0 := Subsingleton.elim _ _
    refine (slice5 _ a' b').trans (congrArg s ?_)
    have e1 : (q : ℕ) = 2 := by simpa using h0
    have e2 : (a : ℕ) = a' := h1
    have e3 : (b : ℕ) = b' := h2
    funext w
    match w with
    | 0 => exact Fin.ext (by show 512 + 1 * (a' : ℕ) = 256 * (q : ℕ) + (a : ℕ); omega)
    | 1 => exact Fin.ext (by show 0 + 1 * (b' : ℕ) = (b : ℕ); omega)
  · obtain rfl : z = 0 := Subsingleton.elim _ _
    refine (slice4 _ a' b').trans (congrArg s ?_)
    have e1 : (q : ℕ) = 1 := by simpa using h0
    have e2 : (a : ℕ) = a' := h1
    have e3 : (b : ℕ) = b' := h2
    funext w
    match w with
    | 0 => exact Fin.ext (by show 256 + 1 * (a' : ℕ) = 256 * (q : ℕ) + (a : ℕ); omega)
    | 1 => exact Fin.ext (by show 0 + 1 * (b' : ℕ) = (b : ℕ); omega)
  · obtain rfl : z = 0 := Subsingleton.elim _ _
    refine (slice3 _ a' b').trans (congrArg s ?_)
    have e1 : (q : ℕ) = 0 := by simpa using h0
    have e2 : (a : ℕ) = a' := h1
    have e3 : (b : ℕ) = b' := h2
    funext w
    match w with
    | 0 => exact Fin.ext (by show 0 + 1 * (a' : ℕ) = 256 * (q : ℕ) + (a : ℕ); omega)
    | 1 => exact Fin.ext (by show 0 + 1 * (b' : ℕ) = (b : ℕ); omega)

/-- The sum over all tokens, tile by tile. -/
theorem sum_tok (f : Fin 8192 → EReal) : ∑ k ∈ Finset.range 4, ∑ j, f (tok k j) = ∑ r, f r := by
  rw [Finset.sum_range, ← Fintype.sum_prod_type' (f := fun (k : Fin 4) (j : Fin 2048) => f (tok k.val j))]
  refine Fintype.sum_equiv (finProdFinEquiv : Fin 4 × Fin 2048 ≃ Fin 8192) _ _ fun kj => congrArg f (Fin.ext ?_)
  show (2048 * kj.1.val + kj.2.val) % 8192 = kj.2.val + 2048 * kj.1.val
  have := kj.1.isLt; have := kj.2.isLt
  omega

theorem total (t : Fin cfg0.N) (h1 : t.val % 4 = 3) (q : Fin 4) (a : Fin 256) (b : Fin 1024) :
    (outsAt0 m c t.val t.isLt).1 (ix3 q a b) = ∑ r : Fin 8192, X m c (ix2 r (row q a)) * Y m c (ix2 r b) := by
  refine (last m c t h1 q a b).trans ?_
  have h := Pipeline.eq_sum_of_reset_step_apply_of_mod (fun n h => (outsAt0 m c n h).2) 4 (fun _ => 0) (term m c)
    (first m c) (next m c) t h1 (ix2 (row q a) b)
  refine h.trans ((zero_add _).trans ?_)
  refine Eq.trans ?_ (sum_tok fun r => X m c (ix2 r (row q a)) * Y m c (ix2 r b))
  refine Finset.sum_congr rfl fun k hk => ?_
  have hk' := Finset.mem_range.1 hk
  have ek : (4 * (t.val / 4) + k) % 4 = k := by omega
  unfold term
  rw [ek]
  rfl

/-- The four slices of the gradient. -/
def out (X Y : S8192x1024.Idx → EReal) : S4x256x1024.Idx → EReal := fun i => ∑ r : Fin 8192, X (ix2 r (row (i 0) (i 1))) * Y (ix2 r (i 2))

theorem last_point : 3 < cfg0.N := lt_of_lt_of_eq (by decide) N_0.symm

theorem final (c : Dev nD) : G2 m c = out (X m c) (Y m c) := by
  funext i
  obtain ⟨q, a, b, rfl⟩ : ∃ (q : Fin 4) (a : Fin 256) (b : Fin 1024), i = ix3 q a b := ⟨i 0, i 1, i 2, eq_ix3 i⟩
  refine (congrFun (G2_last m c) (ix3 q a b)).trans ?_
  refine (congrFun (congrArg Prod.fst (outsAt0_sweep m c 3 last_point).symm) (ix3 q a b)).trans ?_
  exact total m c ⟨3, last_point⟩ (by decide : 3 % 4 = 3) q a b

end Cert.OutGrad
-- ==== Proof.OutGradAlg.lean ====
/- The reference of the gradient of the output projection computes the sums the kernel computes, so the two end with the same slices. -/
module

public import proofs.«01_k».proof.Defs
public import proofs.«01_k».proof.Proof.Gen.Reference3Ideal
public import proofs.«01_k».proof.Proof.Gen.Reference3Ideal.Run
public import proofs.«01_k».proof.Proof.Gen.Reference3Ideal.Read
public import proofs.«01_k».proof.Proof.OutGrad
public import Idealize.ShloMosaic.Adequacy
public import Idealize.ShloMosaic.Init

@[expose] public section

noncomputable section

namespace Cert.OutGrad

open Idealize.ShloMosaic Idealize.SL.Sem
open Cert.Reference3Ideal Cert.Reference3Ideal.Read

/-- The reference transposes the product it takes, so its entries are the kernel's sums with the factors exchanged. -/
theorem reference_out (x : S8192x1024.Idx → EReal) (y : S8192x1024.Idx → EReal) :
    val_main_v7 (F := Ideal) x y = Cert.OutGrad.out x y := by
  funext i
  rw [val_main_v7_apply]
  refine (val_main_v6_apply (F := Ideal) x y i).trans ?_
  rw [val_main_v5_apply, val_main_v4_apply]
  refine Finset.sum_congr rfl fun k _ => ?_
  refine (mul_comm _ _).trans ?_
  have h0 : (i 0).val < 4 := (i 0).isLt
  have h1 : (i 1).val < 256 := (i 1).isLt
  have h2 : (i 2).val < 1024 := (i 2).isLt
  refine congrArg₂ (· * ·) (congrArg x (funext fun a => Fin.ext ?_)) (congrArg y (funext fun a => Fin.ext ?_))
  · match a with
    | ⟨0, _⟩ => rfl
    | ⟨1, _⟩ => show (((i 0).val * 256 + (i 1).val) * 1024 + (i 2).val) / 1024 = 256 * (i 0).val + (i 1).val; omega
  · match a with
    | ⟨0, _⟩ => rfl
    | ⟨1, _⟩ => show (((i 0).val * 256 + (i 1).val) * 1024 + (i 2).val) % 1024 = (i 2).val; omega

theorem frame_reference : Cert.quiescent_Reference3Ideal := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

theorem algebraic : Cert.algebraic_Kernel3Ideal_Reference3Ideal := by
  intro m g m' g' hp hagree
  refine ⟨fun c => Cert.OutGrad.out (Cert.OutGrad.X m c) (Cert.OutGrad.Y m c), ?_, ?_⟩
  · exact (θ_run Cert.Kernel3Ideal.defs _ _).mono
      (fun r h c => ⟨(h c).1.trans (Cert.OutGrad.final m c), (h c).2⟩)
      (Cert.Kernel3Ideal.Value.run (F := Ideal) m g)
  · refine (θ_run Cert.Reference3Ideal.defs _ _).mono
      (fun r h c => ⟨(h c).1.trans ?_, (h c).2⟩)
      (Cert.Reference3Ideal.Value.run (F := Ideal) m' g')
    refine (val_main_v7_eq (F := Ideal) _ _).trans ((reference_out _ _).trans ?_)
    exact congrArg₂ Cert.OutGrad.out (hagree c).1 (hagree c).2

end Cert.OutGrad

end
-- ==== Proof.Adamw.lean ====
/- The AdamW step on one entry, in the operations at the extended reals: the new moments and the change of the weight. -/
module

public import Idealize.ShloMosaic.PureOps.Ideal

@[expose] public section

noncomputable section

namespace Cert.Adamw

open Idealize.ShloMosaic

/-- The first moment from the gradient and the old one. -/
def newM (g m : Ideal .f32) : Ideal .f32 :=
  FloatOps.addf (FloatOps.mulf (Scalar.ofBits .f32 0x3F666666#32) m) (FloatOps.mulf (Scalar.ofBits .f32 0x3DCCCCCD#32) g)

/-- The second moment from the gradient and the old one. -/
def newV (g v : Ideal .f32) : Ideal .f32 :=
  FloatOps.addf (FloatOps.mulf (Scalar.ofBits .f32 0x3F7FBE77#32) v) (FloatOps.mulf (Scalar.ofBits .f32 0x3A83126F#32) (FloatOps.mulf g g))

/-- The change of the weight from the weight, the gradient and the old moments. -/
def delta (w g m v : Ideal .f32) : Ideal .f32 :=
  FloatOps.mulf (Scalar.ofBits .f32 0xBA83126F#32)
    (FloatOps.addf
      (FloatOps.divf (FloatOps.divf (newM g m) (Scalar.ofBits .f32 0x3F26BD02#32))
        (FloatOps.addf (FloatOps.sqrt (FloatOps.divf (newV g v) (Scalar.ofBits .f32 0x3C231ACC#32))) (Scalar.ofBits .f32 0x322BCC77#32)))
      (FloatOps.mulf (Scalar.ofBits .f32 0x3C23D70A#32) w))

/-- The sum of the eight shares of a gradient, four from each half of the devices. -/
def total (x y : Fin 4 → EReal) : EReal := x 0 + x 1 + x 2 + x 3 + (y 0 + y 1 + y 2 + y 3)

/-- `c` times its logistic function, written as one over one plus an exponential. -/
def silu (c : Ideal .f32) : Ideal .f32 :=
  FloatOps.mulf c (FloatOps.divf (Scalar.ofBits .f32 0x3F800000#32)
    (FloatOps.addf (Scalar.ofBits .f32 0x3F800000#32) (FloatOps.exp (FloatOps.subf (Scalar.ofBits .f32 0x00000000#32) c))))

/-- The sum of eight products, in order. -/
def prods (x y : Fin 8 → EReal) : EReal :=
  x 0 * y 0 + x 1 * y 1 + x 2 * y 2 + x 3 * y 3 + x 4 * y 4 + x 5 * y 5 + x 6 * y 6 + x 7 * y 7

end Cert.Adamw

end
-- ==== Proof.AdamFf.lean ====
/- What the optimiser call of a feed-forward matrix leaves: at each entry the gradient summed over the devices, and the AdamW step on it. -/
module

public import proofs.«01_k».proof.Proof.Gen.Kernel4Ideal.Value
public import proofs.«01_k».proof.Proof.Adamw
public import Idealize.ShloMosaic.Lib.Pipeline.ValueKit
public import Idealize.ShloMosaic.Lib.Pipeline.ReadBack

@[expose] public section

set_option maxRecDepth 16384

noncomputable section

namespace Cert.AdamFf

open Cert.Kernel4Ideal Cert.Kernel4Ideal.Gen Cert.Kernel4Ideal.Value Cert.Adamw Idealize.ShloMosaic Idealize.ShloMosaic.TcCoe Idealize.ShloMosaic.Tactic Idealize.SL.Sem

/-! ## One point -/

theorem single (w : S1024x512.Idx → EReal) : View.canon (Val := Elt Ideal) (e := .f32) [⟨r0_4, w⟩] = w :=
  View.canon_cons_unit_lit _ _ _ (by decide)

theorem whole (x : S1024x512.Idx → EReal) : View.ld (Val := Elt Ideal) (e' := .f32) x r0_4 = x :=
  View.ld_unit_lit _ _ (by decide)

theorem first (x : Vec Ideal S1x1024x512 .bf16) (a : Fin 1024) (b : Fin 512) :
    shapeCast S1024x512 x shapeCasts_S1x1024x512_S1024x512 (ix2 a b) = x (ix3 (0 : Fin 1) a b) := by
  refine shapeCast_apply x _ (ix2 a b) (ix3 (0 : Fin 1) a b) ?_
  rw [Shape.rowMajor_val_three, Shape.rowMajor_val_two]
  show (0 * 1024 + a.val) * 512 + b.val = a.val * 512 + b.val
  omega

theorem ld0 (x : Vec Ideal S4x1024x512 .bf16) (a : Fin 1024) (b : Fin 512) : View.ld x r0_0 (ix3 (0 : Fin 1) a b) = x (ix3 (0 : Fin 4) a b) := by
  show x (r0_0.idx (ix3 (0 : Fin 1) a b)) = _
  refine congrArg x (funext fun d => Fin.ext ?_)
  match d with
  | ⟨0, _⟩ => rfl
  | ⟨1, _⟩ => show 0 + 1 * a.val = a.val; omega
  | ⟨2, _⟩ => show 0 + 1 * b.val = b.val; omega

theorem ld1 (x : Vec Ideal S4x1024x512 .bf16) (a : Fin 1024) (b : Fin 512) : View.ld x r0_1 (ix3 (0 : Fin 1) a b) = x (ix3 (1 : Fin 4) a b) := by
  show x (r0_1.idx (ix3 (0 : Fin 1) a b)) = _
  refine congrArg x (funext fun d => Fin.ext ?_)
  match d with
  | ⟨0, _⟩ => rfl
  | ⟨1, _⟩ => show 0 + 1 * a.val = a.val; omega
  | ⟨2, _⟩ => show 0 + 1 * b.val = b.val; omega

theorem ld2 (x : Vec Ideal S4x1024x512 .bf16) (a : Fin 1024) (b : Fin 512) : View.ld x r0_2 (ix3 (0 : Fin 1) a b) = x (ix3 (2 : Fin 4) a b) := by
  show x (r0_2.idx (ix3 (0 : Fin 1) a b)) = _
  refine congrArg x (funext fun d => Fin.ext ?_)
  match d with
  | ⟨0, _⟩ => rfl
  | ⟨1, _⟩ => show 0 + 1 * a.val = a.val; omega
  | ⟨2, _⟩ => show 0 + 1 * b.val = b.val; omega

theorem ld3 (x : Vec Ideal S4x1024x512 .bf16) (a : Fin 1024) (b : Fin 512) : View.ld x r0_3 (ix3 (0 : Fin 1) a b) = x (ix3 (3 : Fin 4) a b) := by
  show x (r0_3.idx (ix3 (0 : Fin 1) a b)) = _
  refine congrArg x (funext fun d => Fin.ext ?_)
  match d with
  | ⟨0, _⟩ => rfl
  | ⟨1, _⟩ => show 0 + 1 * a.val = a.val; omega
  | ⟨2, _⟩ => show 0 + 1 * b.val = b.val; omega

theorem grad (x0 : Vec Ideal S1024x512 .f32) (x1 x2 : Vec Ideal S4x1024x512 .bf16) (x3 x4 : Vec Ideal S1024x512 .f32) (a : Fin 1024) (b : Fin 512) :
    k0_pay6 (F := Ideal) x0 x1 x2 x3 x4 (ix2 a b) = total (fun k => x1 (ix3 k a b)) (fun k => x2 (ix3 k a b)) := by
  unfold k0_pay6
  show shapeCast S1024x512 (View.ld x1 r0_0) shapeCasts_S1x1024x512_S1024x512 (ix2 a b) + shapeCast S1024x512 (View.ld x1 r0_1) shapeCasts_S1x1024x512_S1024x512 (ix2 a b)
      + shapeCast S1024x512 (View.ld x1 r0_2) shapeCasts_S1x1024x512_S1024x512 (ix2 a b) + shapeCast S1024x512 (View.ld x1 r0_3) shapeCasts_S1x1024x512_S1024x512 (ix2 a b)
      + (shapeCast S1024x512 (View.ld x2 r0_0) shapeCasts_S1x1024x512_S1024x512 (ix2 a b) + shapeCast S1024x512 (View.ld x2 r0_1) shapeCasts_S1x1024x512_S1024x512 (ix2 a b)
      + shapeCast S1024x512 (View.ld x2 r0_2) shapeCasts_S1x1024x512_S1024x512 (ix2 a b) + shapeCast S1024x512 (View.ld x2 r0_3) shapeCasts_S1x1024x512_S1024x512 (ix2 a b)) = _
  rw [first, first, first, first, first, first, first, first, ld0, ld1, ld2, ld3, ld0, ld1, ld2, ld3]
  rfl

theorem pay1 (g x3 : Vec Ideal S1024x512 .f32) (i : S1024x512.Idx) : k0_pay1 (F := Ideal) g x3 i = newM (g i) (x3 i) := by
  unfold k0_pay1
  rw [shapeCast_self]
  rfl

theorem pay2 (g x4 : Vec Ideal S1024x512 .f32) (i : S1024x512.Idx) : k0_pay2 (F := Ideal) g x4 i = newV (g i) (x4 i) := by
  unfold k0_pay2
  rw [shapeCast_self]
  rfl

theorem pay3 (g x0 x3 x4 : Vec Ideal S1024x512 .f32) (i : S1024x512.Idx) : k0_pay3 (F := Ideal) g x0 x3 x4 i = delta (x0 i) (g i) (x3 i) (x4 i) := by
  show _ = FloatOps.mulf (F := Ideal) (φ := .f32) _ (FloatOps.addf (FloatOps.divf (FloatOps.divf (newM (g i) (x3 i)) _) (FloatOps.addf (FloatOps.sqrt (FloatOps.divf (newV (g i) (x4 i)) _)) _)) _)
  rw [← pay1 g x3 i, ← pay2 g x4 i]
  rfl

theorem pay5 (x : Vec Ideal S1024x512 .f32) : k0_pay5 (F := Ideal) x = x := by
  unfold k0_pay5
  exact shapeCast_self _ _

/-! ## The arrays -/

variable (m : (ℓ : Loc nD τ sig) → Buf (Elt Ideal) ℓ) (c : Dev nD)

/-- The weights, the two halves of the gradient's shares and the two moments, by row and column. -/
def w (a : Fin 1024) (b : Fin 1024) : EReal := (m ((c : Thread nD τ).loc main_arg0) : S1x1024x1024.Idx → EReal) (ix3 (0 : Fin 1) a b)

def mine : S4x1024x1024.Idx → EReal := m ((c : Thread nD τ).loc main_arg1)

def theirs : S4x1024x1024.Idx → EReal := m ((c : Thread nD τ).loc main_arg2)

def mo (a : Fin 1024) (b : Fin 1024) : EReal := (m ((c : Thread nD τ).loc main_arg3) : S1x1024x1024.Idx → EReal) (ix3 (0 : Fin 1) a b)

def ve (a : Fin 1024) (b : Fin 1024) : EReal := (m ((c : Thread nD τ).loc main_arg4) : S1x1024x1024.Idx → EReal) (ix3 (0 : Fin 1) a b)

def g (a : Fin 1024) (b : Fin 1024) : EReal := total (fun k => mine m c (ix3 k a b)) (fun k => theirs m c (ix3 k a b))

/-- The four results: the gradient, the change of the weights, the new moments. -/
def out0 : S1024x1024.Idx → EReal := fun i => g m c (i 0) (i 1)

def out1 : S1024x1024.Idx → EReal := fun i => delta (w m c (i 0) (i 1)) (g m c (i 0) (i 1)) (mo m c (i 0) (i 1)) (ve m c (i 0) (i 1))

def out2 : S1024x1024.Idx → EReal := fun i => newM (g m c (i 0) (i 1)) (mo m c (i 0) (i 1))

def out3 : S1024x1024.Idx → EReal := fun i => newV (g m c (i 0) (i 1)) (ve m c (i 0) (i 1))

theorem V_w (a : Fin 1024) (b : Fin 1024) : V m c main_v0 (ix2 a b) = w m c a b := by
  have e : V m c main_v0 = shapeCast S1024x1024 (m ((c : Thread nD τ).loc main_arg0)) shapeCasts_S1x1024x1024_S1024x1024 := by
    show StableHlo.after hostOps0 (fun b => m (c, b)) (Proc.devRef .tc main_v0) = _
    after_results
    rfl
  rw [e]
  refine shapeCast_apply _ _ (ix2 a b) (ix3 (0 : Fin 1) a b) ?_
  rw [Shape.rowMajor_val_three, Shape.rowMajor_val_two]
  show (0 * 1024 + a.val) * 1024 + b.val = a.val * 1024 + b.val
  omega

theorem V_mo (a : Fin 1024) (b : Fin 1024) : V m c main_v1 (ix2 a b) = mo m c a b := by
  have e : V m c main_v1 = shapeCast S1024x1024 (m ((c : Thread nD τ).loc main_arg3)) shapeCasts_S1x1024x1024_S1024x1024 := by
    show StableHlo.after hostOps0 (fun b => m (c, b)) (Proc.devRef .tc main_v1) = _
    after_results
    rfl
  rw [e]
  refine shapeCast_apply _ _ (ix2 a b) (ix3 (0 : Fin 1) a b) ?_
  rw [Shape.rowMajor_val_three, Shape.rowMajor_val_two]
  show (0 * 1024 + a.val) * 1024 + b.val = a.val * 1024 + b.val
  omega

theorem V_ve (a : Fin 1024) (b : Fin 1024) : V m c main_v2 (ix2 a b) = ve m c a b := by
  have e : V m c main_v2 = shapeCast S1024x1024 (m ((c : Thread nD τ).loc main_arg4)) shapeCasts_S1x1024x1024_S1024x1024 := by
    show StableHlo.after hostOps0 (fun b => m (c, b)) (Proc.devRef .tc main_v2) = _
    after_results
    rfl
  rw [e]
  refine shapeCast_apply _ _ (ix2 a b) (ix3 (0 : Fin 1) a b) ?_
  rw [Shape.rowMajor_val_three, Shape.rowMajor_val_two]
  show (0 * 1024 + a.val) * 1024 + b.val = a.val * 1024 + b.val
  omega

/-! ## The blocks of a point -/

theorem pt_lt (t : Fin cfg0.N) : t.val < 2 := lt_of_lt_of_eq t.isLt N_0

/-- Column `b` of point `t`'s tile in the whole matrix. -/
def col (t : ℕ) (b : Fin 512) : Fin 1024 := ⟨(512 * t + b.val) % 1024, Nat.mod_lt _ (by decide)⟩

theorem col_val {t : ℕ} (h : t < 2) (b : Fin 512) : (col t b).val = 512 * t + b.val := Nat.mod_eq_of_lt (by omega)

theorem idx0 : ∀ t : Fin cfg0.N, win0_0.index t (0 : Fin 2) = 0 ∧ win0_0.index t (1 : Fin 2) = t.val :=
  (by decide +kernel : ∀ t : Fin grid0.N, _)

theorem emb0 (t : Fin cfg0.N) (a : Fin 1024) (b : Fin 512) : ((cfg0.win 0).blk t).view.emb (ix2 a b) = (ix2 a (col t.val b) : S1024x1024.Idx) := by
  obtain ⟨e0, e1⟩ := idx0 t
  have h := pt_lt t
  funext d; apply Fin.ext
  match d with
  | ⟨0, _⟩ => show win0_0.index t (0 : Fin 2) * 1024 + 1 * a.val = a.val; omega
  | ⟨1, _⟩ =>
    show win0_0.index t (1 : Fin 2) * 512 + 1 * b.val = (col t.val b).val
    rw [col_val h]; omega

theorem idx1 : ∀ t : Fin cfg0.N, win0_1.index t (0 : Fin 3) = 0 ∧ win0_1.index t (1 : Fin 3) = 0 ∧ win0_1.index t (2 : Fin 3) = t.val :=
  (by decide +kernel : ∀ t : Fin grid0.N, _)

theorem emb1 (t : Fin cfg0.N) (k : Fin 4) (a : Fin 1024) (b : Fin 512) : ((cfg0.win 1).blk t).view.emb (ix3 k a b) = (ix3 k a (col t.val b) : S4x1024x1024.Idx) := by
  obtain ⟨e0, e1, e2⟩ := idx1 t
  have h := pt_lt t
  funext d; apply Fin.ext
  match d with
  | ⟨0, _⟩ => show win0_1.index t (0 : Fin 3) * 4 + 1 * k.val = k.val; omega
  | ⟨1, _⟩ => show win0_1.index t (1 : Fin 3) * 1024 + 1 * a.val = a.val; omega
  | ⟨2, _⟩ =>
    show win0_1.index t (2 : Fin 3) * 512 + 1 * b.val = (col t.val b).val
    rw [col_val h]; omega

theorem idx2 : ∀ t : Fin cfg0.N, win0_2.index t (0 : Fin 3) = 0 ∧ win0_2.index t (1 : Fin 3) = 0 ∧ win0_2.index t (2 : Fin 3) = t.val :=
  (by decide +kernel : ∀ t : Fin grid0.N, _)

theorem emb2 (t : Fin cfg0.N) (k : Fin 4) (a : Fin 1024) (b : Fin 512) : ((cfg0.win 2).blk t).view.emb (ix3 k a b) = (ix3 k a (col t.val b) : S4x1024x1024.Idx) := by
  obtain ⟨e0, e1, e2⟩ := idx2 t
  have h := pt_lt t
  funext d; apply Fin.ext
  match d with
  | ⟨0, _⟩ => show win0_2.index t (0 : Fin 3) * 4 + 1 * k.val = k.val; omega
  | ⟨1, _⟩ => show win0_2.index t (1 : Fin 3) * 1024 + 1 * a.val = a.val; omega
  | ⟨2, _⟩ =>
    show win0_2.index t (2 : Fin 3) * 512 + 1 * b.val = (col t.val b).val
    rw [col_val h]; omega

theorem idx3 : ∀ t : Fin cfg0.N, win0_3.index t (0 : Fin 2) = 0 ∧ win0_3.index t (1 : Fin 2) = t.val :=
  (by decide +kernel : ∀ t : Fin grid0.N, _)

theorem emb3 (t : Fin cfg0.N) (a : Fin 1024) (b : Fin 512) : ((cfg0.win 3).blk t).view.emb (ix2 a b) = (ix2 a (col t.val b) : S1024x1024.Idx) := by
  obtain ⟨e0, e1⟩ := idx3 t
  have h := pt_lt t
  funext d; apply Fin.ext
  match d with
  | ⟨0, _⟩ => show win0_3.index t (0 : Fin 2) * 1024 + 1 * a.val = a.val; omega
  | ⟨1, _⟩ =>
    show win0_3.index t (1 : Fin 2) * 512 + 1 * b.val = (col t.val b).val
    rw [col_val h]; omega

theorem idx4 : ∀ t : Fin cfg0.N, win0_4.index t (0 : Fin 2) = 0 ∧ win0_4.index t (1 : Fin 2) = t.val :=
  (by decide +kernel : ∀ t : Fin grid0.N, _)

theorem emb4 (t : Fin cfg0.N) (a : Fin 1024) (b : Fin 512) : ((cfg0.win 4).blk t).view.emb (ix2 a b) = (ix2 a (col t.val b) : S1024x1024.Idx) := by
  obtain ⟨e0, e1⟩ := idx4 t
  have h := pt_lt t
  funext d; apply Fin.ext
  match d with
  | ⟨0, _⟩ => show win0_4.index t (0 : Fin 2) * 1024 + 1 * a.val = a.val; omega
  | ⟨1, _⟩ =>
    show win0_4.index t (1 : Fin 2) * 512 + 1 * b.val = (col t.val b).val
    rw [col_val h]; omega

theorem idx5 : ∀ t : Fin cfg0.N, win0_5.index t (0 : Fin 2) = 0 ∧ win0_5.index t (1 : Fin 2) = t.val :=
  (by decide +kernel : ∀ t : Fin grid0.N, _)

theorem emb5 (t : Fin cfg0.N) (a : Fin 1024) (b : Fin 512) : ((cfg0.win 5).blk t).view.emb (ix2 a b) = (ix2 a (col t.val b) : S1024x1024.Idx) := by
  obtain ⟨e0, e1⟩ := idx5 t
  have h := pt_lt t
  funext d; apply Fin.ext
  match d with
  | ⟨0, _⟩ => show win0_5.index t (0 : Fin 2) * 1024 + 1 * a.val = a.val; omega
  | ⟨1, _⟩ =>
    show win0_5.index t (1 : Fin 2) * 512 + 1 * b.val = (col t.val b).val
    rw [col_val h]; omega

theorem idx6 : ∀ t : Fin cfg0.N, win0_6.index t (0 : Fin 2) = 0 ∧ win0_6.index t (1 : Fin 2) = t.val :=
  (by decide +kernel : ∀ t : Fin grid0.N, _)

theorem emb6 (t : Fin cfg0.N) (a : Fin 1024) (b : Fin 512) : ((cfg0.win 6).blk t).view.emb (ix2 a b) = (ix2 a (col t.val b) : S1024x1024.Idx) := by
  obtain ⟨e0, e1⟩ := idx6 t
  have h := pt_lt t
  funext d; apply Fin.ext
  match d with
  | ⟨0, _⟩ => show win0_6.index t (0 : Fin 2) * 1024 + 1 * a.val = a.val; omega
  | ⟨1, _⟩ =>
    show win0_6.index t (1 : Fin 2) * 512 + 1 * b.val = (col t.val b).val
    rw [col_val h]; omega

theorem idx7 : ∀ t : Fin cfg0.N, win0_7.index t (0 : Fin 2) = 0 ∧ win0_7.index t (1 : Fin 2) = t.val :=
  (by decide +kernel : ∀ t : Fin grid0.N, _)

theorem emb7 (t : Fin cfg0.N) (a : Fin 1024) (b : Fin 512) : ((cfg0.win 7).blk t).view.emb (ix2 a b) = (ix2 a (col t.val b) : S1024x1024.Idx) := by
  obtain ⟨e0, e1⟩ := idx7 t
  have h := pt_lt t
  funext d; apply Fin.ext
  match d with
  | ⟨0, _⟩ => show win0_7.index t (0 : Fin 2) * 1024 + 1 * a.val = a.val; omega
  | ⟨1, _⟩ =>
    show win0_7.index t (1 : Fin 2) * 512 + 1 * b.val = (col t.val b).val
    rw [col_val h]; omega

theorem idx8 : ∀ t : Fin cfg0.N, win0_8.index t (0 : Fin 2) = 0 ∧ win0_8.index t (1 : Fin 2) = t.val :=
  (by decide +kernel : ∀ t : Fin grid0.N, _)

theorem emb8 (t : Fin cfg0.N) (a : Fin 1024) (b : Fin 512) : ((cfg0.win 8).blk t).view.emb (ix2 a b) = (ix2 a (col t.val b) : S1024x1024.Idx) := by
  obtain ⟨e0, e1⟩ := idx8 t
  have h := pt_lt t
  funext d; apply Fin.ext
  match d with
  | ⟨0, _⟩ => show win0_8.index t (0 : Fin 2) * 1024 + 1 * a.val = a.val; omega
  | ⟨1, _⟩ =>
    show win0_8.index t (1 : Fin 2) * 512 + 1 * b.val = (col t.val b).val
    rw [col_val h]; omega

theorem blkW (t : Fin cfg0.N) (a : Fin 1024) (b : Fin 512) : iblk m c 0 t (ix2 a b) = w m c a (col t.val b) := by
  show V m c main_v0 (((cfg0.win 0).blk t).view.emb (ix2 a b)) = _
  rw [emb0, V_w]

theorem blkX (t : Fin cfg0.N) (k : Fin 4) (a : Fin 1024) (b : Fin 512) : iblk m c 1 t (ix3 k a b) = mine m c (ix3 k a (col t.val b)) := by
  show V m c main_arg1 (((cfg0.win 1).blk t).view.emb (ix3 k a b)) = _
  rw [emb1, V_main_arg1]
  rfl

theorem blkY (t : Fin cfg0.N) (k : Fin 4) (a : Fin 1024) (b : Fin 512) : iblk m c 2 t (ix3 k a b) = theirs m c (ix3 k a (col t.val b)) := by
  show V m c main_arg2 (((cfg0.win 2).blk t).view.emb (ix3 k a b)) = _
  rw [emb2, V_main_arg2]
  rfl

theorem blkM (t : Fin cfg0.N) (a : Fin 1024) (b : Fin 512) : iblk m c 3 t (ix2 a b) = mo m c a (col t.val b) := by
  show V m c main_v1 (((cfg0.win 3).blk t).view.emb (ix2 a b)) = _
  rw [emb3, V_mo]

theorem blkV (t : Fin cfg0.N) (a : Fin 1024) (b : Fin 512) : iblk m c 4 t (ix2 a b) = ve m c a (col t.val b) := by
  show V m c main_v2 (((cfg0.win 4).blk t).view.emb (ix2 a b)) = _
  rw [emb4, V_ve]

theorem blkG (t : Fin cfg0.N) (a : Fin 1024) (b : Fin 512) :
    k0_pay6 (F := Ideal) (iblk m c 0 t) (iblk m c 1 t) (iblk m c 2 t) (iblk m c 3 t) (iblk m c 4 t) (ix2 a b) = g m c a (col t.val b) := by
  refine (grad _ _ _ _ _ a b).trans ?_
  show total _ _ = total _ _
  exact congrArg₂ total (funext fun k => blkX m c t k a b) (funext fun k => blkY m c t k a b)

/-! ## What the points write -/

theorem val5 (t : Fin cfg0.N) (a : Fin 1024) (b : Fin 512) :
    out0_5 (F := Ideal) (iblk m c 0 t) (iblk m c 1 t) (iblk m c 2 t) (iblk m c 3 t) (iblk m c 4 t) (ix2 a b) = out0 m c (ix2 a (col t.val b)) := by
  unfold out0_5
  rw [single]
  exact blkG m c t a b

theorem val6 (t : Fin cfg0.N) (a : Fin 1024) (b : Fin 512) :
    out0_6 (F := Ideal) (iblk m c 0 t) (iblk m c 1 t) (iblk m c 2 t) (iblk m c 3 t) (iblk m c 4 t) (ix2 a b) = out1 m c (ix2 a (col t.val b)) := by
  unfold out0_6
  rw [single, pay5, whole, whole, whole, pay3, blkG, blkW, blkM, blkV]
  rfl

theorem val7 (t : Fin cfg0.N) (a : Fin 1024) (b : Fin 512) :
    out0_7 (F := Ideal) (iblk m c 0 t) (iblk m c 1 t) (iblk m c 2 t) (iblk m c 3 t) (iblk m c 4 t) (ix2 a b) = out2 m c (ix2 a (col t.val b)) := by
  unfold out0_7
  rw [single, whole, pay1, blkG, blkM]
  rfl

theorem val8 (t : Fin cfg0.N) (a : Fin 1024) (b : Fin 512) :
    out0_8 (F := Ideal) (iblk m c 0 t) (iblk m c 1 t) (iblk m c 2 t) (iblk m c 3 t) (iblk m c 4 t) (ix2 a b) = out3 m c (ix2 a (col t.val b)) := by
  unfold out0_8
  rw [single, whole, pay2, blkG, blkV]
  rfl

theorem col_split (r : Fin 1024) : ∃ (t : Fin cfg0.N) (b : Fin 512), r = col t.val b :=
  ⟨⟨r.val / 512, show r.val / 512 < 2 by omega⟩, ⟨r.val % 512, Nat.mod_lt _ (by decide)⟩,
    Fin.ext ((col_val (show r.val / 512 < 2 by omega) _).trans (Nat.div_add_mod _ _)).symm⟩

theorem cut5 (t : Fin cfg0.N) : (cfg0.win 5).cut (grid0.coords t) (out0_5 (F := Ideal) (iblk m c 0 t) (iblk m c 1 t) (iblk m c 2 t) (iblk m c 3 t) (iblk m c 4 t))
    = ((cfg0.win 5).blk t).view.read (Elt Ideal) (out0 m c) := by
  funext j
  obtain ⟨a, b, rfl⟩ : ∃ (a : Fin 1024) (b : Fin 512), j = ix2 a b := ⟨j 0, j 1, eq_ix2 j⟩
  refine (val5 m c t a b).trans ?_
  show _ = out0 m c (((cfg0.win 5).blk t).view.emb (ix2 a b))
  rw [emb5]

theorem cov5 (i : S1024x1024.Idx) : ∃ t : Fin cfg0.N, (cfg0.win 5).flush t = true ∧ i ∈ ((cfg0.win 5).blk t).view.set := by
  obtain ⟨a, r, rfl⟩ : ∃ (a : Fin 1024) (r : Fin 1024), i = ix2 a r := ⟨i 0, i 1, eq_ix2 i⟩
  obtain ⟨t, b, rfl⟩ := col_split r
  have h := ((cfg0.win 5).blk t).view.emb_mem_set (ix2 a b)
  rw [emb5 t a b] at h
  exact ⟨t, flush0_5 t, h⟩

theorem fin5 : (dats m 0 c).arrAt 5 cfg0.N = out0 m c :=
  (dats m 0 c).arrAt_eq_of_cover 5 _ (fun t _ => (flushed5 m c t).trans (cut5 m c t)) cov5

theorem cut6 (t : Fin cfg0.N) : (cfg0.win 6).cut (grid0.coords t) (out0_6 (F := Ideal) (iblk m c 0 t) (iblk m c 1 t) (iblk m c 2 t) (iblk m c 3 t) (iblk m c 4 t))
    = ((cfg0.win 6).blk t).view.read (Elt Ideal) (out1 m c) := by
  funext j
  obtain ⟨a, b, rfl⟩ : ∃ (a : Fin 1024) (b : Fin 512), j = ix2 a b := ⟨j 0, j 1, eq_ix2 j⟩
  refine (val6 m c t a b).trans ?_
  show _ = out1 m c (((cfg0.win 6).blk t).view.emb (ix2 a b))
  rw [emb6]

theorem cov6 (i : S1024x1024.Idx) : ∃ t : Fin cfg0.N, (cfg0.win 6).flush t = true ∧ i ∈ ((cfg0.win 6).blk t).view.set := by
  obtain ⟨a, r, rfl⟩ : ∃ (a : Fin 1024) (r : Fin 1024), i = ix2 a r := ⟨i 0, i 1, eq_ix2 i⟩
  obtain ⟨t, b, rfl⟩ := col_split r
  have h := ((cfg0.win 6).blk t).view.emb_mem_set (ix2 a b)
  rw [emb6 t a b] at h
  exact ⟨t, flush0_6 t, h⟩

theorem fin6 : (dats m 0 c).arrAt 6 cfg0.N = out1 m c :=
  (dats m 0 c).arrAt_eq_of_cover 6 _ (fun t _ => (flushed6 m c t).trans (cut6 m c t)) cov6

theorem cut7 (t : Fin cfg0.N) : (cfg0.win 7).cut (grid0.coords t) (out0_7 (F := Ideal) (iblk m c 0 t) (iblk m c 1 t) (iblk m c 2 t) (iblk m c 3 t) (iblk m c 4 t))
    = ((cfg0.win 7).blk t).view.read (Elt Ideal) (out2 m c) := by
  funext j
  obtain ⟨a, b, rfl⟩ : ∃ (a : Fin 1024) (b : Fin 512), j = ix2 a b := ⟨j 0, j 1, eq_ix2 j⟩
  refine (val7 m c t a b).trans ?_
  show _ = out2 m c (((cfg0.win 7).blk t).view.emb (ix2 a b))
  rw [emb7]

theorem cov7 (i : S1024x1024.Idx) : ∃ t : Fin cfg0.N, (cfg0.win 7).flush t = true ∧ i ∈ ((cfg0.win 7).blk t).view.set := by
  obtain ⟨a, r, rfl⟩ : ∃ (a : Fin 1024) (r : Fin 1024), i = ix2 a r := ⟨i 0, i 1, eq_ix2 i⟩
  obtain ⟨t, b, rfl⟩ := col_split r
  have h := ((cfg0.win 7).blk t).view.emb_mem_set (ix2 a b)
  rw [emb7 t a b] at h
  exact ⟨t, flush0_7 t, h⟩

theorem fin7 : (dats m 0 c).arrAt 7 cfg0.N = out2 m c :=
  (dats m 0 c).arrAt_eq_of_cover 7 _ (fun t _ => (flushed7 m c t).trans (cut7 m c t)) cov7

theorem cut8 (t : Fin cfg0.N) : (cfg0.win 8).cut (grid0.coords t) (out0_8 (F := Ideal) (iblk m c 0 t) (iblk m c 1 t) (iblk m c 2 t) (iblk m c 3 t) (iblk m c 4 t))
    = ((cfg0.win 8).blk t).view.read (Elt Ideal) (out3 m c) := by
  funext j
  obtain ⟨a, b, rfl⟩ : ∃ (a : Fin 1024) (b : Fin 512), j = ix2 a b := ⟨j 0, j 1, eq_ix2 j⟩
  refine (val8 m c t a b).trans ?_
  show _ = out3 m c (((cfg0.win 8).blk t).view.emb (ix2 a b))
  rw [emb8]

theorem cov8 (i : S1024x1024.Idx) : ∃ t : Fin cfg0.N, (cfg0.win 8).flush t = true ∧ i ∈ ((cfg0.win 8).blk t).view.set := by
  obtain ⟨a, r, rfl⟩ : ∃ (a : Fin 1024) (r : Fin 1024), i = ix2 a r := ⟨i 0, i 1, eq_ix2 i⟩
  obtain ⟨t, b, rfl⟩ := col_split r
  have h := ((cfg0.win 8).blk t).view.emb_mem_set (ix2 a b)
  rw [emb8 t a b] at h
  exact ⟨t, flush0_8 t, h⟩

theorem fin8 : (dats m 0 c).arrAt 8 cfg0.N = out3 m c :=
  (dats m 0 c).arrAt_eq_of_cover 8 _ (fun t _ => (flushed8 m c t).trans (cut8 m c t)) cov8

end Cert.AdamFf

end
-- ==== Proof.AdamFfAlg.lean ====
/- The reference of the optimiser call of a feed-forward matrix computes the sums and the steps the kernel computes, so the two end with the same four matrices. -/
module

public import proofs.«01_k».proof.Defs
public import proofs.«01_k».proof.Proof.Gen.Reference4Ideal
public import proofs.«01_k».proof.Proof.Gen.Reference4Ideal.Run
public import proofs.«01_k».proof.Proof.Gen.Reference4Ideal.Read
public import proofs.«01_k».proof.Proof.AdamFf
public import Idealize.ShloMosaic.Adequacy
public import Idealize.ShloMosaic.Init

@[expose] public section

set_option maxRecDepth 16384

noncomputable section

namespace Cert.AdamFf

open Idealize.ShloMosaic Idealize.ShloMosaic.TcCoe Idealize.SL.Sem Cert.Adamw
open Cert.Reference4Ideal Cert.Reference4Ideal.Gen Cert.Reference4Ideal.Read

/-! ## The gradient -/

theorem low (X Y : S4x1024x1024.Idx → EReal) (k : Fin 4) (a : Fin 1024) (b : Fin 1024) :
    val_main_v1 (F := Ideal) X Y (idx_main_v2 (ix2 a b) (⟨k.val, by omega⟩ : Fin 8)) = X (ix3 k a b) := by
  show val_main_v0 (F := Ideal) X Y _ = _
  unfold val_main_v0
  refine concatenate_apply_piece (t := S8x1024x1024) 0 [⟨S4x1024x1024, X⟩, ⟨S4x1024x1024, Y⟩] concatenates_S4x1024x1024_S4x1024x1024_S8x1024x1024_d0 _ 0 (Nat.succ_pos _) S4x1024x1024 X rfl rfl 0 rfl (ix3 k a b) (fun d hd => ?_) ?_
  · match d with
    | ⟨0, _⟩ => exact absurd rfl hd
    | ⟨1, _⟩ => rfl
    | ⟨2, _⟩ => rfl
  · exact Nat.zero_add _

theorem high (X Y : S4x1024x1024.Idx → EReal) (k : Fin 4) (a : Fin 1024) (b : Fin 1024) :
    val_main_v1 (F := Ideal) X Y (idx_main_v2 (ix2 a b) (⟨4 + k.val, by omega⟩ : Fin 8)) = Y (ix3 k a b) := by
  show val_main_v0 (F := Ideal) X Y _ = _
  unfold val_main_v0
  refine concatenate_apply_piece (t := S8x1024x1024) 0 [⟨S4x1024x1024, X⟩, ⟨S4x1024x1024, Y⟩] concatenates_S4x1024x1024_S4x1024x1024_S8x1024x1024_d0 _ 1 (Nat.lt_succ_self _) S4x1024x1024 Y rfl rfl 4 rfl (ix3 k a b) (fun d hd => ?_) ?_
  · match d with
    | ⟨0, _⟩ => exact absurd rfl hd
    | ⟨1, _⟩ => rfl
    | ⟨2, _⟩ => rfl
  · exact rfl

theorem reference_grad (X Y : S4x1024x1024.Idx → EReal) (a : Fin 1024) (b : Fin 1024) :
    val_main_v2 (F := Ideal) X Y (ix2 a b) = total (fun k => X (ix3 k a b)) (fun k => Y (ix3 k a b)) := by
  rw [val_main_v2_apply]
  have hz : (val_main_cst (F := Ideal)) (Shape.Idx.first h_S_) = 0 := Ideal.ofBits_zero_f32
  rw [hz, zero_add, Fin.sum_univ_eight]
  have hl := fun k : Fin 4 => low X Y k a b
  have hh := fun k : Fin 4 => high X Y k a b
  show _ = X (ix3 (0 : Fin 4) a b) + X (ix3 (1 : Fin 4) a b) + X (ix3 (2 : Fin 4) a b) + X (ix3 (3 : Fin 4) a b)
    + (Y (ix3 (0 : Fin 4) a b) + Y (ix3 (1 : Fin 4) a b) + Y (ix3 (2 : Fin 4) a b) + Y (ix3 (3 : Fin 4) a b))
  rw [← hl 0, ← hl 1, ← hl 2, ← hl 3, ← hh 0, ← hh 1, ← hh 2, ← hh 3]
  simp only [← add_assoc]
  rfl

/-! ## The steps -/

theorem reference_m (X Y : S4x1024x1024.Idx → EReal) (M : S1x1024x1024.Idx → EReal) (a : Fin 1024) (b : Fin 1024) :
    val_main_v10 (F := Ideal) X Y M (ix2 a b) = newM (val_main_v2 (F := Ideal) X Y (ix2 a b)) (M (ix3 (0 : Fin 1) a b)) := by
  have h : val_main_v4 (F := Ideal) M (ix2 a b) = M (ix3 (0 : Fin 1) a b) := by
    rw [val_main_v4_apply]
    refine congrArg M (funext fun d => Fin.ext ?_)
    match d with
    | ⟨0, _⟩ => rfl
    | ⟨1, _⟩ => show (a.val * 1024 + b.val) / 1024 % 1024 = a.val; omega
    | ⟨2, _⟩ => show (a.val * 1024 + b.val) % 1024 = b.val; omega
  rw [← h]
  rfl

theorem reference_v (X Y : S4x1024x1024.Idx → EReal) (V : S1x1024x1024.Idx → EReal) (a : Fin 1024) (b : Fin 1024) :
    val_main_v16 (F := Ideal) X Y V (ix2 a b) = newV (val_main_v2 (F := Ideal) X Y (ix2 a b)) (V (ix3 (0 : Fin 1) a b)) := by
  have h : val_main_v5 (F := Ideal) V (ix2 a b) = V (ix3 (0 : Fin 1) a b) := by
    rw [val_main_v5_apply]
    refine congrArg V (funext fun d => Fin.ext ?_)
    match d with
    | ⟨0, _⟩ => rfl
    | ⟨1, _⟩ => show (a.val * 1024 + b.val) / 1024 % 1024 = a.val; omega
    | ⟨2, _⟩ => show (a.val * 1024 + b.val) % 1024 = b.val; omega
  rw [← h]
  rfl

theorem reference_d (W : S1x1024x1024.Idx → EReal) (X Y : S4x1024x1024.Idx → EReal) (M V : S1x1024x1024.Idx → EReal) (a : Fin 1024) (b : Fin 1024) :
    val_main_v29 (F := Ideal) W X Y M V (ix2 a b) = delta (W (ix3 (0 : Fin 1) a b)) (val_main_v2 (F := Ideal) X Y (ix2 a b)) (M (ix3 (0 : Fin 1) a b)) (V (ix3 (0 : Fin 1) a b)) := by
  have h : val_main_v3 (F := Ideal) W (ix2 a b) = W (ix3 (0 : Fin 1) a b) := by
    rw [val_main_v3_apply]
    refine congrArg W (funext fun d => Fin.ext ?_)
    match d with
    | ⟨0, _⟩ => rfl
    | ⟨1, _⟩ => show (a.val * 1024 + b.val) / 1024 % 1024 = a.val; omega
    | ⟨2, _⟩ => show (a.val * 1024 + b.val) % 1024 = b.val; omega
  unfold delta
  rw [← reference_m X Y M a b, ← reference_v X Y V a b, ← h]
  rfl

/-! ## The claims -/

theorem frame_reference : Cert.quiescent_Reference4Ideal := fun m ρ _ =>
  (θ_run Cert.Reference4Ideal.defs _ _).mono
    (fun r h => ⟨fun c => (h c).2.2.2.2, Idealize.ShloMosaic.sem_eq_zero_of_no_sems (by decide) r.2⟩)
    (Cert.Reference4Ideal.Value.run (F := Ideal) m ρ)

theorem algebraic : Cert.algebraic_Kernel4Ideal_Reference4Ideal := by
  intro m g m' g' hp hagree
  refine ⟨out0 m, out1 m, out2 m, out3 m, ?_, ?_⟩
  · exact (θ_run Cert.Kernel4Ideal.defs _ _).mono
      (fun r h c => ⟨(h c).1.trans (fin5 m c), (h c).2.1.trans (fin6 m c), (h c).2.2.1.trans (fin7 m c), (h c).2.2.2.1.trans (fin8 m c), (h c).2.2.2.2⟩)
      (Cert.Kernel4Ideal.Value.run_blocks (F := Ideal) m g)
  · refine (θ_run Cert.Reference4Ideal.defs _ _).mono
      (fun r h c => ?_)
      (Cert.Reference4Ideal.Value.run (F := Ideal) m' g')
    obtain ⟨a0, a1, a2, a3, a4⟩ := hagree c
    obtain ⟨h0, h1, h2, h3, hr⟩ := h c
    have eX : ∀ i, (m' ((c : Thread Cert.Reference4Ideal.nD Cert.Reference4Ideal.τ).loc Cert.Reference4Ideal.main_arg1) : S4x1024x1024.Idx → EReal) i = mine m c i := congrFun a1
    have eY : ∀ i, (m' ((c : Thread Cert.Reference4Ideal.nD Cert.Reference4Ideal.τ).loc Cert.Reference4Ideal.main_arg2) : S4x1024x1024.Idx → EReal) i = theirs m c i := congrFun a2
    have eW : ∀ a b, (m' ((c : Thread Cert.Reference4Ideal.nD Cert.Reference4Ideal.τ).loc Cert.Reference4Ideal.main_arg0) : S1x1024x1024.Idx → EReal) (ix3 (0 : Fin 1) a b) = w m c a b := fun a b => congrFun a0 _
    have eM : ∀ a b, (m' ((c : Thread Cert.Reference4Ideal.nD Cert.Reference4Ideal.τ).loc Cert.Reference4Ideal.main_arg3) : S1x1024x1024.Idx → EReal) (ix3 (0 : Fin 1) a b) = mo m c a b := fun a b => congrFun a3 _
    have eV : ∀ a b, (m' ((c : Thread Cert.Reference4Ideal.nD Cert.Reference4Ideal.τ).loc Cert.Reference4Ideal.main_arg4) : S1x1024x1024.Idx → EReal) (ix3 (0 : Fin 1) a b) = ve m c a b := fun a b => congrFun a4 _
    have eG : ∀ a b, val_main_v2 (F := Ideal) (m' ((c : Thread Cert.Reference4Ideal.nD Cert.Reference4Ideal.τ).loc Cert.Reference4Ideal.main_arg1)) (m' ((c : Thread Cert.Reference4Ideal.nD Cert.Reference4Ideal.τ).loc Cert.Reference4Ideal.main_arg2)) (ix2 a b) = Cert.AdamFf.g m c a b := fun a b =>
      (reference_grad _ _ a b).trans (congrArg₂ total (funext fun k => eX _) (funext fun k => eY _))
    refine ⟨h0.trans ((val_main_v2_eq (F := Ideal) _ _).trans (funext fun i => ?_)), h1.trans ((val_main_v29_eq (F := Ideal) _ _ _ _ _).trans (funext fun i => ?_)),
      h2.trans ((val_main_v10_eq (F := Ideal) _ _ _).trans (funext fun i => ?_)), h3.trans ((val_main_v16_eq (F := Ideal) _ _ _).trans (funext fun i => ?_)), hr⟩
    · obtain ⟨a, b, rfl⟩ : ∃ (a : Fin 1024) (b : Fin 1024), i = ix2 a b := ⟨i 0, i 1, eq_ix2 i⟩
      exact eG a b
    · obtain ⟨a, b, rfl⟩ : ∃ (a : Fin 1024) (b : Fin 1024), i = ix2 a b := ⟨i 0, i 1, eq_ix2 i⟩
      rw [reference_d, eG, eW, eM, eV]
      rfl
    · obtain ⟨a, b, rfl⟩ : ∃ (a : Fin 1024) (b : Fin 1024), i = ix2 a b := ⟨i 0, i 1, eq_ix2 i⟩
      rw [reference_m, eG, eM]
      rfl
    · obtain ⟨a, b, rfl⟩ : ∃ (a : Fin 1024) (b : Fin 1024), i = ix2 a b := ⟨i 0, i 1, eq_ix2 i⟩
      rw [reference_v, eG, eV]
      rfl

end Cert.AdamFf

end
-- ==== Proof.AdamOut.lean ====
/- What the optimiser call of the output projection leaves: at each entry the gradient summed over the devices, and the AdamW step on it. -/
module

public import proofs.«01_k».proof.Proof.Gen.Kernel5Ideal.Value
public import proofs.«01_k».proof.Proof.Adamw
public import Idealize.ShloMosaic.Lib.Pipeline.ValueKit
public import Idealize.ShloMosaic.Lib.Pipeline.ReadBack

@[expose] public section

set_option maxRecDepth 16384

noncomputable section

namespace Cert.AdamOut

open Cert.Kernel5Ideal Cert.Kernel5Ideal.Gen Cert.Kernel5Ideal.Value Cert.Adamw Idealize.ShloMosaic Idealize.ShloMosaic.TcCoe Idealize.ShloMosaic.Tactic Idealize.SL.Sem

/-! ## One point -/

theorem single (w : S256x512.Idx → EReal) : View.canon (Val := Elt Ideal) (e := .f32) [⟨r0_4, w⟩] = w :=
  View.canon_cons_unit_lit _ _ _ (by decide)

theorem whole (x : S256x512.Idx → EReal) : View.ld (Val := Elt Ideal) (e' := .f32) x r0_4 = x :=
  View.ld_unit_lit _ _ (by decide)

theorem first (x : Vec Ideal S1x256x512 .bf16) (a : Fin 256) (b : Fin 512) :
    shapeCast S256x512 x shapeCasts_S1x256x512_S256x512 (ix2 a b) = x (ix3 (0 : Fin 1) a b) := by
  refine shapeCast_apply x _ (ix2 a b) (ix3 (0 : Fin 1) a b) ?_
  rw [Shape.rowMajor_val_three, Shape.rowMajor_val_two]
  show (0 * 256 + a.val) * 512 + b.val = a.val * 512 + b.val
  omega

theorem ld0 (x : Vec Ideal S4x256x512 .bf16) (a : Fin 256) (b : Fin 512) : View.ld x r0_0 (ix3 (0 : Fin 1) a b) = x (ix3 (0 : Fin 4) a b) := by
  show x (r0_0.idx (ix3 (0 : Fin 1) a b)) = _
  refine congrArg x (funext fun d => Fin.ext ?_)
  match d with
  | ⟨0, _⟩ => rfl
  | ⟨1, _⟩ => show 0 + 1 * a.val = a.val; omega
  | ⟨2, _⟩ => show 0 + 1 * b.val = b.val; omega

theorem ld1 (x : Vec Ideal S4x256x512 .bf16) (a : Fin 256) (b : Fin 512) : View.ld x r0_1 (ix3 (0 : Fin 1) a b) = x (ix3 (1 : Fin 4) a b) := by
  show x (r0_1.idx (ix3 (0 : Fin 1) a b)) = _
  refine congrArg x (funext fun d => Fin.ext ?_)
  match d with
  | ⟨0, _⟩ => rfl
  | ⟨1, _⟩ => show 0 + 1 * a.val = a.val; omega
  | ⟨2, _⟩ => show 0 + 1 * b.val = b.val; omega

theorem ld2 (x : Vec Ideal S4x256x512 .bf16) (a : Fin 256) (b : Fin 512) : View.ld x r0_2 (ix3 (0 : Fin 1) a b) = x (ix3 (2 : Fin 4) a b) := by
  show x (r0_2.idx (ix3 (0 : Fin 1) a b)) = _
  refine congrArg x (funext fun d => Fin.ext ?_)
  match d with
  | ⟨0, _⟩ => rfl
  | ⟨1, _⟩ => show 0 + 1 * a.val = a.val; omega
  | ⟨2, _⟩ => show 0 + 1 * b.val = b.val; omega

theorem ld3 (x : Vec Ideal S4x256x512 .bf16) (a : Fin 256) (b : Fin 512) : View.ld x r0_3 (ix3 (0 : Fin 1) a b) = x (ix3 (3 : Fin 4) a b) := by
  show x (r0_3.idx (ix3 (0 : Fin 1) a b)) = _
  refine congrArg x (funext fun d => Fin.ext ?_)
  match d with
  | ⟨0, _⟩ => rfl
  | ⟨1, _⟩ => show 0 + 1 * a.val = a.val; omega
  | ⟨2, _⟩ => show 0 + 1 * b.val = b.val; omega

theorem grad (x0 : Vec Ideal S256x512 .f32) (x1 x2 : Vec Ideal S4x256x512 .bf16) (x3 x4 : Vec Ideal S256x512 .f32) (a : Fin 256) (b : Fin 512) :
    k0_pay6 (F := Ideal) x0 x1 x2 x3 x4 (ix2 a b) = total (fun k => x1 (ix3 k a b)) (fun k => x2 (ix3 k a b)) := by
  unfold k0_pay6
  show shapeCast S256x512 (View.ld x1 r0_0) shapeCasts_S1x256x512_S256x512 (ix2 a b) + shapeCast S256x512 (View.ld x1 r0_1) shapeCasts_S1x256x512_S256x512 (ix2 a b)
      + shapeCast S256x512 (View.ld x1 r0_2) shapeCasts_S1x256x512_S256x512 (ix2 a b) + shapeCast S256x512 (View.ld x1 r0_3) shapeCasts_S1x256x512_S256x512 (ix2 a b)
      + (shapeCast S256x512 (View.ld x2 r0_0) shapeCasts_S1x256x512_S256x512 (ix2 a b) + shapeCast S256x512 (View.ld x2 r0_1) shapeCasts_S1x256x512_S256x512 (ix2 a b)
      + shapeCast S256x512 (View.ld x2 r0_2) shapeCasts_S1x256x512_S256x512 (ix2 a b) + shapeCast S256x512 (View.ld x2 r0_3) shapeCasts_S1x256x512_S256x512 (ix2 a b)) = _
  rw [first, first, first, first, first, first, first, first, ld0, ld1, ld2, ld3, ld0, ld1, ld2, ld3]
  rfl

theorem pay1 (g x3 : Vec Ideal S256x512 .f32) (i : S256x512.Idx) : k0_pay1 (F := Ideal) g x3 i = newM (g i) (x3 i) := by
  unfold k0_pay1
  rw [shapeCast_self]
  rfl

theorem pay2 (g x4 : Vec Ideal S256x512 .f32) (i : S256x512.Idx) : k0_pay2 (F := Ideal) g x4 i = newV (g i) (x4 i) := by
  unfold k0_pay2
  rw [shapeCast_self]
  rfl

theorem pay3 (g x0 x3 x4 : Vec Ideal S256x512 .f32) (i : S256x512.Idx) : k0_pay3 (F := Ideal) g x0 x3 x4 i = delta (x0 i) (g i) (x3 i) (x4 i) := by
  show _ = FloatOps.mulf (F := Ideal) (φ := .f32) _ (FloatOps.addf (FloatOps.divf (FloatOps.divf (newM (g i) (x3 i)) _) (FloatOps.addf (FloatOps.sqrt (FloatOps.divf (newV (g i) (x4 i)) _)) _)) _)
  rw [← pay1 g x3 i, ← pay2 g x4 i]
  rfl

theorem pay5 (x : Vec Ideal S256x512 .f32) : k0_pay5 (F := Ideal) x = x := by
  unfold k0_pay5
  exact shapeCast_self _ _

/-! ## The arrays -/

variable (m : (ℓ : Loc nD τ sig) → Buf (Elt Ideal) ℓ) (c : Dev nD)

/-- The weights, the two halves of the gradient's shares and the two moments, by row and column. -/
def w (a : Fin 256) (b : Fin 1024) : EReal := (m ((c : Thread nD τ).loc main_arg0) : S1x256x1024.Idx → EReal) (ix3 (0 : Fin 1) a b)

def mine : S4x256x1024.Idx → EReal := m ((c : Thread nD τ).loc main_arg1)

def theirs : S4x256x1024.Idx → EReal := m ((c : Thread nD τ).loc main_arg2)

def mo (a : Fin 256) (b : Fin 1024) : EReal := (m ((c : Thread nD τ).loc main_arg3) : S1x256x1024.Idx → EReal) (ix3 (0 : Fin 1) a b)

def ve (a : Fin 256) (b : Fin 1024) : EReal := (m ((c : Thread nD τ).loc main_arg4) : S1x256x1024.Idx → EReal) (ix3 (0 : Fin 1) a b)

def g (a : Fin 256) (b : Fin 1024) : EReal := total (fun k => mine m c (ix3 k a b)) (fun k => theirs m c (ix3 k a b))

/-- The four results: the gradient, the change of the weights, the new moments. -/
def out0 : S256x1024.Idx → EReal := fun i => g m c (i 0) (i 1)

def out1 : S256x1024.Idx → EReal := fun i => delta (w m c (i 0) (i 1)) (g m c (i 0) (i 1)) (mo m c (i 0) (i 1)) (ve m c (i 0) (i 1))

def out2 : S256x1024.Idx → EReal := fun i => newM (g m c (i 0) (i 1)) (mo m c (i 0) (i 1))

def out3 : S256x1024.Idx → EReal := fun i => newV (g m c (i 0) (i 1)) (ve m c (i 0) (i 1))

theorem V_w (a : Fin 256) (b : Fin 1024) : V m c main_v0 (ix2 a b) = w m c a b := by
  have e : V m c main_v0 = shapeCast S256x1024 (m ((c : Thread nD τ).loc main_arg0)) shapeCasts_S1x256x1024_S256x1024 := by
    show StableHlo.after hostOps0 (fun b => m (c, b)) (Proc.devRef .tc main_v0) = _
    after_results
    rfl
  rw [e]
  refine shapeCast_apply _ _ (ix2 a b) (ix3 (0 : Fin 1) a b) ?_
  rw [Shape.rowMajor_val_three, Shape.rowMajor_val_two]
  show (0 * 256 + a.val) * 1024 + b.val = a.val * 1024 + b.val
  omega

theorem V_mo (a : Fin 256) (b : Fin 1024) : V m c main_v1 (ix2 a b) = mo m c a b := by
  have e : V m c main_v1 = shapeCast S256x1024 (m ((c : Thread nD τ).loc main_arg3)) shapeCasts_S1x256x1024_S256x1024 := by
    show StableHlo.after hostOps0 (fun b => m (c, b)) (Proc.devRef .tc main_v1) = _
    after_results
    rfl
  rw [e]
  refine shapeCast_apply _ _ (ix2 a b) (ix3 (0 : Fin 1) a b) ?_
  rw [Shape.rowMajor_val_three, Shape.rowMajor_val_two]
  show (0 * 256 + a.val) * 1024 + b.val = a.val * 1024 + b.val
  omega

theorem V_ve (a : Fin 256) (b : Fin 1024) : V m c main_v2 (ix2 a b) = ve m c a b := by
  have e : V m c main_v2 = shapeCast S256x1024 (m ((c : Thread nD τ).loc main_arg4)) shapeCasts_S1x256x1024_S256x1024 := by
    show StableHlo.after hostOps0 (fun b => m (c, b)) (Proc.devRef .tc main_v2) = _
    after_results
    rfl
  rw [e]
  refine shapeCast_apply _ _ (ix2 a b) (ix3 (0 : Fin 1) a b) ?_
  rw [Shape.rowMajor_val_three, Shape.rowMajor_val_two]
  show (0 * 256 + a.val) * 1024 + b.val = a.val * 1024 + b.val
  omega

/-! ## The blocks of a point -/

theorem pt_lt (t : Fin cfg0.N) : t.val < 2 := lt_of_lt_of_eq t.isLt N_0

/-- Column `b` of point `t`'s tile in the whole matrix. -/
def col (t : ℕ) (b : Fin 512) : Fin 1024 := ⟨(512 * t + b.val) % 1024, Nat.mod_lt _ (by decide)⟩

theorem col_val {t : ℕ} (h : t < 2) (b : Fin 512) : (col t b).val = 512 * t + b.val := Nat.mod_eq_of_lt (by omega)

theorem idx0 : ∀ t : Fin cfg0.N, win0_0.index t (0 : Fin 2) = 0 ∧ win0_0.index t (1 : Fin 2) = t.val :=
  (by decide +kernel : ∀ t : Fin grid0.N, _)

theorem emb0 (t : Fin cfg0.N) (a : Fin 256) (b : Fin 512) : ((cfg0.win 0).blk t).view.emb (ix2 a b) = (ix2 a (col t.val b) : S256x1024.Idx) := by
  obtain ⟨e0, e1⟩ := idx0 t
  have h := pt_lt t
  funext d; apply Fin.ext
  match d with
  | ⟨0, _⟩ => show win0_0.index t (0 : Fin 2) * 256 + 1 * a.val = a.val; omega
  | ⟨1, _⟩ =>
    show win0_0.index t (1 : Fin 2) * 512 + 1 * b.val = (col t.val b).val
    rw [col_val h]; omega

theorem idx1 : ∀ t : Fin cfg0.N, win0_1.index t (0 : Fin 3) = 0 ∧ win0_1.index t (1 : Fin 3) = 0 ∧ win0_1.index t (2 : Fin 3) = t.val :=
  (by decide +kernel : ∀ t : Fin grid0.N, _)

theorem emb1 (t : Fin cfg0.N) (k : Fin 4) (a : Fin 256) (b : Fin 512) : ((cfg0.win 1).blk t).view.emb (ix3 k a b) = (ix3 k a (col t.val b) : S4x256x1024.Idx) := by
  obtain ⟨e0, e1, e2⟩ := idx1 t
  have h := pt_lt t
  funext d; apply Fin.ext
  match d with
  | ⟨0, _⟩ => show win0_1.index t (0 : Fin 3) * 4 + 1 * k.val = k.val; omega
  | ⟨1, _⟩ => show win0_1.index t (1 : Fin 3) * 256 + 1 * a.val = a.val; omega
  | ⟨2, _⟩ =>
    show win0_1.index t (2 : Fin 3) * 512 + 1 * b.val = (col t.val b).val
    rw [col_val h]; omega

theorem idx2 : ∀ t : Fin cfg0.N, win0_2.index t (0 : Fin 3) = 0 ∧ win0_2.index t (1 : Fin 3) = 0 ∧ win0_2.index t (2 : Fin 3) = t.val :=
  (by decide +kernel : ∀ t : Fin grid0.N, _)

theorem emb2 (t : Fin cfg0.N) (k : Fin 4) (a : Fin 256) (b : Fin 512) : ((cfg0.win 2).blk t).view.emb (ix3 k a b) = (ix3 k a (col t.val b) : S4x256x1024.Idx) := by
  obtain ⟨e0, e1, e2⟩ := idx2 t
  have h := pt_lt t
  funext d; apply Fin.ext
  match d with
  | ⟨0, _⟩ => show win0_2.index t (0 : Fin 3) * 4 + 1 * k.val = k.val; omega
  | ⟨1, _⟩ => show win0_2.index t (1 : Fin 3) * 256 + 1 * a.val = a.val; omega
  | ⟨2, _⟩ =>
    show win0_2.index t (2 : Fin 3) * 512 + 1 * b.val = (col t.val b).val
    rw [col_val h]; omega

theorem idx3 : ∀ t : Fin cfg0.N, win0_3.index t (0 : Fin 2) = 0 ∧ win0_3.index t (1 : Fin 2) = t.val :=
  (by decide +kernel : ∀ t : Fin grid0.N, _)

theorem emb3 (t : Fin cfg0.N) (a : Fin 256) (b : Fin 512) : ((cfg0.win 3).blk t).view.emb (ix2 a b) = (ix2 a (col t.val b) : S256x1024.Idx) := by
  obtain ⟨e0, e1⟩ := idx3 t
  have h := pt_lt t
  funext d; apply Fin.ext
  match d with
  | ⟨0, _⟩ => show win0_3.index t (0 : Fin 2) * 256 + 1 * a.val = a.val; omega
  | ⟨1, _⟩ =>
    show win0_3.index t (1 : Fin 2) * 512 + 1 * b.val = (col t.val b).val
    rw [col_val h]; omega

theorem idx4 : ∀ t : Fin cfg0.N, win0_4.index t (0 : Fin 2) = 0 ∧ win0_4.index t (1 : Fin 2) = t.val :=
  (by decide +kernel : ∀ t : Fin grid0.N, _)

theorem emb4 (t : Fin cfg0.N) (a : Fin 256) (b : Fin 512) : ((cfg0.win 4).blk t).view.emb (ix2 a b) = (ix2 a (col t.val b) : S256x1024.Idx) := by
  obtain ⟨e0, e1⟩ := idx4 t
  have h := pt_lt t
  funext d; apply Fin.ext
  match d with
  | ⟨0, _⟩ => show win0_4.index t (0 : Fin 2) * 256 + 1 * a.val = a.val; omega
  | ⟨1, _⟩ =>
    show win0_4.index t (1 : Fin 2) * 512 + 1 * b.val = (col t.val b).val
    rw [col_val h]; omega

theorem idx5 : ∀ t : Fin cfg0.N, win0_5.index t (0 : Fin 2) = 0 ∧ win0_5.index t (1 : Fin 2) = t.val :=
  (by decide +kernel : ∀ t : Fin grid0.N, _)

theorem emb5 (t : Fin cfg0.N) (a : Fin 256) (b : Fin 512) : ((cfg0.win 5).blk t).view.emb (ix2 a b) = (ix2 a (col t.val b) : S256x1024.Idx) := by
  obtain ⟨e0, e1⟩ := idx5 t
  have h := pt_lt t
  funext d; apply Fin.ext
  match d with
  | ⟨0, _⟩ => show win0_5.index t (0 : Fin 2) * 256 + 1 * a.val = a.val; omega
  | ⟨1, _⟩ =>
    show win0_5.index t (1 : Fin 2) * 512 + 1 * b.val = (col t.val b).val
    rw [col_val h]; omega

theorem idx6 : ∀ t : Fin cfg0.N, win0_6.index t (0 : Fin 2) = 0 ∧ win0_6.index t (1 : Fin 2) = t.val :=
  (by decide +kernel : ∀ t : Fin grid0.N, _)

theorem emb6 (t : Fin cfg0.N) (a : Fin 256) (b : Fin 512) : ((cfg0.win 6).blk t).view.emb (ix2 a b) = (ix2 a (col t.val b) : S256x1024.Idx) := by
  obtain ⟨e0, e1⟩ := idx6 t
  have h := pt_lt t
  funext d; apply Fin.ext
  match d with
  | ⟨0, _⟩ => show win0_6.index t (0 : Fin 2) * 256 + 1 * a.val = a.val; omega
  | ⟨1, _⟩ =>
    show win0_6.index t (1 : Fin 2) * 512 + 1 * b.val = (col t.val b).val
    rw [col_val h]; omega

theorem idx7 : ∀ t : Fin cfg0.N, win0_7.index t (0 : Fin 2) = 0 ∧ win0_7.index t (1 : Fin 2) = t.val :=
  (by decide +kernel : ∀ t : Fin grid0.N, _)

theorem emb7 (t : Fin cfg0.N) (a : Fin 256) (b : Fin 512) : ((cfg0.win 7).blk t).view.emb (ix2 a b) = (ix2 a (col t.val b) : S256x1024.Idx) := by
  obtain ⟨e0, e1⟩ := idx7 t
  have h := pt_lt t
  funext d; apply Fin.ext
  match d with
  | ⟨0, _⟩ => show win0_7.index t (0 : Fin 2) * 256 + 1 * a.val = a.val; omega
  | ⟨1, _⟩ =>
    show win0_7.index t (1 : Fin 2) * 512 + 1 * b.val = (col t.val b).val
    rw [col_val h]; omega

theorem idx8 : ∀ t : Fin cfg0.N, win0_8.index t (0 : Fin 2) = 0 ∧ win0_8.index t (1 : Fin 2) = t.val :=
  (by decide +kernel : ∀ t : Fin grid0.N, _)

theorem emb8 (t : Fin cfg0.N) (a : Fin 256) (b : Fin 512) : ((cfg0.win 8).blk t).view.emb (ix2 a b) = (ix2 a (col t.val b) : S256x1024.Idx) := by
  obtain ⟨e0, e1⟩ := idx8 t
  have h := pt_lt t
  funext d; apply Fin.ext
  match d with
  | ⟨0, _⟩ => show win0_8.index t (0 : Fin 2) * 256 + 1 * a.val = a.val; omega
  | ⟨1, _⟩ =>
    show win0_8.index t (1 : Fin 2) * 512 + 1 * b.val = (col t.val b).val
    rw [col_val h]; omega

theorem blkW (t : Fin cfg0.N) (a : Fin 256) (b : Fin 512) : iblk m c 0 t (ix2 a b) = w m c a (col t.val b) := by
  show V m c main_v0 (((cfg0.win 0).blk t).view.emb (ix2 a b)) = _
  rw [emb0, V_w]

theorem blkX (t : Fin cfg0.N) (k : Fin 4) (a : Fin 256) (b : Fin 512) : iblk m c 1 t (ix3 k a b) = mine m c (ix3 k a (col t.val b)) := by
  show V m c main_arg1 (((cfg0.win 1).blk t).view.emb (ix3 k a b)) = _
  rw [emb1, V_main_arg1]
  rfl

theorem blkY (t : Fin cfg0.N) (k : Fin 4) (a : Fin 256) (b : Fin 512) : iblk m c 2 t (ix3 k a b) = theirs m c (ix3 k a (col t.val b)) := by
  show V m c main_arg2 (((cfg0.win 2).blk t).view.emb (ix3 k a b)) = _
  rw [emb2, V_main_arg2]
  rfl

theorem blkM (t : Fin cfg0.N) (a : Fin 256) (b : Fin 512) : iblk m c 3 t (ix2 a b) = mo m c a (col t.val b) := by
  show V m c main_v1 (((cfg0.win 3).blk t).view.emb (ix2 a b)) = _
  rw [emb3, V_mo]

theorem blkV (t : Fin cfg0.N) (a : Fin 256) (b : Fin 512) : iblk m c 4 t (ix2 a b) = ve m c a (col t.val b) := by
  show V m c main_v2 (((cfg0.win 4).blk t).view.emb (ix2 a b)) = _
  rw [emb4, V_ve]

theorem blkG (t : Fin cfg0.N) (a : Fin 256) (b : Fin 512) :
    k0_pay6 (F := Ideal) (iblk m c 0 t) (iblk m c 1 t) (iblk m c 2 t) (iblk m c 3 t) (iblk m c 4 t) (ix2 a b) = g m c a (col t.val b) := by
  refine (grad _ _ _ _ _ a b).trans ?_
  show total _ _ = total _ _
  exact congrArg₂ total (funext fun k => blkX m c t k a b) (funext fun k => blkY m c t k a b)

/-! ## What the points write -/

theorem val5 (t : Fin cfg0.N) (a : Fin 256) (b : Fin 512) :
    out0_5 (F := Ideal) (iblk m c 0 t) (iblk m c 1 t) (iblk m c 2 t) (iblk m c 3 t) (iblk m c 4 t) (ix2 a b) = out0 m c (ix2 a (col t.val b)) := by
  unfold out0_5
  rw [single]
  exact blkG m c t a b

theorem val6 (t : Fin cfg0.N) (a : Fin 256) (b : Fin 512) :
    out0_6 (F := Ideal) (iblk m c 0 t) (iblk m c 1 t) (iblk m c 2 t) (iblk m c 3 t) (iblk m c 4 t) (ix2 a b) = out1 m c (ix2 a (col t.val b)) := by
  unfold out0_6
  rw [single, pay5, whole, whole, whole, pay3, blkG, blkW, blkM, blkV]
  rfl

theorem val7 (t : Fin cfg0.N) (a : Fin 256) (b : Fin 512) :
    out0_7 (F := Ideal) (iblk m c 0 t) (iblk m c 1 t) (iblk m c 2 t) (iblk m c 3 t) (iblk m c 4 t) (ix2 a b) = out2 m c (ix2 a (col t.val b)) := by
  unfold out0_7
  rw [single, whole, pay1, blkG, blkM]
  rfl

theorem val8 (t : Fin cfg0.N) (a : Fin 256) (b : Fin 512) :
    out0_8 (F := Ideal) (iblk m c 0 t) (iblk m c 1 t) (iblk m c 2 t) (iblk m c 3 t) (iblk m c 4 t) (ix2 a b) = out3 m c (ix2 a (col t.val b)) := by
  unfold out0_8
  rw [single, whole, pay2, blkG, blkV]
  rfl

theorem col_split (r : Fin 1024) : ∃ (t : Fin cfg0.N) (b : Fin 512), r = col t.val b :=
  ⟨⟨r.val / 512, show r.val / 512 < 2 by omega⟩, ⟨r.val % 512, Nat.mod_lt _ (by decide)⟩,
    Fin.ext ((col_val (show r.val / 512 < 2 by omega) _).trans (Nat.div_add_mod _ _)).symm⟩

theorem cut5 (t : Fin cfg0.N) : (cfg0.win 5).cut (grid0.coords t) (out0_5 (F := Ideal) (iblk m c 0 t) (iblk m c 1 t) (iblk m c 2 t) (iblk m c 3 t) (iblk m c 4 t))
    = ((cfg0.win 5).blk t).view.read (Elt Ideal) (out0 m c) := by
  funext j
  obtain ⟨a, b, rfl⟩ : ∃ (a : Fin 256) (b : Fin 512), j = ix2 a b := ⟨j 0, j 1, eq_ix2 j⟩
  refine (val5 m c t a b).trans ?_
  show _ = out0 m c (((cfg0.win 5).blk t).view.emb (ix2 a b))
  rw [emb5]

theorem cov5 (i : S256x1024.Idx) : ∃ t : Fin cfg0.N, (cfg0.win 5).flush t = true ∧ i ∈ ((cfg0.win 5).blk t).view.set := by
  obtain ⟨a, r, rfl⟩ : ∃ (a : Fin 256) (r : Fin 1024), i = ix2 a r := ⟨i 0, i 1, eq_ix2 i⟩
  obtain ⟨t, b, rfl⟩ := col_split r
  have h := ((cfg0.win 5).blk t).view.emb_mem_set (ix2 a b)
  rw [emb5 t a b] at h
  exact ⟨t, flush0_5 t, h⟩

theorem fin5 : (dats m 0 c).arrAt 5 cfg0.N = out0 m c :=
  (dats m 0 c).arrAt_eq_of_cover 5 _ (fun t _ => (flushed5 m c t).trans (cut5 m c t)) cov5

theorem cut6 (t : Fin cfg0.N) : (cfg0.win 6).cut (grid0.coords t) (out0_6 (F := Ideal) (iblk m c 0 t) (iblk m c 1 t) (iblk m c 2 t) (iblk m c 3 t) (iblk m c 4 t))
    = ((cfg0.win 6).blk t).view.read (Elt Ideal) (out1 m c) := by
  funext j
  obtain ⟨a, b, rfl⟩ : ∃ (a : Fin 256) (b : Fin 512), j = ix2 a b := ⟨j 0, j 1, eq_ix2 j⟩
  refine (val6 m c t a b).trans ?_
  show _ = out1 m c (((cfg0.win 6).blk t).view.emb (ix2 a b))
  rw [emb6]

theorem cov6 (i : S256x1024.Idx) : ∃ t : Fin cfg0.N, (cfg0.win 6).flush t = true ∧ i ∈ ((cfg0.win 6).blk t).view.set := by
  obtain ⟨a, r, rfl⟩ : ∃ (a : Fin 256) (r : Fin 1024), i = ix2 a r := ⟨i 0, i 1, eq_ix2 i⟩
  obtain ⟨t, b, rfl⟩ := col_split r
  have h := ((cfg0.win 6).blk t).view.emb_mem_set (ix2 a b)
  rw [emb6 t a b] at h
  exact ⟨t, flush0_6 t, h⟩

theorem fin6 : (dats m 0 c).arrAt 6 cfg0.N = out1 m c :=
  (dats m 0 c).arrAt_eq_of_cover 6 _ (fun t _ => (flushed6 m c t).trans (cut6 m c t)) cov6

theorem cut7 (t : Fin cfg0.N) : (cfg0.win 7).cut (grid0.coords t) (out0_7 (F := Ideal) (iblk m c 0 t) (iblk m c 1 t) (iblk m c 2 t) (iblk m c 3 t) (iblk m c 4 t))
    = ((cfg0.win 7).blk t).view.read (Elt Ideal) (out2 m c) := by
  funext j
  obtain ⟨a, b, rfl⟩ : ∃ (a : Fin 256) (b : Fin 512), j = ix2 a b := ⟨j 0, j 1, eq_ix2 j⟩
  refine (val7 m c t a b).trans ?_
  show _ = out2 m c (((cfg0.win 7).blk t).view.emb (ix2 a b))
  rw [emb7]

theorem cov7 (i : S256x1024.Idx) : ∃ t : Fin cfg0.N, (cfg0.win 7).flush t = true ∧ i ∈ ((cfg0.win 7).blk t).view.set := by
  obtain ⟨a, r, rfl⟩ : ∃ (a : Fin 256) (r : Fin 1024), i = ix2 a r := ⟨i 0, i 1, eq_ix2 i⟩
  obtain ⟨t, b, rfl⟩ := col_split r
  have h := ((cfg0.win 7).blk t).view.emb_mem_set (ix2 a b)
  rw [emb7 t a b] at h
  exact ⟨t, flush0_7 t, h⟩

theorem fin7 : (dats m 0 c).arrAt 7 cfg0.N = out2 m c :=
  (dats m 0 c).arrAt_eq_of_cover 7 _ (fun t _ => (flushed7 m c t).trans (cut7 m c t)) cov7

theorem cut8 (t : Fin cfg0.N) : (cfg0.win 8).cut (grid0.coords t) (out0_8 (F := Ideal) (iblk m c 0 t) (iblk m c 1 t) (iblk m c 2 t) (iblk m c 3 t) (iblk m c 4 t))
    = ((cfg0.win 8).blk t).view.read (Elt Ideal) (out3 m c) := by
  funext j
  obtain ⟨a, b, rfl⟩ : ∃ (a : Fin 256) (b : Fin 512), j = ix2 a b := ⟨j 0, j 1, eq_ix2 j⟩
  refine (val8 m c t a b).trans ?_
  show _ = out3 m c (((cfg0.win 8).blk t).view.emb (ix2 a b))
  rw [emb8]

theorem cov8 (i : S256x1024.Idx) : ∃ t : Fin cfg0.N, (cfg0.win 8).flush t = true ∧ i ∈ ((cfg0.win 8).blk t).view.set := by
  obtain ⟨a, r, rfl⟩ : ∃ (a : Fin 256) (r : Fin 1024), i = ix2 a r := ⟨i 0, i 1, eq_ix2 i⟩
  obtain ⟨t, b, rfl⟩ := col_split r
  have h := ((cfg0.win 8).blk t).view.emb_mem_set (ix2 a b)
  rw [emb8 t a b] at h
  exact ⟨t, flush0_8 t, h⟩

theorem fin8 : (dats m 0 c).arrAt 8 cfg0.N = out3 m c :=
  (dats m 0 c).arrAt_eq_of_cover 8 _ (fun t _ => (flushed8 m c t).trans (cut8 m c t)) cov8

end Cert.AdamOut

end
-- ==== Proof.AdamOutAlg.lean ====
/- The reference of the optimiser call of the output projection computes the sums and the steps the kernel computes, so the two end with the same four matrices. -/
module

public import proofs.«01_k».proof.Defs
public import proofs.«01_k».proof.Proof.Gen.Reference5Ideal
public import proofs.«01_k».proof.Proof.Gen.Reference5Ideal.Run
public import proofs.«01_k».proof.Proof.Gen.Reference5Ideal.Read
public import proofs.«01_k».proof.Proof.AdamOut
public import Idealize.ShloMosaic.Adequacy
public import Idealize.ShloMosaic.Init

@[expose] public section

set_option maxRecDepth 16384

noncomputable section

namespace Cert.AdamOut

open Idealize.ShloMosaic Idealize.ShloMosaic.TcCoe Idealize.SL.Sem Cert.Adamw
open Cert.Reference5Ideal Cert.Reference5Ideal.Gen Cert.Reference5Ideal.Read

/-! ## The gradient -/

theorem low (X Y : S4x256x1024.Idx → EReal) (k : Fin 4) (a : Fin 256) (b : Fin 1024) :
    val_main_v1 (F := Ideal) X Y (idx_main_v2 (ix2 a b) (⟨k.val, by omega⟩ : Fin 8)) = X (ix3 k a b) := by
  show val_main_v0 (F := Ideal) X Y _ = _
  unfold val_main_v0
  refine concatenate_apply_piece (t := S8x256x1024) 0 [⟨S4x256x1024, X⟩, ⟨S4x256x1024, Y⟩] concatenates_S4x256x1024_S4x256x1024_S8x256x1024_d0 _ 0 (Nat.succ_pos _) S4x256x1024 X rfl rfl 0 rfl (ix3 k a b) (fun d hd => ?_) ?_
  · match d with
    | ⟨0, _⟩ => exact absurd rfl hd
    | ⟨1, _⟩ => rfl
    | ⟨2, _⟩ => rfl
  · exact Nat.zero_add _

theorem high (X Y : S4x256x1024.Idx → EReal) (k : Fin 4) (a : Fin 256) (b : Fin 1024) :
    val_main_v1 (F := Ideal) X Y (idx_main_v2 (ix2 a b) (⟨4 + k.val, by omega⟩ : Fin 8)) = Y (ix3 k a b) := by
  show val_main_v0 (F := Ideal) X Y _ = _
  unfold val_main_v0
  refine concatenate_apply_piece (t := S8x256x1024) 0 [⟨S4x256x1024, X⟩, ⟨S4x256x1024, Y⟩] concatenates_S4x256x1024_S4x256x1024_S8x256x1024_d0 _ 1 (Nat.lt_succ_self _) S4x256x1024 Y rfl rfl 4 rfl (ix3 k a b) (fun d hd => ?_) ?_
  · match d with
    | ⟨0, _⟩ => exact absurd rfl hd
    | ⟨1, _⟩ => rfl
    | ⟨2, _⟩ => rfl
  · exact rfl

theorem reference_grad (X Y : S4x256x1024.Idx → EReal) (a : Fin 256) (b : Fin 1024) :
    val_main_v2 (F := Ideal) X Y (ix2 a b) = total (fun k => X (ix3 k a b)) (fun k => Y (ix3 k a b)) := by
  rw [val_main_v2_apply]
  have hz : (val_main_cst (F := Ideal)) (Shape.Idx.first h_S_) = 0 := Ideal.ofBits_zero_f32
  rw [hz, zero_add, Fin.sum_univ_eight]
  have hl := fun k : Fin 4 => low X Y k a b
  have hh := fun k : Fin 4 => high X Y k a b
  show _ = X (ix3 (0 : Fin 4) a b) + X (ix3 (1 : Fin 4) a b) + X (ix3 (2 : Fin 4) a b) + X (ix3 (3 : Fin 4) a b)
    + (Y (ix3 (0 : Fin 4) a b) + Y (ix3 (1 : Fin 4) a b) + Y (ix3 (2 : Fin 4) a b) + Y (ix3 (3 : Fin 4) a b))
  rw [← hl 0, ← hl 1, ← hl 2, ← hl 3, ← hh 0, ← hh 1, ← hh 2, ← hh 3]
  simp only [← add_assoc]
  rfl

/-! ## The steps -/

theorem reference_m (X Y : S4x256x1024.Idx → EReal) (M : S1x256x1024.Idx → EReal) (a : Fin 256) (b : Fin 1024) :
    val_main_v10 (F := Ideal) X Y M (ix2 a b) = newM (val_main_v2 (F := Ideal) X Y (ix2 a b)) (M (ix3 (0 : Fin 1) a b)) := by
  have h : val_main_v4 (F := Ideal) M (ix2 a b) = M (ix3 (0 : Fin 1) a b) := by
    rw [val_main_v4_apply]
    refine congrArg M (funext fun d => Fin.ext ?_)
    match d with
    | ⟨0, _⟩ => rfl
    | ⟨1, _⟩ => show (a.val * 1024 + b.val) / 1024 % 256 = a.val; omega
    | ⟨2, _⟩ => show (a.val * 1024 + b.val) % 1024 = b.val; omega
  rw [← h]
  rfl

theorem reference_v (X Y : S4x256x1024.Idx → EReal) (V : S1x256x1024.Idx → EReal) (a : Fin 256) (b : Fin 1024) :
    val_main_v16 (F := Ideal) X Y V (ix2 a b) = newV (val_main_v2 (F := Ideal) X Y (ix2 a b)) (V (ix3 (0 : Fin 1) a b)) := by
  have h : val_main_v5 (F := Ideal) V (ix2 a b) = V (ix3 (0 : Fin 1) a b) := by
    rw [val_main_v5_apply]
    refine congrArg V (funext fun d => Fin.ext ?_)
    match d with
    | ⟨0, _⟩ => rfl
    | ⟨1, _⟩ => show (a.val * 1024 + b.val) / 1024 % 256 = a.val; omega
    | ⟨2, _⟩ => show (a.val * 1024 + b.val) % 1024 = b.val; omega
  rw [← h]
  rfl

theorem reference_d (W : S1x256x1024.Idx → EReal) (X Y : S4x256x1024.Idx → EReal) (M V : S1x256x1024.Idx → EReal) (a : Fin 256) (b : Fin 1024) :
    val_main_v29 (F := Ideal) W X Y M V (ix2 a b) = delta (W (ix3 (0 : Fin 1) a b)) (val_main_v2 (F := Ideal) X Y (ix2 a b)) (M (ix3 (0 : Fin 1) a b)) (V (ix3 (0 : Fin 1) a b)) := by
  have h : val_main_v3 (F := Ideal) W (ix2 a b) = W (ix3 (0 : Fin 1) a b) := by
    rw [val_main_v3_apply]
    refine congrArg W (funext fun d => Fin.ext ?_)
    match d with
    | ⟨0, _⟩ => rfl
    | ⟨1, _⟩ => show (a.val * 1024 + b.val) / 1024 % 256 = a.val; omega
    | ⟨2, _⟩ => show (a.val * 1024 + b.val) % 1024 = b.val; omega
  unfold delta
  rw [← reference_m X Y M a b, ← reference_v X Y V a b, ← h]
  rfl

/-! ## The claims -/

theorem frame_reference : Cert.quiescent_Reference5Ideal := fun m ρ _ =>
  (θ_run Cert.Reference5Ideal.defs _ _).mono
    (fun r h => ⟨fun c => (h c).2.2.2.2, Idealize.ShloMosaic.sem_eq_zero_of_no_sems (by decide) r.2⟩)
    (Cert.Reference5Ideal.Value.run (F := Ideal) m ρ)

theorem algebraic : Cert.algebraic_Kernel5Ideal_Reference5Ideal := by
  intro m g m' g' hp hagree
  refine ⟨out0 m, out1 m, out2 m, out3 m, ?_, ?_⟩
  · exact (θ_run Cert.Kernel5Ideal.defs _ _).mono
      (fun r h c => ⟨(h c).1.trans (fin5 m c), (h c).2.1.trans (fin6 m c), (h c).2.2.1.trans (fin7 m c), (h c).2.2.2.1.trans (fin8 m c), (h c).2.2.2.2⟩)
      (Cert.Kernel5Ideal.Value.run_blocks (F := Ideal) m g)
  · refine (θ_run Cert.Reference5Ideal.defs _ _).mono
      (fun r h c => ?_)
      (Cert.Reference5Ideal.Value.run (F := Ideal) m' g')
    obtain ⟨a0, a1, a2, a3, a4⟩ := hagree c
    obtain ⟨h0, h1, h2, h3, hr⟩ := h c
    have eX : ∀ i, (m' ((c : Thread Cert.Reference5Ideal.nD Cert.Reference5Ideal.τ).loc Cert.Reference5Ideal.main_arg1) : S4x256x1024.Idx → EReal) i = mine m c i := congrFun a1
    have eY : ∀ i, (m' ((c : Thread Cert.Reference5Ideal.nD Cert.Reference5Ideal.τ).loc Cert.Reference5Ideal.main_arg2) : S4x256x1024.Idx → EReal) i = theirs m c i := congrFun a2
    have eW : ∀ a b, (m' ((c : Thread Cert.Reference5Ideal.nD Cert.Reference5Ideal.τ).loc Cert.Reference5Ideal.main_arg0) : S1x256x1024.Idx → EReal) (ix3 (0 : Fin 1) a b) = w m c a b := fun a b => congrFun a0 _
    have eM : ∀ a b, (m' ((c : Thread Cert.Reference5Ideal.nD Cert.Reference5Ideal.τ).loc Cert.Reference5Ideal.main_arg3) : S1x256x1024.Idx → EReal) (ix3 (0 : Fin 1) a b) = mo m c a b := fun a b => congrFun a3 _
    have eV : ∀ a b, (m' ((c : Thread Cert.Reference5Ideal.nD Cert.Reference5Ideal.τ).loc Cert.Reference5Ideal.main_arg4) : S1x256x1024.Idx → EReal) (ix3 (0 : Fin 1) a b) = ve m c a b := fun a b => congrFun a4 _
    have eG : ∀ a b, val_main_v2 (F := Ideal) (m' ((c : Thread Cert.Reference5Ideal.nD Cert.Reference5Ideal.τ).loc Cert.Reference5Ideal.main_arg1)) (m' ((c : Thread Cert.Reference5Ideal.nD Cert.Reference5Ideal.τ).loc Cert.Reference5Ideal.main_arg2)) (ix2 a b) = Cert.AdamOut.g m c a b := fun a b =>
      (reference_grad _ _ a b).trans (congrArg₂ total (funext fun k => eX _) (funext fun k => eY _))
    refine ⟨h0.trans ((val_main_v2_eq (F := Ideal) _ _).trans (funext fun i => ?_)), h1.trans ((val_main_v29_eq (F := Ideal) _ _ _ _ _).trans (funext fun i => ?_)),
      h2.trans ((val_main_v10_eq (F := Ideal) _ _ _).trans (funext fun i => ?_)), h3.trans ((val_main_v16_eq (F := Ideal) _ _ _).trans (funext fun i => ?_)), hr⟩
    · obtain ⟨a, b, rfl⟩ : ∃ (a : Fin 256) (b : Fin 1024), i = ix2 a b := ⟨i 0, i 1, eq_ix2 i⟩
      exact eG a b
    · obtain ⟨a, b, rfl⟩ : ∃ (a : Fin 256) (b : Fin 1024), i = ix2 a b := ⟨i 0, i 1, eq_ix2 i⟩
      rw [reference_d, eG, eW, eM, eV]
      rfl
    · obtain ⟨a, b, rfl⟩ : ∃ (a : Fin 256) (b : Fin 1024), i = ix2 a b := ⟨i 0, i 1, eq_ix2 i⟩
      rw [reference_m, eG, eM]
      rfl
    · obtain ⟨a, b, rfl⟩ : ∃ (a : Fin 256) (b : Fin 1024), i = ix2 a b := ⟨i 0, i 1, eq_ix2 i⟩
      rw [reference_v, eG, eV]
      rfl

end Cert.AdamOut

end
-- ==== Proof.AdamIn.lean ====
/- What the optimiser call of the input projection leaves: at each entry the gradient summed over the devices, and the AdamW step on it. -/
module

public import proofs.«01_k».proof.Proof.Gen.Kernel6Ideal.Value
public import proofs.«01_k».proof.Proof.Adamw
public import Idealize.ShloMosaic.Lib.Pipeline.ValueKit
public import Idealize.ShloMosaic.Lib.Pipeline.ReadBack

@[expose] public section

set_option maxRecDepth 16384

noncomputable section

namespace Cert.AdamIn

open Cert.Kernel6Ideal Cert.Kernel6Ideal.Gen Cert.Kernel6Ideal.Value Cert.Adamw Idealize.ShloMosaic Idealize.ShloMosaic.TcCoe Idealize.ShloMosaic.Tactic Idealize.SL.Sem

/-! ## One point -/

theorem single (w : S900x512.Idx → EReal) : View.canon (Val := Elt Ideal) (e := .f32) [⟨r0_4, w⟩] = w :=
  View.canon_cons_unit_lit _ _ _ (by decide)

theorem whole (x : S900x512.Idx → EReal) : View.ld (Val := Elt Ideal) (e' := .f32) x r0_4 = x :=
  View.ld_unit_lit _ _ (by decide)

theorem first (x : Vec Ideal S1x900x512 .bf16) (a : Fin 900) (b : Fin 512) :
    shapeCast S900x512 x shapeCasts_S1x900x512_S900x512 (ix2 a b) = x (ix3 (0 : Fin 1) a b) := by
  refine shapeCast_apply x _ (ix2 a b) (ix3 (0 : Fin 1) a b) ?_
  rw [Shape.rowMajor_val_three, Shape.rowMajor_val_two]
  show (0 * 900 + a.val) * 512 + b.val = a.val * 512 + b.val
  omega

theorem ld0 (x : Vec Ideal S4x900x512 .bf16) (a : Fin 900) (b : Fin 512) : View.ld x r0_0 (ix3 (0 : Fin 1) a b) = x (ix3 (0 : Fin 4) a b) := by
  show x (r0_0.idx (ix3 (0 : Fin 1) a b)) = _
  refine congrArg x (funext fun d => Fin.ext ?_)
  match d with
  | ⟨0, _⟩ => rfl
  | ⟨1, _⟩ => show 0 + 1 * a.val = a.val; omega
  | ⟨2, _⟩ => show 0 + 1 * b.val = b.val; omega

theorem ld1 (x : Vec Ideal S4x900x512 .bf16) (a : Fin 900) (b : Fin 512) : View.ld x r0_1 (ix3 (0 : Fin 1) a b) = x (ix3 (1 : Fin 4) a b) := by
  show x (r0_1.idx (ix3 (0 : Fin 1) a b)) = _
  refine congrArg x (funext fun d => Fin.ext ?_)
  match d with
  | ⟨0, _⟩ => rfl
  | ⟨1, _⟩ => show 0 + 1 * a.val = a.val; omega
  | ⟨2, _⟩ => show 0 + 1 * b.val = b.val; omega

theorem ld2 (x : Vec Ideal S4x900x512 .bf16) (a : Fin 900) (b : Fin 512) : View.ld x r0_2 (ix3 (0 : Fin 1) a b) = x (ix3 (2 : Fin 4) a b) := by
  show x (r0_2.idx (ix3 (0 : Fin 1) a b)) = _
  refine congrArg x (funext fun d => Fin.ext ?_)
  match d with
  | ⟨0, _⟩ => rfl
  | ⟨1, _⟩ => show 0 + 1 * a.val = a.val; omega
  | ⟨2, _⟩ => show 0 + 1 * b.val = b.val; omega

theorem ld3 (x : Vec Ideal S4x900x512 .bf16) (a : Fin 900) (b : Fin 512) : View.ld x r0_3 (ix3 (0 : Fin 1) a b) = x (ix3 (3 : Fin 4) a b) := by
  show x (r0_3.idx (ix3 (0 : Fin 1) a b)) = _
  refine congrArg x (funext fun d => Fin.ext ?_)
  match d with
  | ⟨0, _⟩ => rfl
  | ⟨1, _⟩ => show 0 + 1 * a.val = a.val; omega
  | ⟨2, _⟩ => show 0 + 1 * b.val = b.val; omega

theorem grad (x0 : Vec Ideal S900x512 .f32) (x1 x2 : Vec Ideal S4x900x512 .bf16) (x3 x4 : Vec Ideal S900x512 .f32) (a : Fin 900) (b : Fin 512) :
    k0_pay6 (F := Ideal) x0 x1 x2 x3 x4 (ix2 a b) = total (fun k => x1 (ix3 k a b)) (fun k => x2 (ix3 k a b)) := by
  unfold k0_pay6
  show shapeCast S900x512 (View.ld x1 r0_0) shapeCasts_S1x900x512_S900x512 (ix2 a b) + shapeCast S900x512 (View.ld x1 r0_1) shapeCasts_S1x900x512_S900x512 (ix2 a b)
      + shapeCast S900x512 (View.ld x1 r0_2) shapeCasts_S1x900x512_S900x512 (ix2 a b) + shapeCast S900x512 (View.ld x1 r0_3) shapeCasts_S1x900x512_S900x512 (ix2 a b)
      + (shapeCast S900x512 (View.ld x2 r0_0) shapeCasts_S1x900x512_S900x512 (ix2 a b) + shapeCast S900x512 (View.ld x2 r0_1) shapeCasts_S1x900x512_S900x512 (ix2 a b)
      + shapeCast S900x512 (View.ld x2 r0_2) shapeCasts_S1x900x512_S900x512 (ix2 a b) + shapeCast S900x512 (View.ld x2 r0_3) shapeCasts_S1x900x512_S900x512 (ix2 a b)) = _
  rw [first, first, first, first, first, first, first, first, ld0, ld1, ld2, ld3, ld0, ld1, ld2, ld3]
  rfl

theorem pay1 (g x3 : Vec Ideal S900x512 .f32) (i : S900x512.Idx) : k0_pay1 (F := Ideal) g x3 i = newM (g i) (x3 i) := by
  unfold k0_pay1
  rw [shapeCast_self]
  rfl

theorem pay2 (g x4 : Vec Ideal S900x512 .f32) (i : S900x512.Idx) : k0_pay2 (F := Ideal) g x4 i = newV (g i) (x4 i) := by
  unfold k0_pay2
  rw [shapeCast_self]
  rfl

theorem pay3 (g x0 x3 x4 : Vec Ideal S900x512 .f32) (i : S900x512.Idx) : k0_pay3 (F := Ideal) g x0 x3 x4 i = delta (x0 i) (g i) (x3 i) (x4 i) := by
  show _ = FloatOps.mulf (F := Ideal) (φ := .f32) _ (FloatOps.addf (FloatOps.divf (FloatOps.divf (newM (g i) (x3 i)) _) (FloatOps.addf (FloatOps.sqrt (FloatOps.divf (newV (g i) (x4 i)) _)) _)) _)
  rw [← pay1 g x3 i, ← pay2 g x4 i]
  rfl

theorem pay5 (x : Vec Ideal S900x512 .f32) : k0_pay5 (F := Ideal) x = x := by
  unfold k0_pay5
  exact shapeCast_self _ _

/-! ## The arrays -/

variable (m : (ℓ : Loc nD τ sig) → Buf (Elt Ideal) ℓ) (c : Dev nD)

/-- The weights, the two halves of the gradient's shares and the two moments, by row and column. -/
def w (a : Fin 900) (b : Fin 1024) : EReal := (m ((c : Thread nD τ).loc main_arg0) : S1x1024x900.Idx → EReal) (ix3 (0 : Fin 1) b a)

def mine : S4x900x1024.Idx → EReal := m ((c : Thread nD τ).loc main_arg1)

def theirs : S4x900x1024.Idx → EReal := m ((c : Thread nD τ).loc main_arg2)

def mo (a : Fin 900) (b : Fin 1024) : EReal := (m ((c : Thread nD τ).loc main_arg3) : S1x1024x900.Idx → EReal) (ix3 (0 : Fin 1) b a)

def ve (a : Fin 900) (b : Fin 1024) : EReal := (m ((c : Thread nD τ).loc main_arg4) : S1x1024x900.Idx → EReal) (ix3 (0 : Fin 1) b a)

def g (a : Fin 900) (b : Fin 1024) : EReal := total (fun k => mine m c (ix3 k a b)) (fun k => theirs m c (ix3 k a b))

/-- The four results: the gradient, the change of the weights, the new moments. -/
def out0 : S900x1024.Idx → EReal := fun i => g m c (i 0) (i 1)

def out1 : S900x1024.Idx → EReal := fun i => delta (w m c (i 0) (i 1)) (g m c (i 0) (i 1)) (mo m c (i 0) (i 1)) (ve m c (i 0) (i 1))

def out2 : S900x1024.Idx → EReal := fun i => newM (g m c (i 0) (i 1)) (mo m c (i 0) (i 1))

def out3 : S900x1024.Idx → EReal := fun i => newV (g m c (i 0) (i 1)) (ve m c (i 0) (i 1))

theorem V_w (a : Fin 900) (b : Fin 1024) : V m c main_v1 (ix2 a b) = w m c a b := by
  have e : V m c main_v1 = shapeCast S900x1024 (transpose S900x1x1024 [2, 0, 1] (m ((c : Thread nD τ).loc main_arg0) : S1x1024x900.Idx → EReal) transposes_S1x1024x900_S900x1x1024_2_0_1) shapeCasts_S900x1x1024_S900x1024 := by
    show StableHlo.after hostOps0 (fun b => m (c, b)) (Proc.devRef .tc main_v1) = _
    after_results
    rfl
  rw [e]
  refine (shapeCast_apply _ _ (ix2 a b) (ix3 a (0 : Fin 1) b) ?_).trans ?_
  · rw [Shape.rowMajor_val_three, Shape.rowMajor_val_two]
    show (a.val * 1 + 0) * 1024 + b.val = a.val * 1024 + b.val
    omega
  · refine transpose_apply _ _ _ _ (ix3 (0 : Fin 1) b a) fun d => ?_
    match d with
    | ⟨0, _⟩ => rfl
    | ⟨1, _⟩ => rfl
    | ⟨2, _⟩ => rfl

theorem V_mo (a : Fin 900) (b : Fin 1024) : V m c main_v3 (ix2 a b) = mo m c a b := by
  have e : V m c main_v3 = shapeCast S900x1024 (transpose S900x1x1024 [2, 0, 1] (m ((c : Thread nD τ).loc main_arg3) : S1x1024x900.Idx → EReal) transposes_S1x1024x900_S900x1x1024_2_0_1) shapeCasts_S900x1x1024_S900x1024 := by
    show StableHlo.after hostOps0 (fun b => m (c, b)) (Proc.devRef .tc main_v3) = _
    after_results
    rfl
  rw [e]
  refine (shapeCast_apply _ _ (ix2 a b) (ix3 a (0 : Fin 1) b) ?_).trans ?_
  · rw [Shape.rowMajor_val_three, Shape.rowMajor_val_two]
    show (a.val * 1 + 0) * 1024 + b.val = a.val * 1024 + b.val
    omega
  · refine transpose_apply _ _ _ _ (ix3 (0 : Fin 1) b a) fun d => ?_
    match d with
    | ⟨0, _⟩ => rfl
    | ⟨1, _⟩ => rfl
    | ⟨2, _⟩ => rfl

theorem V_ve (a : Fin 900) (b : Fin 1024) : V m c main_v5 (ix2 a b) = ve m c a b := by
  have e : V m c main_v5 = shapeCast S900x1024 (transpose S900x1x1024 [2, 0, 1] (m ((c : Thread nD τ).loc main_arg4) : S1x1024x900.Idx → EReal) transposes_S1x1024x900_S900x1x1024_2_0_1) shapeCasts_S900x1x1024_S900x1024 := by
    show StableHlo.after hostOps0 (fun b => m (c, b)) (Proc.devRef .tc main_v5) = _
    after_results
    rfl
  rw [e]
  refine (shapeCast_apply _ _ (ix2 a b) (ix3 a (0 : Fin 1) b) ?_).trans ?_
  · rw [Shape.rowMajor_val_three, Shape.rowMajor_val_two]
    show (a.val * 1 + 0) * 1024 + b.val = a.val * 1024 + b.val
    omega
  · refine transpose_apply _ _ _ _ (ix3 (0 : Fin 1) b a) fun d => ?_
    match d with
    | ⟨0, _⟩ => rfl
    | ⟨1, _⟩ => rfl
    | ⟨2, _⟩ => rfl

/-! ## The blocks of a point -/

theorem pt_lt (t : Fin cfg0.N) : t.val < 2 := lt_of_lt_of_eq t.isLt N_0

/-- Column `b` of point `t`'s tile in the whole matrix. -/
def col (t : ℕ) (b : Fin 512) : Fin 1024 := ⟨(512 * t + b.val) % 1024, Nat.mod_lt _ (by decide)⟩

theorem col_val {t : ℕ} (h : t < 2) (b : Fin 512) : (col t b).val = 512 * t + b.val := Nat.mod_eq_of_lt (by omega)

theorem idx0 : ∀ t : Fin cfg0.N, win0_0.index t (0 : Fin 2) = 0 ∧ win0_0.index t (1 : Fin 2) = t.val :=
  (by decide +kernel : ∀ t : Fin grid0.N, _)

theorem emb0 (t : Fin cfg0.N) (a : Fin 900) (b : Fin 512) : ((cfg0.win 0).blk t).view.emb (ix2 a b) = (ix2 a (col t.val b) : S900x1024.Idx) := by
  obtain ⟨e0, e1⟩ := idx0 t
  have h := pt_lt t
  funext d; apply Fin.ext
  match d with
  | ⟨0, _⟩ => show win0_0.index t (0 : Fin 2) * 900 + 1 * a.val = a.val; omega
  | ⟨1, _⟩ =>
    show win0_0.index t (1 : Fin 2) * 512 + 1 * b.val = (col t.val b).val
    rw [col_val h]; omega

theorem idx1 : ∀ t : Fin cfg0.N, win0_1.index t (0 : Fin 3) = 0 ∧ win0_1.index t (1 : Fin 3) = 0 ∧ win0_1.index t (2 : Fin 3) = t.val :=
  (by decide +kernel : ∀ t : Fin grid0.N, _)

theorem emb1 (t : Fin cfg0.N) (k : Fin 4) (a : Fin 900) (b : Fin 512) : ((cfg0.win 1).blk t).view.emb (ix3 k a b) = (ix3 k a (col t.val b) : S4x900x1024.Idx) := by
  obtain ⟨e0, e1, e2⟩ := idx1 t
  have h := pt_lt t
  funext d; apply Fin.ext
  match d with
  | ⟨0, _⟩ => show win0_1.index t (0 : Fin 3) * 4 + 1 * k.val = k.val; omega
  | ⟨1, _⟩ => show win0_1.index t (1 : Fin 3) * 900 + 1 * a.val = a.val; omega
  | ⟨2, _⟩ =>
    show win0_1.index t (2 : Fin 3) * 512 + 1 * b.val = (col t.val b).val
    rw [col_val h]; omega

theorem idx2 : ∀ t : Fin cfg0.N, win0_2.index t (0 : Fin 3) = 0 ∧ win0_2.index t (1 : Fin 3) = 0 ∧ win0_2.index t (2 : Fin 3) = t.val :=
  (by decide +kernel : ∀ t : Fin grid0.N, _)

theorem emb2 (t : Fin cfg0.N) (k : Fin 4) (a : Fin 900) (b : Fin 512) : ((cfg0.win 2).blk t).view.emb (ix3 k a b) = (ix3 k a (col t.val b) : S4x900x1024.Idx) := by
  obtain ⟨e0, e1, e2⟩ := idx2 t
  have h := pt_lt t
  funext d; apply Fin.ext
  match d with
  | ⟨0, _⟩ => show win0_2.index t (0 : Fin 3) * 4 + 1 * k.val = k.val; omega
  | ⟨1, _⟩ => show win0_2.index t (1 : Fin 3) * 900 + 1 * a.val = a.val; omega
  | ⟨2, _⟩ =>
    show win0_2.index t (2 : Fin 3) * 512 + 1 * b.val = (col t.val b).val
    rw [col_val h]; omega

theorem idx3 : ∀ t : Fin cfg0.N, win0_3.index t (0 : Fin 2) = 0 ∧ win0_3.index t (1 : Fin 2) = t.val :=
  (by decide +kernel : ∀ t : Fin grid0.N, _)

theorem emb3 (t : Fin cfg0.N) (a : Fin 900) (b : Fin 512) : ((cfg0.win 3).blk t).view.emb (ix2 a b) = (ix2 a (col t.val b) : S900x1024.Idx) := by
  obtain ⟨e0, e1⟩ := idx3 t
  have h := pt_lt t
  funext d; apply Fin.ext
  match d with
  | ⟨0, _⟩ => show win0_3.index t (0 : Fin 2) * 900 + 1 * a.val = a.val; omega
  | ⟨1, _⟩ =>
    show win0_3.index t (1 : Fin 2) * 512 + 1 * b.val = (col t.val b).val
    rw [col_val h]; omega

theorem idx4 : ∀ t : Fin cfg0.N, win0_4.index t (0 : Fin 2) = 0 ∧ win0_4.index t (1 : Fin 2) = t.val :=
  (by decide +kernel : ∀ t : Fin grid0.N, _)

theorem emb4 (t : Fin cfg0.N) (a : Fin 900) (b : Fin 512) : ((cfg0.win 4).blk t).view.emb (ix2 a b) = (ix2 a (col t.val b) : S900x1024.Idx) := by
  obtain ⟨e0, e1⟩ := idx4 t
  have h := pt_lt t
  funext d; apply Fin.ext
  match d with
  | ⟨0, _⟩ => show win0_4.index t (0 : Fin 2) * 900 + 1 * a.val = a.val; omega
  | ⟨1, _⟩ =>
    show win0_4.index t (1 : Fin 2) * 512 + 1 * b.val = (col t.val b).val
    rw [col_val h]; omega

theorem idx5 : ∀ t : Fin cfg0.N, win0_5.index t (0 : Fin 2) = 0 ∧ win0_5.index t (1 : Fin 2) = t.val :=
  (by decide +kernel : ∀ t : Fin grid0.N, _)

theorem emb5 (t : Fin cfg0.N) (a : Fin 900) (b : Fin 512) : ((cfg0.win 5).blk t).view.emb (ix2 a b) = (ix2 a (col t.val b) : S900x1024.Idx) := by
  obtain ⟨e0, e1⟩ := idx5 t
  have h := pt_lt t
  funext d; apply Fin.ext
  match d with
  | ⟨0, _⟩ => show win0_5.index t (0 : Fin 2) * 900 + 1 * a.val = a.val; omega
  | ⟨1, _⟩ =>
    show win0_5.index t (1 : Fin 2) * 512 + 1 * b.val = (col t.val b).val
    rw [col_val h]; omega

theorem idx6 : ∀ t : Fin cfg0.N, win0_6.index t (0 : Fin 2) = 0 ∧ win0_6.index t (1 : Fin 2) = t.val :=
  (by decide +kernel : ∀ t : Fin grid0.N, _)

theorem emb6 (t : Fin cfg0.N) (a : Fin 900) (b : Fin 512) : ((cfg0.win 6).blk t).view.emb (ix2 a b) = (ix2 a (col t.val b) : S900x1024.Idx) := by
  obtain ⟨e0, e1⟩ := idx6 t
  have h := pt_lt t
  funext d; apply Fin.ext
  match d with
  | ⟨0, _⟩ => show win0_6.index t (0 : Fin 2) * 900 + 1 * a.val = a.val; omega
  | ⟨1, _⟩ =>
    show win0_6.index t (1 : Fin 2) * 512 + 1 * b.val = (col t.val b).val
    rw [col_val h]; omega

theorem idx7 : ∀ t : Fin cfg0.N, win0_7.index t (0 : Fin 2) = 0 ∧ win0_7.index t (1 : Fin 2) = t.val :=
  (by decide +kernel : ∀ t : Fin grid0.N, _)

theorem emb7 (t : Fin cfg0.N) (a : Fin 900) (b : Fin 512) : ((cfg0.win 7).blk t).view.emb (ix2 a b) = (ix2 a (col t.val b) : S900x1024.Idx) := by
  obtain ⟨e0, e1⟩ := idx7 t
  have h := pt_lt t
  funext d; apply Fin.ext
  match d with
  | ⟨0, _⟩ => show win0_7.index t (0 : Fin 2) * 900 + 1 * a.val = a.val; omega
  | ⟨1, _⟩ =>
    show win0_7.index t (1 : Fin 2) * 512 + 1 * b.val = (col t.val b).val
    rw [col_val h]; omega

theorem idx8 : ∀ t : Fin cfg0.N, win0_8.index t (0 : Fin 2) = 0 ∧ win0_8.index t (1 : Fin 2) = t.val :=
  (by decide +kernel : ∀ t : Fin grid0.N, _)

theorem emb8 (t : Fin cfg0.N) (a : Fin 900) (b : Fin 512) : ((cfg0.win 8).blk t).view.emb (ix2 a b) = (ix2 a (col t.val b) : S900x1024.Idx) := by
  obtain ⟨e0, e1⟩ := idx8 t
  have h := pt_lt t
  funext d; apply Fin.ext
  match d with
  | ⟨0, _⟩ => show win0_8.index t (0 : Fin 2) * 900 + 1 * a.val = a.val; omega
  | ⟨1, _⟩ =>
    show win0_8.index t (1 : Fin 2) * 512 + 1 * b.val = (col t.val b).val
    rw [col_val h]; omega

theorem blkW (t : Fin cfg0.N) (a : Fin 900) (b : Fin 512) : iblk m c 0 t (ix2 a b) = w m c a (col t.val b) := by
  show V m c main_v1 (((cfg0.win 0).blk t).view.emb (ix2 a b)) = _
  rw [emb0, V_w]

theorem blkX (t : Fin cfg0.N) (k : Fin 4) (a : Fin 900) (b : Fin 512) : iblk m c 1 t (ix3 k a b) = mine m c (ix3 k a (col t.val b)) := by
  show V m c main_arg1 (((cfg0.win 1).blk t).view.emb (ix3 k a b)) = _
  rw [emb1, V_main_arg1]
  rfl

theorem blkY (t : Fin cfg0.N) (k : Fin 4) (a : Fin 900) (b : Fin 512) : iblk m c 2 t (ix3 k a b) = theirs m c (ix3 k a (col t.val b)) := by
  show V m c main_arg2 (((cfg0.win 2).blk t).view.emb (ix3 k a b)) = _
  rw [emb2, V_main_arg2]
  rfl

theorem blkM (t : Fin cfg0.N) (a : Fin 900) (b : Fin 512) : iblk m c 3 t (ix2 a b) = mo m c a (col t.val b) := by
  show V m c main_v3 (((cfg0.win 3).blk t).view.emb (ix2 a b)) = _
  rw [emb3, V_mo]

theorem blkV (t : Fin cfg0.N) (a : Fin 900) (b : Fin 512) : iblk m c 4 t (ix2 a b) = ve m c a (col t.val b) := by
  show V m c main_v5 (((cfg0.win 4).blk t).view.emb (ix2 a b)) = _
  rw [emb4, V_ve]

theorem blkG (t : Fin cfg0.N) (a : Fin 900) (b : Fin 512) :
    k0_pay6 (F := Ideal) (iblk m c 0 t) (iblk m c 1 t) (iblk m c 2 t) (iblk m c 3 t) (iblk m c 4 t) (ix2 a b) = g m c a (col t.val b) := by
  refine (grad _ _ _ _ _ a b).trans ?_
  show total _ _ = total _ _
  exact congrArg₂ total (funext fun k => blkX m c t k a b) (funext fun k => blkY m c t k a b)

/-! ## What the points write -/

theorem val5 (t : Fin cfg0.N) (a : Fin 900) (b : Fin 512) :
    out0_5 (F := Ideal) (iblk m c 0 t) (iblk m c 1 t) (iblk m c 2 t) (iblk m c 3 t) (iblk m c 4 t) (ix2 a b) = out0 m c (ix2 a (col t.val b)) := by
  unfold out0_5
  rw [single]
  exact blkG m c t a b

theorem val6 (t : Fin cfg0.N) (a : Fin 900) (b : Fin 512) :
    out0_6 (F := Ideal) (iblk m c 0 t) (iblk m c 1 t) (iblk m c 2 t) (iblk m c 3 t) (iblk m c 4 t) (ix2 a b) = out1 m c (ix2 a (col t.val b)) := by
  unfold out0_6
  rw [single, pay5, whole, whole, whole, pay3, blkG, blkW, blkM, blkV]
  rfl

theorem val7 (t : Fin cfg0.N) (a : Fin 900) (b : Fin 512) :
    out0_7 (F := Ideal) (iblk m c 0 t) (iblk m c 1 t) (iblk m c 2 t) (iblk m c 3 t) (iblk m c 4 t) (ix2 a b) = out2 m c (ix2 a (col t.val b)) := by
  unfold out0_7
  rw [single, whole, pay1, blkG, blkM]
  rfl

theorem val8 (t : Fin cfg0.N) (a : Fin 900) (b : Fin 512) :
    out0_8 (F := Ideal) (iblk m c 0 t) (iblk m c 1 t) (iblk m c 2 t) (iblk m c 3 t) (iblk m c 4 t) (ix2 a b) = out3 m c (ix2 a (col t.val b)) := by
  unfold out0_8
  rw [single, whole, pay2, blkG, blkV]
  rfl

theorem col_split (r : Fin 1024) : ∃ (t : Fin cfg0.N) (b : Fin 512), r = col t.val b :=
  ⟨⟨r.val / 512, show r.val / 512 < 2 by omega⟩, ⟨r.val % 512, Nat.mod_lt _ (by decide)⟩,
    Fin.ext ((col_val (show r.val / 512 < 2 by omega) _).trans (Nat.div_add_mod _ _)).symm⟩

theorem cut5 (t : Fin cfg0.N) : (cfg0.win 5).cut (grid0.coords t) (out0_5 (F := Ideal) (iblk m c 0 t) (iblk m c 1 t) (iblk m c 2 t) (iblk m c 3 t) (iblk m c 4 t))
    = ((cfg0.win 5).blk t).view.read (Elt Ideal) (out0 m c) := by
  funext j
  obtain ⟨a, b, rfl⟩ : ∃ (a : Fin 900) (b : Fin 512), j = ix2 a b := ⟨j 0, j 1, eq_ix2 j⟩
  refine (val5 m c t a b).trans ?_
  show _ = out0 m c (((cfg0.win 5).blk t).view.emb (ix2 a b))
  rw [emb5]

theorem cov5 (i : S900x1024.Idx) : ∃ t : Fin cfg0.N, (cfg0.win 5).flush t = true ∧ i ∈ ((cfg0.win 5).blk t).view.set := by
  obtain ⟨a, r, rfl⟩ : ∃ (a : Fin 900) (r : Fin 1024), i = ix2 a r := ⟨i 0, i 1, eq_ix2 i⟩
  obtain ⟨t, b, rfl⟩ := col_split r
  have h := ((cfg0.win 5).blk t).view.emb_mem_set (ix2 a b)
  rw [emb5 t a b] at h
  exact ⟨t, flush0_5 t, h⟩

theorem fin5 : (dats m 0 c).arrAt 5 cfg0.N = out0 m c :=
  (dats m 0 c).arrAt_eq_of_cover 5 _ (fun t _ => (flushed5 m c t).trans (cut5 m c t)) cov5

theorem cut6 (t : Fin cfg0.N) : (cfg0.win 6).cut (grid0.coords t) (out0_6 (F := Ideal) (iblk m c 0 t) (iblk m c 1 t) (iblk m c 2 t) (iblk m c 3 t) (iblk m c 4 t))
    = ((cfg0.win 6).blk t).view.read (Elt Ideal) (out1 m c) := by
  funext j
  obtain ⟨a, b, rfl⟩ : ∃ (a : Fin 900) (b : Fin 512), j = ix2 a b := ⟨j 0, j 1, eq_ix2 j⟩
  refine (val6 m c t a b).trans ?_
  show _ = out1 m c (((cfg0.win 6).blk t).view.emb (ix2 a b))
  rw [emb6]

theorem cov6 (i : S900x1024.Idx) : ∃ t : Fin cfg0.N, (cfg0.win 6).flush t = true ∧ i ∈ ((cfg0.win 6).blk t).view.set := by
  obtain ⟨a, r, rfl⟩ : ∃ (a : Fin 900) (r : Fin 1024), i = ix2 a r := ⟨i 0, i 1, eq_ix2 i⟩
  obtain ⟨t, b, rfl⟩ := col_split r
  have h := ((cfg0.win 6).blk t).view.emb_mem_set (ix2 a b)
  rw [emb6 t a b] at h
  exact ⟨t, flush0_6 t, h⟩

theorem fin6 : (dats m 0 c).arrAt 6 cfg0.N = out1 m c :=
  (dats m 0 c).arrAt_eq_of_cover 6 _ (fun t _ => (flushed6 m c t).trans (cut6 m c t)) cov6

theorem cut7 (t : Fin cfg0.N) : (cfg0.win 7).cut (grid0.coords t) (out0_7 (F := Ideal) (iblk m c 0 t) (iblk m c 1 t) (iblk m c 2 t) (iblk m c 3 t) (iblk m c 4 t))
    = ((cfg0.win 7).blk t).view.read (Elt Ideal) (out2 m c) := by
  funext j
  obtain ⟨a, b, rfl⟩ : ∃ (a : Fin 900) (b : Fin 512), j = ix2 a b := ⟨j 0, j 1, eq_ix2 j⟩
  refine (val7 m c t a b).trans ?_
  show _ = out2 m c (((cfg0.win 7).blk t).view.emb (ix2 a b))
  rw [emb7]

theorem cov7 (i : S900x1024.Idx) : ∃ t : Fin cfg0.N, (cfg0.win 7).flush t = true ∧ i ∈ ((cfg0.win 7).blk t).view.set := by
  obtain ⟨a, r, rfl⟩ : ∃ (a : Fin 900) (r : Fin 1024), i = ix2 a r := ⟨i 0, i 1, eq_ix2 i⟩
  obtain ⟨t, b, rfl⟩ := col_split r
  have h := ((cfg0.win 7).blk t).view.emb_mem_set (ix2 a b)
  rw [emb7 t a b] at h
  exact ⟨t, flush0_7 t, h⟩

theorem fin7 : (dats m 0 c).arrAt 7 cfg0.N = out2 m c :=
  (dats m 0 c).arrAt_eq_of_cover 7 _ (fun t _ => (flushed7 m c t).trans (cut7 m c t)) cov7

theorem cut8 (t : Fin cfg0.N) : (cfg0.win 8).cut (grid0.coords t) (out0_8 (F := Ideal) (iblk m c 0 t) (iblk m c 1 t) (iblk m c 2 t) (iblk m c 3 t) (iblk m c 4 t))
    = ((cfg0.win 8).blk t).view.read (Elt Ideal) (out3 m c) := by
  funext j
  obtain ⟨a, b, rfl⟩ : ∃ (a : Fin 900) (b : Fin 512), j = ix2 a b := ⟨j 0, j 1, eq_ix2 j⟩
  refine (val8 m c t a b).trans ?_
  show _ = out3 m c (((cfg0.win 8).blk t).view.emb (ix2 a b))
  rw [emb8]

theorem cov8 (i : S900x1024.Idx) : ∃ t : Fin cfg0.N, (cfg0.win 8).flush t = true ∧ i ∈ ((cfg0.win 8).blk t).view.set := by
  obtain ⟨a, r, rfl⟩ : ∃ (a : Fin 900) (r : Fin 1024), i = ix2 a r := ⟨i 0, i 1, eq_ix2 i⟩
  obtain ⟨t, b, rfl⟩ := col_split r
  have h := ((cfg0.win 8).blk t).view.emb_mem_set (ix2 a b)
  rw [emb8 t a b] at h
  exact ⟨t, flush0_8 t, h⟩

theorem fin8 : (dats m 0 c).arrAt 8 cfg0.N = out3 m c :=
  (dats m 0 c).arrAt_eq_of_cover 8 _ (fun t _ => (flushed8 m c t).trans (cut8 m c t)) cov8

end Cert.AdamIn

end
-- ==== Proof.AdamInAlg.lean ====
/- The reference of the optimiser call of the input projection computes the sums and the steps the kernel computes, so the two end with the same four matrices. -/
module

public import proofs.«01_k».proof.Defs
public import proofs.«01_k».proof.Proof.Gen.Reference6Ideal
public import proofs.«01_k».proof.Proof.Gen.Reference6Ideal.Run
public import proofs.«01_k».proof.Proof.Gen.Reference6Ideal.Read
public import proofs.«01_k».proof.Proof.AdamIn
public import Idealize.ShloMosaic.Adequacy
public import Idealize.ShloMosaic.Init

@[expose] public section

set_option maxRecDepth 16384

noncomputable section

namespace Cert.AdamIn

open Idealize.ShloMosaic Idealize.ShloMosaic.TcCoe Idealize.SL.Sem Cert.Adamw
open Cert.Reference6Ideal Cert.Reference6Ideal.Gen Cert.Reference6Ideal.Read

/-! ## The gradient -/

theorem low (X Y : S4x900x1024.Idx → EReal) (k : Fin 4) (a : Fin 900) (b : Fin 1024) :
    val_main_v1 (F := Ideal) X Y (idx_main_v2 (ix2 a b) (⟨k.val, by omega⟩ : Fin 8)) = X (ix3 k a b) := by
  show val_main_v0 (F := Ideal) X Y _ = _
  unfold val_main_v0
  refine concatenate_apply_piece (t := S8x900x1024) 0 [⟨S4x900x1024, X⟩, ⟨S4x900x1024, Y⟩] concatenates_S4x900x1024_S4x900x1024_S8x900x1024_d0 _ 0 (Nat.succ_pos _) S4x900x1024 X rfl rfl 0 rfl (ix3 k a b) (fun d hd => ?_) ?_
  · match d with
    | ⟨0, _⟩ => exact absurd rfl hd
    | ⟨1, _⟩ => rfl
    | ⟨2, _⟩ => rfl
  · exact Nat.zero_add _

theorem high (X Y : S4x900x1024.Idx → EReal) (k : Fin 4) (a : Fin 900) (b : Fin 1024) :
    val_main_v1 (F := Ideal) X Y (idx_main_v2 (ix2 a b) (⟨4 + k.val, by omega⟩ : Fin 8)) = Y (ix3 k a b) := by
  show val_main_v0 (F := Ideal) X Y _ = _
  unfold val_main_v0
  refine concatenate_apply_piece (t := S8x900x1024) 0 [⟨S4x900x1024, X⟩, ⟨S4x900x1024, Y⟩] concatenates_S4x900x1024_S4x900x1024_S8x900x1024_d0 _ 1 (Nat.lt_succ_self _) S4x900x1024 Y rfl rfl 4 rfl (ix3 k a b) (fun d hd => ?_) ?_
  · match d with
    | ⟨0, _⟩ => exact absurd rfl hd
    | ⟨1, _⟩ => rfl
    | ⟨2, _⟩ => rfl
  · exact rfl

theorem reference_grad (X Y : S4x900x1024.Idx → EReal) (a : Fin 900) (b : Fin 1024) :
    val_main_v2 (F := Ideal) X Y (ix2 a b) = total (fun k => X (ix3 k a b)) (fun k => Y (ix3 k a b)) := by
  rw [val_main_v2_apply]
  have hz : (val_main_cst (F := Ideal)) (Shape.Idx.first h_S_) = 0 := Ideal.ofBits_zero_f32
  rw [hz, zero_add, Fin.sum_univ_eight]
  have hl := fun k : Fin 4 => low X Y k a b
  have hh := fun k : Fin 4 => high X Y k a b
  show _ = X (ix3 (0 : Fin 4) a b) + X (ix3 (1 : Fin 4) a b) + X (ix3 (2 : Fin 4) a b) + X (ix3 (3 : Fin 4) a b)
    + (Y (ix3 (0 : Fin 4) a b) + Y (ix3 (1 : Fin 4) a b) + Y (ix3 (2 : Fin 4) a b) + Y (ix3 (3 : Fin 4) a b))
  rw [← hl 0, ← hl 1, ← hl 2, ← hl 3, ← hh 0, ← hh 1, ← hh 2, ← hh 3]
  simp only [← add_assoc]
  rfl

/-! ## The steps -/

theorem reference_m (X Y : S4x900x1024.Idx → EReal) (M : S1x1024x900.Idx → EReal) (a : Fin 900) (b : Fin 1024) :
    val_main_v13 (F := Ideal) X Y M (ix2 a b) = newM (val_main_v2 (F := Ideal) X Y (ix2 a b)) (M (ix3 (0 : Fin 1) b a)) := by
  have h : val_main_v6 (F := Ideal) M (ix2 a b) = M (ix3 (0 : Fin 1) b a) := by
    rw [val_main_v6_apply, val_main_v5_apply]
    refine congrArg M (funext fun d => Fin.ext ?_)
    match d with
    | ⟨0, _⟩ => rfl
    | ⟨1, _⟩ => show (b.val * 900 + a.val) / 900 % 1024 = b.val; omega
    | ⟨2, _⟩ => show (b.val * 900 + a.val) % 900 = a.val; omega
  rw [← h]
  rfl

theorem reference_v (X Y : S4x900x1024.Idx → EReal) (V : S1x1024x900.Idx → EReal) (a : Fin 900) (b : Fin 1024) :
    val_main_v19 (F := Ideal) X Y V (ix2 a b) = newV (val_main_v2 (F := Ideal) X Y (ix2 a b)) (V (ix3 (0 : Fin 1) b a)) := by
  have h : val_main_v8 (F := Ideal) V (ix2 a b) = V (ix3 (0 : Fin 1) b a) := by
    rw [val_main_v8_apply, val_main_v7_apply]
    refine congrArg V (funext fun d => Fin.ext ?_)
    match d with
    | ⟨0, _⟩ => rfl
    | ⟨1, _⟩ => show (b.val * 900 + a.val) / 900 % 1024 = b.val; omega
    | ⟨2, _⟩ => show (b.val * 900 + a.val) % 900 = a.val; omega
  rw [← h]
  rfl

theorem reference_d (W : S1x1024x900.Idx → EReal) (X Y : S4x900x1024.Idx → EReal) (M V : S1x1024x900.Idx → EReal) (a : Fin 900) (b : Fin 1024) :
    val_main_v32 (F := Ideal) W X Y M V (ix2 a b) = delta (W (ix3 (0 : Fin 1) b a)) (val_main_v2 (F := Ideal) X Y (ix2 a b)) (M (ix3 (0 : Fin 1) b a)) (V (ix3 (0 : Fin 1) b a)) := by
  have h : val_main_v4 (F := Ideal) W (ix2 a b) = W (ix3 (0 : Fin 1) b a) := by
    rw [val_main_v4_apply, val_main_v3_apply]
    refine congrArg W (funext fun d => Fin.ext ?_)
    match d with
    | ⟨0, _⟩ => rfl
    | ⟨1, _⟩ => show (b.val * 900 + a.val) / 900 % 1024 = b.val; omega
    | ⟨2, _⟩ => show (b.val * 900 + a.val) % 900 = a.val; omega
  unfold delta
  rw [← reference_m X Y M a b, ← reference_v X Y V a b, ← h]
  rfl

/-! ## The claims -/

theorem frame_reference : Cert.quiescent_Reference6Ideal := fun m ρ _ =>
  (θ_run Cert.Reference6Ideal.defs _ _).mono
    (fun r h => ⟨fun c => (h c).2.2.2.2, Idealize.ShloMosaic.sem_eq_zero_of_no_sems (by decide) r.2⟩)
    (Cert.Reference6Ideal.Value.run (F := Ideal) m ρ)

theorem algebraic : Cert.algebraic_Kernel6Ideal_Reference6Ideal := by
  intro m g m' g' hp hagree
  refine ⟨out0 m, out1 m, out2 m, out3 m, ?_, ?_⟩
  · exact (θ_run Cert.Kernel6Ideal.defs _ _).mono
      (fun r h c => ⟨(h c).1.trans (fin5 m c), (h c).2.1.trans (fin6 m c), (h c).2.2.1.trans (fin7 m c), (h c).2.2.2.1.trans (fin8 m c), (h c).2.2.2.2⟩)
      (Cert.Kernel6Ideal.Value.run_blocks (F := Ideal) m g)
  · refine (θ_run Cert.Reference6Ideal.defs _ _).mono
      (fun r h c => ?_)
      (Cert.Reference6Ideal.Value.run (F := Ideal) m' g')
    obtain ⟨a0, a1, a2, a3, a4⟩ := hagree c
    obtain ⟨h0, h1, h2, h3, hr⟩ := h c
    have eX : ∀ i, (m' ((c : Thread Cert.Reference6Ideal.nD Cert.Reference6Ideal.τ).loc Cert.Reference6Ideal.main_arg1) : S4x900x1024.Idx → EReal) i = mine m c i := congrFun a1
    have eY : ∀ i, (m' ((c : Thread Cert.Reference6Ideal.nD Cert.Reference6Ideal.τ).loc Cert.Reference6Ideal.main_arg2) : S4x900x1024.Idx → EReal) i = theirs m c i := congrFun a2
    have eW : ∀ a b, (m' ((c : Thread Cert.Reference6Ideal.nD Cert.Reference6Ideal.τ).loc Cert.Reference6Ideal.main_arg0) : S1x1024x900.Idx → EReal) (ix3 (0 : Fin 1) b a) = w m c a b := fun a b => congrFun a0 _
    have eM : ∀ a b, (m' ((c : Thread Cert.Reference6Ideal.nD Cert.Reference6Ideal.τ).loc Cert.Reference6Ideal.main_arg3) : S1x1024x900.Idx → EReal) (ix3 (0 : Fin 1) b a) = mo m c a b := fun a b => congrFun a3 _
    have eV : ∀ a b, (m' ((c : Thread Cert.Reference6Ideal.nD Cert.Reference6Ideal.τ).loc Cert.Reference6Ideal.main_arg4) : S1x1024x900.Idx → EReal) (ix3 (0 : Fin 1) b a) = ve m c a b := fun a b => congrFun a4 _
    have eG : ∀ a b, val_main_v2 (F := Ideal) (m' ((c : Thread Cert.Reference6Ideal.nD Cert.Reference6Ideal.τ).loc Cert.Reference6Ideal.main_arg1)) (m' ((c : Thread Cert.Reference6Ideal.nD Cert.Reference6Ideal.τ).loc Cert.Reference6Ideal.main_arg2)) (ix2 a b) = Cert.AdamIn.g m c a b := fun a b =>
      (reference_grad _ _ a b).trans (congrArg₂ total (funext fun k => eX _) (funext fun k => eY _))
    refine ⟨h0.trans ((val_main_v2_eq (F := Ideal) _ _).trans (funext fun i => ?_)), h1.trans ((val_main_v32_eq (F := Ideal) _ _ _ _ _).trans (funext fun i => ?_)),
      h2.trans ((val_main_v13_eq (F := Ideal) _ _ _).trans (funext fun i => ?_)), h3.trans ((val_main_v19_eq (F := Ideal) _ _ _).trans (funext fun i => ?_)), hr⟩
    · obtain ⟨a, b, rfl⟩ : ∃ (a : Fin 900) (b : Fin 1024), i = ix2 a b := ⟨i 0, i 1, eq_ix2 i⟩
      exact eG a b
    · obtain ⟨a, b, rfl⟩ : ∃ (a : Fin 900) (b : Fin 1024), i = ix2 a b := ⟨i 0, i 1, eq_ix2 i⟩
      rw [reference_d, eG, eW, eM, eV]
      rfl
    · obtain ⟨a, b, rfl⟩ : ∃ (a : Fin 900) (b : Fin 1024), i = ix2 a b := ⟨i 0, i 1, eq_ix2 i⟩
      rw [reference_m, eG, eM]
      rfl
    · obtain ⟨a, b, rfl⟩ : ∃ (a : Fin 900) (b : Fin 1024), i = ix2 a b := ⟨i 0, i 1, eq_ix2 i⟩
      rw [reference_v, eG, eV]
      rfl

end Cert.AdamIn

end
-- ==== Proof.AdamAda.lean ====
/- What the optimiser call of the modulation matrix leaves: at each entry the gradient, a sum of products over the devices' conditions, and the AdamW step on it. -/
module

public import proofs.«01_k».proof.Proof.Gen.Kernel7Ideal.Frame
public import Idealize.ShloMosaic.Lib.Pipeline.Value
public import proofs.«01_k».proof.Proof.Adamw
public import Idealize.ShloMosaic.Lib.Pipeline.ValueKit
public import Idealize.ShloMosaic.Lib.Pipeline.ReadBack

@[expose] public section

set_option maxRecDepth 16384

noncomputable section

namespace Cert.AdamAda

open Cert.Kernel7Ideal Cert.Kernel7Ideal.Gen Cert.Adamw Idealize.ShloMosaic Idealize.ShloMosaic.TcCoe Idealize.ShloMosaic.Tactic Idealize.SL.Sem

/-! ## One point -/

theorem single (w : S1024x512.Idx → EReal) : View.canon (Val := Elt Ideal) (e := .f32) [⟨r0_2, w⟩] = w :=
  View.canon_cons_unit_lit _ _ _ (by decide)

theorem whole (x : S1024x512.Idx → EReal) : View.ld (Val := Elt Ideal) (e' := .f32) x r0_2 = x :=
  View.ld_unit_lit _ _ (by decide)

theorem wholeC (x : S1024x8.Idx → EReal) : View.ld (Val := Elt Ideal) (e' := .f32) x r0_0 = x :=
  View.ld_unit_lit _ _ (by decide)

theorem wholeD (x : S8x512.Idx → EReal) : View.ld (Val := Elt Ideal) (e' := .f32) x r0_1 = x :=
  View.ld_unit_lit _ _ (by decide)

/-- One column, spread over all columns. -/
theorem colB (x : S1024x8.Idx → EReal) (o : ℕ) (k : Fin 8) (hk : k.val = o) (h : S1024x8.Slices ![0, o] S1024x1) (a : Fin 1024) (b : Fin 512) :
    broadcastTo S1024x512 (extractStridedSlice S1024x1 ![0, o] x h) broadcasts_S1024x1_S1024x512 (ix2 a b) = x (ix2 a k) := by
  refine (broadcastTo_apply _ _ (ix2 a b) (ix2 a (0 : Fin 1)) fun d => ?_).trans ?_
  · match d with
    | ⟨0, _⟩ => rfl
    | ⟨1, _⟩ => rfl
  · refine extractStridedSlice_apply _ _ _ _ (ix2 a k) fun d => ?_
    match d with
    | ⟨0, _⟩ => show a.val = 0 + a.val; omega
    | ⟨1, _⟩ => show k.val = o + 0; omega

/-- One row, spread over all rows. -/
theorem rowB (x : S8x512.Idx → EReal) (o : ℕ) (k : Fin 8) (hk : k.val = o) (h : S8x512.Slices ![o, 0] S1x512) (a : Fin 1024) (b : Fin 512) :
    broadcastTo S1024x512 (extractStridedSlice S1x512 ![o, 0] x h) broadcasts_S1x512_S1024x512 (ix2 a b) = x (ix2 k b) := by
  refine (broadcastTo_apply _ _ (ix2 a b) (ix2 (0 : Fin 1) b) fun d => ?_).trans ?_
  · match d with
    | ⟨0, _⟩ => rfl
    | ⟨1, _⟩ => rfl
  · refine extractStridedSlice_apply _ _ _ _ (ix2 k b) fun d => ?_
    match d with
    | ⟨0, _⟩ => show k.val = o + 0; omega
    | ⟨1, _⟩ => show b.val = 0 + b.val; omega

theorem payC (x0 : Vec Ideal S1024x8 .f32) (i : S1024x8.Idx) : k0_pay1 (F := Ideal) x0 i = silu (x0 i) := by
  unfold k0_pay1
  rw [shapeCast_self]
  rfl

theorem grad (x0 : Vec Ideal S1024x8 .f32) (x1 : Vec Ideal S8x512 .f32) (a : Fin 1024) (b : Fin 512) :
    k0_pay3 (F := Ideal) (k0_pay1 x0) x1 (k0_pay2 x0 x1) (ix2 a b) = prods (fun k => silu (x0 (ix2 a k))) (fun k => x1 (ix2 k b)) := by
  unfold k0_pay3 k0_pay2
  show broadcastTo S1024x512 (extractStridedSlice S1024x1 ![0, 0] (k0_pay1 (F := Ideal) x0) slices_S1024x8_o0_0_S1024x1) broadcasts_S1024x1_S1024x512 (ix2 a b) * broadcastTo S1024x512 (extractStridedSlice S1x512 ![0, 0] x1 slices_S8x512_o0_0_S1x512) broadcasts_S1x512_S1024x512 (ix2 a b)
      + broadcastTo S1024x512 (extractStridedSlice S1024x1 ![0, 1] (k0_pay1 (F := Ideal) x0) slices_S1024x8_o0_1_S1024x1) broadcasts_S1024x1_S1024x512 (ix2 a b) * broadcastTo S1024x512 (extractStridedSlice S1x512 ![1, 0] x1 slices_S8x512_o1_0_S1x512) broadcasts_S1x512_S1024x512 (ix2 a b)
      + broadcastTo S1024x512 (extractStridedSlice S1024x1 ![0, 2] (k0_pay1 (F := Ideal) x0) slices_S1024x8_o0_2_S1024x1) broadcasts_S1024x1_S1024x512 (ix2 a b) * broadcastTo S1024x512 (extractStridedSlice S1x512 ![2, 0] x1 slices_S8x512_o2_0_S1x512) broadcasts_S1x512_S1024x512 (ix2 a b)
      + broadcastTo S1024x512 (extractStridedSlice S1024x1 ![0, 3] (k0_pay1 (F := Ideal) x0) slices_S1024x8_o0_3_S1024x1) broadcasts_S1024x1_S1024x512 (ix2 a b) * broadcastTo S1024x512 (extractStridedSlice S1x512 ![3, 0] x1 slices_S8x512_o3_0_S1x512) broadcasts_S1x512_S1024x512 (ix2 a b)
      + broadcastTo S1024x512 (extractStridedSlice S1024x1 ![0, 4] (k0_pay1 (F := Ideal) x0) slices_S1024x8_o0_4_S1024x1) broadcasts_S1024x1_S1024x512 (ix2 a b) * broadcastTo S1024x512 (extractStridedSlice S1x512 ![4, 0] x1 slices_S8x512_o4_0_S1x512) broadcasts_S1x512_S1024x512 (ix2 a b)
      + broadcastTo S1024x512 (extractStridedSlice S1024x1 ![0, 5] (k0_pay1 (F := Ideal) x0) slices_S1024x8_o0_5_S1024x1) broadcasts_S1024x1_S1024x512 (ix2 a b) * broadcastTo S1024x512 (extractStridedSlice S1x512 ![5, 0] x1 slices_S8x512_o5_0_S1x512) broadcasts_S1x512_S1024x512 (ix2 a b)
      + broadcastTo S1024x512 (extractStridedSlice S1024x1 ![0, 6] (k0_pay1 (F := Ideal) x0) slices_S1024x8_o0_6_S1024x1) broadcasts_S1024x1_S1024x512 (ix2 a b) * broadcastTo S1024x512 (extractStridedSlice S1x512 ![6, 0] x1 slices_S8x512_o6_0_S1x512) broadcasts_S1x512_S1024x512 (ix2 a b)
      + broadcastTo S1024x512 (extractStridedSlice S1024x1 ![0, 7] (k0_pay1 (F := Ideal) x0) slices_S1024x8_o0_7_S1024x1) broadcasts_S1024x1_S1024x512 (ix2 a b) * broadcastTo S1024x512 (extractStridedSlice S1x512 ![7, 0] x1 slices_S8x512_o7_0_S1x512) broadcasts_S1x512_S1024x512 (ix2 a b) = _
  rw [colB _ 0 0 rfl, rowB _ 0 0 rfl, colB _ 1 1 rfl, rowB _ 1 1 rfl, colB _ 2 2 rfl, rowB _ 2 2 rfl, colB _ 3 3 rfl, rowB _ 3 3 rfl, colB _ 4 4 rfl, rowB _ 4 4 rfl, colB _ 5 5 rfl, rowB _ 5 5 rfl, colB _ 6 6 rfl, rowB _ 6 6 rfl, colB _ 7 7 rfl, rowB _ 7 7 rfl]
  simp only [payC]
  rfl

theorem pay1 (u : Vec Ideal S1024x8 .f32) (x1 : Vec Ideal S8x512 .f32) (z x3 : Vec Ideal S1024x512 .f32) (i : S1024x512.Idx) :
    k0_pay4 (F := Ideal) u x1 z x3 i = newM (k0_pay3 (F := Ideal) u x1 z i) (x3 i) := by
  unfold k0_pay4
  rw [shapeCast_self]
  rfl

theorem pay2 (u : Vec Ideal S1024x8 .f32) (x1 : Vec Ideal S8x512 .f32) (z x4 : Vec Ideal S1024x512 .f32) (i : S1024x512.Idx) :
    k0_pay5 (F := Ideal) u x1 z x4 i = newV (k0_pay3 (F := Ideal) u x1 z i) (x4 i) := by
  unfold k0_pay5
  rw [shapeCast_self]
  rfl

theorem pay3 (u : Vec Ideal S1024x8 .f32) (x1 : Vec Ideal S8x512 .f32) (z x2 x3 x4 : Vec Ideal S1024x512 .f32) (i : S1024x512.Idx) :
    k0_pay6 (F := Ideal) u x1 z x2 x3 x4 i = delta (x2 i) (k0_pay3 (F := Ideal) u x1 z i) (x3 i) (x4 i) := by
  show _ = FloatOps.mulf (F := Ideal) (φ := .f32) _ (FloatOps.addf (FloatOps.divf (FloatOps.divf (newM (k0_pay3 (F := Ideal) u x1 z i) (x3 i)) _) (FloatOps.addf (FloatOps.sqrt (FloatOps.divf (newV (k0_pay3 (F := Ideal) u x1 z i) (x4 i)) _)) _)) _)
  rw [← pay1 u x1 z x3 i, ← pay2 u x1 z x4 i]
  unfold k0_pay6
  rw [shapeCast_self]
  rfl

/-! ## The arrays -/

variable (m : (ℓ : Loc nD τ sig) → Buf (Elt Ideal) ℓ) (c : Dev nD)

/-- The conditions, one row for each device, the gradient at the modulation, the weights and the two moments. -/
def cond : S8x1024.Idx → EReal := m ((c : Thread nD τ).loc main_arg0)

def dmod : S8x1536.Idx → EReal := m ((c : Thread nD τ).loc main_arg1)

def w (a : Fin 1024) (b : Fin 1536) : EReal := (m ((c : Thread nD τ).loc main_arg2) : S1x1024x1536.Idx → EReal) (ix3 (0 : Fin 1) a b)

def mo (a : Fin 1024) (b : Fin 1536) : EReal := (m ((c : Thread nD τ).loc main_arg3) : S1x1024x1536.Idx → EReal) (ix3 (0 : Fin 1) a b)

def ve (a : Fin 1024) (b : Fin 1536) : EReal := (m ((c : Thread nD τ).loc main_arg4) : S1x1024x1536.Idx → EReal) (ix3 (0 : Fin 1) a b)

def g (a : Fin 1024) (b : Fin 1536) : EReal := prods (fun k => silu (cond m c (ix2 k a))) (fun k => dmod m c (ix2 k b))

/-- The four results: the gradient, the change of the weights, the new moments. -/
def out0 : S1024x1536.Idx → EReal := fun i => g m c (i 0) (i 1)

def out1 : S1024x1536.Idx → EReal := fun i => delta (w m c (i 0) (i 1)) (g m c (i 0) (i 1)) (mo m c (i 0) (i 1)) (ve m c (i 0) (i 1))

def out2 : S1024x1536.Idx → EReal := fun i => newM (g m c (i 0) (i 1)) (mo m c (i 0) (i 1))

def out3 : S1024x1536.Idx → EReal := fun i => newV (g m c (i 0) (i 1)) (ve m c (i 0) (i 1))

theorem V_c (a : Fin 1024) (k : Fin 8) : V m c main_v0 (ix2 a k) = cond m c (ix2 k a) := by
  have e : V m c main_v0 = transpose S1024x8 [1, 0] (m ((c : Thread nD τ).loc main_arg0) : S8x1024.Idx → EReal) transposes_S8x1024_S1024x8_1_0 := by
    show StableHlo.after hostOps0 (fun b => m (c, b)) (Proc.devRef .tc main_v0) = _
    after_results
  rw [e]
  refine transpose_apply _ _ _ _ (ix2 k a) fun d => ?_
  match d with
  | ⟨0, _⟩ => rfl
  | ⟨1, _⟩ => rfl

theorem V_w (a : Fin 1024) (b : Fin 1536) : V m c main_v1 (ix2 a b) = w m c a b := by
  have e : V m c main_v1 = shapeCast S1024x1536 (m ((c : Thread nD τ).loc main_arg2)) shapeCasts_S1x1024x1536_S1024x1536 := by
    show StableHlo.after hostOps0 (fun b => m (c, b)) (Proc.devRef .tc main_v1) = _
    after_results
    rfl
  rw [e]
  refine shapeCast_apply _ _ (ix2 a b) (ix3 (0 : Fin 1) a b) ?_
  rw [Shape.rowMajor_val_three, Shape.rowMajor_val_two]
  show (0 * 1024 + a.val) * 1536 + b.val = a.val * 1536 + b.val
  omega

theorem V_mo (a : Fin 1024) (b : Fin 1536) : V m c main_v2 (ix2 a b) = mo m c a b := by
  have e : V m c main_v2 = shapeCast S1024x1536 (m ((c : Thread nD τ).loc main_arg3)) shapeCasts_S1x1024x1536_S1024x1536 := by
    show StableHlo.after hostOps0 (fun b => m (c, b)) (Proc.devRef .tc main_v2) = _
    after_results
    rfl
  rw [e]
  refine shapeCast_apply _ _ (ix2 a b) (ix3 (0 : Fin 1) a b) ?_
  rw [Shape.rowMajor_val_three, Shape.rowMajor_val_two]
  show (0 * 1024 + a.val) * 1536 + b.val = a.val * 1536 + b.val
  omega

theorem V_ve (a : Fin 1024) (b : Fin 1536) : V m c main_v3 (ix2 a b) = ve m c a b := by
  have e : V m c main_v3 = shapeCast S1024x1536 (m ((c : Thread nD τ).loc main_arg4)) shapeCasts_S1x1024x1536_S1024x1536 := by
    show StableHlo.after hostOps0 (fun b => m (c, b)) (Proc.devRef .tc main_v3) = _
    after_results
    rfl
  rw [e]
  refine shapeCast_apply _ _ (ix2 a b) (ix3 (0 : Fin 1) a b) ?_
  rw [Shape.rowMajor_val_three, Shape.rowMajor_val_two]
  show (0 * 1024 + a.val) * 1536 + b.val = a.val * 1536 + b.val
  omega

/-! ## The blocks of a point -/

theorem pt_lt (t : Fin cfg0.N) : t.val < 3 := lt_of_lt_of_eq t.isLt N_0

/-- Column `b` of point `t`'s tile in the whole matrix. -/
def col (t : ℕ) (b : Fin 512) : Fin 1536 := ⟨(512 * t + b.val) % 1536, Nat.mod_lt _ (by decide)⟩

theorem col_val {t : ℕ} (h : t < 3) (b : Fin 512) : (col t b).val = 512 * t + b.val := Nat.mod_eq_of_lt (by omega)

theorem idx0 : ∀ t : Fin cfg0.N, win0_0.index t (0 : Fin 2) = 0 ∧ win0_0.index t (1 : Fin 2) = 0 :=
  (by decide +kernel : ∀ t : Fin grid0.N, _)

theorem emb0 (t : Fin cfg0.N) (a : Fin 1024) (k : Fin 8) : ((cfg0.win 0).blk t).view.emb (ix2 a k) = (ix2 a k : S1024x8.Idx) := by
  obtain ⟨e0, e1⟩ := idx0 t
  funext d; apply Fin.ext
  match d with
  | ⟨0, _⟩ => show win0_0.index t (0 : Fin 2) * 1024 + 1 * a.val = a.val; omega
  | ⟨1, _⟩ => show win0_0.index t (1 : Fin 2) * 8 + 1 * k.val = k.val; omega

theorem idx1 : ∀ t : Fin cfg0.N, win0_1.index t (0 : Fin 2) = 0 ∧ win0_1.index t (1 : Fin 2) = t.val :=
  (by decide +kernel : ∀ t : Fin grid0.N, _)

theorem emb1 (t : Fin cfg0.N) (a : Fin 8) (b : Fin 512) : ((cfg0.win 1).blk t).view.emb (ix2 a b) = (ix2 a (col t.val b) : S8x1536.Idx) := by
  obtain ⟨e0, e1⟩ := idx1 t
  have h := pt_lt t
  funext d; apply Fin.ext
  match d with
  | ⟨0, _⟩ => show win0_1.index t (0 : Fin 2) * 8 + 1 * a.val = a.val; omega
  | ⟨1, _⟩ =>
    show win0_1.index t (1 : Fin 2) * 512 + 1 * b.val = (col t.val b).val
    rw [col_val h]; omega

theorem idx2 : ∀ t : Fin cfg0.N, win0_2.index t (0 : Fin 2) = 0 ∧ win0_2.index t (1 : Fin 2) = t.val :=
  (by decide +kernel : ∀ t : Fin grid0.N, _)

theorem emb2 (t : Fin cfg0.N) (a : Fin 1024) (b : Fin 512) : ((cfg0.win 2).blk t).view.emb (ix2 a b) = (ix2 a (col t.val b) : S1024x1536.Idx) := by
  obtain ⟨e0, e1⟩ := idx2 t
  have h := pt_lt t
  funext d; apply Fin.ext
  match d with
  | ⟨0, _⟩ => show win0_2.index t (0 : Fin 2) * 1024 + 1 * a.val = a.val; omega
  | ⟨1, _⟩ =>
    show win0_2.index t (1 : Fin 2) * 512 + 1 * b.val = (col t.val b).val
    rw [col_val h]; omega

theorem idx3 : ∀ t : Fin cfg0.N, win0_3.index t (0 : Fin 2) = 0 ∧ win0_3.index t (1 : Fin 2) = t.val :=
  (by decide +kernel : ∀ t : Fin grid0.N, _)

theorem emb3 (t : Fin cfg0.N) (a : Fin 1024) (b : Fin 512) : ((cfg0.win 3).blk t).view.emb (ix2 a b) = (ix2 a (col t.val b) : S1024x1536.Idx) := by
  obtain ⟨e0, e1⟩ := idx3 t
  have h := pt_lt t
  funext d; apply Fin.ext
  match d with
  | ⟨0, _⟩ => show win0_3.index t (0 : Fin 2) * 1024 + 1 * a.val = a.val; omega
  | ⟨1, _⟩ =>
    show win0_3.index t (1 : Fin 2) * 512 + 1 * b.val = (col t.val b).val
    rw [col_val h]; omega

theorem idx4 : ∀ t : Fin cfg0.N, win0_4.index t (0 : Fin 2) = 0 ∧ win0_4.index t (1 : Fin 2) = t.val :=
  (by decide +kernel : ∀ t : Fin grid0.N, _)

theorem emb4 (t : Fin cfg0.N) (a : Fin 1024) (b : Fin 512) : ((cfg0.win 4).blk t).view.emb (ix2 a b) = (ix2 a (col t.val b) : S1024x1536.Idx) := by
  obtain ⟨e0, e1⟩ := idx4 t
  have h := pt_lt t
  funext d; apply Fin.ext
  match d with
  | ⟨0, _⟩ => show win0_4.index t (0 : Fin 2) * 1024 + 1 * a.val = a.val; omega
  | ⟨1, _⟩ =>
    show win0_4.index t (1 : Fin 2) * 512 + 1 * b.val = (col t.val b).val
    rw [col_val h]; omega

theorem idx5 : ∀ t : Fin cfg0.N, win0_5.index t (0 : Fin 2) = 0 ∧ win0_5.index t (1 : Fin 2) = t.val :=
  (by decide +kernel : ∀ t : Fin grid0.N, _)

theorem emb5 (t : Fin cfg0.N) (a : Fin 1024) (b : Fin 512) : ((cfg0.win 5).blk t).view.emb (ix2 a b) = (ix2 a (col t.val b) : S1024x1536.Idx) := by
  obtain ⟨e0, e1⟩ := idx5 t
  have h := pt_lt t
  funext d; apply Fin.ext
  match d with
  | ⟨0, _⟩ => show win0_5.index t (0 : Fin 2) * 1024 + 1 * a.val = a.val; omega
  | ⟨1, _⟩ =>
    show win0_5.index t (1 : Fin 2) * 512 + 1 * b.val = (col t.val b).val
    rw [col_val h]; omega

theorem idx6 : ∀ t : Fin cfg0.N, win0_6.index t (0 : Fin 2) = 0 ∧ win0_6.index t (1 : Fin 2) = t.val :=
  (by decide +kernel : ∀ t : Fin grid0.N, _)

theorem emb6 (t : Fin cfg0.N) (a : Fin 1024) (b : Fin 512) : ((cfg0.win 6).blk t).view.emb (ix2 a b) = (ix2 a (col t.val b) : S1024x1536.Idx) := by
  obtain ⟨e0, e1⟩ := idx6 t
  have h := pt_lt t
  funext d; apply Fin.ext
  match d with
  | ⟨0, _⟩ => show win0_6.index t (0 : Fin 2) * 1024 + 1 * a.val = a.val; omega
  | ⟨1, _⟩ =>
    show win0_6.index t (1 : Fin 2) * 512 + 1 * b.val = (col t.val b).val
    rw [col_val h]; omega

theorem idx7 : ∀ t : Fin cfg0.N, win0_7.index t (0 : Fin 2) = 0 ∧ win0_7.index t (1 : Fin 2) = t.val :=
  (by decide +kernel : ∀ t : Fin grid0.N, _)

theorem emb7 (t : Fin cfg0.N) (a : Fin 1024) (b : Fin 512) : ((cfg0.win 7).blk t).view.emb (ix2 a b) = (ix2 a (col t.val b) : S1024x1536.Idx) := by
  obtain ⟨e0, e1⟩ := idx7 t
  have h := pt_lt t
  funext d; apply Fin.ext
  match d with
  | ⟨0, _⟩ => show win0_7.index t (0 : Fin 2) * 1024 + 1 * a.val = a.val; omega
  | ⟨1, _⟩ =>
    show win0_7.index t (1 : Fin 2) * 512 + 1 * b.val = (col t.val b).val
    rw [col_val h]; omega

theorem idx8 : ∀ t : Fin cfg0.N, win0_8.index t (0 : Fin 2) = 0 ∧ win0_8.index t (1 : Fin 2) = t.val :=
  (by decide +kernel : ∀ t : Fin grid0.N, _)

theorem emb8 (t : Fin cfg0.N) (a : Fin 1024) (b : Fin 512) : ((cfg0.win 8).blk t).view.emb (ix2 a b) = (ix2 a (col t.val b) : S1024x1536.Idx) := by
  obtain ⟨e0, e1⟩ := idx8 t
  have h := pt_lt t
  funext d; apply Fin.ext
  match d with
  | ⟨0, _⟩ => show win0_8.index t (0 : Fin 2) * 1024 + 1 * a.val = a.val; omega
  | ⟨1, _⟩ =>
    show win0_8.index t (1 : Fin 2) * 512 + 1 * b.val = (col t.val b).val
    rw [col_val h]; omega

theorem blkC (t : Fin cfg0.N) (a : Fin 1024) (k : Fin 8) : iblk m c 0 t (ix2 a k) = cond m c (ix2 k a) := by
  show V m c main_v0 (((cfg0.win 0).blk t).view.emb (ix2 a k)) = _
  rw [emb0, V_c]

theorem blkD (t : Fin cfg0.N) (k : Fin 8) (b : Fin 512) : iblk m c 1 t (ix2 k b) = dmod m c (ix2 k (col t.val b)) := by
  show V m c main_arg1 (((cfg0.win 1).blk t).view.emb (ix2 k b)) = _
  rw [emb1, V_main_arg1]
  rfl

theorem blkW (t : Fin cfg0.N) (a : Fin 1024) (b : Fin 512) : iblk m c 2 t (ix2 a b) = w m c a (col t.val b) := by
  show V m c main_v1 (((cfg0.win 2).blk t).view.emb (ix2 a b)) = _
  rw [emb2, V_w]

theorem blkM (t : Fin cfg0.N) (a : Fin 1024) (b : Fin 512) : iblk m c 3 t (ix2 a b) = mo m c a (col t.val b) := by
  show V m c main_v2 (((cfg0.win 3).blk t).view.emb (ix2 a b)) = _
  rw [emb3, V_mo]

theorem blkV (t : Fin cfg0.N) (a : Fin 1024) (b : Fin 512) : iblk m c 4 t (ix2 a b) = ve m c a (col t.val b) := by
  show V m c main_v3 (((cfg0.win 4).blk t).view.emb (ix2 a b)) = _
  rw [emb4, V_ve]

theorem blkG (t : Fin cfg0.N) (a : Fin 1024) (b : Fin 512) :
    k0_pay3 (F := Ideal) (k0_pay1 (iblk m c 0 t)) (iblk m c 1 t) (k0_pay2 (iblk m c 0 t) (iblk m c 1 t)) (ix2 a b) = g m c a (col t.val b) := by
  refine (grad _ _ a b).trans ?_
  show prods _ _ = prods _ _
  exact congrArg₂ prods (funext fun k => congrArg silu (blkC m c t a k)) (funext fun k => blkD m c t k b)

/-! ## What the points write -/

theorem val5 (t : Fin cfg0.N) (a : Fin 1024) (b : Fin 512) :
    out0_5 (F := Ideal) (iblk m c 0 t) (iblk m c 1 t) (iblk m c 2 t) (iblk m c 3 t) (iblk m c 4 t) (ix2 a b) = out0 m c (ix2 a (col t.val b)) := by
  unfold out0_5 k0_pay7 k0_pay8
  rw [single, wholeC, wholeD, blkG]
  rfl

theorem val6 (t : Fin cfg0.N) (a : Fin 1024) (b : Fin 512) :
    out0_6 (F := Ideal) (iblk m c 0 t) (iblk m c 1 t) (iblk m c 2 t) (iblk m c 3 t) (iblk m c 4 t) (ix2 a b) = out1 m c (ix2 a (col t.val b)) := by
  unfold out0_6 k0_pay7 k0_pay8
  rw [single, wholeC, wholeD, whole, whole, whole, pay3, blkG, blkW, blkM, blkV]
  rfl

theorem val7 (t : Fin cfg0.N) (a : Fin 1024) (b : Fin 512) :
    out0_7 (F := Ideal) (iblk m c 0 t) (iblk m c 1 t) (iblk m c 2 t) (iblk m c 3 t) (iblk m c 4 t) (ix2 a b) = out2 m c (ix2 a (col t.val b)) := by
  unfold out0_7 k0_pay7 k0_pay8
  rw [single, wholeC, wholeD, whole, pay1, blkG, blkM]
  rfl

theorem val8 (t : Fin cfg0.N) (a : Fin 1024) (b : Fin 512) :
    out0_8 (F := Ideal) (iblk m c 0 t) (iblk m c 1 t) (iblk m c 2 t) (iblk m c 3 t) (iblk m c 4 t) (ix2 a b) = out3 m c (ix2 a (col t.val b)) := by
  unfold out0_8 k0_pay7 k0_pay8
  rw [single, wholeC, wholeD, whole, pay2, blkG, blkV]
  rfl

/-- What a point writes back to window 5's array is the body's result for it. -/
theorem wrote5 (t : Fin cfg0.N) :
    (dats m 0 c).flushed 5 t = (cfg0.win 5).cut (grid0.coords t) (out0_5 (F := Ideal) (iblk m c 0 t) (iblk m c 1 t) (iblk m c 2 t) (iblk m c 3 t) (iblk m c 4 t)) :=
  congrArg ((cfg0.win 5).cut (grid0.coords t)) (after0_5 m c t)

/-- What a point writes back to window 6's array is the body's result for it. -/
theorem wrote6 (t : Fin cfg0.N) :
    (dats m 0 c).flushed 6 t = (cfg0.win 6).cut (grid0.coords t) (out0_6 (F := Ideal) (iblk m c 0 t) (iblk m c 1 t) (iblk m c 2 t) (iblk m c 3 t) (iblk m c 4 t)) :=
  congrArg ((cfg0.win 6).cut (grid0.coords t)) (after0_6 m c t)

/-- What a point writes back to window 7's array is the body's result for it. -/
theorem wrote7 (t : Fin cfg0.N) :
    (dats m 0 c).flushed 7 t = (cfg0.win 7).cut (grid0.coords t) (out0_7 (F := Ideal) (iblk m c 0 t) (iblk m c 1 t) (iblk m c 2 t) (iblk m c 3 t) (iblk m c 4 t)) :=
  congrArg ((cfg0.win 7).cut (grid0.coords t)) (after0_7 m c t)

/-- What a point writes back to window 8's array is the body's result for it. -/
theorem wrote8 (t : Fin cfg0.N) :
    (dats m 0 c).flushed 8 t = (cfg0.win 8).cut (grid0.coords t) (out0_8 (F := Ideal) (iblk m c 0 t) (iblk m c 1 t) (iblk m c 2 t) (iblk m c 3 t) (iblk m c 4 t)) :=
  congrArg ((cfg0.win 8).cut (grid0.coords t)) (after0_8 m c t)

theorem col_split (r : Fin 1536) : ∃ (t : Fin cfg0.N) (b : Fin 512), r = col t.val b :=
  ⟨⟨r.val / 512, show r.val / 512 < 3 by omega⟩, ⟨r.val % 512, Nat.mod_lt _ (by decide)⟩,
    Fin.ext ((col_val (show r.val / 512 < 3 by omega) _).trans (Nat.div_add_mod _ _)).symm⟩

theorem cut5 (t : Fin cfg0.N) : (cfg0.win 5).cut (grid0.coords t) (out0_5 (F := Ideal) (iblk m c 0 t) (iblk m c 1 t) (iblk m c 2 t) (iblk m c 3 t) (iblk m c 4 t))
    = ((cfg0.win 5).blk t).view.read (Elt Ideal) (out0 m c) := by
  funext j
  obtain ⟨a, b, rfl⟩ : ∃ (a : Fin 1024) (b : Fin 512), j = ix2 a b := ⟨j 0, j 1, eq_ix2 j⟩
  refine (val5 m c t a b).trans ?_
  show _ = out0 m c (((cfg0.win 5).blk t).view.emb (ix2 a b))
  rw [emb5]

theorem cov5 (i : S1024x1536.Idx) : ∃ t : Fin cfg0.N, (cfg0.win 5).flush t = true ∧ i ∈ ((cfg0.win 5).blk t).view.set := by
  obtain ⟨a, r, rfl⟩ : ∃ (a : Fin 1024) (r : Fin 1536), i = ix2 a r := ⟨i 0, i 1, eq_ix2 i⟩
  obtain ⟨t, b, rfl⟩ := col_split r
  have h := ((cfg0.win 5).blk t).view.emb_mem_set (ix2 a b)
  rw [emb5 t a b] at h
  exact ⟨t, flush0_5 t, h⟩

theorem fin5 : (dats m 0 c).arrAt 5 cfg0.N = out0 m c :=
  (dats m 0 c).arrAt_eq_of_cover 5 _ (fun t _ => (wrote5 m c t).trans (cut5 m c t)) cov5

theorem cut6 (t : Fin cfg0.N) : (cfg0.win 6).cut (grid0.coords t) (out0_6 (F := Ideal) (iblk m c 0 t) (iblk m c 1 t) (iblk m c 2 t) (iblk m c 3 t) (iblk m c 4 t))
    = ((cfg0.win 6).blk t).view.read (Elt Ideal) (out1 m c) := by
  funext j
  obtain ⟨a, b, rfl⟩ : ∃ (a : Fin 1024) (b : Fin 512), j = ix2 a b := ⟨j 0, j 1, eq_ix2 j⟩
  refine (val6 m c t a b).trans ?_
  show _ = out1 m c (((cfg0.win 6).blk t).view.emb (ix2 a b))
  rw [emb6]

theorem cov6 (i : S1024x1536.Idx) : ∃ t : Fin cfg0.N, (cfg0.win 6).flush t = true ∧ i ∈ ((cfg0.win 6).blk t).view.set := by
  obtain ⟨a, r, rfl⟩ : ∃ (a : Fin 1024) (r : Fin 1536), i = ix2 a r := ⟨i 0, i 1, eq_ix2 i⟩
  obtain ⟨t, b, rfl⟩ := col_split r
  have h := ((cfg0.win 6).blk t).view.emb_mem_set (ix2 a b)
  rw [emb6 t a b] at h
  exact ⟨t, flush0_6 t, h⟩

theorem fin6 : (dats m 0 c).arrAt 6 cfg0.N = out1 m c :=
  (dats m 0 c).arrAt_eq_of_cover 6 _ (fun t _ => (wrote6 m c t).trans (cut6 m c t)) cov6

theorem cut7 (t : Fin cfg0.N) : (cfg0.win 7).cut (grid0.coords t) (out0_7 (F := Ideal) (iblk m c 0 t) (iblk m c 1 t) (iblk m c 2 t) (iblk m c 3 t) (iblk m c 4 t))
    = ((cfg0.win 7).blk t).view.read (Elt Ideal) (out2 m c) := by
  funext j
  obtain ⟨a, b, rfl⟩ : ∃ (a : Fin 1024) (b : Fin 512), j = ix2 a b := ⟨j 0, j 1, eq_ix2 j⟩
  refine (val7 m c t a b).trans ?_
  show _ = out2 m c (((cfg0.win 7).blk t).view.emb (ix2 a b))
  rw [emb7]

theorem cov7 (i : S1024x1536.Idx) : ∃ t : Fin cfg0.N, (cfg0.win 7).flush t = true ∧ i ∈ ((cfg0.win 7).blk t).view.set := by
  obtain ⟨a, r, rfl⟩ : ∃ (a : Fin 1024) (r : Fin 1536), i = ix2 a r := ⟨i 0, i 1, eq_ix2 i⟩
  obtain ⟨t, b, rfl⟩ := col_split r
  have h := ((cfg0.win 7).blk t).view.emb_mem_set (ix2 a b)
  rw [emb7 t a b] at h
  exact ⟨t, flush0_7 t, h⟩

theorem fin7 : (dats m 0 c).arrAt 7 cfg0.N = out2 m c :=
  (dats m 0 c).arrAt_eq_of_cover 7 _ (fun t _ => (wrote7 m c t).trans (cut7 m c t)) cov7

theorem cut8 (t : Fin cfg0.N) : (cfg0.win 8).cut (grid0.coords t) (out0_8 (F := Ideal) (iblk m c 0 t) (iblk m c 1 t) (iblk m c 2 t) (iblk m c 3 t) (iblk m c 4 t))
    = ((cfg0.win 8).blk t).view.read (Elt Ideal) (out3 m c) := by
  funext j
  obtain ⟨a, b, rfl⟩ : ∃ (a : Fin 1024) (b : Fin 512), j = ix2 a b := ⟨j 0, j 1, eq_ix2 j⟩
  refine (val8 m c t a b).trans ?_
  show _ = out3 m c (((cfg0.win 8).blk t).view.emb (ix2 a b))
  rw [emb8]

theorem cov8 (i : S1024x1536.Idx) : ∃ t : Fin cfg0.N, (cfg0.win 8).flush t = true ∧ i ∈ ((cfg0.win 8).blk t).view.set := by
  obtain ⟨a, r, rfl⟩ : ∃ (a : Fin 1024) (r : Fin 1536), i = ix2 a r := ⟨i 0, i 1, eq_ix2 i⟩
  obtain ⟨t, b, rfl⟩ := col_split r
  have h := ((cfg0.win 8).blk t).view.emb_mem_set (ix2 a b)
  rw [emb8 t a b] at h
  exact ⟨t, flush0_8 t, h⟩

theorem fin8 : (dats m 0 c).arrAt 8 cfg0.N = out3 m c :=
  (dats m 0 c).arrAt_eq_of_cover 8 _ (fun t _ => (wrote8 m c t).trans (cut8 m c t)) cov8

/-- The call ends with the four matrices in its results and its arguments as they were. -/
theorem ends (ρ : Dev nD → PrngReg) : θ_run defs (onTc (τ := τ) (main (F := Ideal))) ⟨m, fun _ => 0, ρ⟩ fun r => ∀ c : Dev nD,
      r.2.mem ((c : Thread nD τ).loc main_v4_0) = out0 m c
      ∧ r.2.mem ((c : Thread nD τ).loc main_v4_1) = out1 m c
      ∧ r.2.mem ((c : Thread nD τ).loc main_v4_2) = out2 m c
      ∧ r.2.mem ((c : Thread nD τ).loc main_v4_3) = out3 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 5).trans (fin5 m c),
    ((h c).1 6).trans (fin6 m c),
    ((h c).1 7).trans (fin7 m c),
    ((h c).1 8).trans (fin8 m c),
    ((h c).2 main_arg0 (Pipeline.mem_restRefs_of main_arg0 (by decide) (by decide))).trans (V_main_arg0 m c),
    ((h c).1 1).trans (((dats m 0 c).arrAt_in 1 rfl _).trans ((A_eq m c 1).trans (V_main_arg1 m c))),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩)
    (run_main m ρ)

end Cert.AdamAda

end
-- ==== Proof.AdamAdaAlg.lean ====
/- The reference of the optimiser call of the modulation matrix differentiates the product to the sums of products and the steps the kernel computes, so the two end with the same four matrices. -/
module

public import proofs.«01_k».proof.Defs
public import proofs.«01_k».proof.Proof.Gen.Reference7Ideal
public import proofs.«01_k».proof.Proof.Gen.Reference7Ideal.Run
public import proofs.«01_k».proof.Proof.Gen.Reference7Ideal.Read
public import proofs.«01_k».proof.Proof.AdamAda
public import Idealize.ShloMosaic.Adequacy
public import Idealize.ShloMosaic.Init

@[expose] public section

set_option maxRecDepth 16384

noncomputable section

namespace Cert.AdamAda

open Idealize.ShloMosaic Idealize.ShloMosaic.TcCoe Idealize.SL.Sem Cert.Adamw
open Cert.Reference7Ideal Cert.Reference7Ideal.Gen Cert.Reference7Ideal.Read

/-! ## The gradient -/

theorem minus (x : EReal) : FloatOps.subf (F := Ideal) (φ := .f32) (Scalar.ofBits .f32 0x00000000#32) x = -x := by
  show (Scalar.ofBits (F := Ideal) .f32 0x00000000#32 : EReal) - x = -x
  rw [show (Scalar.ofBits (F := Ideal) .f32 0x00000000#32 : EReal) = 0 from Ideal.ofBits_zero_f32, sub_eq_add_neg, zero_add]

theorem reference_silu (C : S8x1024.Idx → EReal) (i : S8x1024.Idx) : val_main_v1 (F := Ideal) C i = silu (C i) := by
  unfold silu
  rw [minus]
  rfl

theorem reference_grad (C : S8x1024.Idx → EReal) (D : S8x1536.Idx → EReal) (a : Fin 1024) (b : Fin 1536) :
    val_main_v4 (F := Ideal) C D (ix2 a b) = prods (fun k => silu (C (ix2 k a))) (fun k => D (ix2 k b)) := by
  rw [val_main_v4_apply]
  refine (val_main_v3_apply C D _).trans ?_
  rw [Fin.sum_univ_eight]
  have h (k : Fin 8) : D (lidx_main_v3 (idx_main_v4 (ix2 a b)) k) * val_main_v1 (F := Ideal) C (ridx_main_v3 (idx_main_v4 (ix2 a b)) k) = silu (C (ix2 k a)) * D (ix2 k b) := by
    rw [reference_silu, mul_comm]
    refine congrArg₂ (fun x y => silu (C x) * D y) (funext fun d => ?_) (funext fun d => ?_)
    · match d with
      | ⟨0, _⟩ => rfl
      | ⟨1, _⟩ => rfl
    · match d with
      | ⟨0, _⟩ => rfl
      | ⟨1, _⟩ => rfl
  rw [h, h, h, h, h, h, h, h]
  rfl

/-! ## The steps -/

theorem reference_m (X : S8x1024.Idx → EReal) (Y : S8x1536.Idx → EReal) (M : S1x1024x1536.Idx → EReal) (a : Fin 1024) (b : Fin 1536) :
    val_main_v12 (F := Ideal) X Y M (ix2 a b) = newM (val_main_v4 (F := Ideal) X Y (ix2 a b)) (M (ix3 (0 : Fin 1) a b)) := by
  have h : val_main_v6 (F := Ideal) M (ix2 a b) = M (ix3 (0 : Fin 1) a b) := by
    rw [val_main_v6_apply]
    refine congrArg M (funext fun d => Fin.ext ?_)
    match d with
    | ⟨0, _⟩ => rfl
    | ⟨1, _⟩ => show (a.val * 1536 + b.val) / 1536 % 1024 = a.val; omega
    | ⟨2, _⟩ => show (a.val * 1536 + b.val) % 1536 = b.val; omega
  rw [← h]
  rfl

theorem reference_v (X : S8x1024.Idx → EReal) (Y : S8x1536.Idx → EReal) (V : S1x1024x1536.Idx → EReal) (a : Fin 1024) (b : Fin 1536) :
    val_main_v18 (F := Ideal) X Y V (ix2 a b) = newV (val_main_v4 (F := Ideal) X Y (ix2 a b)) (V (ix3 (0 : Fin 1) a b)) := by
  have h : val_main_v7 (F := Ideal) V (ix2 a b) = V (ix3 (0 : Fin 1) a b) := by
    rw [val_main_v7_apply]
    refine congrArg V (funext fun d => Fin.ext ?_)
    match d with
    | ⟨0, _⟩ => rfl
    | ⟨1, _⟩ => show (a.val * 1536 + b.val) / 1536 % 1024 = a.val; omega
    | ⟨2, _⟩ => show (a.val * 1536 + b.val) % 1536 = b.val; omega
  rw [← h]
  rfl

theorem reference_d (W : S1x1024x1536.Idx → EReal) (X : S8x1024.Idx → EReal) (Y : S8x1536.Idx → EReal) (M V : S1x1024x1536.Idx → EReal) (a : Fin 1024) (b : Fin 1536) :
    val_main_v31 (F := Ideal) X Y W M V (ix2 a b) = delta (W (ix3 (0 : Fin 1) a b)) (val_main_v4 (F := Ideal) X Y (ix2 a b)) (M (ix3 (0 : Fin 1) a b)) (V (ix3 (0 : Fin 1) a b)) := by
  have h : val_main_v5 (F := Ideal) W (ix2 a b) = W (ix3 (0 : Fin 1) a b) := by
    rw [val_main_v5_apply]
    refine congrArg W (funext fun d => Fin.ext ?_)
    match d with
    | ⟨0, _⟩ => rfl
    | ⟨1, _⟩ => show (a.val * 1536 + b.val) / 1536 % 1024 = a.val; omega
    | ⟨2, _⟩ => show (a.val * 1536 + b.val) % 1536 = b.val; omega
  unfold delta
  rw [← reference_m X Y M a b, ← reference_v X Y V a b, ← h]
  rfl

/-! ## The claims -/

theorem frame_reference : Cert.quiescent_Reference7Ideal := fun m ρ _ =>
  (θ_run Cert.Reference7Ideal.defs _ _).mono
    (fun r h => ⟨fun c => (h c).2.2.2.2, Idealize.ShloMosaic.sem_eq_zero_of_no_sems (by decide) r.2⟩)
    (Cert.Reference7Ideal.Value.run (F := Ideal) m ρ)

theorem algebraic : Cert.algebraic_Kernel7Ideal_Reference7Ideal := by
  intro m g m' g' hp hagree
  refine ⟨out0 m, out1 m, out2 m, out3 m, ?_, ?_⟩
  · exact Cert.AdamAda.ends m g
  · refine (θ_run Cert.Reference7Ideal.defs _ _).mono
      (fun r h c => ?_)
      (Cert.Reference7Ideal.Value.run (F := Ideal) m' g')
    obtain ⟨a0, a1, a2, a3, a4⟩ := hagree c
    obtain ⟨h0, h1, h2, h3, hr⟩ := h c
    have eX : ∀ i, (m' ((c : Thread Cert.Reference7Ideal.nD Cert.Reference7Ideal.τ).loc Cert.Reference7Ideal.main_arg0) : S8x1024.Idx → EReal) i = cond m c i := congrFun a0
    have eY : ∀ i, (m' ((c : Thread Cert.Reference7Ideal.nD Cert.Reference7Ideal.τ).loc Cert.Reference7Ideal.main_arg1) : S8x1536.Idx → EReal) i = dmod m c i := congrFun a1
    have eW : ∀ a b, (m' ((c : Thread Cert.Reference7Ideal.nD Cert.Reference7Ideal.τ).loc Cert.Reference7Ideal.main_arg2) : S1x1024x1536.Idx → EReal) (ix3 (0 : Fin 1) a b) = w m c a b := fun a b => congrFun a2 _
    have eM : ∀ a b, (m' ((c : Thread Cert.Reference7Ideal.nD Cert.Reference7Ideal.τ).loc Cert.Reference7Ideal.main_arg3) : S1x1024x1536.Idx → EReal) (ix3 (0 : Fin 1) a b) = mo m c a b := fun a b => congrFun a3 _
    have eV : ∀ a b, (m' ((c : Thread Cert.Reference7Ideal.nD Cert.Reference7Ideal.τ).loc Cert.Reference7Ideal.main_arg4) : S1x1024x1536.Idx → EReal) (ix3 (0 : Fin 1) a b) = ve m c a b := fun a b => congrFun a4 _
    have eG : ∀ a b, val_main_v4 (F := Ideal) (m' ((c : Thread Cert.Reference7Ideal.nD Cert.Reference7Ideal.τ).loc Cert.Reference7Ideal.main_arg0)) (m' ((c : Thread Cert.Reference7Ideal.nD Cert.Reference7Ideal.τ).loc Cert.Reference7Ideal.main_arg1)) (ix2 a b) = Cert.AdamAda.g m c a b := fun a b =>
      (reference_grad _ _ a b).trans (congrArg₂ prods (funext fun k => congrArg silu (eX _)) (funext fun k => eY _))
    refine ⟨h0.trans ((val_main_v4_eq (F := Ideal) _ _).trans (funext fun i => ?_)), h1.trans ((val_main_v31_eq (F := Ideal) _ _ _ _ _).trans (funext fun i => ?_)),
      h2.trans ((val_main_v12_eq (F := Ideal) _ _ _).trans (funext fun i => ?_)), h3.trans ((val_main_v18_eq (F := Ideal) _ _ _).trans (funext fun i => ?_)), hr⟩
    · obtain ⟨a, b, rfl⟩ : ∃ (a : Fin 1024) (b : Fin 1536), i = ix2 a b := ⟨i 0, i 1, eq_ix2 i⟩
      exact eG a b
    · obtain ⟨a, b, rfl⟩ : ∃ (a : Fin 1024) (b : Fin 1536), i = ix2 a b := ⟨i 0, i 1, eq_ix2 i⟩
      rw [reference_d, eG, eW, eM, eV]
      rfl
    · obtain ⟨a, b, rfl⟩ : ∃ (a : Fin 1024) (b : Fin 1536), i = ix2 a b := ⟨i 0, i 1, eq_ix2 i⟩
      rw [reference_m, eG, eM]
      rfl
    · obtain ⟨a, b, rfl⟩ : ∃ (a : Fin 1024) (b : Fin 1536), i = ix2 a b := ⟨i 0, i 1, eq_ix2 i⟩
      rw [reference_v, eG, eV]
      rfl

end Cert.AdamAda

end
-- ==== Proof.SumDev.lean ====
/- The call that sums the packed small gradients over the eight devices: each result is rows of the sum over the devices, and
   the loss is the mean of the summed errors' half. The reference sums the same entries. -/
module

public import proofs.«01_k».proof.Defs
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Coe
public import Idealize.ShloMosaic.Lib.Pipeline.ValueKit
public import Idealize.ShloMosaic.Lib.Pointwise.Reduce
public import Idealize.ShloMosaic.Adequacy
public import Idealize.ShloMosaic.Init

@[expose] public section

set_option maxRecDepth 16384

noncomputable section

namespace Cert.SumDev

open Idealize.ShloMosaic Idealize.ShloMosaic.TcCoe Idealize.SL.Sem
open Cert.Kernel8Ideal Cert.Kernel8Ideal.Gen

/-- The sum over the devices of row `r`, lane `l` of the packed gradients. -/
def total (x : S8x144x128.Idx → EReal) (r : Fin 144) (l : Fin 128) : EReal := ∑ k : Fin 8, x (ix3 k r l)

/-! ## The gradients -/

theorem ld0 (x : Vec Ideal S8x144x128 .f32) (j : S1x144x128.Idx) : View.ld x r0_0 j = x (ix3 (0 : Fin 8) (j 1) (j 2)) := by
  show x (r0_0.idx j) = _
  refine congrArg x (funext fun a => Fin.ext ?_)
  have h0 : (j 0).val < 1 := (j 0).isLt
  match a with
  | ⟨0, _⟩ => show 0 + 1 * (j 0).val = 0; omega
  | ⟨1, _⟩ => show 0 + 1 * (j 1).val = (j 1).val; omega
  | ⟨2, _⟩ => show 0 + 1 * (j 2).val = (j 2).val; omega

theorem ld1 (x : Vec Ideal S8x144x128 .f32) (j : S1x144x128.Idx) : View.ld x r0_1 j = x (ix3 (1 : Fin 8) (j 1) (j 2)) := by
  show x (r0_1.idx j) = _
  refine congrArg x (funext fun a => Fin.ext ?_)
  have h0 : (j 0).val < 1 := (j 0).isLt
  match a with
  | ⟨0, _⟩ => show 1 + 1 * (j 0).val = 1; omega
  | ⟨1, _⟩ => show 0 + 1 * (j 1).val = (j 1).val; omega
  | ⟨2, _⟩ => show 0 + 1 * (j 2).val = (j 2).val; omega

theorem ld2 (x : Vec Ideal S8x144x128 .f32) (j : S1x144x128.Idx) : View.ld x r0_2 j = x (ix3 (2 : Fin 8) (j 1) (j 2)) := by
  show x (r0_2.idx j) = _
  refine congrArg x (funext fun a => Fin.ext ?_)
  have h0 : (j 0).val < 1 := (j 0).isLt
  match a with
  | ⟨0, _⟩ => show 2 + 1 * (j 0).val = 2; omega
  | ⟨1, _⟩ => show 0 + 1 * (j 1).val = (j 1).val; omega
  | ⟨2, _⟩ => show 0 + 1 * (j 2).val = (j 2).val; omega

theorem ld3 (x : Vec Ideal S8x144x128 .f32) (j : S1x144x128.Idx) : View.ld x r0_3 j = x (ix3 (3 : Fin 8) (j 1) (j 2)) := by
  show x (r0_3.idx j) = _
  refine congrArg x (funext fun a => Fin.ext ?_)
  have h0 : (j 0).val < 1 := (j 0).isLt
  match a with
  | ⟨0, _⟩ => show 3 + 1 * (j 0).val = 3; omega
  | ⟨1, _⟩ => show 0 + 1 * (j 1).val = (j 1).val; omega
  | ⟨2, _⟩ => show 0 + 1 * (j 2).val = (j 2).val; omega

theorem ld4 (x : Vec Ideal S8x144x128 .f32) (j : S1x144x128.Idx) : View.ld x r0_4 j = x (ix3 (4 : Fin 8) (j 1) (j 2)) := by
  show x (r0_4.idx j) = _
  refine congrArg x (funext fun a => Fin.ext ?_)
  have h0 : (j 0).val < 1 := (j 0).isLt
  match a with
  | ⟨0, _⟩ => show 4 + 1 * (j 0).val = 4; omega
  | ⟨1, _⟩ => show 0 + 1 * (j 1).val = (j 1).val; omega
  | ⟨2, _⟩ => show 0 + 1 * (j 2).val = (j 2).val; omega

theorem ld5 (x : Vec Ideal S8x144x128 .f32) (j : S1x144x128.Idx) : View.ld x r0_5 j = x (ix3 (5 : Fin 8) (j 1) (j 2)) := by
  show x (r0_5.idx j) = _
  refine congrArg x (funext fun a => Fin.ext ?_)
  have h0 : (j 0).val < 1 := (j 0).isLt
  match a with
  | ⟨0, _⟩ => show 5 + 1 * (j 0).val = 5; omega
  | ⟨1, _⟩ => show 0 + 1 * (j 1).val = (j 1).val; omega
  | ⟨2, _⟩ => show 0 + 1 * (j 2).val = (j 2).val; omega

theorem ld6 (x : Vec Ideal S8x144x128 .f32) (j : S1x144x128.Idx) : View.ld x r0_6 j = x (ix3 (6 : Fin 8) (j 1) (j 2)) := by
  show x (r0_6.idx j) = _
  refine congrArg x (funext fun a => Fin.ext ?_)
  have h0 : (j 0).val < 1 := (j 0).isLt
  match a with
  | ⟨0, _⟩ => show 6 + 1 * (j 0).val = 6; omega
  | ⟨1, _⟩ => show 0 + 1 * (j 1).val = (j 1).val; omega
  | ⟨2, _⟩ => show 0 + 1 * (j 2).val = (j 2).val; omega

theorem ld7 (x : Vec Ideal S8x144x128 .f32) (j : S1x144x128.Idx) : View.ld x r0_7 j = x (ix3 (7 : Fin 8) (j 1) (j 2)) := by
  show x (r0_7.idx j) = _
  refine congrArg x (funext fun a => Fin.ext ?_)
  have h0 : (j 0).val < 1 := (j 0).isLt
  match a with
  | ⟨0, _⟩ => show 7 + 1 * (j 0).val = 7; omega
  | ⟨1, _⟩ => show 0 + 1 * (j 1).val = (j 1).val; omega
  | ⟨2, _⟩ => show 0 + 1 * (j 2).val = (j 2).val; omega

/-- The eight loads read at one entry and added in the devices' order are that entry's sum over the devices. -/
theorem eight (x : Vec Ideal S8x144x128 .f32) (j : S1x144x128.Idx) :
    FloatOps.addf (F := Ideal) (φ := .f32) (FloatOps.addf (FloatOps.addf (FloatOps.addf (FloatOps.addf (FloatOps.addf (FloatOps.addf
      (View.ld x r0_0 j) (View.ld x r0_1 j)) (View.ld x r0_2 j)) (View.ld x r0_3 j)) (View.ld x r0_4 j)) (View.ld x r0_5 j)) (View.ld x r0_6 j)) (View.ld x r0_7 j)
      = total x (j 1) (j 2) := by
  rw [ld0, ld1, ld2, ld3, ld4, ld5, ld6, ld7]
  unfold total
  rw [Fin.sum_univ_eight]
  rfl

theorem reference_total (x : S8x144x128.Idx → EReal) (i : S144x128.Idx) :
    Cert.Reference8Ideal.Read.val_main_v0 (F := Ideal) x i = total x (i 0) (i 1) := by
  rw [Cert.Reference8Ideal.Read.val_main_v0_apply]
  have hz : (Cert.Reference8Ideal.Read.val_main_cst (F := Ideal)) (Shape.Idx.first Cert.Reference8Ideal.Gen.h_S_) = 0 := Ideal.ofBits_zero_f32
  rw [hz, zero_add]
  unfold total
  refine Finset.sum_congr rfl fun k _ => congrArg x (funext fun a => ?_)
  match a with
  | ⟨0, _⟩ => rfl
  | ⟨1, _⟩ => rfl
  | ⟨2, _⟩ => rfl

theorem grad1 (x : Vec Ideal S8x144x128 .f32) : Cert.Kernel8Ideal.Value.G1 (F := Ideal) x = Cert.Reference8Ideal.Read.val_main_v4 (F := Ideal) x := by
  funext y
  have h0 : (y 0).val < 1 := (y 0).isLt
  have h1 : (y 1).val < 6144 := (y 1).isLt
  refine (Cert.Kernel8Ideal.Value.canon1_eq (F := Ideal) (View.ld x r0_0) (View.ld x r0_1) (View.ld x r0_2) (View.ld x r0_3) (View.ld x r0_4) (View.ld x r0_5) (View.ld x r0_6) (View.ld x r0_7) y).trans ?_
  refine (eight x (Cert.Kernel8Ideal.Value.ix1_0 y)).trans ?_
  rw [Cert.Reference8Ideal.Read.val_main_v4_apply, Cert.Reference8Ideal.Read.val_main_v3_apply, reference_total]
  refine congrArg₂ (total x) (Fin.ext ?_) (Fin.ext ?_)
  · show (y 1).val / 128 = ((y 0).val * 6144 + (y 1).val) / 128
    omega
  · show (y 1).val % 128 = ((y 0).val * 6144 + (y 1).val) % 128
    omega

theorem grad2 (x : Vec Ideal S8x144x128 .f32) : Cert.Kernel8Ideal.Value.G2 (F := Ideal) x = Cert.Reference8Ideal.Read.val_main_v6 (F := Ideal) x := by
  funext y
  have h0 : (y 0).val < 1 := (y 0).isLt
  have h1 : (y 1).val < 1024 := (y 1).isLt
  refine (Cert.Kernel8Ideal.Value.canon2_eq (F := Ideal) (View.ld x r0_0) (View.ld x r0_1) (View.ld x r0_2) (View.ld x r0_3) (View.ld x r0_4) (View.ld x r0_5) (View.ld x r0_6) (View.ld x r0_7) y).trans ?_
  refine (eight x (Cert.Kernel8Ideal.Value.ix2_0 y)).trans ?_
  rw [Cert.Reference8Ideal.Read.val_main_v6_apply, Cert.Reference8Ideal.Read.val_main_v5_apply, reference_total]
  refine congrArg₂ (total x) (Fin.ext ?_) (Fin.ext ?_)
  · show (y 1).val / 128 + 48 = 48 + ((y 0).val * 1024 + (y 1).val) / 128
    omega
  · show (y 1).val % 128 = ((y 0).val * 1024 + (y 1).val) % 128
    omega

theorem grad3 (x : Vec Ideal S8x144x128 .f32) : Cert.Kernel8Ideal.Value.G3 (F := Ideal) x = Cert.Reference8Ideal.Read.val_main_v8 (F := Ideal) x := by
  funext y
  have h0 : (y 0).val < 1 := (y 0).isLt
  have h1 : (y 1).val < 1024 := (y 1).isLt
  refine (Cert.Kernel8Ideal.Value.canon3_eq (F := Ideal) (View.ld x r0_0) (View.ld x r0_1) (View.ld x r0_2) (View.ld x r0_3) (View.ld x r0_4) (View.ld x r0_5) (View.ld x r0_6) (View.ld x r0_7) y).trans ?_
  refine (eight x (Cert.Kernel8Ideal.Value.ix3_0 y)).trans ?_
  rw [Cert.Reference8Ideal.Read.val_main_v8_apply, Cert.Reference8Ideal.Read.val_main_v7_apply, reference_total]
  refine congrArg₂ (total x) (Fin.ext ?_) (Fin.ext ?_)
  · show (y 1).val / 128 + 56 = 56 + ((y 0).val * 1024 + (y 1).val) / 128
    omega
  · show (y 1).val % 128 = ((y 0).val * 1024 + (y 1).val) % 128
    omega

theorem grad4 (x : Vec Ideal S8x144x128 .f32) : Cert.Kernel8Ideal.Value.G4 (F := Ideal) x = Cert.Reference8Ideal.Read.val_main_v10 (F := Ideal) x := by
  funext y
  have h0 : (y 0).val < 1 := (y 0).isLt
  have h1 : (y 1).val < 1024 := (y 1).isLt
  refine (Cert.Kernel8Ideal.Value.canon4_eq (F := Ideal) (View.ld x r0_0) (View.ld x r0_1) (View.ld x r0_2) (View.ld x r0_3) (View.ld x r0_4) (View.ld x r0_5) (View.ld x r0_6) (View.ld x r0_7) y).trans ?_
  refine (eight x (Cert.Kernel8Ideal.Value.ix4_0 y)).trans ?_
  rw [Cert.Reference8Ideal.Read.val_main_v10_apply, Cert.Reference8Ideal.Read.val_main_v9_apply, reference_total]
  refine congrArg₂ (total x) (Fin.ext ?_) (Fin.ext ?_)
  · show (y 1).val / 128 + 64 = 64 + ((y 0).val * 1024 + (y 1).val) / 128
    omega
  · show (y 1).val % 128 = ((y 0).val * 1024 + (y 1).val) % 128
    omega

theorem grad5 (x : Vec Ideal S8x144x128 .f32) : Cert.Kernel8Ideal.Value.G5 (F := Ideal) x = Cert.Reference8Ideal.Read.val_main_v12 (F := Ideal) x := by
  funext y
  have h0 : (y 0).val < 1 := (y 0).isLt
  have h1 : (y 1).val < 1024 := (y 1).isLt
  refine (Cert.Kernel8Ideal.Value.canon5_eq (F := Ideal) (View.ld x r0_0) (View.ld x r0_1) (View.ld x r0_2) (View.ld x r0_3) (View.ld x r0_4) (View.ld x r0_5) (View.ld x r0_6) (View.ld x r0_7) y).trans ?_
  refine (eight x (Cert.Kernel8Ideal.Value.ix5_0 y)).trans ?_
  rw [Cert.Reference8Ideal.Read.val_main_v12_apply, Cert.Reference8Ideal.Read.val_main_v11_apply, reference_total]
  refine congrArg₂ (total x) (Fin.ext ?_) (Fin.ext ?_)
  · show (y 1).val / 128 + 72 = 72 + ((y 0).val * 1024 + (y 1).val) / 128
    omega
  · show (y 1).val % 128 = ((y 0).val * 1024 + (y 1).val) % 128
    omega

theorem grad6 (x : Vec Ideal S8x144x128 .f32) : Cert.Kernel8Ideal.Value.G6 (F := Ideal) x = Cert.Reference8Ideal.Read.val_main_v14 (F := Ideal) x := by
  funext y
  have h0 : (y 0).val < 1 := (y 0).isLt
  have h1 : (y 1).val < 512 := (y 1).isLt
  refine (Cert.Kernel8Ideal.Value.canon6_eq (F := Ideal) (View.ld x r0_0) (View.ld x r0_1) (View.ld x r0_2) (View.ld x r0_3) (View.ld x r0_4) (View.ld x r0_5) (View.ld x r0_6) (View.ld x r0_7) y).trans ?_
  refine (eight x (Cert.Kernel8Ideal.Value.ix6_0 y)).trans ?_
  rw [Cert.Reference8Ideal.Read.val_main_v14_apply, Cert.Reference8Ideal.Read.val_main_v13_apply, reference_total]
  refine congrArg₂ (total x) (Fin.ext ?_) (Fin.ext ?_)
  · show (y 1).val / 128 + 80 = 80 + ((y 0).val * 512 + (y 1).val) / 128
    omega
  · show (y 1).val % 128 = ((y 0).val * 512 + (y 1).val) % 128
    omega

theorem grad7 (x : Vec Ideal S8x144x128 .f32) : Cert.Kernel8Ideal.Value.G7 (F := Ideal) x = Cert.Reference8Ideal.Read.val_main_v16 (F := Ideal) x := by
  funext y
  have h0 : (y 0).val < 1 := (y 0).isLt
  have h1 : (y 1).val < 256 := (y 1).isLt
  refine (Cert.Kernel8Ideal.Value.canon7_eq (F := Ideal) (View.ld x r0_0) (View.ld x r0_1) (View.ld x r0_2) (View.ld x r0_3) (View.ld x r0_4) (View.ld x r0_5) (View.ld x r0_6) (View.ld x r0_7) y).trans ?_
  refine (eight x (Cert.Kernel8Ideal.Value.ix7_0 y)).trans ?_
  rw [Cert.Reference8Ideal.Read.val_main_v16_apply, Cert.Reference8Ideal.Read.val_main_v15_apply, reference_total]
  refine congrArg₂ (total x) (Fin.ext ?_) (Fin.ext ?_)
  · show (y 1).val / 128 + 88 = 88 + ((y 0).val * 256 + (y 1).val) / 128
    omega
  · show (y 1).val % 128 = ((y 0).val * 256 + (y 1).val) % 128
    omega

theorem grad8 (x : Vec Ideal S8x144x128 .f32) : Cert.Kernel8Ideal.Value.G8 (F := Ideal) x = Cert.Reference8Ideal.Read.val_main_v18 (F := Ideal) x := by
  funext y
  have h0 : (y 0).val < 1 := (y 0).isLt
  have h1 : (y 1).val < 512 := (y 1).isLt
  refine (Cert.Kernel8Ideal.Value.canon8_eq (F := Ideal) (View.ld x r0_0) (View.ld x r0_1) (View.ld x r0_2) (View.ld x r0_3) (View.ld x r0_4) (View.ld x r0_5) (View.ld x r0_6) (View.ld x r0_7) y).trans ?_
  refine (eight x (Cert.Kernel8Ideal.Value.ix8_0 y)).trans ?_
  rw [Cert.Reference8Ideal.Read.val_main_v18_apply, Cert.Reference8Ideal.Read.val_main_v17_apply, reference_total]
  refine congrArg₂ (total x) (Fin.ext ?_) (Fin.ext ?_)
  · show (y 1).val / 128 + 96 = 96 + ((y 0).val * 512 + (y 1).val) / 128
    omega
  · show (y 1).val % 128 = ((y 0).val * 512 + (y 1).val) % 128
    omega

theorem grad9 (x : Vec Ideal S8x144x128 .f32) : Cert.Kernel8Ideal.Value.G9 (F := Ideal) x = Cert.Reference8Ideal.Read.val_main_v20 (F := Ideal) x := by
  funext y
  have h0 : (y 0).val < 16 := (y 0).isLt
  have h1 : (y 1).val < 256 := (y 1).isLt
  refine (Cert.Kernel8Ideal.Value.canon9_eq (F := Ideal) (View.ld x r0_0) (View.ld x r0_1) (View.ld x r0_2) (View.ld x r0_3) (View.ld x r0_4) (View.ld x r0_5) (View.ld x r0_6) (View.ld x r0_7) y).trans ?_
  refine (eight x (Cert.Kernel8Ideal.Value.ix9_0 y)).trans ?_
  rw [Cert.Reference8Ideal.Read.val_main_v20_apply, Cert.Reference8Ideal.Read.val_main_v19_apply, reference_total]
  refine congrArg₂ (total x) (Fin.ext ?_) (Fin.ext ?_)
  · show (y 0).val * 2 + (y 1).val / 128 + 104 = 104 + ((y 0).val * 256 + (y 1).val) / 128
    omega
  · show (y 1).val % 128 = ((y 0).val * 256 + (y 1).val) % 128
    omega

/-! ## The loss -/

theorem c_loss : Ideal.ofBits .f32 0x3A000000#32 = ((1 / 2048 : ℝ) : EReal) := by
  simp [Ideal.ofBits, Ideal.ieee, -EReal.coe_mul]; norm_num

/-- A real factor that isn't negative goes into a finite sum of extended reals. -/
theorem mul_total {ι : Type} (s : Finset ι) (f : ι → EReal) {r : ℝ} (hr : 0 ≤ r) : (∑ k ∈ s, f k) * (r : EReal) = ∑ k ∈ s, f k * (r : EReal) := by
  classical
  induction s using Finset.induction_on with
  | empty => simp
  | insert a s ha ih =>
    rw [Finset.sum_insert ha, Finset.sum_insert ha, ← ih, mul_comm, EReal.left_distrib_of_nonneg_of_ne_top (EReal.coe_nonneg.mpr hr) (EReal.coe_ne_top r),
      mul_comm, mul_comm (r : EReal)]

/-- The rows and lanes of the errors, as one running index. -/
theorem sum_rows (f : Fin 1024 → EReal) : ∑ j : Fin 1024, f j = ∑ s : Fin 8, ∑ l : Fin 128, f (finProdFinEquiv (s, l)) := by
  rw [← Fintype.sum_prod_type']
  exact (Fintype.sum_equiv (finProdFinEquiv : Fin 8 × Fin 128 ≃ Fin 1024) _ _ fun _ => rfl).symm

/-- The summed errors of all devices. -/
def errors (x : S8x144x128.Idx → EReal) : EReal := ∑ s : Fin 8, ∑ l : Fin 128, total x ⟨136 + s.val, by omega⟩ l

theorem pay_total (x : Vec Ideal S8x144x128 .f32) (i : S144x128.Idx) : k0_pay126 (F := Ideal) x i = total x (i 0) (i 1) := by
  have hs : ∀ P : Vec Ideal S1x144x128 .f32, shapeCast S144x128 P shapeCasts_S1x144x128_S144x128 i = P (ix3 (0 : Fin 1) (i 0) (i 1)) := by
    intro P
    refine shapeCast_apply P _ i (ix3 (0 : Fin 1) (i 0) (i 1)) ?_
    rw [Shape.rowMajor_val_three, Shape.rowMajor_val_two]
    show (0 * 144 + (i 0).val) * 128 + (i 1).val = (i 0).val * 128 + (i 1).val
    omega
  show FloatOps.addf (FloatOps.addf (FloatOps.addf (FloatOps.addf (FloatOps.addf (FloatOps.addf (FloatOps.addf (F := Ideal) (φ := .f32) (shapeCast S144x128 (View.ld x r0_0) shapeCasts_S1x144x128_S144x128 i) (shapeCast S144x128 (View.ld x r0_1) shapeCasts_S1x144x128_S144x128 i)) (shapeCast S144x128 (View.ld x r0_2) shapeCasts_S1x144x128_S144x128 i)) (shapeCast S144x128 (View.ld x r0_3) shapeCasts_S1x144x128_S144x128 i)) (shapeCast S144x128 (View.ld x r0_4) shapeCasts_S1x144x128_S144x128 i)) (shapeCast S144x128 (View.ld x r0_5) shapeCasts_S1x144x128_S144x128 i)) (shapeCast S144x128 (View.ld x r0_6) shapeCasts_S1x144x128_S144x128 i)) (shapeCast S144x128 (View.ld x r0_7) shapeCasts_S1x144x128_S144x128 i) = _
  rw [hs, hs, hs, hs, hs, hs, hs, hs]
  exact eight x (ix3 (0 : Fin 1) (i 0) (i 1))

theorem loss_kernel (x : Vec Ideal S8x144x128 .f32) (y : S1x128.Idx) :
    Cert.Kernel8Ideal.Value.G10 (F := Ideal) x y = ((1 / 2048 : ℝ) : EReal) * errors x := by
  have hp : ∀ (s : Fin 8) (l : Fin 128), k0_pay125 (F := Ideal) (k0_pay126 x) (ix3 (0 : Fin 1) s l) = total x ⟨136 + s.val, by omega⟩ l := by
    intro s l
    unfold k0_pay125
    refine (shapeCast_apply _ _ (ix3 (0 : Fin 1) s l) (ix2 s l) ?_).trans ?_
    · rw [Shape.rowMajor_val_three, Shape.rowMajor_val_two]
      show s.val * 128 + l.val = (0 * 8 + s.val) * 128 + l.val
      omega
    · refine (pay_total x _).trans (congrArg₂ (total x) (Fin.ext ?_) (Fin.ext ?_))
      · show 136 + s.val = 136 + s.val
        rfl
      · show 0 + l.val = l.val
        omega
  have hr : ∀ j : S1.Idx, Ideal.reduceAdd reduces_S1x8x128_S1 (k0_pay125 (F := Ideal) (k0_pay126 x)) j = errors x := by
    intro j
    rw [Ideal.reduceAdd_r3_a12]
    refine Finset.sum_congr rfl fun s _ => Finset.sum_congr rfl fun l _ => ?_
    refine Eq.trans (congrArg _ (funext fun a => Fin.ext ?_)) (hp s l)
    have h : (j 0).val < 1 := (j 0).isLt
    match a with
    | ⟨0, _⟩ => show (j 0).val = 0; omega
    | ⟨1, _⟩ => rfl
    | ⟨2, _⟩ => rfl
  show (Ideal.ofBits .f32 0x3A000000#32) * _ = _
  rw [c_loss]
  refine congrArg (((1 / 2048 : ℝ) : EReal) * ·) ?_
  exact hr _

theorem loss_reference (x : S8x144x128.Idx → EReal) (y : S1x128.Idx) :
    Cert.Reference8Ideal.Read.val_main_v26 (F := Ideal) x y = ((1 / 2048 : ℝ) : EReal) * errors x := by
  have he : ∀ i : Cert.Reference8Ideal.S8.Idx, Cert.Reference8Ideal.Read.val_main_v21 (F := Ideal) x i = ∑ s : Fin 8, ∑ l : Fin 128, x (ix3 (i 0) ⟨136 + s.val, by omega⟩ l) := by
    intro i
    rw [Cert.Reference8Ideal.Read.val_main_v21_apply]
    have hz : (Cert.Reference8Ideal.Read.val_main_cst_0 (F := Ideal)) (Shape.Idx.first Cert.Reference8Ideal.Gen.h_S_) = 0 := Ideal.ofBits_zero_f32
    rw [hz, zero_add, sum_rows]
    refine Finset.sum_congr rfl fun s _ => Finset.sum_congr rfl fun l _ => ?_
    rw [Cert.Reference8Ideal.Read.val_main_v2_apply, Cert.Reference8Ideal.Read.val_main_v1_apply]
    refine congrArg x (funext fun a => Fin.ext ?_)
    have h0 : (i 0).val < 8 := (i 0).isLt
    have hs : s.val < 8 := s.isLt
    have hl : l.val < 128 := l.isLt
    match a with
    | ⟨0, _⟩ => show ((i 0).val * 1024 + (l.val + 128 * s.val)) / 1024 = (i 0).val; omega
    | ⟨1, _⟩ => show 136 + ((i 0).val * 1024 + (l.val + 128 * s.val)) / 128 % 8 = 136 + s.val; omega
    | ⟨2, _⟩ => show ((i 0).val * 1024 + (l.val + 128 * s.val)) % 128 = l.val; omega
  have hm : ∀ i : Cert.Reference8Ideal.S8.Idx, Cert.Reference8Ideal.Read.val_main_v23 (F := Ideal) x i
      = (∑ s : Fin 8, ∑ l : Fin 128, x (ix3 (i 0) ⟨136 + s.val, by omega⟩ l)) * ((1 / 1024 : ℝ) : EReal) := by
    intro i
    rw [← he i]
    show Ideal.div (Cert.Reference8Ideal.Read.val_main_v21 (F := Ideal) x i) (Ideal.ofBits .f32 0x44800000#32) = _
    rw [Cert.Coe.c_1024, Ideal.div_coe (by norm_num)]
  rw [Cert.Reference8Ideal.Read.val_main_v26_apply, Cert.Reference8Ideal.Read.val_main_v25_apply, Cert.Reference8Ideal.Read.val_main_v24_apply]
  have hz : (Cert.Reference8Ideal.Read.val_main_cst_2 (F := Ideal)) (Shape.Idx.first Cert.Reference8Ideal.Gen.h_S_) = 0 := Ideal.ofBits_zero_f32
  rw [hz, zero_add]
  have hd : ∑ j : Cert.Reference8Ideal.S8.Idx, Cert.Reference8Ideal.Read.val_main_v23 (F := Ideal) x j
      = (∑ k : Fin 8, ∑ s : Fin 8, ∑ l : Fin 128, x (ix3 k ⟨136 + s.val, by omega⟩ l)) * ((1 / 1024 : ℝ) : EReal) := by
    rw [mul_total _ _ (by norm_num)]
    refine Fintype.sum_bijective (fun j : Cert.Reference8Ideal.S8.Idx => (j 0 : Fin 8)) ⟨?_, ?_⟩ _ _ fun j => hm j
    · intro j j' h
      funext a
      match a with
      | ⟨0, _⟩ => exact h
    · intro k
      exact ⟨fun a => match a with | ⟨0, _⟩ => k, rfl⟩
  rw [hd]
  have hx : (∑ k : Fin 8, ∑ s : Fin 8, ∑ l : Fin 128, x (ix3 k ⟨136 + s.val, by omega⟩ l)) = errors x := by
    unfold errors total
    rw [Finset.sum_comm]
    exact Finset.sum_congr rfl fun s _ => Finset.sum_comm
  rw [hx]
  show (Ideal.ofBits .f32 0x3F000000#32) * (errors x * ((1 / 1024 : ℝ) : EReal)) = _
  rw [Cert.Coe.c_half, mul_comm (errors x), ← mul_assoc, ← EReal.coe_mul]
  norm_num

/-! ## The claims -/

theorem frame_reference : Cert.quiescent_Reference8Ideal := fun m ρ _ =>
  (θ_run Cert.Reference8Ideal.defs _ _).mono
    (fun r h => ⟨fun c => (h c).2.2.2.2.2.2.2.2.2.2, Idealize.ShloMosaic.sem_eq_zero_of_no_sems (by decide) r.2⟩)
    (Cert.Reference8Ideal.Value.run (F := Ideal) m ρ)

variable (m : (ℓ : Loc nD τ sig) → Buf (Elt Ideal) ℓ) (c : Dev nD)

def packed : S8x144x128.Idx → EReal := m ((c : Thread nD τ).loc main_arg0)

def loss : S1x128.Idx → EReal := fun _ => ((1 / 2048 : ℝ) : EReal) * errors (packed m c)

theorem algebraic : Cert.algebraic_Kernel8Ideal_Reference8Ideal := by
  intro m g m' g' hp hagree
  refine ⟨fun c => Cert.Reference8Ideal.Read.val_main_v4 (F := Ideal) (packed m c), fun c => Cert.Reference8Ideal.Read.val_main_v6 (F := Ideal) (packed m c), fun c => Cert.Reference8Ideal.Read.val_main_v8 (F := Ideal) (packed m c), fun c => Cert.Reference8Ideal.Read.val_main_v10 (F := Ideal) (packed m c), fun c => Cert.Reference8Ideal.Read.val_main_v12 (F := Ideal) (packed m c), fun c => Cert.Reference8Ideal.Read.val_main_v14 (F := Ideal) (packed m c), fun c => Cert.Reference8Ideal.Read.val_main_v16 (F := Ideal) (packed m c), fun c => Cert.Reference8Ideal.Read.val_main_v18 (F := Ideal) (packed m c), fun c => Cert.Reference8Ideal.Read.val_main_v20 (F := Ideal) (packed m c), loss m, ?_, ?_⟩
  · exact (θ_run Cert.Kernel8Ideal.defs _ _).mono
      (fun r h c => ⟨(h c).1.trans (grad1 _), (h c).2.1.trans (grad2 _), (h c).2.2.1.trans (grad3 _), (h c).2.2.2.1.trans (grad4 _), (h c).2.2.2.2.1.trans (grad5 _), (h c).2.2.2.2.2.1.trans (grad6 _), (h c).2.2.2.2.2.2.1.trans (grad7 _), (h c).2.2.2.2.2.2.2.1.trans (grad8 _), (h c).2.2.2.2.2.2.2.2.1.trans (grad9 _), (h c).2.2.2.2.2.2.2.2.2.1.trans (funext fun y => loss_kernel _ y), (h c).2.2.2.2.2.2.2.2.2.2⟩)
      (Cert.Kernel8Ideal.Value.run (F := Ideal) m g)
  · refine (θ_run Cert.Reference8Ideal.defs _ _).mono
      (fun r h c => ?_)
      (Cert.Reference8Ideal.Value.run (F := Ideal) m' g')
    have e : (m' ((c : Thread Cert.Reference8Ideal.nD Cert.Reference8Ideal.τ).loc Cert.Reference8Ideal.main_arg0) : S8x144x128.Idx → EReal) = packed m c := hagree c
    refine ⟨(h c).1.trans ((Cert.Reference8Ideal.Read.val_main_v4_eq (F := Ideal) _).trans (congrArg (Cert.Reference8Ideal.Read.val_main_v4 (F := Ideal)) e)), (h c).2.1.trans ((Cert.Reference8Ideal.Read.val_main_v6_eq (F := Ideal) _).trans (congrArg (Cert.Reference8Ideal.Read.val_main_v6 (F := Ideal)) e)), (h c).2.2.1.trans ((Cert.Reference8Ideal.Read.val_main_v8_eq (F := Ideal) _).trans (congrArg (Cert.Reference8Ideal.Read.val_main_v8 (F := Ideal)) e)), (h c).2.2.2.1.trans ((Cert.Reference8Ideal.Read.val_main_v10_eq (F := Ideal) _).trans (congrArg (Cert.Reference8Ideal.Read.val_main_v10 (F := Ideal)) e)), (h c).2.2.2.2.1.trans ((Cert.Reference8Ideal.Read.val_main_v12_eq (F := Ideal) _).trans (congrArg (Cert.Reference8Ideal.Read.val_main_v12 (F := Ideal)) e)), (h c).2.2.2.2.2.1.trans ((Cert.Reference8Ideal.Read.val_main_v14_eq (F := Ideal) _).trans (congrArg (Cert.Reference8Ideal.Read.val_main_v14 (F := Ideal)) e)), (h c).2.2.2.2.2.2.1.trans ((Cert.Reference8Ideal.Read.val_main_v16_eq (F := Ideal) _).trans (congrArg (Cert.Reference8Ideal.Read.val_main_v16 (F := Ideal)) e)), (h c).2.2.2.2.2.2.2.1.trans ((Cert.Reference8Ideal.Read.val_main_v18_eq (F := Ideal) _).trans (congrArg (Cert.Reference8Ideal.Read.val_main_v18 (F := Ideal)) e)), (h c).2.2.2.2.2.2.2.2.1.trans ((Cert.Reference8Ideal.Read.val_main_v20_eq (F := Ideal) _).trans (congrArg (Cert.Reference8Ideal.Read.val_main_v20 (F := Ideal)) e)),
      (h c).2.2.2.2.2.2.2.2.2.1.trans ((Cert.Reference8Ideal.Read.val_main_v26_eq (F := Ideal) _).trans ((congrArg (Cert.Reference8Ideal.Read.val_main_v26 (F := Ideal)) e).trans (funext fun y => loss_reference _ y))), (h c).2.2.2.2.2.2.2.2.2.2⟩

end Cert.SumDev

end
-- ==== Proof.GateCols.lean ====
/- The gradient of gla_gate_w over all devices, of which each chip takes its columns: the call that sums the packed gradients
   leaves rows 104 to 136 of the sum laid out as 16 rows of 256, and the host cuts 64 columns from there at the chip's place.
   The reference cuts the same columns from the same rows of its own sum. -/
module

public import proofs.«01_k».proof.Proof.SumDev
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import Idealize.ShloMosaic.Lib.Pipeline.Value

@[expose] public section

set_option maxRecDepth 16384

noncomputable section

namespace Cert.GateCols

open Idealize.ShloMosaic Idealize.ShloMosaic.TcCoe Idealize.SL.Sem
open Cert.Kernel9Ideal Cert.Kernel9Ideal.Gen

/-! ## Where the columns begin -/

/-- The two starts of the cut: row 0, and 64 times the chip's number, counted from the end when it is negative. -/
def start (n : S_.Idx → BitVec 32) (k : Fin 2) : Int :=
  ((![constantI S_ 32 0#32, select (cmpi .slt (muli n (constantI S_ 32 64#32)) (constantI S_ 32 0#32)) (addi (muli n (constantI S_ 32 64#32)) (constantI S_ 32 256#32)) (muli n (constantI S_ 32 64#32))] : Fin 2 → (⟨S_, .i32⟩ : BufTy).Contents (Elt Ideal)) k (Shape.Idx.first h_S_)).toInt

/-- The 64 columns of a matrix of 16 rows and 256 columns that the chip with this number takes. -/
def columns (g : S16x256.Idx → EReal) (n : S_.Idx → BitVec 32) : S16x64.Idx → EReal :=
  Host.dynamicSlice S16x64 (g : (⟨S16x256, .f32⟩ : BufTy).Contents (Elt Ideal)) (start n) sliceFits_S16x256_S16x64

/-! ## The call's result -/

variable (m : (ℓ : Loc nD τ sig) → Buf (Elt Ideal) ℓ) (c : Dev nD)

/-- The packed gradients, one row of blocks for each device. -/
def packed : S8x144x128.Idx → EReal := m ((c : Thread nD τ).loc main_arg0)

/-- The chip's number. -/
def number : S_.Idx → BitVec 32 := m ((c : Thread nD τ).loc main_arg1)

/-- The whole gradient of gla_gate_w, summed over the devices. -/
def whole : S16x256.Idx → EReal := Cert.Reference9Ideal.Read.val_main_v2 (F := Ideal) (packed m c)

theorem at0 : ∀ t : Fin cfg0.N, win0_0.index t (0 : Fin 3) = 0 ∧ win0_0.index t (1 : Fin 3) = 0 ∧ win0_0.index t (2 : Fin 3) = 0 :=
  (by decide +kernel : ∀ t : Fin grid0.N, _)

/-- The packed gradients come to the body whole. -/
theorem block (t : Fin cfg0.N) : (iblk m c 0 t : S8x144x128.Idx → EReal) = packed m c := by
  obtain ⟨e0, e1, e2⟩ := at0 t
  funext j
  show (packed m c) (((cfg0.win 0).blk t).view.emb j) = packed m c j
  refine congrArg _ (funext fun a => Fin.ext ?_)
  match a with
  | ⟨0, _⟩ => show win0_0.index t (0 : Fin 3) * 8 + 1 * (j 0).val = (j 0).val; omega
  | ⟨1, _⟩ => show win0_0.index t (1 : Fin 3) * 144 + 1 * (j 1).val = (j 1).val; omega
  | ⟨2, _⟩ => show win0_0.index t (2 : Fin 3) * 128 + 1 * (j 2).val = (j 2).val; omega

theorem at9 : ∀ t : Fin cfg0.N, win0_9.index t (0 : Fin 2) = 0 ∧ win0_9.index t (1 : Fin 2) = 0 :=
  (by decide +kernel : ∀ t : Fin grid0.N, _)

theorem place9 (t : Fin cfg0.N) (j : S16x256.Idx) : ((cfg0.win 9).blk t).view.emb j = j := by
  obtain ⟨e0, e1⟩ := at9 t
  refine funext fun a => Fin.ext ?_
  match a with
  | ⟨0, _⟩ => show win0_9.index t (0 : Fin 2) * 16 + 1 * (j 0).val = (j 0).val; omega
  | ⟨1, _⟩ => show win0_9.index t (1 : Fin 2) * 256 + 1 * (j 1).val = (j 1).val; omega

/-- The body is that of the call which returns all the sums. -/
theorem same_body (x : S8x144x128.Idx → EReal) : (out0_9 (F := Ideal) x : S16x256.Idx → EReal) = Cert.Kernel8Ideal.Gen.out0_9 (F := Ideal) x := by
  unfold out0_9 Cert.Kernel8Ideal.Gen.out0_9
  rfl

/-- The reference's sum is that of the reference for all the sums. -/
theorem same_sum (x : S8x144x128.Idx → EReal) : (Cert.Reference8Ideal.Read.val_main_v20 (F := Ideal) x : S16x256.Idx → EReal) = Cert.Reference9Ideal.Read.val_main_v2 (F := Ideal) x := rfl

theorem body (t : Fin cfg0.N) : (out0_9 (F := Ideal) (iblk m c 0 t) : S16x256.Idx → EReal) = whole m c :=
  (congrArg (out0_9 (F := Ideal)) (block m c t)).trans ((same_body _).trans
    ((Cert.Kernel8Ideal.Value.out9_eq (F := Ideal) _).trans ((Cert.SumDev.grad9 _).trans (same_sum _))))

theorem wrote (t : Fin cfg0.N) : (dats m 0 c).flushed 9 t = ((cfg0.win 9).blk t).view.read (Elt Ideal) (whole m c) := by
  show (cfg0.win 9).cut (grid0.coords t) ((dats m 0 c).after 9 t) = _
  rw [after0_9]
  funext j
  refine (congrFun (body m c t) j).trans ?_
  show whole m c j = whole m c (((cfg0.win 9).blk t).view.emb j)
  rw [place9]

theorem covered (i : S16x256.Idx) : ∃ t : Fin cfg0.N, (cfg0.win 9).flush t = true ∧ i ∈ ((cfg0.win 9).blk t).view.set :=
  ⟨(⟨0, by decide⟩ : Fin cfg0.N), flush0_9 _, by
    have h := ((cfg0.win 9).blk (⟨0, by decide⟩ : Fin cfg0.N)).view.emb_mem_set i
    rwa [place9] at h⟩

/-- After the call the array holds the whole gradient. -/
theorem summed : (dats m 0 c).arrAt 9 cfg0.N = whole m c :=
  (dats m 0 c).arrAt_eq_of_cover 9 _ (fun t _ => wrote m c t) covered

/-! ## The host's cut -/

/-- From any contents, the lines after the call leave the chip's columns of the gradient found there. -/
theorem cut (W : Valuation τ sig (Elt Ideal)) :
    StableHlo.after (List.flatten [hostOps1]) W (Proc.devRef .tc main_v5) = columns (W (Proc.devRef .tc main_v0_8)) (W (Proc.devRef .tc main_arg1)) := by
  show StableHlo.after hostOps1 W (Proc.devRef .tc main_v5) = Host.dynamicSlice S16x64 (W (Proc.devRef .tc main_v0_8) : (⟨S16x256, .f32⟩ : BufTy).Contents (Elt Ideal)) (start (W (Proc.devRef .tc main_arg1))) sliceFits_S16x256_S16x64
  after_results
  refine congrArg (fun s => Host.dynamicSlice S16x64 (W (Proc.devRef .tc main_v0_8) : (⟨S16x256, .f32⟩ : BufTy).Contents (Elt Ideal)) s sliceFits_S16x256_S16x64) (funext fun k => ?_)
  unfold start
  fin_cases k
  · simp only [Matrix.cons_val_zero', Matrix.cons_val_succ', Fin.zero_eta, Fin.mk_one, Matrix.cons_val_zero, Matrix.cons_val_one, Matrix.head_cons]
    after_results_simp
    rfl
  · simp only [Matrix.cons_val_zero', Matrix.cons_val_succ', Fin.zero_eta, Fin.mk_one, Matrix.cons_val_zero, Matrix.cons_val_one, Matrix.head_cons]
    after_results_simp
    rfl

theorem left : Pipeline.afterTail₀ cfgs (dats m) 0 (V0 m) [hostOps1] c main_v5 = columns (whole m c) (number m c) := by
  unfold Pipeline.afterTail₀
  refine (cut _).trans ?_
  have hw : Pipeline.withArrays (cfgs 0).spec c (V0 m c) (fun w => (dats m 0 c).arrAt w (cfgs 0).N) (Proc.devRef .tc main_v0_8) = whole m c :=
    (Pipeline.withArrays_arr spec0 launch0.win.arr_inj c (V0 m c) (fun w => (dats m 0 c).arrAt w cfg0.N) 9).trans (summed m c)
  have hn : Pipeline.withArrays (cfgs 0).spec c (V0 m c) (fun w => (dats m 0 c).arrAt w (cfgs 0).N) (Proc.devRef .tc main_arg1) = number m c :=
    (Pipeline.withArrays_of_ne spec0 c (V0 m c) _ main_arg1 (by exact (by decide : ∀ w, Pipeline.arrRef spec0 w ≠ main_arg1))).trans (V_main_arg1 m c)
  exact congr (congrArg columns hw) hn

/-! ## The claims -/

theorem frame_reference : Cert.quiescent_Reference9Ideal := fun m ρ _ =>
  (θ_run Cert.Reference9Ideal.defs _ _).mono
    (fun r h => ⟨fun c => (h c).2, Idealize.ShloMosaic.sem_eq_zero_of_no_sems (by decide) r.2⟩)
    (Cert.Reference9Ideal.Value.run (F := Ideal) m ρ)

/-- What the reference leaves, when its arguments are those of the call. -/
theorem same_columns (x : S8x144x128.Idx → EReal) (n : S_.Idx → BitVec 32) :
    (Cert.Reference9Ideal.Read.val_main_v7 (F := Ideal) x n : S16x64.Idx → EReal) = columns (Cert.Reference9Ideal.Read.val_main_v2 (F := Ideal) x) n := rfl

theorem algebraic : Cert.algebraic_Kernel9Ideal_Reference9Ideal := by
  intro m g m' g' hp hagree
  refine ⟨fun c => columns (whole m c) (number m c), ?_, ?_⟩
  · refine (θ_run Cert.Kernel9Ideal.defs _ _).mono (fun r h c => ?_) (run_main (F := Ideal) m g)
    exact ⟨((h c).2 main_v5 (Pipeline.mem_restRefs_of main_v5 (by decide) (by decide))).trans (left m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩
  · refine (θ_run Cert.Reference9Ideal.defs _ _).mono (fun r h c => ?_) (Cert.Reference9Ideal.Value.run (F := Ideal) m' g')
    have e : (m' ((c : Thread Cert.Reference9Ideal.nD Cert.Reference9Ideal.τ).loc Cert.Reference9Ideal.main_arg0) : S8x144x128.Idx → EReal) = packed m c := (hagree c).1
    have e' : (m' ((c : Thread Cert.Reference9Ideal.nD Cert.Reference9Ideal.τ).loc Cert.Reference9Ideal.main_arg1) : S_.Idx → BitVec 32) = number m c := (hagree c).2
    exact ⟨(h c).1.trans ((Cert.Reference9Ideal.Read.val_main_v7_eq (F := Ideal) _ _).trans
        ((congr (congrArg (Cert.Reference9Ideal.Read.val_main_v7 (F := Ideal)) e) e').trans (same_columns _ _))), (h c).2⟩

end Cert.GateCols

end
-- ==== Proof.lean ====
/- The proof of the claim: for each call the frames of the kernel, of its ideal and of the reference, the kernel's text kept,
   and the kernel's results equal to the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import proofs.«01_k».proof.Proof.RefFrame
public import proofs.«01_k».proof.Proof.Algebraic
public import proofs.«01_k».proof.Proof.FfTwoAlg
public import proofs.«01_k».proof.Proof.OutGradAlg
public import proofs.«01_k».proof.Proof.AdamFfAlg
public import proofs.«01_k».proof.Proof.AdamOutAlg
public import proofs.«01_k».proof.Proof.AdamInAlg
public import proofs.«01_k».proof.Proof.AdamAdaAlg
public import proofs.«01_k».proof.Proof.SumDev
public import proofs.«01_k».proof.Proof.GateCols
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Fin.preFacts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    fun m ρ _ => Cert.Kernel2.Gen.frame m ρ, fun m ρ _ => Cert.Kernel2Ideal.Gen.frame m ρ, Cert.FfTwo.frame_reference,
    fun m ρ _ => Cert.Kernel3.Gen.frame m ρ, fun m ρ _ => Cert.Kernel3Ideal.Gen.frame m ρ, Cert.OutGrad.frame_reference,
    fun m ρ _ => Cert.Kernel4.Gen.frame m ρ, fun m ρ _ => Cert.Kernel4Ideal.Gen.frame m ρ, Cert.AdamFf.frame_reference,
    fun m ρ _ => Cert.Kernel5.Gen.frame m ρ, fun m ρ _ => Cert.Kernel5Ideal.Gen.frame m ρ, Cert.AdamOut.frame_reference,
    fun m ρ _ => Cert.Kernel6.Gen.frame m ρ, fun m ρ _ => Cert.Kernel6Ideal.Gen.frame m ρ, Cert.AdamIn.frame_reference,
    fun m ρ _ => Cert.Kernel7.Gen.frame m ρ, fun m ρ _ => Cert.Kernel7Ideal.Gen.frame m ρ, Cert.AdamAda.frame_reference,
    fun m ρ _ => Cert.Kernel8.Gen.frame m ρ, fun m ρ _ => Cert.Kernel8Ideal.Gen.frame m ρ, Cert.SumDev.frame_reference,
    fun m ρ _ => Cert.Kernel9.Gen.frame m ρ, fun m ρ _ => Cert.Kernel9Ideal.Gen.frame m ρ, Cert.GateCols.frame_reference,
    trivial, algebraic_mlp,
    trivial, Cert.FfTwo.algebraic,
    trivial, Cert.OutGrad.algebraic,
    trivial, Cert.AdamFf.algebraic,
    trivial, Cert.AdamOut.algebraic,
    trivial, Cert.AdamIn.algebraic,
    trivial, Cert.AdamAda.algebraic,
    trivial, Cert.SumDev.algebraic,
    trivial, Cert.GateCols.algebraic⟩

end Cert.Proof

end
